-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_HiddenKernel (m : (ℓ : Loc Cert.HiddenKernel.nD Cert.HiddenKernel.τ Cert.HiddenKernel.sig) → Buf (Elt Bits) ℓ) : Prop :=
  True

def Pre_HiddenKernelIdeal (m : (ℓ : Loc Cert.HiddenKernelIdeal.nD Cert.HiddenKernelIdeal.τ Cert.HiddenKernelIdeal.sig) → Buf (Elt Ideal) ℓ) : Prop :=
  True

def Pre_HiddenReferenceIdeal (m : (ℓ : Loc Cert.HiddenReferenceIdeal.nD Cert.HiddenReferenceIdeal.τ Cert.HiddenReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActKernelIdeal_finite_factors [hPre_finite_factors : Cert.Pre_finite_factors.Facts] (m : (ℓ : Loc Cert.ActKernelIdeal.nD Cert.ActKernelIdeal.τ Cert.ActKernelIdeal.sig) → Buf (Elt Ideal) ℓ) : Prop :=
  ∀ c : Dev Cert.ActKernelIdeal.nD,
    (Cert.Pre_finite_factors.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3))).1 = (fun _ => 1#1)
    ∧ (Cert.Pre_finite_factors.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3))).2.1 = (fun _ => 1#1)
    ∧ (Cert.Pre_finite_factors.fn (F := Ideal) (m ((c.tc : Thread Cert.ActKernelIdeal.nD Cert.ActKernelIdeal.τ).loc Cert.ActKernelIdeal.main_arg0)) (m ((c.tc : Thread Cert.ActKernelIdeal.nD Cert.ActKernelIdeal.τ).loc Cert.ActKernelIdeal.main_arg1)) (m ((c.tc : Thread Cert.ActKernelIdeal.nD Cert.ActKernelIdeal.τ).loc Cert.ActKernelIdeal.main_arg2)) (m ((c.tc : Thread Cert.ActKernelIdeal.nD Cert.ActKernelIdeal.τ).loc Cert.ActKernelIdeal.main_arg3))).2.2 = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_finite_factors [hPre_finite_factors : Cert.Pre_finite_factors.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_finite_factors.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))).1 = (fun _ => 1#1)
    ∧ (Cert.Pre_finite_factors.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))).2.1 = (fun _ => 1#1)
    ∧ (Cert.Pre_finite_factors.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))).2.2 = (fun _ => 1#1)

def Pre_GateUpKernel (m : (ℓ : Loc Cert.GateUpKernel.nD Cert.GateUpKernel.τ Cert.GateUpKernel.sig) → Buf (Elt Bits) ℓ) : Prop :=
  True

def Pre_GateUpKernelIdeal (m : (ℓ : Loc Cert.GateUpKernelIdeal.nD Cert.GateUpKernelIdeal.τ Cert.GateUpKernelIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_DownFwdKernel (m : (ℓ : Loc Cert.DownFwdKernel.nD Cert.DownFwdKernel.τ Cert.DownFwdKernel.sig) → Buf (Elt Bits) ℓ) : Prop :=
  True

def Pre_DownFwdKernelIdeal (m : (ℓ : Loc Cert.DownFwdKernelIdeal.nD Cert.DownFwdKernelIdeal.τ Cert.DownFwdKernelIdeal.sig) → Buf (Elt Ideal) ℓ) : Prop :=
  True

def Pre_DownFwdReferenceIdeal (m : (ℓ : Loc Cert.DownFwdReferenceIdeal.nD Cert.DownFwdReferenceIdeal.τ Cert.DownFwdReferenceIdeal.sig) → Buf (Elt Ideal) ℓ) : Prop :=
  True

def Pre_SguInKernel (m : (ℓ : Loc Cert.SguInKernel.nD Cert.SguInKernel.τ Cert.SguInKernel.sig) → Buf (Elt Bits) ℓ) : Prop :=
  True

def Pre_SguInKernelIdeal (m : (ℓ : Loc Cert.SguInKernelIdeal.nD Cert.SguInKernelIdeal.τ Cert.SguInKernelIdeal.sig) → Buf (Elt Ideal) ℓ) : Prop :=
  True

def Pre_SguInReferenceIdeal (m : (ℓ : Loc Cert.SguInReferenceIdeal.nD Cert.SguInReferenceIdeal.τ Cert.SguInReferenceIdeal.sig) → Buf (Elt Ideal) ℓ) : Prop :=
  True

def Pre_AttnInKernel (m : (ℓ : Loc Cert.AttnInKernel.nD Cert.AttnInKernel.τ Cert.AttnInKernel.sig) → Buf (Elt Bits) ℓ) : Prop :=
  True

def Pre_AttnInKernelIdeal (m : (ℓ : Loc Cert.AttnInKernelIdeal.nD Cert.AttnInKernelIdeal.τ Cert.AttnInKernelIdeal.sig) → Buf (Elt Ideal) ℓ) : Prop :=
  True

def Pre_AttnInReferenceIdeal (m : (ℓ : Loc Cert.AttnInReferenceIdeal.nD Cert.AttnInReferenceIdeal.τ Cert.AttnInReferenceIdeal.sig) → Buf (Elt Ideal) ℓ) : Prop :=
  True

def Pre_SguInWKernel (m : (ℓ : Loc Cert.SguInWKernel.nD Cert.SguInWKernel.τ Cert.SguInWKernel.sig) → Buf (Elt Bits) ℓ) : Prop :=
  True

def Pre_SguInWKernelIdeal (m : (ℓ : Loc Cert.SguInWKernelIdeal.nD Cert.SguInWKernelIdeal.τ Cert.SguInWKernelIdeal.sig) → Buf (Elt Ideal) ℓ) : Prop :=
  True

def Pre_SguInWReferenceIdeal (m : (ℓ : Loc Cert.SguInWReferenceIdeal.nD Cert.SguInWReferenceIdeal.τ Cert.SguInWReferenceIdeal.sig) → Buf (Elt Ideal) ℓ) : Prop :=
  True

def Pre_AttnInWKernel (m : (ℓ : Loc Cert.AttnInWKernel.nD Cert.AttnInWKernel.τ Cert.AttnInWKernel.sig) → Buf (Elt Bits) ℓ) : Prop :=
  True

def Pre_AttnInWKernelIdeal (m : (ℓ : Loc Cert.AttnInWKernelIdeal.nD Cert.AttnInWKernelIdeal.τ Cert.AttnInWKernelIdeal.sig) → Buf (Elt Ideal) ℓ) : Prop :=
  True

def Pre_AttnInWReferenceIdeal (m : (ℓ : Loc Cert.AttnInWReferenceIdeal.nD Cert.AttnInWReferenceIdeal.τ Cert.AttnInWReferenceIdeal.sig) → Buf (Elt Ideal) ℓ) : Prop :=
  True

def Pre_SguInHKernel (m : (ℓ : Loc Cert.SguInHKernel.nD Cert.SguInHKernel.τ Cert.SguInHKernel.sig) → Buf (Elt Bits) ℓ) : Prop :=
  True

def Pre_SguInHKernelIdeal (m : (ℓ : Loc Cert.SguInHKernelIdeal.nD Cert.SguInHKernelIdeal.τ Cert.SguInHKernelIdeal.sig) → Buf (Elt Ideal) ℓ) : Prop :=
  True

def Pre_SguInHReferenceIdeal (m : (ℓ : Loc Cert.SguInHReferenceIdeal.nD Cert.SguInHReferenceIdeal.τ Cert.SguInHReferenceIdeal.sig) → Buf (Elt Ideal) ℓ) : Prop :=
  True

def Pre_AttnInHKernel (m : (ℓ : Loc Cert.AttnInHKernel.nD Cert.AttnInHKernel.τ Cert.AttnInHKernel.sig) → Buf (Elt Bits) ℓ) : Prop :=
  True

def Pre_AttnInHKernelIdeal (m : (ℓ : Loc Cert.AttnInHKernelIdeal.nD Cert.AttnInHKernelIdeal.τ Cert.AttnInHKernelIdeal.sig) → Buf (Elt Ideal) ℓ) : Prop :=
  True

def Pre_AttnInHReferenceIdeal (m : (ℓ : Loc Cert.AttnInHReferenceIdeal.nD Cert.AttnInHReferenceIdeal.τ Cert.AttnInHReferenceIdeal.sig) → Buf (Elt Ideal) ℓ) : Prop :=
  True

def Pre_SguCatKernel (m : (ℓ : Loc Cert.SguCatKernel.nD Cert.SguCatKernel.τ Cert.SguCatKernel.sig) → Buf (Elt Bits) ℓ) : Prop :=
  True

def Pre_SguCatKernelIdeal (m : (ℓ : Loc Cert.SguCatKernelIdeal.nD Cert.SguCatKernelIdeal.τ Cert.SguCatKernelIdeal.sig) → Buf (Elt Ideal) ℓ) : Prop :=
  True

def Pre_SguCatReferenceIdeal (m : (ℓ : Loc Cert.SguCatReferenceIdeal.nD Cert.SguCatReferenceIdeal.τ Cert.SguCatReferenceIdeal.sig) → Buf (Elt Ideal) ℓ) : Prop :=
  True

def Pre_AttnCatKernel (m : (ℓ : Loc Cert.AttnCatKernel.nD Cert.AttnCatKernel.τ Cert.AttnCatKernel.sig) → Buf (Elt Bits) ℓ) : Prop :=
  True

def Pre_AttnCatKernelIdeal (m : (ℓ : Loc Cert.AttnCatKernelIdeal.nD Cert.AttnCatKernelIdeal.τ Cert.AttnCatKernelIdeal.sig) → Buf (Elt Ideal) ℓ) : Prop :=
  True

def Pre_AttnCatReferenceIdeal (m : (ℓ : Loc Cert.AttnCatReferenceIdeal.nD Cert.AttnCatReferenceIdeal.τ Cert.AttnCatReferenceIdeal.sig) → Buf (Elt Ideal) ℓ) : Prop :=
  True

def Pre_SguOutWKernel (m : (ℓ : Loc Cert.SguOutWKernel.nD Cert.SguOutWKernel.τ Cert.SguOutWKernel.sig) → Buf (Elt Bits) ℓ) : Prop :=
  True

def Pre_SguOutWKernelIdeal (m : (ℓ : Loc Cert.SguOutWKernelIdeal.nD Cert.SguOutWKernelIdeal.τ Cert.SguOutWKernelIdeal.sig) → Buf (Elt Ideal) ℓ) : Prop :=
  True

def Pre_SguOutWReferenceIdeal (m : (ℓ : Loc Cert.SguOutWReferenceIdeal.nD Cert.SguOutWReferenceIdeal.τ Cert.SguOutWReferenceIdeal.sig) → Buf (Elt Ideal) ℓ) : Prop :=
  True

def Pre_AttnOutWKernel (m : (ℓ : Loc Cert.AttnOutWKernel.nD Cert.AttnOutWKernel.τ Cert.AttnOutWKernel.sig) → Buf (Elt Bits) ℓ) : Prop :=
  True

def Pre_AttnOutWKernelIdeal (m : (ℓ : Loc Cert.AttnOutWKernelIdeal.nD Cert.AttnOutWKernelIdeal.τ Cert.AttnOutWKernelIdeal.sig) → Buf (Elt Ideal) ℓ) : Prop :=
  True

def Pre_AttnOutWReferenceIdeal (m : (ℓ : Loc Cert.AttnOutWReferenceIdeal.nD Cert.AttnOutWReferenceIdeal.τ Cert.AttnOutWReferenceIdeal.sig) → Buf (Elt Ideal) ℓ) : Prop :=
  True

def Pre_SguOutKernel (m : (ℓ : Loc Cert.SguOutKernel.nD Cert.SguOutKernel.τ Cert.SguOutKernel.sig) → Buf (Elt Bits) ℓ) : Prop :=
  True

def Pre_SguOutKernelIdeal (m : (ℓ : Loc Cert.SguOutKernelIdeal.nD Cert.SguOutKernelIdeal.τ Cert.SguOutKernelIdeal.sig) → Buf (Elt Ideal) ℓ) : Prop :=
  True

def Pre_SguOutReferenceIdeal (m : (ℓ : Loc Cert.SguOutReferenceIdeal.nD Cert.SguOutReferenceIdeal.τ Cert.SguOutReferenceIdeal.sig) → Buf (Elt Ideal) ℓ) : Prop :=
  True

def Pre_AttnOutKernel (m : (ℓ : Loc Cert.AttnOutKernel.nD Cert.AttnOutKernel.τ Cert.AttnOutKernel.sig) → Buf (Elt Bits) ℓ) : Prop :=
  True

def Pre_AttnOutKernelIdeal (m : (ℓ : Loc Cert.AttnOutKernelIdeal.nD Cert.AttnOutKernelIdeal.τ Cert.AttnOutKernelIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_SguFwdKernel (m : (ℓ : Loc Cert.SguFwdKernel.nD Cert.SguFwdKernel.τ Cert.SguFwdKernel.sig) → Buf (Elt Bits) ℓ) : Prop :=
  True

def Pre_SguFwdKernelIdeal (m : (ℓ : Loc Cert.SguFwdKernelIdeal.nD Cert.SguFwdKernelIdeal.τ Cert.SguFwdKernelIdeal.sig) → Buf (Elt Ideal) ℓ) : Prop :=
  True

def Pre_SguFwdReferenceIdeal (m : (ℓ : Loc Cert.SguFwdReferenceIdeal.nD Cert.SguFwdReferenceIdeal.τ Cert.SguFwdReferenceIdeal.sig) → Buf (Elt Ideal) ℓ) : Prop :=
  True

def Pre_SguBwdKernel (m : (ℓ : Loc Cert.SguBwdKernel.nD Cert.SguBwdKernel.τ Cert.SguBwdKernel.sig) → Buf (Elt Bits) ℓ) : Prop :=
  True

def Pre_SguBwdKernelIdeal (m : (ℓ : Loc Cert.SguBwdKernelIdeal.nD Cert.SguBwdKernelIdeal.τ Cert.SguBwdKernelIdeal.sig) → Buf (Elt Ideal) ℓ) : Prop :=
  True

def Pre_SguBwdKernelIdeal_finite_gating [hPre_finite_gating : Cert.Pre_finite_gating.Facts] (m : (ℓ : Loc Cert.SguBwdKernelIdeal.nD Cert.SguBwdKernelIdeal.τ Cert.SguBwdKernelIdeal.sig) → Buf (Elt Ideal) ℓ) : Prop :=
  ∀ c : Dev Cert.SguBwdKernelIdeal.nD,
    (Cert.Pre_finite_gating.fn (F := Ideal) (m ((c.tc : Thread Cert.SguBwdKernelIdeal.nD Cert.SguBwdKernelIdeal.τ).loc Cert.SguBwdKernelIdeal.main_arg0)) (m ((c.tc : Thread Cert.SguBwdKernelIdeal.nD Cert.SguBwdKernelIdeal.τ).loc Cert.SguBwdKernelIdeal.main_arg1)) (m ((c.tc : Thread Cert.SguBwdKernelIdeal.nD Cert.SguBwdKernelIdeal.τ).loc Cert.SguBwdKernelIdeal.main_arg2)) (m ((c.tc : Thread Cert.SguBwdKernelIdeal.nD Cert.SguBwdKernelIdeal.τ).loc Cert.SguBwdKernelIdeal.main_arg3)) (m ((c.tc : Thread Cert.SguBwdKernelIdeal.nD Cert.SguBwdKernelIdeal.τ).loc Cert.SguBwdKernelIdeal.main_arg4)) (m ((c.tc : Thread Cert.SguBwdKernelIdeal.nD Cert.SguBwdKernelIdeal.τ).loc Cert.SguBwdKernelIdeal.main_arg5)) (m ((c.tc : Thread Cert.SguBwdKernelIdeal.nD Cert.SguBwdKernelIdeal.τ).loc Cert.SguBwdKernelIdeal.main_arg6))).1 = (fun _ => 1#1)
    ∧ (Cert.Pre_finite_gating.fn (F := Ideal) (m ((c.tc : Thread Cert.SguBwdKernelIdeal.nD Cert.SguBwdKernelIdeal.τ).loc Cert.SguBwdKernelIdeal.main_arg0)) (m ((c.tc : Thread Cert.SguBwdKernelIdeal.nD Cert.SguBwdKernelIdeal.τ).loc Cert.SguBwdKernelIdeal.main_arg1)) (m ((c.tc : Thread Cert.SguBwdKernelIdeal.nD Cert.SguBwdKernelIdeal.τ).loc Cert.SguBwdKernelIdeal.main_arg2)) (m ((c.tc : Thread Cert.SguBwdKernelIdeal.nD Cert.SguBwdKernelIdeal.τ).loc Cert.SguBwdKernelIdeal.main_arg3)) (m ((c.tc : Thread Cert.SguBwdKernelIdeal.nD Cert.SguBwdKernelIdeal.τ).loc Cert.SguBwdKernelIdeal.main_arg4)) (m ((c.tc : Thread Cert.SguBwdKernelIdeal.nD Cert.SguBwdKernelIdeal.τ).loc Cert.SguBwdKernelIdeal.main_arg5)) (m ((c.tc : Thread Cert.SguBwdKernelIdeal.nD Cert.SguBwdKernelIdeal.τ).loc Cert.SguBwdKernelIdeal.main_arg6))).2.1 = (fun _ => 1#1)
    ∧ (Cert.Pre_finite_gating.fn (F := Ideal) (m ((c.tc : Thread Cert.SguBwdKernelIdeal.nD Cert.SguBwdKernelIdeal.τ).loc Cert.SguBwdKernelIdeal.main_arg0)) (m ((c.tc : Thread Cert.SguBwdKernelIdeal.nD Cert.SguBwdKernelIdeal.τ).loc Cert.SguBwdKernelIdeal.main_arg1)) (m ((c.tc : Thread Cert.SguBwdKernelIdeal.nD Cert.SguBwdKernelIdeal.τ).loc Cert.SguBwdKernelIdeal.main_arg2)) (m ((c.tc : Thread Cert.SguBwdKernelIdeal.nD Cert.SguBwdKernelIdeal.τ).loc Cert.SguBwdKernelIdeal.main_arg3)) (m ((c.tc : Thread Cert.SguBwdKernelIdeal.nD Cert.SguBwdKernelIdeal.τ).loc Cert.SguBwdKernelIdeal.main_arg4)) (m ((c.tc : Thread Cert.SguBwdKernelIdeal.nD Cert.SguBwdKernelIdeal.τ).loc Cert.SguBwdKernelIdeal.main_arg5)) (m ((c.tc : Thread Cert.SguBwdKernelIdeal.nD Cert.SguBwdKernelIdeal.τ).loc Cert.SguBwdKernelIdeal.main_arg6))).2.2.1 = (fun _ => 1#1)
    ∧ (Cert.Pre_finite_gating.fn (F := Ideal) (m ((c.tc : Thread Cert.SguBwdKernelIdeal.nD Cert.SguBwdKernelIdeal.τ).loc Cert.SguBwdKernelIdeal.main_arg0)) (m ((c.tc : Thread Cert.SguBwdKernelIdeal.nD Cert.SguBwdKernelIdeal.τ).loc Cert.SguBwdKernelIdeal.main_arg1)) (m ((c.tc : Thread Cert.SguBwdKernelIdeal.nD Cert.SguBwdKernelIdeal.τ).loc Cert.SguBwdKernelIdeal.main_arg2)) (m ((c.tc : Thread Cert.SguBwdKernelIdeal.nD Cert.SguBwdKernelIdeal.τ).loc Cert.SguBwdKernelIdeal.main_arg3)) (m ((c.tc : Thread Cert.SguBwdKernelIdeal.nD Cert.SguBwdKernelIdeal.τ).loc Cert.SguBwdKernelIdeal.main_arg4)) (m ((c.tc : Thread Cert.SguBwdKernelIdeal.nD Cert.SguBwdKernelIdeal.τ).loc Cert.SguBwdKernelIdeal.main_arg5)) (m ((c.tc : Thread Cert.SguBwdKernelIdeal.nD Cert.SguBwdKernelIdeal.τ).loc Cert.SguBwdKernelIdeal.main_arg6))).2.2.2.1 = (fun _ => 1#1)
    ∧ (Cert.Pre_finite_gating.fn (F := Ideal) (m ((c.tc : Thread Cert.SguBwdKernelIdeal.nD Cert.SguBwdKernelIdeal.τ).loc Cert.SguBwdKernelIdeal.main_arg0)) (m ((c.tc : Thread Cert.SguBwdKernelIdeal.nD Cert.SguBwdKernelIdeal.τ).loc Cert.SguBwdKernelIdeal.main_arg1)) (m ((c.tc : Thread Cert.SguBwdKernelIdeal.nD Cert.SguBwdKernelIdeal.τ).loc Cert.SguBwdKernelIdeal.main_arg2)) (m ((c.tc : Thread Cert.SguBwdKernelIdeal.nD Cert.SguBwdKernelIdeal.τ).loc Cert.SguBwdKernelIdeal.main_arg3)) (m ((c.tc : Thread Cert.SguBwdKernelIdeal.nD Cert.SguBwdKernelIdeal.τ).loc Cert.SguBwdKernelIdeal.main_arg4)) (m ((c.tc : Thread Cert.SguBwdKernelIdeal.nD Cert.SguBwdKernelIdeal.τ).loc Cert.SguBwdKernelIdeal.main_arg5)) (m ((c.tc : Thread Cert.SguBwdKernelIdeal.nD Cert.SguBwdKernelIdeal.τ).loc Cert.SguBwdKernelIdeal.main_arg6))).2.2.2.2.1 = (fun _ => 1#1)
    ∧ (Cert.Pre_finite_gating.fn (F := Ideal) (m ((c.tc : Thread Cert.SguBwdKernelIdeal.nD Cert.SguBwdKernelIdeal.τ).loc Cert.SguBwdKernelIdeal.main_arg0)) (m ((c.tc : Thread Cert.SguBwdKernelIdeal.nD Cert.SguBwdKernelIdeal.τ).loc Cert.SguBwdKernelIdeal.main_arg1)) (m ((c.tc : Thread Cert.SguBwdKernelIdeal.nD Cert.SguBwdKernelIdeal.τ).loc Cert.SguBwdKernelIdeal.main_arg2)) (m ((c.tc : Thread Cert.SguBwdKernelIdeal.nD Cert.SguBwdKernelIdeal.τ).loc Cert.SguBwdKernelIdeal.main_arg3)) (m ((c.tc : Thread Cert.SguBwdKernelIdeal.nD Cert.SguBwdKernelIdeal.τ).loc Cert.SguBwdKernelIdeal.main_arg4)) (m ((c.tc : Thread Cert.SguBwdKernelIdeal.nD Cert.SguBwdKernelIdeal.τ).loc Cert.SguBwdKernelIdeal.main_arg5)) (m ((c.tc : Thread Cert.SguBwdKernelIdeal.nD Cert.SguBwdKernelIdeal.τ).loc Cert.SguBwdKernelIdeal.main_arg6))).2.2.2.2.2 = (fun _ => 1#1)

def Pre_SguBwdReferenceIdeal (m : (ℓ : Loc Cert.SguBwdReferenceIdeal.nD Cert.SguBwdReferenceIdeal.τ Cert.SguBwdReferenceIdeal.sig) → Buf (Elt Ideal) ℓ) : Prop :=
  True

def Pre_SguBwdReferenceIdeal_finite_gating [hPre_finite_gating : Cert.Pre_finite_gating.Facts] (m : (ℓ : Loc Cert.SguBwdReferenceIdeal.nD Cert.SguBwdReferenceIdeal.τ Cert.SguBwdReferenceIdeal.sig) → Buf (Elt Ideal) ℓ) : Prop :=
  ∀ c : Dev Cert.SguBwdReferenceIdeal.nD,
    (Cert.Pre_finite_gating.fn (F := Ideal) (m ((c.tc : Thread Cert.SguBwdReferenceIdeal.nD Cert.SguBwdReferenceIdeal.τ).loc Cert.SguBwdReferenceIdeal.main_arg0)) (m ((c.tc : Thread Cert.SguBwdReferenceIdeal.nD Cert.SguBwdReferenceIdeal.τ).loc Cert.SguBwdReferenceIdeal.main_arg1)) (m ((c.tc : Thread Cert.SguBwdReferenceIdeal.nD Cert.SguBwdReferenceIdeal.τ).loc Cert.SguBwdReferenceIdeal.main_arg2)) (m ((c.tc : Thread Cert.SguBwdReferenceIdeal.nD Cert.SguBwdReferenceIdeal.τ).loc Cert.SguBwdReferenceIdeal.main_arg3)) (m ((c.tc : Thread Cert.SguBwdReferenceIdeal.nD Cert.SguBwdReferenceIdeal.τ).loc Cert.SguBwdReferenceIdeal.main_arg4)) (m ((c.tc : Thread Cert.SguBwdReferenceIdeal.nD Cert.SguBwdReferenceIdeal.τ).loc Cert.SguBwdReferenceIdeal.main_arg5)) (m ((c.tc : Thread Cert.SguBwdReferenceIdeal.nD Cert.SguBwdReferenceIdeal.τ).loc Cert.SguBwdReferenceIdeal.main_arg6))).1 = (fun _ => 1#1)
    ∧ (Cert.Pre_finite_gating.fn (F := Ideal) (m ((c.tc : Thread Cert.SguBwdReferenceIdeal.nD Cert.SguBwdReferenceIdeal.τ).loc Cert.SguBwdReferenceIdeal.main_arg0)) (m ((c.tc : Thread Cert.SguBwdReferenceIdeal.nD Cert.SguBwdReferenceIdeal.τ).loc Cert.SguBwdReferenceIdeal.main_arg1)) (m ((c.tc : Thread Cert.SguBwdReferenceIdeal.nD Cert.SguBwdReferenceIdeal.τ).loc Cert.SguBwdReferenceIdeal.main_arg2)) (m ((c.tc : Thread Cert.SguBwdReferenceIdeal.nD Cert.SguBwdReferenceIdeal.τ).loc Cert.SguBwdReferenceIdeal.main_arg3)) (m ((c.tc : Thread Cert.SguBwdReferenceIdeal.nD Cert.SguBwdReferenceIdeal.τ).loc Cert.SguBwdReferenceIdeal.main_arg4)) (m ((c.tc : Thread Cert.SguBwdReferenceIdeal.nD Cert.SguBwdReferenceIdeal.τ).loc Cert.SguBwdReferenceIdeal.main_arg5)) (m ((c.tc : Thread Cert.SguBwdReferenceIdeal.nD Cert.SguBwdReferenceIdeal.τ).loc Cert.SguBwdReferenceIdeal.main_arg6))).2.1 = (fun _ => 1#1)
    ∧ (Cert.Pre_finite_gating.fn (F := Ideal) (m ((c.tc : Thread Cert.SguBwdReferenceIdeal.nD Cert.SguBwdReferenceIdeal.τ).loc Cert.SguBwdReferenceIdeal.main_arg0)) (m ((c.tc : Thread Cert.SguBwdReferenceIdeal.nD Cert.SguBwdReferenceIdeal.τ).loc Cert.SguBwdReferenceIdeal.main_arg1)) (m ((c.tc : Thread Cert.SguBwdReferenceIdeal.nD Cert.SguBwdReferenceIdeal.τ).loc Cert.SguBwdReferenceIdeal.main_arg2)) (m ((c.tc : Thread Cert.SguBwdReferenceIdeal.nD Cert.SguBwdReferenceIdeal.τ).loc Cert.SguBwdReferenceIdeal.main_arg3)) (m ((c.tc : Thread Cert.SguBwdReferenceIdeal.nD Cert.SguBwdReferenceIdeal.τ).loc Cert.SguBwdReferenceIdeal.main_arg4)) (m ((c.tc : Thread Cert.SguBwdReferenceIdeal.nD Cert.SguBwdReferenceIdeal.τ).loc Cert.SguBwdReferenceIdeal.main_arg5)) (m ((c.tc : Thread Cert.SguBwdReferenceIdeal.nD Cert.SguBwdReferenceIdeal.τ).loc Cert.SguBwdReferenceIdeal.main_arg6))).2.2.1 = (fun _ => 1#1)
    ∧ (Cert.Pre_finite_gating.fn (F := Ideal) (m ((c.tc : Thread Cert.SguBwdReferenceIdeal.nD Cert.SguBwdReferenceIdeal.τ).loc Cert.SguBwdReferenceIdeal.main_arg0)) (m ((c.tc : Thread Cert.SguBwdReferenceIdeal.nD Cert.SguBwdReferenceIdeal.τ).loc Cert.SguBwdReferenceIdeal.main_arg1)) (m ((c.tc : Thread Cert.SguBwdReferenceIdeal.nD Cert.SguBwdReferenceIdeal.τ).loc Cert.SguBwdReferenceIdeal.main_arg2)) (m ((c.tc : Thread Cert.SguBwdReferenceIdeal.nD Cert.SguBwdReferenceIdeal.τ).loc Cert.SguBwdReferenceIdeal.main_arg3)) (m ((c.tc : Thread Cert.SguBwdReferenceIdeal.nD Cert.SguBwdReferenceIdeal.τ).loc Cert.SguBwdReferenceIdeal.main_arg4)) (m ((c.tc : Thread Cert.SguBwdReferenceIdeal.nD Cert.SguBwdReferenceIdeal.τ).loc Cert.SguBwdReferenceIdeal.main_arg5)) (m ((c.tc : Thread Cert.SguBwdReferenceIdeal.nD Cert.SguBwdReferenceIdeal.τ).loc Cert.SguBwdReferenceIdeal.main_arg6))).2.2.2.1 = (fun _ => 1#1)
    ∧ (Cert.Pre_finite_gating.fn (F := Ideal) (m ((c.tc : Thread Cert.SguBwdReferenceIdeal.nD Cert.SguBwdReferenceIdeal.τ).loc Cert.SguBwdReferenceIdeal.main_arg0)) (m ((c.tc : Thread Cert.SguBwdReferenceIdeal.nD Cert.SguBwdReferenceIdeal.τ).loc Cert.SguBwdReferenceIdeal.main_arg1)) (m ((c.tc : Thread Cert.SguBwdReferenceIdeal.nD Cert.SguBwdReferenceIdeal.τ).loc Cert.SguBwdReferenceIdeal.main_arg2)) (m ((c.tc : Thread Cert.SguBwdReferenceIdeal.nD Cert.SguBwdReferenceIdeal.τ).loc Cert.SguBwdReferenceIdeal.main_arg3)) (m ((c.tc : Thread Cert.SguBwdReferenceIdeal.nD Cert.SguBwdReferenceIdeal.τ).loc Cert.SguBwdReferenceIdeal.main_arg4)) (m ((c.tc : Thread Cert.SguBwdReferenceIdeal.nD Cert.SguBwdReferenceIdeal.τ).loc Cert.SguBwdReferenceIdeal.main_arg5)) (m ((c.tc : Thread Cert.SguBwdReferenceIdeal.nD Cert.SguBwdReferenceIdeal.τ).loc Cert.SguBwdReferenceIdeal.main_arg6))).2.2.2.2.1 = (fun _ => 1#1)
    ∧ (Cert.Pre_finite_gating.fn (F := Ideal) (m ((c.tc : Thread Cert.SguBwdReferenceIdeal.nD Cert.SguBwdReferenceIdeal.τ).loc Cert.SguBwdReferenceIdeal.main_arg0)) (m ((c.tc : Thread Cert.SguBwdReferenceIdeal.nD Cert.SguBwdReferenceIdeal.τ).loc Cert.SguBwdReferenceIdeal.main_arg1)) (m ((c.tc : Thread Cert.SguBwdReferenceIdeal.nD Cert.SguBwdReferenceIdeal.τ).loc Cert.SguBwdReferenceIdeal.main_arg2)) (m ((c.tc : Thread Cert.SguBwdReferenceIdeal.nD Cert.SguBwdReferenceIdeal.τ).loc Cert.SguBwdReferenceIdeal.main_arg3)) (m ((c.tc : Thread Cert.SguBwdReferenceIdeal.nD Cert.SguBwdReferenceIdeal.τ).loc Cert.SguBwdReferenceIdeal.main_arg4)) (m ((c.tc : Thread Cert.SguBwdReferenceIdeal.nD Cert.SguBwdReferenceIdeal.τ).loc Cert.SguBwdReferenceIdeal.main_arg5)) (m ((c.tc : Thread Cert.SguBwdReferenceIdeal.nD Cert.SguBwdReferenceIdeal.τ).loc Cert.SguBwdReferenceIdeal.main_arg6))).2.2.2.2.2 = (fun _ => 1#1)

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_MemNormKernel (m : (ℓ : Loc Cert.MemNormKernel.nD Cert.MemNormKernel.τ Cert.MemNormKernel.sig) → Buf (Elt Bits) ℓ) : Prop :=
  True

def Pre_MemNormKernelIdeal (m : (ℓ : Loc Cert.MemNormKernelIdeal.nD Cert.MemNormKernelIdeal.τ Cert.MemNormKernelIdeal.sig) → Buf (Elt Ideal) ℓ) : Prop :=
  True

def Pre_MemNormReferenceIdeal (m : (ℓ : Loc Cert.MemNormReferenceIdeal.nD Cert.MemNormReferenceIdeal.τ Cert.MemNormReferenceIdeal.sig) → Buf (Elt Ideal) ℓ) : Prop :=
  True

def Pre_MemKvWKernel (m : (ℓ : Loc Cert.MemKvWKernel.nD Cert.MemKvWKernel.τ Cert.MemKvWKernel.sig) → Buf (Elt Bits) ℓ) : Prop :=
  True

def Pre_MemKvWKernelIdeal (m : (ℓ : Loc Cert.MemKvWKernelIdeal.nD Cert.MemKvWKernelIdeal.τ Cert.MemKvWKernelIdeal.sig) → Buf (Elt Ideal) ℓ) : Prop :=
  True

def Pre_MemKvWReferenceIdeal (m : (ℓ : Loc Cert.MemKvWReferenceIdeal.nD Cert.MemKvWReferenceIdeal.τ Cert.MemKvWReferenceIdeal.sig) → Buf (Elt Ideal) ℓ) : Prop :=
  True

def Pre_MemNKernel (m : (ℓ : Loc Cert.MemNKernel.nD Cert.MemNKernel.τ Cert.MemNKernel.sig) → Buf (Elt Bits) ℓ) : Prop :=
  True

def Pre_MemNKernelIdeal (m : (ℓ : Loc Cert.MemNKernelIdeal.nD Cert.MemNKernelIdeal.τ Cert.MemNKernelIdeal.sig) → Buf (Elt Ideal) ℓ) : Prop :=
  True

def Pre_MemNReferenceIdeal (m : (ℓ : Loc Cert.MemNReferenceIdeal.nD Cert.MemNReferenceIdeal.τ Cert.MemNReferenceIdeal.sig) → Buf (Elt Ideal) ℓ) : Prop :=
  True

def Pre_MemKvKernel (m : (ℓ : Loc Cert.MemKvKernel.nD Cert.MemKvKernel.τ Cert.MemKvKernel.sig) → Buf (Elt Bits) ℓ) : Prop :=
  True

def Pre_MemKvKernelIdeal (m : (ℓ : Loc Cert.MemKvKernelIdeal.nD Cert.MemKvKernelIdeal.τ Cert.MemKvKernelIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_FirstNormKernel (m : (ℓ : Loc Cert.FirstNormKernel.nD Cert.FirstNormKernel.τ Cert.FirstNormKernel.sig) → Buf (Elt Bits) ℓ) : Prop :=
  True

def Pre_FirstNormKernelIdeal (m : (ℓ : Loc Cert.FirstNormKernelIdeal.nD Cert.FirstNormKernelIdeal.τ Cert.FirstNormKernelIdeal.sig) → Buf (Elt Ideal) ℓ) : Prop :=
  True

def Pre_FirstNormReferenceIdeal (m : (ℓ : Loc Cert.FirstNormReferenceIdeal.nD Cert.FirstNormReferenceIdeal.τ Cert.FirstNormReferenceIdeal.sig) → Buf (Elt Ideal) ℓ) : Prop :=
  True

def Pre_MemFirstNormKernel (m : (ℓ : Loc Cert.MemFirstNormKernel.nD Cert.MemFirstNormKernel.τ Cert.MemFirstNormKernel.sig) → Buf (Elt Bits) ℓ) : Prop :=
  True

def Pre_MemFirstNormKernelIdeal (m : (ℓ : Loc Cert.MemFirstNormKernelIdeal.nD Cert.MemFirstNormKernelIdeal.τ Cert.MemFirstNormKernelIdeal.sig) → Buf (Elt Ideal) ℓ) : Prop :=
  True

def Pre_MemFirstNormReferenceIdeal (m : (ℓ : Loc Cert.MemFirstNormReferenceIdeal.nD Cert.MemFirstNormReferenceIdeal.τ Cert.MemFirstNormReferenceIdeal.sig) → Buf (Elt Ideal) ℓ) : Prop :=
  True

def Pre_Mem0Kernel (m : (ℓ : Loc Cert.Mem0Kernel.nD Cert.Mem0Kernel.τ Cert.Mem0Kernel.sig) → Buf (Elt Bits) ℓ) : Prop :=
  True

def Pre_Mem0KernelIdeal (m : (ℓ : Loc Cert.Mem0KernelIdeal.nD Cert.Mem0KernelIdeal.τ Cert.Mem0KernelIdeal.sig) → Buf (Elt Ideal) ℓ) : Prop :=
  True

def Pre_Mem0KernelIdeal_finite_logits0 [hPre_finite_logits0 : Cert.Pre_finite_logits0.Facts] (m : (ℓ : Loc Cert.Mem0KernelIdeal.nD Cert.Mem0KernelIdeal.τ Cert.Mem0KernelIdeal.sig) → Buf (Elt Ideal) ℓ) : Prop :=
  ∀ c : Dev Cert.Mem0KernelIdeal.nD,
    (Cert.Pre_finite_logits0.fn (F := Ideal) (m ((c.tc : Thread Cert.Mem0KernelIdeal.nD Cert.Mem0KernelIdeal.τ).loc Cert.Mem0KernelIdeal.main_arg0)) (m ((c.tc : Thread Cert.Mem0KernelIdeal.nD Cert.Mem0KernelIdeal.τ).loc Cert.Mem0KernelIdeal.main_arg1)) (m ((c.tc : Thread Cert.Mem0KernelIdeal.nD Cert.Mem0KernelIdeal.τ).loc Cert.Mem0KernelIdeal.main_arg2))).1 = (fun _ => 1#1)
    ∧ (Cert.Pre_finite_logits0.fn (F := Ideal) (m ((c.tc : Thread Cert.Mem0KernelIdeal.nD Cert.Mem0KernelIdeal.τ).loc Cert.Mem0KernelIdeal.main_arg0)) (m ((c.tc : Thread Cert.Mem0KernelIdeal.nD Cert.Mem0KernelIdeal.τ).loc Cert.Mem0KernelIdeal.main_arg1)) (m ((c.tc : Thread Cert.Mem0KernelIdeal.nD Cert.Mem0KernelIdeal.τ).loc Cert.Mem0KernelIdeal.main_arg2))).2 = (fun _ => 1#1)

def Pre_Mem0ReferenceIdeal (m : (ℓ : Loc Cert.Mem0ReferenceIdeal.nD Cert.Mem0ReferenceIdeal.τ Cert.Mem0ReferenceIdeal.sig) → Buf (Elt Ideal) ℓ) : Prop :=
  True

def Pre_Mem0ReferenceIdeal_finite_logits0 [hPre_finite_logits0 : Cert.Pre_finite_logits0.Facts] (m : (ℓ : Loc Cert.Mem0ReferenceIdeal.nD Cert.Mem0ReferenceIdeal.τ Cert.Mem0ReferenceIdeal.sig) → Buf (Elt Ideal) ℓ) : Prop :=
  ∀ c : Dev Cert.Mem0ReferenceIdeal.nD,
    (Cert.Pre_finite_logits0.fn (F := Ideal) (m ((c.tc : Thread Cert.Mem0ReferenceIdeal.nD Cert.Mem0ReferenceIdeal.τ).loc Cert.Mem0ReferenceIdeal.main_arg0)) (m ((c.tc : Thread Cert.Mem0ReferenceIdeal.nD Cert.Mem0ReferenceIdeal.τ).loc Cert.Mem0ReferenceIdeal.main_arg1)) (m ((c.tc : Thread Cert.Mem0ReferenceIdeal.nD Cert.Mem0ReferenceIdeal.τ).loc Cert.Mem0ReferenceIdeal.main_arg2))).1 = (fun _ => 1#1)
    ∧ (Cert.Pre_finite_logits0.fn (F := Ideal) (m ((c.tc : Thread Cert.Mem0ReferenceIdeal.nD Cert.Mem0ReferenceIdeal.τ).loc Cert.Mem0ReferenceIdeal.main_arg0)) (m ((c.tc : Thread Cert.Mem0ReferenceIdeal.nD Cert.Mem0ReferenceIdeal.τ).loc Cert.Mem0ReferenceIdeal.main_arg1)) (m ((c.tc : Thread Cert.Mem0ReferenceIdeal.nD Cert.Mem0ReferenceIdeal.τ).loc Cert.Mem0ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_HiddenKernel [hHiddenKernel : Cert.HiddenKernel.Facts] : Prop :=
  ∀ (m : (ℓ : Loc Cert.HiddenKernel.nD Cert.HiddenKernel.τ Cert.HiddenKernel.sig) → Buf (Elt Bits) ℓ) (g : Dev Cert.HiddenKernel.nD → PrngReg), Pre_HiddenKernel m →
    θ_run (Cert.HiddenKernel.defs (F := Bits)) (onTc (τ := Cert.HiddenKernel.τ) (Cert.HiddenKernel.main (F := Bits))) ⟨m, fun _ => 0, g⟩ (fun r => (∀ c : Dev Cert.HiddenKernel.nD,
      r.2.mem ((c.tc : Thread Cert.HiddenKernel.nD Cert.HiddenKernel.τ).loc Cert.HiddenKernel.main_arg0) = m ((c.tc : Thread Cert.HiddenKernel.nD Cert.HiddenKernel.τ).loc Cert.HiddenKernel.main_arg0)
      ∧ r.2.mem ((c.tc : Thread Cert.HiddenKernel.nD Cert.HiddenKernel.τ).loc Cert.HiddenKernel.main_arg1) = m ((c.tc : Thread Cert.HiddenKernel.nD Cert.HiddenKernel.τ).loc Cert.HiddenKernel.main_arg1)
      ∧ r.2.mem ((c.tc : Thread Cert.HiddenKernel.nD Cert.HiddenKernel.τ).loc Cert.HiddenKernel.main_arg2) = m ((c.tc : Thread Cert.HiddenKernel.nD Cert.HiddenKernel.τ).loc Cert.HiddenKernel.main_arg2)
      ∧ r.2.mem ((c.tc : Thread Cert.HiddenKernel.nD Cert.HiddenKernel.τ).loc Cert.HiddenKernel.main_arg3) = m ((c.tc : Thread Cert.HiddenKernel.nD Cert.HiddenKernel.τ).loc Cert.HiddenKernel.main_arg3))
      ∧ r.2.sem = fun _ => 0)

def quiescent_HiddenKernelIdeal [hHiddenKernelIdeal : Cert.HiddenKernelIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg), Pre_HiddenKernelIdeal m →
    θ_run (Cert.HiddenKernelIdeal.defs (F := Ideal)) (onTc (τ := Cert.HiddenKernelIdeal.τ) (Cert.HiddenKernelIdeal.main (F := Ideal))) ⟨m, fun _ => 0, g⟩ (fun r => (∀ c : Dev Cert.HiddenKernelIdeal.nD,
      r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
      ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
      ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
      ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3))
      ∧ r.2.sem = fun _ => 0)

def quiescent_HiddenReferenceIdeal [hHiddenReferenceIdeal : Cert.HiddenReferenceIdeal.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2)
      ∧ r.2.mem ((c.tc : Thread Cert.ActKernel.nD Cert.ActKernel.τ).loc Cert.ActKernel.main_arg3) = m ((c.tc : Thread Cert.ActKernel.nD Cert.ActKernel.τ).loc Cert.ActKernel.main_arg3))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActKernelIdeal_pre_finite_factors [hActKernelIdeal : Cert.ActKernelIdeal.Facts] [hPre_finite_factors : Cert.Pre_finite_factors.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal_finite_factors m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
      ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_finite_factors [hActReferenceIdeal : Cert.ActReferenceIdeal.Facts] [hPre_finite_factors : Cert.Pre_finite_factors.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_finite_factors m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_GateUpKernel [hGateUpKernel : Cert.GateUpKernel.Facts] : Prop :=
  ∀ (m : (ℓ : Loc Cert.GateUpKernel.nD Cert.GateUpKernel.τ Cert.GateUpKernel.sig) → Buf (Elt Bits) ℓ) (g : Dev Cert.GateUpKernel.nD → PrngReg), Pre_GateUpKernel m →
    θ_run (Cert.GateUpKernel.defs (F := Bits)) (onTc (τ := Cert.GateUpKernel.τ) (Cert.GateUpKernel.main (F := Bits))) ⟨m, fun _ => 0, g⟩ (fun r => (∀ c : Dev Cert.GateUpKernel.nD,
      r.2.mem ((c.tc : Thread Cert.GateUpKernel.nD Cert.GateUpKernel.τ).loc Cert.GateUpKernel.main_arg0) = m ((c.tc : Thread Cert.GateUpKernel.nD Cert.GateUpKernel.τ).loc Cert.GateUpKernel.main_arg0)
      ∧ r.2.mem ((c.tc : Thread Cert.GateUpKernel.nD Cert.GateUpKernel.τ).loc Cert.GateUpKernel.main_arg1) = m ((c.tc : Thread Cert.GateUpKernel.nD Cert.GateUpKernel.τ).loc Cert.GateUpKernel.main_arg1)
      ∧ r.2.mem ((c.tc : Thread Cert.GateUpKernel.nD Cert.GateUpKernel.τ).loc Cert.GateUpKernel.main_arg2) = m ((c.tc : Thread Cert.GateUpKernel.nD Cert.GateUpKernel.τ).loc Cert.GateUpKernel.main_arg2))
      ∧ r.2.sem = fun _ => 0)

def quiescent_GateUpKernelIdeal [hGateUpKernelIdeal : Cert.GateUpKernelIdeal.Facts] : Prop :=
  ∀ (m : (ℓ : Loc Cert.GateUpKernelIdeal.nD Cert.GateUpKernelIdeal.τ Cert.GateUpKernelIdeal.sig) → Buf (Elt Ideal) ℓ) (g : Dev Cert.GateUpKernelIdeal.nD → PrngReg), Pre_GateUpKernelIdeal m →
    θ_run (Cert.GateUpKernelIdeal.defs (F := Ideal)) (onTc (τ := Cert.GateUpKernelIdeal.τ) (Cert.GateUpKernelIdeal.main (F := Ideal))) ⟨m, fun _ => 0, g⟩ (fun r => (∀ c : Dev Cert.GateUpKernelIdeal.nD,
      r.2.mem ((c.tc : Thread Cert.GateUpKernelIdeal.nD Cert.GateUpKernelIdeal.τ).loc Cert.GateUpKernelIdeal.main_arg0) = m ((c.tc : Thread Cert.GateUpKernelIdeal.nD Cert.GateUpKernelIdeal.τ).loc Cert.GateUpKernelIdeal.main_arg0)
      ∧ r.2.mem ((c.tc : Thread Cert.GateUpKernelIdeal.nD Cert.GateUpKernelIdeal.τ).loc Cert.GateUpKernelIdeal.main_arg1) = m ((c.tc : Thread Cert.GateUpKernelIdeal.nD Cert.GateUpKernelIdeal.τ).loc Cert.GateUpKernelIdeal.main_arg1)
      ∧ r.2.mem ((c.tc : Thread Cert.GateUpKernelIdeal.nD Cert.GateUpKernelIdeal.τ).loc Cert.GateUpKernelIdeal.main_arg2) = m ((c.tc : Thread Cert.GateUpKernelIdeal.nD Cert.GateUpKernelIdeal.τ).loc Cert.GateUpKernelIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_DownFwdKernel [hDownFwdKernel : Cert.DownFwdKernel.Facts] : Prop :=
  ∀ (m : (ℓ : Loc Cert.DownFwdKernel.nD Cert.DownFwdKernel.τ Cert.DownFwdKernel.sig) → Buf (Elt Bits) ℓ) (g : Dev Cert.DownFwdKernel.nD → PrngReg), Pre_DownFwdKernel m →
    θ_run (Cert.DownFwdKernel.defs (F := Bits)) (onTc (τ := Cert.DownFwdKernel.τ) (Cert.DownFwdKernel.main (F := Bits))) ⟨m, fun _ => 0, g⟩ (fun r => (∀ c : Dev Cert.DownFwdKernel.nD,
      r.2.mem ((c.tc : Thread Cert.DownFwdKernel.nD Cert.DownFwdKernel.τ).loc Cert.DownFwdKernel.main_arg0) = m ((c.tc : Thread Cert.DownFwdKernel.nD Cert.DownFwdKernel.τ).loc Cert.DownFwdKernel.main_arg0)
      ∧ r.2.mem ((c.tc : Thread Cert.DownFwdKernel.nD Cert.DownFwdKernel.τ).loc Cert.DownFwdKernel.main_arg1) = m ((c.tc : Thread Cert.DownFwdKernel.nD Cert.DownFwdKernel.τ).loc Cert.DownFwdKernel.main_arg1)
      ∧ r.2.mem ((c.tc : Thread Cert.DownFwdKernel.nD Cert.DownFwdKernel.τ).loc Cert.DownFwdKernel.main_arg2) = m ((c.tc : Thread Cert.DownFwdKernel.nD Cert.DownFwdKernel.τ).loc Cert.DownFwdKernel.main_arg2))
      ∧ r.2.sem = fun _ => 0)

def quiescent_DownFwdKernelIdeal [hDownFwdKernelIdeal : Cert.DownFwdKernelIdeal.Facts] : Prop :=
  ∀ (m : (ℓ : Loc Cert.DownFwdKernelIdeal.nD Cert.DownFwdKernelIdeal.τ Cert.DownFwdKernelIdeal.sig) → Buf (Elt Ideal) ℓ) (g : Dev Cert.DownFwdKernelIdeal.nD → PrngReg), Pre_DownFwdKernelIdeal m →
    θ_run (Cert.DownFwdKernelIdeal.defs (F := Ideal)) (onTc (τ := Cert.DownFwdKernelIdeal.τ) (Cert.DownFwdKernelIdeal.main (F := Ideal))) ⟨m, fun _ => 0, g⟩ (fun r => (∀ c : Dev Cert.DownFwdKernelIdeal.nD,
      r.2.mem ((c.tc : Thread Cert.DownFwdKernelIdeal.nD Cert.DownFwdKernelIdeal.τ).loc Cert.DownFwdKernelIdeal.main_arg0) = m ((c.tc : Thread Cert.DownFwdKernelIdeal.nD Cert.DownFwdKernelIdeal.τ).loc Cert.DownFwdKernelIdeal.main_arg0)
      ∧ r.2.mem ((c.tc : Thread Cert.DownFwdKernelIdeal.nD Cert.DownFwdKernelIdeal.τ).loc Cert.DownFwdKernelIdeal.main_arg1) = m ((c.tc : Thread Cert.DownFwdKernelIdeal.nD Cert.DownFwdKernelIdeal.τ).loc Cert.DownFwdKernelIdeal.main_arg1)
      ∧ r.2.mem ((c.tc : Thread Cert.DownFwdKernelIdeal.nD Cert.DownFwdKernelIdeal.τ).loc Cert.DownFwdKernelIdeal.main_arg2) = m ((c.tc : Thread Cert.DownFwdKernelIdeal.nD Cert.DownFwdKernelIdeal.τ).loc Cert.DownFwdKernelIdeal.main_arg2))
      ∧ r.2.sem = fun _ => 0)

def quiescent_DownFwdReferenceIdeal [hDownFwdReferenceIdeal : Cert.DownFwdReferenceIdeal.Facts] : Prop :=
  ∀ (m : (ℓ : Loc Cert.DownFwdReferenceIdeal.nD Cert.DownFwdReferenceIdeal.τ Cert.DownFwdReferenceIdeal.sig) → Buf (Elt Ideal) ℓ) (g : Dev Cert.DownFwdReferenceIdeal.nD → PrngReg), Pre_DownFwdReferenceIdeal m →
    θ_run (Cert.DownFwdReferenceIdeal.defs (F := Ideal)) (onTc (τ := Cert.DownFwdReferenceIdeal.τ) (Cert.DownFwdReferenceIdeal.main (F := Ideal))) ⟨m, fun _ => 0, g⟩ (fun r => (∀ c : Dev Cert.DownFwdReferenceIdeal.nD,
      r.2.mem ((c.tc : Thread Cert.DownFwdReferenceIdeal.nD Cert.DownFwdReferenceIdeal.τ).loc Cert.DownFwdReferenceIdeal.main_arg0) = m ((c.tc : Thread Cert.DownFwdReferenceIdeal.nD Cert.DownFwdReferenceIdeal.τ).loc Cert.DownFwdReferenceIdeal.main_arg0)
      ∧ r.2.mem ((c.tc : Thread Cert.DownFwdReferenceIdeal.nD Cert.DownFwdReferenceIdeal.τ).loc Cert.DownFwdReferenceIdeal.main_arg1) = m ((c.tc : Thread Cert.DownFwdReferenceIdeal.nD Cert.DownFwdReferenceIdeal.τ).loc Cert.DownFwdReferenceIdeal.main_arg1)
      ∧ r.2.mem ((c.tc : Thread Cert.DownFwdReferenceIdeal.nD Cert.DownFwdReferenceIdeal.τ).loc Cert.DownFwdReferenceIdeal.main_arg2) = m ((c.tc : Thread Cert.DownFwdReferenceIdeal.nD Cert.DownFwdReferenceIdeal.τ).loc Cert.DownFwdReferenceIdeal.main_arg2))
      ∧ r.2.sem = fun _ => 0)

def quiescent_SguInKernel [hSguInKernel : Cert.SguInKernel.Facts] : Prop :=
  ∀ (m : (ℓ : Loc Cert.SguInKernel.nD Cert.SguInKernel.τ Cert.SguInKernel.sig) → Buf (Elt Bits) ℓ) (g : Dev Cert.SguInKernel.nD → PrngReg), Pre_SguInKernel m →
    θ_run (Cert.SguInKernel.defs (F := Bits)) (onTc (τ := Cert.SguInKernel.τ) (Cert.SguInKernel.main (F := Bits))) ⟨m, fun _ => 0, g⟩ (fun r => (∀ c : Dev Cert.SguInKernel.nD,
      r.2.mem ((c.tc : Thread Cert.SguInKernel.nD Cert.SguInKernel.τ).loc Cert.SguInKernel.main_arg0) = m ((c.tc : Thread Cert.SguInKernel.nD Cert.SguInKernel.τ).loc Cert.SguInKernel.main_arg0)
      ∧ r.2.mem ((c.tc : Thread Cert.SguInKernel.nD Cert.SguInKernel.τ).loc Cert.SguInKernel.main_arg1) = m ((c.tc : Thread Cert.SguInKernel.nD Cert.SguInKernel.τ).loc Cert.SguInKernel.main_arg1))
      ∧ r.2.sem = fun _ => 0)

def quiescent_SguInKernelIdeal [hSguInKernelIdeal : Cert.SguInKernelIdeal.Facts] : Prop :=
  ∀ (m : (ℓ : Loc Cert.SguInKernelIdeal.nD Cert.SguInKernelIdeal.τ Cert.SguInKernelIdeal.sig) → Buf (Elt Ideal) ℓ) (g : Dev Cert.SguInKernelIdeal.nD → PrngReg), Pre_SguInKernelIdeal m →
    θ_run (Cert.SguInKernelIdeal.defs (F := Ideal)) (onTc (τ := Cert.SguInKernelIdeal.τ) (Cert.SguInKernelIdeal.main (F := Ideal))) ⟨m, fun _ => 0, g⟩ (fun r => (∀ c : Dev Cert.SguInKernelIdeal.nD,
      r.2.mem ((c.tc : Thread Cert.SguInKernelIdeal.nD Cert.SguInKernelIdeal.τ).loc Cert.SguInKernelIdeal.main_arg0) = m ((c.tc : Thread Cert.SguInKernelIdeal.nD Cert.SguInKernelIdeal.τ).loc Cert.SguInKernelIdeal.main_arg0)
      ∧ r.2.mem ((c.tc : Thread Cert.SguInKernelIdeal.nD Cert.SguInKernelIdeal.τ).loc Cert.SguInKernelIdeal.main_arg1) = m ((c.tc : Thread Cert.SguInKernelIdeal.nD Cert.SguInKernelIdeal.τ).loc Cert.SguInKernelIdeal.main_arg1))
      ∧ r.2.sem = fun _ => 0)

def quiescent_SguInReferenceIdeal [hSguInReferenceIdeal : Cert.SguInReferenceIdeal.Facts] : Prop :=
  ∀ (m : (ℓ : Loc Cert.SguInReferenceIdeal.nD Cert.SguInReferenceIdeal.τ Cert.SguInReferenceIdeal.sig) → Buf (Elt Ideal) ℓ) (g : Dev Cert.SguInReferenceIdeal.nD → PrngReg), Pre_SguInReferenceIdeal m →
    θ_run (Cert.SguInReferenceIdeal.defs (F := Ideal)) (onTc (τ := Cert.SguInReferenceIdeal.τ) (Cert.SguInReferenceIdeal.main (F := Ideal))) ⟨m, fun _ => 0, g⟩ (fun r => (∀ c : Dev Cert.SguInReferenceIdeal.nD,
      r.2.mem ((c.tc : Thread Cert.SguInReferenceIdeal.nD Cert.SguInReferenceIdeal.τ).loc Cert.SguInReferenceIdeal.main_arg0) = m ((c.tc : Thread Cert.SguInReferenceIdeal.nD Cert.SguInReferenceIdeal.τ).loc Cert.SguInReferenceIdeal.main_arg0)
      ∧ r.2.mem ((c.tc : Thread Cert.SguInReferenceIdeal.nD Cert.SguInReferenceIdeal.τ).loc Cert.SguInReferenceIdeal.main_arg1) = m ((c.tc : Thread Cert.SguInReferenceIdeal.nD Cert.SguInReferenceIdeal.τ).loc Cert.SguInReferenceIdeal.main_arg1))
      ∧ r.2.sem = fun _ => 0)

def quiescent_AttnInKernel [hAttnInKernel : Cert.AttnInKernel.Facts] : Prop :=
  ∀ (m : (ℓ : Loc Cert.AttnInKernel.nD Cert.AttnInKernel.τ Cert.AttnInKernel.sig) → Buf (Elt Bits) ℓ) (g : Dev Cert.AttnInKernel.nD → PrngReg), Pre_AttnInKernel m →
    θ_run (Cert.AttnInKernel.defs (F := Bits)) (onTc (τ := Cert.AttnInKernel.τ) (Cert.AttnInKernel.main (F := Bits))) ⟨m, fun _ => 0, g⟩ (fun r => (∀ c : Dev Cert.AttnInKernel.nD,
      r.2.mem ((c.tc : Thread Cert.AttnInKernel.nD Cert.AttnInKernel.τ).loc Cert.AttnInKernel.main_arg0) = m ((c.tc : Thread Cert.AttnInKernel.nD Cert.AttnInKernel.τ).loc Cert.AttnInKernel.main_arg0)
      ∧ r.2.mem ((c.tc : Thread Cert.AttnInKernel.nD Cert.AttnInKernel.τ).loc Cert.AttnInKernel.main_arg1) = m ((c.tc : Thread Cert.AttnInKernel.nD Cert.AttnInKernel.τ).loc Cert.AttnInKernel.main_arg1))
      ∧ r.2.sem = fun _ => 0)

def quiescent_AttnInKernelIdeal [hAttnInKernelIdeal : Cert.AttnInKernelIdeal.Facts] : Prop :=
  ∀ (m : (ℓ : Loc Cert.AttnInKernelIdeal.nD Cert.AttnInKernelIdeal.τ Cert.AttnInKernelIdeal.sig) → Buf (Elt Ideal) ℓ) (g : Dev Cert.AttnInKernelIdeal.nD → PrngReg), Pre_AttnInKernelIdeal m →
    θ_run (Cert.AttnInKernelIdeal.defs (F := Ideal)) (onTc (τ := Cert.AttnInKernelIdeal.τ) (Cert.AttnInKernelIdeal.main (F := Ideal))) ⟨m, fun _ => 0, g⟩ (fun r => (∀ c : Dev Cert.AttnInKernelIdeal.nD,
      r.2.mem ((c.tc : Thread Cert.AttnInKernelIdeal.nD Cert.AttnInKernelIdeal.τ).loc Cert.AttnInKernelIdeal.main_arg0) = m ((c.tc : Thread Cert.AttnInKernelIdeal.nD Cert.AttnInKernelIdeal.τ).loc Cert.AttnInKernelIdeal.main_arg0)
      ∧ r.2.mem ((c.tc : Thread Cert.AttnInKernelIdeal.nD Cert.AttnInKernelIdeal.τ).loc Cert.AttnInKernelIdeal.main_arg1) = m ((c.tc : Thread Cert.AttnInKernelIdeal.nD Cert.AttnInKernelIdeal.τ).loc Cert.AttnInKernelIdeal.main_arg1))
      ∧ r.2.sem = fun _ => 0)

def quiescent_AttnInReferenceIdeal [hAttnInReferenceIdeal : Cert.AttnInReferenceIdeal.Facts] : Prop :=
  ∀ (m : (ℓ : Loc Cert.AttnInReferenceIdeal.nD Cert.AttnInReferenceIdeal.τ Cert.AttnInReferenceIdeal.sig) → Buf (Elt Ideal) ℓ) (g : Dev Cert.AttnInReferenceIdeal.nD → PrngReg), Pre_AttnInReferenceIdeal m →
    θ_run (Cert.AttnInReferenceIdeal.defs (F := Ideal)) (onTc (τ := Cert.AttnInReferenceIdeal.τ) (Cert.AttnInReferenceIdeal.main (F := Ideal))) ⟨m, fun _ => 0, g⟩ (fun r => (∀ c : Dev Cert.AttnInReferenceIdeal.nD,
      r.2.mem ((c.tc : Thread Cert.AttnInReferenceIdeal.nD Cert.AttnInReferenceIdeal.τ).loc Cert.AttnInReferenceIdeal.main_arg0) = m ((c.tc : Thread Cert.AttnInReferenceIdeal.nD Cert.AttnInReferenceIdeal.τ).loc Cert.AttnInReferenceIdeal.main_arg0)
      ∧ r.2.mem ((c.tc : Thread Cert.AttnInReferenceIdeal.nD Cert.AttnInReferenceIdeal.τ).loc Cert.AttnInReferenceIdeal.main_arg1) = m ((c.tc : Thread Cert.AttnInReferenceIdeal.nD Cert.AttnInReferenceIdeal.τ).loc Cert.AttnInReferenceIdeal.main_arg1))
      ∧ r.2.sem = fun _ => 0)

def quiescent_SguInWKernel [hSguInWKernel : Cert.SguInWKernel.Facts] : Prop :=
  ∀ (m : (ℓ : Loc Cert.SguInWKernel.nD Cert.SguInWKernel.τ Cert.SguInWKernel.sig) → Buf (Elt Bits) ℓ) (g : Dev Cert.SguInWKernel.nD → PrngReg), Pre_SguInWKernel m →
    θ_run (Cert.SguInWKernel.defs (F := Bits)) (onTc (τ := Cert.SguInWKernel.τ) (Cert.SguInWKernel.main (F := Bits))) ⟨m, fun _ => 0, g⟩ (fun r => (∀ c : Dev Cert.SguInWKernel.nD,
      r.2.mem ((c.tc : Thread Cert.SguInWKernel.nD Cert.SguInWKernel.τ).loc Cert.SguInWKernel.main_arg0) = m ((c.tc : Thread Cert.SguInWKernel.nD Cert.SguInWKernel.τ).loc Cert.SguInWKernel.main_arg0)
      ∧ r.2.mem ((c.tc : Thread Cert.SguInWKernel.nD Cert.SguInWKernel.τ).loc Cert.SguInWKernel.main_arg1) = m ((c.tc : Thread Cert.SguInWKernel.nD Cert.SguInWKernel.τ).loc Cert.SguInWKernel.main_arg1)
      ∧ r.2.mem ((c.tc : Thread Cert.SguInWKernel.nD Cert.SguInWKernel.τ).loc Cert.SguInWKernel.main_arg2) = m ((c.tc : Thread Cert.SguInWKernel.nD Cert.SguInWKernel.τ).loc Cert.SguInWKernel.main_arg2))
      ∧ r.2.sem = fun _ => 0)

def quiescent_SguInWKernelIdeal [hSguInWKernelIdeal : Cert.SguInWKernelIdeal.Facts] : Prop :=
  ∀ (m : (ℓ : Loc Cert.SguInWKernelIdeal.nD Cert.SguInWKernelIdeal.τ Cert.SguInWKernelIdeal.sig) → Buf (Elt Ideal) ℓ) (g : Dev Cert.SguInWKernelIdeal.nD → PrngReg), Pre_SguInWKernelIdeal m →
    θ_run (Cert.SguInWKernelIdeal.defs (F := Ideal)) (onTc (τ := Cert.SguInWKernelIdeal.τ) (Cert.SguInWKernelIdeal.main (F := Ideal))) ⟨m, fun _ => 0, g⟩ (fun r => (∀ c : Dev Cert.SguInWKernelIdeal.nD,
      r.2.mem ((c.tc : Thread Cert.SguInWKernelIdeal.nD Cert.SguInWKernelIdeal.τ).loc Cert.SguInWKernelIdeal.main_arg0) = m ((c.tc : Thread Cert.SguInWKernelIdeal.nD Cert.SguInWKernelIdeal.τ).loc Cert.SguInWKernelIdeal.main_arg0)
      ∧ r.2.mem ((c.tc : Thread Cert.SguInWKernelIdeal.nD Cert.SguInWKernelIdeal.τ).loc Cert.SguInWKernelIdeal.main_arg1) = m ((c.tc : Thread Cert.SguInWKernelIdeal.nD Cert.SguInWKernelIdeal.τ).loc Cert.SguInWKernelIdeal.main_arg1)
      ∧ r.2.mem ((c.tc : Thread Cert.SguInWKernelIdeal.nD Cert.SguInWKernelIdeal.τ).loc Cert.SguInWKernelIdeal.main_arg2) = m ((c.tc : Thread Cert.SguInWKernelIdeal.nD Cert.SguInWKernelIdeal.τ).loc Cert.SguInWKernelIdeal.main_arg2))
      ∧ r.2.sem = fun _ => 0)

def quiescent_SguInWReferenceIdeal [hSguInWReferenceIdeal : Cert.SguInWReferenceIdeal.Facts] : Prop :=
  ∀ (m : (ℓ : Loc Cert.SguInWReferenceIdeal.nD Cert.SguInWReferenceIdeal.τ Cert.SguInWReferenceIdeal.sig) → Buf (Elt Ideal) ℓ) (g : Dev Cert.SguInWReferenceIdeal.nD → PrngReg), Pre_SguInWReferenceIdeal m →
    θ_run (Cert.SguInWReferenceIdeal.defs (F := Ideal)) (onTc (τ := Cert.SguInWReferenceIdeal.τ) (Cert.SguInWReferenceIdeal.main (F := Ideal))) ⟨m, fun _ => 0, g⟩ (fun r => (∀ c : Dev Cert.SguInWReferenceIdeal.nD,
      r.2.mem ((c.tc : Thread Cert.SguInWReferenceIdeal.nD Cert.SguInWReferenceIdeal.τ).loc Cert.SguInWReferenceIdeal.main_arg0) = m ((c.tc : Thread Cert.SguInWReferenceIdeal.nD Cert.SguInWReferenceIdeal.τ).loc Cert.SguInWReferenceIdeal.main_arg0)
      ∧ r.2.mem ((c.tc : Thread Cert.SguInWReferenceIdeal.nD Cert.SguInWReferenceIdeal.τ).loc Cert.SguInWReferenceIdeal.main_arg1) = m ((c.tc : Thread Cert.SguInWReferenceIdeal.nD Cert.SguInWReferenceIdeal.τ).loc Cert.SguInWReferenceIdeal.main_arg1)
      ∧ r.2.mem ((c.tc : Thread Cert.SguInWReferenceIdeal.nD Cert.SguInWReferenceIdeal.τ).loc Cert.SguInWReferenceIdeal.main_arg2) = m ((c.tc : Thread Cert.SguInWReferenceIdeal.nD Cert.SguInWReferenceIdeal.τ).loc Cert.SguInWReferenceIdeal.main_arg2))
      ∧ r.2.sem = fun _ => 0)

def quiescent_AttnInWKernel [hAttnInWKernel : Cert.AttnInWKernel.Facts] : Prop :=
  ∀ (m : (ℓ : Loc Cert.AttnInWKernel.nD Cert.AttnInWKernel.τ Cert.AttnInWKernel.sig) → Buf (Elt Bits) ℓ) (g : Dev Cert.AttnInWKernel.nD → PrngReg), Pre_AttnInWKernel m →
    θ_run (Cert.AttnInWKernel.defs (F := Bits)) (onTc (τ := Cert.AttnInWKernel.τ) (Cert.AttnInWKernel.main (F := Bits))) ⟨m, fun _ => 0, g⟩ (fun r => (∀ c : Dev Cert.AttnInWKernel.nD,
      r.2.mem ((c.tc : Thread Cert.AttnInWKernel.nD Cert.AttnInWKernel.τ).loc Cert.AttnInWKernel.main_arg0) = m ((c.tc : Thread Cert.AttnInWKernel.nD Cert.AttnInWKernel.τ).loc Cert.AttnInWKernel.main_arg0)
      ∧ r.2.mem ((c.tc : Thread Cert.AttnInWKernel.nD Cert.AttnInWKernel.τ).loc Cert.AttnInWKernel.main_arg1) = m ((c.tc : Thread Cert.AttnInWKernel.nD Cert.AttnInWKernel.τ).loc Cert.AttnInWKernel.main_arg1)
      ∧ r.2.mem ((c.tc : Thread Cert.AttnInWKernel.nD Cert.AttnInWKernel.τ).loc Cert.AttnInWKernel.main_arg2) = m ((c.tc : Thread Cert.AttnInWKernel.nD Cert.AttnInWKernel.τ).loc Cert.AttnInWKernel.main_arg2))
      ∧ r.2.sem = fun _ => 0)

def quiescent_AttnInWKernelIdeal [hAttnInWKernelIdeal : Cert.AttnInWKernelIdeal.Facts] : Prop :=
  ∀ (m : (ℓ : Loc Cert.AttnInWKernelIdeal.nD Cert.AttnInWKernelIdeal.τ Cert.AttnInWKernelIdeal.sig) → Buf (Elt Ideal) ℓ) (g : Dev Cert.AttnInWKernelIdeal.nD → PrngReg), Pre_AttnInWKernelIdeal m →
    θ_run (Cert.AttnInWKernelIdeal.defs (F := Ideal)) (onTc (τ := Cert.AttnInWKernelIdeal.τ) (Cert.AttnInWKernelIdeal.main (F := Ideal))) ⟨m, fun _ => 0, g⟩ (fun r => (∀ c : Dev Cert.AttnInWKernelIdeal.nD,
      r.2.mem ((c.tc : Thread Cert.AttnInWKernelIdeal.nD Cert.AttnInWKernelIdeal.τ).loc Cert.AttnInWKernelIdeal.main_arg0) = m ((c.tc : Thread Cert.AttnInWKernelIdeal.nD Cert.AttnInWKernelIdeal.τ).loc Cert.AttnInWKernelIdeal.main_arg0)
      ∧ r.2.mem ((c.tc : Thread Cert.AttnInWKernelIdeal.nD Cert.AttnInWKernelIdeal.τ).loc Cert.AttnInWKernelIdeal.main_arg1) = m ((c.tc : Thread Cert.AttnInWKernelIdeal.nD Cert.AttnInWKernelIdeal.τ).loc Cert.AttnInWKernelIdeal.main_arg1)
      ∧ r.2.mem ((c.tc : Thread Cert.AttnInWKernelIdeal.nD Cert.AttnInWKernelIdeal.τ).loc Cert.AttnInWKernelIdeal.main_arg2) = m ((c.tc : Thread Cert.AttnInWKernelIdeal.nD Cert.AttnInWKernelIdeal.τ).loc Cert.AttnInWKernelIdeal.main_arg2))
      ∧ r.2.sem = fun _ => 0)

def quiescent_AttnInWReferenceIdeal [hAttnInWReferenceIdeal : Cert.AttnInWReferenceIdeal.Facts] : Prop :=
  ∀ (m : (ℓ : Loc Cert.AttnInWReferenceIdeal.nD Cert.AttnInWReferenceIdeal.τ Cert.AttnInWReferenceIdeal.sig) → Buf (Elt Ideal) ℓ) (g : Dev Cert.AttnInWReferenceIdeal.nD → PrngReg), Pre_AttnInWReferenceIdeal m →
    θ_run (Cert.AttnInWReferenceIdeal.defs (F := Ideal)) (onTc (τ := Cert.AttnInWReferenceIdeal.τ) (Cert.AttnInWReferenceIdeal.main (F := Ideal))) ⟨m, fun _ => 0, g⟩ (fun r => (∀ c : Dev Cert.AttnInWReferenceIdeal.nD,
      r.2.mem ((c.tc : Thread Cert.AttnInWReferenceIdeal.nD Cert.AttnInWReferenceIdeal.τ).loc Cert.AttnInWReferenceIdeal.main_arg0) = m ((c.tc : Thread Cert.AttnInWReferenceIdeal.nD Cert.AttnInWReferenceIdeal.τ).loc Cert.AttnInWReferenceIdeal.main_arg0)
      ∧ r.2.mem ((c.tc : Thread Cert.AttnInWReferenceIdeal.nD Cert.AttnInWReferenceIdeal.τ).loc Cert.AttnInWReferenceIdeal.main_arg1) = m ((c.tc : Thread Cert.AttnInWReferenceIdeal.nD Cert.AttnInWReferenceIdeal.τ).loc Cert.AttnInWReferenceIdeal.main_arg1)
      ∧ r.2.mem ((c.tc : Thread Cert.AttnInWReferenceIdeal.nD Cert.AttnInWReferenceIdeal.τ).loc Cert.AttnInWReferenceIdeal.main_arg2) = m ((c.tc : Thread Cert.AttnInWReferenceIdeal.nD Cert.AttnInWReferenceIdeal.τ).loc Cert.AttnInWReferenceIdeal.main_arg2))
      ∧ r.2.sem = fun _ => 0)

def quiescent_SguInHKernel [hSguInHKernel : Cert.SguInHKernel.Facts] : Prop :=
  ∀ (m : (ℓ : Loc Cert.SguInHKernel.nD Cert.SguInHKernel.τ Cert.SguInHKernel.sig) → Buf (Elt Bits) ℓ) (g : Dev Cert.SguInHKernel.nD → PrngReg), Pre_SguInHKernel m →
    θ_run (Cert.SguInHKernel.defs (F := Bits)) (onTc (τ := Cert.SguInHKernel.τ) (Cert.SguInHKernel.main (F := Bits))) ⟨m, fun _ => 0, g⟩ (fun r => (∀ c : Dev Cert.SguInHKernel.nD,
      r.2.mem ((c.tc : Thread Cert.SguInHKernel.nD Cert.SguInHKernel.τ).loc Cert.SguInHKernel.main_arg0) = m ((c.tc : Thread Cert.SguInHKernel.nD Cert.SguInHKernel.τ).loc Cert.SguInHKernel.main_arg0)
      ∧ r.2.mem ((c.tc : Thread Cert.SguInHKernel.nD Cert.SguInHKernel.τ).loc Cert.SguInHKernel.main_arg1) = m ((c.tc : Thread Cert.SguInHKernel.nD Cert.SguInHKernel.τ).loc Cert.SguInHKernel.main_arg1))
      ∧ r.2.sem = fun _ => 0)

def quiescent_SguInHKernelIdeal [hSguInHKernelIdeal : Cert.SguInHKernelIdeal.Facts] : Prop :=
  ∀ (m : (ℓ : Loc Cert.SguInHKernelIdeal.nD Cert.SguInHKernelIdeal.τ Cert.SguInHKernelIdeal.sig) → Buf (Elt Ideal) ℓ) (g : Dev Cert.SguInHKernelIdeal.nD → PrngReg), Pre_SguInHKernelIdeal m →
    θ_run (Cert.SguInHKernelIdeal.defs (F := Ideal)) (onTc (τ := Cert.SguInHKernelIdeal.τ) (Cert.SguInHKernelIdeal.main (F := Ideal))) ⟨m, fun _ => 0, g⟩ (fun r => (∀ c : Dev Cert.SguInHKernelIdeal.nD,
      r.2.mem ((c.tc : Thread Cert.SguInHKernelIdeal.nD Cert.SguInHKernelIdeal.τ).loc Cert.SguInHKernelIdeal.main_arg0) = m ((c.tc : Thread Cert.SguInHKernelIdeal.nD Cert.SguInHKernelIdeal.τ).loc Cert.SguInHKernelIdeal.main_arg0)
      ∧ r.2.mem ((c.tc : Thread Cert.SguInHKernelIdeal.nD Cert.SguInHKernelIdeal.τ).loc Cert.SguInHKernelIdeal.main_arg1) = m ((c.tc : Thread Cert.SguInHKernelIdeal.nD Cert.SguInHKernelIdeal.τ).loc Cert.SguInHKernelIdeal.main_arg1))
      ∧ r.2.sem = fun _ => 0)

def quiescent_SguInHReferenceIdeal [hSguInHReferenceIdeal : Cert.SguInHReferenceIdeal.Facts] : Prop :=
  ∀ (m : (ℓ : Loc Cert.SguInHReferenceIdeal.nD Cert.SguInHReferenceIdeal.τ Cert.SguInHReferenceIdeal.sig) → Buf (Elt Ideal) ℓ) (g : Dev Cert.SguInHReferenceIdeal.nD → PrngReg), Pre_SguInHReferenceIdeal m →
    θ_run (Cert.SguInHReferenceIdeal.defs (F := Ideal)) (onTc (τ := Cert.SguInHReferenceIdeal.τ) (Cert.SguInHReferenceIdeal.main (F := Ideal))) ⟨m, fun _ => 0, g⟩ (fun r => (∀ c : Dev Cert.SguInHReferenceIdeal.nD,
      r.2.mem ((c.tc : Thread Cert.SguInHReferenceIdeal.nD Cert.SguInHReferenceIdeal.τ).loc Cert.SguInHReferenceIdeal.main_arg0) = m ((c.tc : Thread Cert.SguInHReferenceIdeal.nD Cert.SguInHReferenceIdeal.τ).loc Cert.SguInHReferenceIdeal.main_arg0)
      ∧ r.2.mem ((c.tc : Thread Cert.SguInHReferenceIdeal.nD Cert.SguInHReferenceIdeal.τ).loc Cert.SguInHReferenceIdeal.main_arg1) = m ((c.tc : Thread Cert.SguInHReferenceIdeal.nD Cert.SguInHReferenceIdeal.τ).loc Cert.SguInHReferenceIdeal.main_arg1))
      ∧ r.2.sem = fun _ => 0)

def quiescent_AttnInHKernel [hAttnInHKernel : Cert.AttnInHKernel.Facts] : Prop :=
  ∀ (m : (ℓ : Loc Cert.AttnInHKernel.nD Cert.AttnInHKernel.τ Cert.AttnInHKernel.sig) → Buf (Elt Bits) ℓ) (g : Dev Cert.AttnInHKernel.nD → PrngReg), Pre_AttnInHKernel m →
    θ_run (Cert.AttnInHKernel.defs (F := Bits)) (onTc (τ := Cert.AttnInHKernel.τ) (Cert.AttnInHKernel.main (F := Bits))) ⟨m, fun _ => 0, g⟩ (fun r => (∀ c : Dev Cert.AttnInHKernel.nD,
      r.2.mem ((c.tc : Thread Cert.AttnInHKernel.nD Cert.AttnInHKernel.τ).loc Cert.AttnInHKernel.main_arg0) = m ((c.tc : Thread Cert.AttnInHKernel.nD Cert.AttnInHKernel.τ).loc Cert.AttnInHKernel.main_arg0)
      ∧ r.2.mem ((c.tc : Thread Cert.AttnInHKernel.nD Cert.AttnInHKernel.τ).loc Cert.AttnInHKernel.main_arg1) = m ((c.tc : Thread Cert.AttnInHKernel.nD Cert.AttnInHKernel.τ).loc Cert.AttnInHKernel.main_arg1))
      ∧ r.2.sem = fun _ => 0)

def quiescent_AttnInHKernelIdeal [hAttnInHKernelIdeal : Cert.AttnInHKernelIdeal.Facts] : Prop :=
  ∀ (m : (ℓ : Loc Cert.AttnInHKernelIdeal.nD Cert.AttnInHKernelIdeal.τ Cert.AttnInHKernelIdeal.sig) → Buf (Elt Ideal) ℓ) (g : Dev Cert.AttnInHKernelIdeal.nD → PrngReg), Pre_AttnInHKernelIdeal m →
    θ_run (Cert.AttnInHKernelIdeal.defs (F := Ideal)) (onTc (τ := Cert.AttnInHKernelIdeal.τ) (Cert.AttnInHKernelIdeal.main (F := Ideal))) ⟨m, fun _ => 0, g⟩ (fun r => (∀ c : Dev Cert.AttnInHKernelIdeal.nD,
      r.2.mem ((c.tc : Thread Cert.AttnInHKernelIdeal.nD Cert.AttnInHKernelIdeal.τ).loc Cert.AttnInHKernelIdeal.main_arg0) = m ((c.tc : Thread Cert.AttnInHKernelIdeal.nD Cert.AttnInHKernelIdeal.τ).loc Cert.AttnInHKernelIdeal.main_arg0)
      ∧ r.2.mem ((c.tc : Thread Cert.AttnInHKernelIdeal.nD Cert.AttnInHKernelIdeal.τ).loc Cert.AttnInHKernelIdeal.main_arg1) = m ((c.tc : Thread Cert.AttnInHKernelIdeal.nD Cert.AttnInHKernelIdeal.τ).loc Cert.AttnInHKernelIdeal.main_arg1))
      ∧ r.2.sem = fun _ => 0)

def quiescent_AttnInHReferenceIdeal [hAttnInHReferenceIdeal : Cert.AttnInHReferenceIdeal.Facts] : Prop :=
  ∀ (m : (ℓ : Loc Cert.AttnInHReferenceIdeal.nD Cert.AttnInHReferenceIdeal.τ Cert.AttnInHReferenceIdeal.sig) → Buf (Elt Ideal) ℓ) (g : Dev Cert.AttnInHReferenceIdeal.nD → PrngReg), Pre_AttnInHReferenceIdeal m →
    θ_run (Cert.AttnInHReferenceIdeal.defs (F := Ideal)) (onTc (τ := Cert.AttnInHReferenceIdeal.τ) (Cert.AttnInHReferenceIdeal.main (F := Ideal))) ⟨m, fun _ => 0, g⟩ (fun r => (∀ c : Dev Cert.AttnInHReferenceIdeal.nD,
      r.2.mem ((c.tc : Thread Cert.AttnInHReferenceIdeal.nD Cert.AttnInHReferenceIdeal.τ).loc Cert.AttnInHReferenceIdeal.main_arg0) = m ((c.tc : Thread Cert.AttnInHReferenceIdeal.nD Cert.AttnInHReferenceIdeal.τ).loc Cert.AttnInHReferenceIdeal.main_arg0)
      ∧ r.2.mem ((c.tc : Thread Cert.AttnInHReferenceIdeal.nD Cert.AttnInHReferenceIdeal.τ).loc Cert.AttnInHReferenceIdeal.main_arg1) = m ((c.tc : Thread Cert.AttnInHReferenceIdeal.nD Cert.AttnInHReferenceIdeal.τ).loc Cert.AttnInHReferenceIdeal.main_arg1))
      ∧ r.2.sem = fun _ => 0)

def quiescent_SguCatKernel [hSguCatKernel : Cert.SguCatKernel.Facts] : Prop :=
  ∀ (m : (ℓ : Loc Cert.SguCatKernel.nD Cert.SguCatKernel.τ Cert.SguCatKernel.sig) → Buf (Elt Bits) ℓ) (g : Dev Cert.SguCatKernel.nD → PrngReg), Pre_SguCatKernel m →
    θ_run (Cert.SguCatKernel.defs (F := Bits)) (onTc (τ := Cert.SguCatKernel.τ) (Cert.SguCatKernel.main (F := Bits))) ⟨m, fun _ => 0, g⟩ (fun r => (∀ c : Dev Cert.SguCatKernel.nD,
      r.2.mem ((c.tc : Thread Cert.SguCatKernel.nD Cert.SguCatKernel.τ).loc Cert.SguCatKernel.main_arg0) = m ((c.tc : Thread Cert.SguCatKernel.nD Cert.SguCatKernel.τ).loc Cert.SguCatKernel.main_arg0)
      ∧ r.2.mem ((c.tc : Thread Cert.SguCatKernel.nD Cert.SguCatKernel.τ).loc Cert.SguCatKernel.main_arg1) = m ((c.tc : Thread Cert.SguCatKernel.nD Cert.SguCatKernel.τ).loc Cert.SguCatKernel.main_arg1))
      ∧ r.2.sem = fun _ => 0)

def quiescent_SguCatKernelIdeal [hSguCatKernelIdeal : Cert.SguCatKernelIdeal.Facts] : Prop :=
  ∀ (m : (ℓ : Loc Cert.SguCatKernelIdeal.nD Cert.SguCatKernelIdeal.τ Cert.SguCatKernelIdeal.sig) → Buf (Elt Ideal) ℓ) (g : Dev Cert.SguCatKernelIdeal.nD → PrngReg), Pre_SguCatKernelIdeal m →
    θ_run (Cert.SguCatKernelIdeal.defs (F := Ideal)) (onTc (τ := Cert.SguCatKernelIdeal.τ) (Cert.SguCatKernelIdeal.main (F := Ideal))) ⟨m, fun _ => 0, g⟩ (fun r => (∀ c : Dev Cert.SguCatKernelIdeal.nD,
      r.2.mem ((c.tc : Thread Cert.SguCatKernelIdeal.nD Cert.SguCatKernelIdeal.τ).loc Cert.SguCatKernelIdeal.main_arg0) = m ((c.tc : Thread Cert.SguCatKernelIdeal.nD Cert.SguCatKernelIdeal.τ).loc Cert.SguCatKernelIdeal.main_arg0)
      ∧ r.2.mem ((c.tc : Thread Cert.SguCatKernelIdeal.nD Cert.SguCatKernelIdeal.τ).loc Cert.SguCatKernelIdeal.main_arg1) = m ((c.tc : Thread Cert.SguCatKernelIdeal.nD Cert.SguCatKernelIdeal.τ).loc Cert.SguCatKernelIdeal.main_arg1))
      ∧ r.2.sem = fun _ => 0)

def quiescent_SguCatReferenceIdeal [hSguCatReferenceIdeal : Cert.SguCatReferenceIdeal.Facts] : Prop :=
  ∀ (m : (ℓ : Loc Cert.SguCatReferenceIdeal.nD Cert.SguCatReferenceIdeal.τ Cert.SguCatReferenceIdeal.sig) → Buf (Elt Ideal) ℓ) (g : Dev Cert.SguCatReferenceIdeal.nD → PrngReg), Pre_SguCatReferenceIdeal m →
    θ_run (Cert.SguCatReferenceIdeal.defs (F := Ideal)) (onTc (τ := Cert.SguCatReferenceIdeal.τ) (Cert.SguCatReferenceIdeal.main (F := Ideal))) ⟨m, fun _ => 0, g⟩ (fun r => (∀ c : Dev Cert.SguCatReferenceIdeal.nD,
      r.2.mem ((c.tc : Thread Cert.SguCatReferenceIdeal.nD Cert.SguCatReferenceIdeal.τ).loc Cert.SguCatReferenceIdeal.main_arg0) = m ((c.tc : Thread Cert.SguCatReferenceIdeal.nD Cert.SguCatReferenceIdeal.τ).loc Cert.SguCatReferenceIdeal.main_arg0)
      ∧ r.2.mem ((c.tc : Thread Cert.SguCatReferenceIdeal.nD Cert.SguCatReferenceIdeal.τ).loc Cert.SguCatReferenceIdeal.main_arg1) = m ((c.tc : Thread Cert.SguCatReferenceIdeal.nD Cert.SguCatReferenceIdeal.τ).loc Cert.SguCatReferenceIdeal.main_arg1))
      ∧ r.2.sem = fun _ => 0)

def quiescent_AttnCatKernel [hAttnCatKernel : Cert.AttnCatKernel.Facts] : Prop :=
  ∀ (m : (ℓ : Loc Cert.AttnCatKernel.nD Cert.AttnCatKernel.τ Cert.AttnCatKernel.sig) → Buf (Elt Bits) ℓ) (g : Dev Cert.AttnCatKernel.nD → PrngReg), Pre_AttnCatKernel m →
    θ_run (Cert.AttnCatKernel.defs (F := Bits)) (onTc (τ := Cert.AttnCatKernel.τ) (Cert.AttnCatKernel.main (F := Bits))) ⟨m, fun _ => 0, g⟩ (fun r => (∀ c : Dev Cert.AttnCatKernel.nD,
      r.2.mem ((c.tc : Thread Cert.AttnCatKernel.nD Cert.AttnCatKernel.τ).loc Cert.AttnCatKernel.main_arg0) = m ((c.tc : Thread Cert.AttnCatKernel.nD Cert.AttnCatKernel.τ).loc Cert.AttnCatKernel.main_arg0)
      ∧ r.2.mem ((c.tc : Thread Cert.AttnCatKernel.nD Cert.AttnCatKernel.τ).loc Cert.AttnCatKernel.main_arg1) = m ((c.tc : Thread Cert.AttnCatKernel.nD Cert.AttnCatKernel.τ).loc Cert.AttnCatKernel.main_arg1))
      ∧ r.2.sem = fun _ => 0)

def quiescent_AttnCatKernelIdeal [hAttnCatKernelIdeal : Cert.AttnCatKernelIdeal.Facts] : Prop :=
  ∀ (m : (ℓ : Loc Cert.AttnCatKernelIdeal.nD Cert.AttnCatKernelIdeal.τ Cert.AttnCatKernelIdeal.sig) → Buf (Elt Ideal) ℓ) (g : Dev Cert.AttnCatKernelIdeal.nD → PrngReg), Pre_AttnCatKernelIdeal m →
    θ_run (Cert.AttnCatKernelIdeal.defs (F := Ideal)) (onTc (τ := Cert.AttnCatKernelIdeal.τ) (Cert.AttnCatKernelIdeal.main (F := Ideal))) ⟨m, fun _ => 0, g⟩ (fun r => (∀ c : Dev Cert.AttnCatKernelIdeal.nD,
      r.2.mem ((c.tc : Thread Cert.AttnCatKernelIdeal.nD Cert.AttnCatKernelIdeal.τ).loc Cert.AttnCatKernelIdeal.main_arg0) = m ((c.tc : Thread Cert.AttnCatKernelIdeal.nD Cert.AttnCatKernelIdeal.τ).loc Cert.AttnCatKernelIdeal.main_arg0)
      ∧ r.2.mem ((c.tc : Thread Cert.AttnCatKernelIdeal.nD Cert.AttnCatKernelIdeal.τ).loc Cert.AttnCatKernelIdeal.main_arg1) = m ((c.tc : Thread Cert.AttnCatKernelIdeal.nD Cert.AttnCatKernelIdeal.τ).loc Cert.AttnCatKernelIdeal.main_arg1))
      ∧ r.2.sem = fun _ => 0)

def quiescent_AttnCatReferenceIdeal [hAttnCatReferenceIdeal : Cert.AttnCatReferenceIdeal.Facts] : Prop :=
  ∀ (m : (ℓ : Loc Cert.AttnCatReferenceIdeal.nD Cert.AttnCatReferenceIdeal.τ Cert.AttnCatReferenceIdeal.sig) → Buf (Elt Ideal) ℓ) (g : Dev Cert.AttnCatReferenceIdeal.nD → PrngReg), Pre_AttnCatReferenceIdeal m →
    θ_run (Cert.AttnCatReferenceIdeal.defs (F := Ideal)) (onTc (τ := Cert.AttnCatReferenceIdeal.τ) (Cert.AttnCatReferenceIdeal.main (F := Ideal))) ⟨m, fun _ => 0, g⟩ (fun r => (∀ c : Dev Cert.AttnCatReferenceIdeal.nD,
      r.2.mem ((c.tc : Thread Cert.AttnCatReferenceIdeal.nD Cert.AttnCatReferenceIdeal.τ).loc Cert.AttnCatReferenceIdeal.main_arg0) = m ((c.tc : Thread Cert.AttnCatReferenceIdeal.nD Cert.AttnCatReferenceIdeal.τ).loc Cert.AttnCatReferenceIdeal.main_arg0)
      ∧ r.2.mem ((c.tc : Thread Cert.AttnCatReferenceIdeal.nD Cert.AttnCatReferenceIdeal.τ).loc Cert.AttnCatReferenceIdeal.main_arg1) = m ((c.tc : Thread Cert.AttnCatReferenceIdeal.nD Cert.AttnCatReferenceIdeal.τ).loc Cert.AttnCatReferenceIdeal.main_arg1))
      ∧ r.2.sem = fun _ => 0)

def quiescent_SguOutWKernel [hSguOutWKernel : Cert.SguOutWKernel.Facts] : Prop :=
  ∀ (m : (ℓ : Loc Cert.SguOutWKernel.nD Cert.SguOutWKernel.τ Cert.SguOutWKernel.sig) → Buf (Elt Bits) ℓ) (g : Dev Cert.SguOutWKernel.nD → PrngReg), Pre_SguOutWKernel m →
    θ_run (Cert.SguOutWKernel.defs (F := Bits)) (onTc (τ := Cert.SguOutWKernel.τ) (Cert.SguOutWKernel.main (F := Bits))) ⟨m, fun _ => 0, g⟩ (fun r => (∀ c : Dev Cert.SguOutWKernel.nD,
      r.2.mem ((c.tc : Thread Cert.SguOutWKernel.nD Cert.SguOutWKernel.τ).loc Cert.SguOutWKernel.main_arg0) = m ((c.tc : Thread Cert.SguOutWKernel.nD Cert.SguOutWKernel.τ).loc Cert.SguOutWKernel.main_arg0)
      ∧ r.2.mem ((c.tc : Thread Cert.SguOutWKernel.nD Cert.SguOutWKernel.τ).loc Cert.SguOutWKernel.main_arg1) = m ((c.tc : Thread Cert.SguOutWKernel.nD Cert.SguOutWKernel.τ).loc Cert.SguOutWKernel.main_arg1)
      ∧ r.2.mem ((c.tc : Thread Cert.SguOutWKernel.nD Cert.SguOutWKernel.τ).loc Cert.SguOutWKernel.main_arg2) = m ((c.tc : Thread Cert.SguOutWKernel.nD Cert.SguOutWKernel.τ).loc Cert.SguOutWKernel.main_arg2))
      ∧ r.2.sem = fun _ => 0)

def quiescent_SguOutWKernelIdeal [hSguOutWKernelIdeal : Cert.SguOutWKernelIdeal.Facts] : Prop :=
  ∀ (m : (ℓ : Loc Cert.SguOutWKernelIdeal.nD Cert.SguOutWKernelIdeal.τ Cert.SguOutWKernelIdeal.sig) → Buf (Elt Ideal) ℓ) (g : Dev Cert.SguOutWKernelIdeal.nD → PrngReg), Pre_SguOutWKernelIdeal m →
    θ_run (Cert.SguOutWKernelIdeal.defs (F := Ideal)) (onTc (τ := Cert.SguOutWKernelIdeal.τ) (Cert.SguOutWKernelIdeal.main (F := Ideal))) ⟨m, fun _ => 0, g⟩ (fun r => (∀ c : Dev Cert.SguOutWKernelIdeal.nD,
      r.2.mem ((c.tc : Thread Cert.SguOutWKernelIdeal.nD Cert.SguOutWKernelIdeal.τ).loc Cert.SguOutWKernelIdeal.main_arg0) = m ((c.tc : Thread Cert.SguOutWKernelIdeal.nD Cert.SguOutWKernelIdeal.τ).loc Cert.SguOutWKernelIdeal.main_arg0)
      ∧ r.2.mem ((c.tc : Thread Cert.SguOutWKernelIdeal.nD Cert.SguOutWKernelIdeal.τ).loc Cert.SguOutWKernelIdeal.main_arg1) = m ((c.tc : Thread Cert.SguOutWKernelIdeal.nD Cert.SguOutWKernelIdeal.τ).loc Cert.SguOutWKernelIdeal.main_arg1)
      ∧ r.2.mem ((c.tc : Thread Cert.SguOutWKernelIdeal.nD Cert.SguOutWKernelIdeal.τ).loc Cert.SguOutWKernelIdeal.main_arg2) = m ((c.tc : Thread Cert.SguOutWKernelIdeal.nD Cert.SguOutWKernelIdeal.τ).loc Cert.SguOutWKernelIdeal.main_arg2))
      ∧ r.2.sem = fun _ => 0)

def quiescent_SguOutWReferenceIdeal [hSguOutWReferenceIdeal : Cert.SguOutWReferenceIdeal.Facts] : Prop :=
  ∀ (m : (ℓ : Loc Cert.SguOutWReferenceIdeal.nD Cert.SguOutWReferenceIdeal.τ Cert.SguOutWReferenceIdeal.sig) → Buf (Elt Ideal) ℓ) (g : Dev Cert.SguOutWReferenceIdeal.nD → PrngReg), Pre_SguOutWReferenceIdeal m →
    θ_run (Cert.SguOutWReferenceIdeal.defs (F := Ideal)) (onTc (τ := Cert.SguOutWReferenceIdeal.τ) (Cert.SguOutWReferenceIdeal.main (F := Ideal))) ⟨m, fun _ => 0, g⟩ (fun r => (∀ c : Dev Cert.SguOutWReferenceIdeal.nD,
      r.2.mem ((c.tc : Thread Cert.SguOutWReferenceIdeal.nD Cert.SguOutWReferenceIdeal.τ).loc Cert.SguOutWReferenceIdeal.main_arg0) = m ((c.tc : Thread Cert.SguOutWReferenceIdeal.nD Cert.SguOutWReferenceIdeal.τ).loc Cert.SguOutWReferenceIdeal.main_arg0)
      ∧ r.2.mem ((c.tc : Thread Cert.SguOutWReferenceIdeal.nD Cert.SguOutWReferenceIdeal.τ).loc Cert.SguOutWReferenceIdeal.main_arg1) = m ((c.tc : Thread Cert.SguOutWReferenceIdeal.nD Cert.SguOutWReferenceIdeal.τ).loc Cert.SguOutWReferenceIdeal.main_arg1)
      ∧ r.2.mem ((c.tc : Thread Cert.SguOutWReferenceIdeal.nD Cert.SguOutWReferenceIdeal.τ).loc Cert.SguOutWReferenceIdeal.main_arg2) = m ((c.tc : Thread Cert.SguOutWReferenceIdeal.nD Cert.SguOutWReferenceIdeal.τ).loc Cert.SguOutWReferenceIdeal.main_arg2))
      ∧ r.2.sem = fun _ => 0)

def quiescent_AttnOutWKernel [hAttnOutWKernel : Cert.AttnOutWKernel.Facts] : Prop :=
  ∀ (m : (ℓ : Loc Cert.AttnOutWKernel.nD Cert.AttnOutWKernel.τ Cert.AttnOutWKernel.sig) → Buf (Elt Bits) ℓ) (g : Dev Cert.AttnOutWKernel.nD → PrngReg), Pre_AttnOutWKernel m →
    θ_run (Cert.AttnOutWKernel.defs (F := Bits)) (onTc (τ := Cert.AttnOutWKernel.τ) (Cert.AttnOutWKernel.main (F := Bits))) ⟨m, fun _ => 0, g⟩ (fun r => (∀ c : Dev Cert.AttnOutWKernel.nD,
      r.2.mem ((c.tc : Thread Cert.AttnOutWKernel.nD Cert.AttnOutWKernel.τ).loc Cert.AttnOutWKernel.main_arg0) = m ((c.tc : Thread Cert.AttnOutWKernel.nD Cert.AttnOutWKernel.τ).loc Cert.AttnOutWKernel.main_arg0)
      ∧ r.2.mem ((c.tc : Thread Cert.AttnOutWKernel.nD Cert.AttnOutWKernel.τ).loc Cert.AttnOutWKernel.main_arg1) = m ((c.tc : Thread Cert.AttnOutWKernel.nD Cert.AttnOutWKernel.τ).loc Cert.AttnOutWKernel.main_arg1)
      ∧ r.2.mem ((c.tc : Thread Cert.AttnOutWKernel.nD Cert.AttnOutWKernel.τ).loc Cert.AttnOutWKernel.main_arg2) = m ((c.tc : Thread Cert.AttnOutWKernel.nD Cert.AttnOutWKernel.τ).loc Cert.AttnOutWKernel.main_arg2))
      ∧ r.2.sem = fun _ => 0)

def quiescent_AttnOutWKernelIdeal [hAttnOutWKernelIdeal : Cert.AttnOutWKernelIdeal.Facts] : Prop :=
  ∀ (m : (ℓ : Loc Cert.AttnOutWKernelIdeal.nD Cert.AttnOutWKernelIdeal.τ Cert.AttnOutWKernelIdeal.sig) → Buf (Elt Ideal) ℓ) (g : Dev Cert.AttnOutWKernelIdeal.nD → PrngReg), Pre_AttnOutWKernelIdeal m →
    θ_run (Cert.AttnOutWKernelIdeal.defs (F := Ideal)) (onTc (τ := Cert.AttnOutWKernelIdeal.τ) (Cert.AttnOutWKernelIdeal.main (F := Ideal))) ⟨m, fun _ => 0, g⟩ (fun r => (∀ c : Dev Cert.AttnOutWKernelIdeal.nD,
      r.2.mem ((c.tc : Thread Cert.AttnOutWKernelIdeal.nD Cert.AttnOutWKernelIdeal.τ).loc Cert.AttnOutWKernelIdeal.main_arg0) = m ((c.tc : Thread Cert.AttnOutWKernelIdeal.nD Cert.AttnOutWKernelIdeal.τ).loc Cert.AttnOutWKernelIdeal.main_arg0)
      ∧ r.2.mem ((c.tc : Thread Cert.AttnOutWKernelIdeal.nD Cert.AttnOutWKernelIdeal.τ).loc Cert.AttnOutWKernelIdeal.main_arg1) = m ((c.tc : Thread Cert.AttnOutWKernelIdeal.nD Cert.AttnOutWKernelIdeal.τ).loc Cert.AttnOutWKernelIdeal.main_arg1)
      ∧ r.2.mem ((c.tc : Thread Cert.AttnOutWKernelIdeal.nD Cert.AttnOutWKernelIdeal.τ).loc Cert.AttnOutWKernelIdeal.main_arg2) = m ((c.tc : Thread Cert.AttnOutWKernelIdeal.nD Cert.AttnOutWKernelIdeal.τ).loc Cert.AttnOutWKernelIdeal.main_arg2))
      ∧ r.2.sem = fun _ => 0)

def quiescent_AttnOutWReferenceIdeal [hAttnOutWReferenceIdeal : Cert.AttnOutWReferenceIdeal.Facts] : Prop :=
  ∀ (m : (ℓ : Loc Cert.AttnOutWReferenceIdeal.nD Cert.AttnOutWReferenceIdeal.τ Cert.AttnOutWReferenceIdeal.sig) → Buf (Elt Ideal) ℓ) (g : Dev Cert.AttnOutWReferenceIdeal.nD → PrngReg), Pre_AttnOutWReferenceIdeal m →
    θ_run (Cert.AttnOutWReferenceIdeal.defs (F := Ideal)) (onTc (τ := Cert.AttnOutWReferenceIdeal.τ) (Cert.AttnOutWReferenceIdeal.main (F := Ideal))) ⟨m, fun _ => 0, g⟩ (fun r => (∀ c : Dev Cert.AttnOutWReferenceIdeal.nD,
      r.2.mem ((c.tc : Thread Cert.AttnOutWReferenceIdeal.nD Cert.AttnOutWReferenceIdeal.τ).loc Cert.AttnOutWReferenceIdeal.main_arg0) = m ((c.tc : Thread Cert.AttnOutWReferenceIdeal.nD Cert.AttnOutWReferenceIdeal.τ).loc Cert.AttnOutWReferenceIdeal.main_arg0)
      ∧ r.2.mem ((c.tc : Thread Cert.AttnOutWReferenceIdeal.nD Cert.AttnOutWReferenceIdeal.τ).loc Cert.AttnOutWReferenceIdeal.main_arg1) = m ((c.tc : Thread Cert.AttnOutWReferenceIdeal.nD Cert.AttnOutWReferenceIdeal.τ).loc Cert.AttnOutWReferenceIdeal.main_arg1)
      ∧ r.2.mem ((c.tc : Thread Cert.AttnOutWReferenceIdeal.nD Cert.AttnOutWReferenceIdeal.τ).loc Cert.AttnOutWReferenceIdeal.main_arg2) = m ((c.tc : Thread Cert.AttnOutWReferenceIdeal.nD Cert.AttnOutWReferenceIdeal.τ).loc Cert.AttnOutWReferenceIdeal.main_arg2))
      ∧ r.2.sem = fun _ => 0)

def quiescent_SguOutKernel [hSguOutKernel : Cert.SguOutKernel.Facts] : Prop :=
  ∀ (m : (ℓ : Loc Cert.SguOutKernel.nD Cert.SguOutKernel.τ Cert.SguOutKernel.sig) → Buf (Elt Bits) ℓ) (g : Dev Cert.SguOutKernel.nD → PrngReg), Pre_SguOutKernel m →
    θ_run (Cert.SguOutKernel.defs (F := Bits)) (onTc (τ := Cert.SguOutKernel.τ) (Cert.SguOutKernel.main (F := Bits))) ⟨m, fun _ => 0, g⟩ (fun r => (∀ c : Dev Cert.SguOutKernel.nD,
      r.2.mem ((c.tc : Thread Cert.SguOutKernel.nD Cert.SguOutKernel.τ).loc Cert.SguOutKernel.main_arg0) = m ((c.tc : Thread Cert.SguOutKernel.nD Cert.SguOutKernel.τ).loc Cert.SguOutKernel.main_arg0)
      ∧ r.2.mem ((c.tc : Thread Cert.SguOutKernel.nD Cert.SguOutKernel.τ).loc Cert.SguOutKernel.main_arg1) = m ((c.tc : Thread Cert.SguOutKernel.nD Cert.SguOutKernel.τ).loc Cert.SguOutKernel.main_arg1)
      ∧ r.2.mem ((c.tc : Thread Cert.SguOutKernel.nD Cert.SguOutKernel.τ).loc Cert.SguOutKernel.main_arg2) = m ((c.tc : Thread Cert.SguOutKernel.nD Cert.SguOutKernel.τ).loc Cert.SguOutKernel.main_arg2)
      ∧ r.2.mem ((c.tc : Thread Cert.SguOutKernel.nD Cert.SguOutKernel.τ).loc Cert.SguOutKernel.main_arg3) = m ((c.tc : Thread Cert.SguOutKernel.nD Cert.SguOutKernel.τ).loc Cert.SguOutKernel.main_arg3))
      ∧ r.2.sem = fun _ => 0)

def quiescent_SguOutKernelIdeal [hSguOutKernelIdeal : Cert.SguOutKernelIdeal.Facts] : Prop :=
  ∀ (m : (ℓ : Loc Cert.SguOutKernelIdeal.nD Cert.SguOutKernelIdeal.τ Cert.SguOutKernelIdeal.sig) → Buf (Elt Ideal) ℓ) (g : Dev Cert.SguOutKernelIdeal.nD → PrngReg), Pre_SguOutKernelIdeal m →
    θ_run (Cert.SguOutKernelIdeal.defs (F := Ideal)) (onTc (τ := Cert.SguOutKernelIdeal.τ) (Cert.SguOutKernelIdeal.main (F := Ideal))) ⟨m, fun _ => 0, g⟩ (fun r => (∀ c : Dev Cert.SguOutKernelIdeal.nD,
      r.2.mem ((c.tc : Thread Cert.SguOutKernelIdeal.nD Cert.SguOutKernelIdeal.τ).loc Cert.SguOutKernelIdeal.main_arg0) = m ((c.tc : Thread Cert.SguOutKernelIdeal.nD Cert.SguOutKernelIdeal.τ).loc Cert.SguOutKernelIdeal.main_arg0)
      ∧ r.2.mem ((c.tc : Thread Cert.SguOutKernelIdeal.nD Cert.SguOutKernelIdeal.τ).loc Cert.SguOutKernelIdeal.main_arg1) = m ((c.tc : Thread Cert.SguOutKernelIdeal.nD Cert.SguOutKernelIdeal.τ).loc Cert.SguOutKernelIdeal.main_arg1)
      ∧ r.2.mem ((c.tc : Thread Cert.SguOutKernelIdeal.nD Cert.SguOutKernelIdeal.τ).loc Cert.SguOutKernelIdeal.main_arg2) = m ((c.tc : Thread Cert.SguOutKernelIdeal.nD Cert.SguOutKernelIdeal.τ).loc Cert.SguOutKernelIdeal.main_arg2)
      ∧ r.2.mem ((c.tc : Thread Cert.SguOutKernelIdeal.nD Cert.SguOutKernelIdeal.τ).loc Cert.SguOutKernelIdeal.main_arg3) = m ((c.tc : Thread Cert.SguOutKernelIdeal.nD Cert.SguOutKernelIdeal.τ).loc Cert.SguOutKernelIdeal.main_arg3))
      ∧ r.2.sem = fun _ => 0)

def quiescent_SguOutReferenceIdeal [hSguOutReferenceIdeal : Cert.SguOutReferenceIdeal.Facts] : Prop :=
  ∀ (m : (ℓ : Loc Cert.SguOutReferenceIdeal.nD Cert.SguOutReferenceIdeal.τ Cert.SguOutReferenceIdeal.sig) → Buf (Elt Ideal) ℓ) (g : Dev Cert.SguOutReferenceIdeal.nD → PrngReg), Pre_SguOutReferenceIdeal m →
    θ_run (Cert.SguOutReferenceIdeal.defs (F := Ideal)) (onTc (τ := Cert.SguOutReferenceIdeal.τ) (Cert.SguOutReferenceIdeal.main (F := Ideal))) ⟨m, fun _ => 0, g⟩ (fun r => (∀ c : Dev Cert.SguOutReferenceIdeal.nD,
      r.2.mem ((c.tc : Thread Cert.SguOutReferenceIdeal.nD Cert.SguOutReferenceIdeal.τ).loc Cert.SguOutReferenceIdeal.main_arg0) = m ((c.tc : Thread Cert.SguOutReferenceIdeal.nD Cert.SguOutReferenceIdeal.τ).loc Cert.SguOutReferenceIdeal.main_arg0)
      ∧ r.2.mem ((c.tc : Thread Cert.SguOutReferenceIdeal.nD Cert.SguOutReferenceIdeal.τ).loc Cert.SguOutReferenceIdeal.main_arg1) = m ((c.tc : Thread Cert.SguOutReferenceIdeal.nD Cert.SguOutReferenceIdeal.τ).loc Cert.SguOutReferenceIdeal.main_arg1)
      ∧ r.2.mem ((c.tc : Thread Cert.SguOutReferenceIdeal.nD Cert.SguOutReferenceIdeal.τ).loc Cert.SguOutReferenceIdeal.main_arg2) = m ((c.tc : Thread Cert.SguOutReferenceIdeal.nD Cert.SguOutReferenceIdeal.τ).loc Cert.SguOutReferenceIdeal.main_arg2)
      ∧ r.2.mem ((c.tc : Thread Cert.SguOutReferenceIdeal.nD Cert.SguOutReferenceIdeal.τ).loc Cert.SguOutReferenceIdeal.main_arg3) = m ((c.tc : Thread Cert.SguOutReferenceIdeal.nD Cert.SguOutReferenceIdeal.τ).loc Cert.SguOutReferenceIdeal.main_arg3))
      ∧ r.2.sem = fun _ => 0)

def quiescent_AttnOutKernel [hAttnOutKernel : Cert.AttnOutKernel.Facts] : Prop :=
  ∀ (m : (ℓ : Loc Cert.AttnOutKernel.nD Cert.AttnOutKernel.τ Cert.AttnOutKernel.sig) → Buf (Elt Bits) ℓ) (g : Dev Cert.AttnOutKernel.nD → PrngReg), Pre_AttnOutKernel m →
    θ_run (Cert.AttnOutKernel.defs (F := Bits)) (onTc (τ := Cert.AttnOutKernel.τ) (Cert.AttnOutKernel.main (F := Bits))) ⟨m, fun _ => 0, g⟩ (fun r => (∀ c : Dev Cert.AttnOutKernel.nD,
      r.2.mem ((c.tc : Thread Cert.AttnOutKernel.nD Cert.AttnOutKernel.τ).loc Cert.AttnOutKernel.main_arg0) = m ((c.tc : Thread Cert.AttnOutKernel.nD Cert.AttnOutKernel.τ).loc Cert.AttnOutKernel.main_arg0)
      ∧ r.2.mem ((c.tc : Thread Cert.AttnOutKernel.nD Cert.AttnOutKernel.τ).loc Cert.AttnOutKernel.main_arg1) = m ((c.tc : Thread Cert.AttnOutKernel.nD Cert.AttnOutKernel.τ).loc Cert.AttnOutKernel.main_arg1)
      ∧ r.2.mem ((c.tc : Thread Cert.AttnOutKernel.nD Cert.AttnOutKernel.τ).loc Cert.AttnOutKernel.main_arg2) = m ((c.tc : Thread Cert.AttnOutKernel.nD Cert.AttnOutKernel.τ).loc Cert.AttnOutKernel.main_arg2)
      ∧ r.2.mem ((c.tc : Thread Cert.AttnOutKernel.nD Cert.AttnOutKernel.τ).loc Cert.AttnOutKernel.main_arg3) = m ((c.tc : Thread Cert.AttnOutKernel.nD Cert.AttnOutKernel.τ).loc Cert.AttnOutKernel.main_arg3))
      ∧ r.2.sem = fun _ => 0)

def quiescent_AttnOutKernelIdeal [hAttnOutKernelIdeal : Cert.AttnOutKernelIdeal.Facts] : Prop :=
  ∀ (m : (ℓ : Loc Cert.AttnOutKernelIdeal.nD Cert.AttnOutKernelIdeal.τ Cert.AttnOutKernelIdeal.sig) → Buf (Elt Ideal) ℓ) (g : Dev Cert.AttnOutKernelIdeal.nD → PrngReg), Pre_AttnOutKernelIdeal m →
    θ_run (Cert.AttnOutKernelIdeal.defs (F := Ideal)) (onTc (τ := Cert.AttnOutKernelIdeal.τ) (Cert.AttnOutKernelIdeal.main (F := Ideal))) ⟨m, fun _ => 0, g⟩ (fun r => (∀ c : Dev Cert.AttnOutKernelIdeal.nD,
      r.2.mem ((c.tc : Thread Cert.AttnOutKernelIdeal.nD Cert.AttnOutKernelIdeal.τ).loc Cert.AttnOutKernelIdeal.main_arg0) = m ((c.tc : Thread Cert.AttnOutKernelIdeal.nD Cert.AttnOutKernelIdeal.τ).loc Cert.AttnOutKernelIdeal.main_arg0)
      ∧ r.2.mem ((c.tc : Thread Cert.AttnOutKernelIdeal.nD Cert.AttnOutKernelIdeal.τ).loc Cert.AttnOutKernelIdeal.main_arg1) = m ((c.tc : Thread Cert.AttnOutKernelIdeal.nD Cert.AttnOutKernelIdeal.τ).loc Cert.AttnOutKernelIdeal.main_arg1)
      ∧ r.2.mem ((c.tc : Thread Cert.AttnOutKernelIdeal.nD Cert.AttnOutKernelIdeal.τ).loc Cert.AttnOutKernelIdeal.main_arg2) = m ((c.tc : Thread Cert.AttnOutKernelIdeal.nD Cert.AttnOutKernelIdeal.τ).loc Cert.AttnOutKernelIdeal.main_arg2)
      ∧ r.2.mem ((c.tc : Thread Cert.AttnOutKernelIdeal.nD Cert.AttnOutKernelIdeal.τ).loc Cert.AttnOutKernelIdeal.main_arg3) = m ((c.tc : Thread Cert.AttnOutKernelIdeal.nD Cert.AttnOutKernelIdeal.τ).loc Cert.AttnOutKernelIdeal.main_arg3))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3))
      ∧ r.2.sem = fun _ => 0)

def quiescent_SguFwdKernel [hSguFwdKernel : Cert.SguFwdKernel.Facts] : Prop :=
  ∀ (m : (ℓ : Loc Cert.SguFwdKernel.nD Cert.SguFwdKernel.τ Cert.SguFwdKernel.sig) → Buf (Elt Bits) ℓ) (g : Dev Cert.SguFwdKernel.nD → PrngReg), Pre_SguFwdKernel m →
    θ_run (Cert.SguFwdKernel.defs (F := Bits)) (onTc (τ := Cert.SguFwdKernel.τ) (Cert.SguFwdKernel.main (F := Bits))) ⟨m, fun _ => 0, g⟩ (fun r => (∀ c : Dev Cert.SguFwdKernel.nD,
      r.2.mem ((c.tc : Thread Cert.SguFwdKernel.nD Cert.SguFwdKernel.τ).loc Cert.SguFwdKernel.main_arg0) = m ((c.tc : Thread Cert.SguFwdKernel.nD Cert.SguFwdKernel.τ).loc Cert.SguFwdKernel.main_arg0)
      ∧ r.2.mem ((c.tc : Thread Cert.SguFwdKernel.nD Cert.SguFwdKernel.τ).loc Cert.SguFwdKernel.main_arg1) = m ((c.tc : Thread Cert.SguFwdKernel.nD Cert.SguFwdKernel.τ).loc Cert.SguFwdKernel.main_arg1)
      ∧ r.2.mem ((c.tc : Thread Cert.SguFwdKernel.nD Cert.SguFwdKernel.τ).loc Cert.SguFwdKernel.main_arg2) = m ((c.tc : Thread Cert.SguFwdKernel.nD Cert.SguFwdKernel.τ).loc Cert.SguFwdKernel.main_arg2)
      ∧ r.2.mem ((c.tc : Thread Cert.SguFwdKernel.nD Cert.SguFwdKernel.τ).loc Cert.SguFwdKernel.main_arg3) = m ((c.tc : Thread Cert.SguFwdKernel.nD Cert.SguFwdKernel.τ).loc Cert.SguFwdKernel.main_arg3)
      ∧ r.2.mem ((c.tc : Thread Cert.SguFwdKernel.nD Cert.SguFwdKernel.τ).loc Cert.SguFwdKernel.main_arg4) = m ((c.tc : Thread Cert.SguFwdKernel.nD Cert.SguFwdKernel.τ).loc Cert.SguFwdKernel.main_arg4))
      ∧ r.2.sem = fun _ => 0)

def quiescent_SguFwdKernelIdeal [hSguFwdKernelIdeal : Cert.SguFwdKernelIdeal.Facts] : Prop :=
  ∀ (m : (ℓ : Loc Cert.SguFwdKernelIdeal.nD Cert.SguFwdKernelIdeal.τ Cert.SguFwdKernelIdeal.sig) → Buf (Elt Ideal) ℓ) (g : Dev Cert.SguFwdKernelIdeal.nD → PrngReg), Pre_SguFwdKernelIdeal m →
    θ_run (Cert.SguFwdKernelIdeal.defs (F := Ideal)) (onTc (τ := Cert.SguFwdKernelIdeal.τ) (Cert.SguFwdKernelIdeal.main (F := Ideal))) ⟨m, fun _ => 0, g⟩ (fun r => (∀ c : Dev Cert.SguFwdKernelIdeal.nD,
      r.2.mem ((c.tc : Thread Cert.SguFwdKernelIdeal.nD Cert.SguFwdKernelIdeal.τ).loc Cert.SguFwdKernelIdeal.main_arg0) = m ((c.tc : Thread Cert.SguFwdKernelIdeal.nD Cert.SguFwdKernelIdeal.τ).loc Cert.SguFwdKernelIdeal.main_arg0)
      ∧ r.2.mem ((c.tc : Thread Cert.SguFwdKernelIdeal.nD Cert.SguFwdKernelIdeal.τ).loc Cert.SguFwdKernelIdeal.main_arg1) = m ((c.tc : Thread Cert.SguFwdKernelIdeal.nD Cert.SguFwdKernelIdeal.τ).loc Cert.SguFwdKernelIdeal.main_arg1)
      ∧ r.2.mem ((c.tc : Thread Cert.SguFwdKernelIdeal.nD Cert.SguFwdKernelIdeal.τ).loc Cert.SguFwdKernelIdeal.main_arg2) = m ((c.tc : Thread Cert.SguFwdKernelIdeal.nD Cert.SguFwdKernelIdeal.τ).loc Cert.SguFwdKernelIdeal.main_arg2)
      ∧ r.2.mem ((c.tc : Thread Cert.SguFwdKernelIdeal.nD Cert.SguFwdKernelIdeal.τ).loc Cert.SguFwdKernelIdeal.main_arg3) = m ((c.tc : Thread Cert.SguFwdKernelIdeal.nD Cert.SguFwdKernelIdeal.τ).loc Cert.SguFwdKernelIdeal.main_arg3)
      ∧ r.2.mem ((c.tc : Thread Cert.SguFwdKernelIdeal.nD Cert.SguFwdKernelIdeal.τ).loc Cert.SguFwdKernelIdeal.main_arg4) = m ((c.tc : Thread Cert.SguFwdKernelIdeal.nD Cert.SguFwdKernelIdeal.τ).loc Cert.SguFwdKernelIdeal.main_arg4))
      ∧ r.2.sem = fun _ => 0)

def quiescent_SguFwdReferenceIdeal [hSguFwdReferenceIdeal : Cert.SguFwdReferenceIdeal.Facts] : Prop :=
  ∀ (m : (ℓ : Loc Cert.SguFwdReferenceIdeal.nD Cert.SguFwdReferenceIdeal.τ Cert.SguFwdReferenceIdeal.sig) → Buf (Elt Ideal) ℓ) (g : Dev Cert.SguFwdReferenceIdeal.nD → PrngReg), Pre_SguFwdReferenceIdeal m →
    θ_run (Cert.SguFwdReferenceIdeal.defs (F := Ideal)) (onTc (τ := Cert.SguFwdReferenceIdeal.τ) (Cert.SguFwdReferenceIdeal.main (F := Ideal))) ⟨m, fun _ => 0, g⟩ (fun r => (∀ c : Dev Cert.SguFwdReferenceIdeal.nD,
      r.2.mem ((c.tc : Thread Cert.SguFwdReferenceIdeal.nD Cert.SguFwdReferenceIdeal.τ).loc Cert.SguFwdReferenceIdeal.main_arg0) = m ((c.tc : Thread Cert.SguFwdReferenceIdeal.nD Cert.SguFwdReferenceIdeal.τ).loc Cert.SguFwdReferenceIdeal.main_arg0)
      ∧ r.2.mem ((c.tc : Thread Cert.SguFwdReferenceIdeal.nD Cert.SguFwdReferenceIdeal.τ).loc Cert.SguFwdReferenceIdeal.main_arg1) = m ((c.tc : Thread Cert.SguFwdReferenceIdeal.nD Cert.SguFwdReferenceIdeal.τ).loc Cert.SguFwdReferenceIdeal.main_arg1)
      ∧ r.2.mem ((c.tc : Thread Cert.SguFwdReferenceIdeal.nD Cert.SguFwdReferenceIdeal.τ).loc Cert.SguFwdReferenceIdeal.main_arg2) = m ((c.tc : Thread Cert.SguFwdReferenceIdeal.nD Cert.SguFwdReferenceIdeal.τ).loc Cert.SguFwdReferenceIdeal.main_arg2)
      ∧ r.2.mem ((c.tc : Thread Cert.SguFwdReferenceIdeal.nD Cert.SguFwdReferenceIdeal.τ).loc Cert.SguFwdReferenceIdeal.main_arg3) = m ((c.tc : Thread Cert.SguFwdReferenceIdeal.nD Cert.SguFwdReferenceIdeal.τ).loc Cert.SguFwdReferenceIdeal.main_arg3)
      ∧ r.2.mem ((c.tc : Thread Cert.SguFwdReferenceIdeal.nD Cert.SguFwdReferenceIdeal.τ).loc Cert.SguFwdReferenceIdeal.main_arg4) = m ((c.tc : Thread Cert.SguFwdReferenceIdeal.nD Cert.SguFwdReferenceIdeal.τ).loc Cert.SguFwdReferenceIdeal.main_arg4))
      ∧ r.2.sem = fun _ => 0)

def quiescent_SguBwdKernel [hSguBwdKernel : Cert.SguBwdKernel.Facts] : Prop :=
  ∀ (m : (ℓ : Loc Cert.SguBwdKernel.nD Cert.SguBwdKernel.τ Cert.SguBwdKernel.sig) → Buf (Elt Bits) ℓ) (g : Dev Cert.SguBwdKernel.nD → PrngReg), Pre_SguBwdKernel m →
    θ_run (Cert.SguBwdKernel.defs (F := Bits)) (onTc (τ := Cert.SguBwdKernel.τ) (Cert.SguBwdKernel.main (F := Bits))) ⟨m, fun _ => 0, g⟩ (fun r => (∀ c : Dev Cert.SguBwdKernel.nD,
      r.2.mem ((c.tc : Thread Cert.SguBwdKernel.nD Cert.SguBwdKernel.τ).loc Cert.SguBwdKernel.main_arg0) = m ((c.tc : Thread Cert.SguBwdKernel.nD Cert.SguBwdKernel.τ).loc Cert.SguBwdKernel.main_arg0)
      ∧ r.2.mem ((c.tc : Thread Cert.SguBwdKernel.nD Cert.SguBwdKernel.τ).loc Cert.SguBwdKernel.main_arg1) = m ((c.tc : Thread Cert.SguBwdKernel.nD Cert.SguBwdKernel.τ).loc Cert.SguBwdKernel.main_arg1)
      ∧ r.2.mem ((c.tc : Thread Cert.SguBwdKernel.nD Cert.SguBwdKernel.τ).loc Cert.SguBwdKernel.main_arg2) = m ((c.tc : Thread Cert.SguBwdKernel.nD Cert.SguBwdKernel.τ).loc Cert.SguBwdKernel.main_arg2)
      ∧ r.2.mem ((c.tc : Thread Cert.SguBwdKernel.nD Cert.SguBwdKernel.τ).loc Cert.SguBwdKernel.main_arg3) = m ((c.tc : Thread Cert.SguBwdKernel.nD Cert.SguBwdKernel.τ).loc Cert.SguBwdKernel.main_arg3)
      ∧ r.2.mem ((c.tc : Thread Cert.SguBwdKernel.nD Cert.SguBwdKernel.τ).loc Cert.SguBwdKernel.main_arg4) = m ((c.tc : Thread Cert.SguBwdKernel.nD Cert.SguBwdKernel.τ).loc Cert.SguBwdKernel.main_arg4)
      ∧ r.2.mem ((c.tc : Thread Cert.SguBwdKernel.nD Cert.SguBwdKernel.τ).loc Cert.SguBwdKernel.main_arg5) = m ((c.tc : Thread Cert.SguBwdKernel.nD Cert.SguBwdKernel.τ).loc Cert.SguBwdKernel.main_arg5)
      ∧ r.2.mem ((c.tc : Thread Cert.SguBwdKernel.nD Cert.SguBwdKernel.τ).loc Cert.SguBwdKernel.main_arg6) = m ((c.tc : Thread Cert.SguBwdKernel.nD Cert.SguBwdKernel.τ).loc Cert.SguBwdKernel.main_arg6))
      ∧ r.2.sem = fun _ => 0)

def quiescent_SguBwdKernelIdeal [hSguBwdKernelIdeal : Cert.SguBwdKernelIdeal.Facts] : Prop :=
  ∀ (m : (ℓ : Loc Cert.SguBwdKernelIdeal.nD Cert.SguBwdKernelIdeal.τ Cert.SguBwdKernelIdeal.sig) → Buf (Elt Ideal) ℓ) (g : Dev Cert.SguBwdKernelIdeal.nD → PrngReg), Pre_SguBwdKernelIdeal m →
    θ_run (Cert.SguBwdKernelIdeal.defs (F := Ideal)) (onTc (τ := Cert.SguBwdKernelIdeal.τ) (Cert.SguBwdKernelIdeal.main (F := Ideal))) ⟨m, fun _ => 0, g⟩ (fun r => (∀ c : Dev Cert.SguBwdKernelIdeal.nD,
      r.2.mem ((c.tc : Thread Cert.SguBwdKernelIdeal.nD Cert.SguBwdKernelIdeal.τ).loc Cert.SguBwdKernelIdeal.main_arg0) = m ((c.tc : Thread Cert.SguBwdKernelIdeal.nD Cert.SguBwdKernelIdeal.τ).loc Cert.SguBwdKernelIdeal.main_arg0)
      ∧ r.2.mem ((c.tc : Thread Cert.SguBwdKernelIdeal.nD Cert.SguBwdKernelIdeal.τ).loc Cert.SguBwdKernelIdeal.main_arg1) = m ((c.tc : Thread Cert.SguBwdKernelIdeal.nD Cert.SguBwdKernelIdeal.τ).loc Cert.SguBwdKernelIdeal.main_arg1)
      ∧ r.2.mem ((c.tc : Thread Cert.SguBwdKernelIdeal.nD Cert.SguBwdKernelIdeal.τ).loc Cert.SguBwdKernelIdeal.main_arg2) = m ((c.tc : Thread Cert.SguBwdKernelIdeal.nD Cert.SguBwdKernelIdeal.τ).loc Cert.SguBwdKernelIdeal.main_arg2)
      ∧ r.2.mem ((c.tc : Thread Cert.SguBwdKernelIdeal.nD Cert.SguBwdKernelIdeal.τ).loc Cert.SguBwdKernelIdeal.main_arg3) = m ((c.tc : Thread Cert.SguBwdKernelIdeal.nD Cert.SguBwdKernelIdeal.τ).loc Cert.SguBwdKernelIdeal.main_arg3)
      ∧ r.2.mem ((c.tc : Thread Cert.SguBwdKernelIdeal.nD Cert.SguBwdKernelIdeal.τ).loc Cert.SguBwdKernelIdeal.main_arg4) = m ((c.tc : Thread Cert.SguBwdKernelIdeal.nD Cert.SguBwdKernelIdeal.τ).loc Cert.SguBwdKernelIdeal.main_arg4)
      ∧ r.2.mem ((c.tc : Thread Cert.SguBwdKernelIdeal.nD Cert.SguBwdKernelIdeal.τ).loc Cert.SguBwdKernelIdeal.main_arg5) = m ((c.tc : Thread Cert.SguBwdKernelIdeal.nD Cert.SguBwdKernelIdeal.τ).loc Cert.SguBwdKernelIdeal.main_arg5)
      ∧ r.2.mem ((c.tc : Thread Cert.SguBwdKernelIdeal.nD Cert.SguBwdKernelIdeal.τ).loc Cert.SguBwdKernelIdeal.main_arg6) = m ((c.tc : Thread Cert.SguBwdKernelIdeal.nD Cert.SguBwdKernelIdeal.τ).loc Cert.SguBwdKernelIdeal.main_arg6))
      ∧ r.2.sem = fun _ => 0)

def quiescent_SguBwdKernelIdeal_pre_finite_gating [hSguBwdKernelIdeal : Cert.SguBwdKernelIdeal.Facts] [hPre_finite_gating : Cert.Pre_finite_gating.Facts] : Prop :=
  ∀ (m : (ℓ : Loc Cert.SguBwdKernelIdeal.nD Cert.SguBwdKernelIdeal.τ Cert.SguBwdKernelIdeal.sig) → Buf (Elt Ideal) ℓ) (g : Dev Cert.SguBwdKernelIdeal.nD → PrngReg), Pre_SguBwdKernelIdeal_finite_gating m →
    θ_run (Cert.SguBwdKernelIdeal.defs (F := Ideal)) (onTc (τ := Cert.SguBwdKernelIdeal.τ) (Cert.SguBwdKernelIdeal.main (F := Ideal))) ⟨m, fun _ => 0, g⟩ (fun r => (∀ c : Dev Cert.SguBwdKernelIdeal.nD,
      r.2.mem ((c.tc : Thread Cert.SguBwdKernelIdeal.nD Cert.SguBwdKernelIdeal.τ).loc Cert.SguBwdKernelIdeal.main_arg0) = m ((c.tc : Thread Cert.SguBwdKernelIdeal.nD Cert.SguBwdKernelIdeal.τ).loc Cert.SguBwdKernelIdeal.main_arg0)
      ∧ r.2.mem ((c.tc : Thread Cert.SguBwdKernelIdeal.nD Cert.SguBwdKernelIdeal.τ).loc Cert.SguBwdKernelIdeal.main_arg1) = m ((c.tc : Thread Cert.SguBwdKernelIdeal.nD Cert.SguBwdKernelIdeal.τ).loc Cert.SguBwdKernelIdeal.main_arg1)
      ∧ r.2.mem ((c.tc : Thread Cert.SguBwdKernelIdeal.nD Cert.SguBwdKernelIdeal.τ).loc Cert.SguBwdKernelIdeal.main_arg2) = m ((c.tc : Thread Cert.SguBwdKernelIdeal.nD Cert.SguBwdKernelIdeal.τ).loc Cert.SguBwdKernelIdeal.main_arg2)
      ∧ r.2.mem ((c.tc : Thread Cert.SguBwdKernelIdeal.nD Cert.SguBwdKernelIdeal.τ).loc Cert.SguBwdKernelIdeal.main_arg3) = m ((c.tc : Thread Cert.SguBwdKernelIdeal.nD Cert.SguBwdKernelIdeal.τ).loc Cert.SguBwdKernelIdeal.main_arg3)
      ∧ r.2.mem ((c.tc : Thread Cert.SguBwdKernelIdeal.nD Cert.SguBwdKernelIdeal.τ).loc Cert.SguBwdKernelIdeal.main_arg4) = m ((c.tc : Thread Cert.SguBwdKernelIdeal.nD Cert.SguBwdKernelIdeal.τ).loc Cert.SguBwdKernelIdeal.main_arg4)
      ∧ r.2.mem ((c.tc : Thread Cert.SguBwdKernelIdeal.nD Cert.SguBwdKernelIdeal.τ).loc Cert.SguBwdKernelIdeal.main_arg5) = m ((c.tc : Thread Cert.SguBwdKernelIdeal.nD Cert.SguBwdKernelIdeal.τ).loc Cert.SguBwdKernelIdeal.main_arg5)
      ∧ r.2.mem ((c.tc : Thread Cert.SguBwdKernelIdeal.nD Cert.SguBwdKernelIdeal.τ).loc Cert.SguBwdKernelIdeal.main_arg6) = m ((c.tc : Thread Cert.SguBwdKernelIdeal.nD Cert.SguBwdKernelIdeal.τ).loc Cert.SguBwdKernelIdeal.main_arg6))
      ∧ r.2.sem = fun _ => 0)

def quiescent_SguBwdReferenceIdeal [hSguBwdReferenceIdeal : Cert.SguBwdReferenceIdeal.Facts] : Prop :=
  ∀ (m : (ℓ : Loc Cert.SguBwdReferenceIdeal.nD Cert.SguBwdReferenceIdeal.τ Cert.SguBwdReferenceIdeal.sig) → Buf (Elt Ideal) ℓ) (g : Dev Cert.SguBwdReferenceIdeal.nD → PrngReg), Pre_SguBwdReferenceIdeal m →
    θ_run (Cert.SguBwdReferenceIdeal.defs (F := Ideal)) (onTc (τ := Cert.SguBwdReferenceIdeal.τ) (Cert.SguBwdReferenceIdeal.main (F := Ideal))) ⟨m, fun _ => 0, g⟩ (fun r => (∀ c : Dev Cert.SguBwdReferenceIdeal.nD,
      r.2.mem ((c.tc : Thread Cert.SguBwdReferenceIdeal.nD Cert.SguBwdReferenceIdeal.τ).loc Cert.SguBwdReferenceIdeal.main_arg0) = m ((c.tc : Thread Cert.SguBwdReferenceIdeal.nD Cert.SguBwdReferenceIdeal.τ).loc Cert.SguBwdReferenceIdeal.main_arg0)
      ∧ r.2.mem ((c.tc : Thread Cert.SguBwdReferenceIdeal.nD Cert.SguBwdReferenceIdeal.τ).loc Cert.SguBwdReferenceIdeal.main_arg1) = m ((c.tc : Thread Cert.SguBwdReferenceIdeal.nD Cert.SguBwdReferenceIdeal.τ).loc Cert.SguBwdReferenceIdeal.main_arg1)
      ∧ r.2.mem ((c.tc : Thread Cert.SguBwdReferenceIdeal.nD Cert.SguBwdReferenceIdeal.τ).loc Cert.SguBwdReferenceIdeal.main_arg2) = m ((c.tc : Thread Cert.SguBwdReferenceIdeal.nD Cert.SguBwdReferenceIdeal.τ).loc Cert.SguBwdReferenceIdeal.main_arg2)
      ∧ r.2.mem ((c.tc : Thread Cert.SguBwdReferenceIdeal.nD Cert.SguBwdReferenceIdeal.τ).loc Cert.SguBwdReferenceIdeal.main_arg3) = m ((c.tc : Thread Cert.SguBwdReferenceIdeal.nD Cert.SguBwdReferenceIdeal.τ).loc Cert.SguBwdReferenceIdeal.main_arg3)
      ∧ r.2.mem ((c.tc : Thread Cert.SguBwdReferenceIdeal.nD Cert.SguBwdReferenceIdeal.τ).loc Cert.SguBwdReferenceIdeal.main_arg4) = m ((c.tc : Thread Cert.SguBwdReferenceIdeal.nD Cert.SguBwdReferenceIdeal.τ).loc Cert.SguBwdReferenceIdeal.main_arg4)
      ∧ r.2.mem ((c.tc : Thread Cert.SguBwdReferenceIdeal.nD Cert.SguBwdReferenceIdeal.τ).loc Cert.SguBwdReferenceIdeal.main_arg5) = m ((c.tc : Thread Cert.SguBwdReferenceIdeal.nD Cert.SguBwdReferenceIdeal.τ).loc Cert.SguBwdReferenceIdeal.main_arg5)
      ∧ r.2.mem ((c.tc : Thread Cert.SguBwdReferenceIdeal.nD Cert.SguBwdReferenceIdeal.τ).loc Cert.SguBwdReferenceIdeal.main_arg6) = m ((c.tc : Thread Cert.SguBwdReferenceIdeal.nD Cert.SguBwdReferenceIdeal.τ).loc Cert.SguBwdReferenceIdeal.main_arg6))
      ∧ r.2.sem = fun _ => 0)

def quiescent_SguBwdReferenceIdeal_pre_finite_gating [hSguBwdReferenceIdeal : Cert.SguBwdReferenceIdeal.Facts] [hPre_finite_gating : Cert.Pre_finite_gating.Facts] : Prop :=
  ∀ (m : (ℓ : Loc Cert.SguBwdReferenceIdeal.nD Cert.SguBwdReferenceIdeal.τ Cert.SguBwdReferenceIdeal.sig) → Buf (Elt Ideal) ℓ) (g : Dev Cert.SguBwdReferenceIdeal.nD → PrngReg), Pre_SguBwdReferenceIdeal_finite_gating m →
    θ_run (Cert.SguBwdReferenceIdeal.defs (F := Ideal)) (onTc (τ := Cert.SguBwdReferenceIdeal.τ) (Cert.SguBwdReferenceIdeal.main (F := Ideal))) ⟨m, fun _ => 0, g⟩ (fun r => (∀ c : Dev Cert.SguBwdReferenceIdeal.nD,
      r.2.mem ((c.tc : Thread Cert.SguBwdReferenceIdeal.nD Cert.SguBwdReferenceIdeal.τ).loc Cert.SguBwdReferenceIdeal.main_arg0) = m ((c.tc : Thread Cert.SguBwdReferenceIdeal.nD Cert.SguBwdReferenceIdeal.τ).loc Cert.SguBwdReferenceIdeal.main_arg0)
      ∧ r.2.mem ((c.tc : Thread Cert.SguBwdReferenceIdeal.nD Cert.SguBwdReferenceIdeal.τ).loc Cert.SguBwdReferenceIdeal.main_arg1) = m ((c.tc : Thread Cert.SguBwdReferenceIdeal.nD Cert.SguBwdReferenceIdeal.τ).loc Cert.SguBwdReferenceIdeal.main_arg1)
      ∧ r.2.mem ((c.tc : Thread Cert.SguBwdReferenceIdeal.nD Cert.SguBwdReferenceIdeal.τ).loc Cert.SguBwdReferenceIdeal.main_arg2) = m ((c.tc : Thread Cert.SguBwdReferenceIdeal.nD Cert.SguBwdReferenceIdeal.τ).loc Cert.SguBwdReferenceIdeal.main_arg2)
      ∧ r.2.mem ((c.tc : Thread Cert.SguBwdReferenceIdeal.nD Cert.SguBwdReferenceIdeal.τ).loc Cert.SguBwdReferenceIdeal.main_arg3) = m ((c.tc : Thread Cert.SguBwdReferenceIdeal.nD Cert.SguBwdReferenceIdeal.τ).loc Cert.SguBwdReferenceIdeal.main_arg3)
      ∧ r.2.mem ((c.tc : Thread Cert.SguBwdReferenceIdeal.nD Cert.SguBwdReferenceIdeal.τ).loc Cert.SguBwdReferenceIdeal.main_arg4) = m ((c.tc : Thread Cert.SguBwdReferenceIdeal.nD Cert.SguBwdReferenceIdeal.τ).loc Cert.SguBwdReferenceIdeal.main_arg4)
      ∧ r.2.mem ((c.tc : Thread Cert.SguBwdReferenceIdeal.nD Cert.SguBwdReferenceIdeal.τ).loc Cert.SguBwdReferenceIdeal.main_arg5) = m ((c.tc : Thread Cert.SguBwdReferenceIdeal.nD Cert.SguBwdReferenceIdeal.τ).loc Cert.SguBwdReferenceIdeal.main_arg5)
      ∧ r.2.mem ((c.tc : Thread Cert.SguBwdReferenceIdeal.nD Cert.SguBwdReferenceIdeal.τ).loc Cert.SguBwdReferenceIdeal.main_arg6) = m ((c.tc : Thread Cert.SguBwdReferenceIdeal.nD Cert.SguBwdReferenceIdeal.τ).loc Cert.SguBwdReferenceIdeal.main_arg6))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1)
      ∧ r.2.mem ((c.tc : Thread Cert.NormKernel.nD Cert.NormKernel.τ).loc Cert.NormKernel.main_arg2) = m ((c.tc : Thread Cert.NormKernel.nD Cert.NormKernel.τ).loc Cert.NormKernel.main_arg2)
      ∧ r.2.mem ((c.tc : Thread Cert.NormKernel.nD Cert.NormKernel.τ).loc Cert.NormKernel.main_arg3) = m ((c.tc : Thread Cert.NormKernel.nD Cert.NormKernel.τ).loc Cert.NormKernel.main_arg3))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
      ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
      ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_MemNormKernel [hMemNormKernel : Cert.MemNormKernel.Facts] : Prop :=
  ∀ (m : (ℓ : Loc Cert.MemNormKernel.nD Cert.MemNormKernel.τ Cert.MemNormKernel.sig) → Buf (Elt Bits) ℓ) (g : Dev Cert.MemNormKernel.nD → PrngReg), Pre_MemNormKernel m →
    θ_run (Cert.MemNormKernel.defs (F := Bits)) (onTc (τ := Cert.MemNormKernel.τ) (Cert.MemNormKernel.main (F := Bits))) ⟨m, fun _ => 0, g⟩ (fun r => (∀ c : Dev Cert.MemNormKernel.nD,
      r.2.mem ((c.tc : Thread Cert.MemNormKernel.nD Cert.MemNormKernel.τ).loc Cert.MemNormKernel.main_arg0) = m ((c.tc : Thread Cert.MemNormKernel.nD Cert.MemNormKernel.τ).loc Cert.MemNormKernel.main_arg0)
      ∧ r.2.mem ((c.tc : Thread Cert.MemNormKernel.nD Cert.MemNormKernel.τ).loc Cert.MemNormKernel.main_arg1) = m ((c.tc : Thread Cert.MemNormKernel.nD Cert.MemNormKernel.τ).loc Cert.MemNormKernel.main_arg1)
      ∧ r.2.mem ((c.tc : Thread Cert.MemNormKernel.nD Cert.MemNormKernel.τ).loc Cert.MemNormKernel.main_arg2) = m ((c.tc : Thread Cert.MemNormKernel.nD Cert.MemNormKernel.τ).loc Cert.MemNormKernel.main_arg2))
      ∧ r.2.sem = fun _ => 0)

def quiescent_MemNormKernelIdeal [hMemNormKernelIdeal : Cert.MemNormKernelIdeal.Facts] : Prop :=
  ∀ (m : (ℓ : Loc Cert.MemNormKernelIdeal.nD Cert.MemNormKernelIdeal.τ Cert.MemNormKernelIdeal.sig) → Buf (Elt Ideal) ℓ) (g : Dev Cert.MemNormKernelIdeal.nD → PrngReg), Pre_MemNormKernelIdeal m →
    θ_run (Cert.MemNormKernelIdeal.defs (F := Ideal)) (onTc (τ := Cert.MemNormKernelIdeal.τ) (Cert.MemNormKernelIdeal.main (F := Ideal))) ⟨m, fun _ => 0, g⟩ (fun r => (∀ c : Dev Cert.MemNormKernelIdeal.nD,
      r.2.mem ((c.tc : Thread Cert.MemNormKernelIdeal.nD Cert.MemNormKernelIdeal.τ).loc Cert.MemNormKernelIdeal.main_arg0) = m ((c.tc : Thread Cert.MemNormKernelIdeal.nD Cert.MemNormKernelIdeal.τ).loc Cert.MemNormKernelIdeal.main_arg0)
      ∧ r.2.mem ((c.tc : Thread Cert.MemNormKernelIdeal.nD Cert.MemNormKernelIdeal.τ).loc Cert.MemNormKernelIdeal.main_arg1) = m ((c.tc : Thread Cert.MemNormKernelIdeal.nD Cert.MemNormKernelIdeal.τ).loc Cert.MemNormKernelIdeal.main_arg1)
      ∧ r.2.mem ((c.tc : Thread Cert.MemNormKernelIdeal.nD Cert.MemNormKernelIdeal.τ).loc Cert.MemNormKernelIdeal.main_arg2) = m ((c.tc : Thread Cert.MemNormKernelIdeal.nD Cert.MemNormKernelIdeal.τ).loc Cert.MemNormKernelIdeal.main_arg2))
      ∧ r.2.sem = fun _ => 0)

def quiescent_MemNormReferenceIdeal [hMemNormReferenceIdeal : Cert.MemNormReferenceIdeal.Facts] : Prop :=
  ∀ (m : (ℓ : Loc Cert.MemNormReferenceIdeal.nD Cert.MemNormReferenceIdeal.τ Cert.MemNormReferenceIdeal.sig) → Buf (Elt Ideal) ℓ) (g : Dev Cert.MemNormReferenceIdeal.nD → PrngReg), Pre_MemNormReferenceIdeal m →
    θ_run (Cert.MemNormReferenceIdeal.defs (F := Ideal)) (onTc (τ := Cert.MemNormReferenceIdeal.τ) (Cert.MemNormReferenceIdeal.main (F := Ideal))) ⟨m, fun _ => 0, g⟩ (fun r => (∀ c : Dev Cert.MemNormReferenceIdeal.nD,
      r.2.mem ((c.tc : Thread Cert.MemNormReferenceIdeal.nD Cert.MemNormReferenceIdeal.τ).loc Cert.MemNormReferenceIdeal.main_arg0) = m ((c.tc : Thread Cert.MemNormReferenceIdeal.nD Cert.MemNormReferenceIdeal.τ).loc Cert.MemNormReferenceIdeal.main_arg0)
      ∧ r.2.mem ((c.tc : Thread Cert.MemNormReferenceIdeal.nD Cert.MemNormReferenceIdeal.τ).loc Cert.MemNormReferenceIdeal.main_arg1) = m ((c.tc : Thread Cert.MemNormReferenceIdeal.nD Cert.MemNormReferenceIdeal.τ).loc Cert.MemNormReferenceIdeal.main_arg1)
      ∧ r.2.mem ((c.tc : Thread Cert.MemNormReferenceIdeal.nD Cert.MemNormReferenceIdeal.τ).loc Cert.MemNormReferenceIdeal.main_arg2) = m ((c.tc : Thread Cert.MemNormReferenceIdeal.nD Cert.MemNormReferenceIdeal.τ).loc Cert.MemNormReferenceIdeal.main_arg2))
      ∧ r.2.sem = fun _ => 0)

def quiescent_MemKvWKernel [hMemKvWKernel : Cert.MemKvWKernel.Facts] : Prop :=
  ∀ (m : (ℓ : Loc Cert.MemKvWKernel.nD Cert.MemKvWKernel.τ Cert.MemKvWKernel.sig) → Buf (Elt Bits) ℓ) (g : Dev Cert.MemKvWKernel.nD → PrngReg), Pre_MemKvWKernel m →
    θ_run (Cert.MemKvWKernel.defs (F := Bits)) (onTc (τ := Cert.MemKvWKernel.τ) (Cert.MemKvWKernel.main (F := Bits))) ⟨m, fun _ => 0, g⟩ (fun r => (∀ c : Dev Cert.MemKvWKernel.nD,
      r.2.mem ((c.tc : Thread Cert.MemKvWKernel.nD Cert.MemKvWKernel.τ).loc Cert.MemKvWKernel.main_arg0) = m ((c.tc : Thread Cert.MemKvWKernel.nD Cert.MemKvWKernel.τ).loc Cert.MemKvWKernel.main_arg0)
      ∧ r.2.mem ((c.tc : Thread Cert.MemKvWKernel.nD Cert.MemKvWKernel.τ).loc Cert.MemKvWKernel.main_arg1) = m ((c.tc : Thread Cert.MemKvWKernel.nD Cert.MemKvWKernel.τ).loc Cert.MemKvWKernel.main_arg1)
      ∧ r.2.mem ((c.tc : Thread Cert.MemKvWKernel.nD Cert.MemKvWKernel.τ).loc Cert.MemKvWKernel.main_arg2) = m ((c.tc : Thread Cert.MemKvWKernel.nD Cert.MemKvWKernel.τ).loc Cert.MemKvWKernel.main_arg2))
      ∧ r.2.sem = fun _ => 0)

def quiescent_MemKvWKernelIdeal [hMemKvWKernelIdeal : Cert.MemKvWKernelIdeal.Facts] : Prop :=
  ∀ (m : (ℓ : Loc Cert.MemKvWKernelIdeal.nD Cert.MemKvWKernelIdeal.τ Cert.MemKvWKernelIdeal.sig) → Buf (Elt Ideal) ℓ) (g : Dev Cert.MemKvWKernelIdeal.nD → PrngReg), Pre_MemKvWKernelIdeal m →
    θ_run (Cert.MemKvWKernelIdeal.defs (F := Ideal)) (onTc (τ := Cert.MemKvWKernelIdeal.τ) (Cert.MemKvWKernelIdeal.main (F := Ideal))) ⟨m, fun _ => 0, g⟩ (fun r => (∀ c : Dev Cert.MemKvWKernelIdeal.nD,
      r.2.mem ((c.tc : Thread Cert.MemKvWKernelIdeal.nD Cert.MemKvWKernelIdeal.τ).loc Cert.MemKvWKernelIdeal.main_arg0) = m ((c.tc : Thread Cert.MemKvWKernelIdeal.nD Cert.MemKvWKernelIdeal.τ).loc Cert.MemKvWKernelIdeal.main_arg0)
      ∧ r.2.mem ((c.tc : Thread Cert.MemKvWKernelIdeal.nD Cert.MemKvWKernelIdeal.τ).loc Cert.MemKvWKernelIdeal.main_arg1) = m ((c.tc : Thread Cert.MemKvWKernelIdeal.nD Cert.MemKvWKernelIdeal.τ).loc Cert.MemKvWKernelIdeal.main_arg1)
      ∧ r.2.mem ((c.tc : Thread Cert.MemKvWKernelIdeal.nD Cert.MemKvWKernelIdeal.τ).loc Cert.MemKvWKernelIdeal.main_arg2) = m ((c.tc : Thread Cert.MemKvWKernelIdeal.nD Cert.MemKvWKernelIdeal.τ).loc Cert.MemKvWKernelIdeal.main_arg2))
      ∧ r.2.sem = fun _ => 0)

def quiescent_MemKvWReferenceIdeal [hMemKvWReferenceIdeal : Cert.MemKvWReferenceIdeal.Facts] : Prop :=
  ∀ (m : (ℓ : Loc Cert.MemKvWReferenceIdeal.nD Cert.MemKvWReferenceIdeal.τ Cert.MemKvWReferenceIdeal.sig) → Buf (Elt Ideal) ℓ) (g : Dev Cert.MemKvWReferenceIdeal.nD → PrngReg), Pre_MemKvWReferenceIdeal m →
    θ_run (Cert.MemKvWReferenceIdeal.defs (F := Ideal)) (onTc (τ := Cert.MemKvWReferenceIdeal.τ) (Cert.MemKvWReferenceIdeal.main (F := Ideal))) ⟨m, fun _ => 0, g⟩ (fun r => (∀ c : Dev Cert.MemKvWReferenceIdeal.nD,
      r.2.mem ((c.tc : Thread Cert.MemKvWReferenceIdeal.nD Cert.MemKvWReferenceIdeal.τ).loc Cert.MemKvWReferenceIdeal.main_arg0) = m ((c.tc : Thread Cert.MemKvWReferenceIdeal.nD Cert.MemKvWReferenceIdeal.τ).loc Cert.MemKvWReferenceIdeal.main_arg0)
      ∧ r.2.mem ((c.tc : Thread Cert.MemKvWReferenceIdeal.nD Cert.MemKvWReferenceIdeal.τ).loc Cert.MemKvWReferenceIdeal.main_arg1) = m ((c.tc : Thread Cert.MemKvWReferenceIdeal.nD Cert.MemKvWReferenceIdeal.τ).loc Cert.MemKvWReferenceIdeal.main_arg1)
      ∧ r.2.mem ((c.tc : Thread Cert.MemKvWReferenceIdeal.nD Cert.MemKvWReferenceIdeal.τ).loc Cert.MemKvWReferenceIdeal.main_arg2) = m ((c.tc : Thread Cert.MemKvWReferenceIdeal.nD Cert.MemKvWReferenceIdeal.τ).loc Cert.MemKvWReferenceIdeal.main_arg2))
      ∧ r.2.sem = fun _ => 0)

def quiescent_MemNKernel [hMemNKernel : Cert.MemNKernel.Facts] : Prop :=
  ∀ (m : (ℓ : Loc Cert.MemNKernel.nD Cert.MemNKernel.τ Cert.MemNKernel.sig) → Buf (Elt Bits) ℓ) (g : Dev Cert.MemNKernel.nD → PrngReg), Pre_MemNKernel m →
    θ_run (Cert.MemNKernel.defs (F := Bits)) (onTc (τ := Cert.MemNKernel.τ) (Cert.MemNKernel.main (F := Bits))) ⟨m, fun _ => 0, g⟩ (fun r => (∀ c : Dev Cert.MemNKernel.nD,
      r.2.mem ((c.tc : Thread Cert.MemNKernel.nD Cert.MemNKernel.τ).loc Cert.MemNKernel.main_arg0) = m ((c.tc : Thread Cert.MemNKernel.nD Cert.MemNKernel.τ).loc Cert.MemNKernel.main_arg0)
      ∧ r.2.mem ((c.tc : Thread Cert.MemNKernel.nD Cert.MemNKernel.τ).loc Cert.MemNKernel.main_arg1) = m ((c.tc : Thread Cert.MemNKernel.nD Cert.MemNKernel.τ).loc Cert.MemNKernel.main_arg1))
      ∧ r.2.sem = fun _ => 0)

def quiescent_MemNKernelIdeal [hMemNKernelIdeal : Cert.MemNKernelIdeal.Facts] : Prop :=
  ∀ (m : (ℓ : Loc Cert.MemNKernelIdeal.nD Cert.MemNKernelIdeal.τ Cert.MemNKernelIdeal.sig) → Buf (Elt Ideal) ℓ) (g : Dev Cert.MemNKernelIdeal.nD → PrngReg), Pre_MemNKernelIdeal m →
    θ_run (Cert.MemNKernelIdeal.defs (F := Ideal)) (onTc (τ := Cert.MemNKernelIdeal.τ) (Cert.MemNKernelIdeal.main (F := Ideal))) ⟨m, fun _ => 0, g⟩ (fun r => (∀ c : Dev Cert.MemNKernelIdeal.nD,
      r.2.mem ((c.tc : Thread Cert.MemNKernelIdeal.nD Cert.MemNKernelIdeal.τ).loc Cert.MemNKernelIdeal.main_arg0) = m ((c.tc : Thread Cert.MemNKernelIdeal.nD Cert.MemNKernelIdeal.τ).loc Cert.MemNKernelIdeal.main_arg0)
      ∧ r.2.mem ((c.tc : Thread Cert.MemNKernelIdeal.nD Cert.MemNKernelIdeal.τ).loc Cert.MemNKernelIdeal.main_arg1) = m ((c.tc : Thread Cert.MemNKernelIdeal.nD Cert.MemNKernelIdeal.τ).loc Cert.MemNKernelIdeal.main_arg1))
      ∧ r.2.sem = fun _ => 0)

def quiescent_MemNReferenceIdeal [hMemNReferenceIdeal : Cert.MemNReferenceIdeal.Facts] : Prop :=
  ∀ (m : (ℓ : Loc Cert.MemNReferenceIdeal.nD Cert.MemNReferenceIdeal.τ Cert.MemNReferenceIdeal.sig) → Buf (Elt Ideal) ℓ) (g : Dev Cert.MemNReferenceIdeal.nD → PrngReg), Pre_MemNReferenceIdeal m →
    θ_run (Cert.MemNReferenceIdeal.defs (F := Ideal)) (onTc (τ := Cert.MemNReferenceIdeal.τ) (Cert.MemNReferenceIdeal.main (F := Ideal))) ⟨m, fun _ => 0, g⟩ (fun r => (∀ c : Dev Cert.MemNReferenceIdeal.nD,
      r.2.mem ((c.tc : Thread Cert.MemNReferenceIdeal.nD Cert.MemNReferenceIdeal.τ).loc Cert.MemNReferenceIdeal.main_arg0) = m ((c.tc : Thread Cert.MemNReferenceIdeal.nD Cert.MemNReferenceIdeal.τ).loc Cert.MemNReferenceIdeal.main_arg0)
      ∧ r.2.mem ((c.tc : Thread Cert.MemNReferenceIdeal.nD Cert.MemNReferenceIdeal.τ).loc Cert.MemNReferenceIdeal.main_arg1) = m ((c.tc : Thread Cert.MemNReferenceIdeal.nD Cert.MemNReferenceIdeal.τ).loc Cert.MemNReferenceIdeal.main_arg1))
      ∧ r.2.sem = fun _ => 0)

def quiescent_MemKvKernel [hMemKvKernel : Cert.MemKvKernel.Facts] : Prop :=
  ∀ (m : (ℓ : Loc Cert.MemKvKernel.nD Cert.MemKvKernel.τ Cert.MemKvKernel.sig) → Buf (Elt Bits) ℓ) (g : Dev Cert.MemKvKernel.nD → PrngReg), Pre_MemKvKernel m →
    θ_run (Cert.MemKvKernel.defs (F := Bits)) (onTc (τ := Cert.MemKvKernel.τ) (Cert.MemKvKernel.main (F := Bits))) ⟨m, fun _ => 0, g⟩ (fun r => (∀ c : Dev Cert.MemKvKernel.nD,
      r.2.mem ((c.tc : Thread Cert.MemKvKernel.nD Cert.MemKvKernel.τ).loc Cert.MemKvKernel.main_arg0) = m ((c.tc : Thread Cert.MemKvKernel.nD Cert.MemKvKernel.τ).loc Cert.MemKvKernel.main_arg0)
      ∧ r.2.mem ((c.tc : Thread Cert.MemKvKernel.nD Cert.MemKvKernel.τ).loc Cert.MemKvKernel.main_arg1) = m ((c.tc : Thread Cert.MemKvKernel.nD Cert.MemKvKernel.τ).loc Cert.MemKvKernel.main_arg1))
      ∧ r.2.sem = fun _ => 0)

def quiescent_MemKvKernelIdeal [hMemKvKernelIdeal : Cert.MemKvKernelIdeal.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg), Pre_MemKvKernelIdeal m →
    θ_run (Cert.MemKvKernelIdeal.defs (F := Ideal)) (onTc (τ := Cert.MemKvKernelIdeal.τ) (Cert.MemKvKernelIdeal.main (F := Ideal))) ⟨m, fun _ => 0, g⟩ (fun r => (∀ c : Dev Cert.MemKvKernelIdeal.nD,
      r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
      ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_FirstNormKernel [hFirstNormKernel : Cert.FirstNormKernel.Facts] : Prop :=
  ∀ (m : (ℓ : Loc Cert.FirstNormKernel.nD Cert.FirstNormKernel.τ Cert.FirstNormKernel.sig) → Buf (Elt Bits) ℓ) (g : Dev Cert.FirstNormKernel.nD → PrngReg), Pre_FirstNormKernel m →
    θ_run (Cert.FirstNormKernel.defs (F := Bits)) (onTc (τ := Cert.FirstNormKernel.τ) (Cert.FirstNormKernel.main (F := Bits))) ⟨m, fun _ => 0, g⟩ (fun r => (∀ c : Dev Cert.FirstNormKernel.nD,
      r.2.mem ((c.tc : Thread Cert.FirstNormKernel.nD Cert.FirstNormKernel.τ).loc Cert.FirstNormKernel.main_arg0) = m ((c.tc : Thread Cert.FirstNormKernel.nD Cert.FirstNormKernel.τ).loc Cert.FirstNormKernel.main_arg0)
      ∧ r.2.mem ((c.tc : Thread Cert.FirstNormKernel.nD Cert.FirstNormKernel.τ).loc Cert.FirstNormKernel.main_arg1) = m ((c.tc : Thread Cert.FirstNormKernel.nD Cert.FirstNormKernel.τ).loc Cert.FirstNormKernel.main_arg1))
      ∧ r.2.sem = fun _ => 0)

def quiescent_FirstNormKernelIdeal [hFirstNormKernelIdeal : Cert.FirstNormKernelIdeal.Facts] : Prop :=
  ∀ (m : (ℓ : Loc Cert.FirstNormKernelIdeal.nD Cert.FirstNormKernelIdeal.τ Cert.FirstNormKernelIdeal.sig) → Buf (Elt Ideal) ℓ) (g : Dev Cert.FirstNormKernelIdeal.nD → PrngReg), Pre_FirstNormKernelIdeal m →
    θ_run (Cert.FirstNormKernelIdeal.defs (F := Ideal)) (onTc (τ := Cert.FirstNormKernelIdeal.τ) (Cert.FirstNormKernelIdeal.main (F := Ideal))) ⟨m, fun _ => 0, g⟩ (fun r => (∀ c : Dev Cert.FirstNormKernelIdeal.nD,
      r.2.mem ((c.tc : Thread Cert.FirstNormKernelIdeal.nD Cert.FirstNormKernelIdeal.τ).loc Cert.FirstNormKernelIdeal.main_arg0) = m ((c.tc : Thread Cert.FirstNormKernelIdeal.nD Cert.FirstNormKernelIdeal.τ).loc Cert.FirstNormKernelIdeal.main_arg0)
      ∧ r.2.mem ((c.tc : Thread Cert.FirstNormKernelIdeal.nD Cert.FirstNormKernelIdeal.τ).loc Cert.FirstNormKernelIdeal.main_arg1) = m ((c.tc : Thread Cert.FirstNormKernelIdeal.nD Cert.FirstNormKernelIdeal.τ).loc Cert.FirstNormKernelIdeal.main_arg1))
      ∧ r.2.sem = fun _ => 0)

def quiescent_FirstNormReferenceIdeal [hFirstNormReferenceIdeal : Cert.FirstNormReferenceIdeal.Facts] : Prop :=
  ∀ (m : (ℓ : Loc Cert.FirstNormReferenceIdeal.nD Cert.FirstNormReferenceIdeal.τ Cert.FirstNormReferenceIdeal.sig) → Buf (Elt Ideal) ℓ) (g : Dev Cert.FirstNormReferenceIdeal.nD → PrngReg), Pre_FirstNormReferenceIdeal m →
    θ_run (Cert.FirstNormReferenceIdeal.defs (F := Ideal)) (onTc (τ := Cert.FirstNormReferenceIdeal.τ) (Cert.FirstNormReferenceIdeal.main (F := Ideal))) ⟨m, fun _ => 0, g⟩ (fun r => (∀ c : Dev Cert.FirstNormReferenceIdeal.nD,
      r.2.mem ((c.tc : Thread Cert.FirstNormReferenceIdeal.nD Cert.FirstNormReferenceIdeal.τ).loc Cert.FirstNormReferenceIdeal.main_arg0) = m ((c.tc : Thread Cert.FirstNormReferenceIdeal.nD Cert.FirstNormReferenceIdeal.τ).loc Cert.FirstNormReferenceIdeal.main_arg0)
      ∧ r.2.mem ((c.tc : Thread Cert.FirstNormReferenceIdeal.nD Cert.FirstNormReferenceIdeal.τ).loc Cert.FirstNormReferenceIdeal.main_arg1) = m ((c.tc : Thread Cert.FirstNormReferenceIdeal.nD Cert.FirstNormReferenceIdeal.τ).loc Cert.FirstNormReferenceIdeal.main_arg1))
      ∧ r.2.sem = fun _ => 0)

def quiescent_MemFirstNormKernel [hMemFirstNormKernel : Cert.MemFirstNormKernel.Facts] : Prop :=
  ∀ (m : (ℓ : Loc Cert.MemFirstNormKernel.nD Cert.MemFirstNormKernel.τ Cert.MemFirstNormKernel.sig) → Buf (Elt Bits) ℓ) (g : Dev Cert.MemFirstNormKernel.nD → PrngReg), Pre_MemFirstNormKernel m →
    θ_run (Cert.MemFirstNormKernel.defs (F := Bits)) (onTc (τ := Cert.MemFirstNormKernel.τ) (Cert.MemFirstNormKernel.main (F := Bits))) ⟨m, fun _ => 0, g⟩ (fun r => (∀ c : Dev Cert.MemFirstNormKernel.nD,
      r.2.mem ((c.tc : Thread Cert.MemFirstNormKernel.nD Cert.MemFirstNormKernel.τ).loc Cert.MemFirstNormKernel.main_arg0) = m ((c.tc : Thread Cert.MemFirstNormKernel.nD Cert.MemFirstNormKernel.τ).loc Cert.MemFirstNormKernel.main_arg0)
      ∧ r.2.mem ((c.tc : Thread Cert.MemFirstNormKernel.nD Cert.MemFirstNormKernel.τ).loc Cert.MemFirstNormKernel.main_arg1) = m ((c.tc : Thread Cert.MemFirstNormKernel.nD Cert.MemFirstNormKernel.τ).loc Cert.MemFirstNormKernel.main_arg1))
      ∧ r.2.sem = fun _ => 0)

def quiescent_MemFirstNormKernelIdeal [hMemFirstNormKernelIdeal : Cert.MemFirstNormKernelIdeal.Facts] : Prop :=
  ∀ (m : (ℓ : Loc Cert.MemFirstNormKernelIdeal.nD Cert.MemFirstNormKernelIdeal.τ Cert.MemFirstNormKernelIdeal.sig) → Buf (Elt Ideal) ℓ) (g : Dev Cert.MemFirstNormKernelIdeal.nD → PrngReg), Pre_MemFirstNormKernelIdeal m →
    θ_run (Cert.MemFirstNormKernelIdeal.defs (F := Ideal)) (onTc (τ := Cert.MemFirstNormKernelIdeal.τ) (Cert.MemFirstNormKernelIdeal.main (F := Ideal))) ⟨m, fun _ => 0, g⟩ (fun r => (∀ c : Dev Cert.MemFirstNormKernelIdeal.nD,
      r.2.mem ((c.tc : Thread Cert.MemFirstNormKernelIdeal.nD Cert.MemFirstNormKernelIdeal.τ).loc Cert.MemFirstNormKernelIdeal.main_arg0) = m ((c.tc : Thread Cert.MemFirstNormKernelIdeal.nD Cert.MemFirstNormKernelIdeal.τ).loc Cert.MemFirstNormKernelIdeal.main_arg0)
      ∧ r.2.mem ((c.tc : Thread Cert.MemFirstNormKernelIdeal.nD Cert.MemFirstNormKernelIdeal.τ).loc Cert.MemFirstNormKernelIdeal.main_arg1) = m ((c.tc : Thread Cert.MemFirstNormKernelIdeal.nD Cert.MemFirstNormKernelIdeal.τ).loc Cert.MemFirstNormKernelIdeal.main_arg1))
      ∧ r.2.sem = fun _ => 0)

def quiescent_MemFirstNormReferenceIdeal [hMemFirstNormReferenceIdeal : Cert.MemFirstNormReferenceIdeal.Facts] : Prop :=
  ∀ (m : (ℓ : Loc Cert.MemFirstNormReferenceIdeal.nD Cert.MemFirstNormReferenceIdeal.τ Cert.MemFirstNormReferenceIdeal.sig) → Buf (Elt Ideal) ℓ) (g : Dev Cert.MemFirstNormReferenceIdeal.nD → PrngReg), Pre_MemFirstNormReferenceIdeal m →
    θ_run (Cert.MemFirstNormReferenceIdeal.defs (F := Ideal)) (onTc (τ := Cert.MemFirstNormReferenceIdeal.τ) (Cert.MemFirstNormReferenceIdeal.main (F := Ideal))) ⟨m, fun _ => 0, g⟩ (fun r => (∀ c : Dev Cert.MemFirstNormReferenceIdeal.nD,
      r.2.mem ((c.tc : Thread Cert.MemFirstNormReferenceIdeal.nD Cert.MemFirstNormReferenceIdeal.τ).loc Cert.MemFirstNormReferenceIdeal.main_arg0) = m ((c.tc : Thread Cert.MemFirstNormReferenceIdeal.nD Cert.MemFirstNormReferenceIdeal.τ).loc Cert.MemFirstNormReferenceIdeal.main_arg0)
      ∧ r.2.mem ((c.tc : Thread Cert.MemFirstNormReferenceIdeal.nD Cert.MemFirstNormReferenceIdeal.τ).loc Cert.MemFirstNormReferenceIdeal.main_arg1) = m ((c.tc : Thread Cert.MemFirstNormReferenceIdeal.nD Cert.MemFirstNormReferenceIdeal.τ).loc Cert.MemFirstNormReferenceIdeal.main_arg1))
      ∧ r.2.sem = fun _ => 0)

def quiescent_Mem0Kernel [hMem0Kernel : Cert.Mem0Kernel.Facts] : Prop :=
  ∀ (m : (ℓ : Loc Cert.Mem0Kernel.nD Cert.Mem0Kernel.τ Cert.Mem0Kernel.sig) → Buf (Elt Bits) ℓ) (g : Dev Cert.Mem0Kernel.nD → PrngReg), Pre_Mem0Kernel m →
    θ_run (Cert.Mem0Kernel.defs (F := Bits)) (onTc (τ := Cert.Mem0Kernel.τ) (Cert.Mem0Kernel.main (F := Bits))) ⟨m, fun _ => 0, g⟩ (fun r => (∀ c : Dev Cert.Mem0Kernel.nD,
      r.2.mem ((c.tc : Thread Cert.Mem0Kernel.nD Cert.Mem0Kernel.τ).loc Cert.Mem0Kernel.main_arg0) = m ((c.tc : Thread Cert.Mem0Kernel.nD Cert.Mem0Kernel.τ).loc Cert.Mem0Kernel.main_arg0)
      ∧ r.2.mem ((c.tc : Thread Cert.Mem0Kernel.nD Cert.Mem0Kernel.τ).loc Cert.Mem0Kernel.main_arg1) = m ((c.tc : Thread Cert.Mem0Kernel.nD Cert.Mem0Kernel.τ).loc Cert.Mem0Kernel.main_arg1)
      ∧ r.2.mem ((c.tc : Thread Cert.Mem0Kernel.nD Cert.Mem0Kernel.τ).loc Cert.Mem0Kernel.main_arg2) = m ((c.tc : Thread Cert.Mem0Kernel.nD Cert.Mem0Kernel.τ).loc Cert.Mem0Kernel.main_arg2))
      ∧ r.2.sem = fun _ => 0)

def quiescent_Mem0KernelIdeal [hMem0KernelIdeal : Cert.Mem0KernelIdeal.Facts] : Prop :=
  ∀ (m : (ℓ : Loc Cert.Mem0KernelIdeal.nD Cert.Mem0KernelIdeal.τ Cert.Mem0KernelIdeal.sig) → Buf (Elt Ideal) ℓ) (g : Dev Cert.Mem0KernelIdeal.nD → PrngReg), Pre_Mem0KernelIdeal m →
    θ_run (Cert.Mem0KernelIdeal.defs (F := Ideal)) (onTc (τ := Cert.Mem0KernelIdeal.τ) (Cert.Mem0KernelIdeal.main (F := Ideal))) ⟨m, fun _ => 0, g⟩ (fun r => (∀ c : Dev Cert.Mem0KernelIdeal.nD,
      r.2.mem ((c.tc : Thread Cert.Mem0KernelIdeal.nD Cert.Mem0KernelIdeal.τ).loc Cert.Mem0KernelIdeal.main_arg0) = m ((c.tc : Thread Cert.Mem0KernelIdeal.nD Cert.Mem0KernelIdeal.τ).loc Cert.Mem0KernelIdeal.main_arg0)
      ∧ r.2.mem ((c.tc : Thread Cert.Mem0KernelIdeal.nD Cert.Mem0KernelIdeal.τ).loc Cert.Mem0KernelIdeal.main_arg1) = m ((c.tc : Thread Cert.Mem0KernelIdeal.nD Cert.Mem0KernelIdeal.τ).loc Cert.Mem0KernelIdeal.main_arg1)
      ∧ r.2.mem ((c.tc : Thread Cert.Mem0KernelIdeal.nD Cert.Mem0KernelIdeal.τ).loc Cert.Mem0KernelIdeal.main_arg2) = m ((c.tc : Thread Cert.Mem0KernelIdeal.nD Cert.Mem0KernelIdeal.τ).loc Cert.Mem0KernelIdeal.main_arg2))
      ∧ r.2.sem = fun _ => 0)

def quiescent_Mem0KernelIdeal_pre_finite_logits0 [hMem0KernelIdeal : Cert.Mem0KernelIdeal.Facts] [hPre_finite_logits0 : Cert.Pre_finite_logits0.Facts] : Prop :=
  ∀ (m : (ℓ : Loc Cert.Mem0KernelIdeal.nD Cert.Mem0KernelIdeal.τ Cert.Mem0KernelIdeal.sig) → Buf (Elt Ideal) ℓ) (g : Dev Cert.Mem0KernelIdeal.nD → PrngReg), Pre_Mem0KernelIdeal_finite_logits0 m →
    θ_run (Cert.Mem0KernelIdeal.defs (F := Ideal)) (onTc (τ := Cert.Mem0KernelIdeal.τ) (Cert.Mem0KernelIdeal.main (F := Ideal))) ⟨m, fun _ => 0, g⟩ (fun r => (∀ c : Dev Cert.Mem0KernelIdeal.nD,
      r.2.mem ((c.tc : Thread Cert.Mem0KernelIdeal.nD Cert.Mem0KernelIdeal.τ).loc Cert.Mem0KernelIdeal.main_arg0) = m ((c.tc : Thread Cert.Mem0KernelIdeal.nD Cert.Mem0KernelIdeal.τ).loc Cert.Mem0KernelIdeal.main_arg0)
      ∧ r.2.mem ((c.tc : Thread Cert.Mem0KernelIdeal.nD Cert.Mem0KernelIdeal.τ).loc Cert.Mem0KernelIdeal.main_arg1) = m ((c.tc : Thread Cert.Mem0KernelIdeal.nD Cert.Mem0KernelIdeal.τ).loc Cert.Mem0KernelIdeal.main_arg1)
      ∧ r.2.mem ((c.tc : Thread Cert.Mem0KernelIdeal.nD Cert.Mem0KernelIdeal.τ).loc Cert.Mem0KernelIdeal.main_arg2) = m ((c.tc : Thread Cert.Mem0KernelIdeal.nD Cert.Mem0KernelIdeal.τ).loc Cert.Mem0KernelIdeal.main_arg2))
      ∧ r.2.sem = fun _ => 0)

def quiescent_Mem0ReferenceIdeal [hMem0ReferenceIdeal : Cert.Mem0ReferenceIdeal.Facts] : Prop :=
  ∀ (m : (ℓ : Loc Cert.Mem0ReferenceIdeal.nD Cert.Mem0ReferenceIdeal.τ Cert.Mem0ReferenceIdeal.sig) → Buf (Elt Ideal) ℓ) (g : Dev Cert.Mem0ReferenceIdeal.nD → PrngReg), Pre_Mem0ReferenceIdeal m →
    θ_run (Cert.Mem0ReferenceIdeal.defs (F := Ideal)) (onTc (τ := Cert.Mem0ReferenceIdeal.τ) (Cert.Mem0ReferenceIdeal.main (F := Ideal))) ⟨m, fun _ => 0, g⟩ (fun r => (∀ c : Dev Cert.Mem0ReferenceIdeal.nD,
      r.2.mem ((c.tc : Thread Cert.Mem0ReferenceIdeal.nD Cert.Mem0ReferenceIdeal.τ).loc Cert.Mem0ReferenceIdeal.main_arg0) = m ((c.tc : Thread Cert.Mem0ReferenceIdeal.nD Cert.Mem0ReferenceIdeal.τ).loc Cert.Mem0ReferenceIdeal.main_arg0)
      ∧ r.2.mem ((c.tc : Thread Cert.Mem0ReferenceIdeal.nD Cert.Mem0ReferenceIdeal.τ).loc Cert.Mem0ReferenceIdeal.main_arg1) = m ((c.tc : Thread Cert.Mem0ReferenceIdeal.nD Cert.Mem0ReferenceIdeal.τ).loc Cert.Mem0ReferenceIdeal.main_arg1)
      ∧ r.2.mem ((c.tc : Thread Cert.Mem0ReferenceIdeal.nD Cert.Mem0ReferenceIdeal.τ).loc Cert.Mem0ReferenceIdeal.main_arg2) = m ((c.tc : Thread Cert.Mem0ReferenceIdeal.nD Cert.Mem0ReferenceIdeal.τ).loc Cert.Mem0ReferenceIdeal.main_arg2))
      ∧ r.2.sem = fun _ => 0)

def quiescent_Mem0ReferenceIdeal_pre_finite_logits0 [hMem0ReferenceIdeal : Cert.Mem0ReferenceIdeal.Facts] [hPre_finite_logits0 : Cert.Pre_finite_logits0.Facts] : Prop :=
  ∀ (m : (ℓ : Loc Cert.Mem0ReferenceIdeal.nD Cert.Mem0ReferenceIdeal.τ Cert.Mem0ReferenceIdeal.sig) → Buf (Elt Ideal) ℓ) (g : Dev Cert.Mem0ReferenceIdeal.nD → PrngReg), Pre_Mem0ReferenceIdeal_finite_logits0 m →
    θ_run (Cert.Mem0ReferenceIdeal.defs (F := Ideal)) (onTc (τ := Cert.Mem0ReferenceIdeal.τ) (Cert.Mem0ReferenceIdeal.main (F := Ideal))) ⟨m, fun _ => 0, g⟩ (fun r => (∀ c : Dev Cert.Mem0ReferenceIdeal.nD,
      r.2.mem ((c.tc : Thread Cert.Mem0ReferenceIdeal.nD Cert.Mem0ReferenceIdeal.τ).loc Cert.Mem0ReferenceIdeal.main_arg0) = m ((c.tc : Thread Cert.Mem0ReferenceIdeal.nD Cert.Mem0ReferenceIdeal.τ).loc Cert.Mem0ReferenceIdeal.main_arg0)
      ∧ r.2.mem ((c.tc : Thread Cert.Mem0ReferenceIdeal.nD Cert.Mem0ReferenceIdeal.τ).loc Cert.Mem0ReferenceIdeal.main_arg1) = m ((c.tc : Thread Cert.Mem0ReferenceIdeal.nD Cert.Mem0ReferenceIdeal.τ).loc Cert.Mem0ReferenceIdeal.main_arg1)
      ∧ r.2.mem ((c.tc : Thread Cert.Mem0ReferenceIdeal.nD Cert.Mem0ReferenceIdeal.τ).loc Cert.Mem0ReferenceIdeal.main_arg2) = m ((c.tc : Thread Cert.Mem0ReferenceIdeal.nD Cert.Mem0ReferenceIdeal.τ).loc Cert.Mem0ReferenceIdeal.main_arg2))
      ∧ r.2.sem = fun _ => 0)

def preserves_Kernel_KernelIdeal : Prop :=
  True

def algebraic_KernelIdeal_ReferenceIdeal_on_written_pre_finite_logits [hKernelIdeal : Cert.KernelIdeal.Facts] [hReferenceIdeal : Cert.ReferenceIdeal.Facts] [hPre_finite_logits : Cert.Pre_finite_logits.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 3584]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨2, ![256, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 3584]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v71) i = v0 c i)
          ∧ (∀ i : (⟨2, ![256, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 i = 1#1 → r.2.mem ((c.tc : Thread Cert.ReferenceIdeal.nD Cert.ReferenceIdeal.τ).loc Cert.ReferenceIdeal.main_v69) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_HiddenKernel_HiddenKernelIdeal : Prop :=
  True

def algebraic_HiddenKernelIdeal_HiddenReferenceIdeal [hHiddenKernelIdeal : Cert.HiddenKernelIdeal.Facts] [hHiddenReferenceIdeal : Cert.HiddenReferenceIdeal.Facts] : Prop :=
  ∀ (m : (ℓ : Loc Cert.HiddenKernelIdeal.nD Cert.HiddenKernelIdeal.τ Cert.HiddenKernelIdeal.sig) → Buf (Elt Ideal) ℓ) (g : Dev Cert.HiddenKernelIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenKernelIdeal m →
    (∀ c : Dev Cert.HiddenKernelIdeal.nD,
      m' ((c.tc : Thread Cert.HiddenReferenceIdeal.nD Cert.HiddenReferenceIdeal.τ).loc Cert.HiddenReferenceIdeal.main_arg0) = m ((c.tc : Thread Cert.HiddenKernelIdeal.nD Cert.HiddenKernelIdeal.τ).loc Cert.HiddenKernelIdeal.main_arg0)
      ∧ m' ((c.tc : Thread Cert.HiddenReferenceIdeal.nD Cert.HiddenReferenceIdeal.τ).loc Cert.HiddenReferenceIdeal.main_arg1) = m ((c.tc : Thread Cert.HiddenKernelIdeal.nD Cert.HiddenKernelIdeal.τ).loc Cert.HiddenKernelIdeal.main_arg1)
      ∧ m' ((c.tc : Thread Cert.HiddenReferenceIdeal.nD Cert.HiddenReferenceIdeal.τ).loc Cert.HiddenReferenceIdeal.main_arg2) = m ((c.tc : Thread Cert.HiddenKernelIdeal.nD Cert.HiddenKernelIdeal.τ).loc Cert.HiddenKernelIdeal.main_arg2)
      ∧ m' ((c.tc : Thread Cert.HiddenReferenceIdeal.nD Cert.HiddenReferenceIdeal.τ).loc Cert.HiddenReferenceIdeal.main_arg3) = m ((c.tc : Thread Cert.HiddenKernelIdeal.nD Cert.HiddenKernelIdeal.τ).loc Cert.HiddenKernelIdeal.main_arg3)) →
    ∃ (v0 : (c : Dev Cert.HiddenKernelIdeal.nD) → Buf (Elt Ideal) ((c.tc : Thread Cert.HiddenKernelIdeal.nD Cert.HiddenKernelIdeal.τ).loc Cert.HiddenKernelIdeal.main_v0)),
      θ_run (Cert.HiddenKernelIdeal.defs (F := Ideal)) (onTc (τ := Cert.HiddenKernelIdeal.τ) (Cert.HiddenKernelIdeal.main (F := Ideal))) ⟨m, fun _ => 0, g⟩ (fun r => ∀ c : Dev Cert.HiddenKernelIdeal.nD,
          r.2.mem ((c.tc : Thread Cert.HiddenKernelIdeal.nD Cert.HiddenKernelIdeal.τ).loc Cert.HiddenKernelIdeal.main_v0) = v0 c
          ∧ r.2.mem ((c.tc : Thread Cert.HiddenKernelIdeal.nD Cert.HiddenKernelIdeal.τ).loc Cert.HiddenKernelIdeal.main_arg0) = m ((c.tc : Thread Cert.HiddenKernelIdeal.nD Cert.HiddenKernelIdeal.τ).loc Cert.HiddenKernelIdeal.main_arg0)
          ∧ r.2.mem ((c.tc : Thread Cert.HiddenKernelIdeal.nD Cert.HiddenKernelIdeal.τ).loc Cert.HiddenKernelIdeal.main_arg1) = m ((c.tc : Thread Cert.HiddenKernelIdeal.nD Cert.HiddenKernelIdeal.τ).loc Cert.HiddenKernelIdeal.main_arg1)
          ∧ r.2.mem ((c.tc : Thread Cert.HiddenKernelIdeal.nD Cert.HiddenKernelIdeal.τ).loc Cert.HiddenKernelIdeal.main_arg2) = m ((c.tc : Thread Cert.HiddenKernelIdeal.nD Cert.HiddenKernelIdeal.τ).loc Cert.HiddenKernelIdeal.main_arg2)
          ∧ r.2.mem ((c.tc : Thread Cert.HiddenKernelIdeal.nD Cert.HiddenKernelIdeal.τ).loc Cert.HiddenKernelIdeal.main_arg3) = m ((c.tc : Thread Cert.HiddenKernelIdeal.nD Cert.HiddenKernelIdeal.τ).loc Cert.HiddenKernelIdeal.main_arg3))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v14) = v0 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)) →
    ∃ (v0 : (c : Dev Cert.GateKernelIdeal.nD) → Buf (Elt Ideal) ((c.tc : Thread Cert.GateKernelIdeal.nD Cert.GateKernelIdeal.τ).loc Cert.GateKernelIdeal.main_v0)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v0) = v0 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v10) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v9) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_ActKernel_ActKernelIdeal : Prop :=
  True

def algebraic_ActKernelIdeal_ActReferenceIdeal_pre_finite_factors [hActKernelIdeal : Cert.ActKernelIdeal.Facts] [hActReferenceIdeal : Cert.ActReferenceIdeal.Facts] [hPre_finite_factors : Cert.Pre_finite_factors.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActKernelIdeal_finite_factors m →
    (∀ c : Dev Cert.ActKernelIdeal.nD,
      m' ((c.tc : Thread Cert.ActReferenceIdeal.nD Cert.ActReferenceIdeal.τ).loc Cert.ActReferenceIdeal.main_arg0) = m ((c.tc : Thread Cert.ActKernelIdeal.nD Cert.ActKernelIdeal.τ).loc Cert.ActKernelIdeal.main_arg0)
      ∧ m' ((c.tc : Thread Cert.ActReferenceIdeal.nD Cert.ActReferenceIdeal.τ).loc Cert.ActReferenceIdeal.main_arg1) = m ((c.tc : Thread Cert.ActKernelIdeal.nD Cert.ActKernelIdeal.τ).loc Cert.ActKernelIdeal.main_arg1)
      ∧ m' ((c.tc : Thread Cert.ActReferenceIdeal.nD Cert.ActReferenceIdeal.τ).loc Cert.ActReferenceIdeal.main_arg2) = m ((c.tc : Thread Cert.ActKernelIdeal.nD Cert.ActKernelIdeal.τ).loc Cert.ActKernelIdeal.main_arg2)
      ∧ m' ((c.tc : Thread Cert.ActReferenceIdeal.nD Cert.ActReferenceIdeal.τ).loc Cert.ActReferenceIdeal.main_arg3) = m ((c.tc : Thread Cert.ActKernelIdeal.nD Cert.ActKernelIdeal.τ).loc Cert.ActKernelIdeal.main_arg3)) →
    ∃ (v0 : (c : Dev Cert.ActKernelIdeal.nD) → Buf (Elt Ideal) ((c.tc : Thread Cert.ActKernelIdeal.nD Cert.ActKernelIdeal.τ).loc Cert.ActKernelIdeal.main_v0_0)) (v1 : (c : Dev Cert.ActKernelIdeal.nD) → Buf (Elt Ideal) ((c.tc : Thread Cert.ActKernelIdeal.nD Cert.ActKernelIdeal.τ).loc Cert.ActKernelIdeal.main_v0_1)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v0_0) = v0 c
          ∧ r.2.mem ((c.tc : Thread Cert.ActKernelIdeal.nD Cert.ActKernelIdeal.τ).loc Cert.ActKernelIdeal.main_v0_1) = v1 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2)
          ∧ r.2.mem ((c.tc : Thread Cert.ActKernelIdeal.nD Cert.ActKernelIdeal.τ).loc Cert.ActKernelIdeal.main_arg3) = m ((c.tc : Thread Cert.ActKernelIdeal.nD Cert.ActKernelIdeal.τ).loc Cert.ActKernelIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v13) = v0 c
          ∧ r.2.mem ((c.tc : Thread Cert.ActReferenceIdeal.nD Cert.ActReferenceIdeal.τ).loc Cert.ActReferenceIdeal.main_v11) = v1 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_GateUpKernel_GateUpKernelIdeal : Prop :=
  True

def algebraic_GateUpKernelIdeal_GateUpReferenceIdeal [hGateUpKernelIdeal : Cert.GateUpKernelIdeal.Facts] [hGateUpReferenceIdeal : Cert.GateUpReferenceIdeal.Facts] : Prop :=
  ∀ (m : (ℓ : Loc Cert.GateUpKernelIdeal.nD Cert.GateUpKernelIdeal.τ Cert.GateUpKernelIdeal.sig) → Buf (Elt Ideal) ℓ) (g : Dev Cert.GateUpKernelIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpKernelIdeal m →
    (∀ c : Dev Cert.GateUpKernelIdeal.nD,
      m' ((c.tc : Thread Cert.GateUpReferenceIdeal.nD Cert.GateUpReferenceIdeal.τ).loc Cert.GateUpReferenceIdeal.main_arg0) = m ((c.tc : Thread Cert.GateUpKernelIdeal.nD Cert.GateUpKernelIdeal.τ).loc Cert.GateUpKernelIdeal.main_arg0)
      ∧ m' ((c.tc : Thread Cert.GateUpReferenceIdeal.nD Cert.GateUpReferenceIdeal.τ).loc Cert.GateUpReferenceIdeal.main_arg1) = m ((c.tc : Thread Cert.GateUpKernelIdeal.nD Cert.GateUpKernelIdeal.τ).loc Cert.GateUpKernelIdeal.main_arg1)
      ∧ m' ((c.tc : Thread Cert.GateUpReferenceIdeal.nD Cert.GateUpReferenceIdeal.τ).loc Cert.GateUpReferenceIdeal.main_arg2) = m ((c.tc : Thread Cert.GateUpKernelIdeal.nD Cert.GateUpKernelIdeal.τ).loc Cert.GateUpKernelIdeal.main_arg2)) →
    ∃ (v0 : (c : Dev Cert.GateUpKernelIdeal.nD) → Buf (Elt Ideal) ((c.tc : Thread Cert.GateUpKernelIdeal.nD Cert.GateUpKernelIdeal.τ).loc Cert.GateUpKernelIdeal.main_v0_0)) (v1 : (c : Dev Cert.GateUpKernelIdeal.nD) → Buf (Elt Ideal) ((c.tc : Thread Cert.GateUpKernelIdeal.nD Cert.GateUpKernelIdeal.τ).loc Cert.GateUpKernelIdeal.main_v0_1)) (v2 : (c : Dev Cert.GateUpKernelIdeal.nD) → Buf (Elt Ideal) ((c.tc : Thread Cert.GateUpKernelIdeal.nD Cert.GateUpKernelIdeal.τ).loc Cert.GateUpKernelIdeal.main_v0_2)),
      θ_run (Cert.GateUpKernelIdeal.defs (F := Ideal)) (onTc (τ := Cert.GateUpKernelIdeal.τ) (Cert.GateUpKernelIdeal.main (F := Ideal))) ⟨m, fun _ => 0, g⟩ (fun r => ∀ c : Dev Cert.GateUpKernelIdeal.nD,
          r.2.mem ((c.tc : Thread Cert.GateUpKernelIdeal.nD Cert.GateUpKernelIdeal.τ).loc Cert.GateUpKernelIdeal.main_v0_0) = v0 c
          ∧ r.2.mem ((c.tc : Thread Cert.GateUpKernelIdeal.nD Cert.GateUpKernelIdeal.τ).loc Cert.GateUpKernelIdeal.main_v0_1) = v1 c
          ∧ r.2.mem ((c.tc : Thread Cert.GateUpKernelIdeal.nD Cert.GateUpKernelIdeal.τ).loc Cert.GateUpKernelIdeal.main_v0_2) = v2 c
          ∧ r.2.mem ((c.tc : Thread Cert.GateUpKernelIdeal.nD Cert.GateUpKernelIdeal.τ).loc Cert.GateUpKernelIdeal.main_arg0) = m ((c.tc : Thread Cert.GateUpKernelIdeal.nD Cert.GateUpKernelIdeal.τ).loc Cert.GateUpKernelIdeal.main_arg0)
          ∧ r.2.mem ((c.tc : Thread Cert.GateUpKernelIdeal.nD Cert.GateUpKernelIdeal.τ).loc Cert.GateUpKernelIdeal.main_arg1) = m ((c.tc : Thread Cert.GateUpKernelIdeal.nD Cert.GateUpKernelIdeal.τ).loc Cert.GateUpKernelIdeal.main_arg1)
          ∧ r.2.mem ((c.tc : Thread Cert.GateUpKernelIdeal.nD Cert.GateUpKernelIdeal.τ).loc Cert.GateUpKernelIdeal.main_arg2) = m ((c.tc : Thread Cert.GateUpKernelIdeal.nD Cert.GateUpKernelIdeal.τ).loc Cert.GateUpKernelIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v10) = v0 c
          ∧ r.2.mem ((c.tc : Thread Cert.GateUpReferenceIdeal.nD Cert.GateUpReferenceIdeal.τ).loc Cert.GateUpReferenceIdeal.main_v11) = v1 c
          ∧ r.2.mem ((c.tc : Thread Cert.GateUpReferenceIdeal.nD Cert.GateUpReferenceIdeal.τ).loc Cert.GateUpReferenceIdeal.main_v14) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_DownFwdKernel_DownFwdKernelIdeal : Prop :=
  True

def algebraic_DownFwdKernelIdeal_DownFwdReferenceIdeal [hDownFwdKernelIdeal : Cert.DownFwdKernelIdeal.Facts] [hDownFwdReferenceIdeal : Cert.DownFwdReferenceIdeal.Facts] : Prop :=
  ∀ (m : (ℓ : Loc Cert.DownFwdKernelIdeal.nD Cert.DownFwdKernelIdeal.τ Cert.DownFwdKernelIdeal.sig) → Buf (Elt Ideal) ℓ) (g : Dev Cert.DownFwdKernelIdeal.nD → PrngReg)
    (m' : (ℓ : Loc Cert.DownFwdReferenceIdeal.nD Cert.DownFwdReferenceIdeal.τ Cert.DownFwdReferenceIdeal.sig) → Buf (Elt Ideal) ℓ) (g' : Dev Cert.DownFwdReferenceIdeal.nD → PrngReg), Pre_DownFwdKernelIdeal m →
    (∀ c : Dev Cert.DownFwdKernelIdeal.nD,
      m' ((c.tc : Thread Cert.DownFwdReferenceIdeal.nD Cert.DownFwdReferenceIdeal.τ).loc Cert.DownFwdReferenceIdeal.main_arg0) = m ((c.tc : Thread Cert.DownFwdKernelIdeal.nD Cert.DownFwdKernelIdeal.τ).loc Cert.DownFwdKernelIdeal.main_arg0)
      ∧ m' ((c.tc : Thread Cert.DownFwdReferenceIdeal.nD Cert.DownFwdReferenceIdeal.τ).loc Cert.DownFwdReferenceIdeal.main_arg1) = m ((c.tc : Thread Cert.DownFwdKernelIdeal.nD Cert.DownFwdKernelIdeal.τ).loc Cert.DownFwdKernelIdeal.main_arg1)
      ∧ m' ((c.tc : Thread Cert.DownFwdReferenceIdeal.nD Cert.DownFwdReferenceIdeal.τ).loc Cert.DownFwdReferenceIdeal.main_arg2) = m ((c.tc : Thread Cert.DownFwdKernelIdeal.nD Cert.DownFwdKernelIdeal.τ).loc Cert.DownFwdKernelIdeal.main_arg2)) →
    ∃ (v0 : (c : Dev Cert.DownFwdKernelIdeal.nD) → Buf (Elt Ideal) ((c.tc : Thread Cert.DownFwdKernelIdeal.nD Cert.DownFwdKernelIdeal.τ).loc Cert.DownFwdKernelIdeal.main_v0)),
      θ_run (Cert.DownFwdKernelIdeal.defs (F := Ideal)) (onTc (τ := Cert.DownFwdKernelIdeal.τ) (Cert.DownFwdKernelIdeal.main (F := Ideal))) ⟨m, fun _ => 0, g⟩ (fun r => ∀ c : Dev Cert.DownFwdKernelIdeal.nD,
          r.2.mem ((c.tc : Thread Cert.DownFwdKernelIdeal.nD Cert.DownFwdKernelIdeal.τ).loc Cert.DownFwdKernelIdeal.main_v0) = v0 c
          ∧ r.2.mem ((c.tc : Thread Cert.DownFwdKernelIdeal.nD Cert.DownFwdKernelIdeal.τ).loc Cert.DownFwdKernelIdeal.main_arg0) = m ((c.tc : Thread Cert.DownFwdKernelIdeal.nD Cert.DownFwdKernelIdeal.τ).loc Cert.DownFwdKernelIdeal.main_arg0)
          ∧ r.2.mem ((c.tc : Thread Cert.DownFwdKernelIdeal.nD Cert.DownFwdKernelIdeal.τ).loc Cert.DownFwdKernelIdeal.main_arg1) = m ((c.tc : Thread Cert.DownFwdKernelIdeal.nD Cert.DownFwdKernelIdeal.τ).loc Cert.DownFwdKernelIdeal.main_arg1)
          ∧ r.2.mem ((c.tc : Thread Cert.DownFwdKernelIdeal.nD Cert.DownFwdKernelIdeal.τ).loc Cert.DownFwdKernelIdeal.main_arg2) = m ((c.tc : Thread Cert.DownFwdKernelIdeal.nD Cert.DownFwdKernelIdeal.τ).loc Cert.DownFwdKernelIdeal.main_arg2))
      ∧ θ_run (Cert.DownFwdReferenceIdeal.defs (F := Ideal)) (onTc (τ := Cert.DownFwdReferenceIdeal.τ) (Cert.DownFwdReferenceIdeal.main (F := Ideal))) ⟨m', fun _ => 0, g'⟩ (fun r => ∀ c : Dev Cert.DownFwdReferenceIdeal.nD,
          r.2.mem ((c.tc : Thread Cert.DownFwdReferenceIdeal.nD Cert.DownFwdReferenceIdeal.τ).loc Cert.DownFwdReferenceIdeal.main_v4) = v0 c
          ∧ r.2.mem ((c.tc : Thread Cert.DownFwdReferenceIdeal.nD Cert.DownFwdReferenceIdeal.τ).loc Cert.DownFwdReferenceIdeal.main_arg0) = m' ((c.tc : Thread Cert.DownFwdReferenceIdeal.nD Cert.DownFwdReferenceIdeal.τ).loc Cert.DownFwdReferenceIdeal.main_arg0)
          ∧ r.2.mem ((c.tc : Thread Cert.DownFwdReferenceIdeal.nD Cert.DownFwdReferenceIdeal.τ).loc Cert.DownFwdReferenceIdeal.main_arg1) = m' ((c.tc : Thread Cert.DownFwdReferenceIdeal.nD Cert.DownFwdReferenceIdeal.τ).loc Cert.DownFwdReferenceIdeal.main_arg1)
          ∧ r.2.mem ((c.tc : Thread Cert.DownFwdReferenceIdeal.nD Cert.DownFwdReferenceIdeal.τ).loc Cert.DownFwdReferenceIdeal.main_arg2) = m' ((c.tc : Thread Cert.DownFwdReferenceIdeal.nD Cert.DownFwdReferenceIdeal.τ).loc Cert.DownFwdReferenceIdeal.main_arg2))

def preserves_SguInKernel_SguInKernelIdeal : Prop :=
  True

def algebraic_SguInKernelIdeal_SguInReferenceIdeal [hSguInKernelIdeal : Cert.SguInKernelIdeal.Facts] [hSguInReferenceIdeal : Cert.SguInReferenceIdeal.Facts] : Prop :=
  ∀ (m : (ℓ : Loc Cert.SguInKernelIdeal.nD Cert.SguInKernelIdeal.τ Cert.SguInKernelIdeal.sig) → Buf (Elt Ideal) ℓ) (g : Dev Cert.SguInKernelIdeal.nD → PrngReg)
    (m' : (ℓ : Loc Cert.SguInReferenceIdeal.nD Cert.SguInReferenceIdeal.τ Cert.SguInReferenceIdeal.sig) → Buf (Elt Ideal) ℓ) (g' : Dev Cert.SguInReferenceIdeal.nD → PrngReg), Pre_SguInKernelIdeal m →
    (∀ c : Dev Cert.SguInKernelIdeal.nD,
      m' ((c.tc : Thread Cert.SguInReferenceIdeal.nD Cert.SguInReferenceIdeal.τ).loc Cert.SguInReferenceIdeal.main_arg0) = m ((c.tc : Thread Cert.SguInKernelIdeal.nD Cert.SguInKernelIdeal.τ).loc Cert.SguInKernelIdeal.main_arg0)
      ∧ m' ((c.tc : Thread Cert.SguInReferenceIdeal.nD Cert.SguInReferenceIdeal.τ).loc Cert.SguInReferenceIdeal.main_arg1) = m ((c.tc : Thread Cert.SguInKernelIdeal.nD Cert.SguInKernelIdeal.τ).loc Cert.SguInKernelIdeal.main_arg1)) →
    ∃ (v0 : (c : Dev Cert.SguInKernelIdeal.nD) → Buf (Elt Ideal) ((c.tc : Thread Cert.SguInKernelIdeal.nD Cert.SguInKernelIdeal.τ).loc Cert.SguInKernelIdeal.main_v0)),
      θ_run (Cert.SguInKernelIdeal.defs (F := Ideal)) (onTc (τ := Cert.SguInKernelIdeal.τ) (Cert.SguInKernelIdeal.main (F := Ideal))) ⟨m, fun _ => 0, g⟩ (fun r => ∀ c : Dev Cert.SguInKernelIdeal.nD,
          r.2.mem ((c.tc : Thread Cert.SguInKernelIdeal.nD Cert.SguInKernelIdeal.τ).loc Cert.SguInKernelIdeal.main_v0) = v0 c
          ∧ r.2.mem ((c.tc : Thread Cert.SguInKernelIdeal.nD Cert.SguInKernelIdeal.τ).loc Cert.SguInKernelIdeal.main_arg0) = m ((c.tc : Thread Cert.SguInKernelIdeal.nD Cert.SguInKernelIdeal.τ).loc Cert.SguInKernelIdeal.main_arg0)
          ∧ r.2.mem ((c.tc : Thread Cert.SguInKernelIdeal.nD Cert.SguInKernelIdeal.τ).loc Cert.SguInKernelIdeal.main_arg1) = m ((c.tc : Thread Cert.SguInKernelIdeal.nD Cert.SguInKernelIdeal.τ).loc Cert.SguInKernelIdeal.main_arg1))
      ∧ θ_run (Cert.SguInReferenceIdeal.defs (F := Ideal)) (onTc (τ := Cert.SguInReferenceIdeal.τ) (Cert.SguInReferenceIdeal.main (F := Ideal))) ⟨m', fun _ => 0, g'⟩ (fun r => ∀ c : Dev Cert.SguInReferenceIdeal.nD,
          r.2.mem ((c.tc : Thread Cert.SguInReferenceIdeal.nD Cert.SguInReferenceIdeal.τ).loc Cert.SguInReferenceIdeal.main_v5) = v0 c
          ∧ r.2.mem ((c.tc : Thread Cert.SguInReferenceIdeal.nD Cert.SguInReferenceIdeal.τ).loc Cert.SguInReferenceIdeal.main_arg0) = m' ((c.tc : Thread Cert.SguInReferenceIdeal.nD Cert.SguInReferenceIdeal.τ).loc Cert.SguInReferenceIdeal.main_arg0)
          ∧ r.2.mem ((c.tc : Thread Cert.SguInReferenceIdeal.nD Cert.SguInReferenceIdeal.τ).loc Cert.SguInReferenceIdeal.main_arg1) = m' ((c.tc : Thread Cert.SguInReferenceIdeal.nD Cert.SguInReferenceIdeal.τ).loc Cert.SguInReferenceIdeal.main_arg1))

def preserves_AttnInKernel_AttnInKernelIdeal : Prop :=
  True

def algebraic_AttnInKernelIdeal_AttnInReferenceIdeal [hAttnInKernelIdeal : Cert.AttnInKernelIdeal.Facts] [hAttnInReferenceIdeal : Cert.AttnInReferenceIdeal.Facts] : Prop :=
  ∀ (m : (ℓ : Loc Cert.AttnInKernelIdeal.nD Cert.AttnInKernelIdeal.τ Cert.AttnInKernelIdeal.sig) → Buf (Elt Ideal) ℓ) (g : Dev Cert.AttnInKernelIdeal.nD → PrngReg)
    (m' : (ℓ : Loc Cert.AttnInReferenceIdeal.nD Cert.AttnInReferenceIdeal.τ Cert.AttnInReferenceIdeal.sig) → Buf (Elt Ideal) ℓ) (g' : Dev Cert.AttnInReferenceIdeal.nD → PrngReg), Pre_AttnInKernelIdeal m →
    (∀ c : Dev Cert.AttnInKernelIdeal.nD,
      m' ((c.tc : Thread Cert.AttnInReferenceIdeal.nD Cert.AttnInReferenceIdeal.τ).loc Cert.AttnInReferenceIdeal.main_arg0) = m ((c.tc : Thread Cert.AttnInKernelIdeal.nD Cert.AttnInKernelIdeal.τ).loc Cert.AttnInKernelIdeal.main_arg0)
      ∧ m' ((c.tc : Thread Cert.AttnInReferenceIdeal.nD Cert.AttnInReferenceIdeal.τ).loc Cert.AttnInReferenceIdeal.main_arg1) = m ((c.tc : Thread Cert.AttnInKernelIdeal.nD Cert.AttnInKernelIdeal.τ).loc Cert.AttnInKernelIdeal.main_arg1)) →
    ∃ (v0 : (c : Dev Cert.AttnInKernelIdeal.nD) → Buf (Elt Ideal) ((c.tc : Thread Cert.AttnInKernelIdeal.nD Cert.AttnInKernelIdeal.τ).loc Cert.AttnInKernelIdeal.main_v0)),
      θ_run (Cert.AttnInKernelIdeal.defs (F := Ideal)) (onTc (τ := Cert.AttnInKernelIdeal.τ) (Cert.AttnInKernelIdeal.main (F := Ideal))) ⟨m, fun _ => 0, g⟩ (fun r => ∀ c : Dev Cert.AttnInKernelIdeal.nD,
          r.2.mem ((c.tc : Thread Cert.AttnInKernelIdeal.nD Cert.AttnInKernelIdeal.τ).loc Cert.AttnInKernelIdeal.main_v0) = v0 c
          ∧ r.2.mem ((c.tc : Thread Cert.AttnInKernelIdeal.nD Cert.AttnInKernelIdeal.τ).loc Cert.AttnInKernelIdeal.main_arg0) = m ((c.tc : Thread Cert.AttnInKernelIdeal.nD Cert.AttnInKernelIdeal.τ).loc Cert.AttnInKernelIdeal.main_arg0)
          ∧ r.2.mem ((c.tc : Thread Cert.AttnInKernelIdeal.nD Cert.AttnInKernelIdeal.τ).loc Cert.AttnInKernelIdeal.main_arg1) = m ((c.tc : Thread Cert.AttnInKernelIdeal.nD Cert.AttnInKernelIdeal.τ).loc Cert.AttnInKernelIdeal.main_arg1))
      ∧ θ_run (Cert.AttnInReferenceIdeal.defs (F := Ideal)) (onTc (τ := Cert.AttnInReferenceIdeal.τ) (Cert.AttnInReferenceIdeal.main (F := Ideal))) ⟨m', fun _ => 0, g'⟩ (fun r => ∀ c : Dev Cert.AttnInReferenceIdeal.nD,
          r.2.mem ((c.tc : Thread Cert.AttnInReferenceIdeal.nD Cert.AttnInReferenceIdeal.τ).loc Cert.AttnInReferenceIdeal.main_v4) = v0 c
          ∧ r.2.mem ((c.tc : Thread Cert.AttnInReferenceIdeal.nD Cert.AttnInReferenceIdeal.τ).loc Cert.AttnInReferenceIdeal.main_arg0) = m' ((c.tc : Thread Cert.AttnInReferenceIdeal.nD Cert.AttnInReferenceIdeal.τ).loc Cert.AttnInReferenceIdeal.main_arg0)
          ∧ r.2.mem ((c.tc : Thread Cert.AttnInReferenceIdeal.nD Cert.AttnInReferenceIdeal.τ).loc Cert.AttnInReferenceIdeal.main_arg1) = m' ((c.tc : Thread Cert.AttnInReferenceIdeal.nD Cert.AttnInReferenceIdeal.τ).loc Cert.AttnInReferenceIdeal.main_arg1))

def preserves_SguInWKernel_SguInWKernelIdeal : Prop :=
  True

def algebraic_SguInWKernelIdeal_SguInWReferenceIdeal [hSguInWKernelIdeal : Cert.SguInWKernelIdeal.Facts] [hSguInWReferenceIdeal : Cert.SguInWReferenceIdeal.Facts] : Prop :=
  ∀ (m : (ℓ : Loc Cert.SguInWKernelIdeal.nD Cert.SguInWKernelIdeal.τ Cert.SguInWKernelIdeal.sig) → Buf (Elt Ideal) ℓ) (g : Dev Cert.SguInWKernelIdeal.nD → PrngReg)
    (m' : (ℓ : Loc Cert.SguInWReferenceIdeal.nD Cert.SguInWReferenceIdeal.τ Cert.SguInWReferenceIdeal.sig) → Buf (Elt Ideal) ℓ) (g' : Dev Cert.SguInWReferenceIdeal.nD → PrngReg), Pre_SguInWKernelIdeal m →
    (∀ c : Dev Cert.SguInWKernelIdeal.nD,
      m' ((c.tc : Thread Cert.SguInWReferenceIdeal.nD Cert.SguInWReferenceIdeal.τ).loc Cert.SguInWReferenceIdeal.main_arg0) = m ((c.tc : Thread Cert.SguInWKernelIdeal.nD Cert.SguInWKernelIdeal.τ).loc Cert.SguInWKernelIdeal.main_arg0)
      ∧ m' ((c.tc : Thread Cert.SguInWReferenceIdeal.nD Cert.SguInWReferenceIdeal.τ).loc Cert.SguInWReferenceIdeal.main_arg1) = m ((c.tc : Thread Cert.SguInWKernelIdeal.nD Cert.SguInWKernelIdeal.τ).loc Cert.SguInWKernelIdeal.main_arg1)
      ∧ m' ((c.tc : Thread Cert.SguInWReferenceIdeal.nD Cert.SguInWReferenceIdeal.τ).loc Cert.SguInWReferenceIdeal.main_arg2) = m ((c.tc : Thread Cert.SguInWKernelIdeal.nD Cert.SguInWKernelIdeal.τ).loc Cert.SguInWKernelIdeal.main_arg2)) →
    ∃ (v0 : (c : Dev Cert.SguInWKernelIdeal.nD) → Buf (Elt Ideal) ((c.tc : Thread Cert.SguInWKernelIdeal.nD Cert.SguInWKernelIdeal.τ).loc Cert.SguInWKernelIdeal.main_v0)),
      θ_run (Cert.SguInWKernelIdeal.defs (F := Ideal)) (onTc (τ := Cert.SguInWKernelIdeal.τ) (Cert.SguInWKernelIdeal.main (F := Ideal))) ⟨m, fun _ => 0, g⟩ (fun r => ∀ c : Dev Cert.SguInWKernelIdeal.nD,
          r.2.mem ((c.tc : Thread Cert.SguInWKernelIdeal.nD Cert.SguInWKernelIdeal.τ).loc Cert.SguInWKernelIdeal.main_v0) = v0 c
          ∧ r.2.mem ((c.tc : Thread Cert.SguInWKernelIdeal.nD Cert.SguInWKernelIdeal.τ).loc Cert.SguInWKernelIdeal.main_arg0) = m ((c.tc : Thread Cert.SguInWKernelIdeal.nD Cert.SguInWKernelIdeal.τ).loc Cert.SguInWKernelIdeal.main_arg0)
          ∧ r.2.mem ((c.tc : Thread Cert.SguInWKernelIdeal.nD Cert.SguInWKernelIdeal.τ).loc Cert.SguInWKernelIdeal.main_arg1) = m ((c.tc : Thread Cert.SguInWKernelIdeal.nD Cert.SguInWKernelIdeal.τ).loc Cert.SguInWKernelIdeal.main_arg1)
          ∧ r.2.mem ((c.tc : Thread Cert.SguInWKernelIdeal.nD Cert.SguInWKernelIdeal.τ).loc Cert.SguInWKernelIdeal.main_arg2) = m ((c.tc : Thread Cert.SguInWKernelIdeal.nD Cert.SguInWKernelIdeal.τ).loc Cert.SguInWKernelIdeal.main_arg2))
      ∧ θ_run (Cert.SguInWReferenceIdeal.defs (F := Ideal)) (onTc (τ := Cert.SguInWReferenceIdeal.τ) (Cert.SguInWReferenceIdeal.main (F := Ideal))) ⟨m', fun _ => 0, g'⟩ (fun r => ∀ c : Dev Cert.SguInWReferenceIdeal.nD,
          r.2.mem ((c.tc : Thread Cert.SguInWReferenceIdeal.nD Cert.SguInWReferenceIdeal.τ).loc Cert.SguInWReferenceIdeal.main_v10) = v0 c
          ∧ r.2.mem ((c.tc : Thread Cert.SguInWReferenceIdeal.nD Cert.SguInWReferenceIdeal.τ).loc Cert.SguInWReferenceIdeal.main_arg0) = m' ((c.tc : Thread Cert.SguInWReferenceIdeal.nD Cert.SguInWReferenceIdeal.τ).loc Cert.SguInWReferenceIdeal.main_arg0)
          ∧ r.2.mem ((c.tc : Thread Cert.SguInWReferenceIdeal.nD Cert.SguInWReferenceIdeal.τ).loc Cert.SguInWReferenceIdeal.main_arg1) = m' ((c.tc : Thread Cert.SguInWReferenceIdeal.nD Cert.SguInWReferenceIdeal.τ).loc Cert.SguInWReferenceIdeal.main_arg1)
          ∧ r.2.mem ((c.tc : Thread Cert.SguInWReferenceIdeal.nD Cert.SguInWReferenceIdeal.τ).loc Cert.SguInWReferenceIdeal.main_arg2) = m' ((c.tc : Thread Cert.SguInWReferenceIdeal.nD Cert.SguInWReferenceIdeal.τ).loc Cert.SguInWReferenceIdeal.main_arg2))

def preserves_AttnInWKernel_AttnInWKernelIdeal : Prop :=
  True

def algebraic_AttnInWKernelIdeal_AttnInWReferenceIdeal [hAttnInWKernelIdeal : Cert.AttnInWKernelIdeal.Facts] [hAttnInWReferenceIdeal : Cert.AttnInWReferenceIdeal.Facts] : Prop :=
  ∀ (m : (ℓ : Loc Cert.AttnInWKernelIdeal.nD Cert.AttnInWKernelIdeal.τ Cert.AttnInWKernelIdeal.sig) → Buf (Elt Ideal) ℓ) (g : Dev Cert.AttnInWKernelIdeal.nD → PrngReg)
    (m' : (ℓ : Loc Cert.AttnInWReferenceIdeal.nD Cert.AttnInWReferenceIdeal.τ Cert.AttnInWReferenceIdeal.sig) → Buf (Elt Ideal) ℓ) (g' : Dev Cert.AttnInWReferenceIdeal.nD → PrngReg), Pre_AttnInWKernelIdeal m →
    (∀ c : Dev Cert.AttnInWKernelIdeal.nD,
      m' ((c.tc : Thread Cert.AttnInWReferenceIdeal.nD Cert.AttnInWReferenceIdeal.τ).loc Cert.AttnInWReferenceIdeal.main_arg0) = m ((c.tc : Thread Cert.AttnInWKernelIdeal.nD Cert.AttnInWKernelIdeal.τ).loc Cert.AttnInWKernelIdeal.main_arg0)
      ∧ m' ((c.tc : Thread Cert.AttnInWReferenceIdeal.nD Cert.AttnInWReferenceIdeal.τ).loc Cert.AttnInWReferenceIdeal.main_arg1) = m ((c.tc : Thread Cert.AttnInWKernelIdeal.nD Cert.AttnInWKernelIdeal.τ).loc Cert.AttnInWKernelIdeal.main_arg1)
      ∧ m' ((c.tc : Thread Cert.AttnInWReferenceIdeal.nD Cert.AttnInWReferenceIdeal.τ).loc Cert.AttnInWReferenceIdeal.main_arg2) = m ((c.tc : Thread Cert.AttnInWKernelIdeal.nD Cert.AttnInWKernelIdeal.τ).loc Cert.AttnInWKernelIdeal.main_arg2)) →
    ∃ (v0 : (c : Dev Cert.AttnInWKernelIdeal.nD) → Buf (Elt Ideal) ((c.tc : Thread Cert.AttnInWKernelIdeal.nD Cert.AttnInWKernelIdeal.τ).loc Cert.AttnInWKernelIdeal.main_v0)),
      θ_run (Cert.AttnInWKernelIdeal.defs (F := Ideal)) (onTc (τ := Cert.AttnInWKernelIdeal.τ) (Cert.AttnInWKernelIdeal.main (F := Ideal))) ⟨m, fun _ => 0, g⟩ (fun r => ∀ c : Dev Cert.AttnInWKernelIdeal.nD,
          r.2.mem ((c.tc : Thread Cert.AttnInWKernelIdeal.nD Cert.AttnInWKernelIdeal.τ).loc Cert.AttnInWKernelIdeal.main_v0) = v0 c
          ∧ r.2.mem ((c.tc : Thread Cert.AttnInWKernelIdeal.nD Cert.AttnInWKernelIdeal.τ).loc Cert.AttnInWKernelIdeal.main_arg0) = m ((c.tc : Thread Cert.AttnInWKernelIdeal.nD Cert.AttnInWKernelIdeal.τ).loc Cert.AttnInWKernelIdeal.main_arg0)
          ∧ r.2.mem ((c.tc : Thread Cert.AttnInWKernelIdeal.nD Cert.AttnInWKernelIdeal.τ).loc Cert.AttnInWKernelIdeal.main_arg1) = m ((c.tc : Thread Cert.AttnInWKernelIdeal.nD Cert.AttnInWKernelIdeal.τ).loc Cert.AttnInWKernelIdeal.main_arg1)
          ∧ r.2.mem ((c.tc : Thread Cert.AttnInWKernelIdeal.nD Cert.AttnInWKernelIdeal.τ).loc Cert.AttnInWKernelIdeal.main_arg2) = m ((c.tc : Thread Cert.AttnInWKernelIdeal.nD Cert.AttnInWKernelIdeal.τ).loc Cert.AttnInWKernelIdeal.main_arg2))
      ∧ θ_run (Cert.AttnInWReferenceIdeal.defs (F := Ideal)) (onTc (τ := Cert.AttnInWReferenceIdeal.τ) (Cert.AttnInWReferenceIdeal.main (F := Ideal))) ⟨m', fun _ => 0, g'⟩ (fun r => ∀ c : Dev Cert.AttnInWReferenceIdeal.nD,
          r.2.mem ((c.tc : Thread Cert.AttnInWReferenceIdeal.nD Cert.AttnInWReferenceIdeal.τ).loc Cert.AttnInWReferenceIdeal.main_v10) = v0 c
          ∧ r.2.mem ((c.tc : Thread Cert.AttnInWReferenceIdeal.nD Cert.AttnInWReferenceIdeal.τ).loc Cert.AttnInWReferenceIdeal.main_arg0) = m' ((c.tc : Thread Cert.AttnInWReferenceIdeal.nD Cert.AttnInWReferenceIdeal.τ).loc Cert.AttnInWReferenceIdeal.main_arg0)
          ∧ r.2.mem ((c.tc : Thread Cert.AttnInWReferenceIdeal.nD Cert.AttnInWReferenceIdeal.τ).loc Cert.AttnInWReferenceIdeal.main_arg1) = m' ((c.tc : Thread Cert.AttnInWReferenceIdeal.nD Cert.AttnInWReferenceIdeal.τ).loc Cert.AttnInWReferenceIdeal.main_arg1)
          ∧ r.2.mem ((c.tc : Thread Cert.AttnInWReferenceIdeal.nD Cert.AttnInWReferenceIdeal.τ).loc Cert.AttnInWReferenceIdeal.main_arg2) = m' ((c.tc : Thread Cert.AttnInWReferenceIdeal.nD Cert.AttnInWReferenceIdeal.τ).loc Cert.AttnInWReferenceIdeal.main_arg2))

def preserves_SguInHKernel_SguInHKernelIdeal : Prop :=
  True

def algebraic_SguInHKernelIdeal_SguInHReferenceIdeal [hSguInHKernelIdeal : Cert.SguInHKernelIdeal.Facts] [hSguInHReferenceIdeal : Cert.SguInHReferenceIdeal.Facts] : Prop :=
  ∀ (m : (ℓ : Loc Cert.SguInHKernelIdeal.nD Cert.SguInHKernelIdeal.τ Cert.SguInHKernelIdeal.sig) → Buf (Elt Ideal) ℓ) (g : Dev Cert.SguInHKernelIdeal.nD → PrngReg)
    (m' : (ℓ : Loc Cert.SguInHReferenceIdeal.nD Cert.SguInHReferenceIdeal.τ Cert.SguInHReferenceIdeal.sig) → Buf (Elt Ideal) ℓ) (g' : Dev Cert.SguInHReferenceIdeal.nD → PrngReg), Pre_SguInHKernelIdeal m →
    (∀ c : Dev Cert.SguInHKernelIdeal.nD,
      m' ((c.tc : Thread Cert.SguInHReferenceIdeal.nD Cert.SguInHReferenceIdeal.τ).loc Cert.SguInHReferenceIdeal.main_arg0) = m ((c.tc : Thread Cert.SguInHKernelIdeal.nD Cert.SguInHKernelIdeal.τ).loc Cert.SguInHKernelIdeal.main_arg0)
      ∧ m' ((c.tc : Thread Cert.SguInHReferenceIdeal.nD Cert.SguInHReferenceIdeal.τ).loc Cert.SguInHReferenceIdeal.main_arg1) = m ((c.tc : Thread Cert.SguInHKernelIdeal.nD Cert.SguInHKernelIdeal.τ).loc Cert.SguInHKernelIdeal.main_arg1)) →
    ∃ (v0 : (c : Dev Cert.SguInHKernelIdeal.nD) → Buf (Elt Ideal) ((c.tc : Thread Cert.SguInHKernelIdeal.nD Cert.SguInHKernelIdeal.τ).loc Cert.SguInHKernelIdeal.main_v0)),
      θ_run (Cert.SguInHKernelIdeal.defs (F := Ideal)) (onTc (τ := Cert.SguInHKernelIdeal.τ) (Cert.SguInHKernelIdeal.main (F := Ideal))) ⟨m, fun _ => 0, g⟩ (fun r => ∀ c : Dev Cert.SguInHKernelIdeal.nD,
          r.2.mem ((c.tc : Thread Cert.SguInHKernelIdeal.nD Cert.SguInHKernelIdeal.τ).loc Cert.SguInHKernelIdeal.main_v0) = v0 c
          ∧ r.2.mem ((c.tc : Thread Cert.SguInHKernelIdeal.nD Cert.SguInHKernelIdeal.τ).loc Cert.SguInHKernelIdeal.main_arg0) = m ((c.tc : Thread Cert.SguInHKernelIdeal.nD Cert.SguInHKernelIdeal.τ).loc Cert.SguInHKernelIdeal.main_arg0)
          ∧ r.2.mem ((c.tc : Thread Cert.SguInHKernelIdeal.nD Cert.SguInHKernelIdeal.τ).loc Cert.SguInHKernelIdeal.main_arg1) = m ((c.tc : Thread Cert.SguInHKernelIdeal.nD Cert.SguInHKernelIdeal.τ).loc Cert.SguInHKernelIdeal.main_arg1))
      ∧ θ_run (Cert.SguInHReferenceIdeal.defs (F := Ideal)) (onTc (τ := Cert.SguInHReferenceIdeal.τ) (Cert.SguInHReferenceIdeal.main (F := Ideal))) ⟨m', fun _ => 0, g'⟩ (fun r => ∀ c : Dev Cert.SguInHReferenceIdeal.nD,
          r.2.mem ((c.tc : Thread Cert.SguInHReferenceIdeal.nD Cert.SguInHReferenceIdeal.τ).loc Cert.SguInHReferenceIdeal.main_v7) = v0 c
          ∧ r.2.mem ((c.tc : Thread Cert.SguInHReferenceIdeal.nD Cert.SguInHReferenceIdeal.τ).loc Cert.SguInHReferenceIdeal.main_arg0) = m' ((c.tc : Thread Cert.SguInHReferenceIdeal.nD Cert.SguInHReferenceIdeal.τ).loc Cert.SguInHReferenceIdeal.main_arg0)
          ∧ r.2.mem ((c.tc : Thread Cert.SguInHReferenceIdeal.nD Cert.SguInHReferenceIdeal.τ).loc Cert.SguInHReferenceIdeal.main_arg1) = m' ((c.tc : Thread Cert.SguInHReferenceIdeal.nD Cert.SguInHReferenceIdeal.τ).loc Cert.SguInHReferenceIdeal.main_arg1))

def preserves_AttnInHKernel_AttnInHKernelIdeal : Prop :=
  True

def algebraic_AttnInHKernelIdeal_AttnInHReferenceIdeal [hAttnInHKernelIdeal : Cert.AttnInHKernelIdeal.Facts] [hAttnInHReferenceIdeal : Cert.AttnInHReferenceIdeal.Facts] : Prop :=
  ∀ (m : (ℓ : Loc Cert.AttnInHKernelIdeal.nD Cert.AttnInHKernelIdeal.τ Cert.AttnInHKernelIdeal.sig) → Buf (Elt Ideal) ℓ) (g : Dev Cert.AttnInHKernelIdeal.nD → PrngReg)
    (m' : (ℓ : Loc Cert.AttnInHReferenceIdeal.nD Cert.AttnInHReferenceIdeal.τ Cert.AttnInHReferenceIdeal.sig) → Buf (Elt Ideal) ℓ) (g' : Dev Cert.AttnInHReferenceIdeal.nD → PrngReg), Pre_AttnInHKernelIdeal m →
    (∀ c : Dev Cert.AttnInHKernelIdeal.nD,
      m' ((c.tc : Thread Cert.AttnInHReferenceIdeal.nD Cert.AttnInHReferenceIdeal.τ).loc Cert.AttnInHReferenceIdeal.main_arg0) = m ((c.tc : Thread Cert.AttnInHKernelIdeal.nD Cert.AttnInHKernelIdeal.τ).loc Cert.AttnInHKernelIdeal.main_arg0)
      ∧ m' ((c.tc : Thread Cert.AttnInHReferenceIdeal.nD Cert.AttnInHReferenceIdeal.τ).loc Cert.AttnInHReferenceIdeal.main_arg1) = m ((c.tc : Thread Cert.AttnInHKernelIdeal.nD Cert.AttnInHKernelIdeal.τ).loc Cert.AttnInHKernelIdeal.main_arg1)) →
    ∃ (v0 : (c : Dev Cert.AttnInHKernelIdeal.nD) → Buf (Elt Ideal) ((c.tc : Thread Cert.AttnInHKernelIdeal.nD Cert.AttnInHKernelIdeal.τ).loc Cert.AttnInHKernelIdeal.main_v0)),
      θ_run (Cert.AttnInHKernelIdeal.defs (F := Ideal)) (onTc (τ := Cert.AttnInHKernelIdeal.τ) (Cert.AttnInHKernelIdeal.main (F := Ideal))) ⟨m, fun _ => 0, g⟩ (fun r => ∀ c : Dev Cert.AttnInHKernelIdeal.nD,
          r.2.mem ((c.tc : Thread Cert.AttnInHKernelIdeal.nD Cert.AttnInHKernelIdeal.τ).loc Cert.AttnInHKernelIdeal.main_v0) = v0 c
          ∧ r.2.mem ((c.tc : Thread Cert.AttnInHKernelIdeal.nD Cert.AttnInHKernelIdeal.τ).loc Cert.AttnInHKernelIdeal.main_arg0) = m ((c.tc : Thread Cert.AttnInHKernelIdeal.nD Cert.AttnInHKernelIdeal.τ).loc Cert.AttnInHKernelIdeal.main_arg0)
          ∧ r.2.mem ((c.tc : Thread Cert.AttnInHKernelIdeal.nD Cert.AttnInHKernelIdeal.τ).loc Cert.AttnInHKernelIdeal.main_arg1) = m ((c.tc : Thread Cert.AttnInHKernelIdeal.nD Cert.AttnInHKernelIdeal.τ).loc Cert.AttnInHKernelIdeal.main_arg1))
      ∧ θ_run (Cert.AttnInHReferenceIdeal.defs (F := Ideal)) (onTc (τ := Cert.AttnInHReferenceIdeal.τ) (Cert.AttnInHReferenceIdeal.main (F := Ideal))) ⟨m', fun _ => 0, g'⟩ (fun r => ∀ c : Dev Cert.AttnInHReferenceIdeal.nD,
          r.2.mem ((c.tc : Thread Cert.AttnInHReferenceIdeal.nD Cert.AttnInHReferenceIdeal.τ).loc Cert.AttnInHReferenceIdeal.main_v7) = v0 c
          ∧ r.2.mem ((c.tc : Thread Cert.AttnInHReferenceIdeal.nD Cert.AttnInHReferenceIdeal.τ).loc Cert.AttnInHReferenceIdeal.main_arg0) = m' ((c.tc : Thread Cert.AttnInHReferenceIdeal.nD Cert.AttnInHReferenceIdeal.τ).loc Cert.AttnInHReferenceIdeal.main_arg0)
          ∧ r.2.mem ((c.tc : Thread Cert.AttnInHReferenceIdeal.nD Cert.AttnInHReferenceIdeal.τ).loc Cert.AttnInHReferenceIdeal.main_arg1) = m' ((c.tc : Thread Cert.AttnInHReferenceIdeal.nD Cert.AttnInHReferenceIdeal.τ).loc Cert.AttnInHReferenceIdeal.main_arg1))

def preserves_SguCatKernel_SguCatKernelIdeal : Prop :=
  True

def algebraic_SguCatKernelIdeal_SguCatReferenceIdeal [hSguCatKernelIdeal : Cert.SguCatKernelIdeal.Facts] [hSguCatReferenceIdeal : Cert.SguCatReferenceIdeal.Facts] : Prop :=
  ∀ (m : (ℓ : Loc Cert.SguCatKernelIdeal.nD Cert.SguCatKernelIdeal.τ Cert.SguCatKernelIdeal.sig) → Buf (Elt Ideal) ℓ) (g : Dev Cert.SguCatKernelIdeal.nD → PrngReg)
    (m' : (ℓ : Loc Cert.SguCatReferenceIdeal.nD Cert.SguCatReferenceIdeal.τ Cert.SguCatReferenceIdeal.sig) → Buf (Elt Ideal) ℓ) (g' : Dev Cert.SguCatReferenceIdeal.nD → PrngReg), Pre_SguCatKernelIdeal m →
    (∀ c : Dev Cert.SguCatKernelIdeal.nD,
      m' ((c.tc : Thread Cert.SguCatReferenceIdeal.nD Cert.SguCatReferenceIdeal.τ).loc Cert.SguCatReferenceIdeal.main_arg0) = m ((c.tc : Thread Cert.SguCatKernelIdeal.nD Cert.SguCatKernelIdeal.τ).loc Cert.SguCatKernelIdeal.main_arg0)
      ∧ m' ((c.tc : Thread Cert.SguCatReferenceIdeal.nD Cert.SguCatReferenceIdeal.τ).loc Cert.SguCatReferenceIdeal.main_arg1) = m ((c.tc : Thread Cert.SguCatKernelIdeal.nD Cert.SguCatKernelIdeal.τ).loc Cert.SguCatKernelIdeal.main_arg1)) →
    ∃ (v0 : (c : Dev Cert.SguCatKernelIdeal.nD) → Buf (Elt Ideal) ((c.tc : Thread Cert.SguCatKernelIdeal.nD Cert.SguCatKernelIdeal.τ).loc Cert.SguCatKernelIdeal.main_v0)),
      θ_run (Cert.SguCatKernelIdeal.defs (F := Ideal)) (onTc (τ := Cert.SguCatKernelIdeal.τ) (Cert.SguCatKernelIdeal.main (F := Ideal))) ⟨m, fun _ => 0, g⟩ (fun r => ∀ c : Dev Cert.SguCatKernelIdeal.nD,
          r.2.mem ((c.tc : Thread Cert.SguCatKernelIdeal.nD Cert.SguCatKernelIdeal.τ).loc Cert.SguCatKernelIdeal.main_v0) = v0 c
          ∧ r.2.mem ((c.tc : Thread Cert.SguCatKernelIdeal.nD Cert.SguCatKernelIdeal.τ).loc Cert.SguCatKernelIdeal.main_arg0) = m ((c.tc : Thread Cert.SguCatKernelIdeal.nD Cert.SguCatKernelIdeal.τ).loc Cert.SguCatKernelIdeal.main_arg0)
          ∧ r.2.mem ((c.tc : Thread Cert.SguCatKernelIdeal.nD Cert.SguCatKernelIdeal.τ).loc Cert.SguCatKernelIdeal.main_arg1) = m ((c.tc : Thread Cert.SguCatKernelIdeal.nD Cert.SguCatKernelIdeal.τ).loc Cert.SguCatKernelIdeal.main_arg1))
      ∧ θ_run (Cert.SguCatReferenceIdeal.defs (F := Ideal)) (onTc (τ := Cert.SguCatReferenceIdeal.τ) (Cert.SguCatReferenceIdeal.main (F := Ideal))) ⟨m', fun _ => 0, g'⟩ (fun r => ∀ c : Dev Cert.SguCatReferenceIdeal.nD,
          r.2.mem ((c.tc : Thread Cert.SguCatReferenceIdeal.nD Cert.SguCatReferenceIdeal.τ).loc Cert.SguCatReferenceIdeal.main_v6) = v0 c
          ∧ r.2.mem ((c.tc : Thread Cert.SguCatReferenceIdeal.nD Cert.SguCatReferenceIdeal.τ).loc Cert.SguCatReferenceIdeal.main_arg0) = m' ((c.tc : Thread Cert.SguCatReferenceIdeal.nD Cert.SguCatReferenceIdeal.τ).loc Cert.SguCatReferenceIdeal.main_arg0)
          ∧ r.2.mem ((c.tc : Thread Cert.SguCatReferenceIdeal.nD Cert.SguCatReferenceIdeal.τ).loc Cert.SguCatReferenceIdeal.main_arg1) = m' ((c.tc : Thread Cert.SguCatReferenceIdeal.nD Cert.SguCatReferenceIdeal.τ).loc Cert.SguCatReferenceIdeal.main_arg1))

def preserves_AttnCatKernel_AttnCatKernelIdeal : Prop :=
  True

def algebraic_AttnCatKernelIdeal_AttnCatReferenceIdeal [hAttnCatKernelIdeal : Cert.AttnCatKernelIdeal.Facts] [hAttnCatReferenceIdeal : Cert.AttnCatReferenceIdeal.Facts] : Prop :=
  ∀ (m : (ℓ : Loc Cert.AttnCatKernelIdeal.nD Cert.AttnCatKernelIdeal.τ Cert.AttnCatKernelIdeal.sig) → Buf (Elt Ideal) ℓ) (g : Dev Cert.AttnCatKernelIdeal.nD → PrngReg)
    (m' : (ℓ : Loc Cert.AttnCatReferenceIdeal.nD Cert.AttnCatReferenceIdeal.τ Cert.AttnCatReferenceIdeal.sig) → Buf (Elt Ideal) ℓ) (g' : Dev Cert.AttnCatReferenceIdeal.nD → PrngReg), Pre_AttnCatKernelIdeal m →
    (∀ c : Dev Cert.AttnCatKernelIdeal.nD,
      m' ((c.tc : Thread Cert.AttnCatReferenceIdeal.nD Cert.AttnCatReferenceIdeal.τ).loc Cert.AttnCatReferenceIdeal.main_arg0) = m ((c.tc : Thread Cert.AttnCatKernelIdeal.nD Cert.AttnCatKernelIdeal.τ).loc Cert.AttnCatKernelIdeal.main_arg0)
      ∧ m' ((c.tc : Thread Cert.AttnCatReferenceIdeal.nD Cert.AttnCatReferenceIdeal.τ).loc Cert.AttnCatReferenceIdeal.main_arg1) = m ((c.tc : Thread Cert.AttnCatKernelIdeal.nD Cert.AttnCatKernelIdeal.τ).loc Cert.AttnCatKernelIdeal.main_arg1)) →
    ∃ (v0 : (c : Dev Cert.AttnCatKernelIdeal.nD) → Buf (Elt Ideal) ((c.tc : Thread Cert.AttnCatKernelIdeal.nD Cert.AttnCatKernelIdeal.τ).loc Cert.AttnCatKernelIdeal.main_v0)),
      θ_run (Cert.AttnCatKernelIdeal.defs (F := Ideal)) (onTc (τ := Cert.AttnCatKernelIdeal.τ) (Cert.AttnCatKernelIdeal.main (F := Ideal))) ⟨m, fun _ => 0, g⟩ (fun r => ∀ c : Dev Cert.AttnCatKernelIdeal.nD,
          r.2.mem ((c.tc : Thread Cert.AttnCatKernelIdeal.nD Cert.AttnCatKernelIdeal.τ).loc Cert.AttnCatKernelIdeal.main_v0) = v0 c
          ∧ r.2.mem ((c.tc : Thread Cert.AttnCatKernelIdeal.nD Cert.AttnCatKernelIdeal.τ).loc Cert.AttnCatKernelIdeal.main_arg0) = m ((c.tc : Thread Cert.AttnCatKernelIdeal.nD Cert.AttnCatKernelIdeal.τ).loc Cert.AttnCatKernelIdeal.main_arg0)
          ∧ r.2.mem ((c.tc : Thread Cert.AttnCatKernelIdeal.nD Cert.AttnCatKernelIdeal.τ).loc Cert.AttnCatKernelIdeal.main_arg1) = m ((c.tc : Thread Cert.AttnCatKernelIdeal.nD Cert.AttnCatKernelIdeal.τ).loc Cert.AttnCatKernelIdeal.main_arg1))
      ∧ θ_run (Cert.AttnCatReferenceIdeal.defs (F := Ideal)) (onTc (τ := Cert.AttnCatReferenceIdeal.τ) (Cert.AttnCatReferenceIdeal.main (F := Ideal))) ⟨m', fun _ => 0, g'⟩ (fun r => ∀ c : Dev Cert.AttnCatReferenceIdeal.nD,
          r.2.mem ((c.tc : Thread Cert.AttnCatReferenceIdeal.nD Cert.AttnCatReferenceIdeal.τ).loc Cert.AttnCatReferenceIdeal.main_v6) = v0 c
          ∧ r.2.mem ((c.tc : Thread Cert.AttnCatReferenceIdeal.nD Cert.AttnCatReferenceIdeal.τ).loc Cert.AttnCatReferenceIdeal.main_arg0) = m' ((c.tc : Thread Cert.AttnCatReferenceIdeal.nD Cert.AttnCatReferenceIdeal.τ).loc Cert.AttnCatReferenceIdeal.main_arg0)
          ∧ r.2.mem ((c.tc : Thread Cert.AttnCatReferenceIdeal.nD Cert.AttnCatReferenceIdeal.τ).loc Cert.AttnCatReferenceIdeal.main_arg1) = m' ((c.tc : Thread Cert.AttnCatReferenceIdeal.nD Cert.AttnCatReferenceIdeal.τ).loc Cert.AttnCatReferenceIdeal.main_arg1))

def preserves_SguOutWKernel_SguOutWKernelIdeal : Prop :=
  True

def algebraic_SguOutWKernelIdeal_SguOutWReferenceIdeal [hSguOutWKernelIdeal : Cert.SguOutWKernelIdeal.Facts] [hSguOutWReferenceIdeal : Cert.SguOutWReferenceIdeal.Facts] : Prop :=
  ∀ (m : (ℓ : Loc Cert.SguOutWKernelIdeal.nD Cert.SguOutWKernelIdeal.τ Cert.SguOutWKernelIdeal.sig) → Buf (Elt Ideal) ℓ) (g : Dev Cert.SguOutWKernelIdeal.nD → PrngReg)
    (m' : (ℓ : Loc Cert.SguOutWReferenceIdeal.nD Cert.SguOutWReferenceIdeal.τ Cert.SguOutWReferenceIdeal.sig) → Buf (Elt Ideal) ℓ) (g' : Dev Cert.SguOutWReferenceIdeal.nD → PrngReg), Pre_SguOutWKernelIdeal m →
    (∀ c : Dev Cert.SguOutWKernelIdeal.nD,
      m' ((c.tc : Thread Cert.SguOutWReferenceIdeal.nD Cert.SguOutWReferenceIdeal.τ).loc Cert.SguOutWReferenceIdeal.main_arg0) = m ((c.tc : Thread Cert.SguOutWKernelIdeal.nD Cert.SguOutWKernelIdeal.τ).loc Cert.SguOutWKernelIdeal.main_arg0)
      ∧ m' ((c.tc : Thread Cert.SguOutWReferenceIdeal.nD Cert.SguOutWReferenceIdeal.τ).loc Cert.SguOutWReferenceIdeal.main_arg1) = m ((c.tc : Thread Cert.SguOutWKernelIdeal.nD Cert.SguOutWKernelIdeal.τ).loc Cert.SguOutWKernelIdeal.main_arg1)
      ∧ m' ((c.tc : Thread Cert.SguOutWReferenceIdeal.nD Cert.SguOutWReferenceIdeal.τ).loc Cert.SguOutWReferenceIdeal.main_arg2) = m ((c.tc : Thread Cert.SguOutWKernelIdeal.nD Cert.SguOutWKernelIdeal.τ).loc Cert.SguOutWKernelIdeal.main_arg2)) →
    ∃ (v0 : (c : Dev Cert.SguOutWKernelIdeal.nD) → Buf (Elt Ideal) ((c.tc : Thread Cert.SguOutWKernelIdeal.nD Cert.SguOutWKernelIdeal.τ).loc Cert.SguOutWKernelIdeal.main_v0)),
      θ_run (Cert.SguOutWKernelIdeal.defs (F := Ideal)) (onTc (τ := Cert.SguOutWKernelIdeal.τ) (Cert.SguOutWKernelIdeal.main (F := Ideal))) ⟨m, fun _ => 0, g⟩ (fun r => ∀ c : Dev Cert.SguOutWKernelIdeal.nD,
          r.2.mem ((c.tc : Thread Cert.SguOutWKernelIdeal.nD Cert.SguOutWKernelIdeal.τ).loc Cert.SguOutWKernelIdeal.main_v0) = v0 c
          ∧ r.2.mem ((c.tc : Thread Cert.SguOutWKernelIdeal.nD Cert.SguOutWKernelIdeal.τ).loc Cert.SguOutWKernelIdeal.main_arg0) = m ((c.tc : Thread Cert.SguOutWKernelIdeal.nD Cert.SguOutWKernelIdeal.τ).loc Cert.SguOutWKernelIdeal.main_arg0)
          ∧ r.2.mem ((c.tc : Thread Cert.SguOutWKernelIdeal.nD Cert.SguOutWKernelIdeal.τ).loc Cert.SguOutWKernelIdeal.main_arg1) = m ((c.tc : Thread Cert.SguOutWKernelIdeal.nD Cert.SguOutWKernelIdeal.τ).loc Cert.SguOutWKernelIdeal.main_arg1)
          ∧ r.2.mem ((c.tc : Thread Cert.SguOutWKernelIdeal.nD Cert.SguOutWKernelIdeal.τ).loc Cert.SguOutWKernelIdeal.main_arg2) = m ((c.tc : Thread Cert.SguOutWKernelIdeal.nD Cert.SguOutWKernelIdeal.τ).loc Cert.SguOutWKernelIdeal.main_arg2))
      ∧ θ_run (Cert.SguOutWReferenceIdeal.defs (F := Ideal)) (onTc (τ := Cert.SguOutWReferenceIdeal.τ) (Cert.SguOutWReferenceIdeal.main (F := Ideal))) ⟨m', fun _ => 0, g'⟩ (fun r => ∀ c : Dev Cert.SguOutWReferenceIdeal.nD,
          r.2.mem ((c.tc : Thread Cert.SguOutWReferenceIdeal.nD Cert.SguOutWReferenceIdeal.τ).loc Cert.SguOutWReferenceIdeal.main_v9) = v0 c
          ∧ r.2.mem ((c.tc : Thread Cert.SguOutWReferenceIdeal.nD Cert.SguOutWReferenceIdeal.τ).loc Cert.SguOutWReferenceIdeal.main_arg0) = m' ((c.tc : Thread Cert.SguOutWReferenceIdeal.nD Cert.SguOutWReferenceIdeal.τ).loc Cert.SguOutWReferenceIdeal.main_arg0)
          ∧ r.2.mem ((c.tc : Thread Cert.SguOutWReferenceIdeal.nD Cert.SguOutWReferenceIdeal.τ).loc Cert.SguOutWReferenceIdeal.main_arg1) = m' ((c.tc : Thread Cert.SguOutWReferenceIdeal.nD Cert.SguOutWReferenceIdeal.τ).loc Cert.SguOutWReferenceIdeal.main_arg1)
          ∧ r.2.mem ((c.tc : Thread Cert.SguOutWReferenceIdeal.nD Cert.SguOutWReferenceIdeal.τ).loc Cert.SguOutWReferenceIdeal.main_arg2) = m' ((c.tc : Thread Cert.SguOutWReferenceIdeal.nD Cert.SguOutWReferenceIdeal.τ).loc Cert.SguOutWReferenceIdeal.main_arg2))

def preserves_AttnOutWKernel_AttnOutWKernelIdeal : Prop :=
  True

def algebraic_AttnOutWKernelIdeal_AttnOutWReferenceIdeal [hAttnOutWKernelIdeal : Cert.AttnOutWKernelIdeal.Facts] [hAttnOutWReferenceIdeal : Cert.AttnOutWReferenceIdeal.Facts] : Prop :=
  ∀ (m : (ℓ : Loc Cert.AttnOutWKernelIdeal.nD Cert.AttnOutWKernelIdeal.τ Cert.AttnOutWKernelIdeal.sig) → Buf (Elt Ideal) ℓ) (g : Dev Cert.AttnOutWKernelIdeal.nD → PrngReg)
    (m' : (ℓ : Loc Cert.AttnOutWReferenceIdeal.nD Cert.AttnOutWReferenceIdeal.τ Cert.AttnOutWReferenceIdeal.sig) → Buf (Elt Ideal) ℓ) (g' : Dev Cert.AttnOutWReferenceIdeal.nD → PrngReg), Pre_AttnOutWKernelIdeal m →
    (∀ c : Dev Cert.AttnOutWKernelIdeal.nD,
      m' ((c.tc : Thread Cert.AttnOutWReferenceIdeal.nD Cert.AttnOutWReferenceIdeal.τ).loc Cert.AttnOutWReferenceIdeal.main_arg0) = m ((c.tc : Thread Cert.AttnOutWKernelIdeal.nD Cert.AttnOutWKernelIdeal.τ).loc Cert.AttnOutWKernelIdeal.main_arg0)
      ∧ m' ((c.tc : Thread Cert.AttnOutWReferenceIdeal.nD Cert.AttnOutWReferenceIdeal.τ).loc Cert.AttnOutWReferenceIdeal.main_arg1) = m ((c.tc : Thread Cert.AttnOutWKernelIdeal.nD Cert.AttnOutWKernelIdeal.τ).loc Cert.AttnOutWKernelIdeal.main_arg1)
      ∧ m' ((c.tc : Thread Cert.AttnOutWReferenceIdeal.nD Cert.AttnOutWReferenceIdeal.τ).loc Cert.AttnOutWReferenceIdeal.main_arg2) = m ((c.tc : Thread Cert.AttnOutWKernelIdeal.nD Cert.AttnOutWKernelIdeal.τ).loc Cert.AttnOutWKernelIdeal.main_arg2)) →
    ∃ (v0 : (c : Dev Cert.AttnOutWKernelIdeal.nD) → Buf (Elt Ideal) ((c.tc : Thread Cert.AttnOutWKernelIdeal.nD Cert.AttnOutWKernelIdeal.τ).loc Cert.AttnOutWKernelIdeal.main_v0)),
      θ_run (Cert.AttnOutWKernelIdeal.defs (F := Ideal)) (onTc (τ := Cert.AttnOutWKernelIdeal.τ) (Cert.AttnOutWKernelIdeal.main (F := Ideal))) ⟨m, fun _ => 0, g⟩ (fun r => ∀ c : Dev Cert.AttnOutWKernelIdeal.nD,
          r.2.mem ((c.tc : Thread Cert.AttnOutWKernelIdeal.nD Cert.AttnOutWKernelIdeal.τ).loc Cert.AttnOutWKernelIdeal.main_v0) = v0 c
          ∧ r.2.mem ((c.tc : Thread Cert.AttnOutWKernelIdeal.nD Cert.AttnOutWKernelIdeal.τ).loc Cert.AttnOutWKernelIdeal.main_arg0) = m ((c.tc : Thread Cert.AttnOutWKernelIdeal.nD Cert.AttnOutWKernelIdeal.τ).loc Cert.AttnOutWKernelIdeal.main_arg0)
          ∧ r.2.mem ((c.tc : Thread Cert.AttnOutWKernelIdeal.nD Cert.AttnOutWKernelIdeal.τ).loc Cert.AttnOutWKernelIdeal.main_arg1) = m ((c.tc : Thread Cert.AttnOutWKernelIdeal.nD Cert.AttnOutWKernelIdeal.τ).loc Cert.AttnOutWKernelIdeal.main_arg1)
          ∧ r.2.mem ((c.tc : Thread Cert.AttnOutWKernelIdeal.nD Cert.AttnOutWKernelIdeal.τ).loc Cert.AttnOutWKernelIdeal.main_arg2) = m ((c.tc : Thread Cert.AttnOutWKernelIdeal.nD Cert.AttnOutWKernelIdeal.τ).loc Cert.AttnOutWKernelIdeal.main_arg2))
      ∧ θ_run (Cert.AttnOutWReferenceIdeal.defs (F := Ideal)) (onTc (τ := Cert.AttnOutWReferenceIdeal.τ) (Cert.AttnOutWReferenceIdeal.main (F := Ideal))) ⟨m', fun _ => 0, g'⟩ (fun r => ∀ c : Dev Cert.AttnOutWReferenceIdeal.nD,
          r.2.mem ((c.tc : Thread Cert.AttnOutWReferenceIdeal.nD Cert.AttnOutWReferenceIdeal.τ).loc Cert.AttnOutWReferenceIdeal.main_v10) = v0 c
          ∧ r.2.mem ((c.tc : Thread Cert.AttnOutWReferenceIdeal.nD Cert.AttnOutWReferenceIdeal.τ).loc Cert.AttnOutWReferenceIdeal.main_arg0) = m' ((c.tc : Thread Cert.AttnOutWReferenceIdeal.nD Cert.AttnOutWReferenceIdeal.τ).loc Cert.AttnOutWReferenceIdeal.main_arg0)
          ∧ r.2.mem ((c.tc : Thread Cert.AttnOutWReferenceIdeal.nD Cert.AttnOutWReferenceIdeal.τ).loc Cert.AttnOutWReferenceIdeal.main_arg1) = m' ((c.tc : Thread Cert.AttnOutWReferenceIdeal.nD Cert.AttnOutWReferenceIdeal.τ).loc Cert.AttnOutWReferenceIdeal.main_arg1)
          ∧ r.2.mem ((c.tc : Thread Cert.AttnOutWReferenceIdeal.nD Cert.AttnOutWReferenceIdeal.τ).loc Cert.AttnOutWReferenceIdeal.main_arg2) = m' ((c.tc : Thread Cert.AttnOutWReferenceIdeal.nD Cert.AttnOutWReferenceIdeal.τ).loc Cert.AttnOutWReferenceIdeal.main_arg2))

def preserves_SguOutKernel_SguOutKernelIdeal : Prop :=
  True

def algebraic_SguOutKernelIdeal_SguOutReferenceIdeal [hSguOutKernelIdeal : Cert.SguOutKernelIdeal.Facts] [hSguOutReferenceIdeal : Cert.SguOutReferenceIdeal.Facts] : Prop :=
  ∀ (m : (ℓ : Loc Cert.SguOutKernelIdeal.nD Cert.SguOutKernelIdeal.τ Cert.SguOutKernelIdeal.sig) → Buf (Elt Ideal) ℓ) (g : Dev Cert.SguOutKernelIdeal.nD → PrngReg)
    (m' : (ℓ : Loc Cert.SguOutReferenceIdeal.nD Cert.SguOutReferenceIdeal.τ Cert.SguOutReferenceIdeal.sig) → Buf (Elt Ideal) ℓ) (g' : Dev Cert.SguOutReferenceIdeal.nD → PrngReg), Pre_SguOutKernelIdeal m →
    (∀ c : Dev Cert.SguOutKernelIdeal.nD,
      m' ((c.tc : Thread Cert.SguOutReferenceIdeal.nD Cert.SguOutReferenceIdeal.τ).loc Cert.SguOutReferenceIdeal.main_arg0) = m ((c.tc : Thread Cert.SguOutKernelIdeal.nD Cert.SguOutKernelIdeal.τ).loc Cert.SguOutKernelIdeal.main_arg0)
      ∧ m' ((c.tc : Thread Cert.SguOutReferenceIdeal.nD Cert.SguOutReferenceIdeal.τ).loc Cert.SguOutReferenceIdeal.main_arg1) = m ((c.tc : Thread Cert.SguOutKernelIdeal.nD Cert.SguOutKernelIdeal.τ).loc Cert.SguOutKernelIdeal.main_arg1)
      ∧ m' ((c.tc : Thread Cert.SguOutReferenceIdeal.nD Cert.SguOutReferenceIdeal.τ).loc Cert.SguOutReferenceIdeal.main_arg2) = m ((c.tc : Thread Cert.SguOutKernelIdeal.nD Cert.SguOutKernelIdeal.τ).loc Cert.SguOutKernelIdeal.main_arg2)
      ∧ m' ((c.tc : Thread Cert.SguOutReferenceIdeal.nD Cert.SguOutReferenceIdeal.τ).loc Cert.SguOutReferenceIdeal.main_arg3) = m ((c.tc : Thread Cert.SguOutKernelIdeal.nD Cert.SguOutKernelIdeal.τ).loc Cert.SguOutKernelIdeal.main_arg3)) →
    ∃ (v0 : (c : Dev Cert.SguOutKernelIdeal.nD) → Buf (Elt Ideal) ((c.tc : Thread Cert.SguOutKernelIdeal.nD Cert.SguOutKernelIdeal.τ).loc Cert.SguOutKernelIdeal.main_v0_0)) (v1 : (c : Dev Cert.SguOutKernelIdeal.nD) → Buf (Elt Ideal) ((c.tc : Thread Cert.SguOutKernelIdeal.nD Cert.SguOutKernelIdeal.τ).loc Cert.SguOutKernelIdeal.main_v0_1)),
      θ_run (Cert.SguOutKernelIdeal.defs (F := Ideal)) (onTc (τ := Cert.SguOutKernelIdeal.τ) (Cert.SguOutKernelIdeal.main (F := Ideal))) ⟨m, fun _ => 0, g⟩ (fun r => ∀ c : Dev Cert.SguOutKernelIdeal.nD,
          r.2.mem ((c.tc : Thread Cert.SguOutKernelIdeal.nD Cert.SguOutKernelIdeal.τ).loc Cert.SguOutKernelIdeal.main_v0_0) = v0 c
          ∧ r.2.mem ((c.tc : Thread Cert.SguOutKernelIdeal.nD Cert.SguOutKernelIdeal.τ).loc Cert.SguOutKernelIdeal.main_v0_1) = v1 c
          ∧ r.2.mem ((c.tc : Thread Cert.SguOutKernelIdeal.nD Cert.SguOutKernelIdeal.τ).loc Cert.SguOutKernelIdeal.main_arg0) = m ((c.tc : Thread Cert.SguOutKernelIdeal.nD Cert.SguOutKernelIdeal.τ).loc Cert.SguOutKernelIdeal.main_arg0)
          ∧ r.2.mem ((c.tc : Thread Cert.SguOutKernelIdeal.nD Cert.SguOutKernelIdeal.τ).loc Cert.SguOutKernelIdeal.main_arg1) = m ((c.tc : Thread Cert.SguOutKernelIdeal.nD Cert.SguOutKernelIdeal.τ).loc Cert.SguOutKernelIdeal.main_arg1)
          ∧ r.2.mem ((c.tc : Thread Cert.SguOutKernelIdeal.nD Cert.SguOutKernelIdeal.τ).loc Cert.SguOutKernelIdeal.main_arg2) = m ((c.tc : Thread Cert.SguOutKernelIdeal.nD Cert.SguOutKernelIdeal.τ).loc Cert.SguOutKernelIdeal.main_arg2)
          ∧ r.2.mem ((c.tc : Thread Cert.SguOutKernelIdeal.nD Cert.SguOutKernelIdeal.τ).loc Cert.SguOutKernelIdeal.main_arg3) = m ((c.tc : Thread Cert.SguOutKernelIdeal.nD Cert.SguOutKernelIdeal.τ).loc Cert.SguOutKernelIdeal.main_arg3))
      ∧ θ_run (Cert.SguOutReferenceIdeal.defs (F := Ideal)) (onTc (τ := Cert.SguOutReferenceIdeal.τ) (Cert.SguOutReferenceIdeal.main (F := Ideal))) ⟨m', fun _ => 0, g'⟩ (fun r => ∀ c : Dev Cert.SguOutReferenceIdeal.nD,
          r.2.mem ((c.tc : Thread Cert.SguOutReferenceIdeal.nD Cert.SguOutReferenceIdeal.τ).loc Cert.SguOutReferenceIdeal.main_v4) = v0 c
          ∧ r.2.mem ((c.tc : Thread Cert.SguOutReferenceIdeal.nD Cert.SguOutReferenceIdeal.τ).loc Cert.SguOutReferenceIdeal.main_v17) = v1 c
          ∧ r.2.mem ((c.tc : Thread Cert.SguOutReferenceIdeal.nD Cert.SguOutReferenceIdeal.τ).loc Cert.SguOutReferenceIdeal.main_arg0) = m' ((c.tc : Thread Cert.SguOutReferenceIdeal.nD Cert.SguOutReferenceIdeal.τ).loc Cert.SguOutReferenceIdeal.main_arg0)
          ∧ r.2.mem ((c.tc : Thread Cert.SguOutReferenceIdeal.nD Cert.SguOutReferenceIdeal.τ).loc Cert.SguOutReferenceIdeal.main_arg1) = m' ((c.tc : Thread Cert.SguOutReferenceIdeal.nD Cert.SguOutReferenceIdeal.τ).loc Cert.SguOutReferenceIdeal.main_arg1)
          ∧ r.2.mem ((c.tc : Thread Cert.SguOutReferenceIdeal.nD Cert.SguOutReferenceIdeal.τ).loc Cert.SguOutReferenceIdeal.main_arg2) = m' ((c.tc : Thread Cert.SguOutReferenceIdeal.nD Cert.SguOutReferenceIdeal.τ).loc Cert.SguOutReferenceIdeal.main_arg2)
          ∧ r.2.mem ((c.tc : Thread Cert.SguOutReferenceIdeal.nD Cert.SguOutReferenceIdeal.τ).loc Cert.SguOutReferenceIdeal.main_arg3) = m' ((c.tc : Thread Cert.SguOutReferenceIdeal.nD Cert.SguOutReferenceIdeal.τ).loc Cert.SguOutReferenceIdeal.main_arg3))

def preserves_AttnOutKernel_AttnOutKernelIdeal : Prop :=
  True

def algebraic_AttnOutKernelIdeal_AttnOutReferenceIdeal [hAttnOutKernelIdeal : Cert.AttnOutKernelIdeal.Facts] [hAttnOutReferenceIdeal : Cert.AttnOutReferenceIdeal.Facts] : Prop :=
  ∀ (m : (ℓ : Loc Cert.AttnOutKernelIdeal.nD Cert.AttnOutKernelIdeal.τ Cert.AttnOutKernelIdeal.sig) → Buf (Elt Ideal) ℓ) (g : Dev Cert.AttnOutKernelIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutKernelIdeal m →
    (∀ c : Dev Cert.AttnOutKernelIdeal.nD,
      m' ((c.tc : Thread Cert.AttnOutReferenceIdeal.nD Cert.AttnOutReferenceIdeal.τ).loc Cert.AttnOutReferenceIdeal.main_arg0) = m ((c.tc : Thread Cert.AttnOutKernelIdeal.nD Cert.AttnOutKernelIdeal.τ).loc Cert.AttnOutKernelIdeal.main_arg0)
      ∧ m' ((c.tc : Thread Cert.AttnOutReferenceIdeal.nD Cert.AttnOutReferenceIdeal.τ).loc Cert.AttnOutReferenceIdeal.main_arg1) = m ((c.tc : Thread Cert.AttnOutKernelIdeal.nD Cert.AttnOutKernelIdeal.τ).loc Cert.AttnOutKernelIdeal.main_arg1)
      ∧ m' ((c.tc : Thread Cert.AttnOutReferenceIdeal.nD Cert.AttnOutReferenceIdeal.τ).loc Cert.AttnOutReferenceIdeal.main_arg2) = m ((c.tc : Thread Cert.AttnOutKernelIdeal.nD Cert.AttnOutKernelIdeal.τ).loc Cert.AttnOutKernelIdeal.main_arg2)
      ∧ m' ((c.tc : Thread Cert.AttnOutReferenceIdeal.nD Cert.AttnOutReferenceIdeal.τ).loc Cert.AttnOutReferenceIdeal.main_arg3) = m ((c.tc : Thread Cert.AttnOutKernelIdeal.nD Cert.AttnOutKernelIdeal.τ).loc Cert.AttnOutKernelIdeal.main_arg3)) →
    ∃ (v0 : (c : Dev Cert.AttnOutKernelIdeal.nD) → Buf (Elt Ideal) ((c.tc : Thread Cert.AttnOutKernelIdeal.nD Cert.AttnOutKernelIdeal.τ).loc Cert.AttnOutKernelIdeal.main_v0_0)) (v1 : (c : Dev Cert.AttnOutKernelIdeal.nD) → Buf (Elt Ideal) ((c.tc : Thread Cert.AttnOutKernelIdeal.nD Cert.AttnOutKernelIdeal.τ).loc Cert.AttnOutKernelIdeal.main_v0_1)),
      θ_run (Cert.AttnOutKernelIdeal.defs (F := Ideal)) (onTc (τ := Cert.AttnOutKernelIdeal.τ) (Cert.AttnOutKernelIdeal.main (F := Ideal))) ⟨m, fun _ => 0, g⟩ (fun r => ∀ c : Dev Cert.AttnOutKernelIdeal.nD,
          r.2.mem ((c.tc : Thread Cert.AttnOutKernelIdeal.nD Cert.AttnOutKernelIdeal.τ).loc Cert.AttnOutKernelIdeal.main_v0_0) = v0 c
          ∧ r.2.mem ((c.tc : Thread Cert.AttnOutKernelIdeal.nD Cert.AttnOutKernelIdeal.τ).loc Cert.AttnOutKernelIdeal.main_v0_1) = v1 c
          ∧ r.2.mem ((c.tc : Thread Cert.AttnOutKernelIdeal.nD Cert.AttnOutKernelIdeal.τ).loc Cert.AttnOutKernelIdeal.main_arg0) = m ((c.tc : Thread Cert.AttnOutKernelIdeal.nD Cert.AttnOutKernelIdeal.τ).loc Cert.AttnOutKernelIdeal.main_arg0)
          ∧ r.2.mem ((c.tc : Thread Cert.AttnOutKernelIdeal.nD Cert.AttnOutKernelIdeal.τ).loc Cert.AttnOutKernelIdeal.main_arg1) = m ((c.tc : Thread Cert.AttnOutKernelIdeal.nD Cert.AttnOutKernelIdeal.τ).loc Cert.AttnOutKernelIdeal.main_arg1)
          ∧ r.2.mem ((c.tc : Thread Cert.AttnOutKernelIdeal.nD Cert.AttnOutKernelIdeal.τ).loc Cert.AttnOutKernelIdeal.main_arg2) = m ((c.tc : Thread Cert.AttnOutKernelIdeal.nD Cert.AttnOutKernelIdeal.τ).loc Cert.AttnOutKernelIdeal.main_arg2)
          ∧ r.2.mem ((c.tc : Thread Cert.AttnOutKernelIdeal.nD Cert.AttnOutKernelIdeal.τ).loc Cert.AttnOutKernelIdeal.main_arg3) = m ((c.tc : Thread Cert.AttnOutKernelIdeal.nD Cert.AttnOutKernelIdeal.τ).loc Cert.AttnOutKernelIdeal.main_arg3))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v5) = v0 c
          ∧ r.2.mem ((c.tc : Thread Cert.AttnOutReferenceIdeal.nD Cert.AttnOutReferenceIdeal.τ).loc Cert.AttnOutReferenceIdeal.main_v18) = v1 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3))

def preserves_SguFwdKernel_SguFwdKernelIdeal : Prop :=
  True

def algebraic_SguFwdKernelIdeal_SguFwdReferenceIdeal_on_mixer_columns [hSguFwdKernelIdeal : Cert.SguFwdKernelIdeal.Facts] [hSguFwdReferenceIdeal : Cert.SguFwdReferenceIdeal.Facts] [hOn_mixer_columns : Cert.On_mixer_columns.Facts] : Prop :=
  ∀ (m : (ℓ : Loc Cert.SguFwdKernelIdeal.nD Cert.SguFwdKernelIdeal.τ Cert.SguFwdKernelIdeal.sig) → Buf (Elt Ideal) ℓ) (g : Dev Cert.SguFwdKernelIdeal.nD → PrngReg)
    (m' : (ℓ : Loc Cert.SguFwdReferenceIdeal.nD Cert.SguFwdReferenceIdeal.τ Cert.SguFwdReferenceIdeal.sig) → Buf (Elt Ideal) ℓ) (g' : Dev Cert.SguFwdReferenceIdeal.nD → PrngReg), Pre_SguFwdKernelIdeal m →
    (∀ c : Dev Cert.SguFwdKernelIdeal.nD,
      m' ((c.tc : Thread Cert.SguFwdReferenceIdeal.nD Cert.SguFwdReferenceIdeal.τ).loc Cert.SguFwdReferenceIdeal.main_arg0) = m ((c.tc : Thread Cert.SguFwdKernelIdeal.nD Cert.SguFwdKernelIdeal.τ).loc Cert.SguFwdKernelIdeal.main_arg0)
      ∧ m' ((c.tc : Thread Cert.SguFwdReferenceIdeal.nD Cert.SguFwdReferenceIdeal.τ).loc Cert.SguFwdReferenceIdeal.main_arg1) = m ((c.tc : Thread Cert.SguFwdKernelIdeal.nD Cert.SguFwdKernelIdeal.τ).loc Cert.SguFwdKernelIdeal.main_arg1)
      ∧ m' ((c.tc : Thread Cert.SguFwdReferenceIdeal.nD Cert.SguFwdReferenceIdeal.τ).loc Cert.SguFwdReferenceIdeal.main_arg2) = m ((c.tc : Thread Cert.SguFwdKernelIdeal.nD Cert.SguFwdKernelIdeal.τ).loc Cert.SguFwdKernelIdeal.main_arg2)
      ∧ m' ((c.tc : Thread Cert.SguFwdReferenceIdeal.nD Cert.SguFwdReferenceIdeal.τ).loc Cert.SguFwdReferenceIdeal.main_arg3) = m ((c.tc : Thread Cert.SguFwdKernelIdeal.nD Cert.SguFwdKernelIdeal.τ).loc Cert.SguFwdKernelIdeal.main_arg3)
      ∧ m' ((c.tc : Thread Cert.SguFwdReferenceIdeal.nD Cert.SguFwdReferenceIdeal.τ).loc Cert.SguFwdReferenceIdeal.main_arg4) = m ((c.tc : Thread Cert.SguFwdKernelIdeal.nD Cert.SguFwdKernelIdeal.τ).loc Cert.SguFwdKernelIdeal.main_arg4)) →
    ∃ (v0 : (c : Dev Cert.SguFwdKernelIdeal.nD) → Buf (Elt Ideal) ((c.tc : Thread Cert.SguFwdKernelIdeal.nD Cert.SguFwdKernelIdeal.τ).loc Cert.SguFwdKernelIdeal.main_v0)),
      θ_run (Cert.SguFwdKernelIdeal.defs (F := Ideal)) (onTc (τ := Cert.SguFwdKernelIdeal.τ) (Cert.SguFwdKernelIdeal.main (F := Ideal))) ⟨m, fun _ => 0, g⟩ (fun r => ∀ c : Dev Cert.SguFwdKernelIdeal.nD,
          (∀ i : (⟨2, ![8192, 2048]⟩ : Shape).Idx, (Cert.On_mixer_columns.fn (F := Ideal) (m ((c.tc : Thread Cert.SguFwdKernelIdeal.nD Cert.SguFwdKernelIdeal.τ).loc Cert.SguFwdKernelIdeal.main_arg0)) (m ((c.tc : Thread Cert.SguFwdKernelIdeal.nD Cert.SguFwdKernelIdeal.τ).loc Cert.SguFwdKernelIdeal.main_arg1)) (m ((c.tc : Thread Cert.SguFwdKernelIdeal.nD Cert.SguFwdKernelIdeal.τ).loc Cert.SguFwdKernelIdeal.main_arg2)) (m ((c.tc : Thread Cert.SguFwdKernelIdeal.nD Cert.SguFwdKernelIdeal.τ).loc Cert.SguFwdKernelIdeal.main_arg3)) (m ((c.tc : Thread Cert.SguFwdKernelIdeal.nD Cert.SguFwdKernelIdeal.τ).loc Cert.SguFwdKernelIdeal.main_arg4))) i = 1#1 → r.2.mem ((c.tc : Thread Cert.SguFwdKernelIdeal.nD Cert.SguFwdKernelIdeal.τ).loc Cert.SguFwdKernelIdeal.main_v0) i = v0 c i)
          ∧ r.2.mem ((c.tc : Thread Cert.SguFwdKernelIdeal.nD Cert.SguFwdKernelIdeal.τ).loc Cert.SguFwdKernelIdeal.main_arg0) = m ((c.tc : Thread Cert.SguFwdKernelIdeal.nD Cert.SguFwdKernelIdeal.τ).loc Cert.SguFwdKernelIdeal.main_arg0)
          ∧ r.2.mem ((c.tc : Thread Cert.SguFwdKernelIdeal.nD Cert.SguFwdKernelIdeal.τ).loc Cert.SguFwdKernelIdeal.main_arg1) = m ((c.tc : Thread Cert.SguFwdKernelIdeal.nD Cert.SguFwdKernelIdeal.τ).loc Cert.SguFwdKernelIdeal.main_arg1)
          ∧ r.2.mem ((c.tc : Thread Cert.SguFwdKernelIdeal.nD Cert.SguFwdKernelIdeal.τ).loc Cert.SguFwdKernelIdeal.main_arg2) = m ((c.tc : Thread Cert.SguFwdKernelIdeal.nD Cert.SguFwdKernelIdeal.τ).loc Cert.SguFwdKernelIdeal.main_arg2)
          ∧ r.2.mem ((c.tc : Thread Cert.SguFwdKernelIdeal.nD Cert.SguFwdKernelIdeal.τ).loc Cert.SguFwdKernelIdeal.main_arg3) = m ((c.tc : Thread Cert.SguFwdKernelIdeal.nD Cert.SguFwdKernelIdeal.τ).loc Cert.SguFwdKernelIdeal.main_arg3)
          ∧ r.2.mem ((c.tc : Thread Cert.SguFwdKernelIdeal.nD Cert.SguFwdKernelIdeal.τ).loc Cert.SguFwdKernelIdeal.main_arg4) = m ((c.tc : Thread Cert.SguFwdKernelIdeal.nD Cert.SguFwdKernelIdeal.τ).loc Cert.SguFwdKernelIdeal.main_arg4))
      ∧ θ_run (Cert.SguFwdReferenceIdeal.defs (F := Ideal)) (onTc (τ := Cert.SguFwdReferenceIdeal.τ) (Cert.SguFwdReferenceIdeal.main (F := Ideal))) ⟨m', fun _ => 0, g'⟩ (fun r => ∀ c : Dev Cert.SguFwdReferenceIdeal.nD,
          (∀ i : (⟨2, ![8192, 2048]⟩ : Shape).Idx, (Cert.On_mixer_columns.fn (F := Ideal) (m ((c.tc : Thread Cert.SguFwdKernelIdeal.nD Cert.SguFwdKernelIdeal.τ).loc Cert.SguFwdKernelIdeal.main_arg0)) (m ((c.tc : Thread Cert.SguFwdKernelIdeal.nD Cert.SguFwdKernelIdeal.τ).loc Cert.SguFwdKernelIdeal.main_arg1)) (m ((c.tc : Thread Cert.SguFwdKernelIdeal.nD Cert.SguFwdKernelIdeal.τ).loc Cert.SguFwdKernelIdeal.main_arg2)) (m ((c.tc : Thread Cert.SguFwdKernelIdeal.nD Cert.SguFwdKernelIdeal.τ).loc Cert.SguFwdKernelIdeal.main_arg3)) (m ((c.tc : Thread Cert.SguFwdKernelIdeal.nD Cert.SguFwdKernelIdeal.τ).loc Cert.SguFwdKernelIdeal.main_arg4))) i = 1#1 → r.2.mem ((c.tc : Thread Cert.SguFwdReferenceIdeal.nD Cert.SguFwdReferenceIdeal.τ).loc Cert.SguFwdReferenceIdeal.main_v65) i = v0 c i)
          ∧ r.2.mem ((c.tc : Thread Cert.SguFwdReferenceIdeal.nD Cert.SguFwdReferenceIdeal.τ).loc Cert.SguFwdReferenceIdeal.main_arg0) = m' ((c.tc : Thread Cert.SguFwdReferenceIdeal.nD Cert.SguFwdReferenceIdeal.τ).loc Cert.SguFwdReferenceIdeal.main_arg0)
          ∧ r.2.mem ((c.tc : Thread Cert.SguFwdReferenceIdeal.nD Cert.SguFwdReferenceIdeal.τ).loc Cert.SguFwdReferenceIdeal.main_arg1) = m' ((c.tc : Thread Cert.SguFwdReferenceIdeal.nD Cert.SguFwdReferenceIdeal.τ).loc Cert.SguFwdReferenceIdeal.main_arg1)
          ∧ r.2.mem ((c.tc : Thread Cert.SguFwdReferenceIdeal.nD Cert.SguFwdReferenceIdeal.τ).loc Cert.SguFwdReferenceIdeal.main_arg2) = m' ((c.tc : Thread Cert.SguFwdReferenceIdeal.nD Cert.SguFwdReferenceIdeal.τ).loc Cert.SguFwdReferenceIdeal.main_arg2)
          ∧ r.2.mem ((c.tc : Thread Cert.SguFwdReferenceIdeal.nD Cert.SguFwdReferenceIdeal.τ).loc Cert.SguFwdReferenceIdeal.main_arg3) = m' ((c.tc : Thread Cert.SguFwdReferenceIdeal.nD Cert.SguFwdReferenceIdeal.τ).loc Cert.SguFwdReferenceIdeal.main_arg3)
          ∧ r.2.mem ((c.tc : Thread Cert.SguFwdReferenceIdeal.nD Cert.SguFwdReferenceIdeal.τ).loc Cert.SguFwdReferenceIdeal.main_arg4) = m' ((c.tc : Thread Cert.SguFwdReferenceIdeal.nD Cert.SguFwdReferenceIdeal.τ).loc Cert.SguFwdReferenceIdeal.main_arg4))

def preserves_SguBwdKernel_SguBwdKernelIdeal : Prop :=
  IdealRules.named_const.Statement Cert.SguBwdKernelIdeal.κ "slope" .f32 0x3D372713#32 ((8943 / 200000 : ℝ) : EReal)
  ∧ IdealRules.named_const.Statement Cert.SguBwdKernelIdeal.κ "thrice" .f32 0x3E095D4F#32 ((26829 / 200000 : ℝ) : EReal)

def algebraic_SguBwdKernelIdeal_SguBwdReferenceIdeal_pre_finite_gating [hSguBwdKernelIdeal : Cert.SguBwdKernelIdeal.Facts] [hSguBwdReferenceIdeal : Cert.SguBwdReferenceIdeal.Facts] [hPre_finite_gating : Cert.Pre_finite_gating.Facts] : Prop :=
  ∀ (m : (ℓ : Loc Cert.SguBwdKernelIdeal.nD Cert.SguBwdKernelIdeal.τ Cert.SguBwdKernelIdeal.sig) → Buf (Elt Ideal) ℓ) (g : Dev Cert.SguBwdKernelIdeal.nD → PrngReg)
    (m' : (ℓ : Loc Cert.SguBwdReferenceIdeal.nD Cert.SguBwdReferenceIdeal.τ Cert.SguBwdReferenceIdeal.sig) → Buf (Elt Ideal) ℓ) (g' : Dev Cert.SguBwdReferenceIdeal.nD → PrngReg), Pre_SguBwdKernelIdeal_finite_gating m →
    (∀ c : Dev Cert.SguBwdKernelIdeal.nD,
      m' ((c.tc : Thread Cert.SguBwdReferenceIdeal.nD Cert.SguBwdReferenceIdeal.τ).loc Cert.SguBwdReferenceIdeal.main_arg0) = m ((c.tc : Thread Cert.SguBwdKernelIdeal.nD Cert.SguBwdKernelIdeal.τ).loc Cert.SguBwdKernelIdeal.main_arg0)
      ∧ m' ((c.tc : Thread Cert.SguBwdReferenceIdeal.nD Cert.SguBwdReferenceIdeal.τ).loc Cert.SguBwdReferenceIdeal.main_arg1) = m ((c.tc : Thread Cert.SguBwdKernelIdeal.nD Cert.SguBwdKernelIdeal.τ).loc Cert.SguBwdKernelIdeal.main_arg1)
      ∧ m' ((c.tc : Thread Cert.SguBwdReferenceIdeal.nD Cert.SguBwdReferenceIdeal.τ).loc Cert.SguBwdReferenceIdeal.main_arg2) = m ((c.tc : Thread Cert.SguBwdKernelIdeal.nD Cert.SguBwdKernelIdeal.τ).loc Cert.SguBwdKernelIdeal.main_arg2)
      ∧ m' ((c.tc : Thread Cert.SguBwdReferenceIdeal.nD Cert.SguBwdReferenceIdeal.τ).loc Cert.SguBwdReferenceIdeal.main_arg3) = m ((c.tc : Thread Cert.SguBwdKernelIdeal.nD Cert.SguBwdKernelIdeal.τ).loc Cert.SguBwdKernelIdeal.main_arg3)
      ∧ m' ((c.tc : Thread Cert.SguBwdReferenceIdeal.nD Cert.SguBwdReferenceIdeal.τ).loc Cert.SguBwdReferenceIdeal.main_arg4) = m ((c.tc : Thread Cert.SguBwdKernelIdeal.nD Cert.SguBwdKernelIdeal.τ).loc Cert.SguBwdKernelIdeal.main_arg4)
      ∧ m' ((c.tc : Thread Cert.SguBwdReferenceIdeal.nD Cert.SguBwdReferenceIdeal.τ).loc Cert.SguBwdReferenceIdeal.main_arg5) = m ((c.tc : Thread Cert.SguBwdKernelIdeal.nD Cert.SguBwdKernelIdeal.τ).loc Cert.SguBwdKernelIdeal.main_arg5)
      ∧ m' ((c.tc : Thread Cert.SguBwdReferenceIdeal.nD Cert.SguBwdReferenceIdeal.τ).loc Cert.SguBwdReferenceIdeal.main_arg6) = m ((c.tc : Thread Cert.SguBwdKernelIdeal.nD Cert.SguBwdKernelIdeal.τ).loc Cert.SguBwdKernelIdeal.main_arg6)) →
    ∃ (v0 : (c : Dev Cert.SguBwdKernelIdeal.nD) → Buf (Elt Ideal) ((c.tc : Thread Cert.SguBwdKernelIdeal.nD Cert.SguBwdKernelIdeal.τ).loc Cert.SguBwdKernelIdeal.main_v0_0)) (v1 : (c : Dev Cert.SguBwdKernelIdeal.nD) → Buf (Elt Ideal) ((c.tc : Thread Cert.SguBwdKernelIdeal.nD Cert.SguBwdKernelIdeal.τ).loc Cert.SguBwdKernelIdeal.main_v0_1)) (v2 : (c : Dev Cert.SguBwdKernelIdeal.nD) → Buf (Elt Ideal) ((c.tc : Thread Cert.SguBwdKernelIdeal.nD Cert.SguBwdKernelIdeal.τ).loc Cert.SguBwdKernelIdeal.main_v0_2)) (v3 : (c : Dev Cert.SguBwdKernelIdeal.nD) → Buf (Elt Ideal) ((c.tc : Thread Cert.SguBwdKernelIdeal.nD Cert.SguBwdKernelIdeal.τ).loc Cert.SguBwdKernelIdeal.main_v0_3)) (v4 : (c : Dev Cert.SguBwdKernelIdeal.nD) → Buf (Elt Ideal) ((c.tc : Thread Cert.SguBwdKernelIdeal.nD Cert.SguBwdKernelIdeal.τ).loc Cert.SguBwdKernelIdeal.main_v0_4)),
      θ_run (Cert.SguBwdKernelIdeal.defs (F := Ideal)) (onTc (τ := Cert.SguBwdKernelIdeal.τ) (Cert.SguBwdKernelIdeal.main (F := Ideal))) ⟨m, fun _ => 0, g⟩ (fun r => ∀ c : Dev Cert.SguBwdKernelIdeal.nD,
          r.2.mem ((c.tc : Thread Cert.SguBwdKernelIdeal.nD Cert.SguBwdKernelIdeal.τ).loc Cert.SguBwdKernelIdeal.main_v0_0) = v0 c
          ∧ r.2.mem ((c.tc : Thread Cert.SguBwdKernelIdeal.nD Cert.SguBwdKernelIdeal.τ).loc Cert.SguBwdKernelIdeal.main_v0_1) = v1 c
          ∧ r.2.mem ((c.tc : Thread Cert.SguBwdKernelIdeal.nD Cert.SguBwdKernelIdeal.τ).loc Cert.SguBwdKernelIdeal.main_v0_2) = v2 c
          ∧ r.2.mem ((c.tc : Thread Cert.SguBwdKernelIdeal.nD Cert.SguBwdKernelIdeal.τ).loc Cert.SguBwdKernelIdeal.main_v0_3) = v3 c
          ∧ r.2.mem ((c.tc : Thread Cert.SguBwdKernelIdeal.nD Cert.SguBwdKernelIdeal.τ).loc Cert.SguBwdKernelIdeal.main_v0_4) = v4 c
          ∧ r.2.mem ((c.tc : Thread Cert.SguBwdKernelIdeal.nD Cert.SguBwdKernelIdeal.τ).loc Cert.SguBwdKernelIdeal.main_arg0) = m ((c.tc : Thread Cert.SguBwdKernelIdeal.nD Cert.SguBwdKernelIdeal.τ).loc Cert.SguBwdKernelIdeal.main_arg0)
          ∧ r.2.mem ((c.tc : Thread Cert.SguBwdKernelIdeal.nD Cert.SguBwdKernelIdeal.τ).loc Cert.SguBwdKernelIdeal.main_arg1) = m ((c.tc : Thread Cert.SguBwdKernelIdeal.nD Cert.SguBwdKernelIdeal.τ).loc Cert.SguBwdKernelIdeal.main_arg1)
          ∧ r.2.mem ((c.tc : Thread Cert.SguBwdKernelIdeal.nD Cert.SguBwdKernelIdeal.τ).loc Cert.SguBwdKernelIdeal.main_arg2) = m ((c.tc : Thread Cert.SguBwdKernelIdeal.nD Cert.SguBwdKernelIdeal.τ).loc Cert.SguBwdKernelIdeal.main_arg2)
          ∧ r.2.mem ((c.tc : Thread Cert.SguBwdKernelIdeal.nD Cert.SguBwdKernelIdeal.τ).loc Cert.SguBwdKernelIdeal.main_arg3) = m ((c.tc : Thread Cert.SguBwdKernelIdeal.nD Cert.SguBwdKernelIdeal.τ).loc Cert.SguBwdKernelIdeal.main_arg3)
          ∧ r.2.mem ((c.tc : Thread Cert.SguBwdKernelIdeal.nD Cert.SguBwdKernelIdeal.τ).loc Cert.SguBwdKernelIdeal.main_arg4) = m ((c.tc : Thread Cert.SguBwdKernelIdeal.nD Cert.SguBwdKernelIdeal.τ).loc Cert.SguBwdKernelIdeal.main_arg4)
          ∧ r.2.mem ((c.tc : Thread Cert.SguBwdKernelIdeal.nD Cert.SguBwdKernelIdeal.τ).loc Cert.SguBwdKernelIdeal.main_arg5) = m ((c.tc : Thread Cert.SguBwdKernelIdeal.nD Cert.SguBwdKernelIdeal.τ).loc Cert.SguBwdKernelIdeal.main_arg5)
          ∧ r.2.mem ((c.tc : Thread Cert.SguBwdKernelIdeal.nD Cert.SguBwdKernelIdeal.τ).loc Cert.SguBwdKernelIdeal.main_arg6) = m ((c.tc : Thread Cert.SguBwdKernelIdeal.nD Cert.SguBwdKernelIdeal.τ).loc Cert.SguBwdKernelIdeal.main_arg6))
      ∧ θ_run (Cert.SguBwdReferenceIdeal.defs (F := Ideal)) (onTc (τ := Cert.SguBwdReferenceIdeal.τ) (Cert.SguBwdReferenceIdeal.main (F := Ideal))) ⟨m', fun _ => 0, g'⟩ (fun r => ∀ c : Dev Cert.SguBwdReferenceIdeal.nD,
          r.2.mem ((c.tc : Thread Cert.SguBwdReferenceIdeal.nD Cert.SguBwdReferenceIdeal.τ).loc Cert.SguBwdReferenceIdeal.main_v165) = v0 c
          ∧ r.2.mem ((c.tc : Thread Cert.SguBwdReferenceIdeal.nD Cert.SguBwdReferenceIdeal.τ).loc Cert.SguBwdReferenceIdeal.main_v101) = v1 c
          ∧ r.2.mem ((c.tc : Thread Cert.SguBwdReferenceIdeal.nD Cert.SguBwdReferenceIdeal.τ).loc Cert.SguBwdReferenceIdeal.main_v166) = v2 c
          ∧ r.2.mem ((c.tc : Thread Cert.SguBwdReferenceIdeal.nD Cert.SguBwdReferenceIdeal.τ).loc Cert.SguBwdReferenceIdeal.main_v107) = v3 c
          ∧ r.2.mem ((c.tc : Thread Cert.SguBwdReferenceIdeal.nD Cert.SguBwdReferenceIdeal.τ).loc Cert.SguBwdReferenceIdeal.main_v104) = v4 c
          ∧ r.2.mem ((c.tc : Thread Cert.SguBwdReferenceIdeal.nD Cert.SguBwdReferenceIdeal.τ).loc Cert.SguBwdReferenceIdeal.main_arg0) = m' ((c.tc : Thread Cert.SguBwdReferenceIdeal.nD Cert.SguBwdReferenceIdeal.τ).loc Cert.SguBwdReferenceIdeal.main_arg0)
          ∧ r.2.mem ((c.tc : Thread Cert.SguBwdReferenceIdeal.nD Cert.SguBwdReferenceIdeal.τ).loc Cert.SguBwdReferenceIdeal.main_arg1) = m' ((c.tc : Thread Cert.SguBwdReferenceIdeal.nD Cert.SguBwdReferenceIdeal.τ).loc Cert.SguBwdReferenceIdeal.main_arg1)
          ∧ r.2.mem ((c.tc : Thread Cert.SguBwdReferenceIdeal.nD Cert.SguBwdReferenceIdeal.τ).loc Cert.SguBwdReferenceIdeal.main_arg2) = m' ((c.tc : Thread Cert.SguBwdReferenceIdeal.nD Cert.SguBwdReferenceIdeal.τ).loc Cert.SguBwdReferenceIdeal.main_arg2)
          ∧ r.2.mem ((c.tc : Thread Cert.SguBwdReferenceIdeal.nD Cert.SguBwdReferenceIdeal.τ).loc Cert.SguBwdReferenceIdeal.main_arg3) = m' ((c.tc : Thread Cert.SguBwdReferenceIdeal.nD Cert.SguBwdReferenceIdeal.τ).loc Cert.SguBwdReferenceIdeal.main_arg3)
          ∧ r.2.mem ((c.tc : Thread Cert.SguBwdReferenceIdeal.nD Cert.SguBwdReferenceIdeal.τ).loc Cert.SguBwdReferenceIdeal.main_arg4) = m' ((c.tc : Thread Cert.SguBwdReferenceIdeal.nD Cert.SguBwdReferenceIdeal.τ).loc Cert.SguBwdReferenceIdeal.main_arg4)
          ∧ r.2.mem ((c.tc : Thread Cert.SguBwdReferenceIdeal.nD Cert.SguBwdReferenceIdeal.τ).loc Cert.SguBwdReferenceIdeal.main_arg5) = m' ((c.tc : Thread Cert.SguBwdReferenceIdeal.nD Cert.SguBwdReferenceIdeal.τ).loc Cert.SguBwdReferenceIdeal.main_arg5)
          ∧ r.2.mem ((c.tc : Thread Cert.SguBwdReferenceIdeal.nD Cert.SguBwdReferenceIdeal.τ).loc Cert.SguBwdReferenceIdeal.main_arg6) = m' ((c.tc : Thread Cert.SguBwdReferenceIdeal.nD Cert.SguBwdReferenceIdeal.τ).loc Cert.SguBwdReferenceIdeal.main_arg6))

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)
      ∧ m' ((c.tc : Thread Cert.NormReferenceIdeal.nD Cert.NormReferenceIdeal.τ).loc Cert.NormReferenceIdeal.main_arg2) = m ((c.tc : Thread Cert.NormKernelIdeal.nD Cert.NormKernelIdeal.τ).loc Cert.NormKernelIdeal.main_arg2)
      ∧ m' ((c.tc : Thread Cert.NormReferenceIdeal.nD Cert.NormReferenceIdeal.τ).loc Cert.NormReferenceIdeal.main_arg3) = m ((c.tc : Thread Cert.NormKernelIdeal.nD Cert.NormKernelIdeal.τ).loc Cert.NormKernelIdeal.main_arg3)) →
    ∃ (v0 : (c : Dev Cert.NormKernelIdeal.nD) → Buf (Elt Ideal) ((c.tc : Thread Cert.NormKernelIdeal.nD Cert.NormKernelIdeal.τ).loc Cert.NormKernelIdeal.main_v0_0)) (v1 : (c : Dev Cert.NormKernelIdeal.nD) → Buf (Elt Ideal) ((c.tc : Thread Cert.NormKernelIdeal.nD Cert.NormKernelIdeal.τ).loc Cert.NormKernelIdeal.main_v0_1)) (v2 : (c : Dev Cert.NormKernelIdeal.nD) → Buf (Elt Ideal) ((c.tc : Thread Cert.NormKernelIdeal.nD Cert.NormKernelIdeal.τ).loc Cert.NormKernelIdeal.main_v0_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v0_0) = v0 c
          ∧ r.2.mem ((c.tc : Thread Cert.NormKernelIdeal.nD Cert.NormKernelIdeal.τ).loc Cert.NormKernelIdeal.main_v0_1) = v1 c
          ∧ r.2.mem ((c.tc : Thread Cert.NormKernelIdeal.nD Cert.NormKernelIdeal.τ).loc Cert.NormKernelIdeal.main_v0_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1)
          ∧ r.2.mem ((c.tc : Thread Cert.NormKernelIdeal.nD Cert.NormKernelIdeal.τ).loc Cert.NormKernelIdeal.main_arg2) = m ((c.tc : Thread Cert.NormKernelIdeal.nD Cert.NormKernelIdeal.τ).loc Cert.NormKernelIdeal.main_arg2)
          ∧ r.2.mem ((c.tc : Thread Cert.NormKernelIdeal.nD Cert.NormKernelIdeal.τ).loc Cert.NormKernelIdeal.main_arg3) = m ((c.tc : Thread Cert.NormKernelIdeal.nD Cert.NormKernelIdeal.τ).loc Cert.NormKernelIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v35) = v0 c
          ∧ r.2.mem ((c.tc : Thread Cert.NormReferenceIdeal.nD Cert.NormReferenceIdeal.τ).loc Cert.NormReferenceIdeal.main_v36) = v1 c
          ∧ r.2.mem ((c.tc : Thread Cert.NormReferenceIdeal.nD Cert.NormReferenceIdeal.τ).loc Cert.NormReferenceIdeal.main_v18) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_MemNormKernel_MemNormKernelIdeal : Prop :=
  True

def algebraic_MemNormKernelIdeal_MemNormReferenceIdeal [hMemNormKernelIdeal : Cert.MemNormKernelIdeal.Facts] [hMemNormReferenceIdeal : Cert.MemNormReferenceIdeal.Facts] : Prop :=
  ∀ (m : (ℓ : Loc Cert.MemNormKernelIdeal.nD Cert.MemNormKernelIdeal.τ Cert.MemNormKernelIdeal.sig) → Buf (Elt Ideal) ℓ) (g : Dev Cert.MemNormKernelIdeal.nD → PrngReg)
    (m' : (ℓ : Loc Cert.MemNormReferenceIdeal.nD Cert.MemNormReferenceIdeal.τ Cert.MemNormReferenceIdeal.sig) → Buf (Elt Ideal) ℓ) (g' : Dev Cert.MemNormReferenceIdeal.nD → PrngReg), Pre_MemNormKernelIdeal m →
    (∀ c : Dev Cert.MemNormKernelIdeal.nD,
      m' ((c.tc : Thread Cert.MemNormReferenceIdeal.nD Cert.MemNormReferenceIdeal.τ).loc Cert.MemNormReferenceIdeal.main_arg0) = m ((c.tc : Thread Cert.MemNormKernelIdeal.nD Cert.MemNormKernelIdeal.τ).loc Cert.MemNormKernelIdeal.main_arg0)
      ∧ m' ((c.tc : Thread Cert.MemNormReferenceIdeal.nD Cert.MemNormReferenceIdeal.τ).loc Cert.MemNormReferenceIdeal.main_arg1) = m ((c.tc : Thread Cert.MemNormKernelIdeal.nD Cert.MemNormKernelIdeal.τ).loc Cert.MemNormKernelIdeal.main_arg1)
      ∧ m' ((c.tc : Thread Cert.MemNormReferenceIdeal.nD Cert.MemNormReferenceIdeal.τ).loc Cert.MemNormReferenceIdeal.main_arg2) = m ((c.tc : Thread Cert.MemNormKernelIdeal.nD Cert.MemNormKernelIdeal.τ).loc Cert.MemNormKernelIdeal.main_arg2)) →
    ∃ (v0 : (c : Dev Cert.MemNormKernelIdeal.nD) → Buf (Elt Ideal) ((c.tc : Thread Cert.MemNormKernelIdeal.nD Cert.MemNormKernelIdeal.τ).loc Cert.MemNormKernelIdeal.main_v0_0)) (v1 : (c : Dev Cert.MemNormKernelIdeal.nD) → Buf (Elt Ideal) ((c.tc : Thread Cert.MemNormKernelIdeal.nD Cert.MemNormKernelIdeal.τ).loc Cert.MemNormKernelIdeal.main_v0_1)) (v2 : (c : Dev Cert.MemNormKernelIdeal.nD) → Buf (Elt Ideal) ((c.tc : Thread Cert.MemNormKernelIdeal.nD Cert.MemNormKernelIdeal.τ).loc Cert.MemNormKernelIdeal.main_v0_2)),
      θ_run (Cert.MemNormKernelIdeal.defs (F := Ideal)) (onTc (τ := Cert.MemNormKernelIdeal.τ) (Cert.MemNormKernelIdeal.main (F := Ideal))) ⟨m, fun _ => 0, g⟩ (fun r => ∀ c : Dev Cert.MemNormKernelIdeal.nD,
          r.2.mem ((c.tc : Thread Cert.MemNormKernelIdeal.nD Cert.MemNormKernelIdeal.τ).loc Cert.MemNormKernelIdeal.main_v0_0) = v0 c
          ∧ r.2.mem ((c.tc : Thread Cert.MemNormKernelIdeal.nD Cert.MemNormKernelIdeal.τ).loc Cert.MemNormKernelIdeal.main_v0_1) = v1 c
          ∧ r.2.mem ((c.tc : Thread Cert.MemNormKernelIdeal.nD Cert.MemNormKernelIdeal.τ).loc Cert.MemNormKernelIdeal.main_v0_2) = v2 c
          ∧ r.2.mem ((c.tc : Thread Cert.MemNormKernelIdeal.nD Cert.MemNormKernelIdeal.τ).loc Cert.MemNormKernelIdeal.main_arg0) = m ((c.tc : Thread Cert.MemNormKernelIdeal.nD Cert.MemNormKernelIdeal.τ).loc Cert.MemNormKernelIdeal.main_arg0)
          ∧ r.2.mem ((c.tc : Thread Cert.MemNormKernelIdeal.nD Cert.MemNormKernelIdeal.τ).loc Cert.MemNormKernelIdeal.main_arg1) = m ((c.tc : Thread Cert.MemNormKernelIdeal.nD Cert.MemNormKernelIdeal.τ).loc Cert.MemNormKernelIdeal.main_arg1)
          ∧ r.2.mem ((c.tc : Thread Cert.MemNormKernelIdeal.nD Cert.MemNormKernelIdeal.τ).loc Cert.MemNormKernelIdeal.main_arg2) = m ((c.tc : Thread Cert.MemNormKernelIdeal.nD Cert.MemNormKernelIdeal.τ).loc Cert.MemNormKernelIdeal.main_arg2))
      ∧ θ_run (Cert.MemNormReferenceIdeal.defs (F := Ideal)) (onTc (τ := Cert.MemNormReferenceIdeal.τ) (Cert.MemNormReferenceIdeal.main (F := Ideal))) ⟨m', fun _ => 0, g'⟩ (fun r => ∀ c : Dev Cert.MemNormReferenceIdeal.nD,
          r.2.mem ((c.tc : Thread Cert.MemNormReferenceIdeal.nD Cert.MemNormReferenceIdeal.τ).loc Cert.MemNormReferenceIdeal.main_v33) = v0 c
          ∧ r.2.mem ((c.tc : Thread Cert.MemNormReferenceIdeal.nD Cert.MemNormReferenceIdeal.τ).loc Cert.MemNormReferenceIdeal.main_v34) = v1 c
          ∧ r.2.mem ((c.tc : Thread Cert.MemNormReferenceIdeal.nD Cert.MemNormReferenceIdeal.τ).loc Cert.MemNormReferenceIdeal.main_v17) = v2 c
          ∧ r.2.mem ((c.tc : Thread Cert.MemNormReferenceIdeal.nD Cert.MemNormReferenceIdeal.τ).loc Cert.MemNormReferenceIdeal.main_arg0) = m' ((c.tc : Thread Cert.MemNormReferenceIdeal.nD Cert.MemNormReferenceIdeal.τ).loc Cert.MemNormReferenceIdeal.main_arg0)
          ∧ r.2.mem ((c.tc : Thread Cert.MemNormReferenceIdeal.nD Cert.MemNormReferenceIdeal.τ).loc Cert.MemNormReferenceIdeal.main_arg1) = m' ((c.tc : Thread Cert.MemNormReferenceIdeal.nD Cert.MemNormReferenceIdeal.τ).loc Cert.MemNormReferenceIdeal.main_arg1)
          ∧ r.2.mem ((c.tc : Thread Cert.MemNormReferenceIdeal.nD Cert.MemNormReferenceIdeal.τ).loc Cert.MemNormReferenceIdeal.main_arg2) = m' ((c.tc : Thread Cert.MemNormReferenceIdeal.nD Cert.MemNormReferenceIdeal.τ).loc Cert.MemNormReferenceIdeal.main_arg2))

def preserves_MemKvWKernel_MemKvWKernelIdeal : Prop :=
  True

def algebraic_MemKvWKernelIdeal_MemKvWReferenceIdeal [hMemKvWKernelIdeal : Cert.MemKvWKernelIdeal.Facts] [hMemKvWReferenceIdeal : Cert.MemKvWReferenceIdeal.Facts] : Prop :=
  ∀ (m : (ℓ : Loc Cert.MemKvWKernelIdeal.nD Cert.MemKvWKernelIdeal.τ Cert.MemKvWKernelIdeal.sig) → Buf (Elt Ideal) ℓ) (g : Dev Cert.MemKvWKernelIdeal.nD → PrngReg)
    (m' : (ℓ : Loc Cert.MemKvWReferenceIdeal.nD Cert.MemKvWReferenceIdeal.τ Cert.MemKvWReferenceIdeal.sig) → Buf (Elt Ideal) ℓ) (g' : Dev Cert.MemKvWReferenceIdeal.nD → PrngReg), Pre_MemKvWKernelIdeal m →
    (∀ c : Dev Cert.MemKvWKernelIdeal.nD,
      m' ((c.tc : Thread Cert.MemKvWReferenceIdeal.nD Cert.MemKvWReferenceIdeal.τ).loc Cert.MemKvWReferenceIdeal.main_arg0) = m ((c.tc : Thread Cert.MemKvWKernelIdeal.nD Cert.MemKvWKernelIdeal.τ).loc Cert.MemKvWKernelIdeal.main_arg0)
      ∧ m' ((c.tc : Thread Cert.MemKvWReferenceIdeal.nD Cert.MemKvWReferenceIdeal.τ).loc Cert.MemKvWReferenceIdeal.main_arg1) = m ((c.tc : Thread Cert.MemKvWKernelIdeal.nD Cert.MemKvWKernelIdeal.τ).loc Cert.MemKvWKernelIdeal.main_arg1)
      ∧ m' ((c.tc : Thread Cert.MemKvWReferenceIdeal.nD Cert.MemKvWReferenceIdeal.τ).loc Cert.MemKvWReferenceIdeal.main_arg2) = m ((c.tc : Thread Cert.MemKvWKernelIdeal.nD Cert.MemKvWKernelIdeal.τ).loc Cert.MemKvWKernelIdeal.main_arg2)) →
    ∃ (v0 : (c : Dev Cert.MemKvWKernelIdeal.nD) → Buf (Elt Ideal) ((c.tc : Thread Cert.MemKvWKernelIdeal.nD Cert.MemKvWKernelIdeal.τ).loc Cert.MemKvWKernelIdeal.main_v0)),
      θ_run (Cert.MemKvWKernelIdeal.defs (F := Ideal)) (onTc (τ := Cert.MemKvWKernelIdeal.τ) (Cert.MemKvWKernelIdeal.main (F := Ideal))) ⟨m, fun _ => 0, g⟩ (fun r => ∀ c : Dev Cert.MemKvWKernelIdeal.nD,
          r.2.mem ((c.tc : Thread Cert.MemKvWKernelIdeal.nD Cert.MemKvWKernelIdeal.τ).loc Cert.MemKvWKernelIdeal.main_v0) = v0 c
          ∧ r.2.mem ((c.tc : Thread Cert.MemKvWKernelIdeal.nD Cert.MemKvWKernelIdeal.τ).loc Cert.MemKvWKernelIdeal.main_arg0) = m ((c.tc : Thread Cert.MemKvWKernelIdeal.nD Cert.MemKvWKernelIdeal.τ).loc Cert.MemKvWKernelIdeal.main_arg0)
          ∧ r.2.mem ((c.tc : Thread Cert.MemKvWKernelIdeal.nD Cert.MemKvWKernelIdeal.τ).loc Cert.MemKvWKernelIdeal.main_arg1) = m ((c.tc : Thread Cert.MemKvWKernelIdeal.nD Cert.MemKvWKernelIdeal.τ).loc Cert.MemKvWKernelIdeal.main_arg1)
          ∧ r.2.mem ((c.tc : Thread Cert.MemKvWKernelIdeal.nD Cert.MemKvWKernelIdeal.τ).loc Cert.MemKvWKernelIdeal.main_arg2) = m ((c.tc : Thread Cert.MemKvWKernelIdeal.nD Cert.MemKvWKernelIdeal.τ).loc Cert.MemKvWKernelIdeal.main_arg2))
      ∧ θ_run (Cert.MemKvWReferenceIdeal.defs (F := Ideal)) (onTc (τ := Cert.MemKvWReferenceIdeal.τ) (Cert.MemKvWReferenceIdeal.main (F := Ideal))) ⟨m', fun _ => 0, g'⟩ (fun r => ∀ c : Dev Cert.MemKvWReferenceIdeal.nD,
          r.2.mem ((c.tc : Thread Cert.MemKvWReferenceIdeal.nD Cert.MemKvWReferenceIdeal.τ).loc Cert.MemKvWReferenceIdeal.main_v9) = v0 c
          ∧ r.2.mem ((c.tc : Thread Cert.MemKvWReferenceIdeal.nD Cert.MemKvWReferenceIdeal.τ).loc Cert.MemKvWReferenceIdeal.main_arg0) = m' ((c.tc : Thread Cert.MemKvWReferenceIdeal.nD Cert.MemKvWReferenceIdeal.τ).loc Cert.MemKvWReferenceIdeal.main_arg0)
          ∧ r.2.mem ((c.tc : Thread Cert.MemKvWReferenceIdeal.nD Cert.MemKvWReferenceIdeal.τ).loc Cert.MemKvWReferenceIdeal.main_arg1) = m' ((c.tc : Thread Cert.MemKvWReferenceIdeal.nD Cert.MemKvWReferenceIdeal.τ).loc Cert.MemKvWReferenceIdeal.main_arg1)
          ∧ r.2.mem ((c.tc : Thread Cert.MemKvWReferenceIdeal.nD Cert.MemKvWReferenceIdeal.τ).loc Cert.MemKvWReferenceIdeal.main_arg2) = m' ((c.tc : Thread Cert.MemKvWReferenceIdeal.nD Cert.MemKvWReferenceIdeal.τ).loc Cert.MemKvWReferenceIdeal.main_arg2))

def preserves_MemNKernel_MemNKernelIdeal : Prop :=
  True

def algebraic_MemNKernelIdeal_MemNReferenceIdeal [hMemNKernelIdeal : Cert.MemNKernelIdeal.Facts] [hMemNReferenceIdeal : Cert.MemNReferenceIdeal.Facts] : Prop :=
  ∀ (m : (ℓ : Loc Cert.MemNKernelIdeal.nD Cert.MemNKernelIdeal.τ Cert.MemNKernelIdeal.sig) → Buf (Elt Ideal) ℓ) (g : Dev Cert.MemNKernelIdeal.nD → PrngReg)
    (m' : (ℓ : Loc Cert.MemNReferenceIdeal.nD Cert.MemNReferenceIdeal.τ Cert.MemNReferenceIdeal.sig) → Buf (Elt Ideal) ℓ) (g' : Dev Cert.MemNReferenceIdeal.nD → PrngReg), Pre_MemNKernelIdeal m →
    (∀ c : Dev Cert.MemNKernelIdeal.nD,
      m' ((c.tc : Thread Cert.MemNReferenceIdeal.nD Cert.MemNReferenceIdeal.τ).loc Cert.MemNReferenceIdeal.main_arg0) = m ((c.tc : Thread Cert.MemNKernelIdeal.nD Cert.MemNKernelIdeal.τ).loc Cert.MemNKernelIdeal.main_arg0)
      ∧ m' ((c.tc : Thread Cert.MemNReferenceIdeal.nD Cert.MemNReferenceIdeal.τ).loc Cert.MemNReferenceIdeal.main_arg1) = m ((c.tc : Thread Cert.MemNKernelIdeal.nD Cert.MemNKernelIdeal.τ).loc Cert.MemNKernelIdeal.main_arg1)) →
    ∃ (v0 : (c : Dev Cert.MemNKernelIdeal.nD) → Buf (Elt Ideal) ((c.tc : Thread Cert.MemNKernelIdeal.nD Cert.MemNKernelIdeal.τ).loc Cert.MemNKernelIdeal.main_v0)),
      θ_run (Cert.MemNKernelIdeal.defs (F := Ideal)) (onTc (τ := Cert.MemNKernelIdeal.τ) (Cert.MemNKernelIdeal.main (F := Ideal))) ⟨m, fun _ => 0, g⟩ (fun r => ∀ c : Dev Cert.MemNKernelIdeal.nD,
          r.2.mem ((c.tc : Thread Cert.MemNKernelIdeal.nD Cert.MemNKernelIdeal.τ).loc Cert.MemNKernelIdeal.main_v0) = v0 c
          ∧ r.2.mem ((c.tc : Thread Cert.MemNKernelIdeal.nD Cert.MemNKernelIdeal.τ).loc Cert.MemNKernelIdeal.main_arg0) = m ((c.tc : Thread Cert.MemNKernelIdeal.nD Cert.MemNKernelIdeal.τ).loc Cert.MemNKernelIdeal.main_arg0)
          ∧ r.2.mem ((c.tc : Thread Cert.MemNKernelIdeal.nD Cert.MemNKernelIdeal.τ).loc Cert.MemNKernelIdeal.main_arg1) = m ((c.tc : Thread Cert.MemNKernelIdeal.nD Cert.MemNKernelIdeal.τ).loc Cert.MemNKernelIdeal.main_arg1))
      ∧ θ_run (Cert.MemNReferenceIdeal.defs (F := Ideal)) (onTc (τ := Cert.MemNReferenceIdeal.τ) (Cert.MemNReferenceIdeal.main (F := Ideal))) ⟨m', fun _ => 0, g'⟩ (fun r => ∀ c : Dev Cert.MemNReferenceIdeal.nD,
          r.2.mem ((c.tc : Thread Cert.MemNReferenceIdeal.nD Cert.MemNReferenceIdeal.τ).loc Cert.MemNReferenceIdeal.main_v5) = v0 c
          ∧ r.2.mem ((c.tc : Thread Cert.MemNReferenceIdeal.nD Cert.MemNReferenceIdeal.τ).loc Cert.MemNReferenceIdeal.main_arg0) = m' ((c.tc : Thread Cert.MemNReferenceIdeal.nD Cert.MemNReferenceIdeal.τ).loc Cert.MemNReferenceIdeal.main_arg0)
          ∧ r.2.mem ((c.tc : Thread Cert.MemNReferenceIdeal.nD Cert.MemNReferenceIdeal.τ).loc Cert.MemNReferenceIdeal.main_arg1) = m' ((c.tc : Thread Cert.MemNReferenceIdeal.nD Cert.MemNReferenceIdeal.τ).loc Cert.MemNReferenceIdeal.main_arg1))

def preserves_MemKvKernel_MemKvKernelIdeal : Prop :=
  True

def algebraic_MemKvKernelIdeal_MemKvReferenceIdeal [hMemKvKernelIdeal : Cert.MemKvKernelIdeal.Facts] [hMemKvReferenceIdeal : Cert.MemKvReferenceIdeal.Facts] : Prop :=
  ∀ (m : (ℓ : Loc Cert.MemKvKernelIdeal.nD Cert.MemKvKernelIdeal.τ Cert.MemKvKernelIdeal.sig) → Buf (Elt Ideal) ℓ) (g : Dev Cert.MemKvKernelIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvKernelIdeal m →
    (∀ c : Dev Cert.MemKvKernelIdeal.nD,
      m' ((c.tc : Thread Cert.MemKvReferenceIdeal.nD Cert.MemKvReferenceIdeal.τ).loc Cert.MemKvReferenceIdeal.main_arg0) = m ((c.tc : Thread Cert.MemKvKernelIdeal.nD Cert.MemKvKernelIdeal.τ).loc Cert.MemKvKernelIdeal.main_arg0)
      ∧ m' ((c.tc : Thread Cert.MemKvReferenceIdeal.nD Cert.MemKvReferenceIdeal.τ).loc Cert.MemKvReferenceIdeal.main_arg1) = m ((c.tc : Thread Cert.MemKvKernelIdeal.nD Cert.MemKvKernelIdeal.τ).loc Cert.MemKvKernelIdeal.main_arg1)) →
    ∃ (v0 : (c : Dev Cert.MemKvKernelIdeal.nD) → Buf (Elt Ideal) ((c.tc : Thread Cert.MemKvKernelIdeal.nD Cert.MemKvKernelIdeal.τ).loc Cert.MemKvKernelIdeal.main_v0)),
      θ_run (Cert.MemKvKernelIdeal.defs (F := Ideal)) (onTc (τ := Cert.MemKvKernelIdeal.τ) (Cert.MemKvKernelIdeal.main (F := Ideal))) ⟨m, fun _ => 0, g⟩ (fun r => ∀ c : Dev Cert.MemKvKernelIdeal.nD,
          r.2.mem ((c.tc : Thread Cert.MemKvKernelIdeal.nD Cert.MemKvKernelIdeal.τ).loc Cert.MemKvKernelIdeal.main_v0) = v0 c
          ∧ r.2.mem ((c.tc : Thread Cert.MemKvKernelIdeal.nD Cert.MemKvKernelIdeal.τ).loc Cert.MemKvKernelIdeal.main_arg0) = m ((c.tc : Thread Cert.MemKvKernelIdeal.nD Cert.MemKvKernelIdeal.τ).loc Cert.MemKvKernelIdeal.main_arg0)
          ∧ r.2.mem ((c.tc : Thread Cert.MemKvKernelIdeal.nD Cert.MemKvKernelIdeal.τ).loc Cert.MemKvKernelIdeal.main_arg1) = m ((c.tc : Thread Cert.MemKvKernelIdeal.nD Cert.MemKvKernelIdeal.τ).loc Cert.MemKvKernelIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_FirstNormKernel_FirstNormKernelIdeal : Prop :=
  True

def algebraic_FirstNormKernelIdeal_FirstNormReferenceIdeal [hFirstNormKernelIdeal : Cert.FirstNormKernelIdeal.Facts] [hFirstNormReferenceIdeal : Cert.FirstNormReferenceIdeal.Facts] : Prop :=
  ∀ (m : (ℓ : Loc Cert.FirstNormKernelIdeal.nD Cert.FirstNormKernelIdeal.τ Cert.FirstNormKernelIdeal.sig) → Buf (Elt Ideal) ℓ) (g : Dev Cert.FirstNormKernelIdeal.nD → PrngReg)
    (m' : (ℓ : Loc Cert.FirstNormReferenceIdeal.nD Cert.FirstNormReferenceIdeal.τ Cert.FirstNormReferenceIdeal.sig) → Buf (Elt Ideal) ℓ) (g' : Dev Cert.FirstNormReferenceIdeal.nD → PrngReg), Pre_FirstNormKernelIdeal m →
    (∀ c : Dev Cert.FirstNormKernelIdeal.nD,
      m' ((c.tc : Thread Cert.FirstNormReferenceIdeal.nD Cert.FirstNormReferenceIdeal.τ).loc Cert.FirstNormReferenceIdeal.main_arg0) = m ((c.tc : Thread Cert.FirstNormKernelIdeal.nD Cert.FirstNormKernelIdeal.τ).loc Cert.FirstNormKernelIdeal.main_arg0)
      ∧ m' ((c.tc : Thread Cert.FirstNormReferenceIdeal.nD Cert.FirstNormReferenceIdeal.τ).loc Cert.FirstNormReferenceIdeal.main_arg1) = m ((c.tc : Thread Cert.FirstNormKernelIdeal.nD Cert.FirstNormKernelIdeal.τ).loc Cert.FirstNormKernelIdeal.main_arg1)) →
    ∃ (v0 : (c : Dev Cert.FirstNormKernelIdeal.nD) → Buf (Elt Ideal) ((c.tc : Thread Cert.FirstNormKernelIdeal.nD Cert.FirstNormKernelIdeal.τ).loc Cert.FirstNormKernelIdeal.main_v0)),
      θ_run (Cert.FirstNormKernelIdeal.defs (F := Ideal)) (onTc (τ := Cert.FirstNormKernelIdeal.τ) (Cert.FirstNormKernelIdeal.main (F := Ideal))) ⟨m, fun _ => 0, g⟩ (fun r => ∀ c : Dev Cert.FirstNormKernelIdeal.nD,
          r.2.mem ((c.tc : Thread Cert.FirstNormKernelIdeal.nD Cert.FirstNormKernelIdeal.τ).loc Cert.FirstNormKernelIdeal.main_v0) = v0 c
          ∧ r.2.mem ((c.tc : Thread Cert.FirstNormKernelIdeal.nD Cert.FirstNormKernelIdeal.τ).loc Cert.FirstNormKernelIdeal.main_arg0) = m ((c.tc : Thread Cert.FirstNormKernelIdeal.nD Cert.FirstNormKernelIdeal.τ).loc Cert.FirstNormKernelIdeal.main_arg0)
          ∧ r.2.mem ((c.tc : Thread Cert.FirstNormKernelIdeal.nD Cert.FirstNormKernelIdeal.τ).loc Cert.FirstNormKernelIdeal.main_arg1) = m ((c.tc : Thread Cert.FirstNormKernelIdeal.nD Cert.FirstNormKernelIdeal.τ).loc Cert.FirstNormKernelIdeal.main_arg1))
      ∧ θ_run (Cert.FirstNormReferenceIdeal.defs (F := Ideal)) (onTc (τ := Cert.FirstNormReferenceIdeal.τ) (Cert.FirstNormReferenceIdeal.main (F := Ideal))) ⟨m', fun _ => 0, g'⟩ (fun r => ∀ c : Dev Cert.FirstNormReferenceIdeal.nD,
          r.2.mem ((c.tc : Thread Cert.FirstNormReferenceIdeal.nD Cert.FirstNormReferenceIdeal.τ).loc Cert.FirstNormReferenceIdeal.main_v12) = v0 c
          ∧ r.2.mem ((c.tc : Thread Cert.FirstNormReferenceIdeal.nD Cert.FirstNormReferenceIdeal.τ).loc Cert.FirstNormReferenceIdeal.main_arg0) = m' ((c.tc : Thread Cert.FirstNormReferenceIdeal.nD Cert.FirstNormReferenceIdeal.τ).loc Cert.FirstNormReferenceIdeal.main_arg0)
          ∧ r.2.mem ((c.tc : Thread Cert.FirstNormReferenceIdeal.nD Cert.FirstNormReferenceIdeal.τ).loc Cert.FirstNormReferenceIdeal.main_arg1) = m' ((c.tc : Thread Cert.FirstNormReferenceIdeal.nD Cert.FirstNormReferenceIdeal.τ).loc Cert.FirstNormReferenceIdeal.main_arg1))

def preserves_MemFirstNormKernel_MemFirstNormKernelIdeal : Prop :=
  True

def algebraic_MemFirstNormKernelIdeal_MemFirstNormReferenceIdeal [hMemFirstNormKernelIdeal : Cert.MemFirstNormKernelIdeal.Facts] [hMemFirstNormReferenceIdeal : Cert.MemFirstNormReferenceIdeal.Facts] : Prop :=
  ∀ (m : (ℓ : Loc Cert.MemFirstNormKernelIdeal.nD Cert.MemFirstNormKernelIdeal.τ Cert.MemFirstNormKernelIdeal.sig) → Buf (Elt Ideal) ℓ) (g : Dev Cert.MemFirstNormKernelIdeal.nD → PrngReg)
    (m' : (ℓ : Loc Cert.MemFirstNormReferenceIdeal.nD Cert.MemFirstNormReferenceIdeal.τ Cert.MemFirstNormReferenceIdeal.sig) → Buf (Elt Ideal) ℓ) (g' : Dev Cert.MemFirstNormReferenceIdeal.nD → PrngReg), Pre_MemFirstNormKernelIdeal m →
    (∀ c : Dev Cert.MemFirstNormKernelIdeal.nD,
      m' ((c.tc : Thread Cert.MemFirstNormReferenceIdeal.nD Cert.MemFirstNormReferenceIdeal.τ).loc Cert.MemFirstNormReferenceIdeal.main_arg0) = m ((c.tc : Thread Cert.MemFirstNormKernelIdeal.nD Cert.MemFirstNormKernelIdeal.τ).loc Cert.MemFirstNormKernelIdeal.main_arg0)
      ∧ m' ((c.tc : Thread Cert.MemFirstNormReferenceIdeal.nD Cert.MemFirstNormReferenceIdeal.τ).loc Cert.MemFirstNormReferenceIdeal.main_arg1) = m ((c.tc : Thread Cert.MemFirstNormKernelIdeal.nD Cert.MemFirstNormKernelIdeal.τ).loc Cert.MemFirstNormKernelIdeal.main_arg1)) →
    ∃ (v0 : (c : Dev Cert.MemFirstNormKernelIdeal.nD) → Buf (Elt Ideal) ((c.tc : Thread Cert.MemFirstNormKernelIdeal.nD Cert.MemFirstNormKernelIdeal.τ).loc Cert.MemFirstNormKernelIdeal.main_v0)),
      θ_run (Cert.MemFirstNormKernelIdeal.defs (F := Ideal)) (onTc (τ := Cert.MemFirstNormKernelIdeal.τ) (Cert.MemFirstNormKernelIdeal.main (F := Ideal))) ⟨m, fun _ => 0, g⟩ (fun r => ∀ c : Dev Cert.MemFirstNormKernelIdeal.nD,
          r.2.mem ((c.tc : Thread Cert.MemFirstNormKernelIdeal.nD Cert.MemFirstNormKernelIdeal.τ).loc Cert.MemFirstNormKernelIdeal.main_v0) = v0 c
          ∧ r.2.mem ((c.tc : Thread Cert.MemFirstNormKernelIdeal.nD Cert.MemFirstNormKernelIdeal.τ).loc Cert.MemFirstNormKernelIdeal.main_arg0) = m ((c.tc : Thread Cert.MemFirstNormKernelIdeal.nD Cert.MemFirstNormKernelIdeal.τ).loc Cert.MemFirstNormKernelIdeal.main_arg0)
          ∧ r.2.mem ((c.tc : Thread Cert.MemFirstNormKernelIdeal.nD Cert.MemFirstNormKernelIdeal.τ).loc Cert.MemFirstNormKernelIdeal.main_arg1) = m ((c.tc : Thread Cert.MemFirstNormKernelIdeal.nD Cert.MemFirstNormKernelIdeal.τ).loc Cert.MemFirstNormKernelIdeal.main_arg1))
      ∧ θ_run (Cert.MemFirstNormReferenceIdeal.defs (F := Ideal)) (onTc (τ := Cert.MemFirstNormReferenceIdeal.τ) (Cert.MemFirstNormReferenceIdeal.main (F := Ideal))) ⟨m', fun _ => 0, g'⟩ (fun r => ∀ c : Dev Cert.MemFirstNormReferenceIdeal.nD,
          r.2.mem ((c.tc : Thread Cert.MemFirstNormReferenceIdeal.nD Cert.MemFirstNormReferenceIdeal.τ).loc Cert.MemFirstNormReferenceIdeal.main_v12) = v0 c
          ∧ r.2.mem ((c.tc : Thread Cert.MemFirstNormReferenceIdeal.nD Cert.MemFirstNormReferenceIdeal.τ).loc Cert.MemFirstNormReferenceIdeal.main_arg0) = m' ((c.tc : Thread Cert.MemFirstNormReferenceIdeal.nD Cert.MemFirstNormReferenceIdeal.τ).loc Cert.MemFirstNormReferenceIdeal.main_arg0)
          ∧ r.2.mem ((c.tc : Thread Cert.MemFirstNormReferenceIdeal.nD Cert.MemFirstNormReferenceIdeal.τ).loc Cert.MemFirstNormReferenceIdeal.main_arg1) = m' ((c.tc : Thread Cert.MemFirstNormReferenceIdeal.nD Cert.MemFirstNormReferenceIdeal.τ).loc Cert.MemFirstNormReferenceIdeal.main_arg1))

def preserves_Mem0Kernel_Mem0KernelIdeal : Prop :=
  True

def algebraic_Mem0KernelIdeal_Mem0ReferenceIdeal_on_written0_pre_finite_logits0 [hMem0KernelIdeal : Cert.Mem0KernelIdeal.Facts] [hMem0ReferenceIdeal : Cert.Mem0ReferenceIdeal.Facts] [hPre_finite_logits0 : Cert.Pre_finite_logits0.Facts] [hOn_written0 : Cert.On_written0.Facts] : Prop :=
  ∀ (m : (ℓ : Loc Cert.Mem0KernelIdeal.nD Cert.Mem0KernelIdeal.τ Cert.Mem0KernelIdeal.sig) → Buf (Elt Ideal) ℓ) (g : Dev Cert.Mem0KernelIdeal.nD → PrngReg)
    (m' : (ℓ : Loc Cert.Mem0ReferenceIdeal.nD Cert.Mem0ReferenceIdeal.τ Cert.Mem0ReferenceIdeal.sig) → Buf (Elt Ideal) ℓ) (g' : Dev Cert.Mem0ReferenceIdeal.nD → PrngReg), Pre_Mem0KernelIdeal_finite_logits0 m →
    (∀ c : Dev Cert.Mem0KernelIdeal.nD,
      m' ((c.tc : Thread Cert.Mem0ReferenceIdeal.nD Cert.Mem0ReferenceIdeal.τ).loc Cert.Mem0ReferenceIdeal.main_arg0) = m ((c.tc : Thread Cert.Mem0KernelIdeal.nD Cert.Mem0KernelIdeal.τ).loc Cert.Mem0KernelIdeal.main_arg0)
      ∧ m' ((c.tc : Thread Cert.Mem0ReferenceIdeal.nD Cert.Mem0ReferenceIdeal.τ).loc Cert.Mem0ReferenceIdeal.main_arg1) = m ((c.tc : Thread Cert.Mem0KernelIdeal.nD Cert.Mem0KernelIdeal.τ).loc Cert.Mem0KernelIdeal.main_arg1)
      ∧ m' ((c.tc : Thread Cert.Mem0ReferenceIdeal.nD Cert.Mem0ReferenceIdeal.τ).loc Cert.Mem0ReferenceIdeal.main_arg2) = m ((c.tc : Thread Cert.Mem0KernelIdeal.nD Cert.Mem0KernelIdeal.τ).loc Cert.Mem0KernelIdeal.main_arg2)) →
    ∃ (v0 : (c : Dev Cert.Mem0KernelIdeal.nD) → Buf (Elt Ideal) ((c.tc : Thread Cert.Mem0KernelIdeal.nD Cert.Mem0KernelIdeal.τ).loc Cert.Mem0KernelIdeal.main_v0_0)) (v1 : (c : Dev Cert.Mem0KernelIdeal.nD) → Buf (Elt Ideal) ((c.tc : Thread Cert.Mem0KernelIdeal.nD Cert.Mem0KernelIdeal.τ).loc Cert.Mem0KernelIdeal.main_v0_1)),
      θ_run (Cert.Mem0KernelIdeal.defs (F := Ideal)) (onTc (τ := Cert.Mem0KernelIdeal.τ) (Cert.Mem0KernelIdeal.main (F := Ideal))) ⟨m, fun _ => 0, g⟩ (fun r => ∀ c : Dev Cert.Mem0KernelIdeal.nD,
          (∀ i : (⟨2, ![8192, 5120]⟩ : Shape).Idx, (Cert.On_written0.fn (F := Ideal) (m ((c.tc : Thread Cert.Mem0KernelIdeal.nD Cert.Mem0KernelIdeal.τ).loc Cert.Mem0KernelIdeal.main_arg0)) (m ((c.tc : Thread Cert.Mem0KernelIdeal.nD Cert.Mem0KernelIdeal.τ).loc Cert.Mem0KernelIdeal.main_arg1)) (m ((c.tc : Thread Cert.Mem0KernelIdeal.nD Cert.Mem0KernelIdeal.τ).loc Cert.Mem0KernelIdeal.main_arg2))).1 i = 1#1 → r.2.mem ((c.tc : Thread Cert.Mem0KernelIdeal.nD Cert.Mem0KernelIdeal.τ).loc Cert.Mem0KernelIdeal.main_v0_0) i = v0 c i)
          ∧ (∀ i : (⟨2, ![256, 1024]⟩ : Shape).Idx, (Cert.On_written0.fn (F := Ideal) (m ((c.tc : Thread Cert.Mem0KernelIdeal.nD Cert.Mem0KernelIdeal.τ).loc Cert.Mem0KernelIdeal.main_arg0)) (m ((c.tc : Thread Cert.Mem0KernelIdeal.nD Cert.Mem0KernelIdeal.τ).loc Cert.Mem0KernelIdeal.main_arg1)) (m ((c.tc : Thread Cert.Mem0KernelIdeal.nD Cert.Mem0KernelIdeal.τ).loc Cert.Mem0KernelIdeal.main_arg2))).2 i = 1#1 → r.2.mem ((c.tc : Thread Cert.Mem0KernelIdeal.nD Cert.Mem0KernelIdeal.τ).loc Cert.Mem0KernelIdeal.main_v0_1) i = v1 c i)
          ∧ r.2.mem ((c.tc : Thread Cert.Mem0KernelIdeal.nD Cert.Mem0KernelIdeal.τ).loc Cert.Mem0KernelIdeal.main_arg0) = m ((c.tc : Thread Cert.Mem0KernelIdeal.nD Cert.Mem0KernelIdeal.τ).loc Cert.Mem0KernelIdeal.main_arg0)
          ∧ r.2.mem ((c.tc : Thread Cert.Mem0KernelIdeal.nD Cert.Mem0KernelIdeal.τ).loc Cert.Mem0KernelIdeal.main_arg1) = m ((c.tc : Thread Cert.Mem0KernelIdeal.nD Cert.Mem0KernelIdeal.τ).loc Cert.Mem0KernelIdeal.main_arg1)
          ∧ r.2.mem ((c.tc : Thread Cert.Mem0KernelIdeal.nD Cert.Mem0KernelIdeal.τ).loc Cert.Mem0KernelIdeal.main_arg2) = m ((c.tc : Thread Cert.Mem0KernelIdeal.nD Cert.Mem0KernelIdeal.τ).loc Cert.Mem0KernelIdeal.main_arg2))
      ∧ θ_run (Cert.Mem0ReferenceIdeal.defs (F := Ideal)) (onTc (τ := Cert.Mem0ReferenceIdeal.τ) (Cert.Mem0ReferenceIdeal.main (F := Ideal))) ⟨m', fun _ => 0, g'⟩ (fun r => ∀ c : Dev Cert.Mem0ReferenceIdeal.nD,
          (∀ i : (⟨2, ![8192, 5120]⟩ : Shape).Idx, (Cert.On_written0.fn (F := Ideal) (m ((c.tc : Thread Cert.Mem0KernelIdeal.nD Cert.Mem0KernelIdeal.τ).loc Cert.Mem0KernelIdeal.main_arg0)) (m ((c.tc : Thread Cert.Mem0KernelIdeal.nD Cert.Mem0KernelIdeal.τ).loc Cert.Mem0KernelIdeal.main_arg1)) (m ((c.tc : Thread Cert.Mem0KernelIdeal.nD Cert.Mem0KernelIdeal.τ).loc Cert.Mem0KernelIdeal.main_arg2))).1 i = 1#1 → r.2.mem ((c.tc : Thread Cert.Mem0ReferenceIdeal.nD Cert.Mem0ReferenceIdeal.τ).loc Cert.Mem0ReferenceIdeal.main_v69) i = v0 c i)
          ∧ (∀ i : (⟨2, ![256, 1024]⟩ : Shape).Idx, (Cert.On_written0.fn (F := Ideal) (m ((c.tc : Thread Cert.Mem0KernelIdeal.nD Cert.Mem0KernelIdeal.τ).loc Cert.Mem0KernelIdeal.main_arg0)) (m ((c.tc : Thread Cert.Mem0KernelIdeal.nD Cert.Mem0KernelIdeal.τ).loc Cert.Mem0KernelIdeal.main_arg1)) (m ((c.tc : Thread Cert.Mem0KernelIdeal.nD Cert.Mem0KernelIdeal.τ).loc Cert.Mem0KernelIdeal.main_arg2))).2 i = 1#1 → r.2.mem ((c.tc : Thread Cert.Mem0ReferenceIdeal.nD Cert.Mem0ReferenceIdeal.τ).loc Cert.Mem0ReferenceIdeal.main_v67) i = v1 c i)
          ∧ r.2.mem ((c.tc : Thread Cert.Mem0ReferenceIdeal.nD Cert.Mem0ReferenceIdeal.τ).loc Cert.Mem0ReferenceIdeal.main_arg0) = m' ((c.tc : Thread Cert.Mem0ReferenceIdeal.nD Cert.Mem0ReferenceIdeal.τ).loc Cert.Mem0ReferenceIdeal.main_arg0)
          ∧ r.2.mem ((c.tc : Thread Cert.Mem0ReferenceIdeal.nD Cert.Mem0ReferenceIdeal.τ).loc Cert.Mem0ReferenceIdeal.main_arg1) = m' ((c.tc : Thread Cert.Mem0ReferenceIdeal.nD Cert.Mem0ReferenceIdeal.τ).loc Cert.Mem0ReferenceIdeal.main_arg1)
          ∧ r.2.mem ((c.tc : Thread Cert.Mem0ReferenceIdeal.nD Cert.Mem0ReferenceIdeal.τ).loc Cert.Mem0ReferenceIdeal.main_arg2) = m' ((c.tc : Thread Cert.Mem0ReferenceIdeal.nD Cert.Mem0ReferenceIdeal.τ).loc Cert.Mem0ReferenceIdeal.main_arg2))

def Claim : Prop :=
  ∃ (hKernel : Cert.Kernel.Facts) (hKernelIdeal : Cert.KernelIdeal.Facts) (hReferenceIdeal : Cert.ReferenceIdeal.Facts) (hHiddenKernel : Cert.HiddenKernel.Facts) (hHiddenKernelIdeal : Cert.HiddenKernelIdeal.Facts) (hHiddenReferenceIdeal : Cert.HiddenReferenceIdeal.Facts) (hGateKernel : Cert.GateKernel.Facts) (hGateKernelIdeal : Cert.GateKernelIdeal.Facts) (hGateReferenceIdeal : Cert.GateReferenceIdeal.Facts) (hDownKernel : Cert.DownKernel.Facts) (hDownKernelIdeal : Cert.DownKernelIdeal.Facts) (hDownReferenceIdeal : Cert.DownReferenceIdeal.Facts) (hActKernel : Cert.ActKernel.Facts) (hActKernelIdeal : Cert.ActKernelIdeal.Facts) (hActReferenceIdeal : Cert.ActReferenceIdeal.Facts) (hGateUpKernel : Cert.GateUpKernel.Facts) (hGateUpKernelIdeal : Cert.GateUpKernelIdeal.Facts) (hGateUpReferenceIdeal : Cert.GateUpReferenceIdeal.Facts) (hDownFwdKernel : Cert.DownFwdKernel.Facts) (hDownFwdKernelIdeal : Cert.DownFwdKernelIdeal.Facts) (hDownFwdReferenceIdeal : Cert.DownFwdReferenceIdeal.Facts) (hSguInKernel : Cert.SguInKernel.Facts) (hSguInKernelIdeal : Cert.SguInKernelIdeal.Facts) (hSguInReferenceIdeal : Cert.SguInReferenceIdeal.Facts) (hAttnInKernel : Cert.AttnInKernel.Facts) (hAttnInKernelIdeal : Cert.AttnInKernelIdeal.Facts) (hAttnInReferenceIdeal : Cert.AttnInReferenceIdeal.Facts) (hSguInWKernel : Cert.SguInWKernel.Facts) (hSguInWKernelIdeal : Cert.SguInWKernelIdeal.Facts) (hSguInWReferenceIdeal : Cert.SguInWReferenceIdeal.Facts) (hAttnInWKernel : Cert.AttnInWKernel.Facts) (hAttnInWKernelIdeal : Cert.AttnInWKernelIdeal.Facts) (hAttnInWReferenceIdeal : Cert.AttnInWReferenceIdeal.Facts) (hSguInHKernel : Cert.SguInHKernel.Facts) (hSguInHKernelIdeal : Cert.SguInHKernelIdeal.Facts) (hSguInHReferenceIdeal : Cert.SguInHReferenceIdeal.Facts) (hAttnInHKernel : Cert.AttnInHKernel.Facts) (hAttnInHKernelIdeal : Cert.AttnInHKernelIdeal.Facts) (hAttnInHReferenceIdeal : Cert.AttnInHReferenceIdeal.Facts) (hSguCatKernel : Cert.SguCatKernel.Facts) (hSguCatKernelIdeal : Cert.SguCatKernelIdeal.Facts) (hSguCatReferenceIdeal : Cert.SguCatReferenceIdeal.Facts) (hAttnCatKernel : Cert.AttnCatKernel.Facts) (hAttnCatKernelIdeal : Cert.AttnCatKernelIdeal.Facts) (hAttnCatReferenceIdeal : Cert.AttnCatReferenceIdeal.Facts) (hSguOutWKernel : Cert.SguOutWKernel.Facts) (hSguOutWKernelIdeal : Cert.SguOutWKernelIdeal.Facts) (hSguOutWReferenceIdeal : Cert.SguOutWReferenceIdeal.Facts) (hAttnOutWKernel : Cert.AttnOutWKernel.Facts) (hAttnOutWKernelIdeal : Cert.AttnOutWKernelIdeal.Facts) (hAttnOutWReferenceIdeal : Cert.AttnOutWReferenceIdeal.Facts) (hSguOutKernel : Cert.SguOutKernel.Facts) (hSguOutKernelIdeal : Cert.SguOutKernelIdeal.Facts) (hSguOutReferenceIdeal : Cert.SguOutReferenceIdeal.Facts) (hAttnOutKernel : Cert.AttnOutKernel.Facts) (hAttnOutKernelIdeal : Cert.AttnOutKernelIdeal.Facts) (hAttnOutReferenceIdeal : Cert.AttnOutReferenceIdeal.Facts) (hSguFwdKernel : Cert.SguFwdKernel.Facts) (hSguFwdKernelIdeal : Cert.SguFwdKernelIdeal.Facts) (hSguFwdReferenceIdeal : Cert.SguFwdReferenceIdeal.Facts) (hSguBwdKernel : Cert.SguBwdKernel.Facts) (hSguBwdKernelIdeal : Cert.SguBwdKernelIdeal.Facts) (hSguBwdReferenceIdeal : Cert.SguBwdReferenceIdeal.Facts) (hNormKernel : Cert.NormKernel.Facts) (hNormKernelIdeal : Cert.NormKernelIdeal.Facts) (hNormReferenceIdeal : Cert.NormReferenceIdeal.Facts) (hMemNormKernel : Cert.MemNormKernel.Facts) (hMemNormKernelIdeal : Cert.MemNormKernelIdeal.Facts) (hMemNormReferenceIdeal : Cert.MemNormReferenceIdeal.Facts) (hMemKvWKernel : Cert.MemKvWKernel.Facts) (hMemKvWKernelIdeal : Cert.MemKvWKernelIdeal.Facts) (hMemKvWReferenceIdeal : Cert.MemKvWReferenceIdeal.Facts) (hMemNKernel : Cert.MemNKernel.Facts) (hMemNKernelIdeal : Cert.MemNKernelIdeal.Facts) (hMemNReferenceIdeal : Cert.MemNReferenceIdeal.Facts) (hMemKvKernel : Cert.MemKvKernel.Facts) (hMemKvKernelIdeal : Cert.MemKvKernelIdeal.Facts) (hMemKvReferenceIdeal : Cert.MemKvReferenceIdeal.Facts) (hFirstNormKernel : Cert.FirstNormKernel.Facts) (hFirstNormKernelIdeal : Cert.FirstNormKernelIdeal.Facts) (hFirstNormReferenceIdeal : Cert.FirstNormReferenceIdeal.Facts) (hMemFirstNormKernel : Cert.MemFirstNormKernel.Facts) (hMemFirstNormKernelIdeal : Cert.MemFirstNormKernelIdeal.Facts) (hMemFirstNormReferenceIdeal : Cert.MemFirstNormReferenceIdeal.Facts) (hMem0Kernel : Cert.Mem0Kernel.Facts) (hMem0KernelIdeal : Cert.Mem0KernelIdeal.Facts) (hMem0ReferenceIdeal : Cert.Mem0ReferenceIdeal.Facts) (hPre_finite_logits : Cert.Pre_finite_logits.Facts) (hPre_finite_factors : Cert.Pre_finite_factors.Facts) (hPre_finite_gating : Cert.Pre_finite_gating.Facts) (hPre_finite_logits0 : Cert.Pre_finite_logits0.Facts) (hOn_written : Cert.On_written.Facts) (hOn_mixer_columns : Cert.On_mixer_columns.Facts) (hOn_written0 : Cert.On_written0.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_HiddenKernel (hHiddenKernel := hHiddenKernel)
    ∧ quiescent_HiddenKernelIdeal (hHiddenKernelIdeal := hHiddenKernelIdeal)
    ∧ quiescent_HiddenReferenceIdeal (hHiddenReferenceIdeal := hHiddenReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_ActKernel (hActKernel := hActKernel)
    ∧ quiescent_ActKernelIdeal (hActKernelIdeal := hActKernelIdeal)
    ∧ quiescent_ActKernelIdeal_pre_finite_factors (hActKernelIdeal := hActKernelIdeal) (hPre_finite_factors := hPre_finite_factors)
    ∧ quiescent_ActReferenceIdeal (hActReferenceIdeal := hActReferenceIdeal)
    ∧ quiescent_ActReferenceIdeal_pre_finite_factors (hActReferenceIdeal := hActReferenceIdeal) (hPre_finite_factors := hPre_finite_factors)
    ∧ quiescent_GateUpKernel (hGateUpKernel := hGateUpKernel)
    ∧ quiescent_GateUpKernelIdeal (hGateUpKernelIdeal := hGateUpKernelIdeal)
    ∧ quiescent_GateUpReferenceIdeal (hGateUpReferenceIdeal := hGateUpReferenceIdeal)
    ∧ quiescent_DownFwdKernel (hDownFwdKernel := hDownFwdKernel)
    ∧ quiescent_DownFwdKernelIdeal (hDownFwdKernelIdeal := hDownFwdKernelIdeal)
    ∧ quiescent_DownFwdReferenceIdeal (hDownFwdReferenceIdeal := hDownFwdReferenceIdeal)
    ∧ quiescent_SguInKernel (hSguInKernel := hSguInKernel)
    ∧ quiescent_SguInKernelIdeal (hSguInKernelIdeal := hSguInKernelIdeal)
    ∧ quiescent_SguInReferenceIdeal (hSguInReferenceIdeal := hSguInReferenceIdeal)
    ∧ quiescent_AttnInKernel (hAttnInKernel := hAttnInKernel)
    ∧ quiescent_AttnInKernelIdeal (hAttnInKernelIdeal := hAttnInKernelIdeal)
    ∧ quiescent_AttnInReferenceIdeal (hAttnInReferenceIdeal := hAttnInReferenceIdeal)
    ∧ quiescent_SguInWKernel (hSguInWKernel := hSguInWKernel)
    ∧ quiescent_SguInWKernelIdeal (hSguInWKernelIdeal := hSguInWKernelIdeal)
    ∧ quiescent_SguInWReferenceIdeal (hSguInWReferenceIdeal := hSguInWReferenceIdeal)
    ∧ quiescent_AttnInWKernel (hAttnInWKernel := hAttnInWKernel)
    ∧ quiescent_AttnInWKernelIdeal (hAttnInWKernelIdeal := hAttnInWKernelIdeal)
    ∧ quiescent_AttnInWReferenceIdeal (hAttnInWReferenceIdeal := hAttnInWReferenceIdeal)
    ∧ quiescent_SguInHKernel (hSguInHKernel := hSguInHKernel)
    ∧ quiescent_SguInHKernelIdeal (hSguInHKernelIdeal := hSguInHKernelIdeal)
    ∧ quiescent_SguInHReferenceIdeal (hSguInHReferenceIdeal := hSguInHReferenceIdeal)
    ∧ quiescent_AttnInHKernel (hAttnInHKernel := hAttnInHKernel)
    ∧ quiescent_AttnInHKernelIdeal (hAttnInHKernelIdeal := hAttnInHKernelIdeal)
    ∧ quiescent_AttnInHReferenceIdeal (hAttnInHReferenceIdeal := hAttnInHReferenceIdeal)
    ∧ quiescent_SguCatKernel (hSguCatKernel := hSguCatKernel)
    ∧ quiescent_SguCatKernelIdeal (hSguCatKernelIdeal := hSguCatKernelIdeal)
    ∧ quiescent_SguCatReferenceIdeal (hSguCatReferenceIdeal := hSguCatReferenceIdeal)
    ∧ quiescent_AttnCatKernel (hAttnCatKernel := hAttnCatKernel)
    ∧ quiescent_AttnCatKernelIdeal (hAttnCatKernelIdeal := hAttnCatKernelIdeal)
    ∧ quiescent_AttnCatReferenceIdeal (hAttnCatReferenceIdeal := hAttnCatReferenceIdeal)
    ∧ quiescent_SguOutWKernel (hSguOutWKernel := hSguOutWKernel)
    ∧ quiescent_SguOutWKernelIdeal (hSguOutWKernelIdeal := hSguOutWKernelIdeal)
    ∧ quiescent_SguOutWReferenceIdeal (hSguOutWReferenceIdeal := hSguOutWReferenceIdeal)
    ∧ quiescent_AttnOutWKernel (hAttnOutWKernel := hAttnOutWKernel)
    ∧ quiescent_AttnOutWKernelIdeal (hAttnOutWKernelIdeal := hAttnOutWKernelIdeal)
    ∧ quiescent_AttnOutWReferenceIdeal (hAttnOutWReferenceIdeal := hAttnOutWReferenceIdeal)
    ∧ quiescent_SguOutKernel (hSguOutKernel := hSguOutKernel)
    ∧ quiescent_SguOutKernelIdeal (hSguOutKernelIdeal := hSguOutKernelIdeal)
    ∧ quiescent_SguOutReferenceIdeal (hSguOutReferenceIdeal := hSguOutReferenceIdeal)
    ∧ quiescent_AttnOutKernel (hAttnOutKernel := hAttnOutKernel)
    ∧ quiescent_AttnOutKernelIdeal (hAttnOutKernelIdeal := hAttnOutKernelIdeal)
    ∧ quiescent_AttnOutReferenceIdeal (hAttnOutReferenceIdeal := hAttnOutReferenceIdeal)
    ∧ quiescent_SguFwdKernel (hSguFwdKernel := hSguFwdKernel)
    ∧ quiescent_SguFwdKernelIdeal (hSguFwdKernelIdeal := hSguFwdKernelIdeal)
    ∧ quiescent_SguFwdReferenceIdeal (hSguFwdReferenceIdeal := hSguFwdReferenceIdeal)
    ∧ quiescent_SguBwdKernel (hSguBwdKernel := hSguBwdKernel)
    ∧ quiescent_SguBwdKernelIdeal (hSguBwdKernelIdeal := hSguBwdKernelIdeal)
    ∧ quiescent_SguBwdKernelIdeal_pre_finite_gating (hSguBwdKernelIdeal := hSguBwdKernelIdeal) (hPre_finite_gating := hPre_finite_gating)
    ∧ quiescent_SguBwdReferenceIdeal (hSguBwdReferenceIdeal := hSguBwdReferenceIdeal)
    ∧ quiescent_SguBwdReferenceIdeal_pre_finite_gating (hSguBwdReferenceIdeal := hSguBwdReferenceIdeal) (hPre_finite_gating := hPre_finite_gating)
    ∧ quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_MemNormKernel (hMemNormKernel := hMemNormKernel)
    ∧ quiescent_MemNormKernelIdeal (hMemNormKernelIdeal := hMemNormKernelIdeal)
    ∧ quiescent_MemNormReferenceIdeal (hMemNormReferenceIdeal := hMemNormReferenceIdeal)
    ∧ quiescent_MemKvWKernel (hMemKvWKernel := hMemKvWKernel)
    ∧ quiescent_MemKvWKernelIdeal (hMemKvWKernelIdeal := hMemKvWKernelIdeal)
    ∧ quiescent_MemKvWReferenceIdeal (hMemKvWReferenceIdeal := hMemKvWReferenceIdeal)
    ∧ quiescent_MemNKernel (hMemNKernel := hMemNKernel)
    ∧ quiescent_MemNKernelIdeal (hMemNKernelIdeal := hMemNKernelIdeal)
    ∧ quiescent_MemNReferenceIdeal (hMemNReferenceIdeal := hMemNReferenceIdeal)
    ∧ quiescent_MemKvKernel (hMemKvKernel := hMemKvKernel)
    ∧ quiescent_MemKvKernelIdeal (hMemKvKernelIdeal := hMemKvKernelIdeal)
    ∧ quiescent_MemKvReferenceIdeal (hMemKvReferenceIdeal := hMemKvReferenceIdeal)
    ∧ quiescent_FirstNormKernel (hFirstNormKernel := hFirstNormKernel)
    ∧ quiescent_FirstNormKernelIdeal (hFirstNormKernelIdeal := hFirstNormKernelIdeal)
    ∧ quiescent_FirstNormReferenceIdeal (hFirstNormReferenceIdeal := hFirstNormReferenceIdeal)
    ∧ quiescent_MemFirstNormKernel (hMemFirstNormKernel := hMemFirstNormKernel)
    ∧ quiescent_MemFirstNormKernelIdeal (hMemFirstNormKernelIdeal := hMemFirstNormKernelIdeal)
    ∧ quiescent_MemFirstNormReferenceIdeal (hMemFirstNormReferenceIdeal := hMemFirstNormReferenceIdeal)
    ∧ quiescent_Mem0Kernel (hMem0Kernel := hMem0Kernel)
    ∧ quiescent_Mem0KernelIdeal (hMem0KernelIdeal := hMem0KernelIdeal)
    ∧ quiescent_Mem0KernelIdeal_pre_finite_logits0 (hMem0KernelIdeal := hMem0KernelIdeal) (hPre_finite_logits0 := hPre_finite_logits0)
    ∧ quiescent_Mem0ReferenceIdeal (hMem0ReferenceIdeal := hMem0ReferenceIdeal)
    ∧ quiescent_Mem0ReferenceIdeal_pre_finite_logits0 (hMem0ReferenceIdeal := hMem0ReferenceIdeal) (hPre_finite_logits0 := hPre_finite_logits0)
    ∧ preserves_Kernel_KernelIdeal
    ∧ algebraic_KernelIdeal_ReferenceIdeal_on_written_pre_finite_logits (hKernelIdeal := hKernelIdeal) (hReferenceIdeal := hReferenceIdeal) (hPre_finite_logits := hPre_finite_logits) (hOn_written := hOn_written)
    ∧ preserves_HiddenKernel_HiddenKernelIdeal
    ∧ algebraic_HiddenKernelIdeal_HiddenReferenceIdeal (hHiddenKernelIdeal := hHiddenKernelIdeal) (hHiddenReferenceIdeal := hHiddenReferenceIdeal)
    ∧ preserves_GateKernel_GateKernelIdeal
    ∧ algebraic_GateKernelIdeal_GateReferenceIdeal (hGateKernelIdeal := hGateKernelIdeal) (hGateReferenceIdeal := hGateReferenceIdeal)
    ∧ preserves_DownKernel_DownKernelIdeal
    ∧ algebraic_DownKernelIdeal_DownReferenceIdeal (hDownKernelIdeal := hDownKernelIdeal) (hDownReferenceIdeal := hDownReferenceIdeal)
    ∧ preserves_ActKernel_ActKernelIdeal
    ∧ algebraic_ActKernelIdeal_ActReferenceIdeal_pre_finite_factors (hActKernelIdeal := hActKernelIdeal) (hActReferenceIdeal := hActReferenceIdeal) (hPre_finite_factors := hPre_finite_factors)
    ∧ preserves_GateUpKernel_GateUpKernelIdeal
    ∧ algebraic_GateUpKernelIdeal_GateUpReferenceIdeal (hGateUpKernelIdeal := hGateUpKernelIdeal) (hGateUpReferenceIdeal := hGateUpReferenceIdeal)
    ∧ preserves_DownFwdKernel_DownFwdKernelIdeal
    ∧ algebraic_DownFwdKernelIdeal_DownFwdReferenceIdeal (hDownFwdKernelIdeal := hDownFwdKernelIdeal) (hDownFwdReferenceIdeal := hDownFwdReferenceIdeal)
    ∧ preserves_SguInKernel_SguInKernelIdeal
    ∧ algebraic_SguInKernelIdeal_SguInReferenceIdeal (hSguInKernelIdeal := hSguInKernelIdeal) (hSguInReferenceIdeal := hSguInReferenceIdeal)
    ∧ preserves_AttnInKernel_AttnInKernelIdeal
    ∧ algebraic_AttnInKernelIdeal_AttnInReferenceIdeal (hAttnInKernelIdeal := hAttnInKernelIdeal) (hAttnInReferenceIdeal := hAttnInReferenceIdeal)
    ∧ preserves_SguInWKernel_SguInWKernelIdeal
    ∧ algebraic_SguInWKernelIdeal_SguInWReferenceIdeal (hSguInWKernelIdeal := hSguInWKernelIdeal) (hSguInWReferenceIdeal := hSguInWReferenceIdeal)
    ∧ preserves_AttnInWKernel_AttnInWKernelIdeal
    ∧ algebraic_AttnInWKernelIdeal_AttnInWReferenceIdeal (hAttnInWKernelIdeal := hAttnInWKernelIdeal) (hAttnInWReferenceIdeal := hAttnInWReferenceIdeal)
    ∧ preserves_SguInHKernel_SguInHKernelIdeal
    ∧ algebraic_SguInHKernelIdeal_SguInHReferenceIdeal (hSguInHKernelIdeal := hSguInHKernelIdeal) (hSguInHReferenceIdeal := hSguInHReferenceIdeal)
    ∧ preserves_AttnInHKernel_AttnInHKernelIdeal
    ∧ algebraic_AttnInHKernelIdeal_AttnInHReferenceIdeal (hAttnInHKernelIdeal := hAttnInHKernelIdeal) (hAttnInHReferenceIdeal := hAttnInHReferenceIdeal)
    ∧ preserves_SguCatKernel_SguCatKernelIdeal
    ∧ algebraic_SguCatKernelIdeal_SguCatReferenceIdeal (hSguCatKernelIdeal := hSguCatKernelIdeal) (hSguCatReferenceIdeal := hSguCatReferenceIdeal)
    ∧ preserves_AttnCatKernel_AttnCatKernelIdeal
    ∧ algebraic_AttnCatKernelIdeal_AttnCatReferenceIdeal (hAttnCatKernelIdeal := hAttnCatKernelIdeal) (hAttnCatReferenceIdeal := hAttnCatReferenceIdeal)
    ∧ preserves_SguOutWKernel_SguOutWKernelIdeal
    ∧ algebraic_SguOutWKernelIdeal_SguOutWReferenceIdeal (hSguOutWKernelIdeal := hSguOutWKernelIdeal) (hSguOutWReferenceIdeal := hSguOutWReferenceIdeal)
    ∧ preserves_AttnOutWKernel_AttnOutWKernelIdeal
    ∧ algebraic_AttnOutWKernelIdeal_AttnOutWReferenceIdeal (hAttnOutWKernelIdeal := hAttnOutWKernelIdeal) (hAttnOutWReferenceIdeal := hAttnOutWReferenceIdeal)
    ∧ preserves_SguOutKernel_SguOutKernelIdeal
    ∧ algebraic_SguOutKernelIdeal_SguOutReferenceIdeal (hSguOutKernelIdeal := hSguOutKernelIdeal) (hSguOutReferenceIdeal := hSguOutReferenceIdeal)
    ∧ preserves_AttnOutKernel_AttnOutKernelIdeal
    ∧ algebraic_AttnOutKernelIdeal_AttnOutReferenceIdeal (hAttnOutKernelIdeal := hAttnOutKernelIdeal) (hAttnOutReferenceIdeal := hAttnOutReferenceIdeal)
    ∧ preserves_SguFwdKernel_SguFwdKernelIdeal
    ∧ algebraic_SguFwdKernelIdeal_SguFwdReferenceIdeal_on_mixer_columns (hSguFwdKernelIdeal := hSguFwdKernelIdeal) (hSguFwdReferenceIdeal := hSguFwdReferenceIdeal) (hOn_mixer_columns := hOn_mixer_columns)
    ∧ preserves_SguBwdKernel_SguBwdKernelIdeal
    ∧ algebraic_SguBwdKernelIdeal_SguBwdReferenceIdeal_pre_finite_gating (hSguBwdKernelIdeal := hSguBwdKernelIdeal) (hSguBwdReferenceIdeal := hSguBwdReferenceIdeal) (hPre_finite_gating := hPre_finite_gating)
    ∧ preserves_NormKernel_NormKernelIdeal
    ∧ algebraic_NormKernelIdeal_NormReferenceIdeal (hNormKernelIdeal := hNormKernelIdeal) (hNormReferenceIdeal := hNormReferenceIdeal)
    ∧ preserves_MemNormKernel_MemNormKernelIdeal
    ∧ algebraic_MemNormKernelIdeal_MemNormReferenceIdeal (hMemNormKernelIdeal := hMemNormKernelIdeal) (hMemNormReferenceIdeal := hMemNormReferenceIdeal)
    ∧ preserves_MemKvWKernel_MemKvWKernelIdeal
    ∧ algebraic_MemKvWKernelIdeal_MemKvWReferenceIdeal (hMemKvWKernelIdeal := hMemKvWKernelIdeal) (hMemKvWReferenceIdeal := hMemKvWReferenceIdeal)
    ∧ preserves_MemNKernel_MemNKernelIdeal
    ∧ algebraic_MemNKernelIdeal_MemNReferenceIdeal (hMemNKernelIdeal := hMemNKernelIdeal) (hMemNReferenceIdeal := hMemNReferenceIdeal)
    ∧ preserves_MemKvKernel_MemKvKernelIdeal
    ∧ algebraic_MemKvKernelIdeal_MemKvReferenceIdeal (hMemKvKernelIdeal := hMemKvKernelIdeal) (hMemKvReferenceIdeal := hMemKvReferenceIdeal)
    ∧ preserves_FirstNormKernel_FirstNormKernelIdeal
    ∧ algebraic_FirstNormKernelIdeal_FirstNormReferenceIdeal (hFirstNormKernelIdeal := hFirstNormKernelIdeal) (hFirstNormReferenceIdeal := hFirstNormReferenceIdeal)
    ∧ preserves_MemFirstNormKernel_MemFirstNormKernelIdeal
    ∧ algebraic_MemFirstNormKernelIdeal_MemFirstNormReferenceIdeal (hMemFirstNormKernelIdeal := hMemFirstNormKernelIdeal) (hMemFirstNormReferenceIdeal := hMemFirstNormReferenceIdeal)
    ∧ preserves_Mem0Kernel_Mem0KernelIdeal
    ∧ algebraic_Mem0KernelIdeal_Mem0ReferenceIdeal_on_written0_pre_finite_logits0 (hMem0KernelIdeal := hMem0KernelIdeal) (hMem0ReferenceIdeal := hMem0ReferenceIdeal) (hPre_finite_logits0 := hPre_finite_logits0) (hOn_written0 := hOn_written0)
-- ==== On_mixer_columns.lean ====
abbrev S8192x3584 : Shape := ⟨2, ![8192, 3584]⟩
abbrev S1x1536 : Shape := ⟨2, ![1, 1536]⟩
abbrev S12x128x128 : Shape := ⟨3, ![12, 128, 128]⟩
abbrev S128x12 : Shape := ⟨2, ![128, 12]⟩
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x3584 .bf16) (main_arg1 : FVec F S1x1536 .f32) (main_arg2 : FVec F S1x1536 .f32) (main_arg3 : FVec F S12x128x128 .f32) (main_arg4 : FVec F S128x12 .f32) : IVec S8192x2048 1 :=
  let main_v0 : IVec S8192x2048 32 := iotaInDim S8192x2048 32 1
  let main_c : IVec S_ 32 := constantI S_ 32 1536#32
  let main_v1 : IVec S8192x2048 32 := broadcastInDim S8192x2048 ![] bcast_S_S8192x2048 main_c
  let main_v2 : IVec S8192x2048 1 := cmpi .slt main_v0 main_v1
  main_v2
-- ==== On_written.lean ====
abbrev S8192x3584 : Shape := ⟨2, ![8192, 3584]⟩
abbrev S256x1024 : Shape := ⟨2, ![256, 1024]⟩
abbrev S8192x2048 : Shape := ⟨2, ![8192, 2048]⟩
abbrev S_ : Shape := ⟨0, ![]⟩

class Facts : Prop where
  bcast_S_S8192x3584 : S_.BroadcastsInDim S8192x3584 (![] : Fin 0 → Fin S8192x3584.rank)
  bcast_S_S256x1024 : S_.BroadcastsInDim S256x1024 (![] : Fin 0 → Fin S256x1024.rank)

variable [Facts]

def fn {F : FTy → Type} [FloatOps F] (main_arg0 : FVec F S8192x3584 .bf16) (main_arg1 : FVec F S256x1024 .f32) (main_arg2 : FVec F S8192x2048 .bf16) : IVec S8192x3584 1 × IVec S256x1024 1 :=
  let main_v0 : IVec S8192x3584 32 := iotaInDim S8192x3584 32 1
  let main_c : IVec S_ 32 := constantI S_ 32 3072#32
  let main_v1 : IVec S8192x3584 32 := broadcastInDim S8192x3584 ![] bcast_S_S8192x3584 main_c
  let main_v2 : IVec S8192x3584 1 := cmpi .sge main_v0 main_v1
  let main_v3 : IVec S256x1024 32 := iotaInDim S256x1024 32 0
  let main_c_0 : IVec S_ 32 := constantI S_ 32 0#32
  let main_v4 : IVec S256x1024 32 := broadcastInDim S256x1024 ![] bcast_S_S256x1024 main_c_0
  let main_v5 : IVec S256x1024 1 := cmpi .sge main_v3 main_v4
  (main_v2, main_v5)
-- ==== On_written0.lean ====
abbrev S8192x5120 : Shape := ⟨2, ![8192, 5120]⟩
abbrev S256x1024 : Shape := ⟨2, ![256, 1024]⟩
abbrev S8192x1024 : Shape := ⟨2, ![8192, 1024]⟩
abbrev S_ : Shape := ⟨0, ![]⟩

class Facts : Prop where
  bcast_S_S8192x5120 : S_.BroadcastsInDim S8192x5120 (![] : Fin 0 → Fin S8192x5120.rank)
  bcast_S_S256x1024 : S_.BroadcastsInDim S256x1024 (![] : Fin 0 → Fin S256x1024.rank)

variable [Facts]

def fn {F : FTy → Type} [FloatOps F] (main_arg0 : FVec F S8192x5120 .f32) (main_arg1 : FVec F S256x1024 .f32) (main_arg2 : FVec F S8192x1024 .f32) : IVec S8192x5120 1 × IVec S256x1024 1 :=
  let main_v0 : IVec S8192x5120 32 := iotaInDim S8192x5120 32 1
  let main_c : IVec S_ 32 := constantI S_ 32 4608#32
  let main_v1 : IVec S8192x5120 32 := broadcastInDim S8192x5120 ![] bcast_S_S8192x5120 main_c
  let main_v2 : IVec S8192x5120 1 := cmpi .sge main_v0 main_v1
  let main_v3 : IVec S256x1024 32 := iotaInDim S256x1024 32 0
  let main_c_0 : IVec S_ 32 := constantI S_ 32 0#32
  let main_v4 : IVec S256x1024 32 := broadcastInDim S256x1024 ![] bcast_S_S256x1024 main_c_0
  let main_v5 : IVec S256x1024 1 := cmpi .sge main_v3 main_v4
  (main_v2, main_v5)
-- ==== Pre_finite_factors.lean ====
abbrev S8192x2048 : Shape := ⟨2, ![8192, 2048]⟩
abbrev S4x1408x2048 : Shape := ⟨3, ![4, 1408, 2048]⟩
abbrev S8192x5632 : Shape := ⟨2, ![8192, 5632]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S4x1408x2048 : S_.BroadcastsInDim S4x1408x2048 (![] : Fin 0 → Fin S4x1408x2048.rank)
  bcast_S_S8192x5632 : S_.BroadcastsInDim S8192x5632 (![] : Fin 0 → Fin S8192x5632.rank)

variable [Facts]

def fn {F : FTy → Type} [FloatOps F] (main_arg0 : FVec F S8192x2048 .bf16) (main_arg1 : FVec F S4x1408x2048 .bf16) (main_arg2 : FVec F S8192x5632 .bf16) (main_arg3 : FVec F S8192x5632 .bf16) : IVec S8192x2048 1 × IVec S4x1408x2048 1 × IVec S8192x5632 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_v8 : FVec F S8192x5632 .f32 := (extf .f32 · bitsLt_bf16_f32) main_arg3
  let main_v9 : FVec F S8192x5632 .f32 := Host.absf main_v8
  let main_cst_1 : FVec F S_ .f32 := constant S_ .f32 0x7F800000#32
  let main_v10 : FVec F S8192x5632 .f32 := broadcastInDim S8192x5632 ![] bcast_S_S8192x5632 main_cst_1
  let main_v11 : IVec S8192x5632 1 := cmpf .olt main_v9 main_v10
  (main_v3, main_v7, main_v11)
-- ==== Pre_finite_gating.lean ====
abbrev S8192x3584 : Shape := ⟨2, ![8192, 3584]⟩
abbrev S8192x2048 : Shape := ⟨2, ![8192, 2048]⟩
abbrev S1x1536 : Shape := ⟨2, ![1, 1536]⟩
abbrev S12x128x128 : Shape := ⟨3, ![12, 128, 128]⟩
abbrev S128x12 : Shape := ⟨2, ![128, 12]⟩
abbrev S8192x3072 : Shape := ⟨2, ![8192, 3072]⟩
abbrev S8192x1536 : Shape := ⟨2, ![8192, 1536]⟩
abbrev S128x128 : Shape := ⟨2, ![128, 128]⟩
abbrev S_ : Shape := ⟨0, ![]⟩

class Facts : Prop where
  slices_S8192x3584_S8192x3072_0_0 : S8192x3584.Slices ![0, 0] S8192x3072
  slices_S8192x2048_S8192x1536_0_0 : S8192x2048.Slices ![0, 0] S8192x1536
  bcast_S_S128x128 : S_.BroadcastsInDim S128x128 (![] : Fin 0 → Fin S128x128.rank)
  bcast_S128x128_S12x128x128_1_2 : S128x128.BroadcastsInDim S12x128x128 (![1, 2] : Fin 2 → Fin S12x128x128.rank)
  bcast_S_S12x128x128 : S_.BroadcastsInDim S12x128x128 (![] : Fin 0 → Fin S12x128x128.rank)
  bitsLt_bf16_f32 : FTy.bits .bf16 < FTy.bits .f32
  bcast_S_S8192x3072 : S_.BroadcastsInDim S8192x3072 (![] : Fin 0 → Fin S8192x3072.rank)
  bcast_S_S8192x1536 : S_.BroadcastsInDim S8192x1536 (![] : Fin 0 → Fin S8192x1536.rank)
  bcast_S_S1x1536 : S_.BroadcastsInDim S1x1536 (![] : Fin 0 → Fin S1x1536.rank)
  bcast_S_S128x12 : S_.BroadcastsInDim S128x12 (![] : Fin 0 → Fin S128x12.rank)

variable [Facts]

def fn_tril {F : FTy → Type} [FloatOps F] (arg0 : FVec F S12x128x128 .f32) : FVec F S12x128x128 .f32 :=
  let v0 : IVec S128x128 32 := iotaInDim S128x128 32 0
  let c : IVec S_ 32 := constantI S_ 32 0#32
  let v1 : IVec S128x128 32 := broadcastInDim S128x128 ![] bcast_S_S128x128 c
  let v2 : IVec S128x128 32 := addi v0 v1
  let v3 : IVec S128x128 32 := iotaInDim S128x128 32 1
  let v4 : IVec S128x128 1 := cmpi .sge v2 v3
  let v5 : IVec S12x128x128 1 := broadcastInDim S12x128x128 ![1, 2] bcast_S128x128_S12x128x128_1_2 v4
  let cst : FVec F S_ .f32 := constant S_ .f32 0x00000000#32
  let v6 : FVec F S12x128x128 .f32 := broadcastInDim S12x128x128 ![] bcast_S_S12x128x128 cst
  let v7 : FVec F S12x128x128 .f32 := select v5 arg0 v6
  v7

def fn_part1 {F : FTy → Type} [FloatOps F] (main_arg5 : FVec F S128x12 .f32) (main_v6 : IVec S8192x3072 1) (main_v10 : IVec S8192x1536 1) (main_v13 : IVec S1x1536 1) (main_v16 : IVec S1x1536 1) (main_v17 : FVec F S12x128x128 .f32) (main_v18 : FVec F S12x128x128 .f32) : IVec S8192x3072 1 × IVec S8192x1536 1 × IVec S1x1536 1 × IVec S1x1536 1 × IVec S12x128x128 1 × IVec S128x12 1 :=
  let main_v19 : IVec S12x128x128 1 := cmpf .olt main_v17 main_v18
  let main_v20 : FVec F S128x12 .f32 := Host.absf main_arg5
  let main_cst_4 : FVec F S_ .f32 := constant S_ .f32 0x7F800000#32
  let main_v21 : FVec F S128x12 .f32 := broadcastInDim S128x12 ![] bcast_S_S128x12 main_cst_4
  let main_v22 : IVec S128x12 1 := cmpf .olt main_v20 main_v21
  (main_v6, main_v10, main_v13, main_v16, main_v19, main_v22)

def fn {F : FTy → Type} [FloatOps F] (main_arg0 : FVec F S8192x3584 .bf16) (main_arg1 : FVec F S8192x2048 .bf16) (main_arg2 : FVec F S1x1536 .f32) (main_arg3 : FVec F S1x1536 .f32) (main_arg4 : FVec F S12x128x128 .f32) (main_arg5 : FVec F S128x12 .f32) (main_arg6 : FVec F S8192x3584 .bf16) : IVec S8192x3072 1 × IVec S8192x1536 1 × IVec S1x1536 1 × IVec S1x1536 1 × IVec S12x128x128 1 × IVec S128x12 1 :=
  let main_v0 : FVec F S8192x3072 .bf16 := (extractStridedSlice S8192x3072 ![0, 0] · slices_S8192x3584_S8192x3072_0_0) main_arg0
  let main_v1 : FVec F S8192x1536 .bf16 := (extractStridedSlice S8192x1536 ![0, 0] · slices_S8192x2048_S8192x1536_0_0) main_arg1
  let main_v2 : FVec F S12x128x128 .f32 := fn_tril (F := F) main_arg4
  let main_v3 : FVec F S8192x3072 .f32 := (extf .f32 · bitsLt_bf16_f32) main_v0
  let main_v4 : FVec F S8192x3072 .f32 := Host.absf main_v3
  let main_cst : FVec F S_ .f32 := constant S_ .f32 0x7F800000#32
  let main_v5 : FVec F S8192x3072 .f32 := broadcastInDim S8192x3072 ![] bcast_S_S8192x3072 main_cst
  let main_v6 : IVec S8192x3072 1 := cmpf .olt main_v4 main_v5
  let main_v7 : FVec F S8192x1536 .f32 := (extf .f32 · bitsLt_bf16_f32) main_v1
  let main_v8 : FVec F S8192x1536 .f32 := Host.absf main_v7
  let main_cst_0 : FVec F S_ .f32 := constant S_ .f32 0x7F800000#32
  let main_v9 : FVec F S8192x1536 .f32 := broadcastInDim S8192x1536 ![] bcast_S_S8192x1536 main_cst_0
  let main_v10 : IVec S8192x1536 1 := cmpf .olt main_v8 main_v9
  let main_v11 : FVec F S1x1536 .f32 := Host.absf main_arg2
  let main_cst_1 : FVec F S_ .f32 := constant S_ .f32 0x7F800000#32
  let main_v12 : FVec F S1x1536 .f32 := broadcastInDim S1x1536 ![] bcast_S_S1x1536 main_cst_1
  let main_v13 : IVec S1x1536 1 := cmpf .olt main_v11 main_v12
  let main_v14 : FVec F S1x1536 .f32 := Host.absf main_arg3
  let main_cst_2 : FVec F S_ .f32 := constant S_ .f32 0x7F800000#32
  let main_v15 : FVec F S1x1536 .f32 := broadcastInDim S1x1536 ![] bcast_S_S1x1536 main_cst_2
  let main_v16 : IVec S1x1536 1 := cmpf .olt main_v14 main_v15
  let main_v17 : FVec F S12x128x128 .f32 := Host.absf main_v2
  let main_cst_3 : FVec F S_ .f32 := constant S_ .f32 0x7F800000#32
  let main_v18 : FVec F S12x128x128 .f32 := broadcastInDim S12x128x128 ![] bcast_S_S12x128x128 main_cst_3
  fn_part1 (F := F) main_arg5 main_v6 main_v10 main_v13 main_v16 main_v17 main_v18
-- ==== Pre_finite_logits.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S_ : Shape := ⟨0, ![]⟩
abbrev S256x512 : Shape := ⟨2, ![256, 512]⟩

class Facts : Prop where
  bitsLt_bf16_f32 : FTy.bits .bf16 < FTy.bits .f32
  slices_S8192x3584_S8192x512_0_3072 : S8192x3584.Slices ![0, 3072] S8192x512
  bcast_S_S8192x512 : S_.BroadcastsInDim S8192x512 (![] : Fin 0 → Fin S8192x512.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S8192x3584 .bf16) (main_arg1 : FVec F S256x1024 .f32) (main_arg2 : FVec F S8192x2048 .bf16) : IVec S8192x512 1 × IVec S256x512 1 :=
  let main_v0 : FVec F S8192x3584 .f32 := (extf .f32 · bitsLt_bf16_f32) main_arg0
  let main_v1 : FVec F S8192x512 .f32 := (extractStridedSlice S8192x512 ![0, 3072] · slices_S8192x3584_S8192x512_0_3072) main_v0
  let main_v2 : FVec F S8192x512 .f32 := Host.absf main_v1
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_v5 : FVec F S256x512 .f32 := (extractStridedSlice S256x512 ![0, 0] · slices_S256x1024_S256x512_0_0) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  (main_v4, main_v8)
-- ==== Pre_finite_logits0.lean ====
abbrev S8192x5120 : Shape := ⟨2, ![8192, 5120]⟩
abbrev S256x1024 : Shape := ⟨2, ![256, 1024]⟩
abbrev S8192x1024 : Shape := ⟨2, ![8192, 1024]⟩
abbrev S8192x512 : Shape := ⟨2, ![8192, 512]⟩
abbrev S_ : Shape := ⟨0, ![]⟩
abbrev S256x512 : Shape := ⟨2, ![256, 512]⟩

class Facts : Prop where
  slices_S8192x5120_S8192x512_0_4608 : S8192x5120.Slices ![0, 4608] S8192x512
  bcast_S_S8192x512 : S_.BroadcastsInDim S8192x512 (![] : Fin 0 → Fin S8192x512.rank)
  slices_S256x1024_S256x512_0_0 : S256x1024.Slices ![0, 0] S256x512
  bcast_S_S256x512 : S_.BroadcastsInDim S256x512 (![] : Fin 0 → Fin S256x512.rank)

variable [Facts]

def fn {F : FTy → Type} [FloatOps F] (main_arg0 : FVec F S8192x5120 .f32) (main_arg1 : FVec F S256x1024 .f32) (main_arg2 : FVec F S8192x1024 .f32) : IVec S8192x512 1 × IVec S256x512 1 :=
  let main_v0 : FVec F S8192x512 .f32 := (extractStridedSlice S8192x512 ![0, 4608] · slices_S8192x5120_S8192x512_0_4608) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S256x512 .f32 := (extractStridedSlice S256x512 ![0, 0] · slices_S256x1024_S256x512_0_0) main_arg1
  let main_v5 : FVec F S256x512 .f32 := Host.absf main_v4
  let main_cst_0 : FVec F S_ .f32 := constant S_ .f32 0x7F800000#32
  let main_v6 : FVec F S256x512 .f32 := broadcastInDim S256x512 ![] bcast_S_S256x512 main_cst_0
  let main_v7 : IVec S256x512 1 := cmpf .olt main_v5 main_v6
  (main_v3, main_v7)
-- ==== Kernel.lean ====
abbrev S8192x3584 : Shape := ⟨2, ![8192, 3584]⟩
abbrev S256x1024 : Shape := ⟨2, ![256, 1024]⟩
abbrev S8192x2048 : Shape := ⟨2, ![8192, 2048]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x3584, .bf16⟩
  | .hbm, ⟨1, _⟩ => ⟨S256x1024, .f32⟩
  | .hbm, ⟨2, _⟩ => ⟨S8192x2048, .bf16⟩
  | .hbm, ⟨3, _⟩ => ⟨S8192x3584, .bf16⟩
  | .hbm, ⟨4, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 90
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S256x1024, .f32⟩
  | .hbm, ⟨2, _⟩ => ⟨S8192x2048, .bf16⟩
  | .hbm, ⟨3, _⟩ => ⟨S8192x3584, .f32⟩
  | .hbm, ⟨4, _⟩ => ⟨S8192x512, .f32⟩
  | .hbm, ⟨5, _⟩ => ⟨S256x512, .f32⟩
  | .hbm, ⟨6, _⟩ => ⟨S256x512, .f32⟩
  | .hbm, ⟨7, _⟩ => ⟨S8192x4x128, .f32⟩
  | .hbm, ⟨8, _⟩ => ⟨S256x4x128, .f32⟩
  | .hbm, ⟨9, _⟩ => ⟨S256x4x128, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x128x8192, .f32⟩
  | .hbm, ⟨53, _⟩ => ⟨S8192x4x128, .f32⟩
  | .hbm, ⟨54, _⟩ => ⟨S8192x512, .f32⟩
  | .hbm, ⟨55, _⟩ => ⟨S8192x2048, .f32⟩
  | .hbm, ⟨56, _⟩ => ⟨S8192x512, .f32⟩
  | .hbm, ⟨57, _⟩ => ⟨S8192x4x128, .f32⟩
  | .hbm, ⟨58, _⟩ => ⟨S4x128x8192, .f32⟩
  | .hbm, ⟨59, _⟩ => ⟨S4x8192x256, .f32⟩
  | .hbm, ⟨60, _⟩ => ⟨S4x128x256, .f32⟩
  | .hbm, ⟨61, _⟩ => ⟨S256x4x128, .f32⟩
  | .hbm, ⟨62, _⟩ => ⟨S4x8192x256, .f32⟩
  | .hbm, ⟨63, _⟩ => ⟨S4x8192x256, .f32⟩
  | .hbm, ⟨64, _⟩ => ⟨S4x8192x256, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x1, .f32⟩
  | .hbm, ⟨69, _⟩ => ⟨S4x8192x256, .f32⟩
  | .hbm, ⟨70, _⟩ => ⟨S4x8192x256, .f32⟩
  | .hbm, ⟨71, _⟩ => ⟨S_, .f32⟩
  | .hbm, ⟨72, _⟩ => ⟨S4x8192, .f32⟩
  | .hbm, ⟨73, _⟩ => ⟨S4x8192x256, .f32⟩
  | .hbm, ⟨74, _⟩ => ⟨S4x8192x256, .f32⟩
  | .hbm, ⟨75, _⟩ => ⟨S4x8192x256, .f32⟩
  | .hbm, ⟨76, _⟩ => ⟨S_, .f32⟩
  | .hbm, ⟨77, _⟩ => ⟨S4x8192x256, .f32⟩
  | .hbm, ⟨78, _⟩ => ⟨S4x8192x256, .f32⟩
  | .hbm, ⟨79, _⟩ => ⟨S4x256x128, .f32⟩
  | .hbm, ⟨80, _⟩ => ⟨S256x4x128, .f32⟩
  | .hbm, ⟨81, _⟩ => ⟨S4x8192x128, .f32⟩
  | .hbm, ⟨82, _⟩ => ⟨S8192x4x128, .f32⟩
  | .hbm, ⟨83, _⟩ => ⟨S256x512, .f32⟩
  | .hbm, ⟨84, _⟩ => ⟨S256x512, .f32⟩
  | .hbm, ⟨85, _⟩ => ⟨S8192x512, .f32⟩
  | .hbm, ⟨86, _⟩ => ⟨S256x1024, .f32⟩
  | .hbm, ⟨87, _⟩ => ⟨S_, .f32⟩
  | .hbm, ⟨88, _⟩ => ⟨S8192x3584, .f32⟩
  | .hbm, ⟨89, _⟩ => ⟨S8192x3584, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== HiddenKernel.lean ====
abbrev S8192x5632 : Shape := ⟨2, ![8192, 5632]⟩
abbrev S4x2048x1408 : Shape := ⟨3, ![4, 2048, 1408]⟩
abbrev S8192x2048 : Shape := ⟨2, ![8192, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x2048x1408, .bf16⟩
  | .hbm, ⟨3, _⟩ => ⟨S4x2048x1408, .bf16⟩
  | .hbm, ⟨4, _⟩ => ⟨S8192x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== HiddenReferenceIdeal.lean ====
abbrev S8192x5632 : Shape := ⟨2, ![8192, 5632]⟩
abbrev S4x2048x1408 : Shape := ⟨3, ![4, 2048, 1408]⟩
abbrev S_ : Shape := ⟨0, ![]⟩
abbrev S8192x2048 : Shape := ⟨2, ![8192, 2048]⟩
abbrev S2048x4x1408 : Shape := ⟨3, ![2048, 4, 1408]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S4x2048x1408, .bf16⟩
  | .hbm, ⟨3, _⟩ => ⟨S4x2048x1408, .bf16⟩
  | .hbm, ⟨4, _⟩ => ⟨S_, .f32⟩
  | .hbm, ⟨5, _⟩ => ⟨S8192x2048, .f32⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S8192x5632, .f32⟩
  | .hbm, ⟨10, _⟩ => ⟨S4x2048x1408, .f32⟩
  | .hbm, ⟨11, _⟩ => ⟨S2048x4x1408, .f32⟩
  | .hbm, ⟨12, _⟩ => ⟨S2048x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GateKernel.lean ====
abbrev S8192x2048 : Shape := ⟨2, ![8192, 2048]⟩
abbrev S8192x5632 : Shape := ⟨2, ![8192, 5632]⟩
abbrev S4x2048x1408 : Shape := ⟨3, ![4, 2048, 1408]⟩
abbrev S2x4x1024x1408 : Shape := ⟨4, ![2, 4, 1024, 1408]⟩
abbrev S1024x2048 : Shape := ⟨2, ![1024, 2048]⟩
abbrev S1024x1408 : Shape := ⟨2, ![1024, 1408]⟩
abbrev S2x1x1024x1408 : Shape := ⟨4, ![2, 1, 1024, 1408]⟩
abbrev S2048x1408 : Shape := ⟨2, ![2048, 1408]⟩
abbrev S2x1024x1408 : Shape := ⟨3, ![2, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .hbm, ⟨3, _⟩ => ⟨S2x4x1024x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1408, .bf16⟩
  | .local _ .vmem, ⟨3, _⟩ => ⟨S1024x1408, .bf16⟩
  | .local _ .vmem, ⟨4, _⟩ => ⟨S2x1x1024x1408, .bf16⟩
  | .local _ .vmem, ⟨5, _⟩ => ⟨S2x1x1024x1408, .bf16⟩
  | .local _ .vmem, ⟨6, _⟩ => ⟨S2048x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GateReferenceIdeal.lean ====
abbrev S8192x2048 : Shape := ⟨2, ![8192, 2048]⟩
abbrev S8192x5632 : Shape := ⟨2, ![8192, 5632]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S5632x2048 : Shape := ⟨2, ![5632, 2048]⟩
abbrev S2x1024x4x1408 : Shape := ⟨4, ![2, 1024, 4, 1408]⟩
abbrev S2x4x1024x1408 : Shape := ⟨4, ![2, 4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S4x2048x1408, .bf16⟩
  | .hbm, ⟨3, _⟩ => ⟨S4x2048x1408, .f32⟩
  | .hbm, ⟨4, _⟩ => ⟨S2048x4x1408, .f32⟩
  | .hbm, ⟨5, _⟩ => ⟨S2048x5632, .f32⟩
  | .hbm, ⟨6, _⟩ => ⟨S8192x2048, .f32⟩
  | .hbm, ⟨7, _⟩ => ⟨S8192x5632, .f32⟩
  | .hbm, ⟨8, _⟩ => ⟨S8192x5632, .f32⟩
  | .hbm, ⟨9, _⟩ => ⟨S5632x2048, .f32⟩
  | .hbm, ⟨10, _⟩ => ⟨S2048x5632, .f32⟩
  | .hbm, ⟨11, _⟩ => ⟨S2x1024x4x1408, .f32⟩
  | .hbm, ⟨12, _⟩ => ⟨S2x4x1024x1408, .f32⟩
  | .hbm, ⟨13, _⟩ => ⟨S2x4x1024x1408, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DownKernel.lean ====
abbrev S8192x5632 : Shape := ⟨2, ![8192, 5632]⟩
abbrev S8192x2048 : Shape := ⟨2, ![8192, 2048]⟩
abbrev S4x1408x2048 : Shape := ⟨3, ![4, 1408, 2048]⟩
abbrev S2x4x704x2048 : Shape := ⟨4, ![2, 4, 704, 2048]⟩
abbrev S1024x1408 : Shape := ⟨2, ![1024, 1408]⟩
abbrev S1024x1024 : Shape := ⟨2, ![1024, 1024]⟩
abbrev S2x1x704x1024 : Shape := ⟨4, ![2, 1, 704, 1024]⟩
abbrev S1408x1024 : Shape := ⟨2, ![1408, 1024]⟩
abbrev S2x704x1024 : Shape := ⟨3, ![2, 704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1408x2048, .bf16⟩
  | .hbm, ⟨3, _⟩ => ⟨S2x4x704x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x1x704x1024, .bf16⟩
  | .local _ .vmem, ⟨5, _⟩ => ⟨S2x1x704x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x5632 : Shape := ⟨2, ![8192, 5632]⟩
abbrev S8192x2048 : Shape := ⟨2, ![8192, 2048]⟩
abbrev S4x1408x2048 : Shape := ⟨3, ![4, 1408, 2048]⟩
abbrev S5632x2048 : Shape := ⟨2, ![5632, 2048]⟩
abbrev S2048x5632 : Shape := ⟨2, ![2048, 5632]⟩
abbrev S4x2x704x2048 : Shape := ⟨4, ![4, 2, 704, 2048]⟩
abbrev S2x4x704x2048 : Shape := ⟨4, ![2, 4, 704, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1408x2048, .bf16⟩
  | .hbm, ⟨3, _⟩ => ⟨S4x1408x2048, .f32⟩
  | .hbm, ⟨4, _⟩ => ⟨S5632x2048, .f32⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S2048x5632, .f32⟩
  | .hbm, ⟨9, _⟩ => ⟨S5632x2048, .f32⟩
  | .hbm, ⟨10, _⟩ => ⟨S4x2x704x2048, .f32⟩
  | .hbm, ⟨11, _⟩ => ⟨S2x4x704x2048, .f32⟩
  | .hbm, ⟨12, _⟩ => ⟨S2x4x704x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ActKernel.lean ====
abbrev S8192x2048 : Shape := ⟨2, ![8192, 2048]⟩
abbrev S4x1408x2048 : Shape := ⟨3, ![4, 1408, 2048]⟩
abbrev S8192x5632 : Shape := ⟨2, ![8192, 5632]⟩
abbrev S512x2048 : Shape := ⟨2, ![512, 2048]⟩
abbrev S1x1408x2048 : Shape := ⟨3, ![1, 1408, 2048]⟩
abbrev S512x1408 : Shape := ⟨2, ![512, 1408]⟩
abbrev S1x768x2048 : Shape := ⟨3, ![1, 768, 2048]⟩
abbrev S768x2048 : Shape := ⟨2, ![768, 2048]⟩
abbrev S512x768 : Shape := ⟨2, ![512, 768]⟩
abbrev S1x640x2048 : Shape := ⟨3, ![1, 640, 2048]⟩
abbrev S640x2048 : Shape := ⟨2, ![640, 2048]⟩
abbrev S512x640 : Shape := ⟨2, ![512, 640]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S8192x5632, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x1408x2048, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x1408x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ActReferenceIdeal.lean ====
abbrev S8192x2048 : Shape := ⟨2, ![8192, 2048]⟩
abbrev S4x1408x2048 : Shape := ⟨3, ![4, 1408, 2048]⟩
abbrev S8192x5632 : Shape := ⟨2, ![8192, 5632]⟩
abbrev S_ : Shape := ⟨0, ![]⟩
abbrev S5632x2048 : Shape := ⟨2, ![5632, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1408x2048, .bf16⟩
  | .hbm, ⟨2, _⟩ => ⟨S8192x5632, .bf16⟩
  | .hbm, ⟨3, _⟩ => ⟨S8192x5632, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S4x1408x2048, .f32⟩
  | .hbm, ⟨21, _⟩ => ⟨S5632x2048, .f32⟩
  | .hbm, ⟨22, _⟩ => ⟨S8192x2048, .f32⟩
  | .hbm, ⟨23, _⟩ => ⟨S8192x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .bf16⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== GateUpKernel.lean ====
abbrev S8192x2048 : Shape := ⟨2, ![8192, 2048]⟩
abbrev S4x2048x1408 : Shape := ⟨3, ![4, 2048, 1408]⟩
abbrev S8192x5632 : Shape := ⟨2, ![8192, 5632]⟩
abbrev S1024x2048 : Shape := ⟨2, ![1024, 2048]⟩
abbrev S1x2048x1408 : Shape := ⟨3, ![1, 2048, 1408]⟩
abbrev S1024x1408 : Shape := ⟨2, ![1024, 1408]⟩
abbrev S1x2048x768 : Shape := ⟨3, ![1, 2048, 768]⟩
abbrev S2048x768 : Shape := ⟨2, ![2048, 768]⟩
abbrev S1024x768 : Shape := ⟨2, ![1024, 768]⟩
abbrev S1x2048x640 : Shape := ⟨3, ![1, 2048, 640]⟩
abbrev S2048x640 : Shape := ⟨2, ![2048, 640]⟩
abbrev S1024x640 : Shape := ⟨2, ![1024, 640]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x5632, .bf16⟩
  | .hbm, ⟨4, _⟩ => ⟨S8192x5632, .bf16⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateUpReferenceIdeal.lean ====
abbrev S8192x2048 : Shape := ⟨2, ![8192, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S8192x5632 : Shape := ⟨2, ![8192, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1408, .bf16⟩
  | .hbm, ⟨2, _⟩ => ⟨S4x2048x1408, .bf16⟩
  | .hbm, ⟨3, _⟩ => ⟨S8192x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S8192x5632, .f32⟩
  | .hbm, ⟨8, _⟩ => ⟨S8192x2048, .f32⟩
  | .hbm, ⟨9, _⟩ => ⟨S4x2048x1408, .f32⟩
  | .hbm, ⟨10, _⟩ => ⟨S2048x4x1408, .f32⟩
  | .hbm, ⟨11, _⟩ => ⟨S2048x5632, .f32⟩
  | .hbm, ⟨12, _⟩ => ⟨S8192x5632, .f32⟩
  | .hbm, ⟨13, _⟩ => ⟨S8192x5632, .bf16⟩
  | .hbm, ⟨14, _⟩ => ⟨S8192x5632, .bf16⟩
  | .hbm, ⟨15, _⟩ => ⟨S8192x5632, .f32⟩
  | .hbm, ⟨16, _⟩ => ⟨S8192x5632, .f32⟩
  | .hbm, ⟨17, _⟩ => ⟨S_, .f32⟩
  | .hbm, ⟨18, _⟩ => ⟨S8192x5632, .f32⟩
  | .hbm, ⟨19, _⟩ => ⟨S8192x5632, .f32⟩
  | .hbm, ⟨20, _⟩ => ⟨S_, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== DownFwdKernel.lean ====
abbrev S8192x5632 : Shape := ⟨2, ![8192, 5632]⟩
abbrev S8192x2048 : Shape := ⟨2, ![8192, 2048]⟩
abbrev S4x1408x2048 : Shape := ⟨3, ![4, 1408, 2048]⟩
abbrev S1024x1408 : Shape := ⟨2, ![1024, 1408]⟩
abbrev S1x1408x1024 : Shape := ⟨3, ![1, 1408, 1024]⟩
abbrev S1024x1024 : Shape := ⟨2, ![1024, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x1408x2048, .bf16⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdReferenceIdeal.lean ====
abbrev S8192x5632 : Shape := ⟨2, ![8192, 5632]⟩
abbrev S8192x2048 : Shape := ⟨2, ![8192, 2048]⟩
abbrev S4x1408x2048 : Shape := ⟨3, ![4, 1408, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S4x1408x2048, .bf16⟩
  | .hbm, ⟨3, _⟩ => ⟨S8192x5632, .f32⟩
  | .hbm, ⟨4, _⟩ => ⟨S4x1408x2048, .f32⟩
  | .hbm, ⟨5, _⟩ => ⟨S5632x2048, .f32⟩
  | .hbm, ⟨6, _⟩ => ⟨S8192x2048, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SguInKernel.lean ====
abbrev S8192x2048 : Shape := ⟨2, ![8192, 2048]⟩
abbrev S4x2048x896 : Shape := ⟨3, ![4, 2048, 896]⟩
abbrev S8192x3584 : Shape := ⟨2, ![8192, 3584]⟩
abbrev S1024x2048 : Shape := ⟨2, ![1024, 2048]⟩
abbrev S1x2048x896 : Shape := ⟨3, ![1, 2048, 896]⟩
abbrev S1024x896 : Shape := ⟨2, ![1024, 896]⟩
abbrev S2048x896 : Shape := ⟨2, ![2048, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x896, .bf16⟩
  | .hbm, ⟨2, _⟩ => ⟨S8192x3584, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x896, .bf16⟩
  | .local _ .vmem, ⟨5, _⟩ => ⟨S1024x896, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguInReferenceIdeal.lean ====
abbrev S8192x2048 : Shape := ⟨2, ![8192, 2048]⟩
abbrev S4x2048x896 : Shape := ⟨3, ![4, 2048, 896]⟩
abbrev S2048x4x896 : Shape := ⟨3, ![2048, 4, 896]⟩
abbrev S2048x3584 : Shape := ⟨2, ![2048, 3584]⟩
abbrev S8192x3584 : Shape := ⟨2, ![8192, 3584]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x896, .bf16⟩
  | .hbm, ⟨2, _⟩ => ⟨S8192x2048, .f32⟩
  | .hbm, ⟨3, _⟩ => ⟨S4x2048x896, .f32⟩
  | .hbm, ⟨4, _⟩ => ⟨S2048x4x896, .f32⟩
  | .hbm, ⟨5, _⟩ => ⟨S2048x3584, .f32⟩
  | .hbm, ⟨6, _⟩ => ⟨S8192x3584, .f32⟩
  | .hbm, ⟨7, _⟩ => ⟨S8192x3584, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AttnInKernel.lean ====
abbrev S8192x2048 : Shape := ⟨2, ![8192, 2048]⟩
abbrev S4x2048x1280 : Shape := ⟨3, ![4, 2048, 1280]⟩
abbrev S8192x5120 : Shape := ⟨2, ![8192, 5120]⟩
abbrev S1024x2048 : Shape := ⟨2, ![1024, 2048]⟩
abbrev S1x2048x1280 : Shape := ⟨3, ![1, 2048, 1280]⟩
abbrev S1024x1280 : Shape := ⟨2, ![1024, 1280]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1280, .bf16⟩
  | .hbm, ⟨2, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1024x1280, .f32⟩
  | .local _ .vmem, ⟨5, _⟩ => ⟨S1024x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInReferenceIdeal.lean ====
abbrev S8192x2048 : Shape := ⟨2, ![8192, 2048]⟩
abbrev S4x2048x1280 : Shape := ⟨3, ![4, 2048, 1280]⟩
abbrev S2048x4x1280 : Shape := ⟨3, ![2048, 4, 1280]⟩
abbrev S2048x5120 : Shape := ⟨2, ![2048, 5120]⟩
abbrev S8192x5120 : Shape := ⟨2, ![8192, 5120]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1280, .bf16⟩
  | .hbm, ⟨2, _⟩ => ⟨S8192x2048, .f32⟩
  | .hbm, ⟨3, _⟩ => ⟨S4x2048x1280, .f32⟩
  | .hbm, ⟨4, _⟩ => ⟨S2048x4x1280, .f32⟩
  | .hbm, ⟨5, _⟩ => ⟨S2048x5120, .f32⟩
  | .hbm, ⟨6, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SguInWKernel.lean ====
abbrev S8192x2048 : Shape := ⟨2, ![8192, 2048]⟩
abbrev S8192x3584 : Shape := ⟨2, ![8192, 3584]⟩
abbrev S4x2048x896 : Shape := ⟨3, ![4, 2048, 896]⟩
abbrev S2x4x1024x896 : Shape := ⟨4, ![2, 4, 1024, 896]⟩
abbrev S1024x2048 : Shape := ⟨2, ![1024, 2048]⟩
abbrev S1024x896 : Shape := ⟨2, ![1024, 896]⟩
abbrev S2x1x1024x896 : Shape := ⟨4, ![2, 1, 1024, 896]⟩
abbrev S2048x896 : Shape := ⟨2, ![2048, 896]⟩
abbrev S2x1024x896 : Shape := ⟨3, ![2, 1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3584, .bf16⟩
  | .hbm, ⟨2, _⟩ => ⟨S4x2048x896, .bf16⟩
  | .hbm, ⟨3, _⟩ => ⟨S2x4x1024x896, .bf16⟩
  | .local _ .vmem, ⟨0, _⟩ => ⟨S1024x2048, .bf16⟩
  | .local _ .vmem, ⟨1, _⟩ => ⟨S1024x2048, .bf16⟩
  | .local _ .vmem, ⟨2, _⟩ => ⟨S1024x896, .bf16⟩
  | .local _ .vmem, ⟨3, _⟩ => ⟨S1024x896, .bf16⟩
  | .local _ .vmem, ⟨4, _⟩ => ⟨S2x1x1024x896, .bf16⟩
  | .local _ .vmem, ⟨5, _⟩ => ⟨S2x1x1024x896, .bf16⟩
  | .local _ .vmem, ⟨6, _⟩ => ⟨S2048x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== SguInWReferenceIdeal.lean ====
abbrev S8192x2048 : Shape := ⟨2, ![8192, 2048]⟩
abbrev S8192x3584 : Shape := ⟨2, ![8192, 3584]⟩
abbrev S4x2048x896 : Shape := ⟨3, ![4, 2048, 896]⟩
abbrev S2048x4x896 : Shape := ⟨3, ![2048, 4, 896]⟩
abbrev S2048x3584 : Shape := ⟨2, ![2048, 3584]⟩
abbrev S3584x2048 : Shape := ⟨2, ![3584, 2048]⟩
abbrev S2x1024x4x896 : Shape := ⟨4, ![2, 1024, 4, 896]⟩
abbrev S2x4x1024x896 : Shape := ⟨4, ![2, 4, 1024, 896]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3584, .bf16⟩
  | .hbm, ⟨2, _⟩ => ⟨S4x2048x896, .bf16⟩
  | .hbm, ⟨3, _⟩ => ⟨S4x2048x896, .f32⟩
  | .hbm, ⟨4, _⟩ => ⟨S2048x4x896, .f32⟩
  | .hbm, ⟨5, _⟩ => ⟨S2048x3584, .f32⟩
  | .hbm, ⟨6, _⟩ => ⟨S8192x2048, .f32⟩
  | .hbm, ⟨7, _⟩ => ⟨S8192x3584, .f32⟩
  | .hbm, ⟨8, _⟩ => ⟨S8192x3584, .f32⟩
  | .hbm, ⟨9, _⟩ => ⟨S3584x2048, .f32⟩
  | .hbm, ⟨10, _⟩ => ⟨S2048x3584, .f32⟩
  | .hbm, ⟨11, _⟩ => ⟨S2x1024x4x896, .f32⟩
  | .hbm, ⟨12, _⟩ => ⟨S2x4x1024x896, .f32⟩
  | .hbm, ⟨13, _⟩ => ⟨S2x4x1024x896, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== AttnInWKernel.lean ====
abbrev S8192x2048 : Shape := ⟨2, ![8192, 2048]⟩
abbrev S8192x5120 : Shape := ⟨2, ![8192, 5120]⟩
abbrev S4x2048x1280 : Shape := ⟨3, ![4, 2048, 1280]⟩
abbrev S2x4x1024x1280 : Shape := ⟨4, ![2, 4, 1024, 1280]⟩
abbrev S1024x2048 : Shape := ⟨2, ![1024, 2048]⟩
abbrev S1024x1280 : Shape := ⟨2, ![1024, 1280]⟩
abbrev S2x1x1024x1280 : Shape := ⟨4, ![2, 1, 1024, 1280]⟩
abbrev S2048x1280 : Shape := ⟨2, ![2048, 1280]⟩
abbrev S2x1024x1280 : Shape := ⟨3, ![2, 1024, 1280]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S4x2048x1280, .bf16⟩
  | .hbm, ⟨3, _⟩ => ⟨S2x4x1024x1280, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1280, .bf16⟩
  | .local _ .vmem, ⟨3, _⟩ => ⟨S1024x1280, .bf16⟩
  | .local _ .vmem, ⟨4, _⟩ => ⟨S2x1x1024x1280, .bf16⟩
  | .local _ .vmem, ⟨5, _⟩ => ⟨S2x1x1024x1280, .bf16⟩
  | .local _ .vmem, ⟨6, _⟩ => ⟨S2048x1280, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![c0_i32_11.toNat, v16.toNat, c0_i32_12.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== AttnInWReferenceIdeal.lean ====
abbrev S8192x2048 : Shape := ⟨2, ![8192, 2048]⟩
abbrev S8192x5120 : Shape := ⟨2, ![8192, 5120]⟩
abbrev S4x2048x1280 : Shape := ⟨3, ![4, 2048, 1280]⟩
abbrev S2048x4x1280 : Shape := ⟨3, ![2048, 4, 1280]⟩
abbrev S2048x5120 : Shape := ⟨2, ![2048, 5120]⟩
abbrev S5120x2048 : Shape := ⟨2, ![5120, 2048]⟩
abbrev S2x1024x4x1280 : Shape := ⟨4, ![2, 1024, 4, 1280]⟩
abbrev S2x4x1024x1280 : Shape := ⟨4, ![2, 4, 1024, 1280]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5120, .bf16⟩
  | .hbm, ⟨2, _⟩ => ⟨S4x2048x1280, .bf16⟩
  | .hbm, ⟨3, _⟩ => ⟨S4x2048x1280, .f32⟩
  | .hbm, ⟨4, _⟩ => ⟨S2048x4x1280, .f32⟩
  | .hbm, ⟨5, _⟩ => ⟨S2048x5120, .f32⟩
  | .hbm, ⟨6, _⟩ => ⟨S8192x2048, .f32⟩
  | .hbm, ⟨7, _⟩ => ⟨S8192x5120, .f32⟩
  | .hbm, ⟨8, _⟩ => ⟨S8192x5120, .f32⟩
  | .hbm, ⟨9, _⟩ => ⟨S5120x2048, .f32⟩
  | .hbm, ⟨10, _⟩ => ⟨S2048x5120, .f32⟩
  | .hbm, ⟨11, _⟩ => ⟨S2x1024x4x1280, .f32⟩
  | .hbm, ⟨12, _⟩ => ⟨S2x4x1024x1280, .f32⟩
  | .hbm, ⟨13, _⟩ => ⟨S2x4x1024x1280, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SguInHKernel.lean ====
abbrev S8192x3584 : Shape := ⟨2, ![8192, 3584]⟩
abbrev S4x2048x896 : Shape := ⟨3, ![4, 2048, 896]⟩
abbrev S8192x2048 : Shape := ⟨2, ![8192, 2048]⟩
abbrev S1024x896 : Shape := ⟨2, ![1024, 896]⟩
abbrev S1x1024x896 : Shape := ⟨3, ![1, 1024, 896]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3584, .bf16⟩
  | .hbm, ⟨1, _⟩ => ⟨S4x2048x896, .bf16⟩
  | .hbm, ⟨2, _⟩ => ⟨S8192x2048, .bf16⟩
  | .local _ .vmem, ⟨0, _⟩ => ⟨S1024x896, .bf16⟩
  | .local _ .vmem, ⟨1, _⟩ => ⟨S1024x896, .bf16⟩
  | .local _ .vmem, ⟨2, _⟩ => ⟨S1x1024x896, .bf16⟩
  | .local _ .vmem, ⟨3, _⟩ => ⟨S1x1024x896, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguInHReferenceIdeal.lean ====
abbrev S8192x3584 : Shape := ⟨2, ![8192, 3584]⟩
abbrev S4x2048x896 : Shape := ⟨3, ![4, 2048, 896]⟩
abbrev S_ : Shape := ⟨0, ![]⟩
abbrev S8192x2048 : Shape := ⟨2, ![8192, 2048]⟩
abbrev S2048x4x896 : Shape := ⟨3, ![2048, 4, 896]⟩
abbrev S2048x3584 : Shape := ⟨2, ![2048, 3584]⟩

abbrev nBuf : Space → Nat
  | .hbm => 11
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S4x2048x896, .bf16⟩
  | .hbm, ⟨2, _⟩ => ⟨S_, .f32⟩
  | .hbm, ⟨3, _⟩ => ⟨S8192x2048, .f32⟩
  | .hbm, ⟨4, _⟩ => ⟨S4x2048x896, .f32⟩
  | .hbm, ⟨5, _⟩ => ⟨S2048x4x896, .f32⟩
  | .hbm, ⟨6, _⟩ => ⟨S2048x3584, .f32⟩
  | .hbm, ⟨7, _⟩ => ⟨S8192x3584, .f32⟩
  | .hbm, ⟨8, _⟩ => ⟨S8192x3584, .f32⟩
  | .hbm, ⟨9, _⟩ => ⟨S8192x2048, .f32⟩
  | .hbm, ⟨10, _⟩ => ⟨S8192x2048, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnInHKernel.lean ====
abbrev S8192x5120 : Shape := ⟨2, ![8192, 5120]⟩
abbrev S4x2048x1280 : Shape := ⟨3, ![4, 2048, 1280]⟩
abbrev S8192x2048 : Shape := ⟨2, ![8192, 2048]⟩
abbrev S1024x1280 : Shape := ⟨2, ![1024, 1280]⟩
abbrev S1x1024x1280 : Shape := ⟨3, ![1, 1024, 1280]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5120, .bf16⟩
  | .hbm, ⟨1, _⟩ => ⟨S4x2048x1280, .bf16⟩
  | .hbm, ⟨2, _⟩ => ⟨S8192x2048, .bf16⟩
  | .local _ .vmem, ⟨0, _⟩ => ⟨S1024x1280, .bf16⟩
  | .local _ .vmem, ⟨1, _⟩ => ⟨S1024x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnInHReferenceIdeal.lean ====
abbrev S8192x5120 : Shape := ⟨2, ![8192, 5120]⟩
abbrev S4x2048x1280 : Shape := ⟨3, ![4, 2048, 1280]⟩
abbrev S_ : Shape := ⟨0, ![]⟩
abbrev S8192x2048 : Shape := ⟨2, ![8192, 2048]⟩
abbrev S2048x4x1280 : Shape := ⟨3, ![2048, 4, 1280]⟩
abbrev S2048x5120 : Shape := ⟨2, ![2048, 5120]⟩

abbrev nBuf : Space → Nat
  | .hbm => 11
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S4x2048x1280, .bf16⟩
  | .hbm, ⟨2, _⟩ => ⟨S_, .f32⟩
  | .hbm, ⟨3, _⟩ => ⟨S8192x2048, .f32⟩
  | .hbm, ⟨4, _⟩ => ⟨S4x2048x1280, .f32⟩
  | .hbm, ⟨5, _⟩ => ⟨S2048x4x1280, .f32⟩
  | .hbm, ⟨6, _⟩ => ⟨S2048x5120, .f32⟩
  | .hbm, ⟨7, _⟩ => ⟨S8192x5120, .f32⟩
  | .hbm, ⟨8, _⟩ => ⟨S8192x5120, .f32⟩
  | .hbm, ⟨9, _⟩ => ⟨S8192x2048, .f32⟩
  | .hbm, ⟨10, _⟩ => ⟨S8192x2048, .bf16⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SguCatKernel.lean ====
abbrev S8192x2048 : Shape := ⟨2, ![8192, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1024x512, .bf16⟩
  | .local _ .vmem, ⟨4, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SguCatReferenceIdeal.lean ====
abbrev S8192x2048 : Shape := ⟨2, ![8192, 2048]⟩
abbrev S4x512x2048 : Shape := ⟨3, ![4, 512, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x512x2048, .bf16⟩
  | .hbm, ⟨2, _⟩ => ⟨S_, .f32⟩
  | .hbm, ⟨3, _⟩ => ⟨S8192x2048, .f32⟩
  | .hbm, ⟨4, _⟩ => ⟨S4x512x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnCatKernel.lean ====
abbrev S8192x2048 : Shape := ⟨2, ![8192, 2048]⟩
abbrev S4x1024x512 : Shape := ⟨3, ![4, 1024, 512]⟩
abbrev S8192x1024 : Shape := ⟨2, ![8192, 1024]⟩
abbrev S1024x2048 : Shape := ⟨2, ![1024, 2048]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S4x1024x512, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnCatReferenceIdeal.lean ====
abbrev S8192x2048 : Shape := ⟨2, ![8192, 2048]⟩
abbrev S4x1024x512 : Shape := ⟨3, ![4, 1024, 512]⟩
abbrev S_ : Shape := ⟨0, ![]⟩
abbrev S8192x1024 : Shape := ⟨2, ![8192, 1024]⟩
abbrev S1024x4x512 : Shape := ⟨3, ![1024, 4, 512]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x1024x512, .bf16⟩
  | .hbm, ⟨2, _⟩ => ⟨S_, .f32⟩
  | .hbm, ⟨3, _⟩ => ⟨S8192x1024, .f32⟩
  | .hbm, ⟨4, _⟩ => ⟨S4x1024x512, .f32⟩
  | .hbm, ⟨5, _⟩ => ⟨S1024x4x512, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SguOutWKernel.lean ====
abbrev S8192x2048 : Shape := ⟨2, ![8192, 2048]⟩
abbrev S4x512x2048 : Shape := ⟨3, ![4, 512, 2048]⟩
abbrev S2x4x256x2048 : Shape := ⟨4, ![2, 4, 256, 2048]⟩
abbrev S1024x2048 : Shape := ⟨2, ![1024, 2048]⟩
abbrev S1024x1024 : Shape := ⟨2, ![1024, 1024]⟩
abbrev S2x4x256x1024 : Shape := ⟨4, ![2, 4, 256, 1024]⟩
abbrev S2048x1024 : Shape := ⟨2, ![2048, 1024]⟩
abbrev S256x1024 : Shape := ⟨2, ![256, 1024]⟩
abbrev S1x1x256x1024 : Shape := ⟨4, ![1, 1, 256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x2048, .bf16⟩
  | .hbm, ⟨3, _⟩ => ⟨S2x4x256x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2x4x256x1024, .bf16⟩
  | .local _ .vmem, ⟨5, _⟩ => ⟨S2x4x256x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== SguOutWReferenceIdeal.lean ====
abbrev S8192x2048 : Shape := ⟨2, ![8192, 2048]⟩
abbrev S4x512x2048 : Shape := ⟨3, ![4, 512, 2048]⟩
abbrev S2048x2048 : Shape := ⟨2, ![2048, 2048]⟩
abbrev S4x2x256x2048 : Shape := ⟨4, ![4, 2, 256, 2048]⟩
abbrev S2x4x256x2048 : Shape := ⟨4, ![2, 4, 256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x2048, .bf16⟩
  | .hbm, ⟨3, _⟩ => ⟨S4x512x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S4x2x256x2048, .f32⟩
  | .hbm, ⟨11, _⟩ => ⟨S2x4x256x2048, .f32⟩
  | .hbm, ⟨12, _⟩ => ⟨S2x4x256x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnOutWKernel.lean ====
abbrev S8192x1024 : Shape := ⟨2, ![8192, 1024]⟩
abbrev S8192x2048 : Shape := ⟨2, ![8192, 2048]⟩
abbrev S4x1024x512 : Shape := ⟨3, ![4, 1024, 512]⟩
abbrev S2x4x512x512 : Shape := ⟨4, ![2, 4, 512, 512]⟩
abbrev S1024x1024 : Shape := ⟨2, ![1024, 1024]⟩
abbrev S1024x2048 : Shape := ⟨2, ![1024, 2048]⟩
abbrev S512x512 : Shape := ⟨2, ![512, 512]⟩
abbrev S1x1x512x512 : Shape := ⟨4, ![1, 1, 512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .bf16⟩
  | .hbm, ⟨3, _⟩ => ⟨S2x4x512x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S2x4x512x512, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== AttnOutWReferenceIdeal.lean ====
abbrev S8192x1024 : Shape := ⟨2, ![8192, 1024]⟩
abbrev S8192x2048 : Shape := ⟨2, ![8192, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .bf16⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S2048x1024, .f32⟩
  | .hbm, ⟨10, _⟩ => ⟨S1024x2048, .f32⟩
  | .hbm, ⟨11, _⟩ => ⟨S2x512x4x512, .f32⟩
  | .hbm, ⟨12, _⟩ => ⟨S2x4x512x512, .f32⟩
  | .hbm, ⟨13, _⟩ => ⟨S2x4x512x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SguOutKernel.lean ====
abbrev S8192x2048 : Shape := ⟨2, ![8192, 2048]⟩
abbrev S1x2048 : Shape := ⟨2, ![1, 2048]⟩
abbrev S4x512x2048 : Shape := ⟨3, ![4, 512, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S4x512x2048, .bf16⟩
  | .hbm, ⟨4, _⟩ => ⟨S8192x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S4x512x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SguOutReferenceIdeal.lean ====
abbrev S8192x2048 : Shape := ⟨2, ![8192, 2048]⟩
abbrev S1x2048 : Shape := ⟨2, ![1, 2048]⟩
abbrev S4x512x2048 : Shape := ⟨3, ![4, 512, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S4x512x2048, .bf16⟩
  | .hbm, ⟨4, _⟩ => ⟨S8192x2048, .f32⟩
  | .hbm, ⟨5, _⟩ => ⟨S4x512x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== AttnOutKernel.lean ====
abbrev S8192x1024 : Shape := ⟨2, ![8192, 1024]⟩
abbrev S8192x2048 : Shape := ⟨2, ![8192, 2048]⟩
abbrev S1x2048 : Shape := ⟨2, ![1, 2048]⟩
abbrev S4x1024x512 : Shape := ⟨3, ![4, 1024, 512]⟩
abbrev S512x1024 : Shape := ⟨2, ![512, 1024]⟩
abbrev S512x2048 : Shape := ⟨2, ![512, 2048]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1x2048, .f32⟩
  | .hbm, ⟨3, _⟩ => ⟨S4x1024x512, .bf16⟩
  | .hbm, ⟨4, _⟩ => ⟨S8192x2048, .f32⟩
  | .hbm, ⟨5, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S4x1024x512, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AttnOutReferenceIdeal.lean ====
abbrev S8192x1024 : Shape := ⟨2, ![8192, 1024]⟩
abbrev S8192x2048 : Shape := ⟨2, ![8192, 2048]⟩
abbrev S1x2048 : Shape := ⟨2, ![1, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S1x2048, .f32⟩
  | .hbm, ⟨3, _⟩ => ⟨S4x1024x512, .bf16⟩
  | .hbm, ⟨4, _⟩ => ⟨S8192x1024, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== SguFwdKernel.lean ====
abbrev S8192x3584 : Shape := ⟨2, ![8192, 3584]⟩
abbrev S1x1536 : Shape := ⟨2, ![1, 1536]⟩
abbrev S12x128x128 : Shape := ⟨3, ![12, 128, 128]⟩
abbrev S128x12 : Shape := ⟨2, ![128, 12]⟩
abbrev S8192x2048 : Shape := ⟨2, ![8192, 2048]⟩
abbrev S128x1536 : Shape := ⟨2, ![128, 1536]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x3584, .bf16⟩
  | .hbm, ⟨1, _⟩ => ⟨S1x1536, .f32⟩
  | .hbm, ⟨2, _⟩ => ⟨S1x1536, .f32⟩
  | .hbm, ⟨3, _⟩ => ⟨S12x128x128, .f32⟩
  | .hbm, ⟨4, _⟩ => ⟨S128x12, .f32⟩
  | .hbm, ⟨5, _⟩ => ⟨S8192x2048, .bf16⟩
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S1x1536, .f32⟩
  | .local _ .vmem, ⟨5, _⟩ => ⟨S1x1536, .f32⟩
  | .local _ .vmem, ⟨6, _⟩ => ⟨S12x128x128, .f32⟩
  | .local _ .vmem, ⟨7, _⟩ => ⟨S128x12, .f32⟩
  | .local _ .vmem, ⟨8, _⟩ => ⟨S128x1536, .bf16⟩
  | .local _ .vmem, ⟨9, _⟩ => ⟨S128x1536, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdReferenceIdeal.lean ====
abbrev S8192x3584 : Shape := ⟨2, ![8192, 3584]⟩
abbrev S1x1536 : Shape := ⟨2, ![1, 1536]⟩
abbrev S12x128x128 : Shape := ⟨3, ![12, 128, 128]⟩
abbrev S128x12 : Shape := ⟨2, ![128, 12]⟩
abbrev S8192x3072 : Shape := ⟨2, ![8192, 3072]⟩
abbrev S8192x1536 : Shape := ⟨2, ![8192, 1536]⟩
abbrev S_ : Shape := ⟨0, ![]⟩
abbrev S8192 : Shape := ⟨1, ![8192]⟩
abbrev S8192x1 : Shape := ⟨2, ![8192, 1]⟩
abbrev S64x128x12x128 : Shape := ⟨4, ![64, 128, 12, 128]⟩
abbrev S128x128 : Shape := ⟨2, ![128, 128]⟩
abbrev S1x128x128 : Shape := ⟨3, ![1, 128, 128]⟩
abbrev S12x64x128x128 : Shape := ⟨4, ![12, 64, 128, 128]⟩
abbrev S1x128x12x1 : Shape := ⟨4, ![1, 128, 12, 1]⟩
abbrev S8192x2048 : Shape := ⟨2, ![8192, 2048]⟩

abbrev nBuf : Space → Nat
  | .hbm => 99
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S1x1536, .f32⟩
  | .hbm, ⟨2, _⟩ => ⟨S1x1536, .f32⟩
  | .hbm, ⟨3, _⟩ => ⟨S12x128x128, .f32⟩
  | .hbm, ⟨4, _⟩ => ⟨S128x12, .f32⟩
  | .hbm, ⟨5, _⟩ => ⟨S8192x3072, .bf16⟩
  | .hbm, ⟨6, _⟩ => ⟨S8192x3072, .f32⟩
  | .hbm, ⟨7, _⟩ => ⟨S8192x1536, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S_, .f32⟩
  | .hbm, ⟨12, _⟩ => ⟨S8192x1536, .f32⟩
  | .hbm, ⟨13, _⟩ => ⟨S8192x1536, .f32⟩
  | .hbm, ⟨14, _⟩ => ⟨S8192x1536, .f32⟩
  | .hbm, ⟨15, _⟩ => ⟨S_, .f32⟩
  | .hbm, ⟨16, _⟩ => ⟨S8192x1536, .f32⟩
  | .hbm, ⟨17, _⟩ => ⟨S8192x1536, .f32⟩
  | .hbm, ⟨18, _⟩ => ⟨S8192x1536, .f32⟩
  | .hbm, ⟨19, _⟩ => ⟨S_, .f32⟩
  | .hbm, ⟨20, _⟩ => ⟨S8192x1536, .f32⟩
  | .hbm, ⟨21, _⟩ => ⟨S8192x1536, .f32⟩
  | .hbm, ⟨22, _⟩ => ⟨S_, .f32⟩
  | .hbm, ⟨23, _⟩ => ⟨S8192x1536, .f32⟩
  | .hbm, ⟨24, _⟩ => ⟨S8192x1536, .f32⟩
  | .hbm, ⟨25, _⟩ => ⟨S8192x1536, .f32⟩
  | .hbm, ⟨26, _⟩ => ⟨S8192x1536, .f32⟩
  | .hbm, ⟨27, _⟩ => ⟨S8192x1536, .f32⟩
  | .hbm, ⟨28, _⟩ => ⟨S_, .f32⟩
  | .hbm, ⟨29, _⟩ => ⟨S8192x1536, .f32⟩
  | .hbm, ⟨30, _⟩ => ⟨S8192x1536, .f32⟩
  | .hbm, ⟨31, _⟩ => ⟨S8192x1536, .f32⟩
  | .hbm, ⟨32, _⟩ => ⟨S_, .f32⟩
  | .hbm, ⟨33, _⟩ => ⟨S8192x1536, .f32⟩
  | .hbm, ⟨34, _⟩ => ⟨S8192x1536, .f32⟩
  | .hbm, ⟨35, _⟩ => ⟨S8192x1536, .f32⟩
  | .hbm, ⟨36, _⟩ => ⟨S_, .f32⟩
  | .hbm, ⟨37, _⟩ => ⟨S8192x1536, .f32⟩
  | .hbm, ⟨38, _⟩ => ⟨S8192x1536, .f32⟩
  | .hbm, ⟨39, _⟩ => ⟨S_, .f32⟩
  | .hbm, ⟨40, _⟩ => ⟨S8192x1536, .f32⟩
  | .hbm, ⟨41, _⟩ => ⟨S8192x1536, .f32⟩
  | .hbm, ⟨42, _⟩ => ⟨S8192x1536, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1536, .f32⟩
  | .hbm, ⟨50, _⟩ => ⟨S8192x1536, .f32⟩
  | .hbm, ⟨51, _⟩ => ⟨S8192x1536, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1536, .f32⟩
  | .hbm, ⟨59, _⟩ => ⟨S8192x1536, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1536, .f32⟩
  | .hbm, ⟨65, _⟩ => ⟨S8192x1536, .f32⟩
  | .hbm, ⟨66, _⟩ => ⟨S8192x1536, .f32⟩
  | .hbm, ⟨67, _⟩ => ⟨S8192x1536, .f32⟩
  | .hbm, ⟨68, _⟩ => ⟨S8192x1536, .f32⟩
  | .hbm, ⟨69, _⟩ => ⟨S8192x1536, .f32⟩
  | .hbm, ⟨70, _⟩ => ⟨S64x128x12x128, .f32⟩
  | .hbm, ⟨71, _⟩ => ⟨S_, .i1⟩
  | .hbm, ⟨72, _⟩ => ⟨S128x128, .i1⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .i1⟩
  | .hbm, ⟨80, _⟩ => ⟨S128x128, .i1⟩
  | .hbm, ⟨81, _⟩ => ⟨S128x128, .i1⟩
  | .hbm, ⟨82, _⟩ => ⟨S1x128x128, .i1⟩
  | .hbm, ⟨83, _⟩ => ⟨S_, .f32⟩
  | .hbm, ⟨84, _⟩ => ⟨S_, .f32⟩
  | .hbm, ⟨85, _⟩ => ⟨S12x128x128, .i1⟩
  | .hbm, ⟨86, _⟩ => ⟨S12x128x128, .f32⟩
  | .hbm, ⟨87, _⟩ => ⟨S12x128x128, .f32⟩
  | .hbm, ⟨88, _⟩ => ⟨S12x64x128x128, .f32⟩
  | .hbm, ⟨89, _⟩ => ⟨S64x128x12x128, .f32⟩
  | .hbm, ⟨90, _⟩ => ⟨S1x128x12x1, .f32⟩
  | .hbm, ⟨91, _⟩ => ⟨S64x128x12x128, .f32⟩
  | .hbm, ⟨92, _⟩ => ⟨S64x128x12x128, .f32⟩
  | .hbm, ⟨93, _⟩ => ⟨S8192x1536, .f32⟩
  | .hbm, ⟨94, _⟩ => ⟨S8192x1536, .f32⟩
  | .hbm, ⟨95, _⟩ => ⟨S_, .i32⟩
  | .hbm, ⟨96, _⟩ => ⟨S_, .f32⟩
  | .hbm, ⟨97, _⟩ => ⟨S8192x2048, .f32⟩
  | .hbm, ⟨98, _⟩ => ⟨S8192x2048, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c : Ref sig .tc := ⟨.hbm, 71, rfl⟩
abbrev main_v53 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_13 : Ref sig .tc := ⟨.hbm, 95, rfl⟩
abbrev main_call2_v0 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== SguBwdKernel.lean ====
abbrev S8192x3584 : Shape := ⟨2, ![8192, 3584]⟩
abbrev S8192x2048 : Shape := ⟨2, ![8192, 2048]⟩
abbrev S1x1536 : Shape := ⟨2, ![1, 1536]⟩
abbrev S12x128x128 : Shape := ⟨3, ![12, 128, 128]⟩
abbrev S128x12 : Shape := ⟨2, ![128, 12]⟩
abbrev S128x128 : Shape := ⟨2, ![128, 128]⟩
abbrev S128x1536 : Shape := ⟨2, ![128, 1536]⟩
abbrev S128x3072 : Shape := ⟨2, ![128, 3072]⟩
abbrev S128 : Shape := ⟨1, ![128]⟩
abbrev S128x1 : Shape := ⟨2, ![128, 1]⟩
abbrev S1x128x128 : Shape := ⟨3, ![1, 128, 128]⟩
abbrev S1536 : Shape := ⟨1, ![1536]⟩

abbrev nBuf : Space → Nat
  | .hbm => 12
  | .vmem => 17
  | .smem => 0
  | _ => 0

abbrev bufTy : (tb : Table) → Fin (tcTables nBuf tb) → BufTy
  | .hbm, ⟨0, _⟩ => ⟨S8192x3584, .bf16⟩
  | .hbm, ⟨1, _⟩ => ⟨S8192x2048, .bf16⟩
  | .hbm, ⟨2, _⟩ => ⟨S1x1536, .f32⟩
  | .hbm, ⟨3, _⟩ => ⟨S1x1536, .f32⟩
  | .hbm, ⟨4, _⟩ => ⟨S12x128x128, .f32⟩
  | .hbm, ⟨5, _⟩ => ⟨S128x12, .f32⟩
  | .hbm, ⟨6, _⟩ => ⟨S8192x3584, .bf16⟩
  | .hbm, ⟨7, _⟩ => ⟨S8192x3584, .bf16⟩
  | .hbm, ⟨8, _⟩ => ⟨S12x128x128, .f32⟩
  | .hbm, ⟨9, _⟩ => ⟨S128x128, .f32⟩
  | .hbm, ⟨10, _⟩ => ⟨S1x1536, .f32⟩
  | .hbm, ⟨11, _⟩ => ⟨S1x1536, .f32⟩
  | .local _ .vmem, ⟨0, _⟩ => ⟨S128x1536, .bf16⟩
  | .local _ .vmem, ⟨1, _⟩ => ⟨S128x1536, .bf16⟩
  | .local _ .vmem, ⟨2, _⟩ => ⟨S128x1536, .bf16⟩
  | .local _ .vmem, ⟨3, _⟩ => ⟨S128x1536, .bf16⟩
  | .local _ .vmem, ⟨4, _⟩ => ⟨S128x1536, .bf16⟩
  | .local _ .vmem, ⟨5, _⟩ => ⟨S128x1536, .bf16⟩
  | .local _ .vmem, ⟨6, _⟩ => ⟨S1x1536, .f32⟩
  | .local _ .vmem, ⟨7, _⟩ => ⟨S1x1536, .f32⟩
  | .local _ .vmem, ⟨8, _⟩ => ⟨S12x128x128, .f32⟩
  | .local _ .vmem, ⟨9, _⟩ => ⟨S128x12, .f32⟩
  | .local _ .vmem, ⟨10, _⟩ => ⟨S128x3072, .bf16⟩
  | .local _ .vmem, ⟨11, _⟩ => ⟨S128x3072, .bf16⟩
  | .local _ .vmem, ⟨12, _⟩ => ⟨S12x128x128, .f32⟩
  | .local _ .vmem, ⟨13, _⟩ => ⟨S128x128, .f32⟩
  | .local _ .vmem, ⟨14, _⟩ => ⟨S1x1536, .f32⟩
  | .local _ .vmem, ⟨15, _⟩ => ⟨S1x1536, .f32⟩
  | .local _ .vmem, ⟨16, _⟩ => ⟨S128x1536, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S12x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SguBwdKernelIdeal.lean ====
variable {F : FTy → Type} [FloatOps F] [Named F]
def κ : String → Option EReal := fun
  | "slope" => some ((8943 / 200000 : ℝ) : EReal)
  | "thrice" => some ((26829 / 200000 : ℝ) : EReal)
  | _ => none
-- ==== SguBwdReferenceIdeal.lean ====
abbrev S8192x3584 : Shape := ⟨2, ![8192, 3584]⟩
abbrev S8192x2048 : Shape := ⟨2, ![8192, 2048]⟩
abbrev S1x1536 : Shape := ⟨2, ![1, 1536]⟩
abbrev S12x128x128 : Shape := ⟨3, ![12, 128, 128]⟩
abbrev S128x12 : Shape := ⟨2, ![128, 12]⟩
abbrev S8192x1536 : Shape := ⟨2, ![8192, 1536]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S64x128x12x128 : Shape := ⟨4, ![64, 128, 12, 128]⟩
abbrev S128x128 : Shape := ⟨2, ![128, 128]⟩
abbrev S1x128x128 : Shape := ⟨3, ![1, 128, 128]⟩
abbrev S12x64x128x128 : Shape := ⟨4, ![12, 64, 128, 128]⟩
abbrev S1x128x12x1 : Shape := ⟨4, ![1, 128, 12, 1]⟩
abbrev S1536 : Shape := ⟨1, ![1536]⟩
abbrev S8192x512 : Shape := ⟨2, ![8192, 512]⟩

abbrev nBuf : Space → Nat
  | .hbm => 235
  | .vmem => 0
  | .smem => 0
  | _ => 0

abbrev hbmTy0_0 (i : Nat) : BufTy := match i % 128 with
  | 0 => ⟨S8192x3584, .bf16⟩
  | 1 => ⟨S8192x2048, .bf16⟩
  | 2 => ⟨S1x1536, .f32⟩
  | 3 => ⟨S1x1536, .f32⟩
  | 4 => ⟨S12x128x128, .f32⟩
  | 5 => ⟨S128x12, .f32⟩
  | 6 => ⟨S8192x3584, .bf16⟩
  | 7 => ⟨S8192x1536, .bf16⟩
  | 8 => ⟨S8192x1536, .f32⟩
  | 9 => ⟨S8192x3072, .bf16⟩
  | 10 => ⟨S8192x3072, .f32⟩
  | 11 => ⟨S8192x1536, .f32⟩
  | 12 => ⟨S8192x1536, .f32⟩
  | 13 => ⟨S8192x1536, .f32⟩
  | 14 => ⟨S8192x1536, .f32⟩
  | 15 => ⟨S8192x1536, .f32⟩
  | 16 => ⟨S_, .f32⟩
  | 17 => ⟨S8192x1536, .f32⟩
  | 18 => ⟨S8192x1536, .f32⟩
  | 19 => ⟨S_, .f32⟩
  | 20 => ⟨S8192x1536, .f32⟩
  | 21 => ⟨S8192x1536, .f32⟩
  | 22 => ⟨S_, .f32⟩
  | 23 => ⟨S8192x1536, .f32⟩
  | 24 => ⟨S8192x1536, .f32⟩
  | 25 => ⟨S8192x1536, .f32⟩
  | 26 => ⟨S_, .f32⟩
  | 27 => ⟨S8192x1536, .f32⟩
  | 28 => ⟨S8192x1536, .f32⟩
  | 29 => ⟨S8192x1536, .f32⟩
  | 30 => ⟨S_, .f32⟩
  | 31 => ⟨S8192x1536, .f32⟩
  | 32 => ⟨S8192x1536, .f32⟩
  | 33 => ⟨S_, .f32⟩
  | 34 => ⟨S8192x1536, .f32⟩
  | 35 => ⟨S8192x1536, .f32⟩
  | 36 => ⟨S8192x1536, .f32⟩
  | 37 => ⟨S_, .f32⟩
  | 38 => ⟨S8192x1536, .f32⟩
  | 39 => ⟨S8192x1536, .f32⟩
  | 40 => ⟨S_, .f32⟩
  | 41 => ⟨S8192x1536, .f32⟩
  | 42 => ⟨S8192x1536, .f32⟩
  | 43 => ⟨S8192x1536, .f32⟩
  | 44 => ⟨S8192x1536, .f32⟩
  | 45 => ⟨S8192x1536, .f32⟩
  | 46 => ⟨S8192x1536, .f32⟩
  | 47 => ⟨S_, .f32⟩
  | 48 => ⟨S8192x1536, .f32⟩
  | 49 => ⟨S8192x1536, .f32⟩
  | 50 => ⟨S_, .f32⟩
  | 51 => ⟨S8192x1536, .f32⟩
  | 52 => ⟨S8192x1536, .f32⟩
  | 53 => ⟨S_, .f32⟩
  | 54 => ⟨S8192x1536, .f32⟩
  | 55 => ⟨S8192x1536, .f32⟩
  | 56 => ⟨S8192x1536, .f32⟩
  | 57 => ⟨S_, .f32⟩
  | 58 => ⟨S8192x1536, .f32⟩
  | 59 => ⟨S8192x1536, .f32⟩
  | 60 => ⟨S8192x1536, .f32⟩
  | 61 => ⟨S_, .f32⟩
  | 62 => ⟨S8192x1536, .f32⟩
  | 63 => ⟨S8192x1536, .f32⟩
  | 64 => ⟨S_, .f32⟩
  | 65 => ⟨S8192x1536, .f32⟩
  | 66 => ⟨S8192x1536, .f32⟩
  | 67 => ⟨S8192x1536, .f32⟩
  | 68 => ⟨S_, .f32⟩
  | 69 => ⟨S8192x1536, .f32⟩
  | 70 => ⟨S8192x1536, .f32⟩
  | 71 => ⟨S_, .f32⟩
  | 72 => ⟨S8192x1536, .f32⟩
  | 73 => ⟨S8192x1536, .f32⟩
  | 74 => ⟨S8192x1536, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S8192x1536, .f32⟩
  | 82 => ⟨S8192x1536, .f32⟩
  | 83 => ⟨S8192x1536, .f32⟩
  | 84 => ⟨S_, .f32⟩
  | 85 => ⟨S8192x1536, .f32⟩
  | 86 => ⟨S8192x1536, .f32⟩
  | 87 => ⟨S_, .f32⟩
  | 88 => ⟨S8192, .f32⟩
  | 89 => ⟨S8192x1, .f32⟩
  | 90 => ⟨S_, .f32⟩
  | 91 => ⟨S8192x1, .f32⟩
  | 92 => ⟨S8192x1, .f32⟩
  | 93 => ⟨S8192x1536, .f32⟩
  | 94 => ⟨S8192x1536, .f32⟩
  | 95 => ⟨S_, .f32⟩
  | 96 => ⟨S8192x1, .f32⟩
  | 97 => ⟨S8192x1, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1536, .f32⟩
  | 104 => ⟨S8192x1536, .f32⟩
  | 105 => ⟨S8192x1536, .f32⟩
  | 106 => ⟨S8192x1536, .f32⟩
  | 107 => ⟨S8192x1536, .f32⟩
  | 108 => ⟨S8192x1536, .f32⟩
  | 109 => ⟨S64x128x12x128, .f32⟩
  | 110 => ⟨S_, .i1⟩
  | 111 => ⟨S128x128, .i1⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .i1⟩
  | 119 => ⟨S128x128, .i1⟩
  | 120 => ⟨S128x128, .i1⟩
  | 121 => ⟨S1x128x128, .i1⟩
  | 122 => ⟨S_, .f32⟩
  | 123 => ⟨S_, .f32⟩
  | 124 => ⟨S12x128x128, .i1⟩
  | 125 => ⟨S12x128x128, .f32⟩
  | 126 => ⟨S12x128x128, .f32⟩
  | 127 => ⟨S_, .f32⟩
  | _ => ⟨S8192x3584, .bf16⟩

abbrev hbmTy0_1 (i : Nat) : BufTy := match i % 128 with
  | 0 => ⟨S12x128x128, .f32⟩
  | 1 => ⟨S12x64x128x128, .f32⟩
  | 2 => ⟨S64x128x12x128, .f32⟩
  | 3 => ⟨S1x128x12x1, .f32⟩
  | 4 => ⟨S64x128x12x128, .f32⟩
  | 5 => ⟨S64x128x12x128, .f32⟩
  | 6 => ⟨S8192x1536, .f32⟩
  | 7 => ⟨S8192x1536, .f32⟩
  | 8 => ⟨S8192x1536, .f32⟩
  | 9 => ⟨S8192x1536, .f32⟩
  | 10 => ⟨S64x128x12x128, .f32⟩
  | 11 => ⟨S_, .f32⟩
  | 12 => ⟨S128x12, .f32⟩
  | 13 => ⟨S1x128x12x1, .f32⟩
  | 14 => ⟨S_, .f32⟩
  | 15 => ⟨S128x12, .f32⟩
  | 16 => ⟨S12x64x128x128, .f32⟩
  | 17 => ⟨S12x128x128, .f32⟩
  | 18 => ⟨S12x64x128x128, .f32⟩
  | 19 => ⟨S64x128x12x128, .f32⟩
  | 20 => ⟨S_, .f32⟩
  | 21 => ⟨S12x128x128, .f32⟩
  | 22 => ⟨S12x128x128, .f32⟩
  | 23 => ⟨S8192x1536, .f32⟩
  | 24 => ⟨S_, .f32⟩
  | 25 => ⟨S1536, .f32⟩
  | 26 => ⟨S1x1536, .f32⟩
  | 27 => ⟨S8192x1536, .f32⟩
  | 28 => ⟨S_, .f32⟩
  | 29 => ⟨S1536, .f32⟩
  | 30 => ⟨S1x1536, .f32⟩
  | 31 => ⟨S8192x1536, .f32⟩
  | 32 => ⟨S8192x1536, .f32⟩
  | 33 => ⟨S8192x1536, .f32⟩
  | 34 => ⟨S_, .f32⟩
  | 35 => ⟨S8192, .f32⟩
  | 36 => ⟨S8192x1, .f32⟩
  | 37 => ⟨S8192x1536, .f32⟩
  | 38 => ⟨S8192x1536, .f32⟩
  | 39 => ⟨S8192x1, .f32⟩
  | 40 => ⟨S8192x1536, .f32⟩
  | 41 => ⟨S_, .f32⟩
  | 42 => ⟨S8192, .f32⟩
  | 43 => ⟨S8192x1, .f32⟩
  | 44 => ⟨S_, .f32⟩
  | 45 => ⟨S8192x1, .f32⟩
  | 46 => ⟨S8192x1, .f32⟩
  | 47 => ⟨S_, .f32⟩
  | 48 => ⟨S8192, .f32⟩
  | 49 => ⟨S8192x1536, .f32⟩
  | 50 => ⟨S8192x1536, .f32⟩
  | 51 => ⟨S8192x1536, .f32⟩
  | 52 => ⟨S_, .f32⟩
  | 53 => ⟨S8192, .f32⟩
  | 54 => ⟨S8192x1, .f32⟩
  | 55 => ⟨S8192x1536, .f32⟩
  | 56 => ⟨S8192x1, .f32⟩
  | 57 => ⟨S_, .f32⟩
  | 58 => ⟨S8192x1, .f32⟩
  | 59 => ⟨S8192x1, .f32⟩
  | 60 => ⟨S_, .f32⟩
  | 61 => ⟨S8192, .f32⟩
  | 62 => ⟨S8192x1536, .f32⟩
  | 63 => ⟨S8192x1536, .f32⟩
  | 64 => ⟨S8192x1536, .f32⟩
  | 65 => ⟨S8192x1536, .f32⟩
  | 66 => ⟨S_, .f32⟩
  | 67 => ⟨S8192x1536, .f32⟩
  | 68 => ⟨S8192x1536, .f32⟩
  | 69 => ⟨S8192x1536, .f32⟩
  | 70 => ⟨S_, .f32⟩
  | 71 => ⟨S8192x1536, .f32⟩
  | 72 => ⟨S8192x1536, .f32⟩
  | 73 => ⟨S8192x1536, .f32⟩
  | 74 => ⟨S_, .f32⟩
  | 75 => ⟨S8192x1536, .f32⟩
  | 76 => ⟨S8192x1536, .f32⟩
  | 77 => ⟨S_, .f32⟩
  | 78 => ⟨S8192x1536, .f32⟩
  | 79 => ⟨S8192x1536, .f32⟩
  | 80 => ⟨S8192x1536, .f32⟩
  | 81 => ⟨S8192x1536, .f32⟩
  | 82 => ⟨S8192x1536, .f32⟩
  | 83 => ⟨S8192x1536, .f32⟩
  | 84 => ⟨S_, .f32⟩
  | 85 => ⟨S8192x1536, .f32⟩
  | 86 => ⟨S8192x1536, .f32⟩
  | 87 => ⟨S8192x1536, .f32⟩
  | 88 => ⟨S_, .f32⟩
  | 89 => ⟨S8192x1536, .f32⟩
  | 90 => ⟨S8192x1536, .f32⟩
  | 91 => ⟨S8192x1536, .f32⟩
  | 92 => ⟨S_, .f32⟩
  | 93 => ⟨S8192x1536, .f32⟩
  | 94 => ⟨S8192x1536, .f32⟩
  | 95 => ⟨S_, .f32⟩
  | 96 => ⟨S8192x1536, .f32⟩
  | 97 => ⟨S8192x1536, .f32⟩
  | 98 => ⟨S8192x1536, .f32⟩
  | 99 => ⟨S8192x1536, .f32⟩
  | 100 => ⟨S8192x3072, .f32⟩
  | 101 => ⟨S8192x3072, .bf16⟩
  | 102 => ⟨S8192x512, .bf16⟩
  | 103 => ⟨S8192x3584, .bf16⟩
  | 104 => ⟨S_, .i32⟩
  | 105 => ⟨S_, .f32⟩
  | 106 => ⟨S128x128, .f32⟩
  | _ => ⟨S8192x3584, .bf16⟩

abbrev hbmTy (i : Nat) : BufTy := match i / 128 with
  | 0 => hbmTy0_0 i
  | 1 => hbmTy0_1 i
  | _ => ⟨S8192x3584, .bf16⟩

abbrev bufTy : (tb : Table) → Fin (tcTables nBuf tb) → BufTy
  | .hbm, ⟨i, _⟩ => hbmTy i
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_cst_12 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_cst_14 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_cst_16 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_cst_18 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_20 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_21 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c : Ref sig .tc := ⟨.hbm, 110, rfl⟩
abbrev main_v80 : Ref sig .tc := ⟨.hbm, 111, rfl⟩
abbrev main_call0_v0 : Ref sig .tc := ⟨.hbm, 112, rfl⟩
abbrev main_call0_c : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_c_0 : Ref sig .tc := ⟨.hbm, 118, rfl⟩
abbrev main_call0_v5 : Ref sig .tc := ⟨.hbm, 119, rfl⟩
abbrev main_v81 : Ref sig .tc := ⟨.hbm, 120, rfl⟩
abbrev main_v82 : Ref sig .tc := ⟨.hbm, 121, rfl⟩
abbrev main_cst_22 : Ref sig .tc := ⟨.hbm, 122, rfl⟩
abbrev main_call1_v0 : Ref sig .tc := ⟨.hbm, 123, rfl⟩
abbrev main_v83_1 : Ref sig .tc := ⟨.hbm, 124, rfl⟩
abbrev main_call1_v2 : Ref sig .tc := ⟨.hbm, 125, rfl⟩
abbrev main_v83_0 : Ref sig .tc := ⟨.hbm, 126, rfl⟩
abbrev main_call1_cst : Ref sig .tc := ⟨.hbm, 127, rfl⟩
abbrev main_v83_2 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_v95 : Ref sig .tc := ⟨.hbm, 141, rfl⟩
abbrev main_cst_24 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_call2_cst : Ref sig .tc := ⟨.hbm, 148, rfl⟩
abbrev main_call2_v0 : Ref sig .tc := ⟨.hbm, 149, rfl⟩
abbrev main_v101 : Ref sig .tc := ⟨.hbm, 150, rfl⟩
abbrev main_v102 : Ref sig .tc := ⟨.hbm, 151, rfl⟩
abbrev main_cst_25 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_26 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_27 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_cst_28 : Ref sig .tc := ⟨.hbm, 169, rfl⟩
abbrev main_v117 : Ref sig .tc := ⟨.hbm, 170, rfl⟩
abbrev main_v118 : Ref sig .tc := ⟨.hbm, 171, rfl⟩
abbrev main_cst_29 : Ref sig .tc := ⟨.hbm, 172, rfl⟩
abbrev main_v119 : Ref sig .tc := ⟨.hbm, 173, rfl⟩
abbrev main_v120 : Ref sig .tc := ⟨.hbm, 174, rfl⟩
abbrev main_cst_30 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_cst_31 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_cst_32 : Ref sig .tc := ⟨.hbm, 185, rfl⟩
abbrev main_v129 : Ref sig .tc := ⟨.hbm, 186, rfl⟩
abbrev main_v130 : Ref sig .tc := ⟨.hbm, 187, rfl⟩
abbrev main_cst_33 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_cst_34 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_cst_35 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_36 : Ref sig .tc := ⟨.hbm, 202, rfl⟩
abbrev main_v142 : Ref sig .tc := ⟨.hbm, 203, rfl⟩
abbrev main_v143 : Ref sig .tc := ⟨.hbm, 204, rfl⟩
abbrev main_cst_37 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_cst_38 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_cst_39 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_40 : Ref sig .tc := ⟨.hbm, 220, rfl⟩
abbrev main_v156 : Ref sig .tc := ⟨.hbm, 221, rfl⟩
abbrev main_v157 : Ref sig .tc := ⟨.hbm, 222, rfl⟩
abbrev main_cst_41 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_c_42 : Ref sig .tc := ⟨.hbm, 232, rfl⟩
abbrev main_call3_v0 : Ref sig .tc := ⟨.hbm, 233, rfl⟩
abbrev main_v166 : Ref sig .tc := ⟨.hbm, 234, rfl⟩

abbrev nD : Nat := 1
abbrev τ : Topo := Topo.v7x

variable {F : FTy → Type} [FloatOps F]
-- ==== NormKernel.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MemNormKernel.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S256x2048, .bf16⟩
  | .hbm, ⟨5, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemNormReferenceIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== MemKvWKernel.lean ====
abbrev S256x2048 : Shape := ⟨2, ![256, 2048]⟩
abbrev S256x1024 : Shape := ⟨2, ![256, 1024]⟩
abbrev S4x512x1024 : Shape := ⟨3, ![4, 512, 1024]⟩
abbrev S2x4x256x1024 : Shape := ⟨4, ![2, 4, 256, 1024]⟩
abbrev S2048x1024 : Shape := ⟨2, ![2048, 1024]⟩
abbrev S1x1x256x1024 : Shape := ⟨4, ![1, 1, 256, 1024]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S4x512x1024, .bf16⟩
  | .hbm, ⟨3, _⟩ => ⟨S2x4x256x1024, .bf16⟩
  | .local _ .vmem, ⟨0, _⟩ => ⟨S256x2048, .bf16⟩
  | .local _ .vmem, ⟨1, _⟩ => ⟨S256x1024, .bf16⟩
  | .local _ .vmem, ⟨2, _⟩ => ⟨S2x4x256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2x4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== MemKvWReferenceIdeal.lean ====
abbrev S256x2048 : Shape := ⟨2, ![256, 2048]⟩
abbrev S256x1024 : Shape := ⟨2, ![256, 1024]⟩
abbrev S4x512x1024 : Shape := ⟨3, ![4, 512, 1024]⟩
abbrev S2048x1024 : Shape := ⟨2, ![2048, 1024]⟩
abbrev S1024x2048 : Shape := ⟨2, ![1024, 2048]⟩
abbrev S4x2x256x1024 : Shape := ⟨4, ![4, 2, 256, 1024]⟩
abbrev S2x4x256x1024 : Shape := ⟨4, ![2, 4, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .bf16⟩
  | .hbm, ⟨2, _⟩ => ⟨S4x512x1024, .bf16⟩
  | .hbm, ⟨3, _⟩ => ⟨S4x512x1024, .f32⟩
  | .hbm, ⟨4, _⟩ => ⟨S2048x1024, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S1024x2048, .f32⟩
  | .hbm, ⟨9, _⟩ => ⟨S2048x1024, .f32⟩
  | .hbm, ⟨10, _⟩ => ⟨S4x2x256x1024, .f32⟩
  | .hbm, ⟨11, _⟩ => ⟨S2x4x256x1024, .f32⟩
  | .hbm, ⟨12, _⟩ => ⟨S2x4x256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MemNKernel.lean ====
abbrev S256x1024 : Shape := ⟨2, ![256, 1024]⟩
abbrev S4x512x1024 : Shape := ⟨3, ![4, 512, 1024]⟩
abbrev S256x2048 : Shape := ⟨2, ![256, 2048]⟩
abbrev S1x512x1024 : Shape := ⟨3, ![1, 512, 1024]⟩
abbrev S256x512 : Shape := ⟨2, ![256, 512]⟩
abbrev S512x1024 : Shape := ⟨2, ![512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S4x512x1024, .bf16⟩
  | .hbm, ⟨2, _⟩ => ⟨S256x2048, .f32⟩
  | .local _ .vmem, ⟨0, _⟩ => ⟨S256x1024, .bf16⟩
  | .local _ .vmem, ⟨1, _⟩ => ⟨S1x512x1024, .bf16⟩
  | .local _ .vmem, ⟨2, _⟩ => ⟨S256x512, .f32⟩
  | .local _ .vmem, ⟨3, _⟩ => ⟨S256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemNReferenceIdeal.lean ====
abbrev S256x1024 : Shape := ⟨2, ![256, 1024]⟩
abbrev S4x512x1024 : Shape := ⟨3, ![4, 512, 1024]⟩
abbrev S_ : Shape := ⟨0, ![]⟩
abbrev S256x2048 : Shape := ⟨2, ![256, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x512x1024, .bf16⟩
  | .hbm, ⟨2, _⟩ => ⟨S_, .f32⟩
  | .hbm, ⟨3, _⟩ => ⟨S256x2048, .f32⟩
  | .hbm, ⟨4, _⟩ => ⟨S4x512x1024, .f32⟩
  | .hbm, ⟨5, _⟩ => ⟨S2048x1024, .f32⟩
  | .hbm, ⟨6, _⟩ => ⟨S256x1024, .f32⟩
  | .hbm, ⟨7, _⟩ => ⟨S256x1024, .f32⟩
  | .hbm, ⟨8, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKvKernel.lean ====
abbrev S256x2048 : Shape := ⟨2, ![256, 2048]⟩
abbrev S4x512x1024 : Shape := ⟨3, ![4, 512, 1024]⟩
abbrev S256x1024 : Shape := ⟨2, ![256, 1024]⟩
abbrev S2048x1024 : Shape := ⟨2, ![2048, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S4x512x1024, .bf16⟩
  | .hbm, ⟨2, _⟩ => ⟨S256x1024, .f32⟩
  | .local _ .vmem, ⟨0, _⟩ => ⟨S256x2048, .bf16⟩
  | .local _ .vmem, ⟨1, _⟩ => ⟨S4x512x1024, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvReferenceIdeal.lean ====
abbrev S256x2048 : Shape := ⟨2, ![256, 2048]⟩
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x512x1024, .bf16⟩
  | .hbm, ⟨2, _⟩ => ⟨S256x2048, .f32⟩
  | .hbm, ⟨3, _⟩ => ⟨S4x512x1024, .f32⟩
  | .hbm, ⟨4, _⟩ => ⟨S2048x1024, .f32⟩
  | .hbm, ⟨5, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FirstNormKernel.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemFirstNormKernel.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemFirstNormReferenceIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mem0Kernel.lean ====
abbrev S8192x5120 : Shape := ⟨2, ![8192, 5120]⟩
abbrev S256x1024 : Shape := ⟨2, ![256, 1024]⟩
abbrev S8192x1024 : Shape := ⟨2, ![8192, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x5120, .f32⟩
  | .hbm, ⟨1, _⟩ => ⟨S256x1024, .f32⟩
  | .hbm, ⟨2, _⟩ => ⟨S8192x1024, .f32⟩
  | .hbm, ⟨3, _⟩ => ⟨S8192x5120, .bf16⟩
  | .hbm, ⟨4, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .f32⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Mem0ReferenceIdeal.lean ====
abbrev S8192x5120 : Shape := ⟨2, ![8192, 5120]⟩
abbrev S256x1024 : Shape := ⟨2, ![256, 1024]⟩
abbrev S8192x1024 : Shape := ⟨2, ![8192, 1024]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S256x1024, .f32⟩
  | .hbm, ⟨2, _⟩ => ⟨S8192x1024, .f32⟩
  | .hbm, ⟨3, _⟩ => ⟨S8192x512, .f32⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S256x4x128, .f32⟩
  | .hbm, ⟨8, _⟩ => ⟨S256x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x256, .f32⟩
  | .hbm, ⟨58, _⟩ => ⟨S4x128x256, .f32⟩
  | .hbm, ⟨59, _⟩ => ⟨S256x4x128, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x128, .f32⟩
  | .hbm, ⟨78, _⟩ => ⟨S256x4x128, .f32⟩
  | .hbm, ⟨79, _⟩ => ⟨S4x8192x128, .f32⟩
  | .hbm, ⟨80, _⟩ => ⟨S8192x4x128, .f32⟩
  | .hbm, ⟨81, _⟩ => ⟨S256x512, .f32⟩
  | .hbm, ⟨82, _⟩ => ⟨S256x512, .f32⟩
  | .hbm, ⟨83, _⟩ => ⟨S8192x512, .f32⟩
  | .hbm, ⟨84, _⟩ => ⟨S256x1024, .f32⟩
  | .hbm, ⟨85, _⟩ => ⟨S_, .f32⟩
  | .hbm, ⟨86, _⟩ => ⟨S8192x5120, .f32⟩
  | .hbm, ⟨87, _⟩ => ⟨S8192x5120, .bf16⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Proof.Softmax.lean ====
/- One row of a softmax attention with its gradient, over the extended reals: the form the kernel computes
   (`slope`) and the form the derivative of the quotient gives (`slopeQuot`), and their equality on a row whose
   exponentials are real with a positive sum. -/
module

public import Idealize.ShloMosaic.PureOps.Ideal
public import Idealize.ShloMosaic.PureOps.Ideal.Laws
public import Mathlib.Data.EReal.Operations

@[expose] public section

noncomputable section

namespace Cert.Softmax

open Idealize.ShloMosaic

/-- The scale both programs multiply by, `128 ^ (-1/2)` rounded to f32. -/
def kap : EReal := Ideal.ofBits .f32 0x3DB504F3#32

/-- The greatest entry of a row. -/
def top (l : Fin 256 → EReal) : EReal := (Finset.univ : Finset (Fin 256)).fold max ⊥ l

/-- The exponentials of a row, shifted by its greatest entry. -/
def ex (l : Fin 256 → EReal) (m : Fin 256) : EReal := Ideal.exp (l m - top l)

/-- The row's probabilities. -/
def prob (l : Fin 256 → EReal) (m : Fin 256) : EReal := Ideal.div (ex l m) (∑ m', ex l m')

/-- The gradient of a row's logits from the gradient `dp` of its probabilities, as the kernel takes it. -/
def slope (l dp : Fin 256 → EReal) (m : Fin 256) : EReal :=
  prob l m * (dp m - ∑ m', prob l m' * dp m') * kap

/-- The same from the derivative of the quotient `ex / ∑ ex`. -/
def slopeQuot (l dp : Fin 256 → EReal) (m : Fin 256) : EReal :=
  (Ideal.div (dp m) (∑ m', ex l m')
    + -(∑ m', dp m' * Ideal.div 1 ((∑ m'', ex l m'') * ∑ m'', ex l m'') * ex l m')) * ex l m * kap

theorem mul_sum_coe {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A real row has a real greatest entry. -/
theorem top_coe (L : Fin 256 → ℝ) : ∃ M : ℝ, top (fun m => (L m : EReal)) = M := by
  have key : ∀ s : Finset (Fin 256), s.Nonempty → ∃ M : ℝ, s.fold max (⊥ : EReal) (fun m => (L m : EReal)) = M := by
    intro s hs
    induction hs using Finset.Nonempty.cons_induction with
    | singleton a => exact ⟨L a, by simp⟩
    | cons a s ha hs ih =>
      obtain ⟨M, hM⟩ := ih
      exact ⟨max (L a) M, by rw [Finset.fold_cons, hM, EReal.coe_strictMono.monotone.map_max]⟩
  exact key Finset.univ ⟨0, Finset.mem_univ _⟩

/-- On a real row the exponentials are real and positive. -/
theorem ex_coe (l : Fin 256 → EReal) (L : Fin 256 → ℝ) (h : ∀ m, l m = L m) :
    ∃ e : Fin 256 → ℝ, (∀ m, 0 < e m) ∧ ∀ m, ex l m = e m := by
  obtain rfl : l = fun m => (L m : EReal) := funext h
  obtain ⟨M, hM⟩ := top_coe L
  refine ⟨fun m => Real.exp (L m - M), fun m => Real.exp_pos _, fun m => ?_⟩
  rw [ex, hM, ← EReal.coe_sub, Ideal.exp_coe]

/-- On a real row the two forms of the gradient agree, whatever the incoming gradient. -/
theorem slopeQuot_eq (l dp : Fin 256 → EReal) (L : Fin 256 → ℝ) (h : ∀ m, l m = L m) (m : Fin 256) :
    slopeQuot l dp m = slope l dp m := by
  obtain ⟨e, he, hex⟩ := ex_coe l L h
  have hS : ∑ m', ex l m' = ((∑ m', e m' : ℝ) : EReal) := by
    rw [coe_sum]; exact Finset.sum_congr rfl fun m' _ => hex m'
  have hpos : 0 < ∑ m', e m' := Finset.sum_pos (fun m' _ => he m') ⟨m, Finset.mem_univ _⟩
  set S : ℝ := ∑ m', e m' with hSdef
  have hs : (0 : ℝ) ≤ 1 / S := by positivity
  have h1 : slopeQuot l dp m
      = (dp m * ((1 / S : ℝ) : EReal) + -(∑ m', dp m' * (1 * ((1 / (S * S) : ℝ) : EReal)) * (e m' : EReal))) * e m * kap := by
    simp only [slopeQuot, hS]
    simp only [hex, ← EReal.coe_mul, Ideal.div_coe hpos.ne', Ideal.div_coe (mul_pos hpos hpos).ne']
  have h2 : slope l dp m
      = e m * ((1 / S : ℝ) : EReal) * (dp m + -(∑ m', e m' * ((1 / S : ℝ) : EReal) * dp m')) * kap := by
    simp only [slope, prob, hS]
    simp only [hex, Ideal.div_coe hpos.ne', sub_eq_add_neg]
  have hq : ((1 / (S * S) : ℝ) : EReal) = ((1 / S : ℝ) : EReal) * ((1 / S : ℝ) : EReal) := by
    rw [← EReal.coe_mul]; congr 1; field_simp
  have hsum : ∑ m', dp m' * (1 * ((1 / (S * S) : ℝ) : EReal)) * (e m' : EReal)
      = ((1 / S : ℝ) : EReal) * ∑ m', e m' * ((1 / S : ℝ) : EReal) * dp m' := by
    rw [mul_sum_coe _ _ hs]
    refine Finset.sum_congr rfl fun m' _ => ?_
    rw [one_mul, hq]
    ac_rfl
  rw [h1, h2, hsum, mul_assoc (e m : EReal), EReal.left_distrib_of_nonneg_of_ne_top (EReal.coe_nonneg.mpr hs) (EReal.coe_ne_top _),
    mul_neg, mul_comm (e m : EReal), mul_comm (dp m) _]

end Cert.Softmax

end
-- ==== Proof.Payload.lean ====
/- What one head's payloads hold at an index: the probabilities, the logits' gradient, and the three products with it. -/
module

public import proofs.«01_k».proof.Proof.Softmax
public import proofs.«01_k».proof.Proof.Gen.KernelIdeal.Value
public import Idealize.ShloMosaic.Lib.Pointwise

@[expose] public section

set_option maxRecDepth 16384

noncomputable section

namespace Cert.KernelIdeal.Payload

open Cert.KernelIdeal Cert.KernelIdeal.Gen Idealize.ShloMosaic Idealize.ShloMosaic.TcCoe
open Cert.Softmax

variable (q : Vec Ideal S512x128 .bf16) (k v : Vec Ideal S256x128 .f32) (g : Vec Ideal S512x128 .bf16)

/-- The kernel's starting value of a row's maximum. -/
theorem negInf : Ideal.ofBits .f32 0xFF800000#32 = ⊥ := by simp [Ideal.ofBits, Ideal.ieee]

theorem pay3_apply (j : S512x256.Idx) :
    k0_pay3 q k j = prob (fun m => (∑ d, q (ix2 (j 0) d) * k (ix2 m d)) * kap) (j 1) := by
  unfold k0_pay3 k0_pay2
  dsimp only
  pointwise
  simp only [prob, ex, top, negInf, kap]

theorem pay4_apply (j : S512x256.Idx) :
    k0_pay4 q k v g j = slope (fun m => (∑ d, q (ix2 (j 0) d) * k (ix2 m d)) * kap)
      (fun m => ∑ d, g (ix2 (j 0) d) * v (ix2 m d)) (j 1) := by
  unfold k0_pay4
  dsimp only
  pointwise
  simp only [pay3_apply]
  rfl

theorem pay5_apply (j : S512x128.Idx) :
    k0_pay5 q k v g j = ∑ m : Fin 256, slope (fun m => (∑ d, q (ix2 (j 0) d) * k (ix2 m d)) * kap)
      (fun m => ∑ d, g (ix2 (j 0) d) * v (ix2 m d)) m * k (ix2 m (j 1)) := by
  unfold k0_pay5 k0_pay2
  dsimp only
  pointwise
  simp only [pay4_apply]
  rfl

variable (o : Vec Ideal S256x128 .f32)

theorem pay6_apply (m₀ : Fin 256) (d₀ : Fin 128) :
    k0_pay6 q (k0_pay4 q k v g) o (ix2 m₀ d₀) = o (ix2 m₀ d₀) + ∑ r : Fin 512, slope (fun m => (∑ d, q (ix2 r d) * k (ix2 m d)) * kap)
      (fun m => ∑ d, g (ix2 r d) * v (ix2 m d)) m₀ * q (ix2 r d₀) := by
  unfold k0_pay6
  pointwise
  simp only [pay4_apply]
  rfl

theorem pay7_apply (m₀ : Fin 256) (d₀ : Fin 128) :
    k0_pay7 g (k0_pay3 q k) o (ix2 m₀ d₀) = o (ix2 m₀ d₀) + ∑ r : Fin 512, prob (fun m => (∑ d, q (ix2 r d) * k (ix2 m d)) * kap)
      m₀ * g (ix2 r d₀) := by
  unfold k0_pay7
  pointwise
  simp only [pay3_apply]
  rfl

/-! The other heads' payloads are the first head's. -/

theorem pay12_eq : k0_pay12 (k0_pay8 k) (k0_pay10 q k v g) (FloatOps.ofBits .f32 1035273459#32) = k0_pay5 q k v g := rfl
theorem pay13_eq : k0_pay13 q (k0_pay10 q k v g) (FloatOps.ofBits .f32 1035273459#32) o = k0_pay6 q (k0_pay4 q k v g) o := rfl
theorem pay14_eq : k0_pay14 g (k0_pay9 q k) o = k0_pay7 g (k0_pay3 q k) o := rfl
theorem pay21_eq : k0_pay21 (k0_pay15 k) (k0_pay16 v) g (k0_pay17 q k) (k0_pay18 q k) = k0_pay5 q k v g := rfl
theorem pay22_eq : k0_pay22 q (k0_pay16 v) g (k0_pay17 q k) (k0_pay18 q k) o = k0_pay6 q (k0_pay4 q k v g) o := rfl
theorem pay23_eq : k0_pay23 g (k0_pay17 q k) (k0_pay18 q k) o = k0_pay7 g (k0_pay3 q k) o := rfl
theorem pay28_eq : k0_pay28 q (k0_pay24 k) (k0_pay25 v) g = k0_pay5 q k v g := rfl
theorem pay29_eq : k0_pay29 q (k0_pay24 k) (k0_pay25 v) g o = k0_pay6 q (k0_pay4 q k v g) o := rfl
theorem pay30_eq : k0_pay30 q (k0_pay24 k) g o = k0_pay7 g (k0_pay3 q k) o := rfl

end Cert.KernelIdeal.Payload

end
-- ==== Proof.Block.lean ====
/- What one grid point leaves in the two output blocks, head by head: the queries' gradient of its rows, and the keys' and
   values' gradients added to what the block held before. -/
module

public import proofs.«01_k».proof.Proof.Payload
public import Idealize.ShloMosaic.Lib.Pipeline.ValueKit.Tiles

@[expose] public section

set_option maxRecDepth 16384

noncomputable section

namespace Cert.KernelIdeal.Block

open Cert.KernelIdeal Cert.KernelIdeal.Gen Idealize.ShloMosaic Idealize.ShloMosaic.TcCoe
open Cert.Softmax Cert.KernelIdeal.Payload Idealize.ShloMosaic.Tactic

/-- Column `d` of head `h` in a matrix of 512 columns. -/
def col (h : Fin 4) (d : Fin 128) : Fin 512 := ⟨128 * h.val + d.val, by omega⟩

/-- The key column `d` of head `h`; -/
def kcol (h : Fin 4) (d : Fin 128) : Fin 1024 := ⟨128 * h.val + d.val, by omega⟩

/-- the value column. -/
def vcol (h : Fin 4) (d : Fin 128) : Fin 1024 := ⟨512 + 128 * h.val + d.val, by omega⟩

/-- One row's logits against head `h`'s keys. -/
def logits (q : Fin 512 → EReal) (kv : Vec Ideal S256x1024 .f32) (h : Fin 4) (m : Fin 256) : EReal :=
  (∑ d, q (col h d) * kv (ix2 m (kcol h d))) * kap

/-- One row's gradients of head `h`'s probabilities. -/
def dprob (g : Fin 512 → EReal) (kv : Vec Ideal S256x1024 .f32) (h : Fin 4) (m : Fin 256) : EReal :=
  ∑ d, g (col h d) * kv (ix2 m (vcol h d))

/-- One row's contribution to the queries' gradient, -/
def dqRow (q g : Fin 512 → EReal) (kv : Vec Ideal S256x1024 .f32) (h : Fin 4) (d : Fin 128) : EReal :=
  ∑ m : Fin 256, slope (logits q kv h) (dprob g kv h) m * kv (ix2 m (kcol h d))

/-- to the keys' -/
def dkRow (q g : Fin 512 → EReal) (kv : Vec Ideal S256x1024 .f32) (h : Fin 4) (m : Fin 256) (d : Fin 128) : EReal :=
  slope (logits q kv h) (dprob g kv h) m * q (col h d)

/-- and to the values'. -/
def dvRow (q g : Fin 512 → EReal) (kv : Vec Ideal S256x1024 .f32) (h : Fin 4) (m : Fin 256) (d : Fin 128) : EReal :=
  prob (logits q kv h) m * g (col h d)

/-- Row `r` of a block. -/
def row (x : Vec Ideal S512x512 .bf16) (r : Fin 512) : Fin 512 → EReal := fun c => x (ix2 r c)

/-! ## The loads -/

/-- Head `h`'s columns of a block of rows, -/
def cols (x : Vec Ideal S512x512 .bf16) (h : Fin 4) : Vec Ideal S512x128 .bf16 := fun j => x (ix2 (j 0) (col h (j 1)))

/-- its keys, -/
def keys (x : Vec Ideal S256x1024 .f32) (h : Fin 4) : Vec Ideal S256x128 .f32 := fun j => x (ix2 (j 0) (kcol h (j 1)))

/-- its values. -/
def vals (x : Vec Ideal S256x1024 .f32) (h : Fin 4) : Vec Ideal S256x128 .f32 := fun j => x (ix2 (j 0) (vcol h (j 1)))

theorem load_cols (a : Memref sig .tc .vmem S512x512 .bf16) (ha : a.IsWhole) (x : Vec Ideal S512x512 .bf16) (h : Fin 4) (off) (inb)
    (h0 : off = ![0, 128 * h.val]) :
    View.readAt (Elt Ideal) a.view (Rect.unit off ![512, 128] inb).toLoadRect (ha.unread x) = cols x h := by
  subst h0
  rw [View.readAt_eq_ld, ha.read_unread]
  funext j
  show x _ = x _
  congr 1
  funext b; apply Fin.ext
  fin_cases b
  · show 0 + 1 * (j 0 : Nat) = j 0; omega
  · show 128 * h.val + 1 * (j 1 : Nat) = 128 * h.val + j 1; omega

theorem load_keys (a : Memref sig .tc .vmem S256x1024 .f32) (ha : a.IsWhole) (x : Vec Ideal S256x1024 .f32) (h : Fin 4) (off) (inb)
    (h0 : off = ![0, 128 * h.val]) :
    View.readAt (Elt Ideal) a.view (Rect.unit off ![256, 128] inb).toLoadRect (ha.unread x) = keys x h := by
  subst h0
  rw [View.readAt_eq_ld, ha.read_unread]
  funext j
  show x _ = x _
  congr 1
  funext b; apply Fin.ext
  fin_cases b
  · show 0 + 1 * (j 0 : Nat) = j 0; omega
  · show 128 * h.val + 1 * (j 1 : Nat) = 128 * h.val + j 1; omega

theorem load_vals (a : Memref sig .tc .vmem S256x1024 .f32) (ha : a.IsWhole) (x : Vec Ideal S256x1024 .f32) (h : Fin 4) (off) (inb)
    (h0 : off = ![0, 512 + 128 * h.val]) :
    View.readAt (Elt Ideal) a.view (Rect.unit off ![256, 128] inb).toLoadRect (ha.unread x) = vals x h := by
  subst h0
  rw [View.readAt_eq_ld, ha.read_unread]
  funext j
  show x _ = x _
  congr 1
  funext b; apply Fin.ext
  fin_cases b
  · show 0 + 1 * (j 0 : Nat) = j 0; omega
  · show 512 + 128 * h.val + 1 * (j 1 : Nat) = 512 + 128 * h.val + j 1; omega

/-! ## The stores, one tile each -/

variable (x0 : Vec Ideal S512x512 .bf16) (x1 : Vec Ideal S256x1024 .f32) (x2 : Vec Ideal S512x512 .bf16)
variable {q g : Vec Ideal S512x128 .bf16} {k v : Vec Ideal S256x128 .f32}

theorem tile_q (h h' : Fin 4) (r : Fin 512) (d : Fin 128) (w : Vec Ideal S512x128 .bf16) (hq : q = cols x0 h') (hk : k = keys x1 h')
    (hv : v = vals x1 h') (hg : g = cols x2 h') (hw : w = k0_pay5 q k v g) (off) (h0 : off = ![0, 128 * h'.val]) :
    View.TileAt (S := S512x512) (ix2 r (col h d)) off ![512, 128] w (dqRow (row x0 r) (row x2 r) x1 h d) := by
  intro x hx
  subst h0
  have e0 : r.val = 0 + (x 0 : Nat) := hx 0
  have e1 : 128 * h.val + d.val = 128 * h'.val + (x 1 : Nat) := hx 1
  have l1 : (x 1 : Nat) < 128 := (x 1).isLt
  have eh : h = h' := by apply Fin.ext; omega
  subst eh
  have er : x 0 = r := by apply Fin.ext; omega
  have ed : x 1 = d := by apply Fin.ext; omega
  rw [hw, pay5_apply, er, ed, hq, hk, hv, hg]
  rfl

theorem tile_k (h h' : Fin 4) (m : Fin 256) (d : Fin 128) (w o : Vec Ideal S256x128 .f32) (hq : q = cols x0 h') (hk : k = keys x1 h')
    (hv : v = vals x1 h') (hg : g = cols x2 h') (xo : Vec Ideal S256x1024 .f32) (ho : o = keys xo h')
    (hw : w = k0_pay6 q (k0_pay4 q k v g) o) (off) (h0 : off = ![0, 128 * h'.val]) :
    View.TileAt (S := S256x1024) (ix2 m (kcol h d)) off ![256, 128] w
      (xo (ix2 m (kcol h d)) + ∑ r, dkRow (row x0 r) (row x2 r) x1 h m d) := by
  intro x hx
  subst h0
  have e0 : m.val = 0 + (x 0 : Nat) := hx 0
  have e1 : 128 * h.val + d.val = 128 * h'.val + (x 1 : Nat) := hx 1
  have l1 : (x 1 : Nat) < 128 := (x 1).isLt
  have eh : h = h' := by apply Fin.ext; omega
  subst eh
  have ex : x = ix2 m d := by
    funext b; apply Fin.ext
    fin_cases b
    · show (x 0 : Nat) = m.val; omega
    · show (x 1 : Nat) = d.val; omega
  subst ex
  rw [hw, pay6_apply, hq, hk, hv, hg, ho]
  rfl

theorem tile_v (h h' : Fin 4) (m : Fin 256) (d : Fin 128) (w o : Vec Ideal S256x128 .f32) (hq : q = cols x0 h') (hk : k = keys x1 h')
    (hg : g = cols x2 h') (xo : Vec Ideal S256x1024 .f32) (ho : o = vals xo h')
    (hw : w = k0_pay7 g (k0_pay3 q k) o) (off) (h0 : off = ![0, 512 + 128 * h'.val]) :
    View.TileAt (S := S256x1024) (ix2 m (vcol h d)) off ![256, 128] w
      (xo (ix2 m (vcol h d)) + ∑ r, dvRow (row x0 r) (row x2 r) x1 h m d) := by
  intro x hx
  subst h0
  have e0 : m.val = 0 + (x 0 : Nat) := hx 0
  have e1 : 512 + 128 * h.val + d.val = 512 + 128 * h'.val + (x 1 : Nat) := hx 1
  have l1 : (x 1 : Nat) < 128 := (x 1).isLt
  have eh : h = h' := by apply Fin.ext; omega
  subst eh
  have ex : x = ix2 m d := by
    funext b; apply Fin.ext
    fin_cases b
    · show (x 0 : Nat) = m.val; omega
    · show (x 1 : Nat) = d.val; omega
  subst ex
  rw [hw, pay7_apply, hq, hk, hg, ho]
  rfl

/-- A tile of columns that do not hold `y`'s. -/
theorem tile_off (y : S256x1024.Idx) (c : Nat) (w : Vec Ideal S256x128 .f32) (v : EReal) (off) (h0 : off = ![0, c])
    (hy : (y 1 : Nat) < c ∨ c + 128 ≤ (y 1 : Nat)) : View.TileAt (Val := Elt Ideal) (e := .f32) y off ![256, 128] w v := by
  intro x hx
  subst h0
  have e1 : (y 1 : Nat) = c + (x 1 : Nat) := hx 1
  have l1 : (x 1 : Nat) < 128 := (x 1).isLt
  omega

/-! ## A later point: the blocks, the second added to -/

variable (c : Dev nD) (i : grid0.Coords) (arg1 : Memref sig .tc .vmem S512x512 .bf16) (harg1 : arg1.IsWhole) (arg2 : Memref sig .tc .vmem S256x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S256x1024 .f32) (harg5 : arg5.IsWhole)

theorem out_B_3 (hc0) (xo : Vec Ideal S256x1024 .f32) (r : Fin 512) (h : Fin 4) (d : Fin 128) :
    out0_B_3 c i arg1 harg1 arg2 harg2 arg3 harg3 arg4 harg4 arg5 harg5 hc0 x0 x1 x2 xo (ix2 r (col h d))
      = dqRow (row x0 r) (row x2 r) x1 h d := by
  unfold out0_B_3
  rw [View.read_writes_eq_canon _ _ _ (cover0_B_3 c i arg1 harg1 arg2 harg2 arg3 harg3 arg4 harg4 arg5 harg5 hc0 x0 x1 x2 xo)]
  refine View.canon_eq_of_allAt _ _ _ (cover0_B_3 c i arg1 harg1 arg2 harg2 arg3 harg3 arg4 harg4 arg5 harg5 hc0 x0 x1 x2 xo _) ?_
  unfold kernelRun0_B; dsimp only
  refine View.allAt_cons_unit _ _ _ _ _ (tile_q x0 x1 x2 h 3 r d _ (load_cols arg1 harg1 x0 3 _ inb_S512x512_S512x128_0_384 rfl)
    (load_keys arg2 harg2 x1 3 _ inb_S256x1024_S256x128_0_384 rfl) (load_vals arg2 harg2 x1 3 _ inb_S256x1024_S256x128_0_896 rfl)
    (load_cols arg3 harg3 x2 3 _ inb_S512x512_S512x128_0_384 rfl) (by rfl) _ rfl) ?_
  refine View.allAt_cons_unit _ _ _ _ _ (tile_q x0 x1 x2 h 2 r d _ (load_cols arg1 harg1 x0 2 _ inb_S512x512_S512x128_0_256 rfl)
    (load_keys arg2 harg2 x1 2 _ inb_S256x1024_S256x128_0_256 rfl) (load_vals arg2 harg2 x1 2 _ inb_S256x1024_S256x128_0_768 rfl)
    (load_cols arg3 harg3 x2 2 _ inb_S512x512_S512x128_0_256 rfl) (by rfl) _ rfl) ?_
  refine View.allAt_cons_unit _ _ _ _ _ (tile_q x0 x1 x2 h 1 r d _ (load_cols arg1 harg1 x0 1 _ inb_S512x512_S512x128_0_128 rfl)
    (load_keys arg2 harg2 x1 1 _ inb_S256x1024_S256x128_0_128 rfl) (load_vals arg2 harg2 x1 1 _ inb_S256x1024_S256x128_0_640 rfl)
    (load_cols arg3 harg3 x2 1 _ inb_S512x512_S512x128_0_128 rfl) (by rfl) _ rfl) ?_
  refine View.allAt_cons_unit _ _ _ _ _ (tile_q x0 x1 x2 h 0 r d _ (load_cols arg1 harg1 x0 0 _ inb_S512x512_S512x128_0_0 rfl)
    (load_keys arg2 harg2 x1 0 _ inb_S256x1024_S256x128_0_0 rfl) (load_vals arg2 harg2 x1 0 _ inb_S256x1024_S256x128_0_512 rfl)
    (load_cols arg3 harg3 x2 0 _ inb_S512x512_S512x128_0_0 rfl) (by rfl) _ rfl) (View.allAt_nil _ _)

theorem out_B_4k (hc0) (xo : Vec Ideal S256x1024 .f32) (m : Fin 256) (h : Fin 4) (d : Fin 128) :
    out0_B_4 c i arg1 harg1 arg2 harg2 arg3 harg3 arg4 harg4 arg5 harg5 hc0 x0 x1 x2 xo (ix2 m (kcol h d))
      = xo (ix2 m (kcol h d)) + ∑ r, dkRow (row x0 r) (row x2 r) x1 h m d := by
  unfold out0_B_4
  rw [View.read_writes_eq_canon _ _ _ (cover0_B_4 c i arg1 harg1 arg2 harg2 arg3 harg3 arg4 harg4 arg5 harg5 hc0 x0 x1 x2 xo)]
  refine View.canon_eq_of_allAt _ _ _ (cover0_B_4 c i arg1 harg1 arg2 harg2 arg3 harg3 arg4 harg4 arg5 harg5 hc0 x0 x1 x2 xo _) ?_
  unfold kernelRun0_B; dsimp only
  refine View.allAt_cons_unit _ _ _ _ _ (tile_off _ 896 _ _ _ rfl (Or.inl (by show 128 * h.val + d.val < _; omega))) ?_
  refine View.allAt_cons_unit _ _ _ _ _ (tile_k x0 x1 x2 h 3 m d _ _ (load_cols arg1 harg1 x0 3 _ inb_S512x512_S512x128_0_384 rfl) (load_keys arg2 harg2 x1 3 _ inb_S256x1024_S256x128_0_384 rfl)
    (load_vals arg2 harg2 x1 3 _ inb_S256x1024_S256x128_0_896 rfl) (load_cols arg3 harg3 x2 3 _ inb_S512x512_S512x128_0_384 rfl) xo (load_keys arg5 harg5 xo 3 _ inb_S256x1024_S256x128_0_384 rfl) (by rfl) _ rfl) ?_
  refine View.allAt_cons_unit _ _ _ _ _ (tile_off _ 768 _ _ _ rfl (Or.inl (by show 128 * h.val + d.val < _; omega))) ?_
  refine View.allAt_cons_unit _ _ _ _ _ (tile_k x0 x1 x2 h 2 m d _ _ (load_cols arg1 harg1 x0 2 _ inb_S512x512_S512x128_0_256 rfl) (load_keys arg2 harg2 x1 2 _ inb_S256x1024_S256x128_0_256 rfl)
    (load_vals arg2 harg2 x1 2 _ inb_S256x1024_S256x128_0_768 rfl) (load_cols arg3 harg3 x2 2 _ inb_S512x512_S512x128_0_256 rfl) xo (load_keys arg5 harg5 xo 2 _ inb_S256x1024_S256x128_0_256 rfl) (by rfl) _ rfl) ?_
  refine View.allAt_cons_unit _ _ _ _ _ (tile_off _ 640 _ _ _ rfl (Or.inl (by show 128 * h.val + d.val < _; omega))) ?_
  refine View.allAt_cons_unit _ _ _ _ _ (tile_k x0 x1 x2 h 1 m d _ _ (load_cols arg1 harg1 x0 1 _ inb_S512x512_S512x128_0_128 rfl) (load_keys arg2 harg2 x1 1 _ inb_S256x1024_S256x128_0_128 rfl)
    (load_vals arg2 harg2 x1 1 _ inb_S256x1024_S256x128_0_640 rfl) (load_cols arg3 harg3 x2 1 _ inb_S512x512_S512x128_0_128 rfl) xo (load_keys arg5 harg5 xo 1 _ inb_S256x1024_S256x128_0_128 rfl) (by rfl) _ rfl) ?_
  refine View.allAt_cons_unit _ _ _ _ _ (tile_off _ 512 _ _ _ rfl (Or.inl (by show 128 * h.val + d.val < _; omega))) ?_
  refine View.allAt_cons_unit _ _ _ _ _ (tile_k x0 x1 x2 h 0 m d _ _ (load_cols arg1 harg1 x0 0 _ inb_S512x512_S512x128_0_0 rfl) (load_keys arg2 harg2 x1 0 _ inb_S256x1024_S256x128_0_0 rfl)
    (load_vals arg2 harg2 x1 0 _ inb_S256x1024_S256x128_0_512 rfl) (load_cols arg3 harg3 x2 0 _ inb_S512x512_S512x128_0_0 rfl) xo (load_keys arg5 harg5 xo 0 _ inb_S256x1024_S256x128_0_0 rfl) (by rfl) _ rfl) ?_
  exact View.allAt_nil _ _

theorem out_B_4v (hc0) (xo : Vec Ideal S256x1024 .f32) (m : Fin 256) (h : Fin 4) (d : Fin 128) :
    out0_B_4 c i arg1 harg1 arg2 harg2 arg3 harg3 arg4 harg4 arg5 harg5 hc0 x0 x1 x2 xo (ix2 m (vcol h d))
      = xo (ix2 m (vcol h d)) + ∑ r, dvRow (row x0 r) (row x2 r) x1 h m d := by
  unfold out0_B_4
  rw [View.read_writes_eq_canon _ _ _ (cover0_B_4 c i arg1 harg1 arg2 harg2 arg3 harg3 arg4 harg4 arg5 harg5 hc0 x0 x1 x2 xo)]
  refine View.canon_eq_of_allAt _ _ _ (cover0_B_4 c i arg1 harg1 arg2 harg2 arg3 harg3 arg4 harg4 arg5 harg5 hc0 x0 x1 x2 xo _) ?_
  unfold kernelRun0_B; dsimp only
  refine View.allAt_cons_unit _ _ _ _ _ (tile_v x0 x1 x2 h 3 m d _ _ (load_cols arg1 harg1 x0 3 _ inb_S512x512_S512x128_0_384 rfl) (load_keys arg2 harg2 x1 3 _ inb_S256x1024_S256x128_0_384 rfl)
    (load_cols arg3 harg3 x2 3 _ inb_S512x512_S512x128_0_384 rfl) xo (load_vals arg5 harg5 xo 3 _ inb_S256x1024_S256x128_0_896 rfl) (by rfl) _ rfl) ?_
  refine View.allAt_cons_unit _ _ _ _ _ (tile_off _ 384 _ _ _ rfl (Or.inr (by show 512 ≤ 512 + 128 * h.val + d.val; omega))) ?_
  refine View.allAt_cons_unit _ _ _ _ _ (tile_v x0 x1 x2 h 2 m d _ _ (load_cols arg1 harg1 x0 2 _ inb_S512x512_S512x128_0_256 rfl) (load_keys arg2 harg2 x1 2 _ inb_S256x1024_S256x128_0_256 rfl)
    (load_cols arg3 harg3 x2 2 _ inb_S512x512_S512x128_0_256 rfl) xo (load_vals arg5 harg5 xo 2 _ inb_S256x1024_S256x128_0_768 rfl) (by rfl) _ rfl) ?_
  refine View.allAt_cons_unit _ _ _ _ _ (tile_off _ 256 _ _ _ rfl (Or.inr (by show 384 ≤ 512 + 128 * h.val + d.val; omega))) ?_
  refine View.allAt_cons_unit _ _ _ _ _ (tile_v x0 x1 x2 h 1 m d _ _ (load_cols arg1 harg1 x0 1 _ inb_S512x512_S512x128_0_128 rfl) (load_keys arg2 harg2 x1 1 _ inb_S256x1024_S256x128_0_128 rfl)
    (load_cols arg3 harg3 x2 1 _ inb_S512x512_S512x128_0_128 rfl) xo (load_vals arg5 harg5 xo 1 _ inb_S256x1024_S256x128_0_640 rfl) (by rfl) _ rfl) ?_
  refine View.allAt_cons_unit _ _ _ _ _ (tile_off _ 128 _ _ _ rfl (Or.inr (by show 256 ≤ 512 + 128 * h.val + d.val; omega))) ?_
  refine View.allAt_cons_unit _ _ _ _ _ (tile_v x0 x1 x2 h 0 m d _ _ (load_cols arg1 harg1 x0 0 _ inb_S512x512_S512x128_0_0 rfl) (load_keys arg2 harg2 x1 0 _ inb_S256x1024_S256x128_0_0 rfl)
    (load_cols arg3 harg3 x2 0 _ inb_S512x512_S512x128_0_0 rfl) xo (load_vals arg5 harg5 xo 0 _ inb_S256x1024_S256x128_0_512 rfl) (by rfl) _ rfl) ?_
  refine View.allAt_cons_unit _ _ _ _ _ (tile_off _ 0 _ _ _ rfl (Or.inr (by show 128 ≤ 512 + 128 * h.val + d.val; omega))) ?_
  exact View.allAt_nil _ _

/-! ## The first point: the blocks, the second from zero -/

theorem out_A_3 (hc0) (r : Fin 512) (h : Fin 4) (d : Fin 128) :
    out0_A_3 c i arg1 harg1 arg2 harg2 arg3 harg3 arg4 harg4 arg5 harg5 hc0 x0 x1 x2 (ix2 r (col h d))
      = dqRow (row x0 r) (row x2 r) x1 h d := by
  unfold out0_A_3
  rw [View.read_writes_eq_canon _ _ _ (cover0_A_3 c i arg1 harg1 arg2 harg2 arg3 harg3 arg4 harg4 arg5 harg5 hc0 x0 x1 x2)]
  refine View.canon_eq_of_allAt _ _ _ (cover0_A_3 c i arg1 harg1 arg2 harg2 arg3 harg3 arg4 harg4 arg5 harg5 hc0 x0 x1 x2 _) ?_
  unfold kernelRun0_A; dsimp only
  refine View.allAt_cons_unit _ _ _ _ _ (tile_q x0 x1 x2 h 3 r d _ (load_cols arg1 harg1 x0 3 _ inb_S512x512_S512x128_0_384 rfl)
    (load_keys arg2 harg2 x1 3 _ inb_S256x1024_S256x128_0_384 rfl) (load_vals arg2 harg2 x1 3 _ inb_S256x1024_S256x128_0_896 rfl)
    (load_cols arg3 harg3 x2 3 _ inb_S512x512_S512x128_0_384 rfl) (by rfl) _ rfl) ?_
  refine View.allAt_cons_unit _ _ _ _ _ (tile_q x0 x1 x2 h 2 r d _ (load_cols arg1 harg1 x0 2 _ inb_S512x512_S512x128_0_256 rfl)
    (load_keys arg2 harg2 x1 2 _ inb_S256x1024_S256x128_0_256 rfl) (load_vals arg2 harg2 x1 2 _ inb_S256x1024_S256x128_0_768 rfl)
    (load_cols arg3 harg3 x2 2 _ inb_S512x512_S512x128_0_256 rfl) (by rfl) _ rfl) ?_
  refine View.allAt_cons_unit _ _ _ _ _ (tile_q x0 x1 x2 h 1 r d _ (load_cols arg1 harg1 x0 1 _ inb_S512x512_S512x128_0_128 rfl)
    (load_keys arg2 harg2 x1 1 _ inb_S256x1024_S256x128_0_128 rfl) (load_vals arg2 harg2 x1 1 _ inb_S256x1024_S256x128_0_640 rfl)
    (load_cols arg3 harg3 x2 1 _ inb_S512x512_S512x128_0_128 rfl) (by rfl) _ rfl) ?_
  refine View.allAt_cons_unit _ _ _ _ _ (tile_q x0 x1 x2 h 0 r d _ (load_cols arg1 harg1 x0 0 _ inb_S512x512_S512x128_0_0 rfl)
    (load_keys arg2 harg2 x1 0 _ inb_S256x1024_S256x128_0_0 rfl) (load_vals arg2 harg2 x1 0 _ inb_S256x1024_S256x128_0_512 rfl)
    (load_cols arg3 harg3 x2 0 _ inb_S512x512_S512x128_0_0 rfl) (by rfl) _ rfl) (View.allAt_nil _ _)

/-- Pieces written over earlier ones: the last `n` alone decide where they cover. -/
theorem canon_first (L : List (View.Piece (Elt Ideal) S256x1024 .f32)) (n : Nat) (y : S256x1024.Idx) (v : EReal)
    (hc : ∃ p ∈ L.take n, y ∈ p.1.set) (h : View.AllAt (L.take n) y v) : View.canon L y = v := by
  induction L generalizing n with
  | nil => obtain ⟨p, hp, _⟩ := hc; rw [List.take_nil] at hp; exact absurd hp List.not_mem_nil
  | cons p L ih =>
    cases n with
    | zero => obtain ⟨p, hp, _⟩ := hc; exact absurd hp List.not_mem_nil
    | succ n =>
      rw [List.take_succ_cons] at hc h
      by_cases hm : y ∈ p.1.set
      · obtain ⟨x, rfl⟩ := p.1.exists_idx_of_mem hm
        rw [show p.1.idx x = p.1.emb x from rfl, View.canon_cons_emb]
        exact h p List.mem_cons_self x rfl
      · rw [View.canon_cons_of_not_mem _ _ hm]
        refine ih n ?_ fun q hq => h q (List.mem_cons_of_mem _ hq)
        obtain ⟨q, hq, hyq⟩ := hc
        rcases List.mem_cons.mp hq with rfl | hq
        · exact absurd hyq hm
        · exact ⟨q, hq, hyq⟩

/-- Wherever the block's columns from `c` on were last filled, they hold zero. -/
def Zero (L : List (View.Piece (Elt Ideal) S256x1024 .f32)) (c : Nat) : Prop :=
  ∀ y : S256x1024.Idx, c ≤ (y 1 : Nat) → (y 1 : Nat) < c + 128 → View.canon L y = (0 : EReal)

theorem Zero.fill (c : Nat) (inb) : Zero [(⟨Rect.unit ![0, 0] ![256, 1024] inb, k0_pay1 (F := Ideal)⟩ : View.Piece (Elt Ideal) S256x1024 .f32)] c := by
  intro y _ _
  refine View.canon_eq_of_allAt _ _ _ ⟨_, List.mem_cons_self, ?_⟩ (View.allAt_cons_unit _ _ _ _ _ (fun x _ => ?_) (View.allAt_nil _ _))
  · rw [Rect.mem_set_unit]
    intro a
    fin_cases a
    · exact ⟨Nat.zero_le _, by have := (y 0).isLt; show (y 0 : Nat) < 0 + 256; exact (Nat.zero_add 256).symm ▸ this⟩
    · exact ⟨Nat.zero_le _, by have := (y 1).isLt; show (y 1 : Nat) < 0 + 1024; exact (Nat.zero_add 1024).symm ▸ this⟩
  · show Ideal.ofBits .f32 0#32 = 0
    simp [Ideal.ofBits, Ideal.ieee]

theorem Zero.cons {L : List (View.Piece (Elt Ideal) S256x1024 .f32)} {c : Nat} (h : Zero L c) (c' : Nat) (off) (inb)
    (w : Vec Ideal S256x128 .f32) (h0 : off = ![0, c']) (hc : c + 128 ≤ c' ∨ c' + 128 ≤ c) :
    Zero ((⟨Rect.unit off ![256, 128] inb, w⟩ : View.Piece (Elt Ideal) S256x1024 .f32) :: L) c := by
  subst h0
  intro y h1 h2
  rw [View.canon_cons_of_not_mem, h y h1 h2]
  rw [Rect.mem_set_unit]
  intro hm
  have h3 : c' ≤ (y 1 : Nat) ∧ (y 1 : Nat) < c' + 128 := hm 1
  omega

theorem Zero.keys {L : List (View.Piece (Elt Ideal) S256x1024 .f32)} (h : Fin 4) (hz : Zero L (128 * h.val))
    (a : Memref sig .tc .vmem S256x1024 .f32) (off) (inb) (h0 : off = ![0, 128 * h.val]) :
    a.view.readCov L (Rect.unit off ![256, 128] inb).toLoadRect = Block.keys (fun _ => 0) h := by
  subst h0
  rw [View.readCov_eq_canon']
  funext j
  have l1 : (j 1 : Nat) < 128 := (j 1).isLt
  refine hz _ ?_ ?_
  · show 128 * h.val ≤ 128 * h.val + 1 * (j 1 : Nat); omega
  · show 128 * h.val + 1 * (j 1 : Nat) < 128 * h.val + 128; omega

theorem Zero.vals {L : List (View.Piece (Elt Ideal) S256x1024 .f32)} (h : Fin 4) (hz : Zero L (512 + 128 * h.val))
    (a : Memref sig .tc .vmem S256x1024 .f32) (off) (inb) (h0 : off = ![0, 512 + 128 * h.val]) :
    a.view.readCov L (Rect.unit off ![256, 128] inb).toLoadRect = Block.vals (fun _ => 0) h := by
  subst h0
  rw [View.readCov_eq_canon']
  funext j
  have l1 : (j 1 : Nat) < 128 := (j 1).isLt
  refine hz _ ?_ ?_
  · show 512 + 128 * h.val ≤ 512 + 128 * h.val + 1 * (j 1 : Nat); omega
  · show 512 + 128 * h.val + 1 * (j 1 : Nat) < 512 + 128 * h.val + 128; omega

theorem out_A_4k (hc0) (m : Fin 256) (h : Fin 4) (d : Fin 128) :
    out0_A_4 c i arg1 harg1 arg2 harg2 arg3 harg3 arg4 harg4 arg5 harg5 hc0 x0 x1 x2 (ix2 m (kcol h d))
      = 0 + ∑ r, dkRow (row x0 r) (row x2 r) x1 h m d := by
  unfold out0_A_4
  rw [View.read_writes_eq_canon _ _ _ (cover0_A_4 c i arg1 harg1 arg2 harg2 arg3 harg3 arg4 harg4 arg5 harg5 hc0 x0 x1 x2)]
  refine canon_first _ 8 _ _ (View.cover_of_tiledL ((kernelRun0_A c i arg1 harg1 arg2 harg2 arg3 harg3 arg4 harg4 arg5 harg5 hc0 x0 x1 x2).2.1.take 8) S256x128.size (by sl_kernel_rfl) _) ?_
  unfold kernelRun0_A; dsimp only
  refine View.allAt_cons_unit _ _ _ _ _ (tile_off _ 896 _ _ _ rfl (Or.inl (by show 128 * h.val + d.val < _; omega))) ?_
  refine View.allAt_cons_unit _ _ _ _ _ (tile_k x0 x1 x2 h 3 m d _ _ (load_cols arg1 harg1 x0 3 _ inb_S512x512_S512x128_0_384 rfl) (load_keys arg2 harg2 x1 3 _ inb_S256x1024_S256x128_0_384 rfl)
    (load_vals arg2 harg2 x1 3 _ inb_S256x1024_S256x128_0_896 rfl) (load_cols arg3 harg3 x2 3 _ inb_S512x512_S512x128_0_384 rfl) (fun _ => 0) (Zero.keys 3 (((((((Zero.fill 384 inb_S256x1024_S256x1024_0_0).cons 0 _ inb_S256x1024_S256x128_0_0 _ rfl (by omega)).cons 512 _ inb_S256x1024_S256x128_0_512 _ rfl (by omega)).cons 128 _ inb_S256x1024_S256x128_0_128 _ rfl (by omega)).cons 640 _ inb_S256x1024_S256x128_0_640 _ rfl (by omega)).cons 256 _ inb_S256x1024_S256x128_0_256 _ rfl (by omega)).cons 768 _ inb_S256x1024_S256x128_0_768 _ rfl (by omega)) arg5 _ inb_S256x1024_S256x128_0_384 rfl) (by rfl) _ rfl) ?_
  refine View.allAt_cons_unit _ _ _ _ _ (tile_off _ 768 _ _ _ rfl (Or.inl (by show 128 * h.val + d.val < _; omega))) ?_
  refine View.allAt_cons_unit _ _ _ _ _ (tile_k x0 x1 x2 h 2 m d _ _ (load_cols arg1 harg1 x0 2 _ inb_S512x512_S512x128_0_256 rfl) (load_keys arg2 harg2 x1 2 _ inb_S256x1024_S256x128_0_256 rfl)
    (load_vals arg2 harg2 x1 2 _ inb_S256x1024_S256x128_0_768 rfl) (load_cols arg3 harg3 x2 2 _ inb_S512x512_S512x128_0_256 rfl) (fun _ => 0) (Zero.keys 2 (((((Zero.fill 256 inb_S256x1024_S256x1024_0_0).cons 0 _ inb_S256x1024_S256x128_0_0 _ rfl (by omega)).cons 512 _ inb_S256x1024_S256x128_0_512 _ rfl (by omega)).cons 128 _ inb_S256x1024_S256x128_0_128 _ rfl (by omega)).cons 640 _ inb_S256x1024_S256x128_0_640 _ rfl (by omega)) arg5 _ inb_S256x1024_S256x128_0_256 rfl) (by rfl) _ rfl) ?_
  refine View.allAt_cons_unit _ _ _ _ _ (tile_off _ 640 _ _ _ rfl (Or.inl (by show 128 * h.val + d.val < _; omega))) ?_
  refine View.allAt_cons_unit _ _ _ _ _ (tile_k x0 x1 x2 h 1 m d _ _ (load_cols arg1 harg1 x0 1 _ inb_S512x512_S512x128_0_128 rfl) (load_keys arg2 harg2 x1 1 _ inb_S256x1024_S256x128_0_128 rfl)
    (load_vals arg2 harg2 x1 1 _ inb_S256x1024_S256x128_0_640 rfl) (load_cols arg3 harg3 x2 1 _ inb_S512x512_S512x128_0_128 rfl) (fun _ => 0) (Zero.keys 1 (((Zero.fill 128 inb_S256x1024_S256x1024_0_0).cons 0 _ inb_S256x1024_S256x128_0_0 _ rfl (by omega)).cons 512 _ inb_S256x1024_S256x128_0_512 _ rfl (by omega)) arg5 _ inb_S256x1024_S256x128_0_128 rfl) (by rfl) _ rfl) ?_
  refine View.allAt_cons_unit _ _ _ _ _ (tile_off _ 512 _ _ _ rfl (Or.inl (by show 128 * h.val + d.val < _; omega))) ?_
  refine View.allAt_cons_unit _ _ _ _ _ (tile_k x0 x1 x2 h 0 m d _ _ (load_cols arg1 harg1 x0 0 _ inb_S512x512_S512x128_0_0 rfl) (load_keys arg2 harg2 x1 0 _ inb_S256x1024_S256x128_0_0 rfl)
    (load_vals arg2 harg2 x1 0 _ inb_S256x1024_S256x128_0_512 rfl) (load_cols arg3 harg3 x2 0 _ inb_S512x512_S512x128_0_0 rfl) (fun _ => 0) (Zero.keys 0 (Zero.fill 0 inb_S256x1024_S256x1024_0_0) arg5 _ inb_S256x1024_S256x128_0_0 rfl) (by rfl) _ rfl) ?_
  exact View.allAt_nil _ _

theorem out_A_4v (hc0) (m : Fin 256) (h : Fin 4) (d : Fin 128) :
    out0_A_4 c i arg1 harg1 arg2 harg2 arg3 harg3 arg4 harg4 arg5 harg5 hc0 x0 x1 x2 (ix2 m (vcol h d))
      = 0 + ∑ r, dvRow (row x0 r) (row x2 r) x1 h m d := by
  unfold out0_A_4
  rw [View.read_writes_eq_canon _ _ _ (cover0_A_4 c i arg1 harg1 arg2 harg2 arg3 harg3 arg4 harg4 arg5 harg5 hc0 x0 x1 x2)]
  refine canon_first _ 8 _ _ (View.cover_of_tiledL ((kernelRun0_A c i arg1 harg1 arg2 harg2 arg3 harg3 arg4 harg4 arg5 harg5 hc0 x0 x1 x2).2.1.take 8) S256x128.size (by sl_kernel_rfl) _) ?_
  unfold kernelRun0_A; dsimp only
  refine View.allAt_cons_unit _ _ _ _ _ (tile_v x0 x1 x2 h 3 m d _ _ (load_cols arg1 harg1 x0 3 _ inb_S512x512_S512x128_0_384 rfl) (load_keys arg2 harg2 x1 3 _ inb_S256x1024_S256x128_0_384 rfl)
    (load_cols arg3 harg3 x2 3 _ inb_S512x512_S512x128_0_384 rfl) (fun _ => 0) (Zero.vals 3 ((((((((Zero.fill 896 inb_S256x1024_S256x1024_0_0).cons 0 _ inb_S256x1024_S256x128_0_0 _ rfl (by omega)).cons 512 _ inb_S256x1024_S256x128_0_512 _ rfl (by omega)).cons 128 _ inb_S256x1024_S256x128_0_128 _ rfl (by omega)).cons 640 _ inb_S256x1024_S256x128_0_640 _ rfl (by omega)).cons 256 _ inb_S256x1024_S256x128_0_256 _ rfl (by omega)).cons 768 _ inb_S256x1024_S256x128_0_768 _ rfl (by omega)).cons 384 _ inb_S256x1024_S256x128_0_384 _ rfl (by omega)) arg5 _ inb_S256x1024_S256x128_0_896 rfl) (by rfl) _ rfl) ?_
  refine View.allAt_cons_unit _ _ _ _ _ (tile_off _ 384 _ _ _ rfl (Or.inr (by show 512 ≤ 512 + 128 * h.val + d.val; omega))) ?_
  refine View.allAt_cons_unit _ _ _ _ _ (tile_v x0 x1 x2 h 2 m d _ _ (load_cols arg1 harg1 x0 2 _ inb_S512x512_S512x128_0_256 rfl) (load_keys arg2 harg2 x1 2 _ inb_S256x1024_S256x128_0_256 rfl)
    (load_cols arg3 harg3 x2 2 _ inb_S512x512_S512x128_0_256 rfl) (fun _ => 0) (Zero.vals 2 ((((((Zero.fill 768 inb_S256x1024_S256x1024_0_0).cons 0 _ inb_S256x1024_S256x128_0_0 _ rfl (by omega)).cons 512 _ inb_S256x1024_S256x128_0_512 _ rfl (by omega)).cons 128 _ inb_S256x1024_S256x128_0_128 _ rfl (by omega)).cons 640 _ inb_S256x1024_S256x128_0_640 _ rfl (by omega)).cons 256 _ inb_S256x1024_S256x128_0_256 _ rfl (by omega)) arg5 _ inb_S256x1024_S256x128_0_768 rfl) (by rfl) _ rfl) ?_
  refine View.allAt_cons_unit _ _ _ _ _ (tile_off _ 256 _ _ _ rfl (Or.inr (by show 384 ≤ 512 + 128 * h.val + d.val; omega))) ?_
  refine View.allAt_cons_unit _ _ _ _ _ (tile_v x0 x1 x2 h 1 m d _ _ (load_cols arg1 harg1 x0 1 _ inb_S512x512_S512x128_0_128 rfl) (load_keys arg2 harg2 x1 1 _ inb_S256x1024_S256x128_0_128 rfl)
    (load_cols arg3 harg3 x2 1 _ inb_S512x512_S512x128_0_128 rfl) (fun _ => 0) (Zero.vals 1 ((((Zero.fill 640 inb_S256x1024_S256x1024_0_0).cons 0 _ inb_S256x1024_S256x128_0_0 _ rfl (by omega)).cons 512 _ inb_S256x1024_S256x128_0_512 _ rfl (by omega)).cons 128 _ inb_S256x1024_S256x128_0_128 _ rfl (by omega)) arg5 _ inb_S256x1024_S256x128_0_640 rfl) (by rfl) _ rfl) ?_
  refine View.allAt_cons_unit _ _ _ _ _ (tile_off _ 128 _ _ _ rfl (Or.inr (by show 256 ≤ 512 + 128 * h.val + d.val; omega))) ?_
  refine View.allAt_cons_unit _ _ _ _ _ (tile_v x0 x1 x2 h 0 m d _ _ (load_cols arg1 harg1 x0 0 _ inb_S512x512_S512x128_0_0 rfl) (load_keys arg2 harg2 x1 0 _ inb_S256x1024_S256x128_0_0 rfl)
    (load_cols arg3 harg3 x2 0 _ inb_S512x512_S512x128_0_0 rfl) (fun _ => 0) (Zero.vals 0 ((Zero.fill 512 inb_S256x1024_S256x1024_0_0).cons 0 _ inb_S256x1024_S256x128_0_0 _ rfl (by omega)) arg5 _ inb_S256x1024_S256x128_0_512 rfl) (by rfl) _ rfl) ?_
  refine View.allAt_cons_unit _ _ _ _ _ (tile_off _ 0 _ _ _ rfl (Or.inr (by show 128 ≤ 512 + 128 * h.val + d.val; omega))) ?_
  exact View.allAt_nil _ _

end Cert.KernelIdeal.Block

end
-- ==== Proof.Array.lean ====
/- The two arrays after the kernel's run: the queries' gradient row by row, and the keys' and values' gradients summed over
   all 8192 rows. -/
module

public import proofs.«01_k».proof.Proof.Block
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe
open Cert.Softmax Cert.KernelIdeal.Payload Idealize.ShloMosaic.Tactic

variable (m : (ℓ : Loc nD τ sig) → Buf (Elt Ideal) ℓ) (c : Dev nD)

/-- The first argument, -/
abbrev proj : Vec Ideal S8192x3584 .bf16 := m ((c : Thread nD τ).loc main_arg0)
/-- the second -/
abbrev mem : Vec Ideal S256x1024 .f32 := m ((c : Thread nD τ).loc main_arg1)
/-- and the third. -/
abbrev dcat : Vec Ideal S8192x2048 .bf16 := m ((c : Thread nD τ).loc main_arg2)

/-- The queries' row `s`: the last 512 columns of the first argument. -/
def qrow (x : Vec Ideal S8192x3584 .bf16) (s : Fin 8192) : Fin 512 → EReal := fun j => x (ix2 s ⟨3072 + j.val, by omega⟩)

/-- The outputs' gradient's row `s`: the last 512 columns of the third argument. -/
def grow (x : Vec Ideal S8192x2048 .bf16) (s : Fin 8192) : Fin 512 → EReal := fun j => x (ix2 s ⟨1536 + j.val, by omega⟩)

theorem idx0 : ∀ t : Fin cfg0.N, win0_0.index t 0 = t.val ∧ win0_0.index t 1 = 6 :=
  (by decide +kernel : ∀ t : Fin grid0.N, win0_0.index t 0 = t.val ∧ win0_0.index t 1 = 6)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 3 :=
  (by decide +kernel : ∀ t : Fin grid0.N, win0_2.index t 0 = t.val ∧ win0_2.index t 1 = 3)
theorem idx3 : ∀ t : Fin cfg0.N, win0_3.index t 0 = t.val ∧ win0_3.index t 1 = 6 :=
  (by decide +kernel : ∀ t : Fin grid0.N, win0_3.index t 0 = t.val ∧ win0_3.index t 1 = 6)
theorem flush3 : ∀ t : Fin cfg0.N, (cfg0.win 3).flush t = true :=
  (by decide +kernel : ∀ t : Fin grid0.N, win0_3.flush t = true)

/-- The array's row that row `r` of block `t` is. -/
def rowOf (t : Fin cfg0.N) (r : Fin 512) : Fin 8192 := ⟨512 * t.val + r.val, by
  have := Nat.lt_of_lt_of_eq t.isLt N_0; omega⟩

theorem row_q (t : Fin cfg0.N) (r : Fin 512) : row (iblk m c 0 t) r = qrow (proj m c) (rowOf t r) := by
  funext j
  show proj m c _ = proj m c _
  congr 1
  funext a; apply Fin.ext
  refine (Pipeline.Window.rect_emb_val win0_0 t (ix2 r j) a rfl).trans ?_
  fin_cases a
  · show win0_0.index t 0 * 512 + r.val = 512 * t.val + r.val
    rw [(idx0 t).1]; omega
  · show win0_0.index t 1 * 512 + j.val = 3072 + j.val
    rw [(idx0 t).2]

theorem row_g (t : Fin cfg0.N) (r : Fin 512) : row (iblk m c 2 t) r = grow (dcat m c) (rowOf t r) := by
  funext j
  show dcat m c _ = dcat m c _
  congr 1
  funext a; apply Fin.ext
  refine (Pipeline.Window.rect_emb_val win0_2 t (ix2 r j) a rfl).trans ?_
  fin_cases a
  · show win0_2.index t 0 * 512 + r.val = 512 * t.val + r.val
    rw [(idx2 t).1]; omega
  · show win0_2.index t 1 * 512 + j.val = 1536 + j.val
    rw [(idx2 t).2]

theorem blk_mem (t : Fin cfg0.N) : (iblk m c 1 t : Vec Ideal S256x1024 .f32) = mem m c := by
  funext j
  show mem m c _ = mem m c _
  congr 1
  funext a; apply Fin.ext
  refine (Pipeline.Window.rect_emb_val win0_1 t j a rfl).trans ?_
  fin_cases a
  · show win0_1.index t 0 * 256 + (j 0).val = (j 0).val
    rw [(idx1 t).1]; omega
  · show win0_1.index t 1 * 1024 + (j 1).val = (j 1).val
    rw [(idx1 t).2]; omega

/-! ## The queries' gradient -/

theorem outs_3 (t : Fin cfg0.N) (r : Fin 512) (h : Fin 4) (d : Fin 128) :
    (outsAt0 m c t.val t.isLt).1 (ix2 r (col h d))
      = dqRow (qrow (proj m c) (rowOf t r)) (grow (dcat m c) (rowOf t r)) (mem m c) h d := by
  rw [← row_q, ← row_g, ← blk_mem m c t]
  by_cases h0 : t.val % 16 = 0
  · rw [outsAt0_A m c t h0]
    dsimp only
    rw [out_A_3]
  · rw [outsAt0_B m c t h0]
    dsimp only
    rw [out_B_3]

theorem arr_3 (s : Fin 8192) (h : Fin 4) (d : Fin 128) :
    (dats m 0 c).arrAt 3 cfg0.N (ix2 s ⟨3072 + (col h d).val, by omega⟩ : S8192x3584.Idx)
      = dqRow (qrow (proj m c) s) (grow (dcat m c) s) (mem m c) h d := by
  have hN : cfg0.N = 16 := N_0
  let t : Fin cfg0.N := ⟨s.val / 512, by rw [hN]; omega⟩
  let r : Fin 512 := ⟨s.val % 512, by omega⟩
  have hs : rowOf t r = s := Fin.ext (by show 512 * (s.val / 512) + s.val % 512 = s.val; omega)
  have he : (((cfg0.win 3).blk t).view.emb (ix2 r (col h d) : S512x512.Idx) : S8192x3584.Idx)
      = ix2 s ⟨3072 + (col h d).val, by omega⟩ := by
    funext a; apply Fin.ext
    refine (Pipeline.Window.rect_emb_val win0_3 t (ix2 r (col h d)) a rfl).trans ?_
    fin_cases a
    · show win0_3.index t 0 * 512 + s.val % 512 = s.val
      rw [(idx3 t).1]; show s.val / 512 * 512 + s.val % 512 = s.val; omega
    · show win0_3.index t 1 * 512 + (col h d).val = 3072 + (col h d).val
      rw [(idx3 t).2]
  have hf := (dats m 0 c).arrAt_emb_eq_flushed 3 Value.disjoint3 t (flush3 t) (ix2 r (col h d) : S512x512.Idx)
  rw [he] at hf
  refine hf.trans ?_
  have ho := outs_3 m c t r h d
  rw [hs] at ho
  rw [← ho, Value.flushed3]
  rfl

/-! ## The keys' and values' gradients -/

/-- A sum over the rows up to `n`, of a function of the row. -/
def upTo (f : Fin 8192 → EReal) (n : Nat) : EReal := ∑ s ∈ Finset.range n, if hs : s < 8192 then f ⟨s, hs⟩ else 0

theorem upTo_block (f : Fin 8192 → EReal) (t : Fin cfg0.N) :
    upTo f (512 * t.val) + ∑ r, f (rowOf t r) = upTo f (512 * (t.val + 1)) := by
  have ht := Nat.lt_of_lt_of_eq t.isLt N_0
  unfold upTo
  rw [Nat.mul_add, Finset.sum_range_add _ (512 * t.val) (512 * 1), Finset.sum_range (n := 512 * 1)]
  congr 1
  refine Finset.sum_congr rfl fun r _ => ?_
  rw [dif_pos (show 512 * t.val + (r : Fin 512).val < 8192 by omega)]
  rfl

theorem upTo_all (f : Fin 8192 → EReal) : upTo f 8192 = ∑ s, f s := by
  unfold upTo
  rw [Finset.sum_range]
  exact Finset.sum_congr rfl fun s _ => dif_pos s.isLt

theorem outs_4 (y : S256x1024.Idx) (f : Fin 8192 → EReal)
    (hA : ∀ (t : Fin cfg0.N) (h0 : t.val % 16 = 0), (outsAt0 m c t.val t.isLt).2 y = 0 + ∑ r, f (rowOf t r))
    (hB : ∀ (t : Fin cfg0.N) (h0 : ¬ t.val % 16 = 0), (outsAt0 m c t.val t.isLt).2 y
      = (outsAt0 m c (t.val - 1) (Nat.lt_of_le_of_lt (Nat.sub_le _ _) t.isLt)).2 y + ∑ r, f (rowOf t r)) :
    ∀ (n : Nat) (hn : n < cfg0.N), (outsAt0 m c n hn).2 y = upTo f (512 * (n + 1)) := by
  intro n
  induction n with
  | zero =>
    intro hn
    rw [hA ⟨0, hn⟩ rfl, ← upTo_block f ⟨0, hn⟩]
    rfl
  | succ n ih =>
    intro hn
    have hN : n + 1 < 16 := Nat.lt_of_lt_of_eq hn N_0
    rw [hB ⟨n + 1, hn⟩ (by show ¬ (n + 1) % 16 = 0; omega), ← upTo_block f ⟨n + 1, hn⟩]
    congr 1
    exact ih (Nat.lt_of_succ_lt hn)

theorem arr_4 (y : S256x1024.Idx) : (dats m 0 c).arrAt 4 cfg0.N y = (outsAt0 m c 15 (by show 15 < grid0.N; rw [N_0]; decide)).2 y := by
  have hw : (cfg0.win 4).WholeAt t0_15 := (by decide +kernel : win0_4.WholeAt t0_15)
  exact (dats m 0 c).arrAt_emb_eq_after_last 4 t0_15 hw y

theorem arr_4k (n : Fin 256) (h : Fin 4) (d : Fin 128) :
    (dats m 0 c).arrAt 4 cfg0.N (ix2 n (kcol h d) : S256x1024.Idx)
      = ∑ s, dkRow (qrow (proj m c) s) (grow (dcat m c) s) (mem m c) h n d := by
  rw [arr_4, outs_4 m c _ (fun s => dkRow (qrow (proj m c) s) (grow (dcat m c) s) (mem m c) h n d) ?_ ?_ 15, upTo_all]
  · intro t h0
    simp only [← row_q, ← row_g]
    rw [← blk_mem m c t, outsAt0_A m c t h0]
    dsimp only
    rw [out_A_4k]
  · intro t h0
    simp only [← row_q, ← row_g]
    rw [← blk_mem m c t, outsAt0_B m c t h0]
    dsimp only
    rw [out_B_4k]

theorem arr_4v (n : Fin 256) (h : Fin 4) (d : Fin 128) :
    (dats m 0 c).arrAt 4 cfg0.N (ix2 n (vcol h d) : S256x1024.Idx)
      = ∑ s, dvRow (qrow (proj m c) s) (grow (dcat m c) s) (mem m c) h n d := by
  rw [arr_4, outs_4 m c _ (fun s => dvRow (qrow (proj m c) s) (grow (dcat m c) s) (mem m c) h n d) ?_ ?_ 15, upTo_all]
  · intro t h0
    simp only [← row_q, ← row_g]
    rw [← blk_mem m c t, outsAt0_A m c t h0]
    dsimp only
    rw [out_A_4v]
  · intro t h0
    simp only [← row_q, ← row_g]
    rw [← blk_mem m c t, outsAt0_B m c t h0]
    dsimp only
    rw [out_B_4v]

end Cert.KernelIdeal.Block

end
-- ==== Proof.Ref.lean ====
/- The reference's two results at an index: the same sums as the kernel's, once the logits are finite. -/
module

public import proofs.«01_k».proof.Proof.Array
public import proofs.«01_k».proof.Proof.Gen.ReferenceIdeal.Read

@[expose] public section

set_option maxRecDepth 16384

noncomputable section

namespace Cert.ReferenceIdeal.Rows

open Cert.ReferenceIdeal Cert.ReferenceIdeal.Gen Idealize.ShloMosaic Idealize.ShloMosaic.TcCoe
open Cert.Softmax Cert.KernelIdeal.Block Cert.ReferenceIdeal.Read

variable (x0 : Vec Ideal S8192x3584 .bf16) (x1 : Vec Ideal S256x1024 .f32) (x2 : Vec Ideal S8192x2048 .bf16)

/-- The index of head `h`, row `s`, key `n`. -/
abbrev at3 {a b c : Nat} (h : Fin a) (s : Fin b) (n : Fin c) : (⟨3, ![a, b, c]⟩ : Shape).Idx := fun | 0 => h | 1 => s | 2 => n

theorem q_at (s : Fin 8192) (h : Fin 4) (d : Fin 128) : val_main_v4 (F := Ideal) x0 (at3 s h d) = qrow x0 s (col h d) := by
  rw [val_main_v4_apply, val_main_v1_apply, val_main_v0_apply]
  show x0 _ = x0 _
  congr 1
  funext a; apply Fin.ext
  fin_cases a
  · show ((s.val * 4 + h.val) * 128 + d.val) / 512 = s.val; omega
  · show 3072 + ((s.val * 4 + h.val) * 128 + d.val) % 512 = 3072 + (128 * h.val + d.val); omega

theorem k_at (n : Fin 256) (h : Fin 4) (d : Fin 128) : val_main_v5 (F := Ideal) x1 (at3 n h d) = x1 (ix2 n (kcol h d)) := by
  rw [val_main_v5_apply, val_main_v2_apply]
  congr 1
  funext a; apply Fin.ext
  fin_cases a
  · show ((n.val * 4 + h.val) * 128 + d.val) / 512 = n.val; omega
  · show ((n.val * 4 + h.val) * 128 + d.val) % 512 = 128 * h.val + d.val; omega

theorem v_at (n : Fin 256) (h : Fin 4) (d : Fin 128) : val_main_v6 (F := Ideal) x1 (at3 n h d) = x1 (ix2 n (vcol h d)) := by
  rw [val_main_v6_apply, val_main_v3_apply]
  congr 1
  funext a; apply Fin.ext
  fin_cases a
  · show ((n.val * 4 + h.val) * 128 + d.val) / 512 = n.val; omega
  · show 512 + ((n.val * 4 + h.val) * 128 + d.val) % 512 = 512 + 128 * h.val + d.val; omega

theorem g_at (s : Fin 8192) (h : Fin 4) (d : Fin 128) : val_main_v43 (F := Ideal) x2 (at3 s h d) = grow x2 s (col h d) := by
  rw [val_main_v43_apply, val_main_v42_apply, val_main_v41_apply]
  show x2 _ = x2 _
  congr 1
  funext a; apply Fin.ext
  fin_cases a
  · show ((s.val * 4 + h.val) * 128 + d.val) / 512 = s.val; omega
  · show 1536 + ((s.val * 4 + h.val) * 128 + d.val) % 512 = 1536 + (128 * h.val + d.val); omega

theorem gt_at (s : Fin 8192) (h : Fin 4) (d : Fin 128) : val_main_v44 (F := Ideal) x2 (at3 h d s) = grow x2 s (col h d) := by
  rw [val_main_v44_apply, ← g_at]
  congr 1
  funext a; fin_cases a <;> rfl

theorem logit_at (h : Fin 4) (s : Fin 8192) (n : Fin 256) :
    val_main_v9 (F := Ideal) x0 x1 (at3 h s n) = logits (qrow x0 s) x1 h n := by
  rw [val_main_v9_apply, val_main_v7_apply, val_main_v8_apply]
  show (∑ k, _) * kap = _
  unfold logits
  congr 1
  refine Finset.sum_congr rfl fun d _ => ?_
  rw [← q_at x0, ← k_at x1]
  congr 2 <;> (funext a; fin_cases a <;> rfl)

/-- A two-axis index. -/
abbrev at2 {a b : Nat} (h : Fin a) (s : Fin b) : (⟨2, ![a, b]⟩ : Shape).Idx := fun | 0 => h | 1 => s

theorem max_at (h : Fin 4) (s : Fin 8192) : val_main_v17 (F := Ideal) x0 x1 (at2 h s) = top (logits (qrow x0 s) x1 h) := by
  have e : val_main_v10 (F := Ideal) x0 x1 (at2 h s) = top (logits (qrow x0 s) x1 h) := by
    unfold val_main_v10
    pointwise
    rw [val_main_cst_0_apply]
    show Finset.fold max (Ideal.ofBits .f32 0xFF800000#32) _ _ = _
    rw [Cert.KernelIdeal.Payload.negInf]
    unfold top
    congr 1
    funext n
    rw [← logit_at]
    congr 1
    funext a; fin_cases a <;> rfl
  rw [val_main_v17_apply, e, val_main_v16_apply, val_main_cst_2_apply]
  show max (Ideal.ofBits .f32 0xFF800000#32) _ = _
  rw [Cert.KernelIdeal.Payload.negInf]
  exact bot_sup_eq _

theorem exp_at (h : Fin 4) (s : Fin 8192) (n : Fin 256) :
    val_main_v30 (F := Ideal) x0 x1 (at3 h s n) = ex (logits (qrow x0 s) x1 h) n := by
  rw [val_main_v30_apply, val_main_v29_apply, val_main_v28_apply, val_main_v27_apply, logit_at]
  rw [show idx_main_v27 (idx_main_v28 (at3 h s n)) = at2 h s from by funext a; fin_cases a <;> rfl, max_at]
  rfl

theorem den_at (h : Fin 4) (s : Fin 8192) :
    val_main_v31 (F := Ideal) x0 x1 (at2 h s) = ∑ n, ex (logits (qrow x0 s) x1 h) n := by
  rw [val_main_v31_apply, val_main_cst_8_apply]
  rw [show FloatOps.ofBits (F := Ideal) .f32 0x00000000#32 = (0 : EReal) from by show Ideal.ofBits .f32 0#32 = 0; simp [Ideal.ofBits, Ideal.ieee]]
  rw [zero_add]
  refine Finset.sum_congr rfl fun n _ => ?_
  rw [← exp_at]
  congr 1
  funext a; fin_cases a <;> rfl

theorem prob_at (h : Fin 4) (s : Fin 8192) (n : Fin 256) :
    val_main_v34 (F := Ideal) x0 x1 (at3 h s n) = prob (logits (qrow x0 s) x1 h) n := by
  rw [val_main_v34_apply, val_main_v33_apply, val_main_v32_apply, exp_at]
  rw [show idx_main_v32 (idx_main_v33 (at3 h s n)) = at2 h s from by funext a; fin_cases a <;> rfl, den_at]
  rfl

theorem dprob_at (h : Fin 4) (s : Fin 8192) (n : Fin 256) :
    val_main_v45 (F := Ideal) x1 x2 (at3 h s n) = dprob (grow x2 s) x1 h n := by
  rw [val_main_v45_apply]
  unfold dprob
  refine Finset.sum_congr rfl fun d _ => ?_
  rw [← gt_at x2, ← v_at x1]
  congr 2 <;> (funext a; fin_cases a <;> rfl)

theorem one : FloatOps.ofBits (F := Ideal) .f32 0x3F800000#32 = (1 : EReal) := by
  show Ideal.ofBits .f32 0x3F800000#32 = 1
  simp [Ideal.ofBits, Ideal.ieee]
  rw [← EReal.coe_mul]
  norm_num

theorem zero : FloatOps.ofBits (F := Ideal) .f32 0x00000000#32 = (0 : EReal) := by
  show Ideal.ofBits .f32 0#32 = 0
  simp [Ideal.ofBits, Ideal.ieee]

theorem slope_at (h : Fin 4) (s : Fin 8192) (n : Fin 256) :
    val_main_v61 (F := Ideal) x0 x1 x2 (at3 h s n) = slopeQuot (logits (qrow x0 s) x1 h) (dprob (grow x2 s) x1 h) n := by
  have e32 : val_main_v32 (F := Ideal) x0 x1 (at3 h s (0 : Fin 1)) = ∑ n, ex (logits (qrow x0 s) x1 h) n := by
    rw [val_main_v32_apply, ← den_at]
    congr 1
    funext a; fin_cases a <;> rfl
  have e37 : val_main_v37 (F := Ideal) x0 x1 (at3 h s (0 : Fin 1)) =
      Ideal.div 1 ((∑ n, ex (logits (qrow x0 s) x1 h) n) * (∑ n, ex (logits (qrow x0 s) x1 h) n)) := by
    rw [val_main_v37_apply, val_main_v35_apply, e32, val_main_v36_apply, val_main_cst_9_apply, one]
    rfl
  have e50 (n : Fin 256) : val_main_v50 (F := Ideal) x0 x1 x2 (at3 h s n) = dprob (grow x2 s) x1 h n *
      Ideal.div 1 ((∑ n, ex (logits (qrow x0 s) x1 h) n) * (∑ n, ex (logits (qrow x0 s) x1 h) n)) * ex (logits (qrow x0 s) x1 h) n := by
    rw [val_main_v50_apply, val_main_v49_apply, val_main_v48_apply, dprob_at, exp_at, ← e37]
    rw [show idx_main_v48 (at3 h s n) = at3 h s (0 : Fin 1) from by funext a; fin_cases a <;> rfl]
    rfl
  have e53 : val_main_v53 (F := Ideal) x0 x1 x2 (at3 h s (0 : Fin 1)) = -(∑ n, dprob (grow x2 s) x1 h n *
      Ideal.div 1 ((∑ n, ex (logits (qrow x0 s) x1 h) n) * (∑ n, ex (logits (qrow x0 s) x1 h) n)) * ex (logits (qrow x0 s) x1 h) n) := by
    rw [val_main_v53_apply, val_main_v52_apply, val_main_v51_apply, val_main_cst_10_apply, zero, zero_add]
    show - _ = - _
    congr 1
    refine Finset.sum_congr rfl fun n _ => ?_
    rw [← e50]
    congr 1
    funext a; apply Fin.ext; fin_cases a
    · show ((h.val * 8192 + s.val) * 1 + 0) / 8192 = h.val; omega
    · show ((h.val * 8192 + s.val) * 1 + 0) % 8192 = s.val; omega
    · rfl
  rw [val_main_v61_apply, val_main_v59_apply, val_main_v58_apply, val_main_v57_apply, val_main_v56_apply, val_main_v55_apply,
    val_main_v54_apply, val_main_v60_apply, val_main_cst_11_apply, zero, zero_add, Fin.sum_univ_one, dprob_at, exp_at]
  rw [show idx_main_v54 (at3 h s n) = at3 h s (0 : Fin 1) from by funext a; fin_cases a <;> rfl, e32]
  rw [show idx_main_v56 (idx_main_v57 (at3 h s n)) 0 = at3 h s (0 : Fin 1) from by funext a; fin_cases a <;> rfl, e53]
  rfl

/-! ## The results -/

theorem dq_at (s : Fin 8192) (h : Fin 4) (d : Fin 128)
    (hl : ∃ L : Fin 256 → ℝ, ∀ n, logits (qrow x0 s) x1 h n = (L n : EReal)) :
    val_main_v71 (F := Ideal) x0 x1 x2 (ix2 s ⟨3072 + (col h d).val, by omega⟩)
      = dqRow (qrow x0 s) (grow x2 s) x1 h d := by
  obtain ⟨L, hL⟩ := hl
  have e : val_main_v68 (F := Ideal) x0 x1 x2 (ix2 s (col h d)) = dqRow (qrow x0 s) (grow x2 s) x1 h d := by
    rw [val_main_v68_apply, val_main_v65_apply, val_main_v64_apply]
    unfold dqRow
    refine Finset.sum_congr rfl fun n _ => ?_
    rw [← slopeQuot_eq _ _ L hL, ← slope_at, ← k_at x1]
    congr 2
    · funext a; apply Fin.ext; fin_cases a
      · show (s.val * 512 + (128 * h.val + d.val)) / 128 % 4 = h.val; omega
      · show (s.val * 512 + (128 * h.val + d.val)) / 512 = s.val; omega
      · rfl
    · funext a; apply Fin.ext; fin_cases a
      · rfl
      · show (s.val * 512 + (128 * h.val + d.val)) / 128 % 4 = h.val; omega
      · show (s.val * 512 + (128 * h.val + d.val)) % 128 = d.val; omega
  rw [val_main_v71_apply, ← e]
  show val_main_v70 (F := Ideal) x0 x1 x2 _ = _
  unfold val_main_v70
  pointwise

theorem dk_at (n : Fin 256) (h : Fin 4) (d : Fin 128)
    (hl : ∀ s, ∃ L : Fin 256 → ℝ, ∀ n, logits (qrow x0 s) x1 h n = (L n : EReal)) :
    val_main_v69 (F := Ideal) x0 x1 x2 (ix2 n (kcol h d))
      = ∑ s, dkRow (qrow x0 s) (grow x2 s) x1 h n d := by
  have e : val_main_v67 (F := Ideal) x0 x1 x2 (ix2 n (col h d)) = ∑ s, dkRow (qrow x0 s) (grow x2 s) x1 h n d := by
    rw [val_main_v67_apply, val_main_v63_apply, val_main_v62_apply]
    refine Finset.sum_congr rfl fun s _ => ?_
    obtain ⟨L, hL⟩ := hl s
    unfold dkRow
    rw [← slopeQuot_eq _ _ L hL, ← slope_at, ← q_at x0]
    congr 2
    · funext a; apply Fin.ext; fin_cases a
      · show (n.val * 512 + (128 * h.val + d.val)) / 128 % 4 = h.val; omega
      · rfl
      · show (n.val * 512 + (128 * h.val + d.val)) / 512 = n.val; omega
    · funext a; apply Fin.ext; fin_cases a
      · rfl
      · show (n.val * 512 + (128 * h.val + d.val)) / 128 % 4 = h.val; omega
      · show (n.val * 512 + (128 * h.val + d.val)) % 128 = d.val; omega
  rw [← e]
  unfold val_main_v69
  pointwise
  rw [dif_pos (by show 128 * h.val + d.val < 512; omega)]
  rfl

theorem dv_at (n : Fin 256) (h : Fin 4) (d : Fin 128) :
    val_main_v69 (F := Ideal) x0 x1 x2 (ix2 n (vcol h d))
      = ∑ s, dvRow (qrow x0 s) (grow x2 s) x1 h n d := by
  have e : val_main_v66 (F := Ideal) x0 x1 x2 (ix2 n (col h d)) = ∑ s, dvRow (qrow x0 s) (grow x2 s) x1 h n d := by
    rw [val_main_v66_apply, val_main_v47_apply, val_main_v46_apply]
    refine Finset.sum_congr rfl fun s _ => ?_
    unfold dvRow
    rw [← prob_at, ← gt_at x2, mul_comm]
    congr 2
    · funext a; apply Fin.ext; fin_cases a
      · show (n.val * 512 + (128 * h.val + d.val)) / 128 % 4 = h.val; omega
      · rfl
      · show (n.val * 512 + (128 * h.val + d.val)) / 512 = n.val; omega
    · funext a; apply Fin.ext; fin_cases a
      · show (n.val * 512 + (128 * h.val + d.val)) / 128 % 4 = h.val; omega
      · show (n.val * 512 + (128 * h.val + d.val)) % 128 = d.val; omega
      · rfl
  rw [← e]
  unfold val_main_v69
  pointwise
  rw [dif_neg (by show ¬ 512 + 128 * h.val + d.val < 512; omega)]
  congr 2
  apply Fin.ext
  show 512 + 128 * h.val + d.val - 512 = 128 * h.val + d.val
  omega

end Cert.ReferenceIdeal.Rows

end
-- ==== Proof.Finite.lean ====
/- The precondition in words: the queries and the keys are finite, so every logit is a real number. -/
module

public import proofs.«01_k».proof.Proof.Array
public import proofs.«01_k».proof.Proof.Gen.Pre_finite_logits
public import proofs.«01_k».proof.Proof.Gen.On_written

@[expose] public section

set_option maxRecDepth 16384

noncomputable section

namespace Cert.Pre_finite_logits.Read

open Idealize.ShloMosaic Cert.Softmax Cert.KernelIdeal.Block
open Cert.Pre_finite_logits Cert.Pre_finite_logits.Gen

variable (x0 : Vec Ideal S8192x3584 .bf16) (x1 : Vec Ideal S256x1024 .f32) (x2 : Vec Ideal S8192x2048 .bf16)

theorem inf : Ideal.ofBits .f32 0x7F800000#32 = ⊤ := by simp [Ideal.ofBits, Ideal.ieee]

/-- A number whose size compares below infinity is real. -/
theorem real_of_lt (x : EReal) (h : BitVec.ofBool (decide (max x (-x) < Ideal.ofBits .f32 0x7F800000#32)) = 1#1) :
    ∃ r : ℝ, x = (r : EReal) := by
  rw [inf] at h
  induction x with
  | bot => simp at h
  | top => simp at h
  | coe r => exact ⟨r, rfl⟩

theorem q_real (h : (fn (F := Ideal) x0 x1 x2).1 = fun _ => 1#1) (s : Fin 8192) (j : Fin 512) :
    ∃ r : ℝ, qrow x0 s j = (r : EReal) := by
  refine real_of_lt _ ?_
  refine Eq.trans ?_ (congrFun h (ix2 s j))
  unfold fn
  dsimp only
  pointwise
  rfl

theorem k_real (h : (fn (F := Ideal) x0 x1 x2).2 = fun _ => 1#1) (n : Fin 256) (hd : Fin 4) (d : Fin 128) :
    ∃ r : ℝ, x1 (ix2 n (kcol hd d)) = (r : EReal) := by
  refine real_of_lt _ ?_
  refine Eq.trans ?_ (congrFun h (ix2 n (col hd d)))
  unfold fn
  dsimp only
  pointwise
  rfl

theorem logits_real (h1 : (fn (F := Ideal) x0 x1 x2).1 = fun _ => 1#1) (h2 : (fn (F := Ideal) x0 x1 x2).2 = fun _ => 1#1)
    (s : Fin 8192) (hd : Fin 4) : ∃ L : Fin 256 → ℝ, ∀ n, logits (qrow x0 s) x1 hd n = (L n : EReal) := by
  choose q hq using q_real x0 x1 x2 h1
  choose k hk using k_real x0 x1 x2 h2
  have hkap : ∃ r : ℝ, kap = (r : EReal) := by
    unfold kap; simp [Ideal.ofBits, Ideal.ieee]
    exact ⟨_, (EReal.coe_mul _ _).symm⟩
  obtain ⟨κ, hκ⟩ := hkap
  refine ⟨fun n => (∑ d, q s (col hd d) * k n hd d) * κ, fun n => ?_⟩
  unfold logits
  simp only [hq, hk, hκ]
  rw [EReal.coe_mul, coe_sum]
  simp only [EReal.coe_mul]

/-- The mask marks the last 512 columns of the first result. -/
theorem col_of_written (i : Cert.On_written.S8192x3584.Idx) (h : (Cert.On_written.fn (F := Ideal) x0 x1 x2).1 i = 1#1) :
    3072 ≤ (i 1 : Nat) := by
  unfold Cert.On_written.fn at h
  dsimp only at h
  have l1 : (i 1 : Nat) < 3584 := (i 1).isLt
  have h' : BitVec.ofBool (BitVec.sle 3072#32 (BitVec.ofNat 32 (i 1 : Nat))) = 1#1 := h
  by_contra hc
  have hlt : (i 1 : Nat) < 3072 := Nat.lt_of_not_le hc
  have hn : (BitVec.ofNat 32 (i 1 : Nat)).toNat = (i 1 : Nat) := by rw [BitVec.toNat_ofNat]; omega
  have e : (BitVec.sle 3072#32 (BitVec.ofNat 32 (i 1 : Nat))) = false := by
    rw [BitVec.sle, decide_eq_false_iff_not, BitVec.toInt_eq_toNat_cond, BitVec.toInt_eq_toNat_cond, hn]
    simp only [BitVec.reduceToNat, Nat.reducePow, Nat.reduceMul]
    split <;> split <;> omega
  rw [e] at h'
  exact absurd h' (by decide)

end Cert.Pre_finite_logits.Read

end
-- ==== Proof.Hidden.lean ====
/- The gradient of a block's hidden rows: the kernel's array after the run is the sum of the gate's and the up's gradients,
   each times its weight's transpose. -/
module

public import proofs.«01_k».proof.Proof.Gen.HiddenKernelIdeal.Value
public import proofs.«01_k».proof.Proof.Gen.HiddenReferenceIdeal.Read
public import Idealize.ShloMosaic.Lib.Pipeline.ValueKit.Point
public import Idealize.ShloMosaic.Lib.Pointwise

@[expose] public section

set_option maxRecDepth 16384

noncomputable section

namespace Cert.HiddenKernelIdeal.Sum

open Cert.HiddenKernelIdeal Cert.HiddenKernelIdeal.Gen Idealize.ShloMosaic Idealize.ShloMosaic.TcCoe

variable (m : (ℓ : Loc nD τ sig) → Buf (Elt Ideal) ℓ) (c : Dev nD)

theorem pay1 (w : Vec Ideal S1x1024x1408 .bf16) (g : Vec Ideal S1024x1408 .bf16) (w' : Vec Ideal S1x1024x1408 .bf16)
    (g' : Vec Ideal S1024x1408 .bf16) (r q : Fin 1024) :
    k0_pay1 w g w' g' (ix2 r q) = ∑ k, g (ix2 r k) * w (ix3 0 q k) + ∑ k, g' (ix2 r k) * w' (ix3 0 q k) := by
  pointwise [k0_pay1]

theorem pay2 (w : Vec Ideal S1x1024x1408 .bf16) (g : Vec Ideal S1024x1408 .bf16) (w' : Vec Ideal S1x1024x1408 .bf16)
    (g' : Vec Ideal S1024x1408 .bf16) (o : Vec Ideal S1024x1024 .f32) (r q : Fin 1024) :
    k0_pay2 w g w' g' o (ix2 r q) = o (ix2 r q) + (∑ k, g (ix2 r k) * w (ix3 0 q k) + ∑ k, g' (ix2 r k) * w' (ix3 0 q k)) := by
  pointwise [k0_pay2]

theorem pay3 (w : Vec Ideal S1x1024x1408 .bf16) (g : Vec Ideal S1024x1408 .bf16) (w' : Vec Ideal S1x1024x1408 .bf16)
    (g' : Vec Ideal S1024x1408 .bf16) (o : Vec Ideal S1024x1024 .f32) (r q : Fin 1024) :
    k0_pay3 w g w' g' o (ix2 r q) = o (ix2 r q) + (∑ k, g (ix2 r k) * w (ix3 0 q k) + ∑ k, g' (ix2 r k) * w' (ix3 0 q k)) := by
  pointwise [k0_pay3]

/-- The blocks a point reads, of the gate's gradient, -/
def gblk (t : Fin cfg0.N) : Vec Ideal S1024x1408 .bf16 := iblk m c 0 t

/-- of the up's gradient, -/
def ublk (t : Fin cfg0.N) : Vec Ideal S1024x1408 .bf16 := iblk m c 1 t

/-- and of the two weights. -/
def wgblk (t : Fin cfg0.N) : Vec Ideal S1x1024x1408 .bf16 := iblk m c 2 t

/-- The up's weight. -/
def wublk (t : Fin cfg0.N) : Vec Ideal S1x1024x1408 .bf16 := iblk m c 3 t

/-- One point's products. -/
def part (t : Fin cfg0.N) (r q : Fin 1024) : EReal :=
  ∑ k : Fin 1408, gblk m c t (ix2 r k) * wgblk m c t (ix3 0 q k) + ∑ k : Fin 1408, ublk m c t (ix2 r k) * wublk m c t (ix3 0 q k)

/-- What a point leaves: the accumulator, or at a run's last point the block written back. -/
def left (r q : Fin 1024) (n : ℕ) (h : n < cfg0.N) : EReal :=
  if n % 4 = 3 then (outsAt0 m c n h).1 (ix2 r q) else (outsAt0 m c n h).2 (ix2 r q)

theorem left_first (r q : Fin 1024) (t : Fin cfg0.N) (h : t.val % 4 = 0) :
    left m c r q t.val t.isLt = 0 + part m c t r q := by
  unfold left
  rw [if_neg (by omega), zero_add, outsAt0_A m c t h (by omega) (by omega)]
  frame_out
  rw [pay1]
  rfl

theorem left_next (r q : Fin 1024) (t : Fin cfg0.N) (h : ¬t.val % 4 = 0) :
    left m c r q t.val t.isLt
      = left m c r q (t.val - 1) (Nat.lt_of_le_of_lt (Nat.sub_le _ _) t.isLt) + part m c t r q := by
  unfold left
  rw [if_neg (show ¬(t.val - 1) % 4 = 3 by omega)]
  by_cases h2 : t.val % 4 = 3
  · rw [if_pos h2, outsAt0_C m c t h (by omega) h2]
    frame_out
    rw [pay3]
    exact congrArg (· + part m c t r q) (congrFun (Memref.IsWhole.read_unread _ _) _)
  · rw [if_neg h2, outsAt0_B m c t h (by omega) h2]
    frame_out
    rw [pay2]
    exact congrArg (· + part m c t r q) (congrFun (Memref.IsWhole.read_unread _ _) _)

/-- A run's last point writes back the sum of the run's products. -/
theorem written (r q : Fin 1024) (t : Fin cfg0.N) (h : t.val % 4 = 3) :
    (outsAt0 m c t.val t.isLt).1 (ix2 r q)
      = ∑ s : Fin 4, part m c ⟨4 * (t.val / 4) + s.val, Pipeline.run_point_lt_of_flush t h s⟩ r q := by
  have e := Pipeline.eq_sum_fin_of_reset_step_of_flush (left m c r q) 4 0 (fun t => part m c t r q)
    (left_first m c r q) (left_next m c r q) t h
  rw [zero_add] at e
  rw [← e]
  unfold left
  rw [if_pos h]

theorem idx0 : ∀ t : Fin grid0.N, win0_0.index t = ![t.val / 4 % 8, t.val % 4] := by decide +kernel
theorem idx1 : ∀ t : Fin grid0.N, win0_1.index t = ![t.val / 4 % 8, t.val % 4] := by decide +kernel
theorem idx2 : ∀ t : Fin grid0.N, win0_2.index t = ![t.val % 4, t.val / 32, 0] := by decide +kernel
theorem idx3 : ∀ t : Fin grid0.N, win0_3.index t = ![t.val % 4, t.val / 32, 0] := by decide +kernel

theorem gblk_at (t : Fin cfg0.N) (r : Fin 1024) (k : Fin 1408) :
    gblk m c t (ix2 r k) = m ((c : Thread nD τ).loc main_arg0)
      (ix2 ⟨t.val / 4 % 8 * 1024 + r.val, by omega⟩ ⟨t.val % 4 * 1408 + k.val, by omega⟩) := by
  unfold gblk
  blk_ext! [iblk, V, idx0 t]

theorem ublk_at (t : Fin cfg0.N) (r : Fin 1024) (k : Fin 1408) :
    ublk m c t (ix2 r k) = m ((c : Thread nD τ).loc main_arg1)
      (ix2 ⟨t.val / 4 % 8 * 1024 + r.val, by omega⟩ ⟨t.val % 4 * 1408 + k.val, by omega⟩) := by
  unfold ublk
  blk_ext! [iblk, V, idx1 t]

theorem wgblk_at (t : Fin cfg0.N) (q : Fin 1024) (k : Fin 1408) :
    wgblk m c t (ix3 0 q k) = m ((c : Thread nD τ).loc main_arg2)
      (ix3 ⟨t.val % 4, by omega⟩ ⟨t.val / 32 * 1024 + q.val, by have := t.isLt; have : cfg0.N = 64 := N_0; omega⟩ k) := by
  unfold wgblk
  blk_ext! [iblk, V, idx2 t]

theorem wublk_at (t : Fin cfg0.N) (q : Fin 1024) (k : Fin 1408) :
    wublk m c t (ix3 0 q k) = m ((c : Thread nD τ).loc main_arg3)
      (ix3 ⟨t.val % 4, by omega⟩ ⟨t.val / 32 * 1024 + q.val, by have := t.isLt; have : cfg0.N = 64 := N_0; omega⟩ k) := by
  unfold wublk
  blk_ext! [iblk, V, idx3 t]

theorem value (i : S8192x2048.Idx) :
    Cert.HiddenKernelIdeal.Value.G4 m c i = Cert.HiddenReferenceIdeal.Read.val_main_v14 (F := Ideal) (m ((c : Thread nD τ).loc main_arg0))
      (m ((c : Thread nD τ).loc main_arg1)) (m ((c : Thread nD τ).loc main_arg2)) (m ((c : Thread nD τ).loc main_arg3)) i := by
  obtain ⟨p, q, rfl⟩ : ∃ (p : Fin 8192) (q : Fin 2048), i = ix2 p q := ⟨_, _, eq_ix2 i⟩
  have hN : cfg0.N = 64 := N_0
  have hp : Cert.HiddenKernelIdeal.Value.pt4Of (ix2 p q) = 4 * (p.val / 1024 + 8 * (q.val / 1024)) + 3 := by
    show 4 * (1 * (p.val / 1024 - 0) + 8 * (q.val / 1024 - 0)) + 3 = _
    omega
  have hl : Cert.HiddenKernelIdeal.Value.loc4Of (ix2 p q) = ix2 ⟨p.val % 1024, by omega⟩ ⟨q.val % 1024, by omega⟩ := by
    funext d; apply Fin.ext
    fin_cases d <;> rfl
  have hb : 4 * (p.val / 1024 + 8 * (q.val / 1024)) + 3 < cfg0.N := by omega
  have e : Cert.HiddenKernelIdeal.Value.G4 m c (ix2 p q)
      = (outsAt0 m c (4 * (p.val / 1024 + 8 * (q.val / 1024)) + 3) hb).1 (ix2 ⟨p.val % 1024, by omega⟩ ⟨q.val % 1024, by omega⟩) := by
    unfold Cert.HiddenKernelIdeal.Value.G4
    simp only [hp, hl, hb, dite_true]
    rw [Cert.HiddenKernelIdeal.Value.outsAt0_sweep]
  rw [e, written m c _ _ ⟨4 * (p.val / 1024 + 8 * (q.val / 1024)) + 3, hb⟩ (by show (4 * (p.val / 1024 + 8 * (q.val / 1024)) + 3) % 4 = 3; omega)]
  unfold part
  simp only [gblk_at, ublk_at, wgblk_at, wublk_at]
  pointwise [Cert.HiddenReferenceIdeal.Read.val_main_v14, Cert.HiddenReferenceIdeal.Read.val_main_v13, Cert.HiddenReferenceIdeal.Read.val_main_v12,
    Cert.HiddenReferenceIdeal.Read.val_main_v11]
  rw [Finset.sum_add_distrib, add_comm]
  have e1 (s : Fin 4) : (4 * ((4 * (p.val / 1024 + 8 * (q.val / 1024)) + 3) / 4) + s.val) % 4 = s.val := by omega
  have e2 (s : Fin 4) : (4 * ((4 * (p.val / 1024 + 8 * (q.val / 1024)) + 3) / 4) + s.val) / 4 % 8 * 1024 + p.val % 1024 = p.val := by omega
  have e3 (s : Fin 4) : (4 * ((4 * (p.val / 1024 + 8 * (q.val / 1024)) + 3) / 4) + s.val) / 32 * 1024 + q.val % 1024 = q.val := by omega
  simp only [e1, e2, e3]
  congr 1
  · refine Fin.sum_mul_add_congr fun s k hl => ?_
    pointwise [Cert.HiddenReferenceIdeal.Read.val_main_v7, Cert.HiddenReferenceIdeal.Read.val_main_v6]
    rfl
  · refine Fin.sum_mul_add_congr fun s k hl => ?_
    pointwise [Cert.HiddenReferenceIdeal.Read.val_main_v3, Cert.HiddenReferenceIdeal.Read.val_main_v2]
    rfl

end Cert.HiddenKernelIdeal.Sum

end
-- ==== Proof.Gate.lean ====
/- The gradient of a gate or up weight: the kernel's array after the run is the product of the activations' transpose with
   the gradient, laid out by halves and by shards. -/
module

public import proofs.«01_k».proof.Proof.Gen.GateKernelIdeal.Value
public import proofs.«01_k».proof.Proof.Gen.GateReferenceIdeal.Read
public import Idealize.ShloMosaic.Lib.Pipeline.ValueKit.Point
public import Idealize.ShloMosaic.Lib.Pointwise

@[expose] public section

set_option maxRecDepth 16384

noncomputable section

namespace Cert.GateKernelIdeal.Sum

open Cert.GateKernelIdeal Cert.GateKernelIdeal.Gen Idealize.ShloMosaic Idealize.ShloMosaic.TcCoe

variable (m : (ℓ : Loc nD τ sig) → Buf (Elt Ideal) ℓ) (c : Dev nD)

/-- Row `p` of half `a` of a shard. -/
def half (a : Fin 2) (p : Fin 1024) : Fin 2048 := ⟨a.val * 1024 + p.val, by omega⟩

theorem pay1 (g : Vec Ideal S1024x1408 .bf16) (x : Vec Ideal S1024x2048 .bf16) (r : Fin 2048) (q : Fin 1408) :
    k0_pay1 g x (ix2 r q) = ∑ k, x (ix2 k r) * g (ix2 k q) := by
  pointwise [k0_pay1]

theorem pay2 (g : Vec Ideal S1024x1408 .bf16) (x : Vec Ideal S1024x2048 .bf16) (o : Vec Ideal S2048x1408 .f32) (r : Fin 2048) (q : Fin 1408) :
    k0_pay2 g x o (ix2 r q) = o (ix2 r q) + ∑ k, x (ix2 k r) * g (ix2 k q) := by
  pointwise [k0_pay2]

theorem pay3 (g : Vec Ideal S1024x1408 .bf16) (x : Vec Ideal S1024x2048 .bf16) (o : Vec Ideal S2048x1408 .f32) (a : Fin 2) (p : Fin 1024)
    (q : Fin 1408) :
    k0_pay3 g x o (ix4 a 0 p q) = o (ix2 (half a p) q) + ∑ k, x (ix2 k (half a p)) * g (ix2 k q) := by
  pointwise [k0_pay3]
  rfl

/-- The blocks a point reads, of the activations -/
def xblk (t : Fin cfg0.N) : Vec Ideal S1024x2048 .bf16 := iblk m c 0 t

/-- and of the gradient. -/
def gblk (t : Fin cfg0.N) : Vec Ideal S1024x1408 .bf16 := iblk m c 1 t

/-- One point's product. -/
def part (t : Fin cfg0.N) (r : Fin 2048) (q : Fin 1408) : EReal :=
  ∑ k : Fin 1024, xblk m c t (ix2 k r) * gblk m c t (ix2 k q)

/-- What a point leaves: the accumulator, or at a run's last point the block written back. -/
def left (a : Fin 2) (p : Fin 1024) (q : Fin 1408) (n : ℕ) (h : n < cfg0.N) : EReal :=
  if n % 8 = 7 then (outsAt0 m c n h).1 (ix4 a 0 p q) else (outsAt0 m c n h).2 (ix2 (half a p) q)

theorem left_first (a : Fin 2) (p : Fin 1024) (q : Fin 1408) (t : Fin cfg0.N) (h : t.val % 8 = 0) :
    left m c a p q t.val t.isLt = 0 + part m c t (half a p) q := by
  unfold left
  rw [if_neg (by omega), zero_add, outsAt0_A m c t h (by omega) (by omega)]
  frame_out
  rw [pay1]
  rfl

theorem left_next (a : Fin 2) (p : Fin 1024) (q : Fin 1408) (t : Fin cfg0.N) (h : ¬t.val % 8 = 0) :
    left m c a p q t.val t.isLt
      = left m c a p q (t.val - 1) (Nat.lt_of_le_of_lt (Nat.sub_le _ _) t.isLt) + part m c t (half a p) q := by
  unfold left
  rw [if_neg (show ¬(t.val - 1) % 8 = 7 by omega)]
  by_cases h2 : t.val % 8 = 7
  · rw [if_pos h2, outsAt0_C m c t h (by omega) h2]
    frame_out
    rw [pay3]
    exact congrArg (· + part m c t (half a p) q) (congrFun (Memref.IsWhole.read_unread _ _) _)
  · rw [if_neg h2, outsAt0_B m c t h (by omega) h2]
    frame_out
    rw [pay2]
    exact congrArg (· + part m c t (half a p) q) (congrFun (Memref.IsWhole.read_unread _ _) _)

/-- A run's last point writes back the sum of the run's products. -/
theorem written (a : Fin 2) (p : Fin 1024) (q : Fin 1408) (t : Fin cfg0.N) (h : t.val % 8 = 7) :
    (outsAt0 m c t.val t.isLt).1 (ix4 a 0 p q)
      = ∑ s : Fin 8, part m c ⟨8 * (t.val / 8) + s.val, Pipeline.run_point_lt_of_flush t h s⟩ (half a p) q := by
  have e := Pipeline.eq_sum_fin_of_reset_step_of_flush (left m c a p q) 8 0 (fun t => part m c t (half a p) q)
    (left_first m c a p q) (left_next m c a p q) t h
  rw [zero_add] at e
  rw [← e]
  unfold left
  rw [if_pos h]

theorem idx0 : ∀ t : Fin grid0.N, win0_0.index t = ![t.val % 8, 0] := by decide +kernel
theorem idx1 : ∀ t : Fin grid0.N, win0_1.index t = ![t.val % 8, t.val / 8] := by decide +kernel

theorem xblk_at (t : Fin cfg0.N) (k : Fin 1024) (r : Fin 2048) :
    xblk m c t (ix2 k r) = m ((c : Thread nD τ).loc main_arg0) (ix2 ⟨t.val % 8 * 1024 + k.val, by omega⟩ r) := by
  unfold xblk
  blk_ext! [iblk, V, idx0 t]

theorem gblk_at (t : Fin cfg0.N) (k : Fin 1024) (q : Fin 1408) :
    gblk m c t (ix2 k q) = m ((c : Thread nD τ).loc main_arg1)
      (ix2 ⟨t.val % 8 * 1024 + k.val, by omega⟩ ⟨t.val / 8 * 1408 + q.val, by have := t.isLt; have : cfg0.N = 32 := N_0; omega⟩) := by
  unfold gblk
  blk_ext! [iblk, V, idx1 t]

theorem value (i : S2x4x1024x1408.Idx) :
    Cert.GateKernelIdeal.Value.G2 m c i = Cert.GateReferenceIdeal.Read.val_main_v10 (F := Ideal) (m ((c : Thread nD τ).loc main_arg0)) (m ((c : Thread nD τ).loc main_arg1)) i := by
  obtain ⟨a, b, p, q, rfl⟩ : ∃ (a : Fin 2) (b : Fin 4) (p : Fin 1024) (q : Fin 1408), i = ix4 a b p q := ⟨_, _, _, _, eq_ix4 i⟩
  have hN : cfg0.N = 32 := N_0
  have hp : Cert.GateKernelIdeal.Value.pt2Of (ix4 a b p q) = 8 * b.val + 7 := by
    show 8 * (4 * (a.val / 2 - 0) + 1 * (b.val / 1 - 0) + 1 * (p.val / 1024 - 0) + 1 * (q.val / 1408 - 0)) + 7 = _
    omega
  have hl : Cert.GateKernelIdeal.Value.loc2Of (ix4 a b p q) = ix4 a 0 p q := by
    funext d; apply Fin.ext
    fin_cases d
    · exact Nat.mod_eq_of_lt a.isLt
    · exact Nat.mod_one _
    · exact Nat.mod_eq_of_lt p.isLt
    · exact Nat.mod_eq_of_lt q.isLt
  have hb : 8 * b.val + 7 < cfg0.N := by omega
  have e : Cert.GateKernelIdeal.Value.G2 m c (ix4 a b p q) = (outsAt0 m c (8 * b.val + 7) hb).1 (ix4 a 0 p q) := by
    unfold Cert.GateKernelIdeal.Value.G2
    simp only [hp, hl, hb, dite_true]
    rw [Cert.GateKernelIdeal.Value.outsAt0_sweep]
  rw [e, written m c a p q ⟨8 * b.val + 7, hb⟩ (by show (8 * b.val + 7) % 8 = 7; omega)]
  unfold part
  simp only [xblk_at, gblk_at]
  pointwise [Cert.GateReferenceIdeal.Read.val_main_v10, Cert.GateReferenceIdeal.Read.val_main_v9, Cert.GateReferenceIdeal.Read.val_main_v8,
    Cert.GateReferenceIdeal.Read.val_main_v7, Cert.GateReferenceIdeal.Read.val_main_v6]
  refine Fin.sum_mul_add_congr fun s k hl => ?_
  have e1 : (8 * ((8 * b.val + 7) / 8) + s.val) % 8 = s.val := by omega
  have e2 : (8 * ((8 * b.val + 7) / 8) + s.val) / 8 = b.val := by omega
  rw [mul_comm]
  simp only [e1, e2]
  rfl

end Cert.GateKernelIdeal.Sum

end
-- ==== Proof.Down.lean ====
/- The gradient of a down weight: the kernel's array after the run is the product of the activations' transpose with the
   gradient of the output, laid out by halves and by shards. -/
module

public import proofs.«01_k».proof.Proof.Gen.DownKernelIdeal.Value
public import proofs.«01_k».proof.Proof.Gen.DownReferenceIdeal.Read
public import Idealize.ShloMosaic.Lib.Pipeline.ValueKit.Point
public import Idealize.ShloMosaic.Lib.Pointwise

@[expose] public section

set_option maxRecDepth 16384

noncomputable section

namespace Cert.DownKernelIdeal.Sum

open Cert.DownKernelIdeal Cert.DownKernelIdeal.Gen Idealize.ShloMosaic Idealize.ShloMosaic.TcCoe

variable (m : (ℓ : Loc nD τ sig) → Buf (Elt Ideal) ℓ) (c : Dev nD)

/-- Row `p` of half `a` of a shard. -/
def half (a : Fin 2) (p : Fin 704) : Fin 1408 := ⟨a.val * 704 + p.val, by omega⟩

theorem pay1 (g : Vec Ideal S1024x1024 .bf16) (x : Vec Ideal S1024x1408 .bf16) (r : Fin 1408) (q : Fin 1024) :
    k0_pay1 g x (ix2 r q) = ∑ k, x (ix2 k r) * g (ix2 k q) := by
  pointwise [k0_pay1]

theorem pay2 (g : Vec Ideal S1024x1024 .bf16) (x : Vec Ideal S1024x1408 .bf16) (o : Vec Ideal S1408x1024 .f32) (r : Fin 1408) (q : Fin 1024) :
    k0_pay2 g x o (ix2 r q) = o (ix2 r q) + ∑ k, x (ix2 k r) * g (ix2 k q) := by
  pointwise [k0_pay2]

theorem pay3 (g : Vec Ideal S1024x1024 .bf16) (x : Vec Ideal S1024x1408 .bf16) (o : Vec Ideal S1408x1024 .f32) (a : Fin 2) (p : Fin 704)
    (q : Fin 1024) :
    k0_pay3 g x o (ix4 a 0 p q) = o (ix2 (half a p) q) + ∑ k, x (ix2 k (half a p)) * g (ix2 k q) := by
  pointwise [k0_pay3]
  rfl

/-- The blocks a point reads, of the activations -/
def xblk (t : Fin cfg0.N) : Vec Ideal S1024x1408 .bf16 := iblk m c 0 t

/-- and of the gradient. -/
def gblk (t : Fin cfg0.N) : Vec Ideal S1024x1024 .bf16 := iblk m c 1 t

/-- One point's product. -/
def part (t : Fin cfg0.N) (r : Fin 1408) (q : Fin 1024) : EReal :=
  ∑ k : Fin 1024, xblk m c t (ix2 k r) * gblk m c t (ix2 k q)

/-- What a point leaves: the accumulator, or at a run's last point the block written back. -/
def left (a : Fin 2) (p : Fin 704) (q : Fin 1024) (n : ℕ) (h : n < cfg0.N) : EReal :=
  if n % 8 = 7 then (outsAt0 m c n h).1 (ix4 a 0 p q) else (outsAt0 m c n h).2 (ix2 (half a p) q)

theorem left_first (a : Fin 2) (p : Fin 704) (q : Fin 1024) (t : Fin cfg0.N) (h : t.val % 8 = 0) :
    left m c a p q t.val t.isLt = 0 + part m c t (half a p) q := by
  unfold left
  rw [if_neg (by omega), zero_add, outsAt0_A m c t h (by omega) (by omega)]
  frame_out
  rw [pay1]
  rfl

theorem left_next (a : Fin 2) (p : Fin 704) (q : Fin 1024) (t : Fin cfg0.N) (h : ¬t.val % 8 = 0) :
    left m c a p q t.val t.isLt
      = left m c a p q (t.val - 1) (Nat.lt_of_le_of_lt (Nat.sub_le _ _) t.isLt) + part m c t (half a p) q := by
  unfold left
  rw [if_neg (show ¬(t.val - 1) % 8 = 7 by omega)]
  by_cases h2 : t.val % 8 = 7
  · rw [if_pos h2, outsAt0_C m c t h (by omega) h2]
    frame_out
    rw [pay3]
    exact congrArg (· + part m c t (half a p) q) (congrFun (Memref.IsWhole.read_unread _ _) _)
  · rw [if_neg h2, outsAt0_B m c t h (by omega) h2]
    frame_out
    rw [pay2]
    exact congrArg (· + part m c t (half a p) q) (congrFun (Memref.IsWhole.read_unread _ _) _)

/-- A run's last point writes back the sum of the run's products. -/
theorem written (a : Fin 2) (p : Fin 704) (q : Fin 1024) (t : Fin cfg0.N) (h : t.val % 8 = 7) :
    (outsAt0 m c t.val t.isLt).1 (ix4 a 0 p q)
      = ∑ s : Fin 8, part m c ⟨8 * (t.val / 8) + s.val, Pipeline.run_point_lt_of_flush t h s⟩ (half a p) q := by
  have e := Pipeline.eq_sum_fin_of_reset_step_of_flush (left m c a p q) 8 0 (fun t => part m c t (half a p) q)
    (left_first m c a p q) (left_next m c a p q) t h
  rw [zero_add] at e
  rw [← e]
  unfold left
  rw [if_pos h]

theorem idx0 : ∀ t : Fin grid0.N, win0_0.index t = ![t.val % 8, t.val / 16] := by decide +kernel
theorem idx1 : ∀ t : Fin grid0.N, win0_1.index t = ![t.val % 8, t.val / 8 % 2] := by decide +kernel

theorem xblk_at (t : Fin cfg0.N) (k : Fin 1024) (r : Fin 1408) :
    xblk m c t (ix2 k r) = m ((c : Thread nD τ).loc main_arg0)
      (ix2 ⟨t.val % 8 * 1024 + k.val, by omega⟩ ⟨t.val / 16 * 1408 + r.val, by have := t.isLt; have : cfg0.N = 64 := N_0; omega⟩) := by
  unfold xblk
  blk_ext! [iblk, V, idx0 t]

theorem gblk_at (t : Fin cfg0.N) (k : Fin 1024) (q : Fin 1024) :
    gblk m c t (ix2 k q) = m ((c : Thread nD τ).loc main_arg1)
      (ix2 ⟨t.val % 8 * 1024 + k.val, by omega⟩ ⟨t.val / 8 % 2 * 1024 + q.val, by omega⟩) := by
  unfold gblk
  blk_ext! [iblk, V, idx1 t]

theorem value (i : S2x4x704x2048.Idx) :
    Cert.DownKernelIdeal.Value.G2 m c i = Cert.DownReferenceIdeal.Read.val_main_v9 (F := Ideal) (m ((c : Thread nD τ).loc main_arg0)) (m ((c : Thread nD τ).loc main_arg1)) i := by
  obtain ⟨a, b, p, q, rfl⟩ : ∃ (a : Fin 2) (b : Fin 4) (p : Fin 704) (q : Fin 2048), i = ix4 a b p q := ⟨_, _, _, _, eq_ix4 i⟩
  have hN : cfg0.N = 64 := N_0
  have hp : Cert.DownKernelIdeal.Value.pt2Of (ix4 a b p q) = 8 * (2 * b.val + q.val / 1024) + 7 := by
    show 8 * (8 * (a.val / 2 - 0) + 2 * (b.val / 1 - 0) + 2 * (p.val / 704 - 0) + 1 * (q.val / 1024 - 0)) + 7 = _
    omega
  have hl : Cert.DownKernelIdeal.Value.loc2Of (ix4 a b p q) = ix4 a 0 p ⟨q.val % 1024, by omega⟩ := by
    funext d; apply Fin.ext
    fin_cases d
    · exact Nat.mod_eq_of_lt a.isLt
    · exact Nat.mod_one _
    · exact Nat.mod_eq_of_lt p.isLt
    · rfl
  have hb : 8 * (2 * b.val + q.val / 1024) + 7 < cfg0.N := by omega
  have e : Cert.DownKernelIdeal.Value.G2 m c (ix4 a b p q) = (outsAt0 m c (8 * (2 * b.val + q.val / 1024) + 7) hb).1 (ix4 a 0 p ⟨q.val % 1024, by omega⟩) := by
    unfold Cert.DownKernelIdeal.Value.G2
    simp only [hp, hl, hb, dite_true]
    rw [Cert.DownKernelIdeal.Value.outsAt0_sweep]
  rw [e, written m c a p _ ⟨8 * (2 * b.val + q.val / 1024) + 7, hb⟩ (by show (8 * (2 * b.val + q.val / 1024) + 7) % 8 = 7; omega)]
  unfold part
  simp only [xblk_at, gblk_at]
  pointwise [Cert.DownReferenceIdeal.Read.val_main_v9, Cert.DownReferenceIdeal.Read.val_main_v8, Cert.DownReferenceIdeal.Read.val_main_v7,
    Cert.DownReferenceIdeal.Read.val_main_v6, Cert.DownReferenceIdeal.Read.val_main_v5]
  refine Fin.sum_mul_add_congr fun s k hl => ?_
  have e1 : (8 * ((8 * (2 * b.val + q.val / 1024) + 7) / 8) + s.val) % 8 = s.val := by omega
  have e2 : (8 * ((8 * (2 * b.val + q.val / 1024) + 7) / 8) + s.val) / 8 % 2 = q.val / 1024 := by omega
  have e3 : (8 * ((8 * (2 * b.val + q.val / 1024) + 7) / 8) + s.val) / 16 = b.val := by omega
  have e4 : q.val / 1024 * 1024 + q.val % 1024 = q.val := by omega
  rw [mul_comm]
  simp only [e1, e2, e3, e4, half, Nat.add_assoc]
  rfl

end Cert.DownKernelIdeal.Sum

end
-- ==== Proof.Silu.lean ====
/- The logistic function two ways, and the gradient of a gate's product through it. -/
module

public import Idealize.ShloMosaic.Lib.Pointwise

@[expose] public section

noncomputable section

namespace Cert.Silu

open Idealize.ShloMosaic

/-- The kernel's logistic function, by the hyperbolic tangent, -/
def sigm (x : EReal) : EReal :=
  Ideal.ofBits FTy.f32 1056964608#32 * (1 + Ideal.tanh (Ideal.ofBits FTy.f32 1056964608#32 * x))

/-- and the reference's, by the exponential. -/
def logi (x : EReal) : EReal := Ideal.div 1 (1 + Ideal.exp (-x))

theorem half : Ideal.ofBits FTy.f32 1056964608#32 = ((1 / 2 : ℝ) : EReal) := by
  simp [Ideal.ofBits, Ideal.ieee]
  norm_cast
  norm_num

theorem real_eq (r : ℝ) : 1 / 2 * (1 + Real.tanh (1 / 2 * r)) = 1 / (1 + Real.exp (-r)) := by
  have e : Real.exp (-r) = Real.exp (-(1 / 2 * r)) / Real.exp (1 / 2 * r) := by
    rw [← Real.exp_sub]; congr 1; ring
  rw [Real.tanh_eq_sinh_div_cosh, Real.sinh_eq, Real.cosh_eq, e]
  have h1 := Real.exp_pos (1 / 2 * r)
  have h2 := Real.exp_pos (-(1 / 2 * r))
  field_simp
  ring

theorem logi_coe (r : ℝ) : logi (r : EReal) = ((1 / (1 + Real.exp (-r)) : ℝ) : EReal) := by
  have h : (1 + Real.exp (-r) : ℝ) ≠ 0 := by have := Real.exp_pos (-r); positivity
  unfold logi
  rw [← EReal.coe_neg, Ideal.exp_coe, ← EReal.coe_one, ← EReal.coe_add, Ideal.div_coe h, ← EReal.coe_mul, one_mul]

theorem logi_top : logi ⊤ = 1 := by
  unfold logi
  rw [EReal.neg_top, Ideal.exp_bot, add_zero, ← EReal.coe_one, Ideal.div_coe one_ne_zero, ← EReal.coe_mul, div_one, one_mul]

theorem logi_bot : logi ⊥ = 0 := by
  unfold logi
  rw [EReal.neg_bot, Ideal.exp_top, ← EReal.coe_one, EReal.coe_add_top]
  simp [Ideal.div]

theorem one_sub_one : (1 : EReal) - 1 = 0 := by
  rw [← EReal.coe_one, ← EReal.coe_sub, sub_self, EReal.coe_zero]

theorem sigm_eq (x : EReal) : sigm x = logi x := by
  unfold sigm
  rw [half]
  induction x with
  | bot =>
    rw [EReal.coe_mul_bot_of_pos (by norm_num), Ideal.tanh_bot, logi_bot, ← sub_eq_add_neg, one_sub_one, mul_zero]
  | top =>
    rw [EReal.coe_mul_top_of_pos (by norm_num), Ideal.tanh_top, logi_top, ← EReal.coe_one, ← EReal.coe_add, ← EReal.coe_mul]
    norm_num
  | coe r =>
    rw [logi_coe, ← EReal.coe_mul, Ideal.tanh_coe, ← EReal.coe_one, ← EReal.coe_add, ← EReal.coe_mul, real_eq]

/-- The gradient by the logistic function's derivative, summed out or factored. -/
theorem gate_eq (y : ℝ) (g : EReal) :
    (y : EReal) * logi g * (1 + g * (1 - logi g)) = (y : EReal) * logi g + g * (y : EReal) * (logi g * (1 - logi g)) := by
  induction g with
  | bot => simp [logi_bot]
  | top => simp [logi_top, one_sub_one]
  | coe r =>
    rw [logi_coe]
    norm_cast
    ring

end Cert.Silu

end
-- ==== Proof.Act.lean ====
/- The gradients of a gate's and an up's products: each block of both results, column by column. -/
module

public import proofs.«01_k».proof.Proof.Gen.ActKernelIdeal.Value
public import proofs.«01_k».proof.Proof.Gen.ActReferenceIdeal.Read
public import proofs.«01_k».proof.Proof.Silu
public import Idealize.ShloMosaic.Lib.Pipeline.ValueKit.Point
public import Idealize.ShloMosaic.Lib.Pointwise

@[expose] public section

set_option maxRecDepth 16384

noncomputable section

namespace Cert.ActKernelIdeal.Block

open Cert.Silu Cert.ActKernelIdeal Cert.ActKernelIdeal.Gen Idealize.ShloMosaic Idealize.ShloMosaic.TcCoe

variable (m : (ℓ : Loc nD τ sig) → Buf (Elt Ideal) ℓ) (c : Dev nD)

/-- The blocks a point reads: the gradient's rows, -/
def oblk (t : Fin cfg0.N) : Vec Ideal S512x2048 .bf16 := iblk m c 0 t

/-- the weight's shard, -/
def wblk (t : Fin cfg0.N) : Vec Ideal S1x1408x2048 .bf16 := iblk m c 1 t

/-- the gate's products -/
def gblk (t : Fin cfg0.N) : Vec Ideal S512x1408 .bf16 := iblk m c 2 t

/-- and the up's. -/
def ublk (t : Fin cfg0.N) : Vec Ideal S512x1408 .bf16 := iblk m c 3 t

/-- The gradient of the gate's product, from the activation's gradient, the gate's and the up's products, -/
def dgate (d g u : EReal) : EReal := d * u * sigm g * (1 + g * (1 - sigm g))

/-- and of the up's. -/
def dup (d g : EReal) : EReal := d * g * sigm g

theorem gate_at (c : Dev nD) (i : grid0.Coords) (arg3 : Memref sig .tc .vmem S512x2048 .bf16) (harg3 : arg3.IsWhole) (arg4 : Memref sig .tc .vmem S1x1408x2048 .bf16) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S512x1408 .bf16) (harg7 : arg7.IsWhole) (arg8 : Memref sig .tc .vmem S512x1408 .bf16) (harg8 : arg8.IsWhole)
    (x0 : Vec Ideal S512x2048 .bf16) (x1 : Vec Ideal S1x1408x2048 .bf16) (x2 : Vec Ideal S512x1408 .bf16) (x3 : Vec Ideal S512x1408 .bf16) (r : Fin 512) (q : Fin 1408) :
    out0_A_4 c i arg3 harg3 arg4 harg4 arg5 harg5 arg6 harg6 arg7 harg7 arg8 harg8 x0 x1 x2 x3 (ix2 r q)
      = dgate (∑ k, x0 (ix2 r k) * x1 (ix3 0 q k)) (x2 (ix2 r q)) (x3 (ix2 r q)) := by
  unfold out0_A_4
  rw [View.read_writes_eq_canon _ _ _ (cover0_A_4 c i arg3 harg3 arg4 harg4 arg5 harg5 arg6 harg6 arg7 harg7 arg8 harg8 x0 x1 x2 x3)]
  have hc := cover0_A_4 c i arg3 harg3 arg4 harg4 arg5 harg5 arg6 harg6 arg7 harg7 arg8 harg8 x0 x1 x2 x3 (ix2 r q)
  unfold kernelRun0_A at hc ⊢
  dsimp only at hc ⊢
  canon_tiles x h using hc
  · open_payloads
    unfold kernelRun0_A.sl.r k0_pay10
    dsimp only
    simp only [View.readAt_eq_ld, Memref.IsWhole.read_unread]
    pointwise [dgate, sigm]
    have hr : r = x 0 := Fin.ext h0
    rw [hr]
    have hq : q = ⟨768 + (x 1).val, Nat.add_lt_add_left x1_lt 768⟩ := Fin.ext h1
    rw [hq]
  · open_payloads
    simp only [View.readAt_eq_ld, Memref.IsWhole.read_unread]
    pointwise [dgate, sigm]
    have hr : r = x 0 := Fin.ext h0
    rw [hr]
    have hq : q = ⟨(x 1).val, Nat.lt_trans x1_lt (by decide)⟩ := Fin.ext h1
    rw [hq]

theorem up_at (c : Dev nD) (i : grid0.Coords) (arg3 : Memref sig .tc .vmem S512x2048 .bf16) (harg3 : arg3.IsWhole) (arg4 : Memref sig .tc .vmem S1x1408x2048 .bf16) (harg4 : arg4.IsWhole) (arg5 : Memref sig .tc .vmem S512x1408 .bf16) (harg5 : arg5.IsWhole) (arg6 : Memref sig .tc .vmem S512x1408 .bf16) (harg6 : arg6.IsWhole) (arg7 : Memref sig .tc .vmem S512x1408 .bf16) (harg7 : arg7.IsWhole) (arg8 : Memref sig .tc .vmem S512x1408 .bf16) (harg8 : arg8.IsWhole)
    (x0 : Vec Ideal S512x2048 .bf16) (x1 : Vec Ideal S1x1408x2048 .bf16) (x2 : Vec Ideal S512x1408 .bf16) (x3 : Vec Ideal S512x1408 .bf16) (r : Fin 512) (q : Fin 1408) :
    out0_A_5 c i arg3 harg3 arg4 harg4 arg5 harg5 arg6 harg6 arg7 harg7 arg8 harg8 x0 x1 x2 x3 (ix2 r q)
      = dup (∑ k, x0 (ix2 r k) * x1 (ix3 0 q k)) (x2 (ix2 r q)) := by
  unfold out0_A_5
  rw [View.read_writes_eq_canon _ _ _ (cover0_A_5 c i arg3 harg3 arg4 harg4 arg5 harg5 arg6 harg6 arg7 harg7 arg8 harg8 x0 x1 x2 x3)]
  have hc := cover0_A_5 c i arg3 harg3 arg4 harg4 arg5 harg5 arg6 harg6 arg7 harg7 arg8 harg8 x0 x1 x2 x3 (ix2 r q)
  unfold kernelRun0_A at hc ⊢
  dsimp only at hc ⊢
  canon_tiles x h using hc
  · open_payloads
    unfold kernelRun0_A.sl.r k0_pay10
    dsimp only
    simp only [View.readAt_eq_ld, Memref.IsWhole.read_unread]
    pointwise [dup, sigm]
    have hr : r = x 0 := Fin.ext h0
    rw [hr]
    have hq : q = ⟨768 + (x 1).val, Nat.add_lt_add_left x1_lt 768⟩ := Fin.ext h1
    rw [hq]
  · open_payloads
    simp only [View.readAt_eq_ld, Memref.IsWhole.read_unread]
    pointwise [dup, sigm]
    have hr : r = x 0 := Fin.ext h0
    rw [hr]
    have hq : q = ⟨(x 1).val, Nat.lt_trans x1_lt (by decide)⟩ := Fin.ext h1
    rw [hq]

theorem idx0 : ∀ t : Fin grid0.N, win0_0.index t = ![t.val % 16, 0] := by decide +kernel
theorem idx1 : ∀ t : Fin grid0.N, win0_1.index t = ![t.val / 16, 0, 0] := by decide +kernel
theorem idx2 : ∀ t : Fin grid0.N, win0_2.index t = ![t.val % 16, t.val / 16] := by decide +kernel
theorem idx3 : ∀ t : Fin grid0.N, win0_3.index t = ![t.val % 16, t.val / 16] := by decide +kernel
theorem idx4 : ∀ t : Fin grid0.N, win0_4.index t = ![t.val % 16, t.val / 16] := by decide +kernel
theorem idx5 : ∀ t : Fin grid0.N, win0_5.index t = ![t.val % 16, t.val / 16] := by decide +kernel

/-- Row `r` of the blocks of point `t`, -/
def row (t : Fin cfg0.N) (r : Fin 512) : Fin 8192 := ⟨t.val % 16 * 512 + r.val, by omega⟩

/-- its shard, -/
def shard (t : Fin cfg0.N) : Fin 4 := ⟨t.val / 16, by have := t.isLt; have : cfg0.N = 64 := N_0; omega⟩

/-- and column `q` of the shard. -/
def col (t : Fin cfg0.N) (q : Fin 1408) : Fin 5632 := ⟨t.val / 16 * 1408 + q.val, by have := t.isLt; have : cfg0.N = 64 := N_0; omega⟩

theorem oblk_at (t : Fin cfg0.N) (r : Fin 512) (k : Fin 2048) :
    oblk m c t (ix2 r k) = m ((c : Thread nD τ).loc main_arg0) (ix2 (row t r) k) := by
  unfold oblk row
  blk_ext! [iblk, V, idx0 t]

theorem wblk_at (t : Fin cfg0.N) (q : Fin 1408) (k : Fin 2048) :
    wblk m c t (ix3 0 q k) = m ((c : Thread nD τ).loc main_arg1) (ix3 (shard t) q k) := by
  unfold wblk shard
  blk_ext! [iblk, V, idx1 t]

theorem gblk_at (t : Fin cfg0.N) (r : Fin 512) (q : Fin 1408) :
    gblk m c t (ix2 r q) = m ((c : Thread nD τ).loc main_arg2) (ix2 (row t r) (col t q)) := by
  unfold gblk row col
  blk_ext! [iblk, V, idx2 t]

theorem ublk_at (t : Fin cfg0.N) (r : Fin 512) (q : Fin 1408) :
    ublk m c t (ix2 r q) = m ((c : Thread nD τ).loc main_arg3) (ix2 (row t r) (col t q)) := by
  unfold ublk row col
  blk_ext! [iblk, V, idx3 t]

/-- The gradient of an activation. -/
def dact (x0 : Vec Ideal S8192x2048 .bf16) (x1 : Vec Ideal S4x1408x2048 .bf16) (p : Fin 8192) (a : Fin 4) (q : Fin 1408) : EReal :=
  ∑ k : Fin 2048, x0 (ix2 p k) * x1 (ix3 a q k)

theorem arr_gate (t : Fin cfg0.N) (r : Fin 512) (q : Fin 1408) :
    (dats m 0 c).arrAt 4 cfg0.N (ix2 (row t r) (col t q) : S8192x5632.Idx)
      = dgate (dact (m ((c : Thread nD τ).loc main_arg0)) (m ((c : Thread nD τ).loc main_arg1)) (row t r) (shard t) q) (m ((c : Thread nD τ).loc main_arg2) (ix2 (row t r) (col t q)))
        (m ((c : Thread nD τ).loc main_arg3) (ix2 (row t r) (col t q))) := by
  have he : (((cfg0.win 4).blk t).view.emb (ix2 r q : S512x1408.Idx) : S8192x5632.Idx) = ix2 (row t r) (col t q) := by
    funext a; apply Fin.ext
    refine (Pipeline.Window.rect_emb_val win0_4 t (ix2 r q) a rfl).trans ?_
    rw [idx4 t]
    fin_cases a <;> rfl
  have hf := (dats m 0 c).arrAt_emb_eq_flushed 4 Value.disjoint4 t (flush0_4 t) (ix2 r q : S512x1408.Idx)
  rw [he] at hf
  refine hf.trans ?_
  have ho := gate_at c (grid0.coords t) (ms0_0 t) (hs0_0 t) (ms0_1 t) (hs0_1 t) (ms0_2 t) (hs0_2 t) (ms0_3 t) (hs0_3 t) (ms0_4 t) (hs0_4 t)
    (ms0_5 t) (hs0_5 t) (oblk m c t) (wblk m c t) (gblk m c t) (ublk m c t) r q
  simp only [oblk_at, wblk_at, gblk_at, ublk_at] at ho
  unfold oblk wblk gblk ublk at ho
  unfold dact
  rw [Value.flushed4_A]
  generalize out0_A_4 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) = w at ho ⊢
  exact ho

theorem arr_up (t : Fin cfg0.N) (r : Fin 512) (q : Fin 1408) :
    (dats m 0 c).arrAt 5 cfg0.N (ix2 (row t r) (col t q) : S8192x5632.Idx)
      = dup (dact (m ((c : Thread nD τ).loc main_arg0)) (m ((c : Thread nD τ).loc main_arg1)) (row t r) (shard t) q) (m ((c : Thread nD τ).loc main_arg2) (ix2 (row t r) (col t q))) := by
  have he : (((cfg0.win 5).blk t).view.emb (ix2 r q : S512x1408.Idx) : S8192x5632.Idx) = ix2 (row t r) (col t q) := by
    funext a; apply Fin.ext
    refine (Pipeline.Window.rect_emb_val win0_5 t (ix2 r q) a rfl).trans ?_
    rw [idx5 t]
    fin_cases a <;> rfl
  have hf := (dats m 0 c).arrAt_emb_eq_flushed 5 Value.disjoint5 t (flush0_5 t) (ix2 r q : S512x1408.Idx)
  rw [he] at hf
  refine hf.trans ?_
  have ho := up_at c (grid0.coords t) (ms0_0 t) (hs0_0 t) (ms0_1 t) (hs0_1 t) (ms0_2 t) (hs0_2 t) (ms0_3 t) (hs0_3 t) (ms0_4 t) (hs0_4 t)
    (ms0_5 t) (hs0_5 t) (oblk m c t) (wblk m c t) (gblk m c t) (ublk m c t) r q
  simp only [oblk_at, wblk_at, gblk_at, ublk_at] at ho
  unfold oblk wblk gblk ublk at ho
  unfold dact
  rw [Value.flushed5_A]
  generalize out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) = w at ho ⊢
  exact ho

end Cert.ActKernelIdeal.Block

end
-- ==== Proof.ActValue.lean ====
/- The gradients of a gate's and an up's products are the reference's, where the gradient's rows, the weight and the up's
   products are finite. -/
module

public import proofs.«01_k».proof.Proof.Act
public import proofs.«01_k».proof.Proof.Finite
public import proofs.«01_k».proof.Proof.Gen.Pre_finite_factors

@[expose] public section

set_option maxRecDepth 16384

noncomputable section

namespace Cert.ActKernelIdeal.Block

open Cert.Silu Cert.ActKernelIdeal Cert.ActKernelIdeal.Gen Idealize.ShloMosaic Idealize.ShloMosaic.TcCoe

section Finite

open Cert.Pre_finite_factors Cert.Pre_finite_factors.Gen Cert.Pre_finite_logits.Read

variable (x0 : Vec Ideal S8192x2048 .bf16) (x1 : Vec Ideal S4x1408x2048 .bf16) (x2 x3 : Vec Ideal S8192x5632 .bf16)

theorem real0 (h : (fn (F := Ideal) x0 x1 x2 x3).1 = fun _ => 1#1) (p : Fin 8192) (k : Fin 2048) :
    ∃ r : ℝ, x0 (ix2 p k) = (r : EReal) := by
  refine real_of_lt _ ?_
  refine Eq.trans ?_ (congrFun h (ix2 p k))
  unfold fn
  dsimp only
  pointwise
  rfl

theorem real1 (h : (fn (F := Ideal) x0 x1 x2 x3).2.1 = fun _ => 1#1) (a : Fin 4) (q : Fin 1408) (k : Fin 2048) :
    ∃ r : ℝ, x1 (ix3 a q k) = (r : EReal) := by
  refine real_of_lt _ ?_
  refine Eq.trans ?_ (congrFun h (ix3 a q k))
  unfold fn
  dsimp only
  pointwise
  rfl

theorem real3 (h : (fn (F := Ideal) x0 x1 x2 x3).2.2 = fun _ => 1#1) (p : Fin 8192) (q : Fin 5632) :
    ∃ r : ℝ, x3 (ix2 p q) = (r : EReal) := by
  refine real_of_lt _ ?_
  refine Eq.trans ?_ (congrFun h (ix2 p q))
  unfold fn
  dsimp only
  pointwise
  rfl

theorem dact_real (h0 : (fn (F := Ideal) x0 x1 x2 x3).1 = fun _ => 1#1) (h1 : (fn (F := Ideal) x0 x1 x2 x3).2.1 = fun _ => 1#1)
    (p : Fin 8192) (a : Fin 4) (q : Fin 1408) : ∃ r : ℝ, dact x0 x1 p a q = (r : EReal) := by
  choose o ho using real0 x0 x1 x2 x3 h0
  choose w hw using real1 x0 x1 x2 x3 h1
  refine ⟨∑ k, o p k * w a q k, ?_⟩
  unfold dact
  simp only [ho, hw]
  rw [Cert.Softmax.coe_sum]
  simp only [EReal.coe_mul]

end Finite

section Reference

open Cert.ActReferenceIdeal Cert.ActReferenceIdeal.Read

variable (x0 : Vec Ideal S8192x2048 .bf16) (x1 : Vec Ideal S4x1408x2048 .bf16) (x2 x3 : Vec Ideal S8192x5632 .bf16)

/-- The reference's gradient of a gate's product, -/
theorem ref_gate (p : Fin 8192) (q : Fin 5632) (y : ℝ) (a : Fin 4) (b : Fin 1408) (hq : q.val = a.val * 1408 + b.val)
    (hy : dact x0 x1 p a b * x3 (ix2 p q) = (y : EReal)) :
    val_main_v13 (F := Ideal) x0 x1 x2 x3 (ix2 p q) = dgate (dact x0 x1 p a b) (x2 (ix2 p q)) (x3 (ix2 p q)) := by
  have ha : (⟨q.val / 1408, by omega⟩ : Fin 4) = a := Fin.ext (by show q.val / 1408 = _; omega)
  have hb : (⟨q.val % 1408, by omega⟩ : Fin 1408) = b := Fin.ext (by show q.val % 1408 = _; omega)
  pointwise [val_main_v13, val_main_v12, val_main_call1_v1, val_main_call1_v2, val_main_v10, val_main_v8, val_main_v5, val_main_v4, val_main_v1_2,
    val_main_call0_v4, val_main_call0_v3, val_main_call0_v2, val_main_call0_cst, val_main_call0_v1, val_main_call0_v0, val_main_v0, val_main_v2,
    val_main_v7, val_main_call0_cst_0, val_main_call1_v0, val_main_v1_1, val_main_call0_v7, val_main_call0_v6, val_main_call0_cst_1]
  refine Eq.trans (b := dact x0 x1 p ⟨q.val / 1408, by omega⟩ ⟨q.val % 1408, by omega⟩ * x3 (ix2 p q) * logi (x2 (ix2 p q))
    + x2 (ix2 p q) * (dact x0 x1 p ⟨q.val / 1408, by omega⟩ ⟨q.val % 1408, by omega⟩ * x3 (ix2 p q))
      * (logi (x2 (ix2 p q)) * (1 - logi (x2 (ix2 p q))))) rfl ?_
  rw [ha, hb]
  unfold dgate
  rw [sigm_eq, hy, gate_eq y]

/-- and of an up's product. -/
theorem ref_up (p : Fin 8192) (q : Fin 5632) (a : Fin 4) (b : Fin 1408) (hq : q.val = a.val * 1408 + b.val) :
    val_main_v11 (F := Ideal) x0 x1 x2 (ix2 p q) = dup (dact x0 x1 p a b) (x2 (ix2 p q)) := by
  have ha : (⟨q.val / 1408, by omega⟩ : Fin 4) = a := Fin.ext (by show q.val / 1408 = _; omega)
  have hb : (⟨q.val % 1408, by omega⟩ : Fin 1408) = b := Fin.ext (by show q.val % 1408 = _; omega)
  pointwise [val_main_v11, val_main_v9, val_main_v1_0, val_main_v8, val_main_v5, val_main_v4, val_main_v1_2,
    val_main_call0_v4, val_main_call0_v3, val_main_call0_v2, val_main_call0_cst, val_main_call0_v1, val_main_call0_v0, val_main_v0,
    val_main_v7, val_main_call0_cst_0]
  refine Eq.trans (b := x2 (ix2 p q) * logi (x2 (ix2 p q)) * dact x0 x1 p ⟨q.val / 1408, by omega⟩ ⟨q.val % 1408, by omega⟩) rfl ?_
  rw [ha, hb]
  unfold dup
  rw [sigm_eq, mul_comm, ← mul_assoc]

end Reference

variable (m : (ℓ : Loc nD τ sig) → Buf (Elt Ideal) ℓ) (c : Dev nD)

/-- The four arguments. -/
def arg0 : Vec Ideal S8192x2048 .bf16 := m ((c : Thread nD τ).loc main_arg0)
def arg1 : Vec Ideal S4x1408x2048 .bf16 := m ((c : Thread nD τ).loc main_arg1)
def arg2 : Vec Ideal S8192x5632 .bf16 := m ((c : Thread nD τ).loc main_arg2)
def arg3 : Vec Ideal S8192x5632 .bf16 := m ((c : Thread nD τ).loc main_arg3)

/-- The point whose blocks hold an index, and its place in them. -/
theorem point (i : S8192x5632.Idx) : ∃ (t : Fin cfg0.N) (r : Fin 512) (q : Fin 1408), i = ix2 (row t r) (col t q) := by
  have l0 : (i 0 : Nat) < 8192 := (i 0).isLt
  have l1 : (i 1 : Nat) < 5632 := (i 1).isLt
  have hN : cfg0.N = 64 := N_0
  refine ⟨⟨16 * ((i 1 : Nat) / 1408) + (i 0 : Nat) / 512, by omega⟩, ⟨(i 0 : Nat) % 512, by omega⟩, ⟨(i 1 : Nat) % 1408, by omega⟩, ?_⟩
  funext a; apply Fin.ext
  fin_cases a
  · show (i 0 : Nat) = (16 * ((i 1 : Nat) / 1408) + (i 0 : Nat) / 512) % 16 * 512 + (i 0 : Nat) % 512
    omega
  · show (i 1 : Nat) = (16 * ((i 1 : Nat) / 1408) + (i 0 : Nat) / 512) / 16 * 1408 + (i 1 : Nat) % 1408
    omega

theorem value_up (i : S8192x5632.Idx) :
    Cert.ActReferenceIdeal.Read.val_main_v11 (F := Ideal) (arg0 m c) (arg1 m c) (arg2 m c) i = (dats m 0 c).arrAt 5 cfg0.N i := by
  obtain ⟨t, r, q, rfl⟩ := point i
  rw [arr_up]
  exact ref_up _ _ _ _ _ (shard t) q rfl

theorem value_gate (h0 : (Cert.Pre_finite_factors.fn (F := Ideal) (arg0 m c) (arg1 m c) (arg2 m c) (arg3 m c)).1 = fun _ => 1#1)
    (h1 : (Cert.Pre_finite_factors.fn (F := Ideal) (arg0 m c) (arg1 m c) (arg2 m c) (arg3 m c)).2.1 = fun _ => 1#1)
    (h3 : (Cert.Pre_finite_factors.fn (F := Ideal) (arg0 m c) (arg1 m c) (arg2 m c) (arg3 m c)).2.2 = fun _ => 1#1) (i : S8192x5632.Idx) :
    Cert.ActReferenceIdeal.Read.val_main_v13 (F := Ideal) (arg0 m c) (arg1 m c) (arg2 m c) (arg3 m c) i = (dats m 0 c).arrAt 4 cfg0.N i := by
  obtain ⟨t, r, q, rfl⟩ := point i
  rw [arr_gate]
  obtain ⟨d, hd⟩ := dact_real _ _ _ _ h0 h1 (row t r) (shard t) q
  obtain ⟨u, hu⟩ := real3 _ _ _ _ h3 (row t r) (col t q)
  exact ref_gate _ _ _ _ _ _ (d * u) (shard t) q rfl (by rw [hd, hu, EReal.coe_mul])

end Cert.ActKernelIdeal.Block

end
-- ==== Proof.SguIn.lean ====
/- The spatial-gating mixer's input product: each block of the result is a block of rows times a shard of the weight. -/
module

public import proofs.«01_k».proof.Proof.Gen.SguInKernelIdeal.Value
public import proofs.«01_k».proof.Proof.Gen.SguInReferenceIdeal.Read
public import Idealize.ShloMosaic.Lib.Pipeline.ValueKit.Point
public import Idealize.ShloMosaic.Lib.Pointwise

@[expose] public section

set_option maxRecDepth 16384

noncomputable section

namespace Cert.SguInKernelIdeal.Block

open Cert.SguInKernelIdeal Cert.SguInKernelIdeal.Gen Idealize.ShloMosaic Idealize.ShloMosaic.TcCoe

variable (m : (ℓ : Loc nD τ sig) → Buf (Elt Ideal) ℓ) (c : Dev nD)

/-- The blocks a point reads: the rows, -/
def hblk (t : Fin cfg0.N) : Vec Ideal S1024x2048 .bf16 := iblk m c 0 t

/-- and the weight's shard. -/
def wblk (t : Fin cfg0.N) : Vec Ideal S1x2048x896 .bf16 := iblk m c 1 t

/-- The block a point writes back. -/
theorem out_at (x0 : Vec Ideal S1024x2048 .bf16) (x1 : Vec Ideal S1x2048x896 .bf16) (r : Fin 1024) (q : Fin 896) :
    out0_2 x0 x1 (ix2 r q) = ∑ k, x0 (ix2 r k) * x1 (ix3 0 k q) := by
  have hc := cover0_2 (k0_pay1 (View.ld x1 r0_0) (View.ld x0 r0_1)) (ix2 r q)
  unfold out0_2
  canon_tiles x h using hc
  open_payloads
  pointwise [k0_pay1]
  have hr : r = x 0 := Fin.ext h0
  have hq : q = x 1 := Fin.ext h1
  rw [hr, hq]

theorem idx0 : ∀ t : Fin grid0.N, win0_0.index t = ![t.val % 8, 0] := by decide +kernel
theorem idx1 : ∀ t : Fin grid0.N, win0_1.index t = ![t.val / 8, 0, 0] := by decide +kernel
theorem idx2 : ∀ t : Fin grid0.N, win0_2.index t = ![t.val % 8, t.val / 8] := by decide +kernel

/-- Row `r` of the blocks of point `t`, -/
def row (t : Fin cfg0.N) (r : Fin 1024) : Fin 8192 := ⟨t.val % 8 * 1024 + r.val, by omega⟩

/-- its shard, -/
def shard (t : Fin cfg0.N) : Fin 4 := ⟨t.val / 8, by have := t.isLt; have : cfg0.N = 32 := N_0; omega⟩

/-- and column `q` of the shard. -/
def col (t : Fin cfg0.N) (q : Fin 896) : Fin 3584 := ⟨t.val / 8 * 896 + q.val, by have := t.isLt; have : cfg0.N = 32 := N_0; omega⟩

theorem hblk_at (t : Fin cfg0.N) (r : Fin 1024) (k : Fin 2048) :
    hblk m c t (ix2 r k) = m ((c : Thread nD τ).loc main_arg0) (ix2 (row t r) k) := by
  unfold hblk row
  blk_ext! [iblk, V, idx0 t]

theorem wblk_at (t : Fin cfg0.N) (k : Fin 2048) (q : Fin 896) :
    wblk m c t (ix3 0 k q) = m ((c : Thread nD τ).loc main_arg1) (ix3 (shard t) k q) := by
  unfold wblk shard
  blk_ext! [iblk, V, idx1 t]

/-- The point whose block holds an index, and its place in it. -/
theorem point (i : S8192x3584.Idx) : ∃ (t : Fin cfg0.N) (r : Fin 1024) (q : Fin 896), i = ix2 (row t r) (col t q) := by
  have l0 : (i 0 : Nat) < 8192 := (i 0).isLt
  have l1 : (i 1 : Nat) < 3584 := (i 1).isLt
  have hN : cfg0.N = 32 := N_0
  refine ⟨⟨8 * ((i 1 : Nat) / 896) + (i 0 : Nat) / 1024, by omega⟩, ⟨(i 0 : Nat) % 1024, by omega⟩, ⟨(i 1 : Nat) % 896, by omega⟩, ?_⟩
  funext a; apply Fin.ext
  fin_cases a
  · show (i 0 : Nat) = (8 * ((i 1 : Nat) / 896) + (i 0 : Nat) / 1024) % 8 * 1024 + (i 0 : Nat) % 1024
    omega
  · show (i 1 : Nat) = (8 * ((i 1 : Nat) / 896) + (i 0 : Nat) / 1024) / 8 * 896 + (i 1 : Nat) % 896
    omega

/-- An entry of the product. -/
def prod (x0 : Vec Ideal S8192x2048 .bf16) (x1 : Vec Ideal S4x2048x896 .bf16) (p : Fin 8192) (a : Fin 4) (q : Fin 896) : EReal :=
  ∑ k : Fin 2048, x0 (ix2 p k) * x1 (ix3 a k q)

theorem arr_at (t : Fin cfg0.N) (r : Fin 1024) (q : Fin 896) :
    (dats m 0 c).arrAt 2 cfg0.N (ix2 (row t r) (col t q) : S8192x3584.Idx)
      = prod (m ((c : Thread nD τ).loc main_arg0)) (m ((c : Thread nD τ).loc main_arg1)) (row t r) (shard t) q := by
  have he : (((cfg0.win 2).blk t).view.emb (ix2 r q : S1024x896.Idx) : S8192x3584.Idx) = ix2 (row t r) (col t q) := by
    funext a; apply Fin.ext
    refine (Pipeline.Window.rect_emb_val win0_2 t (ix2 r q) a rfl).trans ?_
    rw [idx2 t]
    fin_cases a <;> rfl
  have hf := (dats m 0 c).arrAt_emb_eq_flushed 2 Value.disjoint2 t (flush0_2 t) (ix2 r q : S1024x896.Idx)
  rw [he] at hf
  refine hf.trans ?_
  have ho := out_at (hblk m c t) (wblk m c t) r q
  simp only [hblk_at, wblk_at] at ho
  unfold hblk wblk at ho
  unfold prod
  rw [Value.flushed2]
  generalize out0_2 (iblk m c 0 t) (iblk m c 1 t) = w at ho ⊢
  exact ho

theorem value (i : S8192x3584.Idx) :
    Cert.SguInReferenceIdeal.Read.val_main_v5 (F := Ideal) (m ((c : Thread nD τ).loc main_arg0)) (m ((c : Thread nD τ).loc main_arg1)) i
      = (dats m 0 c).arrAt 2 cfg0.N i := by
  obtain ⟨t, r, q, rfl⟩ := point i
  rw [arr_at]
  have ha : (⟨(col t q).val / 896, by omega⟩ : Fin 4) = shard t := Fin.ext (by show (t.val / 8 * 896 + q.val) / 896 = t.val / 8; omega)
  have hb : (⟨(col t q).val % 896, by omega⟩ : Fin 896) = q := Fin.ext (by show (t.val / 8 * 896 + q.val) % 896 = q.val; omega)
  pointwise [Cert.SguInReferenceIdeal.Read.val_main_v5, Cert.SguInReferenceIdeal.Read.val_main_v4, Cert.SguInReferenceIdeal.Read.val_main_v3, Cert.SguInReferenceIdeal.Read.val_main_v2, Cert.SguInReferenceIdeal.Read.val_main_v1, Cert.SguInReferenceIdeal.Read.val_main_v0]
  refine Eq.trans (b := prod (m ((c : Thread nD τ).loc main_arg0)) (m ((c : Thread nD τ).loc main_arg1)) (row t r)
    ⟨(col t q).val / 896, by omega⟩ ⟨(col t q).val % 896, by omega⟩) rfl ?_
  rw [ha, hb]

end Cert.SguInKernelIdeal.Block

end
-- ==== Proof.AttnIn.lean ====
/- The attention mixer's input product: each block of the result is a block of rows times a shard of the weight. -/
module

public import proofs.«01_k».proof.Proof.Gen.AttnInKernelIdeal.Value
public import proofs.«01_k».proof.Proof.Gen.AttnInReferenceIdeal.Read
public import Idealize.ShloMosaic.Lib.Pipeline.ValueKit.Point
public import Idealize.ShloMosaic.Lib.Pointwise

@[expose] public section

set_option maxRecDepth 16384

noncomputable section

namespace Cert.AttnInKernelIdeal.Block

open Cert.AttnInKernelIdeal Cert.AttnInKernelIdeal.Gen Idealize.ShloMosaic Idealize.ShloMosaic.TcCoe

variable (m : (ℓ : Loc nD τ sig) → Buf (Elt Ideal) ℓ) (c : Dev nD)

/-- The blocks a point reads: the rows, -/
def hblk (t : Fin cfg0.N) : Vec Ideal S1024x2048 .bf16 := iblk m c 0 t

/-- and the weight's shard. -/
def wblk (t : Fin cfg0.N) : Vec Ideal S1x2048x1280 .bf16 := iblk m c 1 t

/-- The block a point writes back. -/
theorem out_at (x0 : Vec Ideal S1024x2048 .bf16) (x1 : Vec Ideal S1x2048x1280 .bf16) (r : Fin 1024) (q : Fin 1280) :
    out0_2 x0 x1 (ix2 r q) = ∑ k, x0 (ix2 r k) * x1 (ix3 0 k q) := by
  have hc := cover0_2 (k0_pay1 (View.ld x1 r0_0) (View.ld x0 r0_1)) (ix2 r q)
  unfold out0_2
  canon_tiles x h using hc
  open_payloads
  pointwise [k0_pay1]
  have hr : r = x 0 := Fin.ext h0
  have hq : q = x 1 := Fin.ext h1
  rw [hr, hq]

theorem idx0 : ∀ t : Fin grid0.N, win0_0.index t = ![t.val % 8, 0] := by decide +kernel
theorem idx1 : ∀ t : Fin grid0.N, win0_1.index t = ![t.val / 8, 0, 0] := by decide +kernel
theorem idx2 : ∀ t : Fin grid0.N, win0_2.index t = ![t.val % 8, t.val / 8] := by decide +kernel

/-- Row `r` of the blocks of point `t`, -/
def row (t : Fin cfg0.N) (r : Fin 1024) : Fin 8192 := ⟨t.val % 8 * 1024 + r.val, by omega⟩

/-- its shard, -/
def shard (t : Fin cfg0.N) : Fin 4 := ⟨t.val / 8, by have := t.isLt; have : cfg0.N = 32 := N_0; omega⟩

/-- and column `q` of the shard. -/
def col (t : Fin cfg0.N) (q : Fin 1280) : Fin 5120 := ⟨t.val / 8 * 1280 + q.val, by have := t.isLt; have : cfg0.N = 32 := N_0; omega⟩

theorem hblk_at (t : Fin cfg0.N) (r : Fin 1024) (k : Fin 2048) :
    hblk m c t (ix2 r k) = m ((c : Thread nD τ).loc main_arg0) (ix2 (row t r) k) := by
  unfold hblk row
  blk_ext! [iblk, V, idx0 t]

theorem wblk_at (t : Fin cfg0.N) (k : Fin 2048) (q : Fin 1280) :
    wblk m c t (ix3 0 k q) = m ((c : Thread nD τ).loc main_arg1) (ix3 (shard t) k q) := by
  unfold wblk shard
  blk_ext! [iblk, V, idx1 t]

/-- The point whose block holds an index, and its place in it. -/
theorem point (i : S8192x5120.Idx) : ∃ (t : Fin cfg0.N) (r : Fin 1024) (q : Fin 1280), i = ix2 (row t r) (col t q) := by
  have l0 : (i 0 : Nat) < 8192 := (i 0).isLt
  have l1 : (i 1 : Nat) < 5120 := (i 1).isLt
  have hN : cfg0.N = 32 := N_0
  refine ⟨⟨8 * ((i 1 : Nat) / 1280) + (i 0 : Nat) / 1024, by omega⟩, ⟨(i 0 : Nat) % 1024, by omega⟩, ⟨(i 1 : Nat) % 1280, by omega⟩, ?_⟩
  funext a; apply Fin.ext
  fin_cases a
  · show (i 0 : Nat) = (8 * ((i 1 : Nat) / 1280) + (i 0 : Nat) / 1024) % 8 * 1024 + (i 0 : Nat) % 1024
    omega
  · show (i 1 : Nat) = (8 * ((i 1 : Nat) / 1280) + (i 0 : Nat) / 1024) / 8 * 1280 + (i 1 : Nat) % 1280
    omega

/-- An entry of the product. -/
def prod (x0 : Vec Ideal S8192x2048 .bf16) (x1 : Vec Ideal S4x2048x1280 .bf16) (p : Fin 8192) (a : Fin 4) (q : Fin 1280) : EReal :=
  ∑ k : Fin 2048, x0 (ix2 p k) * x1 (ix3 a k q)

theorem arr_at (t : Fin cfg0.N) (r : Fin 1024) (q : Fin 1280) :
    (dats m 0 c).arrAt 2 cfg0.N (ix2 (row t r) (col t q) : S8192x5120.Idx)
      = prod (m ((c : Thread nD τ).loc main_arg0)) (m ((c : Thread nD τ).loc main_arg1)) (row t r) (shard t) q := by
  have he : (((cfg0.win 2).blk t).view.emb (ix2 r q : S1024x1280.Idx) : S8192x5120.Idx) = ix2 (row t r) (col t q) := by
    funext a; apply Fin.ext
    refine (Pipeline.Window.rect_emb_val win0_2 t (ix2 r q) a rfl).trans ?_
    rw [idx2 t]
    fin_cases a <;> rfl
  have hf := (dats m 0 c).arrAt_emb_eq_flushed 2 Value.disjoint2 t (flush0_2 t) (ix2 r q : S1024x1280.Idx)
  rw [he] at hf
  refine hf.trans ?_
  have ho := out_at (hblk m c t) (wblk m c t) r q
  simp only [hblk_at, wblk_at] at ho
  unfold hblk wblk at ho
  unfold prod
  rw [Value.flushed2]
  generalize out0_2 (iblk m c 0 t) (iblk m c 1 t) = w at ho ⊢
  exact ho

theorem value (i : S8192x5120.Idx) :
    Cert.AttnInReferenceIdeal.Read.val_main_v4 (F := Ideal) (m ((c : Thread nD τ).loc main_arg0)) (m ((c : Thread nD τ).loc main_arg1)) i
      = (dats m 0 c).arrAt 2 cfg0.N i := by
  obtain ⟨t, r, q, rfl⟩ := point i
  rw [arr_at]
  have ha : (⟨(col t q).val / 1280, by omega⟩ : Fin 4) = shard t := Fin.ext (by show (t.val / 8 * 1280 + q.val) / 1280 = t.val / 8; omega)
  have hb : (⟨(col t q).val % 1280, by omega⟩ : Fin 1280) = q := Fin.ext (by show (t.val / 8 * 1280 + q.val) % 1280 = q.val; omega)
  pointwise [Cert.AttnInReferenceIdeal.Read.val_main_v4, Cert.AttnInReferenceIdeal.Read.val_main_v3, Cert.AttnInReferenceIdeal.Read.val_main_v2, Cert.AttnInReferenceIdeal.Read.val_main_v1, Cert.AttnInReferenceIdeal.Read.val_main_v0]
  refine Eq.trans (b := prod (m ((c : Thread nD τ).loc main_arg0)) (m ((c : Thread nD τ).loc main_arg1)) (row t r)
    ⟨(col t q).val / 1280, by omega⟩ ⟨(col t q).val % 1280, by omega⟩) rfl ?_
  rw [ha, hb]

end Cert.AttnInKernelIdeal.Block

end
-- ==== Proof.SguInW.lean ====
/- The gradient of the spatial-gating mixer's input weight: the kernel's array after the run is the product of the activations' transpose with
   the gradient, laid out by halves and by shards. -/
module

public import proofs.«01_k».proof.Proof.Gen.SguInWKernelIdeal.Value
public import proofs.«01_k».proof.Proof.Gen.SguInWReferenceIdeal.Read
public import Idealize.ShloMosaic.Lib.Pipeline.ValueKit.Point
public import Idealize.ShloMosaic.Lib.Pointwise

@[expose] public section

set_option maxRecDepth 16384

noncomputable section

namespace Cert.SguInWKernelIdeal.Sum

open Cert.SguInWKernelIdeal Cert.SguInWKernelIdeal.Gen Idealize.ShloMosaic Idealize.ShloMosaic.TcCoe

variable (m : (ℓ : Loc nD τ sig) → Buf (Elt Ideal) ℓ) (c : Dev nD)

/-- Row `p` of half `a` of a shard. -/
def half (a : Fin 2) (p : Fin 1024) : Fin 2048 := ⟨a.val * 1024 + p.val, by omega⟩

theorem pay1 (g : Vec Ideal S1024x896 .bf16) (x : Vec Ideal S1024x2048 .bf16) (r : Fin 2048) (q : Fin 896) :
    k0_pay1 g x (ix2 r q) = ∑ k, x (ix2 k r) * g (ix2 k q) := by
  pointwise [k0_pay1]

theorem pay2 (g : Vec Ideal S1024x896 .bf16) (x : Vec Ideal S1024x2048 .bf16) (o : Vec Ideal S2048x896 .f32) (r : Fin 2048) (q : Fin 896) :
    k0_pay2 g x o (ix2 r q) = o (ix2 r q) + ∑ k, x (ix2 k r) * g (ix2 k q) := by
  pointwise [k0_pay2]

theorem pay3 (g : Vec Ideal S1024x896 .bf16) (x : Vec Ideal S1024x2048 .bf16) (o : Vec Ideal S2048x896 .f32) (a : Fin 2) (p : Fin 1024)
    (q : Fin 896) :
    k0_pay3 g x o (ix4 a 0 p q) = o (ix2 (half a p) q) + ∑ k, x (ix2 k (half a p)) * g (ix2 k q) := by
  pointwise [k0_pay3]
  rfl

/-- The blocks a point reads, of the activations -/
def xblk (t : Fin cfg0.N) : Vec Ideal S1024x2048 .bf16 := iblk m c 0 t

/-- and of the gradient. -/
def gblk (t : Fin cfg0.N) : Vec Ideal S1024x896 .bf16 := iblk m c 1 t

/-- One point's product. -/
def part (t : Fin cfg0.N) (r : Fin 2048) (q : Fin 896) : EReal :=
  ∑ k : Fin 1024, xblk m c t (ix2 k r) * gblk m c t (ix2 k q)

/-- What a point leaves: the accumulator, or at a run's last point the block written back. -/
def left (a : Fin 2) (p : Fin 1024) (q : Fin 896) (n : ℕ) (h : n < cfg0.N) : EReal :=
  if n % 8 = 7 then (outsAt0 m c n h).1 (ix4 a 0 p q) else (outsAt0 m c n h).2 (ix2 (half a p) q)

theorem left_first (a : Fin 2) (p : Fin 1024) (q : Fin 896) (t : Fin cfg0.N) (h : t.val % 8 = 0) :
    left m c a p q t.val t.isLt = 0 + part m c t (half a p) q := by
  unfold left
  rw [if_neg (by omega), zero_add, outsAt0_A m c t h (by omega) (by omega)]
  frame_out
  rw [pay1]
  rfl

theorem left_next (a : Fin 2) (p : Fin 1024) (q : Fin 896) (t : Fin cfg0.N) (h : ¬t.val % 8 = 0) :
    left m c a p q t.val t.isLt
      = left m c a p q (t.val - 1) (Nat.lt_of_le_of_lt (Nat.sub_le _ _) t.isLt) + part m c t (half a p) q := by
  unfold left
  rw [if_neg (show ¬(t.val - 1) % 8 = 7 by omega)]
  by_cases h2 : t.val % 8 = 7
  · rw [if_pos h2, outsAt0_C m c t h (by omega) h2]
    frame_out
    rw [pay3]
    exact congrArg (· + part m c t (half a p) q) (congrFun (Memref.IsWhole.read_unread _ _) _)
  · rw [if_neg h2, outsAt0_B m c t h (by omega) h2]
    frame_out
    rw [pay2]
    exact congrArg (· + part m c t (half a p) q) (congrFun (Memref.IsWhole.read_unread _ _) _)

/-- A run's last point writes back the sum of the run's products. -/
theorem written (a : Fin 2) (p : Fin 1024) (q : Fin 896) (t : Fin cfg0.N) (h : t.val % 8 = 7) :
    (outsAt0 m c t.val t.isLt).1 (ix4 a 0 p q)
      = ∑ s : Fin 8, part m c ⟨8 * (t.val / 8) + s.val, Pipeline.run_point_lt_of_flush t h s⟩ (half a p) q := by
  have e := Pipeline.eq_sum_fin_of_reset_step_of_flush (left m c a p q) 8 0 (fun t => part m c t (half a p) q)
    (left_first m c a p q) (left_next m c a p q) t h
  rw [zero_add] at e
  rw [← e]
  unfold left
  rw [if_pos h]

theorem idx0 : ∀ t : Fin grid0.N, win0_0.index t = ![t.val % 8, 0] := by decide +kernel
theorem idx1 : ∀ t : Fin grid0.N, win0_1.index t = ![t.val % 8, t.val / 8] := by decide +kernel

theorem xblk_at (t : Fin cfg0.N) (k : Fin 1024) (r : Fin 2048) :
    xblk m c t (ix2 k r) = m ((c : Thread nD τ).loc main_arg0) (ix2 ⟨t.val % 8 * 1024 + k.val, by omega⟩ r) := by
  unfold xblk
  blk_ext! [iblk, V, idx0 t]

theorem gblk_at (t : Fin cfg0.N) (k : Fin 1024) (q : Fin 896) :
    gblk m c t (ix2 k q) = m ((c : Thread nD τ).loc main_arg1)
      (ix2 ⟨t.val % 8 * 1024 + k.val, by omega⟩ ⟨t.val / 8 * 896 + q.val, by have := t.isLt; have : cfg0.N = 32 := N_0; omega⟩) := by
  unfold gblk
  blk_ext! [iblk, V, idx1 t]

theorem value (i : S2x4x1024x896.Idx) :
    Cert.SguInWKernelIdeal.Value.G2 m c i = Cert.SguInWReferenceIdeal.Read.val_main_v10 (F := Ideal) (m ((c : Thread nD τ).loc main_arg0)) (m ((c : Thread nD τ).loc main_arg1)) i := by
  obtain ⟨a, b, p, q, rfl⟩ : ∃ (a : Fin 2) (b : Fin 4) (p : Fin 1024) (q : Fin 896), i = ix4 a b p q := ⟨_, _, _, _, eq_ix4 i⟩
  have hN : cfg0.N = 32 := N_0
  have hp : Cert.SguInWKernelIdeal.Value.pt2Of (ix4 a b p q) = 8 * b.val + 7 := by
    show 8 * (4 * (a.val / 2 - 0) + 1 * (b.val / 1 - 0) + 1 * (p.val / 1024 - 0) + 1 * (q.val / 896 - 0)) + 7 = _
    omega
  have hl : Cert.SguInWKernelIdeal.Value.loc2Of (ix4 a b p q) = ix4 a 0 p q := by
    funext d; apply Fin.ext
    fin_cases d
    · exact Nat.mod_eq_of_lt a.isLt
    · exact Nat.mod_one _
    · exact Nat.mod_eq_of_lt p.isLt
    · exact Nat.mod_eq_of_lt q.isLt
  have hb : 8 * b.val + 7 < cfg0.N := by omega
  have e : Cert.SguInWKernelIdeal.Value.G2 m c (ix4 a b p q) = (outsAt0 m c (8 * b.val + 7) hb).1 (ix4 a 0 p q) := by
    unfold Cert.SguInWKernelIdeal.Value.G2
    simp only [hp, hl, hb, dite_true]
    rw [Cert.SguInWKernelIdeal.Value.outsAt0_sweep]
  rw [e, written m c a p q ⟨8 * b.val + 7, hb⟩ (by show (8 * b.val + 7) % 8 = 7; omega)]
  unfold part
  simp only [xblk_at, gblk_at]
  pointwise [Cert.SguInWReferenceIdeal.Read.val_main_v10, Cert.SguInWReferenceIdeal.Read.val_main_v9, Cert.SguInWReferenceIdeal.Read.val_main_v8,
    Cert.SguInWReferenceIdeal.Read.val_main_v7, Cert.SguInWReferenceIdeal.Read.val_main_v6]
  refine Fin.sum_mul_add_congr fun s k hl => ?_
  have e1 : (8 * ((8 * b.val + 7) / 8) + s.val) % 8 = s.val := by omega
  have e2 : (8 * ((8 * b.val + 7) / 8) + s.val) / 8 = b.val := by omega
  rw [mul_comm]
  simp only [e1, e2]
  rfl

end Cert.SguInWKernelIdeal.Sum

end
-- ==== Proof.AttnInW.lean ====
/- The gradient of the attention mixer's input weight: the kernel's array after the run is the product of the activations' transpose with
   the gradient, laid out by halves and by shards. -/
module

public import proofs.«01_k».proof.Proof.Gen.AttnInWKernelIdeal.Value
public import proofs.«01_k».proof.Proof.Gen.AttnInWReferenceIdeal.Read
public import Idealize.ShloMosaic.Lib.Pipeline.ValueKit.Point
public import Idealize.ShloMosaic.Lib.Pointwise

@[expose] public section

set_option maxRecDepth 16384

noncomputable section

namespace Cert.AttnInWKernelIdeal.Sum

open Cert.AttnInWKernelIdeal Cert.AttnInWKernelIdeal.Gen Idealize.ShloMosaic Idealize.ShloMosaic.TcCoe

variable (m : (ℓ : Loc nD τ sig) → Buf (Elt Ideal) ℓ) (c : Dev nD)

/-- Row `p` of half `a` of a shard. -/
def half (a : Fin 2) (p : Fin 1024) : Fin 2048 := ⟨a.val * 1024 + p.val, by omega⟩

theorem pay1 (g : Vec Ideal S1024x1280 .bf16) (x : Vec Ideal S1024x2048 .bf16) (r : Fin 2048) (q : Fin 1280) :
    k0_pay1 g x (ix2 r q) = ∑ k, x (ix2 k r) * g (ix2 k q) := by
  pointwise [k0_pay1]

theorem pay2 (g : Vec Ideal S1024x1280 .bf16) (x : Vec Ideal S1024x2048 .bf16) (o : Vec Ideal S2048x1280 .f32) (r : Fin 2048) (q : Fin 1280) :
    k0_pay2 g x o (ix2 r q) = o (ix2 r q) + ∑ k, x (ix2 k r) * g (ix2 k q) := by
  pointwise [k0_pay2]

theorem pay3 (g : Vec Ideal S1024x1280 .bf16) (x : Vec Ideal S1024x2048 .bf16) (o : Vec Ideal S2048x1280 .f32) (a : Fin 2) (p : Fin 1024)
    (q : Fin 1280) :
    k0_pay3 g x o (ix4 a 0 p q) = o (ix2 (half a p) q) + ∑ k, x (ix2 k (half a p)) * g (ix2 k q) := by
  pointwise [k0_pay3]
  rfl

/-- The blocks a point reads, of the activations -/
def xblk (t : Fin cfg0.N) : Vec Ideal S1024x2048 .bf16 := iblk m c 0 t

/-- and of the gradient. -/
def gblk (t : Fin cfg0.N) : Vec Ideal S1024x1280 .bf16 := iblk m c 1 t

/-- One point's product. -/
def part (t : Fin cfg0.N) (r : Fin 2048) (q : Fin 1280) : EReal :=
  ∑ k : Fin 1024, xblk m c t (ix2 k r) * gblk m c t (ix2 k q)

/-- What a point leaves: the accumulator, or at a run's last point the block written back. -/
def left (a : Fin 2) (p : Fin 1024) (q : Fin 1280) (n : ℕ) (h : n < cfg0.N) : EReal :=
  if n % 8 = 7 then (outsAt0 m c n h).1 (ix4 a 0 p q) else (outsAt0 m c n h).2 (ix2 (half a p) q)

theorem left_first (a : Fin 2) (p : Fin 1024) (q : Fin 1280) (t : Fin cfg0.N) (h : t.val % 8 = 0) :
    left m c a p q t.val t.isLt = 0 + part m c t (half a p) q := by
  unfold left
  rw [if_neg (by omega), zero_add, outsAt0_A m c t h (by omega) (by omega)]
  frame_out
  rw [pay1]
  rfl

theorem left_next (a : Fin 2) (p : Fin 1024) (q : Fin 1280) (t : Fin cfg0.N) (h : ¬t.val % 8 = 0) :
    left m c a p q t.val t.isLt
      = left m c a p q (t.val - 1) (Nat.lt_of_le_of_lt (Nat.sub_le _ _) t.isLt) + part m c t (half a p) q := by
  unfold left
  rw [if_neg (show ¬(t.val - 1) % 8 = 7 by omega)]
  by_cases h2 : t.val % 8 = 7
  · rw [if_pos h2, outsAt0_C m c t h (by omega) h2]
    frame_out
    rw [pay3]
    exact congrArg (· + part m c t (half a p) q) (congrFun (Memref.IsWhole.read_unread _ _) _)
  · rw [if_neg h2, outsAt0_B m c t h (by omega) h2]
    frame_out
    rw [pay2]
    exact congrArg (· + part m c t (half a p) q) (congrFun (Memref.IsWhole.read_unread _ _) _)

/-- A run's last point writes back the sum of the run's products. -/
theorem written (a : Fin 2) (p : Fin 1024) (q : Fin 1280) (t : Fin cfg0.N) (h : t.val % 8 = 7) :
    (outsAt0 m c t.val t.isLt).1 (ix4 a 0 p q)
      = ∑ s : Fin 8, part m c ⟨8 * (t.val / 8) + s.val, Pipeline.run_point_lt_of_flush t h s⟩ (half a p) q := by
  have e := Pipeline.eq_sum_fin_of_reset_step_of_flush (left m c a p q) 8 0 (fun t => part m c t (half a p) q)
    (left_first m c a p q) (left_next m c a p q) t h
  rw [zero_add] at e
  rw [← e]
  unfold left
  rw [if_pos h]

theorem idx0 : ∀ t : Fin grid0.N, win0_0.index t = ![t.val % 8, 0] := by decide +kernel
theorem idx1 : ∀ t : Fin grid0.N, win0_1.index t = ![t.val % 8, t.val / 8] := by decide +kernel

theorem xblk_at (t : Fin cfg0.N) (k : Fin 1024) (r : Fin 2048) :
    xblk m c t (ix2 k r) = m ((c : Thread nD τ).loc main_arg0) (ix2 ⟨t.val % 8 * 1024 + k.val, by omega⟩ r) := by
  unfold xblk
  blk_ext! [iblk, V, idx0 t]

theorem gblk_at (t : Fin cfg0.N) (k : Fin 1024) (q : Fin 1280) :
    gblk m c t (ix2 k q) = m ((c : Thread nD τ).loc main_arg1)
      (ix2 ⟨t.val % 8 * 1024 + k.val, by omega⟩ ⟨t.val / 8 * 1280 + q.val, by have := t.isLt; have : cfg0.N = 32 := N_0; omega⟩) := by
  unfold gblk
  blk_ext! [iblk, V, idx1 t]

theorem value (i : S2x4x1024x1280.Idx) :
    Cert.AttnInWKernelIdeal.Value.G2 m c i = Cert.AttnInWReferenceIdeal.Read.val_main_v10 (F := Ideal) (m ((c : Thread nD τ).loc main_arg0)) (m ((c : Thread nD τ).loc main_arg1)) i := by
  obtain ⟨a, b, p, q, rfl⟩ : ∃ (a : Fin 2) (b : Fin 4) (p : Fin 1024) (q : Fin 1280), i = ix4 a b p q := ⟨_, _, _, _, eq_ix4 i⟩
  have hN : cfg0.N = 32 := N_0
  have hp : Cert.AttnInWKernelIdeal.Value.pt2Of (ix4 a b p q) = 8 * b.val + 7 := by
    show 8 * (4 * (a.val / 2 - 0) + 1 * (b.val / 1 - 0) + 1 * (p.val / 1024 - 0) + 1 * (q.val / 1280 - 0)) + 7 = _
    omega
  have hl : Cert.AttnInWKernelIdeal.Value.loc2Of (ix4 a b p q) = ix4 a 0 p q := by
    funext d; apply Fin.ext
    fin_cases d
    · exact Nat.mod_eq_of_lt a.isLt
    · exact Nat.mod_one _
    · exact Nat.mod_eq_of_lt p.isLt
    · exact Nat.mod_eq_of_lt q.isLt
  have hb : 8 * b.val + 7 < cfg0.N := by omega
  have e : Cert.AttnInWKernelIdeal.Value.G2 m c (ix4 a b p q) = (outsAt0 m c (8 * b.val + 7) hb).1 (ix4 a 0 p q) := by
    unfold Cert.AttnInWKernelIdeal.Value.G2
    simp only [hp, hl, hb, dite_true]
    rw [Cert.AttnInWKernelIdeal.Value.outsAt0_sweep]
  rw [e, written m c a p q ⟨8 * b.val + 7, hb⟩ (by show (8 * b.val + 7) % 8 = 7; omega)]
  unfold part
  simp only [xblk_at, gblk_at]
  pointwise [Cert.AttnInWReferenceIdeal.Read.val_main_v10, Cert.AttnInWReferenceIdeal.Read.val_main_v9, Cert.AttnInWReferenceIdeal.Read.val_main_v8,
    Cert.AttnInWReferenceIdeal.Read.val_main_v7, Cert.AttnInWReferenceIdeal.Read.val_main_v6]
  refine Fin.sum_mul_add_congr fun s k hl => ?_
  have e1 : (8 * ((8 * b.val + 7) / 8) + s.val) % 8 = s.val := by omega
  have e2 : (8 * ((8 * b.val + 7) / 8) + s.val) / 8 = b.val := by omega
  rw [mul_comm]
  simp only [e1, e2]
  rfl

end Cert.AttnInWKernelIdeal.Sum

end
-- ==== Proof.SguInH.lean ====
/- The gradient of the spatial-gating mixer's input rows: the kernel's array after the run is the product's gradient times the
   weight's transpose. -/
module

public import proofs.«01_k».proof.Proof.Gen.SguInHKernelIdeal.Value
public import proofs.«01_k».proof.Proof.Gen.SguInHReferenceIdeal.Read
public import Idealize.ShloMosaic.Lib.Pipeline.ValueKit.Point
public import Idealize.ShloMosaic.Lib.Pointwise

@[expose] public section

set_option maxRecDepth 16384

noncomputable section

namespace Cert.SguInHKernelIdeal.Sum

open Cert.SguInHKernelIdeal Cert.SguInHKernelIdeal.Gen Idealize.ShloMosaic Idealize.ShloMosaic.TcCoe

variable (m : (ℓ : Loc nD τ sig) → Buf (Elt Ideal) ℓ) (c : Dev nD)

theorem pay1 (w : Vec Ideal S1x1024x896 .bf16) (g : Vec Ideal S1024x896 .bf16) (r q : Fin 1024) :
    k0_pay1 w g (ix2 r q) = ∑ k, g (ix2 r k) * w (ix3 0 q k) := by
  pointwise [k0_pay1]

theorem pay2 (w : Vec Ideal S1x1024x896 .bf16) (g : Vec Ideal S1024x896 .bf16) (o : Vec Ideal S1024x1024 .f32) (r q : Fin 1024) :
    k0_pay2 w g o (ix2 r q) = o (ix2 r q) + ∑ k, g (ix2 r k) * w (ix3 0 q k) := by
  pointwise [k0_pay2]

theorem pay3 (w : Vec Ideal S1x1024x896 .bf16) (g : Vec Ideal S1024x896 .bf16) (o : Vec Ideal S1024x1024 .f32) (r q : Fin 1024) :
    k0_pay3 w g o (ix2 r q) = o (ix2 r q) + ∑ k, g (ix2 r k) * w (ix3 0 q k) := by
  pointwise [k0_pay3]

/-- The blocks a point reads, of the product's gradient -/
def gblk (t : Fin cfg0.N) : Vec Ideal S1024x896 .bf16 := iblk m c 0 t

/-- and of the weight. -/
def wblk (t : Fin cfg0.N) : Vec Ideal S1x1024x896 .bf16 := iblk m c 1 t

/-- One point's product. -/
def part (t : Fin cfg0.N) (r q : Fin 1024) : EReal := ∑ k : Fin 896, gblk m c t (ix2 r k) * wblk m c t (ix3 0 q k)

/-- What a point leaves: the accumulator, or at a run's last point the block written back. -/
def left (r q : Fin 1024) (n : ℕ) (h : n < cfg0.N) : EReal :=
  if n % 4 = 3 then (outsAt0 m c n h).1 (ix2 r q) else (outsAt0 m c n h).2 (ix2 r q)

theorem left_first (r q : Fin 1024) (t : Fin cfg0.N) (h : t.val % 4 = 0) :
    left m c r q t.val t.isLt = 0 + part m c t r q := by
  unfold left
  rw [if_neg (by omega), zero_add, outsAt0_A m c t h (by omega) (by omega)]
  frame_out
  rw [pay1]
  rfl

theorem left_next (r q : Fin 1024) (t : Fin cfg0.N) (h : ¬t.val % 4 = 0) :
    left m c r q t.val t.isLt
      = left m c r q (t.val - 1) (Nat.lt_of_le_of_lt (Nat.sub_le _ _) t.isLt) + part m c t r q := by
  unfold left
  rw [if_neg (show ¬(t.val - 1) % 4 = 3 by omega)]
  by_cases h2 : t.val % 4 = 3
  · rw [if_pos h2, outsAt0_C m c t h (by omega) h2]
    frame_out
    rw [pay3]
    exact congrArg (· + part m c t r q) (congrFun (Memref.IsWhole.read_unread _ _) _)
  · rw [if_neg h2, outsAt0_B m c t h (by omega) h2]
    frame_out
    rw [pay2]
    exact congrArg (· + part m c t r q) (congrFun (Memref.IsWhole.read_unread _ _) _)

/-- A run's last point writes back the sum of the run's products. -/
theorem written (r q : Fin 1024) (t : Fin cfg0.N) (h : t.val % 4 = 3) :
    (outsAt0 m c t.val t.isLt).1 (ix2 r q)
      = ∑ s : Fin 4, part m c ⟨4 * (t.val / 4) + s.val, Pipeline.run_point_lt_of_flush t h s⟩ r q := by
  have e := Pipeline.eq_sum_fin_of_reset_step_of_flush (left m c r q) 4 0 (fun t => part m c t r q)
    (left_first m c r q) (left_next m c r q) t h
  rw [zero_add] at e
  rw [← e]
  unfold left
  rw [if_pos h]

theorem idx0 : ∀ t : Fin grid0.N, win0_0.index t = ![t.val / 4 % 8, t.val % 4] := by decide +kernel
theorem idx1 : ∀ t : Fin grid0.N, win0_1.index t = ![t.val % 4, t.val / 32, 0] := by decide +kernel

theorem gblk_at (t : Fin cfg0.N) (r : Fin 1024) (k : Fin 896) :
    gblk m c t (ix2 r k) = m ((c : Thread nD τ).loc main_arg0)
      (ix2 ⟨t.val / 4 % 8 * 1024 + r.val, by omega⟩ ⟨t.val % 4 * 896 + k.val, by omega⟩) := by
  unfold gblk
  blk_ext! [iblk, V, idx0 t]

theorem wblk_at (t : Fin cfg0.N) (q : Fin 1024) (k : Fin 896) :
    wblk m c t (ix3 0 q k) = m ((c : Thread nD τ).loc main_arg1)
      (ix3 ⟨t.val % 4, by omega⟩ ⟨t.val / 32 * 1024 + q.val, by have := t.isLt; have : cfg0.N = 64 := N_0; omega⟩ k) := by
  unfold wblk
  blk_ext! [iblk, V, idx1 t]

theorem value (i : S8192x2048.Idx) :
    Cert.SguInHKernelIdeal.Value.G2 m c i = Cert.SguInHReferenceIdeal.Read.val_main_v7 (F := Ideal) (m ((c : Thread nD τ).loc main_arg0))
      (m ((c : Thread nD τ).loc main_arg1)) i := by
  obtain ⟨p, q, rfl⟩ : ∃ (p : Fin 8192) (q : Fin 2048), i = ix2 p q := ⟨_, _, eq_ix2 i⟩
  have hN : cfg0.N = 64 := N_0
  have hp : Cert.SguInHKernelIdeal.Value.pt2Of (ix2 p q) = 4 * (p.val / 1024 + 8 * (q.val / 1024)) + 3 := by
    show 4 * (1 * (p.val / 1024 - 0) + 8 * (q.val / 1024 - 0)) + 3 = _
    omega
  have hl : Cert.SguInHKernelIdeal.Value.loc2Of (ix2 p q) = ix2 ⟨p.val % 1024, by omega⟩ ⟨q.val % 1024, by omega⟩ := by
    funext d; apply Fin.ext
    fin_cases d <;> rfl
  have hb : 4 * (p.val / 1024 + 8 * (q.val / 1024)) + 3 < cfg0.N := by omega
  have e : Cert.SguInHKernelIdeal.Value.G2 m c (ix2 p q)
      = (outsAt0 m c (4 * (p.val / 1024 + 8 * (q.val / 1024)) + 3) hb).1 (ix2 ⟨p.val % 1024, by omega⟩ ⟨q.val % 1024, by omega⟩) := by
    unfold Cert.SguInHKernelIdeal.Value.G2
    simp only [hp, hl, hb, dite_true]
    rw [Cert.SguInHKernelIdeal.Value.outsAt0_sweep]
  rw [e, written m c _ _ ⟨4 * (p.val / 1024 + 8 * (q.val / 1024)) + 3, hb⟩ (by show (4 * (p.val / 1024 + 8 * (q.val / 1024)) + 3) % 4 = 3; omega)]
  unfold part
  simp only [gblk_at, wblk_at]
  pointwise [Cert.SguInHReferenceIdeal.Read.val_main_v7, Cert.SguInHReferenceIdeal.Read.val_main_v6]
  have e1 (s : Fin 4) : (4 * ((4 * (p.val / 1024 + 8 * (q.val / 1024)) + 3) / 4) + s.val) % 4 = s.val := by omega
  have e2 (s : Fin 4) : (4 * ((4 * (p.val / 1024 + 8 * (q.val / 1024)) + 3) / 4) + s.val) / 4 % 8 * 1024 + p.val % 1024 = p.val := by omega
  have e3 (s : Fin 4) : (4 * ((4 * (p.val / 1024 + 8 * (q.val / 1024)) + 3) / 4) + s.val) / 32 * 1024 + q.val % 1024 = q.val := by omega
  simp only [e1, e2, e3]
  refine Fin.sum_mul_add_congr fun s k hl => ?_
  pointwise [Cert.SguInHReferenceIdeal.Read.val_main_v5, Cert.SguInHReferenceIdeal.Read.val_main_v3, Cert.SguInHReferenceIdeal.Read.val_main_v2,
    Cert.SguInHReferenceIdeal.Read.val_main_v1]

end Cert.SguInHKernelIdeal.Sum

end
-- ==== Proof.AttnInH.lean ====
/- The gradient of the attention mixer's input rows: the kernel's array after the run is the product's gradient times the
   weight's transpose. -/
module

public import proofs.«01_k».proof.Proof.Gen.AttnInHKernelIdeal.Value
public import proofs.«01_k».proof.Proof.Gen.AttnInHReferenceIdeal.Read
public import Idealize.ShloMosaic.Lib.Pipeline.ValueKit.Point
public import Idealize.ShloMosaic.Lib.Pointwise

@[expose] public section

set_option maxRecDepth 16384

noncomputable section

namespace Cert.AttnInHKernelIdeal.Sum

open Cert.AttnInHKernelIdeal Cert.AttnInHKernelIdeal.Gen Idealize.ShloMosaic Idealize.ShloMosaic.TcCoe

variable (m : (ℓ : Loc nD τ sig) → Buf (Elt Ideal) ℓ) (c : Dev nD)

theorem pay1 (w : Vec Ideal S1x1024x1280 .bf16) (g : Vec Ideal S1024x1280 .bf16) (r q : Fin 1024) :
    k0_pay1 w g (ix2 r q) = ∑ k, g (ix2 r k) * w (ix3 0 q k) := by
  pointwise [k0_pay1]

theorem pay2 (w : Vec Ideal S1x1024x1280 .bf16) (g : Vec Ideal S1024x1280 .bf16) (o : Vec Ideal S1024x1024 .f32) (r q : Fin 1024) :
    k0_pay2 w g o (ix2 r q) = o (ix2 r q) + ∑ k, g (ix2 r k) * w (ix3 0 q k) := by
  pointwise [k0_pay2]

theorem pay3 (w : Vec Ideal S1x1024x1280 .bf16) (g : Vec Ideal S1024x1280 .bf16) (o : Vec Ideal S1024x1024 .f32) (r q : Fin 1024) :
    k0_pay3 w g o (ix2 r q) = o (ix2 r q) + ∑ k, g (ix2 r k) * w (ix3 0 q k) := by
  pointwise [k0_pay3]

/-- The blocks a point reads, of the product's gradient -/
def gblk (t : Fin cfg0.N) : Vec Ideal S1024x1280 .bf16 := iblk m c 0 t

/-- and of the weight. -/
def wblk (t : Fin cfg0.N) : Vec Ideal S1x1024x1280 .bf16 := iblk m c 1 t

/-- One point's product. -/
def part (t : Fin cfg0.N) (r q : Fin 1024) : EReal := ∑ k : Fin 1280, gblk m c t (ix2 r k) * wblk m c t (ix3 0 q k)

/-- What a point leaves: the accumulator, or at a run's last point the block written back. -/
def left (r q : Fin 1024) (n : ℕ) (h : n < cfg0.N) : EReal :=
  if n % 4 = 3 then (outsAt0 m c n h).1 (ix2 r q) else (outsAt0 m c n h).2 (ix2 r q)

theorem left_first (r q : Fin 1024) (t : Fin cfg0.N) (h : t.val % 4 = 0) :
    left m c r q t.val t.isLt = 0 + part m c t r q := by
  unfold left
  rw [if_neg (by omega), zero_add, outsAt0_A m c t h (by omega) (by omega)]
  frame_out
  rw [pay1]
  rfl

theorem left_next (r q : Fin 1024) (t : Fin cfg0.N) (h : ¬t.val % 4 = 0) :
    left m c r q t.val t.isLt
      = left m c r q (t.val - 1) (Nat.lt_of_le_of_lt (Nat.sub_le _ _) t.isLt) + part m c t r q := by
  unfold left
  rw [if_neg (show ¬(t.val - 1) % 4 = 3 by omega)]
  by_cases h2 : t.val % 4 = 3
  · rw [if_pos h2, outsAt0_C m c t h (by omega) h2]
    frame_out
    rw [pay3]
    exact congrArg (· + part m c t r q) (congrFun (Memref.IsWhole.read_unread _ _) _)
  · rw [if_neg h2, outsAt0_B m c t h (by omega) h2]
    frame_out
    rw [pay2]
    exact congrArg (· + part m c t r q) (congrFun (Memref.IsWhole.read_unread _ _) _)

/-- A run's last point writes back the sum of the run's products. -/
theorem written (r q : Fin 1024) (t : Fin cfg0.N) (h : t.val % 4 = 3) :
    (outsAt0 m c t.val t.isLt).1 (ix2 r q)
      = ∑ s : Fin 4, part m c ⟨4 * (t.val / 4) + s.val, Pipeline.run_point_lt_of_flush t h s⟩ r q := by
  have e := Pipeline.eq_sum_fin_of_reset_step_of_flush (left m c r q) 4 0 (fun t => part m c t r q)
    (left_first m c r q) (left_next m c r q) t h
  rw [zero_add] at e
  rw [← e]
  unfold left
  rw [if_pos h]

theorem idx0 : ∀ t : Fin grid0.N, win0_0.index t = ![t.val / 4 % 8, t.val % 4] := by decide +kernel
theorem idx1 : ∀ t : Fin grid0.N, win0_1.index t = ![t.val % 4, t.val / 32, 0] := by decide +kernel

theorem gblk_at (t : Fin cfg0.N) (r : Fin 1024) (k : Fin 1280) :
    gblk m c t (ix2 r k) = m ((c : Thread nD τ).loc main_arg0)
      (ix2 ⟨t.val / 4 % 8 * 1024 + r.val, by omega⟩ ⟨t.val % 4 * 1280 + k.val, by omega⟩) := by
  unfold gblk
  blk_ext! [iblk, V, idx0 t]

theorem wblk_at (t : Fin cfg0.N) (q : Fin 1024) (k : Fin 1280) :
    wblk m c t (ix3 0 q k) = m ((c : Thread nD τ).loc main_arg1)
      (ix3 ⟨t.val % 4, by omega⟩ ⟨t.val / 32 * 1024 + q.val, by have := t.isLt; have : cfg0.N = 64 := N_0; omega⟩ k) := by
  unfold wblk
  blk_ext! [iblk, V, idx1 t]

theorem value (i : S8192x2048.Idx) :
    Cert.AttnInHKernelIdeal.Value.G2 m c i = Cert.AttnInHReferenceIdeal.Read.val_main_v7 (F := Ideal) (m ((c : Thread nD τ).loc main_arg0))
      (m ((c : Thread nD τ).loc main_arg1)) i := by
  obtain ⟨p, q, rfl⟩ : ∃ (p : Fin 8192) (q : Fin 2048), i = ix2 p q := ⟨_, _, eq_ix2 i⟩
  have hN : cfg0.N = 64 := N_0
  have hp : Cert.AttnInHKernelIdeal.Value.pt2Of (ix2 p q) = 4 * (p.val / 1024 + 8 * (q.val / 1024)) + 3 := by
    show 4 * (1 * (p.val / 1024 - 0) + 8 * (q.val / 1024 - 0)) + 3 = _
    omega
  have hl : Cert.AttnInHKernelIdeal.Value.loc2Of (ix2 p q) = ix2 ⟨p.val % 1024, by omega⟩ ⟨q.val % 1024, by omega⟩ := by
    funext d; apply Fin.ext
    fin_cases d <;> rfl
  have hb : 4 * (p.val / 1024 + 8 * (q.val / 1024)) + 3 < cfg0.N := by omega
  have e : Cert.AttnInHKernelIdeal.Value.G2 m c (ix2 p q)
      = (outsAt0 m c (4 * (p.val / 1024 + 8 * (q.val / 1024)) + 3) hb).1 (ix2 ⟨p.val % 1024, by omega⟩ ⟨q.val % 1024, by omega⟩) := by
    unfold Cert.AttnInHKernelIdeal.Value.G2
    simp only [hp, hl, hb, dite_true]
    rw [Cert.AttnInHKernelIdeal.Value.outsAt0_sweep]
  rw [e, written m c _ _ ⟨4 * (p.val / 1024 + 8 * (q.val / 1024)) + 3, hb⟩ (by show (4 * (p.val / 1024 + 8 * (q.val / 1024)) + 3) % 4 = 3; omega)]
  unfold part
  simp only [gblk_at, wblk_at]
  pointwise [Cert.AttnInHReferenceIdeal.Read.val_main_v7, Cert.AttnInHReferenceIdeal.Read.val_main_v6]
  have e1 (s : Fin 4) : (4 * ((4 * (p.val / 1024 + 8 * (q.val / 1024)) + 3) / 4) + s.val) % 4 = s.val := by omega
  have e2 (s : Fin 4) : (4 * ((4 * (p.val / 1024 + 8 * (q.val / 1024)) + 3) / 4) + s.val) / 4 % 8 * 1024 + p.val % 1024 = p.val := by omega
  have e3 (s : Fin 4) : (4 * ((4 * (p.val / 1024 + 8 * (q.val / 1024)) + 3) / 4) + s.val) / 32 * 1024 + q.val % 1024 = q.val := by omega
  simp only [e1, e2, e3]
  refine Fin.sum_mul_add_congr fun s k hl => ?_
  pointwise [Cert.AttnInHReferenceIdeal.Read.val_main_v5, Cert.AttnInHReferenceIdeal.Read.val_main_v3, Cert.AttnInHReferenceIdeal.Read.val_main_v2,
    Cert.AttnInHReferenceIdeal.Read.val_main_v1]

end Cert.AttnInHKernelIdeal.Sum

end
-- ==== Proof.DownFwd.lean ====
/- The down product: the kernel's array after the run is the residual stream plus the activations times the weight. -/
module

public import proofs.«01_k».proof.Proof.Gen.DownFwdKernelIdeal.Value
public import proofs.«01_k».proof.Proof.Gen.DownFwdReferenceIdeal.Read
public import Idealize.ShloMosaic.Lib.Pipeline.ValueKit.Point
public import Idealize.ShloMosaic.Lib.Pointwise

@[expose] public section

set_option maxRecDepth 16384

noncomputable section

namespace Cert.DownFwdKernelIdeal.Sum

open Cert.DownFwdKernelIdeal Cert.DownFwdKernelIdeal.Gen Idealize.ShloMosaic Idealize.ShloMosaic.TcCoe

variable (m : (ℓ : Loc nD τ sig) → Buf (Elt Ideal) ℓ) (c : Dev nD)

theorem pay1 (w : Vec Ideal S1x1408x1024 .bf16) (g : Vec Ideal S1024x1408 .bf16) (r q : Fin 1024) :
    k0_pay1 w g (ix2 r q) = ∑ k, g (ix2 r k) * w (ix3 0 k q) := by
  pointwise [k0_pay1]

theorem pay2 (w : Vec Ideal S1x1408x1024 .bf16) (g : Vec Ideal S1024x1408 .bf16) (o : Vec Ideal S1024x1024 .f32) (r q : Fin 1024) :
    k0_pay2 w g o (ix2 r q) = o (ix2 r q) + ∑ k, g (ix2 r k) * w (ix3 0 k q) := by
  pointwise [k0_pay2]

theorem pay3 (w : Vec Ideal S1x1408x1024 .bf16) (g : Vec Ideal S1024x1408 .bf16) (o x : Vec Ideal S1024x1024 .f32) (r q : Fin 1024) :
    k0_pay3 w g o x (ix2 r q) = x (ix2 r q) + (o (ix2 r q) + ∑ k, g (ix2 r k) * w (ix3 0 k q)) := by
  pointwise [k0_pay3]

/-- The blocks a point reads, of the activations, -/
def gblk (t : Fin cfg0.N) : Vec Ideal S1024x1408 .bf16 := iblk m c 0 t

/-- of the weight, -/
def wblk (t : Fin cfg0.N) : Vec Ideal S1x1408x1024 .bf16 := iblk m c 1 t

/-- and of the residual stream. -/
def xblk (t : Fin cfg0.N) : Vec Ideal S1024x1024 .f32 := iblk m c 2 t

/-- One point's product. -/
def part (t : Fin cfg0.N) (r q : Fin 1024) : EReal := ∑ k : Fin 1408, gblk m c t (ix2 r k) * wblk m c t (ix3 0 k q)

/-- The sum a point reaches: the accumulator it leaves, or at a run's last point what it adds to the residual stream. -/
def left (r q : Fin 1024) (n : ℕ) (h : n < cfg0.N) : EReal :=
  if n % 4 = 3 then (outsAt0 m c (n - 1) (Nat.lt_of_le_of_lt (Nat.sub_le _ _) h)).2 (ix2 r q) + part m c ⟨n, h⟩ r q
  else (outsAt0 m c n h).2 (ix2 r q)

theorem left_first (r q : Fin 1024) (t : Fin cfg0.N) (h : t.val % 4 = 0) :
    left m c r q t.val t.isLt = 0 + part m c t r q := by
  unfold left
  rw [if_neg (by omega), zero_add, outsAt0_A m c t h (by omega) (by omega)]
  frame_out
  rw [pay1]
  rfl

theorem left_next (r q : Fin 1024) (t : Fin cfg0.N) (h : ¬t.val % 4 = 0) :
    left m c r q t.val t.isLt
      = left m c r q (t.val - 1) (Nat.lt_of_le_of_lt (Nat.sub_le _ _) t.isLt) + part m c t r q := by
  unfold left
  rw [if_neg (show ¬(t.val - 1) % 4 = 3 by omega)]
  by_cases h2 : t.val % 4 = 3
  · rw [if_pos h2]
  · rw [if_neg h2, outsAt0_B m c t h (by omega) h2]
    frame_out
    rw [pay2]
    exact congrArg (· + part m c t r q) (congrFun (Memref.IsWhole.read_unread _ _) _)

/-- A run's last point writes back the residual stream plus the sum of the run's products. -/
theorem written (r q : Fin 1024) (t : Fin cfg0.N) (h : t.val % 4 = 3) :
    (outsAt0 m c t.val t.isLt).1 (ix2 r q)
      = xblk m c t (ix2 r q) + ∑ s : Fin 4, part m c ⟨4 * (t.val / 4) + s.val, Pipeline.run_point_lt_of_flush t h s⟩ r q := by
  have e := Pipeline.eq_sum_fin_of_reset_step_of_flush (left m c r q) 4 0 (fun t => part m c t r q)
    (left_first m c r q) (left_next m c r q) t h
  rw [zero_add] at e
  rw [← e]
  unfold left
  rw [if_pos h, outsAt0_C m c t (by omega) (by omega) h]
  frame_out
  rw [pay3]
  exact congrArg (fun z => xblk m c t (ix2 r q) + (z + part m c t r q)) (congrFun (Memref.IsWhole.read_unread _ _) _)

theorem idx0 : ∀ t : Fin grid0.N, win0_0.index t = ![t.val / 4 % 8, t.val % 4] := by decide +kernel
theorem idx1 : ∀ t : Fin grid0.N, win0_1.index t = ![t.val % 4, 0, t.val / 32] := by decide +kernel
theorem idx2 : ∀ t : Fin grid0.N, win0_2.index t = ![t.val / 4 % 8, t.val / 32] := by decide +kernel

theorem gblk_at (t : Fin cfg0.N) (r : Fin 1024) (k : Fin 1408) :
    gblk m c t (ix2 r k) = m ((c : Thread nD τ).loc main_arg0)
      (ix2 ⟨t.val / 4 % 8 * 1024 + r.val, by omega⟩ ⟨t.val % 4 * 1408 + k.val, by omega⟩) := by
  unfold gblk
  blk_ext! [iblk, V, idx0 t]

theorem wblk_at (t : Fin cfg0.N) (q : Fin 1024) (k : Fin 1408) :
    wblk m c t (ix3 0 k q) = m ((c : Thread nD τ).loc main_arg2)
      (ix3 ⟨t.val % 4, by omega⟩ k ⟨t.val / 32 * 1024 + q.val, by have := t.isLt; have : cfg0.N = 64 := N_0; omega⟩) := by
  unfold wblk
  blk_ext! [iblk, V, idx1 t]

theorem xblk_at (t : Fin cfg0.N) (r q : Fin 1024) :
    xblk m c t (ix2 r q) = m ((c : Thread nD τ).loc main_arg1)
      (ix2 ⟨t.val / 4 % 8 * 1024 + r.val, by omega⟩ ⟨t.val / 32 * 1024 + q.val, by have := t.isLt; have : cfg0.N = 64 := N_0; omega⟩) := by
  unfold xblk
  blk_ext! [iblk, V, idx2 t]

theorem value (i : S8192x2048.Idx) :
    Cert.DownFwdKernelIdeal.Value.G3 m c i = Cert.DownFwdReferenceIdeal.Read.val_main_v4 (F := Ideal) (m ((c : Thread nD τ).loc main_arg0))
      (m ((c : Thread nD τ).loc main_arg1)) (m ((c : Thread nD τ).loc main_arg2)) i := by
  obtain ⟨p, q, rfl⟩ : ∃ (p : Fin 8192) (q : Fin 2048), i = ix2 p q := ⟨_, _, eq_ix2 i⟩
  have hN : cfg0.N = 64 := N_0
  have hp : Cert.DownFwdKernelIdeal.Value.pt3Of (ix2 p q) = 4 * (p.val / 1024 + 8 * (q.val / 1024)) + 3 := by
    show 4 * (1 * (p.val / 1024 - 0) + 8 * (q.val / 1024 - 0)) + 3 = _
    omega
  have hl : Cert.DownFwdKernelIdeal.Value.loc3Of (ix2 p q) = ix2 ⟨p.val % 1024, by omega⟩ ⟨q.val % 1024, by omega⟩ := by
    funext d; apply Fin.ext
    fin_cases d <;> rfl
  have hb : 4 * (p.val / 1024 + 8 * (q.val / 1024)) + 3 < cfg0.N := by omega
  have e : Cert.DownFwdKernelIdeal.Value.G3 m c (ix2 p q)
      = (outsAt0 m c (4 * (p.val / 1024 + 8 * (q.val / 1024)) + 3) hb).1 (ix2 ⟨p.val % 1024, by omega⟩ ⟨q.val % 1024, by omega⟩) := by
    unfold Cert.DownFwdKernelIdeal.Value.G3
    simp only [hp, hl, hb, dite_true]
    rw [Cert.DownFwdKernelIdeal.Value.outsAt0_sweep]
  rw [e, written m c _ _ ⟨4 * (p.val / 1024 + 8 * (q.val / 1024)) + 3, hb⟩ (by show (4 * (p.val / 1024 + 8 * (q.val / 1024)) + 3) % 4 = 3; omega)]
  unfold part
  simp only [gblk_at, wblk_at, xblk_at]
  pointwise [Cert.DownFwdReferenceIdeal.Read.val_main_v4, Cert.DownFwdReferenceIdeal.Read.val_main_v3]
  have e4 : (4 * (p.val / 1024 + 8 * (q.val / 1024)) + 3) / 4 % 8 * 1024 + p.val % 1024 = p.val := by omega
  have e5 : (4 * (p.val / 1024 + 8 * (q.val / 1024)) + 3) / 32 * 1024 + q.val % 1024 = q.val := by omega
  have e1 (s : Fin 4) : (4 * ((4 * (p.val / 1024 + 8 * (q.val / 1024)) + 3) / 4) + s.val) % 4 = s.val := by omega
  have e2 (s : Fin 4) : (4 * ((4 * (p.val / 1024 + 8 * (q.val / 1024)) + 3) / 4) + s.val) / 4 % 8 * 1024 + p.val % 1024 = p.val := by omega
  have e3 (s : Fin 4) : (4 * ((4 * (p.val / 1024 + 8 * (q.val / 1024)) + 3) / 4) + s.val) / 32 * 1024 + q.val % 1024 = q.val := by omega
  simp only [e1, e2, e3, e4, e5]
  congr 1
  refine Fin.sum_mul_add_congr fun s k hl => ?_
  pointwise [Cert.DownFwdReferenceIdeal.Read.val_main_v2, Cert.DownFwdReferenceIdeal.Read.val_main_v1, Cert.DownFwdReferenceIdeal.Read.val_main_v0]

end Cert.DownFwdKernelIdeal.Sum

end
-- ==== Proof.GateUp.lean ====
/- A block's gate and up products and their activation: each block of the three results, column by column, and the three results
   are the reference's. -/
module

public import proofs.«01_k».proof.Proof.Gen.GateUpKernelIdeal.Value
public import proofs.«01_k».proof.Proof.Gen.GateUpReferenceIdeal.Read
public import proofs.«01_k».proof.Proof.Silu
public import Idealize.ShloMosaic.Lib.Pipeline.ValueKit.Point
public import Idealize.ShloMosaic.Lib.Pointwise

@[expose] public section

set_option maxRecDepth 16384

noncomputable section

namespace Cert.GateUpKernelIdeal.Block

open Cert.Silu Cert.GateUpKernelIdeal Cert.GateUpKernelIdeal.Gen Idealize.ShloMosaic Idealize.ShloMosaic.TcCoe

variable (m : (ℓ : Loc nD τ sig) → Buf (Elt Ideal) ℓ) (c : Dev nD)

/-- The blocks a point reads: the rows, -/
def hblk (t : Fin cfg0.N) : Vec Ideal S1024x2048 .bf16 := iblk m c 0 t

/-- the gate's shard -/
def gblk (t : Fin cfg0.N) : Vec Ideal S1x2048x1408 .bf16 := iblk m c 1 t

/-- and the up's. -/
def ublk (t : Fin cfg0.N) : Vec Ideal S1x2048x1408 .bf16 := iblk m c 2 t

/-- The activation of a gate's and an up's product. -/
def act (g u : EReal) : EReal := g * sigm g * u

theorem gate_at (c : Dev nD) (i : grid0.Coords) (arg3 : Memref sig .tc .vmem S1024x2048 .bf16) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1024x1408 .bf16) (harg8 : arg8.IsWhole)
    (x0 : Vec Ideal S1024x2048 .bf16) (x1 x2 : Vec Ideal S1x2048x1408 .bf16) (r : Fin 1024) (q : Fin 1408) :
    out0_A_3 c i arg3 harg3 arg4 harg4 arg5 harg5 arg6 harg6 arg7 harg7 arg8 harg8 x0 x1 x2 (ix2 r q)
      = ∑ k, x0 (ix2 r k) * x1 (ix3 0 k q) := by
  unfold out0_A_3
  rw [View.read_writes_eq_canon _ _ _ (cover0_A_3 c i arg3 harg3 arg4 harg4 arg5 harg5 arg6 harg6 arg7 harg7 arg8 harg8 x0 x1 x2)]
  have hc := cover0_A_3 c i arg3 harg3 arg4 harg4 arg5 harg5 arg6 harg6 arg7 harg7 arg8 harg8 x0 x1 x2 (ix2 r q)
  unfold kernelRun0_A at hc ⊢
  dsimp only at hc ⊢
  canon_tiles x h using hc
  · open_payloads
    unfold kernelRun0_A.sl.r_1 k0_pay10
    dsimp only
    simp only [View.readAt_eq_ld, Memref.IsWhole.read_unread]
    pointwise
    have hr : r = x 0 := Fin.ext h0
    rw [hr]
    have hq : q = ⟨768 + (x 1).val, Nat.add_lt_add_left x1_lt 768⟩ := Fin.ext h1
    rw [hq]
  · open_payloads
    simp only [View.readAt_eq_ld, Memref.IsWhole.read_unread]
    pointwise
    have hr : r = x 0 := Fin.ext h0
    rw [hr]
    have hq : q = ⟨(x 1).val, Nat.lt_trans x1_lt (by decide)⟩ := Fin.ext h1
    rw [hq]

theorem up_at (c : Dev nD) (i : grid0.Coords) (arg3 : Memref sig .tc .vmem S1024x2048 .bf16) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1024x1408 .bf16) (harg8 : arg8.IsWhole)
    (x0 : Vec Ideal S1024x2048 .bf16) (x1 x2 : Vec Ideal S1x2048x1408 .bf16) (r : Fin 1024) (q : Fin 1408) :
    out0_A_4 c i arg3 harg3 arg4 harg4 arg5 harg5 arg6 harg6 arg7 harg7 arg8 harg8 x0 x1 x2 (ix2 r q)
      = ∑ k, x0 (ix2 r k) * x2 (ix3 0 k q) := by
  unfold out0_A_4
  rw [View.read_writes_eq_canon _ _ _ (cover0_A_4 c i arg3 harg3 arg4 harg4 arg5 harg5 arg6 harg6 arg7 harg7 arg8 harg8 x0 x1 x2)]
  have hc := cover0_A_4 c i arg3 harg3 arg4 harg4 arg5 harg5 arg6 harg6 arg7 harg7 arg8 harg8 x0 x1 x2 (ix2 r q)
  unfold kernelRun0_A at hc ⊢
  dsimp only at hc ⊢
  canon_tiles x h using hc
  · open_payloads
    unfold kernelRun0_A.sl.r kernelRun0_A.sl.r_2 kernelRun0_A.sl.cst_23 k0_pay11
    dsimp only
    simp only [View.readAt_eq_ld, Memref.IsWhole.read_unread]
    pointwise
    have hr : r = x 0 := Fin.ext h0
    rw [hr]
    have hq : q = ⟨768 + (x 1).val, Nat.add_lt_add_left x1_lt 768⟩ := Fin.ext h1
    rw [hq]
  · open_payloads
    simp only [View.readAt_eq_ld, Memref.IsWhole.read_unread]
    pointwise
    have hr : r = x 0 := Fin.ext h0
    rw [hr]
    have hq : q = ⟨(x 1).val, Nat.lt_trans x1_lt (by decide)⟩ := Fin.ext h1
    rw [hq]

theorem act_at (c : Dev nD) (i : grid0.Coords) (arg3 : Memref sig .tc .vmem S1024x2048 .bf16) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1024x1408 .bf16) (harg8 : arg8.IsWhole)
    (x0 : Vec Ideal S1024x2048 .bf16) (x1 x2 : Vec Ideal S1x2048x1408 .bf16) (r : Fin 1024) (q : Fin 1408) :
    out0_A_5 c i arg3 harg3 arg4 harg4 arg5 harg5 arg6 harg6 arg7 harg7 arg8 harg8 x0 x1 x2 (ix2 r q)
      = act (∑ k, x0 (ix2 r k) * x1 (ix3 0 k q)) (∑ k, x0 (ix2 r k) * x2 (ix3 0 k q)) := by
  unfold out0_A_5
  rw [View.read_writes_eq_canon _ _ _ (cover0_A_5 c i arg3 harg3 arg4 harg4 arg5 harg5 arg6 harg6 arg7 harg7 arg8 harg8 x0 x1 x2)]
  have hc := cover0_A_5 c i arg3 harg3 arg4 harg4 arg5 harg5 arg6 harg6 arg7 harg7 arg8 harg8 x0 x1 x2 (ix2 r q)
  unfold kernelRun0_A at hc ⊢
  dsimp only at hc ⊢
  canon_tiles x h using hc
  · open_payloads
    unfold kernelRun0_A.sl.r kernelRun0_A.sl.r_1 kernelRun0_A.sl.r_2 kernelRun0_A.sl.cst_23 k0_pay10 k0_pay11
    dsimp only
    simp only [View.readAt_eq_ld, Memref.IsWhole.read_unread]
    pointwise [act, sigm]
    have hr : r = x 0 := Fin.ext h0
    rw [hr]
    have hq : q = ⟨768 + (x 1).val, Nat.add_lt_add_left x1_lt 768⟩ := Fin.ext h1
    rw [hq]
  · open_payloads
    simp only [View.readAt_eq_ld, Memref.IsWhole.read_unread]
    pointwise [act, sigm]
    have hr : r = x 0 := Fin.ext h0
    rw [hr]
    have hq : q = ⟨(x 1).val, Nat.lt_trans x1_lt (by decide)⟩ := Fin.ext h1
    rw [hq]

theorem idx0 : ∀ t : Fin grid0.N, win0_0.index t = ![t.val % 8, 0] := by decide +kernel
theorem idx1 : ∀ t : Fin grid0.N, win0_1.index t = ![t.val / 8, 0, 0] := by decide +kernel
theorem idx2 : ∀ t : Fin grid0.N, win0_2.index t = ![t.val / 8, 0, 0] := by decide +kernel
theorem idx3 : ∀ t : Fin grid0.N, win0_3.index t = ![t.val % 8, t.val / 8] := by decide +kernel
theorem idx4 : ∀ t : Fin grid0.N, win0_4.index t = ![t.val % 8, t.val / 8] := by decide +kernel
theorem idx5 : ∀ t : Fin grid0.N, win0_5.index t = ![t.val % 8, t.val / 8] := by decide +kernel

/-- Row `r` of the blocks of point `t`, -/
def row (t : Fin cfg0.N) (r : Fin 1024) : Fin 8192 := ⟨t.val % 8 * 1024 + r.val, by omega⟩

/-- its shard, -/
def shard (t : Fin cfg0.N) : Fin 4 := ⟨t.val / 8, by have := t.isLt; have : cfg0.N = 32 := N_0; omega⟩

/-- and column `q` of the shard. -/
def col (t : Fin cfg0.N) (q : Fin 1408) : Fin 5632 := ⟨t.val / 8 * 1408 + q.val, by have := t.isLt; have : cfg0.N = 32 := N_0; omega⟩

theorem hblk_at (t : Fin cfg0.N) (r : Fin 1024) (k : Fin 2048) :
    hblk m c t (ix2 r k) = m ((c : Thread nD τ).loc main_arg0) (ix2 (row t r) k) := by
  unfold hblk row
  blk_ext! [iblk, V, idx0 t]

theorem gblk_at (t : Fin cfg0.N) (k : Fin 2048) (q : Fin 1408) :
    gblk m c t (ix3 0 k q) = m ((c : Thread nD τ).loc main_arg1) (ix3 (shard t) k q) := by
  unfold gblk shard
  blk_ext! [iblk, V, idx1 t]

theorem ublk_at (t : Fin cfg0.N) (k : Fin 2048) (q : Fin 1408) :
    ublk m c t (ix3 0 k q) = m ((c : Thread nD τ).loc main_arg2) (ix3 (shard t) k q) := by
  unfold ublk shard
  blk_ext! [iblk, V, idx2 t]

/-- An entry of a product. -/
def prod (x0 : Vec Ideal S8192x2048 .bf16) (x1 : Vec Ideal S4x2048x1408 .bf16) (p : Fin 8192) (a : Fin 4) (q : Fin 1408) : EReal :=
  ∑ k : Fin 2048, x0 (ix2 p k) * x1 (ix3 a k q)

/-- The point whose blocks hold an index, and its place in them. -/
theorem point (i : S8192x5632.Idx) : ∃ (t : Fin cfg0.N) (r : Fin 1024) (q : Fin 1408), i = ix2 (row t r) (col t q) := by
  have l0 : (i 0 : Nat) < 8192 := (i 0).isLt
  have l1 : (i 1 : Nat) < 5632 := (i 1).isLt
  have hN : cfg0.N = 32 := N_0
  refine ⟨⟨8 * ((i 1 : Nat) / 1408) + (i 0 : Nat) / 1024, by omega⟩, ⟨(i 0 : Nat) % 1024, by omega⟩, ⟨(i 1 : Nat) % 1408, by omega⟩, ?_⟩
  funext a; apply Fin.ext
  fin_cases a
  · show (i 0 : Nat) = (8 * ((i 1 : Nat) / 1408) + (i 0 : Nat) / 1024) % 8 * 1024 + (i 0 : Nat) % 1024
    omega
  · show (i 1 : Nat) = (8 * ((i 1 : Nat) / 1408) + (i 0 : Nat) / 1024) / 8 * 1408 + (i 1 : Nat) % 1408
    omega

theorem arr_gate (t : Fin cfg0.N) (r : Fin 1024) (q : Fin 1408) :
    (dats m 0 c).arrAt 3 cfg0.N (ix2 (row t r) (col t q) : S8192x5632.Idx)
      = prod (m ((c : Thread nD τ).loc main_arg0)) (m ((c : Thread nD τ).loc main_arg1)) (row t r) (shard t) q := by
  have he : (((cfg0.win 3).blk t).view.emb (ix2 r q : S1024x1408.Idx) : S8192x5632.Idx) = ix2 (row t r) (col t q) := by
    funext a; apply Fin.ext
    refine (Pipeline.Window.rect_emb_val win0_3 t (ix2 r q) a rfl).trans ?_
    rw [idx3 t]
    fin_cases a <;> rfl
  have hf := (dats m 0 c).arrAt_emb_eq_flushed 3 Value.disjoint3 t (flush0_3 t) (ix2 r q : S1024x1408.Idx)
  rw [he] at hf
  refine hf.trans ?_
  have ho := gate_at c (grid0.coords t) (ms0_0 t) (hs0_0 t) (ms0_1 t) (hs0_1 t) (ms0_2 t) (hs0_2 t) (ms0_3 t) (hs0_3 t) (ms0_4 t) (hs0_4 t)
    (ms0_5 t) (hs0_5 t) (hblk m c t) (gblk m c t) (ublk m c t) r q
  simp only [hblk_at, gblk_at, ublk_at] at ho
  unfold hblk gblk ublk at ho
  unfold prod
  rw [Value.flushed3_A]
  generalize out0_A_3 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) = w at ho ⊢
  exact ho

theorem arr_up (t : Fin cfg0.N) (r : Fin 1024) (q : Fin 1408) :
    (dats m 0 c).arrAt 4 cfg0.N (ix2 (row t r) (col t q) : S8192x5632.Idx)
      = prod (m ((c : Thread nD τ).loc main_arg0)) (m ((c : Thread nD τ).loc main_arg2)) (row t r) (shard t) q := by
  have he : (((cfg0.win 4).blk t).view.emb (ix2 r q : S1024x1408.Idx) : S8192x5632.Idx) = ix2 (row t r) (col t q) := by
    funext a; apply Fin.ext
    refine (Pipeline.Window.rect_emb_val win0_4 t (ix2 r q) a rfl).trans ?_
    rw [idx4 t]
    fin_cases a <;> rfl
  have hf := (dats m 0 c).arrAt_emb_eq_flushed 4 Value.disjoint4 t (flush0_4 t) (ix2 r q : S1024x1408.Idx)
  rw [he] at hf
  refine hf.trans ?_
  have ho := up_at c (grid0.coords t) (ms0_0 t) (hs0_0 t) (ms0_1 t) (hs0_1 t) (ms0_2 t) (hs0_2 t) (ms0_3 t) (hs0_3 t) (ms0_4 t) (hs0_4 t)
    (ms0_5 t) (hs0_5 t) (hblk m c t) (gblk m c t) (ublk m c t) r q
  simp only [hblk_at, gblk_at, ublk_at] at ho
  unfold hblk gblk ublk at ho
  unfold prod
  rw [Value.flushed4_A]
  generalize out0_A_4 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) = w at ho ⊢
  exact ho

theorem arr_act (t : Fin cfg0.N) (r : Fin 1024) (q : Fin 1408) :
    (dats m 0 c).arrAt 5 cfg0.N (ix2 (row t r) (col t q) : S8192x5632.Idx)
      = act (prod (m ((c : Thread nD τ).loc main_arg0)) (m ((c : Thread nD τ).loc main_arg1)) (row t r) (shard t) q)
        (prod (m ((c : Thread nD τ).loc main_arg0)) (m ((c : Thread nD τ).loc main_arg2)) (row t r) (shard t) q) := by
  have he : (((cfg0.win 5).blk t).view.emb (ix2 r q : S1024x1408.Idx) : S8192x5632.Idx) = ix2 (row t r) (col t q) := by
    funext a; apply Fin.ext
    refine (Pipeline.Window.rect_emb_val win0_5 t (ix2 r q) a rfl).trans ?_
    rw [idx5 t]
    fin_cases a <;> rfl
  have hf := (dats m 0 c).arrAt_emb_eq_flushed 5 Value.disjoint5 t (flush0_5 t) (ix2 r q : S1024x1408.Idx)
  rw [he] at hf
  refine hf.trans ?_
  have ho := act_at c (grid0.coords t) (ms0_0 t) (hs0_0 t) (ms0_1 t) (hs0_1 t) (ms0_2 t) (hs0_2 t) (ms0_3 t) (hs0_3 t) (ms0_4 t) (hs0_4 t)
    (ms0_5 t) (hs0_5 t) (hblk m c t) (gblk m c t) (ublk m c t) r q
  simp only [hblk_at, gblk_at, ublk_at] at ho
  unfold hblk gblk ublk at ho
  unfold prod
  rw [Value.flushed5_A]
  generalize out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) = w at ho ⊢
  exact ho

section Reference

open Cert.GateUpReferenceIdeal.Read

variable (x0 : Vec Ideal S8192x2048 .bf16) (x1 x2 : Vec Ideal S4x2048x1408 .bf16) (p : Fin 8192) (q : Fin 5632) (a : Fin 4) (b : Fin 1408)
  (hq : q.val = a.val * 1408 + b.val)

include hq

theorem ref_gate : val_main_v10 (F := Ideal) x0 x1 (ix2 p q) = prod x0 x1 p a b := by
  have ha : (⟨q.val / 1408, by omega⟩ : Fin 4) = a := Fin.ext (by show q.val / 1408 = _; omega)
  have hb : (⟨q.val % 1408, by omega⟩ : Fin 1408) = b := Fin.ext (by show q.val % 1408 = _; omega)
  pointwise [val_main_v10, val_main_v4, val_main_v3, val_main_v2, val_main_v1, val_main_v0]
  refine Eq.trans (b := prod x0 x1 p ⟨q.val / 1408, by omega⟩ ⟨q.val % 1408, by omega⟩) rfl ?_
  rw [ha, hb]

theorem ref_up : val_main_v11 (F := Ideal) x0 x2 (ix2 p q) = prod x0 x2 p a b := by
  have ha : (⟨q.val / 1408, by omega⟩ : Fin 4) = a := Fin.ext (by show q.val / 1408 = _; omega)
  have hb : (⟨q.val % 1408, by omega⟩ : Fin 1408) = b := Fin.ext (by show q.val % 1408 = _; omega)
  pointwise [val_main_v11, val_main_v9, val_main_v8, val_main_v7, val_main_v6, val_main_v5]
  refine Eq.trans (b := prod x0 x2 p ⟨q.val / 1408, by omega⟩ ⟨q.val % 1408, by omega⟩) rfl ?_
  rw [ha, hb]

theorem ref_act : val_main_v14 (F := Ideal) x0 x1 x2 (ix2 p q) = act (prod x0 x1 p a b) (prod x0 x2 p a b) := by
  have ha : (⟨q.val / 1408, by omega⟩ : Fin 4) = a := Fin.ext (by show q.val / 1408 = _; omega)
  have hb : (⟨q.val % 1408, by omega⟩ : Fin 1408) = b := Fin.ext (by show q.val % 1408 = _; omega)
  pointwise [val_main_v14, val_main_v13, val_main_v12, val_main_call0_v5, val_main_call0_v4, val_main_call0_v3, val_main_call0_v2,
    val_main_call0_v1, val_main_call0_v0, val_main_call0_cst, val_main_call0_cst_0, val_main_v4, val_main_v3, val_main_v2, val_main_v1, val_main_v0, val_main_v9, val_main_v8, val_main_v7, val_main_v6, val_main_v5]
  refine Eq.trans (b := prod x0 x1 p ⟨q.val / 1408, by omega⟩ ⟨q.val % 1408, by omega⟩ * logi (prod x0 x1 p ⟨q.val / 1408, by omega⟩ ⟨q.val % 1408, by omega⟩)
    * prod x0 x2 p ⟨q.val / 1408, by omega⟩ ⟨q.val % 1408, by omega⟩) rfl ?_
  rw [ha, hb]
  unfold act
  rw [sigm_eq]

end Reference

theorem value_gate (i : S8192x5632.Idx) :
    Cert.GateUpReferenceIdeal.Read.val_main_v10 (F := Ideal) (m ((c : Thread nD τ).loc main_arg0)) (m ((c : Thread nD τ).loc main_arg1)) i
      = (dats m 0 c).arrAt 3 cfg0.N i := by
  obtain ⟨t, r, q, rfl⟩ := point i
  rw [arr_gate]
  exact ref_gate _ _ _ _ (shard t) q rfl

theorem value_up (i : S8192x5632.Idx) :
    Cert.GateUpReferenceIdeal.Read.val_main_v11 (F := Ideal) (m ((c : Thread nD τ).loc main_arg0)) (m ((c : Thread nD τ).loc main_arg2)) i
      = (dats m 0 c).arrAt 4 cfg0.N i := by
  obtain ⟨t, r, q, rfl⟩ := point i
  rw [arr_up]
  exact ref_up _ _ _ _ (shard t) q rfl

theorem value_act (i : S8192x5632.Idx) :
    Cert.GateUpReferenceIdeal.Read.val_main_v14 (F := Ideal) (m ((c : Thread nD τ).loc main_arg0)) (m ((c : Thread nD τ).loc main_arg1)) (m ((c : Thread nD τ).loc main_arg2)) i
      = (dats m 0 c).arrAt 5 cfg0.N i := by
  obtain ⟨t, r, q, rfl⟩ := point i
  rw [arr_act]
  exact ref_act _ _ _ _ _ (shard t) q rfl

end Cert.GateUpKernelIdeal.Block

end
-- ==== Proof.SguCat.lean ====
/- The gradient of the rows that the spatial-gating mixer's output product takes: each block of the result is a block of the
   product's gradient times a shard of the weight, transposed. -/
module

public import proofs.«01_k».proof.Proof.Gen.SguCatKernelIdeal.Value
public import proofs.«01_k».proof.Proof.Gen.SguCatReferenceIdeal.Read
public import Idealize.ShloMosaic.Lib.Pipeline.ValueKit.Point
public import Idealize.ShloMosaic.Lib.Pointwise

@[expose] public section

set_option maxRecDepth 16384

noncomputable section

namespace Cert.SguCatKernelIdeal.Block

open Cert.SguCatKernelIdeal Cert.SguCatKernelIdeal.Gen Idealize.ShloMosaic Idealize.ShloMosaic.TcCoe

variable (m : (ℓ : Loc nD τ sig) → Buf (Elt Ideal) ℓ) (c : Dev nD)

/-- The blocks a point reads: the rows, -/
def hblk (t : Fin cfg0.N) : Vec Ideal S1024x2048 .bf16 := iblk m c 0 t

/-- and the weight's shard. -/
def wblk (t : Fin cfg0.N) : Vec Ideal S1x512x2048 .bf16 := iblk m c 1 t

/-- The block a point writes back. -/
theorem out_at (x0 : Vec Ideal S1024x2048 .bf16) (x1 : Vec Ideal S1x512x2048 .bf16) (r : Fin 1024) (q : Fin 512) :
    out0_2 x0 x1 (ix2 r q) = ∑ k, x0 (ix2 r k) * x1 (ix3 0 q k) := by
  have hc := cover0_2 (k0_pay1 (View.ld x1 r0_0) (View.ld x0 r0_1)) (ix2 r q)
  unfold out0_2
  canon_tiles x h using hc
  open_payloads
  pointwise [k0_pay1]
  have hr : r = x 0 := Fin.ext h0
  have hq : q = x 1 := Fin.ext h1
  rw [hr, hq]

theorem idx0 : ∀ t : Fin grid0.N, win0_0.index t = ![t.val % 8, 0] := by decide +kernel
theorem idx1 : ∀ t : Fin grid0.N, win0_1.index t = ![t.val / 8, 0, 0] := by decide +kernel
theorem idx2 : ∀ t : Fin grid0.N, win0_2.index t = ![t.val % 8, t.val / 8] := by decide +kernel

/-- Row `r` of the blocks of point `t`, -/
def row (t : Fin cfg0.N) (r : Fin 1024) : Fin 8192 := ⟨t.val % 8 * 1024 + r.val, by omega⟩

/-- its shard, -/
def shard (t : Fin cfg0.N) : Fin 4 := ⟨t.val / 8, by have := t.isLt; have : cfg0.N = 32 := N_0; omega⟩

/-- and column `q` of the shard. -/
def col (t : Fin cfg0.N) (q : Fin 512) : Fin 2048 := ⟨t.val / 8 * 512 + q.val, by have := t.isLt; have : cfg0.N = 32 := N_0; omega⟩

theorem hblk_at (t : Fin cfg0.N) (r : Fin 1024) (k : Fin 2048) :
    hblk m c t (ix2 r k) = m ((c : Thread nD τ).loc main_arg0) (ix2 (row t r) k) := by
  unfold hblk row
  blk_ext! [iblk, V, idx0 t]

theorem wblk_at (t : Fin cfg0.N) (q : Fin 512) (k : Fin 2048) :
    wblk m c t (ix3 0 q k) = m ((c : Thread nD τ).loc main_arg1) (ix3 (shard t) q k) := by
  unfold wblk shard
  blk_ext! [iblk, V, idx1 t]

/-- The point whose block holds an index, and its place in it. -/
theorem point (i : S8192x2048.Idx) : ∃ (t : Fin cfg0.N) (r : Fin 1024) (q : Fin 512), i = ix2 (row t r) (col t q) := by
  have l0 : (i 0 : Nat) < 8192 := (i 0).isLt
  have l1 : (i 1 : Nat) < 2048 := (i 1).isLt
  have hN : cfg0.N = 32 := N_0
  refine ⟨⟨8 * ((i 1 : Nat) / 512) + (i 0 : Nat) / 1024, by omega⟩, ⟨(i 0 : Nat) % 1024, by omega⟩, ⟨(i 1 : Nat) % 512, by omega⟩, ?_⟩
  funext a; apply Fin.ext
  fin_cases a
  · show (i 0 : Nat) = (8 * ((i 1 : Nat) / 512) + (i 0 : Nat) / 1024) % 8 * 1024 + (i 0 : Nat) % 1024
    omega
  · show (i 1 : Nat) = (8 * ((i 1 : Nat) / 512) + (i 0 : Nat) / 1024) / 8 * 512 + (i 1 : Nat) % 512
    omega

/-- An entry of the product. -/
def prod (x0 : Vec Ideal S8192x2048 .bf16) (x1 : Vec Ideal S4x512x2048 .bf16) (p : Fin 8192) (a : Fin 4) (q : Fin 512) : EReal :=
  ∑ k : Fin 2048, x0 (ix2 p k) * x1 (ix3 a q k)

theorem arr_at (t : Fin cfg0.N) (r : Fin 1024) (q : Fin 512) :
    (dats m 0 c).arrAt 2 cfg0.N (ix2 (row t r) (col t q) : S8192x2048.Idx)
      = prod (m ((c : Thread nD τ).loc main_arg0)) (m ((c : Thread nD τ).loc main_arg1)) (row t r) (shard t) q := by
  have he : (((cfg0.win 2).blk t).view.emb (ix2 r q : S1024x512.Idx) : S8192x2048.Idx) = ix2 (row t r) (col t q) := by
    funext a; apply Fin.ext
    refine (Pipeline.Window.rect_emb_val win0_2 t (ix2 r q) a rfl).trans ?_
    rw [idx2 t]
    fin_cases a <;> rfl
  have hf := (dats m 0 c).arrAt_emb_eq_flushed 2 Value.disjoint2 t (flush0_2 t) (ix2 r q : S1024x512.Idx)
  rw [he] at hf
  refine hf.trans ?_
  have ho := out_at (hblk m c t) (wblk m c t) r q
  simp only [hblk_at, wblk_at] at ho
  unfold hblk wblk at ho
  unfold prod
  rw [Value.flushed2]
  generalize out0_2 (iblk m c 0 t) (iblk m c 1 t) = w at ho ⊢
  exact ho

theorem value (i : S8192x2048.Idx) :
    Cert.SguCatReferenceIdeal.Read.val_main_v6 (F := Ideal) (m ((c : Thread nD τ).loc main_arg0)) (m ((c : Thread nD τ).loc main_arg1)) i
      = (dats m 0 c).arrAt 2 cfg0.N i := by
  obtain ⟨t, r, q, rfl⟩ := point i
  rw [arr_at]
  have ha : (⟨(col t q).val / 512, by omega⟩ : Fin 4) = shard t := Fin.ext (by show (t.val / 8 * 512 + q.val) / 512 = t.val / 8; omega)
  have hb : (⟨(col t q).val % 512, by omega⟩ : Fin 512) = q := Fin.ext (by show (t.val / 8 * 512 + q.val) % 512 = q.val; omega)
  pointwise [Cert.SguCatReferenceIdeal.Read.val_main_v6, Cert.SguCatReferenceIdeal.Read.val_main_v5, Cert.SguCatReferenceIdeal.Read.val_main_v4, Cert.SguCatReferenceIdeal.Read.val_main_v2, Cert.SguCatReferenceIdeal.Read.val_main_v1]
  refine Eq.trans (b := prod (m ((c : Thread nD τ).loc main_arg0)) (m ((c : Thread nD τ).loc main_arg1)) (row t r)
    ⟨(col t q).val / 512, by omega⟩ ⟨(col t q).val % 512, by omega⟩) rfl ?_
  rw [ha, hb]

end Cert.SguCatKernelIdeal.Block

end
-- ==== Proof.AttnCat.lean ====
/- The gradient of the rows that the attention's output product takes: each block of the result is the sum,
   over the four shards of the weight, of a block of the product's gradient times the shard, transposed. -/
module

public import proofs.«01_k».proof.Proof.Gen.AttnCatKernelIdeal.Value
public import proofs.«01_k».proof.Proof.Gen.AttnCatReferenceIdeal.Read
public import Idealize.ShloMosaic.Lib.Pipeline.ValueKit.Point
public import Idealize.ShloMosaic.Lib.Pointwise

@[expose] public section

set_option maxRecDepth 16384

noncomputable section

namespace Cert.AttnCatKernelIdeal.Block

open Cert.AttnCatKernelIdeal Cert.AttnCatKernelIdeal.Gen Idealize.ShloMosaic Idealize.ShloMosaic.TcCoe

variable (m : (ℓ : Loc nD τ sig) → Buf (Elt Ideal) ℓ) (c : Dev nD)

/-- The blocks a point reads: the rows, -/
def hblk (t : Fin cfg0.N) : Vec Ideal S1024x2048 .bf16 := iblk m c 0 t

/-- and the whole weight. -/
def wblk (t : Fin cfg0.N) : Vec Ideal S4x1024x512 .bf16 := iblk m c 1 t

/-- The block a point writes back. -/
theorem out_at (x0 : Vec Ideal S1024x2048 .bf16) (x1 : Vec Ideal S4x1024x512 .bf16) (r : Fin 1024) (q : Fin 1024) :
    out0_2 x0 x1 (ix2 r q) = ∑ s : Fin 4, ∑ k : Fin 512, x0 (ix2 r ⟨s.val * 512 + k.val, by omega⟩) * x1 (ix3 s q k) := by
  have hc := cover0_2 (k0_pay1 (View.ld x0 r0_0) (View.ld x1 r0_1) (View.ld x1 r0_2) (View.ld x1 r0_3) (View.ld x1 r0_4)) (ix2 r q)
  rw [Fin.sum_univ_four]
  unfold out0_2
  canon_tiles x h using hc
  open_payloads
  have hr : r = x 0 := Fin.ext h0
  have hq : q = x 1 := Fin.ext h1
  subst hr hq
  pointwise [k0_pay1]

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel

/-- Row `r` of the blocks of point `t`. -/
def row (t : Fin cfg0.N) (r : Fin 1024) : Fin 8192 := ⟨t.val * 1024 + r.val, by have := t.isLt; have : cfg0.N = 8 := N_0; omega⟩

theorem hblk_at (t : Fin cfg0.N) (r : Fin 1024) (k : Fin 2048) :
    hblk m c t (ix2 r k) = m ((c : Thread nD τ).loc main_arg0) (ix2 (row t r) k) := by
  unfold hblk row
  blk_ext! [iblk, V, idx0 t]

theorem wblk_at (t : Fin cfg0.N) (s : Fin 4) (q : Fin 1024) (k : Fin 512) :
    wblk m c t (ix3 s q k) = m ((c : Thread nD τ).loc main_arg1) (ix3 s q k) := by
  unfold wblk
  blk_ext! [iblk, V, idx1 t]

/-- The point whose block holds an index, and its place in it. -/
theorem point (i : S8192x1024.Idx) : ∃ (t : Fin cfg0.N) (r : Fin 1024) (q : Fin 1024), i = ix2 (row t r) q := by
  have l0 : (i 0 : Nat) < 8192 := (i 0).isLt
  have l1 : (i 1 : Nat) < 1024 := (i 1).isLt
  have hN : cfg0.N = 8 := N_0
  refine ⟨⟨(i 0 : Nat) / 1024, by omega⟩, ⟨(i 0 : Nat) % 1024, by omega⟩, ⟨(i 1 : Nat), by omega⟩, ?_⟩
  funext a; apply Fin.ext
  fin_cases a
  · show (i 0 : Nat) = (i 0 : Nat) / 1024 * 1024 + (i 0 : Nat) % 1024
    omega
  · rfl

/-- A shard's part of an entry. -/
def part (x0 : Vec Ideal S8192x2048 .bf16) (x1 : Vec Ideal S4x1024x512 .bf16) (p : Fin 8192) (q : Fin 1024) (s : Fin 4) : EReal :=
  ∑ k : Fin 512, x0 (ix2 p ⟨s.val * 512 + k.val, by omega⟩) * x1 (ix3 s q k)

theorem arr_at (t : Fin cfg0.N) (r : Fin 1024) (q : Fin 1024) :
    (dats m 0 c).arrAt 2 cfg0.N (ix2 (row t r) q : S8192x1024.Idx)
      = ∑ s, part (m ((c : Thread nD τ).loc main_arg0)) (m ((c : Thread nD τ).loc main_arg1)) (row t r) q s := by
  have he : (((cfg0.win 2).blk t).view.emb (ix2 r q : S1024x1024.Idx) : S8192x1024.Idx) = ix2 (row t r) q := by
    funext a; apply Fin.ext
    refine (Pipeline.Window.rect_emb_val win0_2 t (ix2 r q) a rfl).trans ?_
    rw [idx2 t]
    fin_cases a
    · rfl
    · show 0 * 1024 + q.val = q.val
      omega
  have hf := (dats m 0 c).arrAt_emb_eq_flushed 2 Value.disjoint2 t (flush0_2 t) (ix2 r q : S1024x1024.Idx)
  rw [he] at hf
  refine hf.trans ?_
  have ho := out_at (hblk m c t) (wblk m c t) r q
  simp only [hblk_at, wblk_at] at ho
  unfold hblk wblk at ho
  unfold part
  rw [Value.flushed2]
  generalize out0_2 (iblk m c 0 t) (iblk m c 1 t) = w at ho ⊢
  exact ho

theorem ref_at (x0 : Vec Ideal S8192x2048 .bf16) (x1 : Vec Ideal S4x1024x512 .bf16) (p : Fin 8192) (q : Fin 1024) :
    Cert.AttnCatReferenceIdeal.Read.val_main_v6 (F := Ideal) x0 x1 (ix2 p q) = ∑ s, part x0 x1 p q s := by
  unfold part
  pointwise [Cert.AttnCatReferenceIdeal.Read.val_main_v6]
  symm
  refine Fin.sum_mul_add_congr fun s k hl => ?_
  pointwise [Cert.AttnCatReferenceIdeal.Read.val_main_v5, Cert.AttnCatReferenceIdeal.Read.val_main_v3, Cert.AttnCatReferenceIdeal.Read.val_main_v2,
    Cert.AttnCatReferenceIdeal.Read.val_main_v1]

theorem value (i : S8192x1024.Idx) :
    Cert.AttnCatReferenceIdeal.Read.val_main_v6 (F := Ideal) (m ((c : Thread nD τ).loc main_arg0)) (m ((c : Thread nD τ).loc main_arg1)) i
      = (dats m 0 c).arrAt 2 cfg0.N i := by
  obtain ⟨t, r, q, rfl⟩ := point i
  rw [arr_at]
  exact ref_at _ _ _ _

end Cert.AttnCatKernelIdeal.Block

end
-- ==== Proof.SguOutW.lean ====
/- The gradient of the spatial-gating mixer's output weight: the kernel's array after the run is the product of the activations' transpose with
   the gradient, laid out by halves of each quarter of the rows. -/
module

public import proofs.«01_k».proof.Proof.Gen.SguOutWKernelIdeal.Value
public import proofs.«01_k».proof.Proof.Gen.SguOutWReferenceIdeal.Read
public import Idealize.ShloMosaic.Lib.Pipeline.ValueKit.Point
public import Idealize.ShloMosaic.Lib.Pointwise

@[expose] public section

set_option maxRecDepth 16384

noncomputable section

namespace Cert.SguOutWKernelIdeal.Sum

open Cert.SguOutWKernelIdeal Cert.SguOutWKernelIdeal.Gen Idealize.ShloMosaic Idealize.ShloMosaic.TcCoe

variable (m : (ℓ : Loc nD τ sig) → Buf (Elt Ideal) ℓ) (c : Dev nD)

/-- Row `p` of half `a` of quarter `b`. -/
def rowOf (a : Fin 2) (b : Fin 4) (p : Fin 256) : Fin 2048 := ⟨(b.val * 2 + a.val) * 256 + p.val, by omega⟩

/-- The product of a point's two blocks. -/
def dot (x0 : Vec Ideal S1024x2048 .bf16) (x1 : Vec Ideal S1024x1024 .bf16) (r : Fin 2048) (q : Fin 1024) : EReal :=
  ∑ k, x0 (ix2 k r) * x1 (ix2 k q)

theorem pay1 (x1 : Vec Ideal S1024x1024 .bf16) (x0 : Vec Ideal S1024x2048 .bf16) (r : Fin 2048) (q : Fin 1024) :
    k0_pay1 x1 x0 (ix2 r q) = dot x0 x1 r q := by
  unfold dot
  pointwise [k0_pay1]

theorem pay2 (x1 : Vec Ideal S1024x1024 .bf16) (x0 : Vec Ideal S1024x2048 .bf16) (o : Vec Ideal S2048x1024 .f32) (r : Fin 2048) (q : Fin 1024) :
    k0_pay2 x1 x0 o (ix2 r q) = o (ix2 r q) + dot x0 x1 r q := by
  unfold dot
  pointwise [k0_pay2]

theorem pay7 (x1 : Vec Ideal S1024x1024 .bf16) (x0 : Vec Ideal S1024x2048 .bf16) (o : Vec Ideal S2048x1024 .f32) (r : Fin 2048) (q : Fin 1024) :
    k0_pay7 x1 x0 o (ix2 r q) = o (ix2 r q) + dot x0 x1 r q := by
  unfold dot
  pointwise [k0_pay7]

/-- A run's last point writes, at half `a` of quarter `b`, the accumulator's row and the last product. -/
theorem out_at (c : Dev nD) (i : grid0.Coords) (arg3 : Memref sig .tc .vmem S1024x2048 .bf16) (harg3 : arg3.IsWhole) (arg4 : Memref sig .tc .vmem S1024x1024 .bf16) (harg4 : arg4.IsWhole) (arg5 : Memref sig .tc .vmem S2x4x256x1024 .bf16) (harg5 : arg5.IsWhole) (arg6 : Memref sig .tc .vmem S2048x1024 .f32) (harg6 : arg6.IsWhole) (hc0 : ¬cond0_0 i) (hc1 : ¬cond0_1 i) (hc2 : cond0_2 i)
    (x0 : Vec Ideal S1024x2048 .bf16) (x1 : Vec Ideal S1024x1024 .bf16) (xs0 : Vec Ideal S2048x1024 .f32) (a : Fin 2) (b : Fin 4) (p : Fin 256) (q : Fin 1024) :
    out0_C_2 c i arg3 harg3 arg4 harg4 arg5 harg5 arg6 harg6 hc0 hc1 hc2 x0 x1 xs0 (ix4 a b p q) = xs0 (ix2 (rowOf a b p) q) + dot x0 x1 (rowOf a b p) q := by
  unfold out0_C_2
  rw [View.read_writes_eq_canon _ _ _ (cover0_C_2 c i arg3 harg3 arg4 harg4 arg5 harg5 arg6 harg6 hc0 hc1 hc2 x0 x1 xs0)]
  have hc := cover0_C_2 c i arg3 harg3 arg4 harg4 arg5 harg5 arg6 harg6 hc0 hc1 hc2 x0 x1 xs0 (ix4 a b p q)
  unfold kernelRun0_C at hc ⊢
  dsimp only at hc ⊢
  canon_tiles x h using hc
  · open_payloads
    unfold dot kernelRun0_C.sl.r k0_pay7
    dsimp only
    simp only [View.readAt_eq_ld, Memref.IsWhole.read_unread]
    pointwise
    have e0 : a.val = 1 + (x 0).val := h0
    have e1 : b.val = 3 + (x 1).val := h1
    have e2 : p.val = (x 2).val := h2
    have hr : rowOf a b p = ⟨1792 + (x 2).val, by omega⟩ := Fin.ext (by show (b.val * 2 + a.val) * 256 + p.val = 1792 + (x 2).val; omega)
    have hq : q = x 3 := Fin.ext h3
    rw [hr, hq]
  · open_payloads
    unfold dot kernelRun0_C.sl.r k0_pay7
    dsimp only
    simp only [View.readAt_eq_ld, Memref.IsWhole.read_unread]
    pointwise
    have e0 : a.val = (x 0).val := h0
    have e1 : b.val = 3 + (x 1).val := h1
    have e2 : p.val = (x 2).val := h2
    have hr : rowOf a b p = ⟨1536 + (x 2).val, by omega⟩ := Fin.ext (by show (b.val * 2 + a.val) * 256 + p.val = 1536 + (x 2).val; omega)
    have hq : q = x 3 := Fin.ext h3
    rw [hr, hq]
  · open_payloads
    unfold dot kernelRun0_C.sl.r k0_pay7
    dsimp only
    simp only [View.readAt_eq_ld, Memref.IsWhole.read_unread]
    pointwise
    have e0 : a.val = 1 + (x 0).val := h0
    have e1 : b.val = 2 + (x 1).val := h1
    have e2 : p.val = (x 2).val := h2
    have hr : rowOf a b p = ⟨1280 + (x 2).val, by omega⟩ := Fin.ext (by show (b.val * 2 + a.val) * 256 + p.val = 1280 + (x 2).val; omega)
    have hq : q = x 3 := Fin.ext h3
    rw [hr, hq]
  · open_payloads
    unfold dot kernelRun0_C.sl.r_1 k0_pay12 k0_pay7
    dsimp only
    simp only [View.readAt_eq_ld, Memref.IsWhole.read_unread]
    pointwise
    have e0 : a.val = (x 0).val := h0
    have e1 : b.val = 2 + (x 1).val := h1
    have e2 : p.val = (x 2).val := h2
    have hr : rowOf a b p = ⟨1024 + (x 2).val, by omega⟩ := Fin.ext (by show (b.val * 2 + a.val) * 256 + p.val = 1024 + (x 2).val; omega)
    have hq : q = x 3 := Fin.ext h3
    rw [hr, hq]
  · open_payloads
    unfold dot
    simp only [View.readAt_eq_ld, Memref.IsWhole.read_unread]
    pointwise
    have e0 : a.val = 1 + (x 0).val := h0
    have e1 : b.val = 1 + (x 1).val := h1
    have e2 : p.val = (x 2).val := h2
    have hr : rowOf a b p = ⟨768 + (x 2).val, by omega⟩ := Fin.ext (by show (b.val * 2 + a.val) * 256 + p.val = 768 + (x 2).val; omega)
    have hq : q = x 3 := Fin.ext h3
    rw [hr, hq]
  · open_payloads
    unfold dot
    simp only [View.readAt_eq_ld, Memref.IsWhole.read_unread]
    pointwise
    have e0 : a.val = (x 0).val := h0
    have e1 : b.val = 1 + (x 1).val := h1
    have e2 : p.val = (x 2).val := h2
    have hr : rowOf a b p = ⟨512 + (x 2).val, by omega⟩ := Fin.ext (by show (b.val * 2 + a.val) * 256 + p.val = 512 + (x 2).val; omega)
    have hq : q = x 3 := Fin.ext h3
    rw [hr, hq]
  · open_payloads
    unfold dot
    simp only [View.readAt_eq_ld, Memref.IsWhole.read_unread]
    pointwise
    have e0 : a.val = 1 + (x 0).val := h0
    have e1 : b.val = (x 1).val := h1
    have e2 : p.val = (x 2).val := h2
    have hr : rowOf a b p = ⟨256 + (x 2).val, by omega⟩ := Fin.ext (by show (b.val * 2 + a.val) * 256 + p.val = 256 + (x 2).val; omega)
    have hq : q = x 3 := Fin.ext h3
    rw [hr, hq]
  · open_payloads
    unfold dot
    simp only [View.readAt_eq_ld, Memref.IsWhole.read_unread]
    pointwise
    have e0 : a.val = (x 0).val := h0
    have e1 : b.val = (x 1).val := h1
    have e2 : p.val = (x 2).val := h2
    have hr : rowOf a b p = ⟨(x 2).val, by omega⟩ := Fin.ext (by show (b.val * 2 + a.val) * 256 + p.val = (x 2).val; omega)
    have hq : q = x 3 := Fin.ext h3
    rw [hr, hq]

/-- The blocks a point reads, of the merged rows -/
def xblk (t : Fin cfg0.N) : Vec Ideal S1024x2048 .bf16 := iblk m c 0 t

/-- and of the gradient. -/
def gblk (t : Fin cfg0.N) : Vec Ideal S1024x1024 .bf16 := iblk m c 1 t

/-- One point's product. -/
def part (t : Fin cfg0.N) (r : Fin 2048) (q : Fin 1024) : EReal := dot (xblk m c t) (gblk m c t) r q

/-- What a point leaves: the accumulator, or at a run's last point the block written back. -/
def left (a : Fin 2) (b : Fin 4) (p : Fin 256) (q : Fin 1024) (n : ℕ) (h : n < cfg0.N) : EReal :=
  if n % 8 = 7 then (outsAt0 m c n h).1 (ix4 a b p q) else (outsAt0 m c n h).2 (ix2 (rowOf a b p) q)

theorem left_first (a : Fin 2) (b : Fin 4) (p : Fin 256) (q : Fin 1024) (t : Fin cfg0.N) (h : t.val % 8 = 0) :
    left m c a b p q t.val t.isLt = 0 + part m c t (rowOf a b p) q := by
  unfold left
  rw [if_neg (by omega), zero_add, outsAt0_A m c t h (by omega) (by omega)]
  frame_out
  rw [pay1]
  rfl

theorem left_next (a : Fin 2) (b : Fin 4) (p : Fin 256) (q : Fin 1024) (t : Fin cfg0.N) (h : ¬t.val % 8 = 0) :
    left m c a b p q t.val t.isLt
      = left m c a b p q (t.val - 1) (Nat.lt_of_le_of_lt (Nat.sub_le _ _) t.isLt) + part m c t (rowOf a b p) q := by
  unfold left
  rw [if_neg (show ¬(t.val - 1) % 8 = 7 by omega)]
  by_cases h2 : t.val % 8 = 7
  · rw [if_pos h2, outsAt0_C m c t h (by omega) h2]
    dsimp only
    rw [out_at]
    rfl
  · rw [if_neg h2, outsAt0_B m c t h (by omega) h2]
    frame_out
    rw [pay2]
    exact congrArg (· + part m c t (rowOf a b p) q) (congrFun (Memref.IsWhole.read_unread _ _) _)

/-- A run's last point writes back the sum of the run's products. -/
theorem written (a : Fin 2) (b : Fin 4) (p : Fin 256) (q : Fin 1024) (t : Fin cfg0.N) (h : t.val % 8 = 7) :
    (outsAt0 m c t.val t.isLt).1 (ix4 a b p q)
      = ∑ s : Fin 8, part m c ⟨8 * (t.val / 8) + s.val, Pipeline.run_point_lt_of_flush t h s⟩ (rowOf a b p) q := by
  have e := Pipeline.eq_sum_fin_of_reset_step_of_flush (left m c a b p q) 8 0 (fun t => part m c t (rowOf a b p) q)
    (left_first m c a b p q) (left_next m c a b p q) t h
  rw [zero_add] at e
  rw [← e]
  unfold left
  rw [if_pos h]

theorem idx0 : ∀ t : Fin grid0.N, win0_0.index t = ![t.val % 8, 0] := by decide +kernel
theorem idx1 : ∀ t : Fin grid0.N, win0_1.index t = ![t.val % 8, t.val / 8] := by decide +kernel

theorem xblk_at (t : Fin cfg0.N) (k : Fin 1024) (r : Fin 2048) :
    xblk m c t (ix2 k r) = m ((c : Thread nD τ).loc main_arg0) (ix2 ⟨t.val % 8 * 1024 + k.val, by omega⟩ r) := by
  unfold xblk
  blk_ext! [iblk, V, idx0 t]

theorem gblk_at (t : Fin cfg0.N) (k : Fin 1024) (q : Fin 1024) :
    gblk m c t (ix2 k q) = m ((c : Thread nD τ).loc main_arg1)
      (ix2 ⟨t.val % 8 * 1024 + k.val, by omega⟩ ⟨t.val / 8 * 1024 + q.val, by have := t.isLt; have : cfg0.N = 16 := N_0; omega⟩) := by
  unfold gblk
  blk_ext! [iblk, V, idx1 t]

theorem value (i : S2x4x256x2048.Idx) :
    Value.G2 m c i = Cert.SguOutWReferenceIdeal.Read.val_main_v9 (F := Ideal) (m ((c : Thread nD τ).loc main_arg0)) (m ((c : Thread nD τ).loc main_arg1)) i := by
  obtain ⟨a, b, p, q, rfl⟩ : ∃ (a : Fin 2) (b : Fin 4) (p : Fin 256) (q : Fin 2048), i = ix4 a b p q := ⟨_, _, _, _, eq_ix4 i⟩
  have hN : cfg0.N = 16 := N_0
  have hp : Value.pt2Of (ix4 a b p q) = 8 * (q.val / 1024) + 7 := by
    show 8 * (2 * (a.val / 2 - 0) + 2 * (b.val / 4 - 0) + 2 * (p.val / 256 - 0) + 1 * (q.val / 1024 - 0)) + 7 = _
    omega
  have hl : Value.loc2Of (ix4 a b p q) = ix4 a b p ⟨q.val % 1024, by omega⟩ := by
    funext d; apply Fin.ext
    fin_cases d
    · exact Nat.mod_eq_of_lt a.isLt
    · exact Nat.mod_eq_of_lt b.isLt
    · exact Nat.mod_eq_of_lt p.isLt
    · rfl
  have hb : 8 * (q.val / 1024) + 7 < cfg0.N := by omega
  have e : Value.G2 m c (ix4 a b p q) = (outsAt0 m c (8 * (q.val / 1024) + 7) hb).1 (ix4 a b p ⟨q.val % 1024, by omega⟩) := by
    unfold Value.G2
    simp only [hp, hl, hb, dite_true]
    rw [Value.outsAt0_sweep]
  rw [e, written m c a b p ⟨q.val % 1024, by omega⟩ ⟨8 * (q.val / 1024) + 7, hb⟩ (by show (8 * (q.val / 1024) + 7) % 8 = 7; omega)]
  unfold part dot
  simp only [xblk_at, gblk_at]
  pointwise [Cert.SguOutWReferenceIdeal.Read.val_main_v9, Cert.SguOutWReferenceIdeal.Read.val_main_v8, Cert.SguOutWReferenceIdeal.Read.val_main_v7,
    Cert.SguOutWReferenceIdeal.Read.val_main_v6, Cert.SguOutWReferenceIdeal.Read.val_main_v5]
  refine Fin.sum_mul_add_congr fun s k hl => ?_
  have e1 : (8 * ((8 * (q.val / 1024) + 7) / 8) + s.val) % 8 = s.val := by omega
  have e2 : (8 * ((8 * (q.val / 1024) + 7) / 8) + s.val) / 8 * 1024 + q.val % 1024 = q.val := by omega
  have hr : rowOf a b p = ⟨b.val * 512 + a.val * 256 + p.val, by omega⟩ := Fin.ext (by show (b.val * 2 + a.val) * 256 + p.val = b.val * 512 + a.val * 256 + p.val; omega)
  pointwise [Cert.SguOutWReferenceIdeal.Read.val_main_v4, Cert.SguOutWReferenceIdeal.Read.val_main_v2]
  rw [mul_comm]
  simp only [e1, e2, hr]

end Cert.SguOutWKernelIdeal.Sum

end
-- ==== Proof.AttnOutW.lean ====
/- The gradient of the attention's output weight: the kernel's array after the run is the product of the activations' transpose with
   the gradient, laid out by halves of the rows and quarters of the columns. -/
module

public import proofs.«01_k».proof.Proof.Gen.AttnOutWKernelIdeal.Value
public import proofs.«01_k».proof.Proof.Gen.AttnOutWReferenceIdeal.Read
public import Idealize.ShloMosaic.Lib.Pipeline.ValueKit.Point
public import Idealize.ShloMosaic.Lib.Pointwise

@[expose] public section

set_option maxRecDepth 16384

noncomputable section

namespace Cert.AttnOutWKernelIdeal.Sum

open Cert.AttnOutWKernelIdeal Cert.AttnOutWKernelIdeal.Gen Idealize.ShloMosaic Idealize.ShloMosaic.TcCoe

variable (m : (ℓ : Loc nD τ sig) → Buf (Elt Ideal) ℓ) (c : Dev nD)

/-- Row `p` of half `a`, -/
def rowOf (a : Fin 2) (p : Fin 512) : Fin 1024 := ⟨a.val * 512 + p.val, by omega⟩

/-- and column `q` of quarter `b`. -/
def colOf (b : Fin 4) (q : Fin 512) : Fin 2048 := ⟨b.val * 512 + q.val, by omega⟩

/-- The product of a point's two blocks. -/
def dot (x0 : Vec Ideal S1024x1024 .bf16) (x1 : Vec Ideal S1024x2048 .bf16) (r : Fin 1024) (q : Fin 2048) : EReal :=
  ∑ k, x0 (ix2 k r) * x1 (ix2 k q)

theorem pay1 (x1 : Vec Ideal S1024x2048 .bf16) (x0 : Vec Ideal S1024x1024 .bf16) (r : Fin 1024) (q : Fin 2048) :
    k0_pay1 x1 x0 (ix2 r q) = dot x0 x1 r q := by
  unfold dot
  pointwise [k0_pay1]

theorem pay2 (x1 : Vec Ideal S1024x2048 .bf16) (x0 : Vec Ideal S1024x1024 .bf16) (o : Vec Ideal S1024x2048 .f32) (r : Fin 1024) (q : Fin 2048) :
    k0_pay2 x1 x0 o (ix2 r q) = o (ix2 r q) + dot x0 x1 r q := by
  unfold dot
  pointwise [k0_pay2]

/-- A run's last point writes, at half `a`, quarter `b`, the accumulator's entry and the last product's. -/
theorem out_at (c : Dev nD) (i : grid0.Coords) (arg3 : Memref sig .tc .vmem S1024x1024 .bf16) (harg3 : arg3.IsWhole) (arg4 : Memref sig .tc .vmem S1024x2048 .bf16) (harg4 : arg4.IsWhole) (arg5 : Memref sig .tc .vmem S2x4x512x512 .bf16) (harg5 : arg5.IsWhole) (arg6 : Memref sig .tc .vmem S1024x2048 .f32) (harg6 : arg6.IsWhole) (hc0 : ¬cond0_0 i) (hc1 : ¬cond0_1 i) (hc2 : cond0_2 i)
    (x0 : Vec Ideal S1024x1024 .bf16) (x1 : Vec Ideal S1024x2048 .bf16) (xs0 : Vec Ideal S1024x2048 .f32) (a : Fin 2) (b : Fin 4) (p q : Fin 512) :
    out0_C_2 c i arg3 harg3 arg4 harg4 arg5 harg5 arg6 harg6 hc0 hc1 hc2 x0 x1 xs0 (ix4 a b p q) = xs0 (ix2 (rowOf a p) (colOf b q)) + dot x0 x1 (rowOf a p) (colOf b q) := by
  unfold out0_C_2
  rw [View.read_writes_eq_canon _ _ _ (cover0_C_2 c i arg3 harg3 arg4 harg4 arg5 harg5 arg6 harg6 hc0 hc1 hc2 x0 x1 xs0)]
  have hc := cover0_C_2 c i arg3 harg3 arg4 harg4 arg5 harg5 arg6 harg6 hc0 hc1 hc2 x0 x1 xs0 (ix4 a b p q)
  unfold kernelRun0_C at hc ⊢
  dsimp only at hc ⊢
  canon_tiles x h using hc
  · open_payloads
    unfold dot kernelRun0_C.sl.r k0_pay7
    dsimp only
    simp only [View.readAt_eq_ld, Memref.IsWhole.read_unread]
    pointwise
    have e0 : a.val = 1 + (x 0).val := h0
    have e1 : b.val = 3 + (x 1).val := h1
    have e2 : p.val = (x 2).val := h2
    have e3 : q.val = (x 3).val := h3
    have hr : rowOf a p = ⟨512 + (x 2).val, by omega⟩ := Fin.ext (by show a.val * 512 + p.val = 512 + (x 2).val; omega)
    have hq : colOf b q = ⟨1536 + (x 3).val, by omega⟩ := Fin.ext (by show b.val * 512 + q.val = 1536 + (x 3).val; omega)
    rw [hr, hq]
  · open_payloads
    unfold dot kernelRun0_C.sl.r k0_pay7
    dsimp only
    simp only [View.readAt_eq_ld, Memref.IsWhole.read_unread]
    pointwise
    have e0 : a.val = (x 0).val := h0
    have e1 : b.val = 3 + (x 1).val := h1
    have e2 : p.val = (x 2).val := h2
    have e3 : q.val = (x 3).val := h3
    have hr : rowOf a p = ⟨(x 2).val, by omega⟩ := Fin.ext (by show a.val * 512 + p.val = (x 2).val; omega)
    have hq : colOf b q = ⟨1536 + (x 3).val, by omega⟩ := Fin.ext (by show b.val * 512 + q.val = 1536 + (x 3).val; omega)
    rw [hr, hq]
  · open_payloads
    unfold dot kernelRun0_C.sl.r k0_pay7
    dsimp only
    simp only [View.readAt_eq_ld, Memref.IsWhole.read_unread]
    pointwise
    have e0 : a.val = 1 + (x 0).val := h0
    have e1 : b.val = 2 + (x 1).val := h1
    have e2 : p.val = (x 2).val := h2
    have e3 : q.val = (x 3).val := h3
    have hr : rowOf a p = ⟨512 + (x 2).val, by omega⟩ := Fin.ext (by show a.val * 512 + p.val = 512 + (x 2).val; omega)
    have hq : colOf b q = ⟨1024 + (x 3).val, by omega⟩ := Fin.ext (by show b.val * 512 + q.val = 1024 + (x 3).val; omega)
    rw [hr, hq]
  · open_payloads
    unfold dot kernelRun0_C.sl.r_1 k0_pay12 k0_pay7
    dsimp only
    simp only [View.readAt_eq_ld, Memref.IsWhole.read_unread]
    pointwise
    have e0 : a.val = (x 0).val := h0
    have e1 : b.val = 2 + (x 1).val := h1
    have e2 : p.val = (x 2).val := h2
    have e3 : q.val = (x 3).val := h3
    have hr : rowOf a p = ⟨(x 2).val, by omega⟩ := Fin.ext (by show a.val * 512 + p.val = (x 2).val; omega)
    have hq : colOf b q = ⟨1024 + (x 3).val, by omega⟩ := Fin.ext (by show b.val * 512 + q.val = 1024 + (x 3).val; omega)
    rw [hr, hq]
  · open_payloads
    unfold dot
    simp only [View.readAt_eq_ld, Memref.IsWhole.read_unread]
    pointwise
    have e0 : a.val = 1 + (x 0).val := h0
    have e1 : b.val = 1 + (x 1).val := h1
    have e2 : p.val = (x 2).val := h2
    have e3 : q.val = (x 3).val := h3
    have hr : rowOf a p = ⟨512 + (x 2).val, by omega⟩ := Fin.ext (by show a.val * 512 + p.val = 512 + (x 2).val; omega)
    have hq : colOf b q = ⟨512 + (x 3).val, by omega⟩ := Fin.ext (by show b.val * 512 + q.val = 512 + (x 3).val; omega)
    rw [hr, hq]
  · open_payloads
    unfold dot
    simp only [View.readAt_eq_ld, Memref.IsWhole.read_unread]
    pointwise
    have e0 : a.val = (x 0).val := h0
    have e1 : b.val = 1 + (x 1).val := h1
    have e2 : p.val = (x 2).val := h2
    have e3 : q.val = (x 3).val := h3
    have hr : rowOf a p = ⟨(x 2).val, by omega⟩ := Fin.ext (by show a.val * 512 + p.val = (x 2).val; omega)
    have hq : colOf b q = ⟨512 + (x 3).val, by omega⟩ := Fin.ext (by show b.val * 512 + q.val = 512 + (x 3).val; omega)
    rw [hr, hq]
  · open_payloads
    unfold dot
    simp only [View.readAt_eq_ld, Memref.IsWhole.read_unread]
    pointwise
    have e0 : a.val = 1 + (x 0).val := h0
    have e1 : b.val = (x 1).val := h1
    have e2 : p.val = (x 2).val := h2
    have e3 : q.val = (x 3).val := h3
    have hr : rowOf a p = ⟨512 + (x 2).val, by omega⟩ := Fin.ext (by show a.val * 512 + p.val = 512 + (x 2).val; omega)
    have hq : colOf b q = ⟨(x 3).val, by omega⟩ := Fin.ext (by show b.val * 512 + q.val = (x 3).val; omega)
    rw [hr, hq]
  · open_payloads
    unfold dot
    simp only [View.readAt_eq_ld, Memref.IsWhole.read_unread]
    pointwise
    have e0 : a.val = (x 0).val := h0
    have e1 : b.val = (x 1).val := h1
    have e2 : p.val = (x 2).val := h2
    have e3 : q.val = (x 3).val := h3
    have hr : rowOf a p = ⟨(x 2).val, by omega⟩ := Fin.ext (by show a.val * 512 + p.val = (x 2).val; omega)
    have hq : colOf b q = ⟨(x 3).val, by omega⟩ := Fin.ext (by show b.val * 512 + q.val = (x 3).val; omega)
    rw [hr, hq]
/-- The blocks a point reads, of the merged rows -/
def xblk (t : Fin cfg0.N) : Vec Ideal S1024x1024 .bf16 := iblk m c 0 t

/-- and of the gradient. -/
def gblk (t : Fin cfg0.N) : Vec Ideal S1024x2048 .bf16 := iblk m c 1 t

/-- One point's product. -/
def part (t : Fin cfg0.N) (r : Fin 1024) (q : Fin 2048) : EReal := dot (xblk m c t) (gblk m c t) r q

/-- What a point leaves: the accumulator, or at a run's last point the block written back. -/
def left (a : Fin 2) (b : Fin 4) (p q : Fin 512) (n : ℕ) (h : n < cfg0.N) : EReal :=
  if n % 8 = 7 then (outsAt0 m c n h).1 (ix4 a b p q) else (outsAt0 m c n h).2 (ix2 (rowOf a p) (colOf b q))

theorem left_first (a : Fin 2) (b : Fin 4) (p q : Fin 512) (t : Fin cfg0.N) (h : t.val % 8 = 0) :
    left m c a b p q t.val t.isLt = 0 + part m c t (rowOf a p) (colOf b q) := by
  unfold left
  rw [if_neg (by omega), zero_add, outsAt0_A m c t h (by omega) (by omega)]
  frame_out
  rw [pay1]
  rfl

theorem left_next (a : Fin 2) (b : Fin 4) (p q : Fin 512) (t : Fin cfg0.N) (h : ¬t.val % 8 = 0) :
    left m c a b p q t.val t.isLt
      = left m c a b p q (t.val - 1) (Nat.lt_of_le_of_lt (Nat.sub_le _ _) t.isLt) + part m c t (rowOf a p) (colOf b q) := by
  unfold left
  rw [if_neg (show ¬(t.val - 1) % 8 = 7 by omega)]
  by_cases h2 : t.val % 8 = 7
  · rw [if_pos h2, outsAt0_C m c t h (by omega) h2]
    dsimp only
    rw [out_at]
    rfl
  · rw [if_neg h2, outsAt0_B m c t h (by omega) h2]
    frame_out
    rw [pay2]
    exact congrArg (· + part m c t (rowOf a p) (colOf b q)) (congrFun (Memref.IsWhole.read_unread _ _) _)

/-- A run's last point writes back the sum of the run's products. -/
theorem written (a : Fin 2) (b : Fin 4) (p q : Fin 512) (t : Fin cfg0.N) (h : t.val % 8 = 7) :
    (outsAt0 m c t.val t.isLt).1 (ix4 a b p q)
      = ∑ s : Fin 8, part m c ⟨8 * (t.val / 8) + s.val, Pipeline.run_point_lt_of_flush t h s⟩ (rowOf a p) (colOf b q) := by
  have e := Pipeline.eq_sum_fin_of_reset_step_of_flush (left m c a b p q) 8 0 (fun t => part m c t (rowOf a p) (colOf b q))
    (left_first m c a b p q) (left_next m c a b p q) t h
  rw [zero_add] at e
  rw [← e]
  unfold left
  rw [if_pos h]

theorem idx0 : ∀ t : Fin grid0.N, win0_0.index t = ![t.val % 8, 0] := by decide +kernel
theorem idx1 : ∀ t : Fin grid0.N, win0_1.index t = ![t.val % 8, 0] := by decide +kernel

theorem xblk_at (t : Fin cfg0.N) (k : Fin 1024) (r : Fin 1024) :
    xblk m c t (ix2 k r) = m ((c : Thread nD τ).loc main_arg0) (ix2 ⟨t.val % 8 * 1024 + k.val, by omega⟩ r) := by
  unfold xblk
  blk_ext! [iblk, V, idx0 t]

theorem gblk_at (t : Fin cfg0.N) (k : Fin 1024) (q : Fin 2048) :
    gblk m c t (ix2 k q) = m ((c : Thread nD τ).loc main_arg1)
      (ix2 ⟨t.val % 8 * 1024 + k.val, by omega⟩ q) := by
  unfold gblk
  blk_ext! [iblk, V, idx1 t]

theorem value (i : S2x4x512x512.Idx) :
    Value.G2 m c i = Cert.AttnOutWReferenceIdeal.Read.val_main_v10 (F := Ideal) (m ((c : Thread nD τ).loc main_arg0)) (m ((c : Thread nD τ).loc main_arg1)) i := by
  obtain ⟨a, b, p, q, rfl⟩ : ∃ (a : Fin 2) (b : Fin 4) (p : Fin 512) (q : Fin 512), i = ix4 a b p q := ⟨_, _, _, _, eq_ix4 i⟩
  have hN : cfg0.N = 8 := N_0
  have hp : Value.pt2Of (ix4 a b p q) = 7 := by
    show 8 * (1 * (a.val / 2 - 0) + 1 * (b.val / 4 - 0) + 1 * (p.val / 512 - 0) + 1 * (q.val / 512 - 0)) + 7 = _
    omega
  have hl : Value.loc2Of (ix4 a b p q) = ix4 a b p q := by
    funext d; apply Fin.ext
    fin_cases d
    · exact Nat.mod_eq_of_lt a.isLt
    · exact Nat.mod_eq_of_lt b.isLt
    · exact Nat.mod_eq_of_lt p.isLt
    · exact Nat.mod_eq_of_lt q.isLt
  have hb : 7 < cfg0.N := by omega
  have e : Value.G2 m c (ix4 a b p q) = (outsAt0 m c 7 hb).1 (ix4 a b p q) := by
    unfold Value.G2
    simp only [hp, hl, hb, dite_true]
    rw [Value.outsAt0_sweep]
  rw [e, written m c a b p q ⟨7, hb⟩ (by show 7 % 8 = 7; omega)]
  unfold part dot
  simp only [xblk_at, gblk_at]
  pointwise [Cert.AttnOutWReferenceIdeal.Read.val_main_v10, Cert.AttnOutWReferenceIdeal.Read.val_main_v9, Cert.AttnOutWReferenceIdeal.Read.val_main_v8,
    Cert.AttnOutWReferenceIdeal.Read.val_main_v7, Cert.AttnOutWReferenceIdeal.Read.val_main_v6]
  refine Fin.sum_mul_add_congr fun s k hl => ?_
  have e1 : s.val % 8 = s.val := by omega
  pointwise [Cert.AttnOutWReferenceIdeal.Read.val_main_v5, Cert.AttnOutWReferenceIdeal.Read.val_main_v3]
  rw [mul_comm]
  simp only [e1]
  rfl

end Cert.AttnOutWKernelIdeal.Sum

end
-- ==== Proof.SguOut.lean ====
/- The spatial-gating mixer's output product added to the residual, and its normalised rows: each block of both results, and both results are the
   reference's. -/
module

public import proofs.«01_k».proof.Proof.Gen.SguOutKernelIdeal.Value
public import proofs.«01_k».proof.Proof.Gen.SguOutReferenceIdeal.Read
public import Idealize.ShloMosaic.Lib.Pipeline.ValueKit.Point
public import Idealize.ShloMosaic.Lib.Pointwise

@[expose] public section

set_option maxRecDepth 16384

noncomputable section

namespace Cert.SguOutKernelIdeal.Block

open Cert.SguOutKernelIdeal Cert.SguOutKernelIdeal.Gen Idealize.ShloMosaic Idealize.ShloMosaic.TcCoe

variable (m : (ℓ : Loc nD τ sig) → Buf (Elt Ideal) ℓ) (c : Dev nD)

/-- Column `q` of a row's product with the weight, added to the residual's. -/
def res (h : Fin 2048 → EReal) (x : Fin 2048 → EReal) (w : Vec Ideal S4x512x2048 .bf16) (q : Fin 2048) : EReal :=
  x q + ∑ k : Fin 2048, h k * w (ix3 ⟨k.val / 512, by omega⟩ ⟨k.val % 512, by omega⟩ q)

/-- Column `q` of a row divided by its root mean square, times the gain. -/
def norm (y g : Fin 2048 → EReal) (q : Fin 2048) : EReal :=
  y q * Ideal.rsqrt (Ideal.div (∑ k, y k * y k) (Ideal.ofBits .f32 0x45000000#32) + Ideal.ofBits .f32 0x358637BD#32) * g q

/-- What the stores leave in the first result's block, -/
theorem stored (c : Dev nD) (i : grid0.Coords) (arg3 : Memref sig .tc .vmem S512x2048 .bf16) (harg3 : arg3.IsWhole) (arg4 : Memref sig .tc .vmem S4x512x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x2048 .bf16) (x1 : Vec Ideal S4x512x2048 .bf16) (x2 : Vec Ideal S512x2048 .f32) (x3 : Vec Ideal S1x2048 .f32) (r : Fin 512) (q : Fin 2048) :
    View.canon (kernelRun0_A.sl.H4_1 c arg3 harg3 arg4 harg4 arg5 harg5 x0 x1 x2) (ix2 r q) = res (fun k => x0 (ix2 r k)) (fun q => x2 (ix2 r q)) x1 q := by
  have hc := cover0_A_4 c i arg3 harg3 arg4 harg4 arg5 harg5 arg6 harg6 arg7 harg7 arg8 harg8 x0 x1 x2 x3 (ix2 r q)
  unfold kernelRun0_A at hc
  dsimp only at hc
  unfold kernelRun0_A.sl.H4_1 at hc ⊢
  unfold res
  canon_tiles x h using hc
  open_payloads
  simp only [View.readAt_eq_ld, Memref.IsWhole.read_unread]
  have hr : r = x 0 := Fin.ext h0
  have hq : q = x 1 := Fin.ext h1
  subst hr hq
  pointwise

theorem res_at (c : Dev nD) (i : grid0.Coords) (arg3 : Memref sig .tc .vmem S512x2048 .bf16) (harg3 : arg3.IsWhole) (arg4 : Memref sig .tc .vmem S4x512x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x2048 .bf16) (x1 : Vec Ideal S4x512x2048 .bf16) (x2 : Vec Ideal S512x2048 .f32) (x3 : Vec Ideal S1x2048 .f32) (r : Fin 512) (q : Fin 2048) :
    out0_A_4 c i arg3 harg3 arg4 harg4 arg5 harg5 arg6 harg6 arg7 harg7 arg8 harg8 x0 x1 x2 x3 (ix2 r q) = res (fun k => x0 (ix2 r k)) (fun q => x2 (ix2 r q)) x1 q := by
  unfold out0_A_4
  rw [View.read_writes_eq_canon _ _ _ (cover0_A_4 c i arg3 harg3 arg4 harg4 arg5 harg5 arg6 harg6 arg7 harg7 arg8 harg8 x0 x1 x2 x3)]
  exact stored c i arg3 harg3 arg4 harg4 arg5 harg5 arg6 harg6 arg7 harg7 arg8 harg8 x0 x1 x2 x3 r q

/-- and what the second store reads of it. -/
theorem back (c : Dev nD) (i : grid0.Coords) (arg3 : Memref sig .tc .vmem S512x2048 .bf16) (harg3 : arg3.IsWhole) (arg4 : Memref sig .tc .vmem S4x512x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x2048 .bf16) (x1 : Vec Ideal S4x512x2048 .bf16) (x2 : Vec Ideal S512x2048 .f32) (x3 : Vec Ideal S1x2048 .f32) :
    kernelRun0_A.sl.v7 c arg3 harg3 arg4 harg4 arg5 harg5 arg7 x0 x1 x2 = fun y => res (fun k => x0 (ix2 (y 0) k)) (fun q => x2 (ix2 (y 0) q)) x1 (y 1) := by
  unfold kernelRun0_A.sl.v7
  rw [View.readCov_eq_canon']
  funext y
  refine Eq.trans (congrArg _ ?_) (stored c i arg3 harg3 arg4 harg4 arg5 harg5 arg6 harg6 arg7 harg7 arg8 harg8 x0 x1 x2 x3 (y 0) (y 1))
  funext a; apply Fin.ext
  fin_cases a
  · show 0 + 1 * (y 0).val = (y 0).val
    omega
  · show 0 + 1 * (y 1).val = (y 1).val
    omega

theorem nrm_at (c : Dev nD) (i : grid0.Coords) (arg3 : Memref sig .tc .vmem S512x2048 .bf16) (harg3 : arg3.IsWhole) (arg4 : Memref sig .tc .vmem S4x512x2048 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x2048 .bf16) (x1 : Vec Ideal S4x512x2048 .bf16) (x2 : Vec Ideal S512x2048 .f32) (x3 : Vec Ideal S1x2048 .f32) (r : Fin 512) (q : Fin 2048) :
    out0_A_5 c i arg3 harg3 arg4 harg4 arg5 harg5 arg6 harg6 arg7 harg7 arg8 harg8 x0 x1 x2 x3 (ix2 r q)
      = norm (res (fun k => x0 (ix2 r k)) (fun q => x2 (ix2 r q)) x1) (fun q => x3 (ix2 0 q)) q := by
  unfold out0_A_5
  rw [View.read_writes_eq_canon _ _ _ (cover0_A_5 c i arg3 harg3 arg4 harg4 arg5 harg5 arg6 harg6 arg7 harg7 arg8 harg8 x0 x1 x2 x3)]
  have hc := cover0_A_5 c i arg3 harg3 arg4 harg4 arg5 harg5 arg6 harg6 arg7 harg7 arg8 harg8 x0 x1 x2 x3 (ix2 r q)
  unfold kernelRun0_A at hc ⊢
  dsimp only at hc ⊢
  canon_tiles x h using hc
  open_payloads
  rw [back c i arg3 harg3 arg4 harg4 arg5 harg5 arg6 harg6 arg7 harg7 arg8 harg8 x0 x1 x2 x3]
  simp only [View.readAt_eq_ld, Memref.IsWhole.read_unread]
  have hr : r = x 0 := Fin.ext h0
  have hq : q = x 1 := Fin.ext h1
  subst hr hq
  pointwise [norm]

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel

/-- Row `r` of the blocks of point `t`. -/
def row (t : Fin cfg0.N) (r : Fin 512) : Fin 8192 := ⟨t.val * 512 + r.val, by have := t.isLt; have : cfg0.N = 16 := N_0; omega⟩

/-- The blocks a point reads: the rows, -/
def hblk (t : Fin cfg0.N) : Vec Ideal S512x2048 .bf16 := iblk m c 0 t

/-- the whole weight, -/
def wblk (t : Fin cfg0.N) : Vec Ideal S4x512x2048 .bf16 := iblk m c 1 t

/-- the residual's rows -/
def xblk (t : Fin cfg0.N) : Vec Ideal S512x2048 .f32 := iblk m c 2 t

/-- and the gain. -/
def gblk (t : Fin cfg0.N) : Vec Ideal S1x2048 .f32 := iblk m c 3 t

theorem hblk_at (t : Fin cfg0.N) (r : Fin 512) (k : Fin 2048) :
    hblk m c t (ix2 r k) = m ((c : Thread nD τ).loc main_arg0) (ix2 (row t r) k) := by
  unfold hblk row
  blk_ext! [iblk, V, idx0 t]

theorem wblk_eq (t : Fin cfg0.N) : wblk m c t = m ((c : Thread nD τ).loc main_arg3) := by
  funext i
  obtain ⟨a, b, d, rfl⟩ : ∃ a b d, i = ix3 a b d := ⟨_, _, _, eq_ix3 i⟩
  unfold wblk
  blk_ext! [iblk, V, idx1 t]

theorem xblk_at (t : Fin cfg0.N) (r : Fin 512) (q : Fin 2048) :
    xblk m c t (ix2 r q) = m ((c : Thread nD τ).loc main_arg1) (ix2 (row t r) q) := by
  unfold xblk row
  blk_ext! [iblk, V, idx2 t]

theorem gblk_at (t : Fin cfg0.N) (q : Fin 2048) :
    gblk m c t (ix2 0 q) = m ((c : Thread nD τ).loc main_arg2) (ix2 0 q) := by
  unfold gblk
  blk_ext! [iblk, V, idx3 t]

/-- Row `p` of the first result. -/
def sum (x0 : Vec Ideal S8192x2048 .bf16) (x1 : Vec Ideal S8192x2048 .f32) (w : Vec Ideal S4x512x2048 .bf16) (p : Fin 8192) : Fin 2048 → EReal :=
  res (fun k => x0 (ix2 p k)) (fun q => x1 (ix2 p q)) w

/-- The gain's row. -/
def gain (x2 : Vec Ideal S1x2048 .f32) : Fin 2048 → EReal := fun q => x2 (ix2 0 q)

theorem arr_res (t : Fin cfg0.N) (r : Fin 512) (q : Fin 2048) :
    (dats m 0 c).arrAt 4 cfg0.N (ix2 (row t r) q : S8192x2048.Idx)
      = sum (m ((c : Thread nD τ).loc main_arg0)) (m ((c : Thread nD τ).loc main_arg1)) (m ((c : Thread nD τ).loc main_arg3)) (row t r) q := by
  have he : (((cfg0.win 4).blk t).view.emb (ix2 r q : S512x2048.Idx) : S8192x2048.Idx) = ix2 (row t r) q := by
    funext a; apply Fin.ext
    refine (Pipeline.Window.rect_emb_val win0_4 t (ix2 r q) a rfl).trans ?_
    rw [idx4 t]
    fin_cases a
    · rfl
    · show 0 * 2048 + q.val = q.val
      omega
  have hf := (dats m 0 c).arrAt_emb_eq_flushed 4 Value.disjoint4 t (flush0_4 t) (ix2 r q : S512x2048.Idx)
  rw [he] at hf
  refine hf.trans ?_
  have ho := res_at c (grid0.coords t) (ms0_0 t) (hs0_0 t) (ms0_1 t) (hs0_1 t) (ms0_2 t) (hs0_2 t) (ms0_3 t) (hs0_3 t) (ms0_4 t) (hs0_4 t)
    (ms0_5 t) (hs0_5 t) (hblk m c t) (wblk m c t) (xblk m c t) (gblk m c t) r q
  simp only [hblk_at, xblk_at, gblk_at] at ho
  rw [wblk_eq] at ho
  unfold sum
  rw [Value.flushed4_A]
  have hw : (iblk m c 1 t : Vec Ideal S4x512x2048 .bf16) = m ((c : Thread nD τ).loc main_arg3) := wblk_eq m c t
  unfold hblk xblk gblk at ho
  rw [← hw] at ho ⊢
  generalize out0_A_4 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) = w at ho ⊢
  exact ho

theorem arr_nrm (t : Fin cfg0.N) (r : Fin 512) (q : Fin 2048) :
    (dats m 0 c).arrAt 5 cfg0.N (ix2 (row t r) q : S8192x2048.Idx)
      = norm (sum (m ((c : Thread nD τ).loc main_arg0)) (m ((c : Thread nD τ).loc main_arg1)) (m ((c : Thread nD τ).loc main_arg3)) (row t r))
        (gain (m ((c : Thread nD τ).loc main_arg2))) q := by
  have he : (((cfg0.win 5).blk t).view.emb (ix2 r q : S512x2048.Idx) : S8192x2048.Idx) = ix2 (row t r) q := by
    funext a; apply Fin.ext
    refine (Pipeline.Window.rect_emb_val win0_5 t (ix2 r q) a rfl).trans ?_
    rw [idx5 t]
    fin_cases a
    · rfl
    · show 0 * 2048 + q.val = q.val
      omega
  have hf := (dats m 0 c).arrAt_emb_eq_flushed 5 Value.disjoint5 t (flush0_5 t) (ix2 r q : S512x2048.Idx)
  rw [he] at hf
  refine hf.trans ?_
  have ho := nrm_at c (grid0.coords t) (ms0_0 t) (hs0_0 t) (ms0_1 t) (hs0_1 t) (ms0_2 t) (hs0_2 t) (ms0_3 t) (hs0_3 t) (ms0_4 t) (hs0_4 t)
    (ms0_5 t) (hs0_5 t) (hblk m c t) (wblk m c t) (xblk m c t) (gblk m c t) r q
  simp only [hblk_at, xblk_at, gblk_at] at ho
  rw [wblk_eq] at ho
  unfold sum gain
  rw [Value.flushed5_A]
  have hw : (iblk m c 1 t : Vec Ideal S4x512x2048 .bf16) = m ((c : Thread nD τ).loc main_arg3) := wblk_eq m c t
  unfold hblk xblk gblk at ho
  rw [← hw] at ho ⊢
  generalize out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) = w at ho ⊢
  exact ho

theorem ref_res (x0 : Vec Ideal S8192x2048 .bf16) (x1 : Vec Ideal S8192x2048 .f32) (w : Vec Ideal S4x512x2048 .bf16) (p : Fin 8192) (q : Fin 2048) :
    Cert.SguOutReferenceIdeal.Read.val_main_v4 (F := Ideal) x0 x1 w (ix2 p q) = sum x0 x1 w p q := by
  unfold sum res
  pointwise [Cert.SguOutReferenceIdeal.Read.val_main_v4, Cert.SguOutReferenceIdeal.Read.val_main_v3, Cert.SguOutReferenceIdeal.Read.val_main_v2, Cert.SguOutReferenceIdeal.Read.val_main_v1, Cert.SguOutReferenceIdeal.Read.val_main_v0]

theorem ref_nrm (x0 : Vec Ideal S8192x2048 .bf16) (x1 : Vec Ideal S8192x2048 .f32) (x2 : Vec Ideal S1x2048 .f32) (w : Vec Ideal S4x512x2048 .bf16) (p : Fin 8192) (q : Fin 2048) :
    Cert.SguOutReferenceIdeal.Read.val_main_v17 (F := Ideal) x0 x1 x2 w (ix2 p q) = norm (sum x0 x1 w p) (gain x2) q := by
  unfold norm gain
  simp only [← ref_res]
  pointwise [Cert.SguOutReferenceIdeal.Read.val_main_v17, Cert.SguOutReferenceIdeal.Read.val_main_v16, Cert.SguOutReferenceIdeal.Read.val_main_v15, Cert.SguOutReferenceIdeal.Read.val_main_v14, Cert.SguOutReferenceIdeal.Read.val_main_v13, Cert.SguOutReferenceIdeal.Read.val_main_v12, Cert.SguOutReferenceIdeal.Read.val_main_v11, Cert.SguOutReferenceIdeal.Read.val_main_v10, Cert.SguOutReferenceIdeal.Read.val_main_v9, Cert.SguOutReferenceIdeal.Read.val_main_v8, Cert.SguOutReferenceIdeal.Read.val_main_v7, Cert.SguOutReferenceIdeal.Read.val_main_v6, Cert.SguOutReferenceIdeal.Read.val_main_v5, Cert.SguOutReferenceIdeal.Read.val_main_cst, Cert.SguOutReferenceIdeal.Read.val_main_cst_0, Cert.SguOutReferenceIdeal.Read.val_main_cst_1]

/-- The point whose blocks hold an index, and its place in them. -/
theorem point (i : S8192x2048.Idx) : ∃ (t : Fin cfg0.N) (r : Fin 512) (q : Fin 2048), i = ix2 (row t r) q := by
  have l0 : (i 0 : Nat) < 8192 := (i 0).isLt
  have l1 : (i 1 : Nat) < 2048 := (i 1).isLt
  have hN : cfg0.N = 16 := N_0
  refine ⟨⟨(i 0 : Nat) / 512, by omega⟩, ⟨(i 0 : Nat) % 512, by omega⟩, ⟨(i 1 : Nat), by omega⟩, ?_⟩
  funext a; apply Fin.ext
  fin_cases a
  · show (i 0 : Nat) = (i 0 : Nat) / 512 * 512 + (i 0 : Nat) % 512
    omega
  · rfl

theorem value_res (i : S8192x2048.Idx) :
    Cert.SguOutReferenceIdeal.Read.val_main_v4 (F := Ideal) (m ((c : Thread nD τ).loc main_arg0)) (m ((c : Thread nD τ).loc main_arg1)) (m ((c : Thread nD τ).loc main_arg3)) i
      = (dats m 0 c).arrAt 4 cfg0.N i := by
  obtain ⟨t, r, q, rfl⟩ := point i
  rw [arr_res]
  exact ref_res _ _ _ _ _

theorem value_nrm (i : S8192x2048.Idx) :
    Cert.SguOutReferenceIdeal.Read.val_main_v17 (F := Ideal) (m ((c : Thread nD τ).loc main_arg0)) (m ((c : Thread nD τ).loc main_arg1)) (m ((c : Thread nD τ).loc main_arg2)) (m ((c : Thread nD τ).loc main_arg3)) i
      = (dats m 0 c).arrAt 5 cfg0.N i := by
  obtain ⟨t, r, q, rfl⟩ := point i
  rw [arr_nrm]
  exact ref_nrm _ _ _ _ _ _

end Cert.SguOutKernelIdeal.Block

end
-- ==== Proof.AttnOut.lean ====
/- The attention's output product added to the residual, and its normalised rows: each block of both results, and both results are the
   reference's. -/
module

public import proofs.«01_k».proof.Proof.Gen.AttnOutKernelIdeal.Value
public import proofs.«01_k».proof.Proof.Gen.AttnOutReferenceIdeal.Read
public import Idealize.ShloMosaic.Lib.Pipeline.ValueKit.Point
public import Idealize.ShloMosaic.Lib.Pointwise

@[expose] public section

set_option maxRecDepth 16384

noncomputable section

namespace Cert.AttnOutKernelIdeal.Block

open Cert.AttnOutKernelIdeal Cert.AttnOutKernelIdeal.Gen Idealize.ShloMosaic Idealize.ShloMosaic.TcCoe

variable (m : (ℓ : Loc nD τ sig) → Buf (Elt Ideal) ℓ) (c : Dev nD)

/-- Column `q` of a row's product with the weight, added to the residual's. -/
def res (h : Fin 1024 → EReal) (x : Fin 2048 → EReal) (w : Vec Ideal S4x1024x512 .bf16) (q : Fin 2048) : EReal :=
  x q + ∑ k : Fin 1024, h k * w (ix3 ⟨q.val / 512, by omega⟩ k ⟨q.val % 512, by omega⟩)

/-- Column `q` of a row divided by its root mean square, times the gain. -/
def norm (y g : Fin 2048 → EReal) (q : Fin 2048) : EReal :=
  y q * Ideal.rsqrt (Ideal.div (∑ k, y k * y k) (Ideal.ofBits .f32 0x45000000#32) + Ideal.ofBits .f32 0x358637BD#32) * g q

/-- What the stores leave in the first result's block, -/
theorem stored (c : Dev nD) (i : grid0.Coords) (arg3 : Memref sig .tc .vmem S512x1024 .bf16) (harg3 : arg3.IsWhole) (arg4 : Memref sig .tc .vmem S4x1024x512 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x1024 .bf16) (x1 : Vec Ideal S4x1024x512 .bf16) (x2 : Vec Ideal S512x2048 .f32) (x3 : Vec Ideal S1x2048 .f32) (r : Fin 512) (q : Fin 2048) :
    View.canon (kernelRun0_A.sl.H4_4 c arg3 harg3 arg4 harg4 arg5 harg5 x0 x1 x2) (ix2 r q) = res (fun k => x0 (ix2 r k)) (fun q => x2 (ix2 r q)) x1 q := by
  have hc := cover0_A_4 c i arg3 harg3 arg4 harg4 arg5 harg5 arg6 harg6 arg7 harg7 arg8 harg8 x0 x1 x2 x3 (ix2 r q)
  unfold kernelRun0_A at hc
  dsimp only at hc
  unfold kernelRun0_A.sl.H4_4 at hc ⊢
  unfold res
  canon_tiles x h using hc
  · open_payloads
    simp only [View.readAt_eq_ld, Memref.IsWhole.read_unread]
    have l : (x 1 : Nat) < 512 := (x 1).isLt
    have e1 : q.val = 1536 + (x 1).val := h1
    have hr : r = x 0 := Fin.ext h0
    have hs : (⟨q.val / 512, by omega⟩ : Fin 4) = 3 := Fin.ext (by show q.val / 512 = 3; omega)
    have ht : (⟨q.val % 512, by omega⟩ : Fin 512) = x 1 := Fin.ext (by show q.val % 512 = (x 1).val; omega)
    have hq : q = ⟨1536 + (x 1).val, by omega⟩ := Fin.ext e1
    rw [hs, ht, hq, hr]
    unfold kernelRun0_A.sl.r k0_pay6
    dsimp only
    simp only [View.readAt_eq_ld, Memref.IsWhole.read_unread]
    pointwise
  · open_payloads
    simp only [View.readAt_eq_ld, Memref.IsWhole.read_unread]
    have l : (x 1 : Nat) < 512 := (x 1).isLt
    have e1 : q.val = 1024 + (x 1).val := h1
    have hr : r = x 0 := Fin.ext h0
    have hs : (⟨q.val / 512, by omega⟩ : Fin 4) = 2 := Fin.ext (by show q.val / 512 = 2; omega)
    have ht : (⟨q.val % 512, by omega⟩ : Fin 512) = x 1 := Fin.ext (by show q.val % 512 = (x 1).val; omega)
    have hq : q = ⟨1024 + (x 1).val, by omega⟩ := Fin.ext e1
    rw [hs, ht, hq, hr]
    pointwise
  · open_payloads
    simp only [View.readAt_eq_ld, Memref.IsWhole.read_unread]
    have l : (x 1 : Nat) < 512 := (x 1).isLt
    have e1 : q.val = 512 + (x 1).val := h1
    have hr : r = x 0 := Fin.ext h0
    have hs : (⟨q.val / 512, by omega⟩ : Fin 4) = 1 := Fin.ext (by show q.val / 512 = 1; omega)
    have ht : (⟨q.val % 512, by omega⟩ : Fin 512) = x 1 := Fin.ext (by show q.val % 512 = (x 1).val; omega)
    have hq : q = ⟨512 + (x 1).val, by omega⟩ := Fin.ext e1
    rw [hs, ht, hq, hr]
    pointwise
  · open_payloads
    simp only [View.readAt_eq_ld, Memref.IsWhole.read_unread]
    have l : (x 1 : Nat) < 512 := (x 1).isLt
    have e1 : q.val = (x 1).val := h1
    have hr : r = x 0 := Fin.ext h0
    have hs : (⟨q.val / 512, by omega⟩ : Fin 4) = 0 := Fin.ext (by show q.val / 512 = 0; omega)
    have ht : (⟨q.val % 512, by omega⟩ : Fin 512) = x 1 := Fin.ext (by show q.val % 512 = (x 1).val; omega)
    have hq : q = ⟨(x 1).val, by omega⟩ := Fin.ext e1
    rw [hs, ht, hq, hr]
    pointwise

theorem res_at (c : Dev nD) (i : grid0.Coords) (arg3 : Memref sig .tc .vmem S512x1024 .bf16) (harg3 : arg3.IsWhole) (arg4 : Memref sig .tc .vmem S4x1024x512 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x1024 .bf16) (x1 : Vec Ideal S4x1024x512 .bf16) (x2 : Vec Ideal S512x2048 .f32) (x3 : Vec Ideal S1x2048 .f32) (r : Fin 512) (q : Fin 2048) :
    out0_A_4 c i arg3 harg3 arg4 harg4 arg5 harg5 arg6 harg6 arg7 harg7 arg8 harg8 x0 x1 x2 x3 (ix2 r q) = res (fun k => x0 (ix2 r k)) (fun q => x2 (ix2 r q)) x1 q := by
  unfold out0_A_4
  rw [View.read_writes_eq_canon _ _ _ (cover0_A_4 c i arg3 harg3 arg4 harg4 arg5 harg5 arg6 harg6 arg7 harg7 arg8 harg8 x0 x1 x2 x3)]
  exact stored c i arg3 harg3 arg4 harg4 arg5 harg5 arg6 harg6 arg7 harg7 arg8 harg8 x0 x1 x2 x3 r q

/-- and what the second store reads of it. -/
theorem back (c : Dev nD) (i : grid0.Coords) (arg3 : Memref sig .tc .vmem S512x1024 .bf16) (harg3 : arg3.IsWhole) (arg4 : Memref sig .tc .vmem S4x1024x512 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x1024 .bf16) (x1 : Vec Ideal S4x1024x512 .bf16) (x2 : Vec Ideal S512x2048 .f32) (x3 : Vec Ideal S1x2048 .f32) :
    kernelRun0_A.sl.v25 c arg3 harg3 arg4 harg4 arg5 harg5 arg7 x0 x1 x2 = fun y => res (fun k => x0 (ix2 (y 0) k)) (fun q => x2 (ix2 (y 0) q)) x1 (y 1) := by
  unfold kernelRun0_A.sl.v25
  rw [View.readCov_eq_canon']
  funext y
  refine Eq.trans (congrArg _ ?_) (stored c i arg3 harg3 arg4 harg4 arg5 harg5 arg6 harg6 arg7 harg7 arg8 harg8 x0 x1 x2 x3 (y 0) (y 1))
  funext a; apply Fin.ext
  fin_cases a
  · show 0 + 1 * (y 0).val = (y 0).val
    omega
  · show 0 + 1 * (y 1).val = (y 1).val
    omega

theorem nrm_at (c : Dev nD) (i : grid0.Coords) (arg3 : Memref sig .tc .vmem S512x1024 .bf16) (harg3 : arg3.IsWhole) (arg4 : Memref sig .tc .vmem S4x1024x512 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole)
    (x0 : Vec Ideal S512x1024 .bf16) (x1 : Vec Ideal S4x1024x512 .bf16) (x2 : Vec Ideal S512x2048 .f32) (x3 : Vec Ideal S1x2048 .f32) (r : Fin 512) (q : Fin 2048) :
    out0_A_5 c i arg3 harg3 arg4 harg4 arg5 harg5 arg6 harg6 arg7 harg7 arg8 harg8 x0 x1 x2 x3 (ix2 r q)
      = norm (res (fun k => x0 (ix2 r k)) (fun q => x2 (ix2 r q)) x1) (fun q => x3 (ix2 0 q)) q := by
  unfold out0_A_5
  rw [View.read_writes_eq_canon _ _ _ (cover0_A_5 c i arg3 harg3 arg4 harg4 arg5 harg5 arg6 harg6 arg7 harg7 arg8 harg8 x0 x1 x2 x3)]
  have hc := cover0_A_5 c i arg3 harg3 arg4 harg4 arg5 harg5 arg6 harg6 arg7 harg7 arg8 harg8 x0 x1 x2 x3 (ix2 r q)
  unfold kernelRun0_A at hc ⊢
  dsimp only at hc ⊢
  canon_tiles x h using hc
  open_payloads
  rw [back c i arg3 harg3 arg4 harg4 arg5 harg5 arg6 harg6 arg7 harg7 arg8 harg8 x0 x1 x2 x3]
  simp only [View.readAt_eq_ld, Memref.IsWhole.read_unread]
  have hr : r = x 0 := Fin.ext h0
  have hq : q = x 1 := Fin.ext h1
  subst hr hq
  pointwise [norm]

theorem idx0 : ∀ t : Fin grid0.N, win0_0.index t = ![t.val, 0] := by decide +kernel
theorem idx1 : ∀ t : Fin grid0.N, win0_1.index t = ![0, 0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel

/-- Row `r` of the blocks of point `t`. -/
def row (t : Fin cfg0.N) (r : Fin 512) : Fin 8192 := ⟨t.val * 512 + r.val, by have := t.isLt; have : cfg0.N = 16 := N_0; omega⟩

/-- The blocks a point reads: the rows, -/
def hblk (t : Fin cfg0.N) : Vec Ideal S512x1024 .bf16 := iblk m c 0 t

/-- the whole weight, -/
def wblk (t : Fin cfg0.N) : Vec Ideal S4x1024x512 .bf16 := iblk m c 1 t

/-- the residual's rows -/
def xblk (t : Fin cfg0.N) : Vec Ideal S512x2048 .f32 := iblk m c 2 t

/-- and the gain. -/
def gblk (t : Fin cfg0.N) : Vec Ideal S1x2048 .f32 := iblk m c 3 t

theorem hblk_at (t : Fin cfg0.N) (r : Fin 512) (k : Fin 1024) :
    hblk m c t (ix2 r k) = m ((c : Thread nD τ).loc main_arg0) (ix2 (row t r) k) := by
  unfold hblk row
  blk_ext! [iblk, V, idx0 t]

theorem wblk_eq (t : Fin cfg0.N) : wblk m c t = m ((c : Thread nD τ).loc main_arg3) := by
  funext i
  obtain ⟨a, b, d, rfl⟩ : ∃ a b d, i = ix3 a b d := ⟨_, _, _, eq_ix3 i⟩
  unfold wblk
  blk_ext! [iblk, V, idx1 t]

theorem xblk_at (t : Fin cfg0.N) (r : Fin 512) (q : Fin 2048) :
    xblk m c t (ix2 r q) = m ((c : Thread nD τ).loc main_arg1) (ix2 (row t r) q) := by
  unfold xblk row
  blk_ext! [iblk, V, idx2 t]

theorem gblk_at (t : Fin cfg0.N) (q : Fin 2048) :
    gblk m c t (ix2 0 q) = m ((c : Thread nD τ).loc main_arg2) (ix2 0 q) := by
  unfold gblk
  blk_ext! [iblk, V, idx3 t]

/-- Row `p` of the first result. -/
def sum (x0 : Vec Ideal S8192x1024 .bf16) (x1 : Vec Ideal S8192x2048 .f32) (w : Vec Ideal S4x1024x512 .bf16) (p : Fin 8192) : Fin 2048 → EReal :=
  res (fun k => x0 (ix2 p k)) (fun q => x1 (ix2 p q)) w

/-- The gain's row. -/
def gain (x2 : Vec Ideal S1x2048 .f32) : Fin 2048 → EReal := fun q => x2 (ix2 0 q)

theorem arr_res (t : Fin cfg0.N) (r : Fin 512) (q : Fin 2048) :
    (dats m 0 c).arrAt 4 cfg0.N (ix2 (row t r) q : S8192x2048.Idx)
      = sum (m ((c : Thread nD τ).loc main_arg0)) (m ((c : Thread nD τ).loc main_arg1)) (m ((c : Thread nD τ).loc main_arg3)) (row t r) q := by
  have he : (((cfg0.win 4).blk t).view.emb (ix2 r q : S512x2048.Idx) : S8192x2048.Idx) = ix2 (row t r) q := by
    funext a; apply Fin.ext
    refine (Pipeline.Window.rect_emb_val win0_4 t (ix2 r q) a rfl).trans ?_
    rw [idx4 t]
    fin_cases a
    · rfl
    · show 0 * 2048 + q.val = q.val
      omega
  have hf := (dats m 0 c).arrAt_emb_eq_flushed 4 Value.disjoint4 t (flush0_4 t) (ix2 r q : S512x2048.Idx)
  rw [he] at hf
  refine hf.trans ?_
  have ho := res_at c (grid0.coords t) (ms0_0 t) (hs0_0 t) (ms0_1 t) (hs0_1 t) (ms0_2 t) (hs0_2 t) (ms0_3 t) (hs0_3 t) (ms0_4 t) (hs0_4 t)
    (ms0_5 t) (hs0_5 t) (hblk m c t) (wblk m c t) (xblk m c t) (gblk m c t) r q
  simp only [hblk_at, xblk_at, gblk_at] at ho
  rw [wblk_eq] at ho
  unfold sum
  rw [Value.flushed4_A]
  have hw : (iblk m c 1 t : Vec Ideal S4x1024x512 .bf16) = m ((c : Thread nD τ).loc main_arg3) := wblk_eq m c t
  unfold hblk xblk gblk at ho
  rw [← hw] at ho ⊢
  generalize out0_A_4 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) = w at ho ⊢
  exact ho

theorem arr_nrm (t : Fin cfg0.N) (r : Fin 512) (q : Fin 2048) :
    (dats m 0 c).arrAt 5 cfg0.N (ix2 (row t r) q : S8192x2048.Idx)
      = norm (sum (m ((c : Thread nD τ).loc main_arg0)) (m ((c : Thread nD τ).loc main_arg1)) (m ((c : Thread nD τ).loc main_arg3)) (row t r))
        (gain (m ((c : Thread nD τ).loc main_arg2))) q := by
  have he : (((cfg0.win 5).blk t).view.emb (ix2 r q : S512x2048.Idx) : S8192x2048.Idx) = ix2 (row t r) q := by
    funext a; apply Fin.ext
    refine (Pipeline.Window.rect_emb_val win0_5 t (ix2 r q) a rfl).trans ?_
    rw [idx5 t]
    fin_cases a
    · rfl
    · show 0 * 2048 + q.val = q.val
      omega
  have hf := (dats m 0 c).arrAt_emb_eq_flushed 5 Value.disjoint5 t (flush0_5 t) (ix2 r q : S512x2048.Idx)
  rw [he] at hf
  refine hf.trans ?_
  have ho := nrm_at c (grid0.coords t) (ms0_0 t) (hs0_0 t) (ms0_1 t) (hs0_1 t) (ms0_2 t) (hs0_2 t) (ms0_3 t) (hs0_3 t) (ms0_4 t) (hs0_4 t)
    (ms0_5 t) (hs0_5 t) (hblk m c t) (wblk m c t) (xblk m c t) (gblk m c t) r q
  simp only [hblk_at, xblk_at, gblk_at] at ho
  rw [wblk_eq] at ho
  unfold sum gain
  rw [Value.flushed5_A]
  have hw : (iblk m c 1 t : Vec Ideal S4x1024x512 .bf16) = m ((c : Thread nD τ).loc main_arg3) := wblk_eq m c t
  unfold hblk xblk gblk at ho
  rw [← hw] at ho ⊢
  generalize out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) (iblk m c 1 t) (iblk m c 2 t) (iblk m c 3 t) = w at ho ⊢
  exact ho

theorem ref_res (x0 : Vec Ideal S8192x1024 .bf16) (x1 : Vec Ideal S8192x2048 .f32) (w : Vec Ideal S4x1024x512 .bf16) (p : Fin 8192) (q : Fin 2048) :
    Cert.AttnOutReferenceIdeal.Read.val_main_v5 (F := Ideal) x0 x1 w (ix2 p q) = sum x0 x1 w p q := by
  unfold sum res
  pointwise [Cert.AttnOutReferenceIdeal.Read.val_main_v5, Cert.AttnOutReferenceIdeal.Read.val_main_v4, Cert.AttnOutReferenceIdeal.Read.val_main_v3, Cert.AttnOutReferenceIdeal.Read.val_main_v2, Cert.AttnOutReferenceIdeal.Read.val_main_v1, Cert.AttnOutReferenceIdeal.Read.val_main_v0]

theorem ref_nrm (x0 : Vec Ideal S8192x1024 .bf16) (x1 : Vec Ideal S8192x2048 .f32) (x2 : Vec Ideal S1x2048 .f32) (w : Vec Ideal S4x1024x512 .bf16) (p : Fin 8192) (q : Fin 2048) :
    Cert.AttnOutReferenceIdeal.Read.val_main_v18 (F := Ideal) x0 x1 x2 w (ix2 p q) = norm (sum x0 x1 w p) (gain x2) q := by
  unfold norm gain
  simp only [← ref_res]
  pointwise [Cert.AttnOutReferenceIdeal.Read.val_main_v18, Cert.AttnOutReferenceIdeal.Read.val_main_v17, Cert.AttnOutReferenceIdeal.Read.val_main_v16, Cert.AttnOutReferenceIdeal.Read.val_main_v15, Cert.AttnOutReferenceIdeal.Read.val_main_v14, Cert.AttnOutReferenceIdeal.Read.val_main_v13, Cert.AttnOutReferenceIdeal.Read.val_main_v12, Cert.AttnOutReferenceIdeal.Read.val_main_v11, Cert.AttnOutReferenceIdeal.Read.val_main_v10, Cert.AttnOutReferenceIdeal.Read.val_main_v9, Cert.AttnOutReferenceIdeal.Read.val_main_v8, Cert.AttnOutReferenceIdeal.Read.val_main_v7, Cert.AttnOutReferenceIdeal.Read.val_main_v6, Cert.AttnOutReferenceIdeal.Read.val_main_cst, Cert.AttnOutReferenceIdeal.Read.val_main_cst_0, Cert.AttnOutReferenceIdeal.Read.val_main_cst_1]

/-- The point whose blocks hold an index, and its place in them. -/
theorem point (i : S8192x2048.Idx) : ∃ (t : Fin cfg0.N) (r : Fin 512) (q : Fin 2048), i = ix2 (row t r) q := by
  have l0 : (i 0 : Nat) < 8192 := (i 0).isLt
  have l1 : (i 1 : Nat) < 2048 := (i 1).isLt
  have hN : cfg0.N = 16 := N_0
  refine ⟨⟨(i 0 : Nat) / 512, by omega⟩, ⟨(i 0 : Nat) % 512, by omega⟩, ⟨(i 1 : Nat), by omega⟩, ?_⟩
  funext a; apply Fin.ext
  fin_cases a
  · show (i 0 : Nat) = (i 0 : Nat) / 512 * 512 + (i 0 : Nat) % 512
    omega
  · rfl

theorem value_res (i : S8192x2048.Idx) :
    Cert.AttnOutReferenceIdeal.Read.val_main_v5 (F := Ideal) (m ((c : Thread nD τ).loc main_arg0)) (m ((c : Thread nD τ).loc main_arg1)) (m ((c : Thread nD τ).loc main_arg3)) i
      = (dats m 0 c).arrAt 4 cfg0.N i := by
  obtain ⟨t, r, q, rfl⟩ := point i
  rw [arr_res]
  exact ref_res _ _ _ _ _

theorem value_nrm (i : S8192x2048.Idx) :
    Cert.AttnOutReferenceIdeal.Read.val_main_v18 (F := Ideal) (m ((c : Thread nD τ).loc main_arg0)) (m ((c : Thread nD τ).loc main_arg1)) (m ((c : Thread nD τ).loc main_arg2)) (m ((c : Thread nD τ).loc main_arg3)) i
      = (dats m 0 c).arrAt 5 cfg0.N i := by
  obtain ⟨t, r, q, rfl⟩ := point i
  rw [arr_nrm]
  exact ref_nrm _ _ _ _ _ _

end Cert.AttnOutKernelIdeal.Block

end
-- ==== Proof.SguFwd.lean ====
/- The spatial-gating unit: each block of its result, and the result is the reference's in the columns the call writes. -/
module

public import proofs.«01_k».proof.Proof.Gen.SguFwdKernelIdeal.Value
public import proofs.«01_k».proof.Proof.Gen.SguFwdReferenceIdeal.Read
public import proofs.«01_k».proof.Proof.Gen.On_mixer_columns
public import Idealize.ShloMosaic.Lib.Pipeline.ValueKit.Point
public import Idealize.ShloMosaic.Lib.Pointwise

@[expose] public section

set_option maxRecDepth 16384

noncomputable section

namespace Cert.SguFwdKernelIdeal.Block

open Cert.SguFwdKernelIdeal Cert.SguFwdKernelIdeal.Gen Idealize.ShloMosaic Idealize.ShloMosaic.TcCoe
open Cert.SguFwdReferenceIdeal.Read

/-- The comparison that keeps the part on and below the diagonal. -/
theorem keep (a b : EReal) (r k : Nat) (hr : r < 128) (hk : k < 128) :
    Scalar.select (IntOp.cmpi .sge (BitVec.ofNat 32 r) (BitVec.ofNat 32 k)) a b = if k ≤ r then a else b := by
  unfold Scalar.select IntOp.cmpi
  dsimp only
  have h : (BitVec.ofNat 32 k).sle (BitVec.ofNat 32 r) = decide (k ≤ r) := by
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    simp only [Nat.cast_le]
  rw [h]
  by_cases hk : k ≤ r
  · simp [hk]
  · simp [hk]

/-- The hyperbolic-tangent form of the Gaussian error linear unit. -/
def gelu (x : EReal) : EReal :=
  Ideal.ofBits .f32 0x3F000000#32 * x * (Ideal.ofBits .f32 0x3F800000#32 + Ideal.tanh (Ideal.ofBits .f32 0x3F4C422A#32 * (x + Ideal.ofBits .f32 0x3D372713#32 * x * x * x)))

/-- An entry of the rows mixed by the lower triangle of a matrix, shifted and gated. -/
def gated (u : EReal) (v w : Fin 128 → EReal) (b : EReal) (r : Fin 128) : EReal :=
  gelu u * ((∑ k : Fin 128, if k.val ≤ r.val then w k * v k else 0) + b)

/-- The mean of a row. -/
def mean (x : Fin 1536 → EReal) : EReal := Ideal.div (∑ k, x k) (Ideal.ofBits .f32 0x44C00000#32)

/-- Column `q` of a row made of mean zero and variance one, then scaled and shifted. -/
def norm (x g b : Fin 1536 → EReal) (q : Fin 1536) : EReal :=
  (x q - mean x) * Ideal.rsqrt (mean (fun k => (x k - mean x) * (x k - mean x)) + Ideal.ofBits .f32 0x3727C5AC#32) * g q + b q

theorem mixed_at  (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S12x128x128 .f32) (harg5 : arg5.IsWhole) (arg6 : Memref sig .tc .vmem S128x12 .f32) (harg6 : arg6.IsWhole) (arg7 : Memref sig .tc .vmem S128x1536 .bf16) (harg7 : arg7.IsWhole)
    (x0 : Vec Ideal S128x1536 .bf16) (x1 : Vec Ideal S128x1536 .bf16) (x2 : Vec Ideal S1x1536 .f32) (x3 : Vec Ideal S1x1536 .f32) (x4 : Vec Ideal S12x128x128 .f32) (x5 : Vec Ideal S128x12 .f32) (r : Fin 128) (q : Fin 1536) :
    out0_A_6 c i arg1 harg1 arg2 harg2 arg3 harg3 arg4 harg4 arg5 harg5 arg6 harg6 arg7 harg7 x0 x1 x2 x3 x4 x5 (ix2 r q)
      = gated (x0 (ix2 r q)) (fun k => kernelRun0_A.sl.r c arg2 harg2 arg3 harg3 arg4 harg4 x1 x2 x3 (ix2 k q)) (fun k => x4 (ix3 ⟨q.val / 128, by omega⟩ r k))
          (x5 (ix2 r ⟨q.val / 128, by omega⟩)) r := by
  unfold out0_A_6
  rw [View.read_writes_eq_canon _ _ _ (cover0_A_6 c i arg1 harg1 arg2 harg2 arg3 harg3 arg4 harg4 arg5 harg5 arg6 harg6 arg7 harg7 x0 x1 x2 x3 x4 x5)]
  have hc := cover0_A_6 c i arg1 harg1 arg2 harg2 arg3 harg3 arg4 harg4 arg5 harg5 arg6 harg6 arg7 harg7 x0 x1 x2 x3 x4 x5 (ix2 r q)
  unfold kernelRun0_A at hc ⊢
  dsimp only at hc ⊢
  canon_tiles x h using hc
  all_goals
    clear hc
    try simp only [kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1]
    generalize kernelRun0_A.sl.r c arg2 harg2 arg3 harg3 arg4 harg4 x1 x2 x3 = V
    open_payloads
    simp only [View.readAt_eq_ld, Memref.IsWhole.read_unread, kernelRun0_A.sl.cst_51, kernelRun0_A.sl.cst_122]
    have hr : r = x 0 := Fin.ext h0
    subst hr
    pointwise [gated, gelu]
    simp only [keep _ _ (x 0).val _ (x 0).isLt (Fin.isLt _)]
  case piece0 =>
    have hq : q = ⟨1408 + (x 1).val, by omega⟩ := Fin.ext h1
    have hg : (⟨q.val / 128, by omega⟩ : Fin 12) = 11 := Fin.ext (by have e : q.val = 1408 + (x 1).val := h1; show q.val / 128 = 11; omega)
    simp only [hg, ← hq]
  case piece1 =>
    have hq : q = ⟨1280 + (x 1).val, by omega⟩ := Fin.ext h1
    have hg : (⟨q.val / 128, by omega⟩ : Fin 12) = 10 := Fin.ext (by have e : q.val = 1280 + (x 1).val := h1; show q.val / 128 = 10; omega)
    simp only [hg, ← hq]
  case piece2 =>
    have hq : q = ⟨1152 + (x 1).val, by omega⟩ := Fin.ext h1
    have hg : (⟨q.val / 128, by omega⟩ : Fin 12) = 9 := Fin.ext (by have e : q.val = 1152 + (x 1).val := h1; show q.val / 128 = 9; omega)
    simp only [hg, ← hq]
  case piece3 =>
    have hq : q = ⟨1024 + (x 1).val, by omega⟩ := Fin.ext h1
    have hg : (⟨q.val / 128, by omega⟩ : Fin 12) = 8 := Fin.ext (by have e : q.val = 1024 + (x 1).val := h1; show q.val / 128 = 8; omega)
    simp only [hg, ← hq]
  case piece4 =>
    have hq : q = ⟨896 + (x 1).val, by omega⟩ := Fin.ext h1
    have hg : (⟨q.val / 128, by omega⟩ : Fin 12) = 7 := Fin.ext (by have e : q.val = 896 + (x 1).val := h1; show q.val / 128 = 7; omega)
    simp only [hg, ← hq]
  case piece5 =>
    have hq : q = ⟨768 + (x 1).val, by omega⟩ := Fin.ext h1
    have hg : (⟨q.val / 128, by omega⟩ : Fin 12) = 6 := Fin.ext (by have e : q.val = 768 + (x 1).val := h1; show q.val / 128 = 6; omega)
    simp only [hg, ← hq]
  case piece6 =>
    have hq : q = ⟨640 + (x 1).val, by omega⟩ := Fin.ext h1
    have hg : (⟨q.val / 128, by omega⟩ : Fin 12) = 5 := Fin.ext (by have e : q.val = 640 + (x 1).val := h1; show q.val / 128 = 5; omega)
    simp only [hg, ← hq]
  case piece7 =>
    have hq : q = ⟨512 + (x 1).val, by omega⟩ := Fin.ext h1
    have hg : (⟨q.val / 128, by omega⟩ : Fin 12) = 4 := Fin.ext (by have e : q.val = 512 + (x 1).val := h1; show q.val / 128 = 4; omega)
    simp only [hg, ← hq]
  case piece8 =>
    have hq : q = ⟨384 + (x 1).val, by omega⟩ := Fin.ext h1
    have hg : (⟨q.val / 128, by omega⟩ : Fin 12) = 3 := Fin.ext (by have e : q.val = 384 + (x 1).val := h1; show q.val / 128 = 3; omega)
    simp only [hg, ← hq]
  case piece9 =>
    have hq : q = ⟨256 + (x 1).val, by omega⟩ := Fin.ext h1
    have hg : (⟨q.val / 128, by omega⟩ : Fin 12) = 2 := Fin.ext (by have e : q.val = 256 + (x 1).val := h1; show q.val / 128 = 2; omega)
    simp only [hg, ← hq]
  case piece10 =>
    have hq : q = ⟨128 + (x 1).val, by omega⟩ := Fin.ext h1
    have hg : (⟨q.val / 128, by omega⟩ : Fin 12) = 1 := Fin.ext (by have e : q.val = 128 + (x 1).val := h1; show q.val / 128 = 1; omega)
    simp only [hg, ← hq]
  case piece11 =>
    have hq : q = ⟨(x 1).val, by omega⟩ := Fin.ext h1
    have hg : (⟨q.val / 128, by omega⟩ : Fin 12) = 0 := Fin.ext (by have e : q.val = (x 1).val := h1; show q.val / 128 = 0; omega)
    simp only [hg, ← hq]

/-- The normalised rows the mixing reads. -/
theorem norm_at (c : Dev nD) (arg2 : Memref sig .tc .vmem S128x1536 .bf16) (harg2 : arg2.IsWhole) (arg3 : Memref sig .tc .vmem S1x1536 .f32) (harg3 : arg3.IsWhole) (arg4 : Memref sig .tc .vmem S1x1536 .f32) (harg4 : arg4.IsWhole)
    (x1 : Vec Ideal S128x1536 .bf16) (x2 : Vec Ideal S1x1536 .f32) (x3 : Vec Ideal S1x1536 .f32) (r : Fin 128) (q : Fin 1536) :
    kernelRun0_A.sl.r c arg2 harg2 arg3 harg3 arg4 harg4 x1 x2 x3 (ix2 r q) = norm (fun k => gelu (x1 (ix2 r k))) (fun k => x2 (ix2 0 k)) (fun k => x3 (ix2 0 k)) q := by
  unfold kernelRun0_A.sl.r k0_pay2
  dsimp only
  simp only [View.readAt_eq_ld, Memref.IsWhole.read_unread]
  pointwise [norm, mean, gelu]

variable (m : (ℓ : Loc nD τ sig) → Buf (Elt Ideal) ℓ) (c : Dev nD)

theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0, 0] := by decide +kernel
theorem idx5 : ∀ t : Fin grid0.N, win0_5.index t = ![0, 0] := by decide +kernel
theorem idx6 : ∀ t : Fin grid0.N, win0_6.index t = ![t.val, 0] := by decide +kernel

/-- Row `r` of the blocks of point `t`. -/
def row (t : Fin cfg0.N) (r : Fin 128) : Fin 8192 := ⟨t.val * 128 + r.val, by have := t.isLt; have : cfg0.N = 64 := N_0; omega⟩

/-- The blocks a point reads: the gate's columns, -/
def ublk (t : Fin cfg0.N) : Vec Ideal S128x1536 .bf16 := X0_0 m c t

/-- the columns to mix, -/
def vblk (t : Fin cfg0.N) : Vec Ideal S128x1536 .bf16 := X0_1 m c t

/-- the scale, -/
def gblk (t : Fin cfg0.N) : Vec Ideal S1x1536 .f32 := iblk m c 2 t

/-- the shift, -/
def bblk (t : Fin cfg0.N) : Vec Ideal S1x1536 .f32 := iblk m c 3 t

/-- the matrices -/
def wblk (t : Fin cfg0.N) : Vec Ideal S12x128x128 .f32 := iblk m c 4 t

/-- and what is added to the mixed rows. -/
def ablk (t : Fin cfg0.N) : Vec Ideal S128x12 .f32 := iblk m c 5 t

theorem ublk_at (t : Fin cfg0.N) (r : Fin 128) (q : Fin 1536) :
    ublk m c t (ix2 r q) = m ((c : Thread nD τ).loc main_arg0) (ix2 (row t r) ⟨q.val, by omega⟩) := by
  unfold ublk row X0_0 Pipeline.Window.fill
  rw [dif_pos (moved0_0 t _)]
  blk_ext! [iblk, V, idx0 t]

theorem vblk_at (t : Fin cfg0.N) (r : Fin 128) (q : Fin 1536) :
    vblk m c t (ix2 r q) = m ((c : Thread nD τ).loc main_arg0) (ix2 (row t r) ⟨1536 + q.val, by omega⟩) := by
  unfold vblk row X0_1 Pipeline.Window.fill
  rw [dif_pos (moved0_1 t _)]
  blk_ext! [iblk, V, idx1 t]

theorem gblk_at (t : Fin cfg0.N) (q : Fin 1536) : gblk m c t (ix2 0 q) = m ((c : Thread nD τ).loc main_arg1) (ix2 0 q) := by
  unfold gblk
  blk_ext! [iblk, V, idx2 t]

theorem bblk_at (t : Fin cfg0.N) (q : Fin 1536) : bblk m c t (ix2 0 q) = m ((c : Thread nD τ).loc main_arg2) (ix2 0 q) := by
  unfold bblk
  blk_ext! [iblk, V, idx3 t]

theorem wblk_at (t : Fin cfg0.N) (g : Fin 12) (r k : Fin 128) : wblk m c t (ix3 g r k) = m ((c : Thread nD τ).loc main_arg3) (ix3 g r k) := by
  unfold wblk
  blk_ext! [iblk, V, idx4 t]

theorem ablk_at (t : Fin cfg0.N) (r : Fin 128) (g : Fin 12) : ablk m c t (ix2 r g) = m ((c : Thread nD τ).loc main_arg4) (ix2 r g) := by
  unfold ablk
  blk_ext! [iblk, V, idx5 t]

/-- Row `p` of the columns to mix, normalised. -/
def rows (x0 : Vec Ideal S8192x3584 .bf16) (x1 x2 : Vec Ideal S1x1536 .f32) (p : Fin 8192) : Fin 1536 → EReal :=
  norm (fun k => gelu (x0 (ix2 p ⟨1536 + k.val, by omega⟩))) (fun k => x1 (ix2 0 k)) (fun k => x2 (ix2 0 k))

/-- The result at row `p` and column `q`: the rows of its chunk of 128 mixed by the matrix of its group of 128 columns. -/
def out (x0 : Vec Ideal S8192x3584 .bf16) (x1 x2 : Vec Ideal S1x1536 .f32) (x3 : Vec Ideal S12x128x128 .f32) (x4 : Vec Ideal S128x12 .f32)
    (p : Fin 8192) (q : Fin 1536) : EReal :=
  gated (x0 (ix2 p ⟨q.val, by omega⟩)) (fun k => rows x0 x1 x2 ⟨p.val / 128 * 128 + k.val, by omega⟩ q)
    (fun k => x3 (ix3 ⟨q.val / 128, by omega⟩ ⟨p.val % 128, by omega⟩ k)) (x4 (ix2 ⟨p.val % 128, by omega⟩ ⟨q.val / 128, by omega⟩)) ⟨p.val % 128, by omega⟩

theorem whole : ∀ t : Fin cfg0.N, ∀ a, (cfg0.win 6).xsize (cfg0.grid.coords t) a = (cfg0.win 6).size a := by decide +kernel

/-- A place in the part of the result's block that is written back, which is all of it. -/
def place (t : Fin cfg0.N) (r : Fin 128) (q : Fin 1536) : ((cfg0.win 6).xblock (cfg0.grid.coords t)).Idx :=
  fun a => ⟨((ix2 r q : S128x1536.Idx) a).val, by
    show ((ix2 r q : S128x1536.Idx) a).val < (cfg0.win 6).xsize (cfg0.grid.coords t) a
    rw [whole t a]; exact ((ix2 r q : S128x1536.Idx) a).isLt⟩

theorem arr_at (t : Fin cfg0.N) (r : Fin 128) (q : Fin 1536) :
    (dats m 0 c).arrAt 6 cfg0.N (ix2 (row t r) ⟨q.val, by omega⟩ : S8192x2048.Idx)
      = out (m ((c : Thread nD τ).loc main_arg0)) (m ((c : Thread nD τ).loc main_arg1)) (m ((c : Thread nD τ).loc main_arg2)) (m ((c : Thread nD τ).loc main_arg3))
          (m ((c : Thread nD τ).loc main_arg4)) (row t r) q := by
  have he : (((cfg0.win 6).blk t).view.emb (place t r q) : S8192x2048.Idx) = ix2 (row t r) ⟨q.val, by omega⟩ := by
    funext a; apply Fin.ext
    refine (Pipeline.Window.rect_emb_val win0_6 t (place t r q) a rfl).trans ?_
    rw [idx6 t]
    fin_cases a
    · rfl
    · show 0 * 1536 + q.val = q.val
      omega
  have hf := (dats m 0 c).arrAt_emb_eq_flushed 6 Value.disjoint6 t (flush0_6 t) (place t r q)
  rw [he] at hf
  refine hf.trans ?_
  have ho := mixed_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ublk m c t) (vblk m c t) (gblk m c t) (bblk m c t) (wblk m c t) (ablk m c t) r q
  simp only [norm_at, ublk_at, vblk_at, gblk_at, bblk_at, wblk_at, ablk_at] at ho
  have hd : (row t r).val / 128 = t.val := by show (t.val * 128 + r.val) / 128 = t.val; omega
  have hm : (⟨(row t r).val % 128, by omega⟩ : Fin 128) = r := Fin.ext (by show (t.val * 128 + r.val) % 128 = r.val; omega)
  have hk : ∀ k : Fin 128, (⟨(row t r).val / 128 * 128 + k.val, by have := (row t r).isLt; omega⟩ : Fin 8192) = row t k := fun k => Fin.ext (by show (row t r).val / 128 * 128 + k.val = t.val * 128 + k.val; rw [hd])
  unfold out rows
  simp only [hm, hk]
  rw [Value.flushed6_A]
  unfold ublk vblk gblk bblk wblk ablk at ho
  generalize out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (X0_0 m c t) (X0_1 m c t) (iblk m c 2 t) (iblk m c 3 t) (iblk m c 4 t) (iblk m c 5 t) = w at ho ⊢
  unfold Pipeline.Window.cut
  refine Eq.trans (congrArg w ?_) ho
  funext a; apply Fin.ext
  rfl

theorem gelu_eq (x : EReal) : x * (Ideal.ofBits .f32 0x3F000000#32 * (Ideal.ofBits .f32 0x3F800000#32 + Ideal.tanh (Ideal.ofBits .f32 0x3F4C422A#32 * (x + Ideal.ofBits .f32 0x3D372713#32 * (x * x * x))))) = gelu x := by
  unfold gelu
  rw [show Ideal.ofBits .f32 0x3D372713#32 * (x * x * x) = Ideal.ofBits .f32 0x3D372713#32 * x * x * x by simp only [mul_assoc], ← mul_assoc, mul_comm x]

theorem ref_u (x0 : Vec Ideal S8192x3584 .bf16) (p : Fin 8192) (q : Fin 1536) :
    Cert.SguFwdReferenceIdeal.Read.val_main_v16 (F := Ideal) x0 (ix2 p q) = gelu (x0 (ix2 p ⟨q.val, by omega⟩)) := by
  rw [← gelu_eq]
  pointwise [val_main_v16, val_main_v15, val_main_v14, val_main_v13, val_main_v12, val_main_v11, val_main_v10, val_main_v9, val_main_v8, val_main_v7, val_main_v6, val_main_v5, val_main_v4, val_main_v2, val_main_v1, val_main_v0, val_main_cst, val_main_cst_0, val_main_cst_1, val_main_cst_2]

theorem ref_v (x0 : Vec Ideal S8192x3584 .bf16) (p : Fin 8192) (q : Fin 1536) :
    Cert.SguFwdReferenceIdeal.Read.val_main_v29 (F := Ideal) x0 (ix2 p q) = gelu (x0 (ix2 p ⟨1536 + q.val, by omega⟩)) := by
  rw [← gelu_eq]
  pointwise [val_main_v29, val_main_v28, val_main_v27, val_main_v26, val_main_v25, val_main_v24, val_main_v23, val_main_v22, val_main_v21, val_main_v20, val_main_v19, val_main_v18, val_main_v17, val_main_v3, val_main_v1, val_main_v0, val_main_cst_3, val_main_cst_4, val_main_cst_5, val_main_cst_6]

theorem ref_rows (x0 : Vec Ideal S8192x3584 .bf16) (x1 x2 : Vec Ideal S1x1536 .f32) (p : Fin 8192) (q : Fin 1536) :
    Cert.SguFwdReferenceIdeal.Read.val_main_v51 (F := Ideal) x0 x1 x2 (ix2 p q) = rows x0 x1 x2 p q := by
  unfold rows norm mean
  simp only [← ref_v]
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_7, val_main_cst_8, val_main_cst_9, val_main_cst_10, val_main_cst_11]

theorem ref_out (x0 : Vec Ideal S8192x3584 .bf16) (x1 x2 : Vec Ideal S1x1536 .f32) (x3 : Vec Ideal S12x128x128 .f32) (x4 : Vec Ideal S128x12 .f32)
    (p : Fin 8192) (q : Fin 1536) :
    Cert.SguFwdReferenceIdeal.Read.val_main_v65 (F := Ideal) x0 x1 x2 x3 x4 (ix2 p ⟨q.val, by omega⟩) = out x0 x1 x2 x3 x4 p q := by
  unfold out gated
  simp only [← ref_u, ← ref_rows]
  pointwise [val_main_v65, val_main_v64, val_main_v63, val_main_v62, val_main_v61, val_main_v60, val_main_v59, val_main_v58, val_main_v57, val_main_v56, val_main_v55, val_main_v54, val_main_v53, val_main_v52, val_main_c_13, val_main_call2_v0, val_main_c, val_main_cst_12, val_main_call0_v0, val_main_call0_c, val_main_call0_v1, val_main_call0_v2, val_main_call0_v3, val_main_call0_v4, val_main_call0_c_0, val_main_call0_v5, val_main_call1_v0, val_main_call1_v1, val_main_call1_v2]
  have hz : (id (constant (F := Ideal) Cert.SguFwdReferenceIdeal.S_ .f32 0#32) ix0 : EReal) = 0 := Ideal.ofBits_zero_f32
  have hs : ∀ k : Fin 128, IntOp.addi (BitVec.ofNat 32 (p.val % 128)) 0#32 = BitVec.ofNat 32 (p.val % 128) := fun _ => BitVec.add_zero _
  have hb : ∀ (k : Fin 128) (a b : EReal), Scalar.select (Scalar.select (IntOp.cmpi .sge (BitVec.ofNat 32 (p.val % 128)) (BitVec.ofNat 32 k.val)) 1#1 0#1) a b
      = if k.val ≤ p.val % 128 then a else b := by
    intro k a b
    have e : Scalar.select (IntOp.cmpi .sge (BitVec.ofNat 32 (p.val % 128)) (BitVec.ofNat 32 k.val)) 1#1 0#1 = IntOp.cmpi .sge (BitVec.ofNat 32 (p.val % 128)) (BitVec.ofNat 32 k.val) := by
      generalize IntOp.cmpi .sge (BitVec.ofNat 32 (p.val % 128)) (BitVec.ofNat 32 k.val) = z
      revert z; decide
    rw [e, keep _ _ _ _ (by omega) k.isLt]
  refine congrArg (_ * ·) (congrArg (· + _) (Finset.sum_congr rfl fun k _ => ?_))
  rw [hz, hs k, hb, mul_ite, mul_zero, mul_comm]

/-- The mask marks the first 1536 columns of the result. -/
theorem col_of_mask (x0 : Vec Ideal S8192x3584 .bf16) (x1 x2 : Vec Ideal S1x1536 .f32) (x3 : Vec Ideal S12x128x128 .f32) (x4 : Vec Ideal S128x12 .f32)
    (i : S8192x2048.Idx) (h : Cert.On_mixer_columns.fn (F := Ideal) x0 x1 x2 x3 x4 i = 1#1) : (i 1 : Nat) < 1536 := by
  unfold Cert.On_mixer_columns.fn at h
  dsimp only at h
  have l1 : (i 1 : Nat) < 2048 := (i 1).isLt
  have h' : BitVec.ofBool (BitVec.slt (BitVec.ofNat 32 (i 1 : Nat)) 1536#32) = 1#1 := h
  by_contra hc
  have hn : (BitVec.ofNat 32 (i 1 : Nat)).toNat = (i 1 : Nat) := by rw [BitVec.toNat_ofNat]; omega
  have e : (BitVec.slt (BitVec.ofNat 32 (i 1 : Nat)) 1536#32) = false := by
    rw [BitVec.slt, decide_eq_false_iff_not, BitVec.toInt_eq_toNat_cond, BitVec.toInt_eq_toNat_cond, hn]
    simp only [BitVec.reduceToNat, Nat.reducePow, Nat.reduceMul]
    split <;> split <;> omega
  rw [e] at h'
  exact absurd h' (by decide)

theorem value (i : S8192x2048.Idx) (h : (i 1 : Nat) < 1536) :
    Cert.SguFwdReferenceIdeal.Read.val_main_v65 (F := Ideal) (m ((c : Thread nD τ).loc main_arg0)) (m ((c : Thread nD τ).loc main_arg1)) (m ((c : Thread nD τ).loc main_arg2)) (m ((c : Thread nD τ).loc main_arg3))
        (m ((c : Thread nD τ).loc main_arg4)) i
      = (dats m 0 c).arrAt 6 cfg0.N i := by
  have l0 : (i 0 : Nat) < 8192 := (i 0).isLt
  have hN : cfg0.N = 64 := N_0
  obtain ⟨t, r, q, hi⟩ : ∃ (t : Fin cfg0.N) (r : Fin 128) (q : Fin 1536), i = ix2 (row t r) (⟨q.val, by omega⟩ : Fin 2048) := by
    refine ⟨⟨(i 0 : Nat) / 128, by omega⟩, ⟨(i 0 : Nat) % 128, by omega⟩, ⟨(i 1 : Nat), h⟩, ?_⟩
    funext a; apply Fin.ext
    fin_cases a
    · show (i 0 : Nat) = (i 0 : Nat) / 128 * 128 + (i 0 : Nat) % 128
      omega
    · rfl
  rw [hi, arr_at]
  exact ref_out _ _ _ _ _ _ _

end Cert.SguFwdKernelIdeal.Block

end
-- ==== Proof.SguBwd.lean ====
/- The gradient of the spatial-gating unit: what each point of the grid makes of its blocks. -/
module

public import proofs.«01_k».proof.Proof.Gen.SguBwdKernelIdeal.Value
public import proofs.«01_k».proof.Proof.SguFwd
public import Idealize.ShloMosaic.Lib.Pipeline.ValueKit.Point
public import Idealize.ShloMosaic.Lib.Pointwise

@[expose] public section

set_option maxRecDepth 16384

noncomputable section

namespace Cert.SguBwdKernelIdeal.Block

open Cert.SguBwdKernelIdeal Cert.SguBwdKernelIdeal.Gen Idealize.ShloMosaic Idealize.ShloMosaic.TcCoe
open Cert.SguFwdKernelIdeal.Block (keep mean)

/-- The coefficient of the cube in the tanh form, and three times it. -/
def cube : EReal := Named.named (F := Ideal) κ "slope" (φ := .f32) 0x3D372713#32
def cube3 : EReal := Named.named (F := Ideal) κ "thrice" (φ := .f32) 0x3E095D4F#32

/-- The hyperbolic tangent of the tanh form. -/
def th (x : EReal) : EReal := Ideal.tanh (Ideal.ofBits .f32 0x3F4C422A#32 * (x + cube * (x * x) * x))

/-- The Gaussian error linear unit's value -/
def act (x : EReal) : EReal := x * (Ideal.ofBits .f32 0x3F000000#32 * (Ideal.ofBits .f32 0x3F800000#32 + th x))

/-- and slope, as the call takes them. -/
def slp (x : EReal) : EReal :=
  Ideal.ofBits .f32 0x3F000000#32 * (Ideal.ofBits .f32 0x3F800000#32 + th x)
    + Ideal.ofBits .f32 0x3F000000#32 * x * (Ideal.ofBits .f32 0x3F800000#32 - th x * th x) * Ideal.ofBits .f32 0x3F4C422A#32
      * (Ideal.ofBits .f32 0x3F800000#32 + cube3 * (x * x))

/-- The reciprocal deviation of a row. -/
def rstd (x : Fin 1536 → EReal) : EReal :=
  Ideal.rsqrt (mean (fun k => (x k - mean x) * (x k - mean x)) + Ideal.ofBits .f32 0x3727C5AC#32)

/-- The row made of mean zero and variance one. -/
def hat (x : Fin 1536 → EReal) (q : Fin 1536) : EReal := (x q - mean x) * rstd x

/-- An entry of the rows mixed by the lower triangle of a matrix, then shifted. -/
def mixed (v w : Fin 128 → EReal) (b : EReal) (r : Fin 128) : EReal := (∑ k : Fin 128, if k.val ≤ r.val then w k * v k else 0) + b

/-- An entry of the gated rows multiplied by the transposed lower triangle. -/
def back (u d w : Fin 128 → EReal) (r : Fin 128) : EReal := ∑ k : Fin 128, if r.val ≤ k.val then w k * (d k * act (u k)) else 0

/-- The row the transposed product gives back, taken through the normalisation. -/
def through (x d g : Fin 1536 → EReal) (q : Fin 1536) : EReal :=
  rstd x * (d q * g q - mean (fun k => d k * g k) - hat x q * mean (fun k => d k * g k * hat x k))

theorem pick (a : EReal) (l g : Nat) (hl : l < 128) (hg : g < 128) :
    Scalar.select (IntOp.cmpi .eq (BitVec.ofNat 32 l) (BitVec.ofNat 32 g)) a (0 : EReal) = if l = g then a else 0 := by
  unfold Scalar.select IntOp.cmpi
  dsimp only
  have h : (BitVec.ofNat 32 l == BitVec.ofNat 32 g) = decide (l = g) := by
    rw [Bool.eq_iff_iff]
    simp only [beq_iff_eq, decide_eq_true_eq]
    constructor
    · intro e
      have e := congrArg BitVec.toNat e
      simp only [BitVec.toNat_ofNat] at e
      omega
    · rintro rfl; rfl
  rw [h]
  by_cases e : l = g <;> simp [e]

/-- Twelve numbers in the first twelve lanes. -/
def spread (f : Fin 12 → EReal) (l : Fin 128) : EReal := if h : l.val < 12 then f ⟨l.val, h⟩ else 0

theorem spread_eq (f : Fin 12 → EReal) (l : Fin 128) :
    ((((((((((((0 + if l.val = 0 then f 0 else 0) + if l.val = 1 then f 1 else 0) + if l.val = 2 then f 2 else 0) + if l.val = 3 then f 3 else 0) + if l.val = 4 then f 4 else 0) + if l.val = 5 then f 5 else 0) + if l.val = 6 then f 6 else 0) + if l.val = 7 then f 7 else 0) + if l.val = 8 then f 8 else 0) + if l.val = 9 then f 9 else 0) + if l.val = 10 then f 10 else 0) + if l.val = 11 then f 11 else 0) = spread f l := by
  unfold spread
  by_cases h : l.val < 12
  · rw [dif_pos h]
    obtain ⟨l, hl⟩ := l
    have h : l < 12 := h
    interval_cases l <;> simp <;> rfl
  · rw [dif_neg h]
    rw [if_neg (show ¬ l.val = 0 by omega)]
    rw [if_neg (show ¬ l.val = 1 by omega)]
    rw [if_neg (show ¬ l.val = 2 by omega)]
    rw [if_neg (show ¬ l.val = 3 by omega)]
    rw [if_neg (show ¬ l.val = 4 by omega)]
    rw [if_neg (show ¬ l.val = 5 by omega)]
    rw [if_neg (show ¬ l.val = 6 by omega)]
    rw [if_neg (show ¬ l.val = 7 by omega)]
    rw [if_neg (show ¬ l.val = 8 by omega)]
    rw [if_neg (show ¬ l.val = 9 by omega)]
    rw [if_neg (show ¬ l.val = 10 by omega)]
    rw [if_neg (show ¬ l.val = 11 by omega)]
    simp

/-- Where the first pieces cover a point, the later ones do not matter. -/
theorem canon_take {S : Shape} (L : List (View.Piece (Elt Ideal) S .f32)) (n : Nat) (y : S.Idx)
    (hc : ∃ p ∈ L.take n, y ∈ p.1.set) : View.canon L y = View.canon (L.take n) y := by
  induction L generalizing n with
  | nil => obtain ⟨p, hp, _⟩ := hc; rw [List.take_nil] at hp; exact absurd hp List.not_mem_nil
  | cons p L ih =>
    cases n with
    | zero => obtain ⟨p, hp, _⟩ := hc; exact absurd hp List.not_mem_nil
    | succ n =>
      rw [List.take_succ_cons] at hc ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih n ?_
        obtain ⟨q, hq, hyq⟩ := hc
        rcases List.mem_cons.mp hq with rfl | hq
        · exact absurd hyq hm
        · exact ⟨q, hq, hyq⟩

/-- A matrix of the block not yet written holds zero. -/
def Blank (L : List (View.Piece (Elt Ideal) S12x128x128 .f32)) (g : Nat) : Prop :=
  ∀ y : S12x128x128.Idx, (y 0).val = g → View.canon L y = (0 : EReal)

theorem Blank.fill (g : Nat) (inb) : Blank [(⟨Rect.unit ![0, 0, 0] S12x128x128.size inb, k0_pay2 (F := Ideal)⟩ : View.Piece (Elt Ideal) S12x128x128 .f32)] g := by
  intro y _
  refine View.canon_eq_of_allAt _ _ _ ⟨_, List.mem_cons_self, ?_⟩ (View.allAt_cons_unit _ _ _ _ _ (fun x _ => ?_) (View.allAt_nil _ _))
  · rw [Rect.mem_set_unit]
    intro a
    fin_cases a
    · exact ⟨Nat.zero_le _, by have := (y 0).isLt; show (y 0 : Nat) < 0 + 12; exact (Nat.zero_add 12).symm ▸ this⟩
    · exact ⟨Nat.zero_le _, by have := (y 1).isLt; show (y 1 : Nat) < 0 + 128; exact (Nat.zero_add 128).symm ▸ this⟩
    · exact ⟨Nat.zero_le _, by have := (y 2).isLt; show (y 2 : Nat) < 0 + 128; exact (Nat.zero_add 128).symm ▸ this⟩
  · show Ideal.ofBits .f32 0#32 = 0
    exact Ideal.ofBits_zero_f32

theorem Blank.cons {L : List (View.Piece (Elt Ideal) S12x128x128 .f32)} {g : Nat} (h : Blank L g) (g' : Nat) (inb)
    (w : Vec Ideal S1x128x128 .f32) (hc : g' ≠ g) :
    Blank ((⟨Rect.unit ![g', 0, 0] S1x128x128.size inb, w⟩ : View.Piece (Elt Ideal) S12x128x128 .f32) :: L) g := by
  intro y h1
  rw [View.canon_cons_of_not_mem, h y h1]
  rw [Rect.mem_set_unit]
  intro hm
  have h3 : g' ≤ (y 0 : Nat) ∧ (y 0 : Nat) < g' + 1 := hm 0
  omega

theorem Blank.read {L : List (View.Piece (Elt Ideal) S12x128x128 .f32)} {g : Nat} (hz : Blank L g)
    (a : Memref sig .tc .vmem S12x128x128 .f32) (inb) :
    a.view.readCov L (Rect.unit ![g, 0, 0] ![1, 128, 128] inb).toLoadRect = fun _ => (0 : EReal) := by
  rw [View.readCov_eq_canon']
  funext j
  have l1 : (j 0 : Nat) < 1 := (j 0).isLt
  refine hz _ ?_
  show g + 1 * (j 0 : Nat) = g
  omega

theorem fill_9 (c : Dev nD) (a : Memref sig .tc .vmem S128x128 .f32) : kernelRun0_A.sl.v888 (F := Ideal) c a = fun _ => (0 : EReal) := by
  unfold kernelRun0_A.sl.v888
  rw [View.readCov_eq_canon']
  funext j
  refine View.canon_eq_of_allAt _ _ _ (View.cover_of_tiledL (kernelRun0_A.sl.H9_1 (F := Ideal)) S128x128.size (by sl_kernel_rfl) _) ?_
  unfold kernelRun0_A.sl.H9_1
  refine View.allAt_cons_unit _ _ _ _ _ (fun x _ => ?_) (View.allAt_nil _ _)
  show Ideal.ofBits .f32 0#32 = 0
  exact Ideal.ofBits_zero_f32

theorem fill_10 (c : Dev nD) (a : Memref sig .tc .vmem S1x1536 .f32) : kernelRun0_A.sl.v893 (F := Ideal) c a = fun _ => (0 : EReal) := by
  unfold kernelRun0_A.sl.v893
  rw [View.readCov_eq_canon']
  funext j
  refine View.canon_eq_of_allAt _ _ _ (View.cover_of_tiledL (kernelRun0_A.sl.H10_1 (F := Ideal)) S1x1536.size (by sl_kernel_rfl) _) ?_
  unfold kernelRun0_A.sl.H10_1
  refine View.allAt_cons_unit _ _ _ _ _ (fun x _ => ?_) (View.allAt_nil _ _)
  show Ideal.ofBits .f32 0#32 = 0
  exact Ideal.ofBits_zero_f32

theorem fill_11 (c : Dev nD) (a : Memref sig .tc .vmem S1x1536 .f32) : kernelRun0_A.sl.v900 (F := Ideal) c a = fun _ => (0 : EReal) := by
  unfold kernelRun0_A.sl.v900
  rw [View.readCov_eq_canon']
  funext j
  refine View.canon_eq_of_allAt _ _ _ (View.cover_of_tiledL (kernelRun0_A.sl.H11_1 (F := Ideal)) S1x1536.size (by sl_kernel_rfl) _) ?_
  unfold kernelRun0_A.sl.H11_1
  refine View.allAt_cons_unit _ _ _ _ _ (fun x _ => ?_) (View.allAt_nil _ _)
  show Ideal.ofBits .f32 0#32 = 0
  exact Ideal.ofBits_zero_f32

theorem blank_1 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 0 ≤ g) : Blank (kernelRun0_A.sl.H8_1 (F := Ideal) ) g := by
  unfold kernelRun0_A.sl.H8_1
  exact Blank.fill g _

theorem blank_2 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 1 ≤ g) : Blank (kernelRun0_A.sl.H8_2 (F := Ideal) c arg1 harg1 arg2 harg2 arg3 harg3 arg4 harg4 arg5 harg5 arg10 x0 x1 x2 x3 x4) g := by
  unfold kernelRun0_A.sl.H8_2
  exact (blank_1 c arg1 harg1 arg2 harg2 arg3 harg3 arg4 harg4 arg5 harg5 arg10 x0 x1 x2 x3 x4 g (by omega)).cons 0 _ _ (by omega)

theorem blank_3 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 2 ≤ g) : Blank (kernelRun0_A.sl.H8_3 (F := Ideal) c arg1 harg1 arg2 harg2 arg3 harg3 arg4 harg4 arg5 harg5 arg10 x0 x1 x2 x3 x4) g := by
  unfold kernelRun0_A.sl.H8_3
  exact (blank_2 c arg1 harg1 arg2 harg2 arg3 harg3 arg4 harg4 arg5 harg5 arg10 x0 x1 x2 x3 x4 g (by omega)).cons 1 _ _ (by omega)

theorem blank_4 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 3 ≤ g) : Blank (kernelRun0_A.sl.H8_4 (F := Ideal) c arg1 harg1 arg2 harg2 arg3 harg3 arg4 harg4 arg5 harg5 arg10 x0 x1 x2 x3 x4) g := by
  unfold kernelRun0_A.sl.H8_4
  exact (blank_3 c arg1 harg1 arg2 harg2 arg3 harg3 arg4 harg4 arg5 harg5 arg10 x0 x1 x2 x3 x4 g (by omega)).cons 2 _ _ (by omega)

theorem blank_5 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 4 ≤ g) : Blank (kernelRun0_A.sl.H8_5 (F := Ideal) c arg1 harg1 arg2 harg2 arg3 harg3 arg4 harg4 arg5 harg5 arg10 x0 x1 x2 x3 x4) g := by
  unfold kernelRun0_A.sl.H8_5
  exact (blank_4 c arg1 harg1 arg2 harg2 arg3 harg3 arg4 harg4 arg5 harg5 arg10 x0 x1 x2 x3 x4 g (by omega)).cons 3 _ _ (by omega)

theorem blank_6 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 5 ≤ g) : Blank (kernelRun0_A.sl.H8_6 (F := Ideal) c arg1 harg1 arg2 harg2 arg3 harg3 arg4 harg4 arg5 harg5 arg10 x0 x1 x2 x3 x4) g := by
  unfold kernelRun0_A.sl.H8_6
  exact (blank_5 c arg1 harg1 arg2 harg2 arg3 harg3 arg4 harg4 arg5 harg5 arg10 x0 x1 x2 x3 x4 g (by omega)).cons 4 _ _ (by omega)

theorem blank_7 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 6 ≤ g) : Blank (kernelRun0_A.sl.H8_7 (F := Ideal) c arg1 harg1 arg2 harg2 arg3 harg3 arg4 harg4 arg5 harg5 arg10 x0 x1 x2 x3 x4) g := by
  unfold kernelRun0_A.sl.H8_7
  exact (blank_6 c arg1 harg1 arg2 harg2 arg3 harg3 arg4 harg4 arg5 harg5 arg10 x0 x1 x2 x3 x4 g (by omega)).cons 5 _ _ (by omega)

theorem blank_8 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 7 ≤ g) : Blank (kernelRun0_A.sl.H8_8 (F := Ideal) c arg1 harg1 arg2 harg2 arg3 harg3 arg4 harg4 arg5 harg5 arg10 x0 x1 x2 x3 x4) g := by
  unfold kernelRun0_A.sl.H8_8
  exact (blank_7 c arg1 harg1 arg2 harg2 arg3 harg3 arg4 harg4 arg5 harg5 arg10 x0 x1 x2 x3 x4 g (by omega)).cons 6 _ _ (by omega)

theorem blank_9 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 8 ≤ g) : Blank (kernelRun0_A.sl.H8_9 (F := Ideal) c arg1 harg1 arg2 harg2 arg3 harg3 arg4 harg4 arg5 harg5 arg10 x0 x1 x2 x3 x4) g := by
  unfold kernelRun0_A.sl.H8_9
  exact (blank_8 c arg1 harg1 arg2 harg2 arg3 harg3 arg4 harg4 arg5 harg5 arg10 x0 x1 x2 x3 x4 g (by omega)).cons 7 _ _ (by omega)

theorem blank_10 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 9 ≤ g) : Blank (kernelRun0_A.sl.H8_10 (F := Ideal) c arg1 harg1 arg2 harg2 arg3 harg3 arg4 harg4 arg5 harg5 arg10 x0 x1 x2 x3 x4) g := by
  unfold kernelRun0_A.sl.H8_10
  exact (blank_9 c arg1 harg1 arg2 harg2 arg3 harg3 arg4 harg4 arg5 harg5 arg10 x0 x1 x2 x3 x4 g (by omega)).cons 8 _ _ (by omega)

theorem blank_11 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 10 ≤ g) : Blank (kernelRun0_A.sl.H8_11 (F := Ideal) c arg1 harg1 arg2 harg2 arg3 harg3 arg4 harg4 arg5 harg5 arg10 x0 x1 x2 x3 x4) g := by
  unfold kernelRun0_A.sl.H8_11
  exact (blank_10 c arg1 harg1 arg2 harg2 arg3 harg3 arg4 harg4 arg5 harg5 arg10 x0 x1 x2 x3 x4 g (by omega)).cons 9 _ _ (by omega)

theorem blank_12 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) (g : Nat) (hg : 11 ≤ g) : Blank (kernelRun0_A.sl.H8_12 (F := Ideal) c arg1 harg1 arg2 harg2 arg3 harg3 arg4 harg4 arg5 harg5 arg10 x0 x1 x2 x3 x4) g := by
  unfold kernelRun0_A.sl.H8_12
  exact (blank_11 c arg1 harg1 arg2 harg2 arg3 harg3 arg4 harg4 arg5 harg5 arg10 x0 x1 x2 x3 x4 g (by omega)).cons 10 _ _ (by omega)

theorem read_0 (c : Dev nD) (arg10 : Memref sig .tc .vmem S12x128x128 .f32) : kernelRun0_A.sl.v112 (F := Ideal) c arg10 = fun _ => (0 : EReal) := by
  unfold kernelRun0_A.sl.v112
  unfold kernelRun0_A.sl.H8_1
  exact (Blank.fill 0 _).read arg10 _

theorem read_1 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v181 (F := Ideal) c arg1 harg1 arg2 harg2 arg3 harg3 arg4 harg4 arg5 harg5 arg10 x0 x1 x2 x3 x4 = fun _ => (0 : EReal) := by
  unfold kernelRun0_A.sl.v181

  exact (blank_2 c arg1 harg1 arg2 harg2 arg3 harg3 arg4 harg4 arg5 harg5 arg10 x0 x1 x2 x3 x4 1 (by omega)).read arg10 _

theorem read_2 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v250 (F := Ideal) c arg1 harg1 arg2 harg2 arg3 harg3 arg4 harg4 arg5 harg5 arg10 x0 x1 x2 x3 x4 = fun _ => (0 : EReal) := by
  unfold kernelRun0_A.sl.v250

  exact (blank_3 c arg1 harg1 arg2 harg2 arg3 harg3 arg4 harg4 arg5 harg5 arg10 x0 x1 x2 x3 x4 2 (by omega)).read arg10 _

theorem read_3 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v319 (F := Ideal) c arg1 harg1 arg2 harg2 arg3 harg3 arg4 harg4 arg5 harg5 arg10 x0 x1 x2 x3 x4 = fun _ => (0 : EReal) := by
  unfold kernelRun0_A.sl.v319

  exact (blank_4 c arg1 harg1 arg2 harg2 arg3 harg3 arg4 harg4 arg5 harg5 arg10 x0 x1 x2 x3 x4 3 (by omega)).read arg10 _

theorem read_4 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v388 (F := Ideal) c arg1 harg1 arg2 harg2 arg3 harg3 arg4 harg4 arg5 harg5 arg10 x0 x1 x2 x3 x4 = fun _ => (0 : EReal) := by
  unfold kernelRun0_A.sl.v388

  exact (blank_5 c arg1 harg1 arg2 harg2 arg3 harg3 arg4 harg4 arg5 harg5 arg10 x0 x1 x2 x3 x4 4 (by omega)).read arg10 _

theorem read_5 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v457 (F := Ideal) c arg1 harg1 arg2 harg2 arg3 harg3 arg4 harg4 arg5 harg5 arg10 x0 x1 x2 x3 x4 = fun _ => (0 : EReal) := by
  unfold kernelRun0_A.sl.v457

  exact (blank_6 c arg1 harg1 arg2 harg2 arg3 harg3 arg4 harg4 arg5 harg5 arg10 x0 x1 x2 x3 x4 5 (by omega)).read arg10 _

theorem read_6 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v526 (F := Ideal) c arg1 harg1 arg2 harg2 arg3 harg3 arg4 harg4 arg5 harg5 arg10 x0 x1 x2 x3 x4 = fun _ => (0 : EReal) := by
  unfold kernelRun0_A.sl.v526

  exact (blank_7 c arg1 harg1 arg2 harg2 arg3 harg3 arg4 harg4 arg5 harg5 arg10 x0 x1 x2 x3 x4 6 (by omega)).read arg10 _

theorem read_7 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v595 (F := Ideal) c arg1 harg1 arg2 harg2 arg3 harg3 arg4 harg4 arg5 harg5 arg10 x0 x1 x2 x3 x4 = fun _ => (0 : EReal) := by
  unfold kernelRun0_A.sl.v595

  exact (blank_8 c arg1 harg1 arg2 harg2 arg3 harg3 arg4 harg4 arg5 harg5 arg10 x0 x1 x2 x3 x4 7 (by omega)).read arg10 _

theorem read_8 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v664 (F := Ideal) c arg1 harg1 arg2 harg2 arg3 harg3 arg4 harg4 arg5 harg5 arg10 x0 x1 x2 x3 x4 = fun _ => (0 : EReal) := by
  unfold kernelRun0_A.sl.v664

  exact (blank_9 c arg1 harg1 arg2 harg2 arg3 harg3 arg4 harg4 arg5 harg5 arg10 x0 x1 x2 x3 x4 8 (by omega)).read arg10 _

theorem read_9 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v733 (F := Ideal) c arg1 harg1 arg2 harg2 arg3 harg3 arg4 harg4 arg5 harg5 arg10 x0 x1 x2 x3 x4 = fun _ => (0 : EReal) := by
  unfold kernelRun0_A.sl.v733

  exact (blank_10 c arg1 harg1 arg2 harg2 arg3 harg3 arg4 harg4 arg5 harg5 arg10 x0 x1 x2 x3 x4 9 (by omega)).read arg10 _

theorem read_10 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v802 (F := Ideal) c arg1 harg1 arg2 harg2 arg3 harg3 arg4 harg4 arg5 harg5 arg10 x0 x1 x2 x3 x4 = fun _ => (0 : EReal) := by
  unfold kernelRun0_A.sl.v802

  exact (blank_11 c arg1 harg1 arg2 harg2 arg3 harg3 arg4 harg4 arg5 harg5 arg10 x0 x1 x2 x3 x4 10 (by omega)).read arg10 _

theorem read_11 (c : Dev nD) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg10 : Memref sig .tc .vmem S12x128x128 .f32) (x0 x1 x2 : Vec Ideal S128x1536 .bf16) (x3 x4 : Vec Ideal S1x1536 .f32) : kernelRun0_A.sl.v871 (F := Ideal) c arg1 harg1 arg2 harg2 arg3 harg3 arg4 harg4 arg5 harg5 arg10 x0 x1 x2 x3 x4 = fun _ => (0 : EReal) := by
  unfold kernelRun0_A.sl.v871

  exact (blank_12 c arg1 harg1 arg2 harg2 arg3 harg3 arg4 harg4 arg5 harg5 arg10 x0 x1 x2 x3 x4 11 (by omega)).read arg10 _

theorem rstd_A (c : Dev nD) (arg2 : Memref sig .tc .vmem S128x1536 .bf16) (harg2 : arg2.IsWhole) (x1 : Vec Ideal S128x1536 .bf16) (r : Fin 128) :
    kernelRun0_A.sl.r_5 c arg2 harg2 x1 (ix2 r 0) = rstd (fun k => act (x1 (ix2 r k))) := by
  simp only [kernelRun0_A.sl.r_5, kernelRun0_A.sl.r_4, kernelRun0_A.sl.r_1]
  open_payloads
  simp only [View.readAt_eq_ld, Memref.IsWhole.read_unread]
  pointwise [rstd, mean, act, th, cube, cube3]

theorem hat_A (c : Dev nD) (arg2 : Memref sig .tc .vmem S128x1536 .bf16) (harg2 : arg2.IsWhole) (x1 : Vec Ideal S128x1536 .bf16) (r : Fin 128) (q : Fin 1536) :
    kernelRun0_A.sl.r_6 c arg2 harg2 x1 (ix2 r q) = hat (fun k => act (x1 (ix2 r k))) q := by
  simp only [kernelRun0_A.sl.r_6, kernelRun0_A.sl.r_4, kernelRun0_A.sl.r_1]
  open_payloads
  simp only [View.readAt_eq_ld, Memref.IsWhole.read_unread]
  pointwise [hat, rstd, mean, act, th, cube, cube3]

theorem slp_A (c : Dev nD) (arg2 : Memref sig .tc .vmem S128x1536 .bf16) (harg2 : arg2.IsWhole) (x1 : Vec Ideal S128x1536 .bf16) (r : Fin 128) (q : Fin 1536) :
    kernelRun0_A.sl.r_2 c arg2 harg2 x1 (ix2 r q) = slp (x1 (ix2 r q)) := by
  simp only [kernelRun0_A.sl.r_2]
  open_payloads
  simp only [View.readAt_eq_ld, Memref.IsWhole.read_unread]
  pointwise [slp, th, cube, cube3]

theorem vn_A (c : Dev nD) (arg2 : Memref sig .tc .vmem S128x1536 .bf16) (harg2 : arg2.IsWhole) (x1 : Vec Ideal S128x1536 .bf16) (r : Fin 128) (arg4 : Memref sig .tc .vmem S1x1536 .f32) (harg4 : arg4.IsWhole) (arg5 : Memref sig .tc .vmem S1x1536 .f32) (harg5 : arg5.IsWhole) (x3 x4 : Vec Ideal S1x1536 .f32) (q : Fin 1536) :
    kernelRun0_A.sl.r_7 c arg2 harg2 arg4 harg4 arg5 harg5 x1 x3 x4 (ix2 r q) = hat (fun k => act (x1 (ix2 r k))) q * x3 (ix2 0 q) + x4 (ix2 0 q) := by
  rw [← hat_A c arg2 harg2]
  simp only [kernelRun0_A.sl.r_7, kernelRun0_A.sl.r_6, kernelRun0_A.sl.r, kernelRun0_A.sl.r_3]
  unfold k0_pay16
  simp only [View.readAt_eq_ld, Memref.IsWhole.read_unread]
  generalize k0_pay15 (kernelRun0_A.sl.r_1 c arg2 harg2 x1) (kernelRun0_A.sl.r_4 c arg2 harg2 x1) = H
  pointwise

theorem dvn_A (c : Dev nD) (arg1 : Memref sig .tc .vmem S128x1536 .bf16) (harg1 : arg1.IsWhole) (arg3 : Memref sig .tc .vmem S128x1536 .bf16) (harg3 : arg3.IsWhole) (arg6 : Memref sig .tc .vmem S12x128x128 .f32) (harg6 : arg6.IsWhole) (arg14 : Memref sig .tc .vmem S128x1536 .f32)
   (x0 : Vec Ideal S128x1536 .bf16) (x2 : Vec Ideal S128x1536 .bf16) (x5 : Vec Ideal S12x128x128 .f32) (r : Fin 128) (q : Fin 1536) :
    kernelRun0_A.sl.v892 c arg1 harg1 arg3 harg3 arg6 harg6 arg14 x0 x2 x5 (ix2 r q) =
     back (fun k => x0 (ix2 k q)) (fun k => x2 (ix2 k q)) (fun k => x5 (ix3 ⟨q.val / 128, by omega⟩ k r)) r := by
  unfold kernelRun0_A.sl.v892
  rw [View.readCov_eq_canon']
  have hi : ((Rect.unit ![0, 0] S128x1536.size inb_S128x1536_S128x1536_0_0).toLoadRect.idx (ix2 r q) : S128x1536.Idx) = ix2 r q := by
    funext a; apply Fin.ext; fin_cases a
    · show 0 + 1 * r.val = r.val; omega
    · show 0 + 1 * q.val = q.val; omega
  have hc := View.cover_of_tiledL (kernelRun0_A.sl.HS0_12 c arg1 harg1 arg3 harg3 arg6 harg6 x0 x2 x5) S128x128.size (by sl_kernel_rfl) (ix2 r q)
  dsimp only
  rw [hi]
  unfold kernelRun0_A.sl.HS0_12 at hc ⊢
  dsimp only at hc ⊢
  canon_tiles x h using hc
  all_goals
    clear hc hi
    try simp only [kernelRun0_A.sl.r_102, kernelRun0_A.sl.r_101, kernelRun0_A.sl.r_100, kernelRun0_A.sl.r_99, kernelRun0_A.sl.r_98, kernelRun0_A.sl.r_97, kernelRun0_A.sl.r_96, kernelRun0_A.sl.r_95, kernelRun0_A.sl.r_94, kernelRun0_A.sl.r_93, kernelRun0_A.sl.r_92, kernelRun0_A.sl.r_91, kernelRun0_A.sl.r_90, kernelRun0_A.sl.r_89, kernelRun0_A.sl.r_88, kernelRun0_A.sl.r_87, kernelRun0_A.sl.r_86, kernelRun0_A.sl.r_85, kernelRun0_A.sl.r_84, kernelRun0_A.sl.r_83, kernelRun0_A.sl.r_82, kernelRun0_A.sl.r_81, kernelRun0_A.sl.r_80, kernelRun0_A.sl.r_79, kernelRun0_A.sl.r_78, kernelRun0_A.sl.r_77, kernelRun0_A.sl.r_76, kernelRun0_A.sl.r_75, kernelRun0_A.sl.r_74, kernelRun0_A.sl.r_73, kernelRun0_A.sl.r_72, kernelRun0_A.sl.r_71, kernelRun0_A.sl.r_70, kernelRun0_A.sl.r_69, kernelRun0_A.sl.r_68, kernelRun0_A.sl.r_67, kernelRun0_A.sl.r_66, kernelRun0_A.sl.r_65, kernelRun0_A.sl.r_64, kernelRun0_A.sl.r_63, kernelRun0_A.sl.r_62, kernelRun0_A.sl.r_61, kernelRun0_A.sl.r_60, kernelRun0_A.sl.r_59, kernelRun0_A.sl.r_58, kernelRun0_A.sl.r_57, kernelRun0_A.sl.r_56, kernelRun0_A.sl.r_55, kernelRun0_A.sl.r_54, kernelRun0_A.sl.r_53, kernelRun0_A.sl.r_52, kernelRun0_A.sl.r_51, kernelRun0_A.sl.r_50, kernelRun0_A.sl.r_49, kernelRun0_A.sl.r_48, kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38, kernelRun0_A.sl.r_37, kernelRun0_A.sl.r_36, kernelRun0_A.sl.r_35, kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8]
    open_payloads
    simp only [View.readAt_eq_ld, Memref.IsWhole.read_unread, kernelRun0_A.sl.cst_69, kernelRun0_A.sl.cst_32, kernelRun0_A.sl.cst_125, kernelRun0_A.sl.cst_162]
    have hr : r = x 0 := Fin.ext h0
    subst hr
    pointwise [back, act, th, cube, cube3]
    simp only [keep _ _ _ (x 0).val (Fin.isLt _) (x 0).isLt]
  case piece0 =>
    have hq : q = ⟨1408 + (x 1).val, by omega⟩ := Fin.ext h1
    have hg : (⟨q.val / 128, by omega⟩ : Fin 12) = 11 := Fin.ext (by have e : q.val = 1408 + (x 1).val := h1; show q.val / 128 = 11; omega)
    simp only [hg, ← hq]
  case piece1 =>
    have hq : q = ⟨1280 + (x 1).val, by omega⟩ := Fin.ext h1
    have hg : (⟨q.val / 128, by omega⟩ : Fin 12) = 10 := Fin.ext (by have e : q.val = 1280 + (x 1).val := h1; show q.val / 128 = 10; omega)
    simp only [hg, ← hq]
  case piece2 =>
    have hq : q = ⟨1152 + (x 1).val, by omega⟩ := Fin.ext h1
    have hg : (⟨q.val / 128, by omega⟩ : Fin 12) = 9 := Fin.ext (by have e : q.val = 1152 + (x 1).val := h1; show q.val / 128 = 9; omega)
    simp only [hg, ← hq]
  case piece3 =>
    have hq : q = ⟨1024 + (x 1).val, by omega⟩ := Fin.ext h1
    have hg : (⟨q.val / 128, by omega⟩ : Fin 12) = 8 := Fin.ext (by have e : q.val = 1024 + (x 1).val := h1; show q.val / 128 = 8; omega)
    simp only [hg, ← hq]
  case piece4 =>
    have hq : q = ⟨896 + (x 1).val, by omega⟩ := Fin.ext h1
    have hg : (⟨q.val / 128, by omega⟩ : Fin 12) = 7 := Fin.ext (by have e : q.val = 896 + (x 1).val := h1; show q.val / 128 = 7; omega)
    simp only [hg, ← hq]
  case piece5 =>
    have hq : q = ⟨768 + (x 1).val, by omega⟩ := Fin.ext h1
    have hg : (⟨q.val / 128, by omega⟩ : Fin 12) = 6 := Fin.ext (by have e : q.val = 768 + (x 1).val := h1; show q.val / 128 = 6; omega)
    simp only [hg, ← hq]
  case piece6 =>
    have hq : q = ⟨640 + (x 1).val, by omega⟩ := Fin.ext h1
    have hg : (⟨q.val / 128, by omega⟩ : Fin 12) = 5 := Fin.ext (by have e : q.val = 640 + (x 1).val := h1; show q.val / 128 = 5; omega)
    simp only [hg, ← hq]
  case piece7 =>
    have hq : q = ⟨512 + (x 1).val, by omega⟩ := Fin.ext h1
    have hg : (⟨q.val / 128, by omega⟩ : Fin 12) = 4 := Fin.ext (by have e : q.val = 512 + (x 1).val := h1; show q.val / 128 = 4; omega)
    simp only [hg, ← hq]
  case piece8 =>
    have hq : q = ⟨384 + (x 1).val, by omega⟩ := Fin.ext h1
    have hg : (⟨q.val / 128, by omega⟩ : Fin 12) = 3 := Fin.ext (by have e : q.val = 384 + (x 1).val := h1; show q.val / 128 = 3; omega)
    simp only [hg, ← hq]
  case piece9 =>
    have hq : q = ⟨256 + (x 1).val, by omega⟩ := Fin.ext h1
    have hg : (⟨q.val / 128, by omega⟩ : Fin 12) = 2 := Fin.ext (by have e : q.val = 256 + (x 1).val := h1; show q.val / 128 = 2; omega)
    simp only [hg, ← hq]
  case piece10 =>
    have hq : q = ⟨128 + (x 1).val, by omega⟩ := Fin.ext h1
    have hg : (⟨q.val / 128, by omega⟩ : Fin 12) = 1 := Fin.ext (by have e : q.val = 128 + (x 1).val := h1; show q.val / 128 = 1; omega)
    simp only [hg, ← hq]
  case piece11 =>
    have hq : q = ⟨(x 1).val, by omega⟩ := Fin.ext h1
    have hg : (⟨q.val / 128, by omega⟩ : Fin 12) = 0 := Fin.ext (by have e : q.val = (x 1).val := h1; show q.val / 128 = 0; omega)
    simp only [hg, ← hq]

theorem out7u_A (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (r : Fin 128) (q : Fin 1536) :
    out0_A_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix2 r ⟨q.val, by omega⟩) =
     x2 (ix2 r q) * mixed (fun k => kernelRun0_A.sl.r_7 c arg2 harg2 arg4 harg4 arg5 harg5 x1 x3 x4 (ix2 k q)) (fun k => x5 (ix3 ⟨q.val / 128, by omega⟩ r k)) (x6 (ix2 r ⟨q.val / 128, by omega⟩)) r * slp (x0 (ix2 r q)) := by
  unfold out0_A_7
  rw [View.read_writes_eq_canon _ _ _ (cover0_A_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6)]
  have hc := cover0_A_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix2 r ⟨q.val, by omega⟩)
  unfold kernelRun0_A at hc ⊢
  dsimp only at hc ⊢

  have e : k0_pay16 (kernelRun0_A.sl.r c arg4 harg4 x3) (kernelRun0_A.sl.r_1 c arg2 harg2 x1) (kernelRun0_A.sl.r_3 c arg5 harg5 x4) (kernelRun0_A.sl.r_4 c arg2 harg2 x1) = kernelRun0_A.sl.r_7 c arg2 harg2 arg4 harg4 arg5 harg5 x1 x3 x4 := rfl
  canon_tiles x h using hc
  case piece0 =>
    exfalso
    have e : q.val = 1536 + (x 1).val := h1
    omega
  all_goals
    clear hc
    try simp only [kernelRun0_A.sl.r_102, kernelRun0_A.sl.r_101, kernelRun0_A.sl.r_100, kernelRun0_A.sl.r_99, kernelRun0_A.sl.r_98, kernelRun0_A.sl.r_97, kernelRun0_A.sl.r_96, kernelRun0_A.sl.r_95, kernelRun0_A.sl.r_94, kernelRun0_A.sl.r_93, kernelRun0_A.sl.r_92, kernelRun0_A.sl.r_91, kernelRun0_A.sl.r_90, kernelRun0_A.sl.r_89, kernelRun0_A.sl.r_88, kernelRun0_A.sl.r_87, kernelRun0_A.sl.r_86, kernelRun0_A.sl.r_85, kernelRun0_A.sl.r_84, kernelRun0_A.sl.r_83, kernelRun0_A.sl.r_82, kernelRun0_A.sl.r_81, kernelRun0_A.sl.r_80, kernelRun0_A.sl.r_79, kernelRun0_A.sl.r_78, kernelRun0_A.sl.r_77, kernelRun0_A.sl.r_76, kernelRun0_A.sl.r_75, kernelRun0_A.sl.r_74, kernelRun0_A.sl.r_73, kernelRun0_A.sl.r_72, kernelRun0_A.sl.r_71, kernelRun0_A.sl.r_70, kernelRun0_A.sl.r_69, kernelRun0_A.sl.r_68, kernelRun0_A.sl.r_67, kernelRun0_A.sl.r_66, kernelRun0_A.sl.r_65, kernelRun0_A.sl.r_64, kernelRun0_A.sl.r_63, kernelRun0_A.sl.r_62, kernelRun0_A.sl.r_61, kernelRun0_A.sl.r_60, kernelRun0_A.sl.r_59, kernelRun0_A.sl.r_58, kernelRun0_A.sl.r_57, kernelRun0_A.sl.r_56, kernelRun0_A.sl.r_55, kernelRun0_A.sl.r_54, kernelRun0_A.sl.r_53, kernelRun0_A.sl.r_52, kernelRun0_A.sl.r_51, kernelRun0_A.sl.r_50, kernelRun0_A.sl.r_49, kernelRun0_A.sl.r_48, kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38, kernelRun0_A.sl.r_37, kernelRun0_A.sl.r_36, kernelRun0_A.sl.r_35, kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8]
    try simp only [k0_pay21, k0_pay20, e]
    generalize kernelRun0_A.sl.r_7 c arg2 harg2 arg4 harg4 arg5 harg5 x1 x3 x4 = V
    clear e
    open_payloads
    simp only [View.readAt_eq_ld, Memref.IsWhole.read_unread, kernelRun0_A.sl.cst_69, kernelRun0_A.sl.cst_32, kernelRun0_A.sl.cst_125, kernelRun0_A.sl.cst_162]
    have hr : r = x 0 := Fin.ext h0
    subst hr
    pointwise [mixed, slp, th, cube, cube3]
    simp only [keep _ _ (x 0).val _ (x 0).isLt (Fin.isLt _)]
  case piece1 =>
    have hq : q = ⟨1408 + (x 1).val, by omega⟩ := Fin.ext h1
    have hg : (⟨q.val / 128, by omega⟩ : Fin 12) = 11 := Fin.ext (by have e : q.val = 1408 + (x 1).val := h1; show q.val / 128 = 11; omega)
    simp only [hg, ← hq]
  case piece2 =>
    have hq : q = ⟨1280 + (x 1).val, by omega⟩ := Fin.ext h1
    have hg : (⟨q.val / 128, by omega⟩ : Fin 12) = 10 := Fin.ext (by have e : q.val = 1280 + (x 1).val := h1; show q.val / 128 = 10; omega)
    simp only [hg, ← hq]
  case piece3 =>
    have hq : q = ⟨1152 + (x 1).val, by omega⟩ := Fin.ext h1
    have hg : (⟨q.val / 128, by omega⟩ : Fin 12) = 9 := Fin.ext (by have e : q.val = 1152 + (x 1).val := h1; show q.val / 128 = 9; omega)
    simp only [hg, ← hq]
  case piece4 =>
    have hq : q = ⟨1024 + (x 1).val, by omega⟩ := Fin.ext h1
    have hg : (⟨q.val / 128, by omega⟩ : Fin 12) = 8 := Fin.ext (by have e : q.val = 1024 + (x 1).val := h1; show q.val / 128 = 8; omega)
    simp only [hg, ← hq]
  case piece5 =>
    have hq : q = ⟨896 + (x 1).val, by omega⟩ := Fin.ext h1
    have hg : (⟨q.val / 128, by omega⟩ : Fin 12) = 7 := Fin.ext (by have e : q.val = 896 + (x 1).val := h1; show q.val / 128 = 7; omega)
    simp only [hg, ← hq]
  case piece6 =>
    have hq : q = ⟨768 + (x 1).val, by omega⟩ := Fin.ext h1
    have hg : (⟨q.val / 128, by omega⟩ : Fin 12) = 6 := Fin.ext (by have e : q.val = 768 + (x 1).val := h1; show q.val / 128 = 6; omega)
    simp only [hg, ← hq]
  case piece7 =>
    have hq : q = ⟨640 + (x 1).val, by omega⟩ := Fin.ext h1
    have hg : (⟨q.val / 128, by omega⟩ : Fin 12) = 5 := Fin.ext (by have e : q.val = 640 + (x 1).val := h1; show q.val / 128 = 5; omega)
    simp only [hg, ← hq]
  case piece8 =>
    have hq : q = ⟨512 + (x 1).val, by omega⟩ := Fin.ext h1
    have hg : (⟨q.val / 128, by omega⟩ : Fin 12) = 4 := Fin.ext (by have e : q.val = 512 + (x 1).val := h1; show q.val / 128 = 4; omega)
    simp only [hg, ← hq]
  case piece9 =>
    have hq : q = ⟨384 + (x 1).val, by omega⟩ := Fin.ext h1
    have hg : (⟨q.val / 128, by omega⟩ : Fin 12) = 3 := Fin.ext (by have e : q.val = 384 + (x 1).val := h1; show q.val / 128 = 3; omega)
    simp only [hg, ← hq]
  case piece10 =>
    have hq : q = ⟨256 + (x 1).val, by omega⟩ := Fin.ext h1
    have hg : (⟨q.val / 128, by omega⟩ : Fin 12) = 2 := Fin.ext (by have e : q.val = 256 + (x 1).val := h1; show q.val / 128 = 2; omega)
    simp only [hg, ← hq]
  case piece11 =>
    have hq : q = ⟨128 + (x 1).val, by omega⟩ := Fin.ext h1
    have hg : (⟨q.val / 128, by omega⟩ : Fin 12) = 1 := Fin.ext (by have e : q.val = 128 + (x 1).val := h1; show q.val / 128 = 1; omega)
    simp only [hg, ← hq]
  case piece12 =>
    have hq : q = ⟨(x 1).val, by omega⟩ := Fin.ext h1
    have hg : (⟨q.val / 128, by omega⟩ : Fin 12) = 0 := Fin.ext (by have e : q.val = (x 1).val := h1; show q.val / 128 = 0; omega)
    simp only [hg, ← hq]

theorem out7v_A (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (r : Fin 128) (q : Fin 1536) :
    out0_A_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix2 r ⟨1536 + q.val, by omega⟩)
      = through (fun k => act (x1 (ix2 r k))) (fun k => kernelRun0_A.sl.v892 c arg1 harg1 arg3 harg3 arg6 harg6 arg14 x0 x2 x5 (ix2 r k)) (fun k => x3 (ix2 0 k)) q * slp (x1 (ix2 r q)) := by
  unfold out0_A_7
  rw [View.read_writes_eq_canon _ _ _ (cover0_A_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6)]
  have hc := cover0_A_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix2 r ⟨1536 + q.val, by omega⟩)
  unfold kernelRun0_A at hc ⊢
  dsimp only at hc ⊢

  canon_tiles x h using hc
  case piece0 =>
    clear hc
    simp only [kernelRun0_A.sl.r_102]
    generalize kernelRun0_A.sl.v892 c arg1 harg1 arg3 harg3 arg6 harg6 arg14 x0 x2 x5 = Q
    unfold through
    simp only [← rstd_A c arg2 harg2, ← hat_A c arg2 harg2, ← slp_A c arg2 harg2]
    generalize kernelRun0_A.sl.r_5 c arg2 harg2 x1 = R
    generalize kernelRun0_A.sl.r_6 c arg2 harg2 x1 = H
    generalize kernelRun0_A.sl.r_2 c arg2 harg2 x1 = L
    simp only [kernelRun0_A.sl.r]
    open_payloads
    simp only [View.readAt_eq_ld, Memref.IsWhole.read_unread]
    have hr : r = x 0 := Fin.ext h0
    have hq : q = x 1 := Fin.ext (by have e : 1536 + q.val = 1536 + (x 1).val := h1; omega)
    subst hr hq
    pointwise [mean]
  all_goals
    exfalso
    first
    | (have e : 1536 + q.val = (x 1).val := h1; omega)
    | (have e : 1536 + q.val = _ + (x 1).val := h1; omega)

theorem out8_A (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (g : Fin 12) (r l : Fin 128) :
    out0_A_8 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix3 g r l) = 0 + if l.val ≤ r.val then ∑ j : Fin 128, x2 (ix2 r ⟨g.val * 128 + j.val, by omega⟩) * act (x0 (ix2 r ⟨g.val * 128 + j.val, by omega⟩)) * kernelRun0_A.sl.r_7 c arg2 harg2 arg4 harg4 arg5 harg5 x1 x3 x4 (ix2 l ⟨g.val * 128 + j.val, by omega⟩) else 0 := by
  unfold out0_A_8
  rw [View.read_writes_eq_canon _ _ _ (cover0_A_8 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6)]
  have hc := View.cover_of_tiledL ((kernelRun0_A c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6).2.1.take 12) S1x128x128.size (by sl_kernel_rfl) (ix3 g r l)
  rw [canon_take _ 12 _ hc]
  unfold kernelRun0_A at hc ⊢
  dsimp only at hc ⊢
  unfold kernelRun0_A.sl.H8_12 at hc ⊢
  unfold kernelRun0_A.sl.H8_11 at hc ⊢
  unfold kernelRun0_A.sl.H8_10 at hc ⊢
  unfold kernelRun0_A.sl.H8_9 at hc ⊢
  unfold kernelRun0_A.sl.H8_8 at hc ⊢
  unfold kernelRun0_A.sl.H8_7 at hc ⊢
  unfold kernelRun0_A.sl.H8_6 at hc ⊢
  unfold kernelRun0_A.sl.H8_5 at hc ⊢
  unfold kernelRun0_A.sl.H8_4 at hc ⊢
  unfold kernelRun0_A.sl.H8_3 at hc ⊢
  unfold kernelRun0_A.sl.H8_2 at hc ⊢
  unfold kernelRun0_A.sl.H8_1 at hc ⊢
  simp only [List.take_succ_cons, List.take_zero] at hc ⊢

  have e : k0_pay16 (kernelRun0_A.sl.r c arg4 harg4 x3) (kernelRun0_A.sl.r_1 c arg2 harg2 x1) (kernelRun0_A.sl.r_3 c arg5 harg5 x4) (kernelRun0_A.sl.r_4 c arg2 harg2 x1) = kernelRun0_A.sl.r_7 c arg2 harg2 arg4 harg4 arg5 harg5 x1 x3 x4 := rfl
  canon_tiles x h using hc
  all_goals
    clear hc
    obtain ⟨a, b, hx⟩ : ∃ a b : Fin 128, x = ix3 (0 : Fin 1) a b := ⟨x 1, x 2, by funext k; fin_cases k; exact Fin.ext (by have : (x 0).val < 1 := (x 0).isLt; show (x 0).val = 0; omega); rfl; rfl⟩
    subst hx
    try simp only [kernelRun0_A.sl.r_102, kernelRun0_A.sl.r_101, kernelRun0_A.sl.r_100, kernelRun0_A.sl.r_99, kernelRun0_A.sl.r_98, kernelRun0_A.sl.r_97, kernelRun0_A.sl.r_96, kernelRun0_A.sl.r_95, kernelRun0_A.sl.r_94, kernelRun0_A.sl.r_93, kernelRun0_A.sl.r_92, kernelRun0_A.sl.r_91, kernelRun0_A.sl.r_90, kernelRun0_A.sl.r_89, kernelRun0_A.sl.r_88, kernelRun0_A.sl.r_87, kernelRun0_A.sl.r_86, kernelRun0_A.sl.r_85, kernelRun0_A.sl.r_84, kernelRun0_A.sl.r_83, kernelRun0_A.sl.r_82, kernelRun0_A.sl.r_81, kernelRun0_A.sl.r_80, kernelRun0_A.sl.r_79, kernelRun0_A.sl.r_78, kernelRun0_A.sl.r_77, kernelRun0_A.sl.r_76, kernelRun0_A.sl.r_75, kernelRun0_A.sl.r_74, kernelRun0_A.sl.r_73, kernelRun0_A.sl.r_72, kernelRun0_A.sl.r_71, kernelRun0_A.sl.r_70, kernelRun0_A.sl.r_69, kernelRun0_A.sl.r_68, kernelRun0_A.sl.r_67, kernelRun0_A.sl.r_66, kernelRun0_A.sl.r_65, kernelRun0_A.sl.r_64, kernelRun0_A.sl.r_63, kernelRun0_A.sl.r_62, kernelRun0_A.sl.r_61, kernelRun0_A.sl.r_60, kernelRun0_A.sl.r_59, kernelRun0_A.sl.r_58, kernelRun0_A.sl.r_57, kernelRun0_A.sl.r_56, kernelRun0_A.sl.r_55, kernelRun0_A.sl.r_54, kernelRun0_A.sl.r_53, kernelRun0_A.sl.r_52, kernelRun0_A.sl.r_51, kernelRun0_A.sl.r_50, kernelRun0_A.sl.r_49, kernelRun0_A.sl.r_48, kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38, kernelRun0_A.sl.r_37, kernelRun0_A.sl.r_36, kernelRun0_A.sl.r_35, kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8]
    try simp only [k0_pay20, e]
    try simp only [read_0, read_1, read_2, read_3, read_4, read_5, read_6, read_7, read_8, read_9, read_10, read_11]
    generalize kernelRun0_A.sl.r_7 c arg2 harg2 arg4 harg4 arg5 harg5 x1 x3 x4 = V
    clear e
    open_payloads
    simp only [View.readAt_eq_ld, Memref.IsWhole.read_unread, kernelRun0_A.sl.cst_69, kernelRun0_A.sl.cst_32, kernelRun0_A.sl.cst_125, kernelRun0_A.sl.cst_162]
    have hr : r = a := Fin.ext h1
    have hl : l = b := Fin.ext h2
    subst hr hl
    pointwise [act, th, cube, cube3]
    simp only [keep _ _ r.val l.val r.isLt l.isLt]
  case piece0 =>
    have e : g = 11 := Fin.ext (by have := h0; show g.val = 11; change g.val = 11 + 0 at this; omega)
    subst e
    first | rfl | trace_state
  case piece1 =>
    have e : g = 10 := Fin.ext (by have := h0; show g.val = 10; change g.val = 10 + 0 at this; omega)
    subst e
    first | rfl | trace_state
  case piece2 =>
    have e : g = 9 := Fin.ext (by have := h0; show g.val = 9; change g.val = 9 + 0 at this; omega)
    subst e
    first | rfl | trace_state
  case piece3 =>
    have e : g = 8 := Fin.ext (by have := h0; show g.val = 8; change g.val = 8 + 0 at this; omega)
    subst e
    first | rfl | trace_state
  case piece4 =>
    have e : g = 7 := Fin.ext (by have := h0; show g.val = 7; change g.val = 7 + 0 at this; omega)
    subst e
    first | rfl | trace_state
  case piece5 =>
    have e : g = 6 := Fin.ext (by have := h0; show g.val = 6; change g.val = 6 + 0 at this; omega)
    subst e
    first | rfl | trace_state
  case piece6 =>
    have e : g = 5 := Fin.ext (by have := h0; show g.val = 5; change g.val = 5 + 0 at this; omega)
    subst e
    first | rfl | trace_state
  case piece7 =>
    have e : g = 4 := Fin.ext (by have := h0; show g.val = 4; change g.val = 4 + 0 at this; omega)
    subst e
    first | rfl | trace_state
  case piece8 =>
    have e : g = 3 := Fin.ext (by have := h0; show g.val = 3; change g.val = 3 + 0 at this; omega)
    subst e
    first | rfl | trace_state
  case piece9 =>
    have e : g = 2 := Fin.ext (by have := h0; show g.val = 2; change g.val = 2 + 0 at this; omega)
    subst e
    first | rfl | trace_state
  case piece10 =>
    have e : g = 1 := Fin.ext (by have := h0; show g.val = 1; change g.val = 1 + 0 at this; omega)
    subst e
    first | rfl | trace_state
  case piece11 =>
    have e : g = 0 := Fin.ext (by have := h0; show g.val = 0; change g.val = 0 at this; omega)
    subst e
    first | rfl | trace_state

theorem out9_A (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (r l : Fin 128) :
    out0_A_9 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix2 r l) = 0 + spread (fun g => ∑ j : Fin 128, x2 (ix2 r ⟨g.val * 128 + j.val, by omega⟩) * act (x0 (ix2 r ⟨g.val * 128 + j.val, by omega⟩))) l := by
  unfold out0_A_9
  rw [View.read_writes_eq_canon _ _ _ (cover0_A_9 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6)]
  have hc := View.cover_of_tiledL ((kernelRun0_A c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6).2.2.1.take 1) S128x128.size (by sl_kernel_rfl) (ix2 r l)
  rw [canon_take _ 1 _ hc]
  unfold kernelRun0_A at hc ⊢
  dsimp only at hc ⊢
  unfold kernelRun0_A.sl.H9_1 at hc ⊢
  simp only [List.take_succ_cons, List.take_zero] at hc ⊢

  canon_tiles x h using hc
  case piece0 =>
    clear hc
    obtain ⟨a, b, hx⟩ : ∃ a b : Fin 128, x = ix2 a b := ⟨x 0, x 1, by funext k; fin_cases k <;> rfl⟩
    subst hx
    try simp only [kernelRun0_A.sl.r_102, kernelRun0_A.sl.r_101, kernelRun0_A.sl.r_100, kernelRun0_A.sl.r_99, kernelRun0_A.sl.r_98, kernelRun0_A.sl.r_97, kernelRun0_A.sl.r_96, kernelRun0_A.sl.r_95, kernelRun0_A.sl.r_94, kernelRun0_A.sl.r_93, kernelRun0_A.sl.r_92, kernelRun0_A.sl.r_91, kernelRun0_A.sl.r_90, kernelRun0_A.sl.r_89, kernelRun0_A.sl.r_88, kernelRun0_A.sl.r_87, kernelRun0_A.sl.r_86, kernelRun0_A.sl.r_85, kernelRun0_A.sl.r_84, kernelRun0_A.sl.r_83, kernelRun0_A.sl.r_82, kernelRun0_A.sl.r_81, kernelRun0_A.sl.r_80, kernelRun0_A.sl.r_79, kernelRun0_A.sl.r_78, kernelRun0_A.sl.r_77, kernelRun0_A.sl.r_76, kernelRun0_A.sl.r_75, kernelRun0_A.sl.r_74, kernelRun0_A.sl.r_73, kernelRun0_A.sl.r_72, kernelRun0_A.sl.r_71, kernelRun0_A.sl.r_70, kernelRun0_A.sl.r_69, kernelRun0_A.sl.r_68, kernelRun0_A.sl.r_67, kernelRun0_A.sl.r_66, kernelRun0_A.sl.r_65, kernelRun0_A.sl.r_64, kernelRun0_A.sl.r_63, kernelRun0_A.sl.r_62, kernelRun0_A.sl.r_61, kernelRun0_A.sl.r_60, kernelRun0_A.sl.r_59, kernelRun0_A.sl.r_58, kernelRun0_A.sl.r_57, kernelRun0_A.sl.r_56, kernelRun0_A.sl.r_55, kernelRun0_A.sl.r_54, kernelRun0_A.sl.r_53, kernelRun0_A.sl.r_52, kernelRun0_A.sl.r_51, kernelRun0_A.sl.r_50, kernelRun0_A.sl.r_49, kernelRun0_A.sl.r_48, kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38, kernelRun0_A.sl.r_37, kernelRun0_A.sl.r_36, kernelRun0_A.sl.r_35, kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8]
    simp only [fill_9]
    open_payloads
    simp only [View.readAt_eq_ld, Memref.IsWhole.read_unread, kernelRun0_A.sl.cst_69, kernelRun0_A.sl.cst_32, kernelRun0_A.sl.cst_125, kernelRun0_A.sl.cst_162, kernelRun0_A.sl.v58]
    have hr : r = a := Fin.ext h0
    have hq : l = b := Fin.ext h1
    subst hr hq
    pointwise [act, th, cube, cube3]
    have hs := spread_eq (fun g : Fin 12 => ∑ j : Fin 128, x2 (ix2 r ⟨g.val * 128 + j.val, by omega⟩) * (x0 (ix2 r ⟨g.val * 128 + j.val, by omega⟩) * (Ideal.ofBits FTy.f32 1056964608#32 * (1 + th (x0 (ix2 r ⟨g.val * 128 + j.val, by omega⟩)))))) l
    unfold th cube at hs
    simp only [pick _ l.val 0 l.isLt (by decide), pick _ l.val 1 l.isLt (by decide), pick _ l.val 2 l.isLt (by decide), pick _ l.val 3 l.isLt (by decide), pick _ l.val 4 l.isLt (by decide), pick _ l.val 5 l.isLt (by decide), pick _ l.val 6 l.isLt (by decide), pick _ l.val 7 l.isLt (by decide), pick _ l.val 8 l.isLt (by decide), pick _ l.val 9 l.isLt (by decide), pick _ l.val 10 l.isLt (by decide), pick _ l.val 11 l.isLt (by decide)]
    rw [← hs]
    clear hs
    generalize Named.named (F := Ideal) κ "slope" (φ := .f32) 1027024659#32 = sl
    iterate 11
      refine congr (congrArg HAdd.hAdd ?_) ?_
      swap
      · rfl
    rw [zero_add]
    have e0 : ∀ j : Fin 128, (⟨(0 : Fin 12).val * 128 + j.val, by omega⟩ : Fin 1536) = ⟨j.val, by omega⟩ := fun j => Fin.ext (by show 0 * 128 + j.val = j.val; omega)
    simp only [e0]

theorem out10_A (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (q : Fin 1536) :
    out0_A_10 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix2 0 q) = 0 + ∑ r : Fin 128, kernelRun0_A.sl.v892 c arg1 harg1 arg3 harg3 arg6 harg6 arg14 x0 x2 x5 (ix2 r q) * hat (fun k => act (x1 (ix2 r k))) q := by
  unfold out0_A_10
  rw [View.read_writes_eq_canon _ _ _ (cover0_A_10 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6)]
  have hc := View.cover_of_tiledL ((kernelRun0_A c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6).2.2.2.1.take 1) S1x1536.size (by sl_kernel_rfl) (ix2 0 q)
  rw [canon_take _ 1 _ hc]
  unfold kernelRun0_A at hc ⊢
  dsimp only at hc ⊢
  unfold kernelRun0_A.sl.H10_1 at hc ⊢
  simp only [List.take_succ_cons, List.take_zero] at hc ⊢

  canon_tiles x h using hc
  case piece0 =>
    clear hc
    obtain ⟨b, hx⟩ : ∃ b : Fin 1536, x = ix2 (0 : Fin 1) b := ⟨x 1, by funext k; fin_cases k; exact Fin.ext h0.symm; rfl⟩
    subst hx
    try simp only [kernelRun0_A.sl.r_102, kernelRun0_A.sl.r_101, kernelRun0_A.sl.r_100, kernelRun0_A.sl.r_99, kernelRun0_A.sl.r_98, kernelRun0_A.sl.r_97, kernelRun0_A.sl.r_96, kernelRun0_A.sl.r_95, kernelRun0_A.sl.r_94, kernelRun0_A.sl.r_93, kernelRun0_A.sl.r_92, kernelRun0_A.sl.r_91, kernelRun0_A.sl.r_90, kernelRun0_A.sl.r_89, kernelRun0_A.sl.r_88, kernelRun0_A.sl.r_87, kernelRun0_A.sl.r_86, kernelRun0_A.sl.r_85, kernelRun0_A.sl.r_84, kernelRun0_A.sl.r_83, kernelRun0_A.sl.r_82, kernelRun0_A.sl.r_81, kernelRun0_A.sl.r_80, kernelRun0_A.sl.r_79, kernelRun0_A.sl.r_78, kernelRun0_A.sl.r_77, kernelRun0_A.sl.r_76, kernelRun0_A.sl.r_75, kernelRun0_A.sl.r_74, kernelRun0_A.sl.r_73, kernelRun0_A.sl.r_72, kernelRun0_A.sl.r_71, kernelRun0_A.sl.r_70, kernelRun0_A.sl.r_69, kernelRun0_A.sl.r_68, kernelRun0_A.sl.r_67, kernelRun0_A.sl.r_66, kernelRun0_A.sl.r_65, kernelRun0_A.sl.r_64, kernelRun0_A.sl.r_63, kernelRun0_A.sl.r_62, kernelRun0_A.sl.r_61, kernelRun0_A.sl.r_60, kernelRun0_A.sl.r_59, kernelRun0_A.sl.r_58, kernelRun0_A.sl.r_57, kernelRun0_A.sl.r_56, kernelRun0_A.sl.r_55, kernelRun0_A.sl.r_54, kernelRun0_A.sl.r_53, kernelRun0_A.sl.r_52, kernelRun0_A.sl.r_51, kernelRun0_A.sl.r_50, kernelRun0_A.sl.r_49, kernelRun0_A.sl.r_48, kernelRun0_A.sl.r_47, kernelRun0_A.sl.r_46, kernelRun0_A.sl.r_45, kernelRun0_A.sl.r_44, kernelRun0_A.sl.r_43, kernelRun0_A.sl.r_42, kernelRun0_A.sl.r_41, kernelRun0_A.sl.r_40, kernelRun0_A.sl.r_39, kernelRun0_A.sl.r_38, kernelRun0_A.sl.r_37, kernelRun0_A.sl.r_36, kernelRun0_A.sl.r_35, kernelRun0_A.sl.r_34, kernelRun0_A.sl.r_33, kernelRun0_A.sl.r_32, kernelRun0_A.sl.r_31, kernelRun0_A.sl.r_30, kernelRun0_A.sl.r_29, kernelRun0_A.sl.r_28, kernelRun0_A.sl.r_27, kernelRun0_A.sl.r_26, kernelRun0_A.sl.r_25, kernelRun0_A.sl.r_24, kernelRun0_A.sl.r_23, kernelRun0_A.sl.r_22, kernelRun0_A.sl.r_21, kernelRun0_A.sl.r_20, kernelRun0_A.sl.r_19, kernelRun0_A.sl.r_18, kernelRun0_A.sl.r_17, kernelRun0_A.sl.r_16, kernelRun0_A.sl.r_15, kernelRun0_A.sl.r_14, kernelRun0_A.sl.r_13, kernelRun0_A.sl.r_12, kernelRun0_A.sl.r_11, kernelRun0_A.sl.r_10, kernelRun0_A.sl.r_9, kernelRun0_A.sl.r_8]
    generalize kernelRun0_A.sl.v892 c arg1 harg1 arg3 harg3 arg6 harg6 arg14 x0 x2 x5 = Q
    simp only [← hat_A c arg2 harg2]
    generalize kernelRun0_A.sl.r_6 c arg2 harg2 x1 = H
    simp only [fill_10]
    open_payloads
    try simp only [View.readAt_eq_ld, Memref.IsWhole.read_unread]
    have hq : q = b := Fin.ext h1
    subst hq
    pointwise

theorem out11_A (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (q : Fin 1536) :
    out0_A_11 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 (ix2 0 q) = 0 + ∑ r : Fin 128, kernelRun0_A.sl.v892 c arg1 harg1 arg3 harg3 arg6 harg6 arg14 x0 x2 x5 (ix2 r q) := by
  unfold out0_A_11
  rw [View.read_writes_eq_canon _ _ _ (cover0_A_11 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6)]
  have hc := View.cover_of_tiledL ((kernelRun0_A c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6).2.2.2.2.1.take 1) S1x1536.size (by sl_kernel_rfl) (ix2 0 q)
  rw [canon_take _ 1 _ hc]
  unfold kernelRun0_A at hc ⊢
  dsimp only at hc ⊢
  unfold kernelRun0_A.sl.H11_1 at hc ⊢
  simp only [List.take_succ_cons, List.take_zero] at hc ⊢

  canon_tiles x h using hc
  case piece0 =>
    clear hc
    obtain ⟨b, hx⟩ : ∃ b : Fin 1536, x = ix2 (0 : Fin 1) b := ⟨x 1, by funext k; fin_cases k; exact Fin.ext h0.symm; rfl⟩
    subst hx
    generalize kernelRun0_A.sl.v892 c arg1 harg1 arg3 harg3 arg6 harg6 arg14 x0 x2 x5 = Q
    simp only [fill_11]
    open_payloads
    try simp only [View.readAt_eq_ld, Memref.IsWhole.read_unread]
    have hq : q = b := Fin.ext h1
    subst hq
    pointwise

theorem rstd_B (c : Dev nD) (arg2 : Memref sig .tc .vmem S128x1536 .bf16) (harg2 : arg2.IsWhole) (x1 : Vec Ideal S128x1536 .bf16) (r : Fin 128) :
    kernelRun0_B.sl.r_5 c arg2 harg2 x1 (ix2 r 0) = rstd (fun k => act (x1 (ix2 r k))) := by
  simp only [kernelRun0_B.sl.r_5, kernelRun0_B.sl.r_4, kernelRun0_B.sl.r_1]
  open_payloads
  simp only [View.readAt_eq_ld, Memref.IsWhole.read_unread]
  pointwise [rstd, mean, act, th, cube, cube3]

theorem hat_B (c : Dev nD) (arg2 : Memref sig .tc .vmem S128x1536 .bf16) (harg2 : arg2.IsWhole) (x1 : Vec Ideal S128x1536 .bf16) (r : Fin 128) (q : Fin 1536) :
    kernelRun0_B.sl.r_6 c arg2 harg2 x1 (ix2 r q) = hat (fun k => act (x1 (ix2 r k))) q := by
  simp only [kernelRun0_B.sl.r_6, kernelRun0_B.sl.r_4, kernelRun0_B.sl.r_1]
  open_payloads
  simp only [View.readAt_eq_ld, Memref.IsWhole.read_unread]
  pointwise [hat, rstd, mean, act, th, cube, cube3]

theorem slp_B (c : Dev nD) (arg2 : Memref sig .tc .vmem S128x1536 .bf16) (harg2 : arg2.IsWhole) (x1 : Vec Ideal S128x1536 .bf16) (r : Fin 128) (q : Fin 1536) :
    kernelRun0_B.sl.r_2 c arg2 harg2 x1 (ix2 r q) = slp (x1 (ix2 r q)) := by
  simp only [kernelRun0_B.sl.r_2]
  open_payloads
  simp only [View.readAt_eq_ld, Memref.IsWhole.read_unread]
  pointwise [slp, th, cube, cube3]

theorem vn_B (c : Dev nD) (arg2 : Memref sig .tc .vmem S128x1536 .bf16) (harg2 : arg2.IsWhole) (x1 : Vec Ideal S128x1536 .bf16) (r : Fin 128) (arg4 : Memref sig .tc .vmem S1x1536 .f32) (harg4 : arg4.IsWhole) (arg5 : Memref sig .tc .vmem S1x1536 .f32) (harg5 : arg5.IsWhole) (x3 x4 : Vec Ideal S1x1536 .f32) (q : Fin 1536) :
    kernelRun0_B.sl.r_7 c arg2 harg2 arg4 harg4 arg5 harg5 x1 x3 x4 (ix2 r q) = hat (fun k => act (x1 (ix2 r k))) q * x3 (ix2 0 q) + x4 (ix2 0 q) := by
  rw [← hat_B c arg2 harg2]
  simp only [kernelRun0_B.sl.r_7, kernelRun0_B.sl.r_6, kernelRun0_B.sl.r, kernelRun0_B.sl.r_3]
  unfold k0_pay16
  simp only [View.readAt_eq_ld, Memref.IsWhole.read_unread]
  generalize k0_pay15 (kernelRun0_B.sl.r_1 c arg2 harg2 x1) (kernelRun0_B.sl.r_4 c arg2 harg2 x1) = H
  pointwise

theorem dvn_B (c : Dev nD) (arg1 : Memref sig .tc .vmem S128x1536 .bf16) (harg1 : arg1.IsWhole) (arg3 : Memref sig .tc .vmem S128x1536 .bf16) (harg3 : arg3.IsWhole) (arg6 : Memref sig .tc .vmem S12x128x128 .f32) (harg6 : arg6.IsWhole) (arg14 : Memref sig .tc .vmem S128x1536 .f32)
   (x0 : Vec Ideal S128x1536 .bf16) (x2 : Vec Ideal S128x1536 .bf16) (x5 : Vec Ideal S12x128x128 .f32) (r : Fin 128) (q : Fin 1536) :
    kernelRun0_B.sl.v892 c arg1 harg1 arg3 harg3 arg6 harg6 arg14 x0 x2 x5 (ix2 r q) =
     back (fun k => x0 (ix2 k q)) (fun k => x2 (ix2 k q)) (fun k => x5 (ix3 ⟨q.val / 128, by omega⟩ k r)) r := by
  unfold kernelRun0_B.sl.v892
  rw [View.readCov_eq_canon']
  have hi : ((Rect.unit ![0, 0] S128x1536.size inb_S128x1536_S128x1536_0_0).toLoadRect.idx (ix2 r q) : S128x1536.Idx) = ix2 r q := by
    funext a; apply Fin.ext; fin_cases a
    · show 0 + 1 * r.val = r.val; omega
    · show 0 + 1 * q.val = q.val; omega
  have hc := View.cover_of_tiledL (kernelRun0_B.sl.HS0_12 c arg1 harg1 arg3 harg3 arg6 harg6 x0 x2 x5) S128x128.size (by sl_kernel_rfl) (ix2 r q)
  dsimp only
  rw [hi]
  unfold kernelRun0_B.sl.HS0_12 at hc ⊢
  dsimp only at hc ⊢
  canon_tiles x h using hc
  all_goals
    clear hc hi
    try simp only [kernelRun0_B.sl.r_102, kernelRun0_B.sl.r_101, kernelRun0_B.sl.r_100, kernelRun0_B.sl.r_99, kernelRun0_B.sl.r_98, kernelRun0_B.sl.r_97, kernelRun0_B.sl.r_96, kernelRun0_B.sl.r_95, kernelRun0_B.sl.r_94, kernelRun0_B.sl.r_93, kernelRun0_B.sl.r_92, kernelRun0_B.sl.r_91, kernelRun0_B.sl.r_90, kernelRun0_B.sl.r_89, kernelRun0_B.sl.r_88, kernelRun0_B.sl.r_87, kernelRun0_B.sl.r_86, kernelRun0_B.sl.r_85, kernelRun0_B.sl.r_84, kernelRun0_B.sl.r_83, kernelRun0_B.sl.r_82, kernelRun0_B.sl.r_81, kernelRun0_B.sl.r_80, kernelRun0_B.sl.r_79, kernelRun0_B.sl.r_78, kernelRun0_B.sl.r_77, kernelRun0_B.sl.r_76, kernelRun0_B.sl.r_75, kernelRun0_B.sl.r_74, kernelRun0_B.sl.r_73, kernelRun0_B.sl.r_72, kernelRun0_B.sl.r_71, kernelRun0_B.sl.r_70, kernelRun0_B.sl.r_69, kernelRun0_B.sl.r_68, kernelRun0_B.sl.r_67, kernelRun0_B.sl.r_66, kernelRun0_B.sl.r_65, kernelRun0_B.sl.r_64, kernelRun0_B.sl.r_63, kernelRun0_B.sl.r_62, kernelRun0_B.sl.r_61, kernelRun0_B.sl.r_60, kernelRun0_B.sl.r_59, kernelRun0_B.sl.r_58, kernelRun0_B.sl.r_57, kernelRun0_B.sl.r_56, kernelRun0_B.sl.r_55, kernelRun0_B.sl.r_54, kernelRun0_B.sl.r_53, kernelRun0_B.sl.r_52, kernelRun0_B.sl.r_51, kernelRun0_B.sl.r_50, kernelRun0_B.sl.r_49, kernelRun0_B.sl.r_48, kernelRun0_B.sl.r_47, kernelRun0_B.sl.r_46, kernelRun0_B.sl.r_45, kernelRun0_B.sl.r_44, kernelRun0_B.sl.r_43, kernelRun0_B.sl.r_42, kernelRun0_B.sl.r_41, kernelRun0_B.sl.r_40, kernelRun0_B.sl.r_39, kernelRun0_B.sl.r_38, kernelRun0_B.sl.r_37, kernelRun0_B.sl.r_36, kernelRun0_B.sl.r_35, kernelRun0_B.sl.r_34, kernelRun0_B.sl.r_33, kernelRun0_B.sl.r_32, kernelRun0_B.sl.r_31, kernelRun0_B.sl.r_30, kernelRun0_B.sl.r_29, kernelRun0_B.sl.r_28, kernelRun0_B.sl.r_27, kernelRun0_B.sl.r_26, kernelRun0_B.sl.r_25, kernelRun0_B.sl.r_24, kernelRun0_B.sl.r_23, kernelRun0_B.sl.r_22, kernelRun0_B.sl.r_21, kernelRun0_B.sl.r_20, kernelRun0_B.sl.r_19, kernelRun0_B.sl.r_18, kernelRun0_B.sl.r_17, kernelRun0_B.sl.r_16, kernelRun0_B.sl.r_15, kernelRun0_B.sl.r_14, kernelRun0_B.sl.r_13, kernelRun0_B.sl.r_12, kernelRun0_B.sl.r_11, kernelRun0_B.sl.r_10, kernelRun0_B.sl.r_9, kernelRun0_B.sl.r_8]
    open_payloads
    simp only [View.readAt_eq_ld, Memref.IsWhole.read_unread, kernelRun0_B.sl.cst_69, kernelRun0_B.sl.cst_32, kernelRun0_B.sl.cst_125, kernelRun0_B.sl.cst_162]
    have hr : r = x 0 := Fin.ext h0
    subst hr
    pointwise [back, act, th, cube, cube3]
    simp only [keep _ _ _ (x 0).val (Fin.isLt _) (x 0).isLt]
  case piece0 =>
    have hq : q = ⟨1408 + (x 1).val, by omega⟩ := Fin.ext h1
    have hg : (⟨q.val / 128, by omega⟩ : Fin 12) = 11 := Fin.ext (by have e : q.val = 1408 + (x 1).val := h1; show q.val / 128 = 11; omega)
    simp only [hg, ← hq]
  case piece1 =>
    have hq : q = ⟨1280 + (x 1).val, by omega⟩ := Fin.ext h1
    have hg : (⟨q.val / 128, by omega⟩ : Fin 12) = 10 := Fin.ext (by have e : q.val = 1280 + (x 1).val := h1; show q.val / 128 = 10; omega)
    simp only [hg, ← hq]
  case piece2 =>
    have hq : q = ⟨1152 + (x 1).val, by omega⟩ := Fin.ext h1
    have hg : (⟨q.val / 128, by omega⟩ : Fin 12) = 9 := Fin.ext (by have e : q.val = 1152 + (x 1).val := h1; show q.val / 128 = 9; omega)
    simp only [hg, ← hq]
  case piece3 =>
    have hq : q = ⟨1024 + (x 1).val, by omega⟩ := Fin.ext h1
    have hg : (⟨q.val / 128, by omega⟩ : Fin 12) = 8 := Fin.ext (by have e : q.val = 1024 + (x 1).val := h1; show q.val / 128 = 8; omega)
    simp only [hg, ← hq]
  case piece4 =>
    have hq : q = ⟨896 + (x 1).val, by omega⟩ := Fin.ext h1
    have hg : (⟨q.val / 128, by omega⟩ : Fin 12) = 7 := Fin.ext (by have e : q.val = 896 + (x 1).val := h1; show q.val / 128 = 7; omega)
    simp only [hg, ← hq]
  case piece5 =>
    have hq : q = ⟨768 + (x 1).val, by omega⟩ := Fin.ext h1
    have hg : (⟨q.val / 128, by omega⟩ : Fin 12) = 6 := Fin.ext (by have e : q.val = 768 + (x 1).val := h1; show q.val / 128 = 6; omega)
    simp only [hg, ← hq]
  case piece6 =>
    have hq : q = ⟨640 + (x 1).val, by omega⟩ := Fin.ext h1
    have hg : (⟨q.val / 128, by omega⟩ : Fin 12) = 5 := Fin.ext (by have e : q.val = 640 + (x 1).val := h1; show q.val / 128 = 5; omega)
    simp only [hg, ← hq]
  case piece7 =>
    have hq : q = ⟨512 + (x 1).val, by omega⟩ := Fin.ext h1
    have hg : (⟨q.val / 128, by omega⟩ : Fin 12) = 4 := Fin.ext (by have e : q.val = 512 + (x 1).val := h1; show q.val / 128 = 4; omega)
    simp only [hg, ← hq]
  case piece8 =>
    have hq : q = ⟨384 + (x 1).val, by omega⟩ := Fin.ext h1
    have hg : (⟨q.val / 128, by omega⟩ : Fin 12) = 3 := Fin.ext (by have e : q.val = 384 + (x 1).val := h1; show q.val / 128 = 3; omega)
    simp only [hg, ← hq]
  case piece9 =>
    have hq : q = ⟨256 + (x 1).val, by omega⟩ := Fin.ext h1
    have hg : (⟨q.val / 128, by omega⟩ : Fin 12) = 2 := Fin.ext (by have e : q.val = 256 + (x 1).val := h1; show q.val / 128 = 2; omega)
    simp only [hg, ← hq]
  case piece10 =>
    have hq : q = ⟨128 + (x 1).val, by omega⟩ := Fin.ext h1
    have hg : (⟨q.val / 128, by omega⟩ : Fin 12) = 1 := Fin.ext (by have e : q.val = 128 + (x 1).val := h1; show q.val / 128 = 1; omega)
    simp only [hg, ← hq]
  case piece11 =>
    have hq : q = ⟨(x 1).val, by omega⟩ := Fin.ext h1
    have hg : (⟨q.val / 128, by omega⟩ : Fin 12) = 0 := Fin.ext (by have e : q.val = (x 1).val := h1; show q.val / 128 = 0; omega)
    simp only [hg, ← hq]

theorem out7u_B (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : ¬cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (xo8 : Vec Ideal S12x128x128 .f32) (xo9 : Vec Ideal S128x128 .f32) (xo10 : Vec Ideal S1x1536 .f32) (xo11 : Vec Ideal S1x1536 .f32) (r : Fin 128) (q : Fin 1536) :
    out0_B_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 r ⟨q.val, by omega⟩) =
     x2 (ix2 r q) * mixed (fun k => kernelRun0_B.sl.r_7 c arg2 harg2 arg4 harg4 arg5 harg5 x1 x3 x4 (ix2 k q)) (fun k => x5 (ix3 ⟨q.val / 128, by omega⟩ r k)) (x6 (ix2 r ⟨q.val / 128, by omega⟩)) r * slp (x0 (ix2 r q)) := by
  unfold out0_B_7
  rw [View.read_writes_eq_canon _ _ _ (cover0_B_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11)]
  have hc := cover0_B_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 r ⟨q.val, by omega⟩)
  unfold kernelRun0_B at hc ⊢
  dsimp only at hc ⊢

  have e : k0_pay16 (kernelRun0_B.sl.r c arg4 harg4 x3) (kernelRun0_B.sl.r_1 c arg2 harg2 x1) (kernelRun0_B.sl.r_3 c arg5 harg5 x4) (kernelRun0_B.sl.r_4 c arg2 harg2 x1) = kernelRun0_B.sl.r_7 c arg2 harg2 arg4 harg4 arg5 harg5 x1 x3 x4 := rfl
  canon_tiles x h using hc
  case piece0 =>
    exfalso
    have e : q.val = 1536 + (x 1).val := h1
    omega
  all_goals
    clear hc
    try simp only [kernelRun0_B.sl.r_102, kernelRun0_B.sl.r_101, kernelRun0_B.sl.r_100, kernelRun0_B.sl.r_99, kernelRun0_B.sl.r_98, kernelRun0_B.sl.r_97, kernelRun0_B.sl.r_96, kernelRun0_B.sl.r_95, kernelRun0_B.sl.r_94, kernelRun0_B.sl.r_93, kernelRun0_B.sl.r_92, kernelRun0_B.sl.r_91, kernelRun0_B.sl.r_90, kernelRun0_B.sl.r_89, kernelRun0_B.sl.r_88, kernelRun0_B.sl.r_87, kernelRun0_B.sl.r_86, kernelRun0_B.sl.r_85, kernelRun0_B.sl.r_84, kernelRun0_B.sl.r_83, kernelRun0_B.sl.r_82, kernelRun0_B.sl.r_81, kernelRun0_B.sl.r_80, kernelRun0_B.sl.r_79, kernelRun0_B.sl.r_78, kernelRun0_B.sl.r_77, kernelRun0_B.sl.r_76, kernelRun0_B.sl.r_75, kernelRun0_B.sl.r_74, kernelRun0_B.sl.r_73, kernelRun0_B.sl.r_72, kernelRun0_B.sl.r_71, kernelRun0_B.sl.r_70, kernelRun0_B.sl.r_69, kernelRun0_B.sl.r_68, kernelRun0_B.sl.r_67, kernelRun0_B.sl.r_66, kernelRun0_B.sl.r_65, kernelRun0_B.sl.r_64, kernelRun0_B.sl.r_63, kernelRun0_B.sl.r_62, kernelRun0_B.sl.r_61, kernelRun0_B.sl.r_60, kernelRun0_B.sl.r_59, kernelRun0_B.sl.r_58, kernelRun0_B.sl.r_57, kernelRun0_B.sl.r_56, kernelRun0_B.sl.r_55, kernelRun0_B.sl.r_54, kernelRun0_B.sl.r_53, kernelRun0_B.sl.r_52, kernelRun0_B.sl.r_51, kernelRun0_B.sl.r_50, kernelRun0_B.sl.r_49, kernelRun0_B.sl.r_48, kernelRun0_B.sl.r_47, kernelRun0_B.sl.r_46, kernelRun0_B.sl.r_45, kernelRun0_B.sl.r_44, kernelRun0_B.sl.r_43, kernelRun0_B.sl.r_42, kernelRun0_B.sl.r_41, kernelRun0_B.sl.r_40, kernelRun0_B.sl.r_39, kernelRun0_B.sl.r_38, kernelRun0_B.sl.r_37, kernelRun0_B.sl.r_36, kernelRun0_B.sl.r_35, kernelRun0_B.sl.r_34, kernelRun0_B.sl.r_33, kernelRun0_B.sl.r_32, kernelRun0_B.sl.r_31, kernelRun0_B.sl.r_30, kernelRun0_B.sl.r_29, kernelRun0_B.sl.r_28, kernelRun0_B.sl.r_27, kernelRun0_B.sl.r_26, kernelRun0_B.sl.r_25, kernelRun0_B.sl.r_24, kernelRun0_B.sl.r_23, kernelRun0_B.sl.r_22, kernelRun0_B.sl.r_21, kernelRun0_B.sl.r_20, kernelRun0_B.sl.r_19, kernelRun0_B.sl.r_18, kernelRun0_B.sl.r_17, kernelRun0_B.sl.r_16, kernelRun0_B.sl.r_15, kernelRun0_B.sl.r_14, kernelRun0_B.sl.r_13, kernelRun0_B.sl.r_12, kernelRun0_B.sl.r_11, kernelRun0_B.sl.r_10, kernelRun0_B.sl.r_9, kernelRun0_B.sl.r_8]
    try simp only [k0_pay21, k0_pay20, e]
    generalize kernelRun0_B.sl.r_7 c arg2 harg2 arg4 harg4 arg5 harg5 x1 x3 x4 = V
    clear e
    open_payloads
    simp only [View.readAt_eq_ld, Memref.IsWhole.read_unread, kernelRun0_B.sl.cst_69, kernelRun0_B.sl.cst_32, kernelRun0_B.sl.cst_125, kernelRun0_B.sl.cst_162]
    have hr : r = x 0 := Fin.ext h0
    subst hr
    pointwise [mixed, slp, th, cube, cube3]
    simp only [keep _ _ (x 0).val _ (x 0).isLt (Fin.isLt _)]
  case piece1 =>
    have hq : q = ⟨1408 + (x 1).val, by omega⟩ := Fin.ext h1
    have hg : (⟨q.val / 128, by omega⟩ : Fin 12) = 11 := Fin.ext (by have e : q.val = 1408 + (x 1).val := h1; show q.val / 128 = 11; omega)
    simp only [hg, ← hq]
  case piece2 =>
    have hq : q = ⟨1280 + (x 1).val, by omega⟩ := Fin.ext h1
    have hg : (⟨q.val / 128, by omega⟩ : Fin 12) = 10 := Fin.ext (by have e : q.val = 1280 + (x 1).val := h1; show q.val / 128 = 10; omega)
    simp only [hg, ← hq]
  case piece3 =>
    have hq : q = ⟨1152 + (x 1).val, by omega⟩ := Fin.ext h1
    have hg : (⟨q.val / 128, by omega⟩ : Fin 12) = 9 := Fin.ext (by have e : q.val = 1152 + (x 1).val := h1; show q.val / 128 = 9; omega)
    simp only [hg, ← hq]
  case piece4 =>
    have hq : q = ⟨1024 + (x 1).val, by omega⟩ := Fin.ext h1
    have hg : (⟨q.val / 128, by omega⟩ : Fin 12) = 8 := Fin.ext (by have e : q.val = 1024 + (x 1).val := h1; show q.val / 128 = 8; omega)
    simp only [hg, ← hq]
  case piece5 =>
    have hq : q = ⟨896 + (x 1).val, by omega⟩ := Fin.ext h1
    have hg : (⟨q.val / 128, by omega⟩ : Fin 12) = 7 := Fin.ext (by have e : q.val = 896 + (x 1).val := h1; show q.val / 128 = 7; omega)
    simp only [hg, ← hq]
  case piece6 =>
    have hq : q = ⟨768 + (x 1).val, by omega⟩ := Fin.ext h1
    have hg : (⟨q.val / 128, by omega⟩ : Fin 12) = 6 := Fin.ext (by have e : q.val = 768 + (x 1).val := h1; show q.val / 128 = 6; omega)
    simp only [hg, ← hq]
  case piece7 =>
    have hq : q = ⟨640 + (x 1).val, by omega⟩ := Fin.ext h1
    have hg : (⟨q.val / 128, by omega⟩ : Fin 12) = 5 := Fin.ext (by have e : q.val = 640 + (x 1).val := h1; show q.val / 128 = 5; omega)
    simp only [hg, ← hq]
  case piece8 =>
    have hq : q = ⟨512 + (x 1).val, by omega⟩ := Fin.ext h1
    have hg : (⟨q.val / 128, by omega⟩ : Fin 12) = 4 := Fin.ext (by have e : q.val = 512 + (x 1).val := h1; show q.val / 128 = 4; omega)
    simp only [hg, ← hq]
  case piece9 =>
    have hq : q = ⟨384 + (x 1).val, by omega⟩ := Fin.ext h1
    have hg : (⟨q.val / 128, by omega⟩ : Fin 12) = 3 := Fin.ext (by have e : q.val = 384 + (x 1).val := h1; show q.val / 128 = 3; omega)
    simp only [hg, ← hq]
  case piece10 =>
    have hq : q = ⟨256 + (x 1).val, by omega⟩ := Fin.ext h1
    have hg : (⟨q.val / 128, by omega⟩ : Fin 12) = 2 := Fin.ext (by have e : q.val = 256 + (x 1).val := h1; show q.val / 128 = 2; omega)
    simp only [hg, ← hq]
  case piece11 =>
    have hq : q = ⟨128 + (x 1).val, by omega⟩ := Fin.ext h1
    have hg : (⟨q.val / 128, by omega⟩ : Fin 12) = 1 := Fin.ext (by have e : q.val = 128 + (x 1).val := h1; show q.val / 128 = 1; omega)
    simp only [hg, ← hq]
  case piece12 =>
    have hq : q = ⟨(x 1).val, by omega⟩ := Fin.ext h1
    have hg : (⟨q.val / 128, by omega⟩ : Fin 12) = 0 := Fin.ext (by have e : q.val = (x 1).val := h1; show q.val / 128 = 0; omega)
    simp only [hg, ← hq]

theorem out7v_B (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : ¬cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (xo8 : Vec Ideal S12x128x128 .f32) (xo9 : Vec Ideal S128x128 .f32) (xo10 : Vec Ideal S1x1536 .f32) (xo11 : Vec Ideal S1x1536 .f32) (r : Fin 128) (q : Fin 1536) :
    out0_B_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 r ⟨1536 + q.val, by omega⟩)
      = through (fun k => act (x1 (ix2 r k))) (fun k => kernelRun0_B.sl.v892 c arg1 harg1 arg3 harg3 arg6 harg6 arg14 x0 x2 x5 (ix2 r k)) (fun k => x3 (ix2 0 k)) q * slp (x1 (ix2 r q)) := by
  unfold out0_B_7
  rw [View.read_writes_eq_canon _ _ _ (cover0_B_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11)]
  have hc := cover0_B_7 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 r ⟨1536 + q.val, by omega⟩)
  unfold kernelRun0_B at hc ⊢
  dsimp only at hc ⊢

  canon_tiles x h using hc
  case piece0 =>
    clear hc
    simp only [kernelRun0_B.sl.r_102]
    generalize kernelRun0_B.sl.v892 c arg1 harg1 arg3 harg3 arg6 harg6 arg14 x0 x2 x5 = Q
    unfold through
    simp only [← rstd_B c arg2 harg2, ← hat_B c arg2 harg2, ← slp_B c arg2 harg2]
    generalize kernelRun0_B.sl.r_5 c arg2 harg2 x1 = R
    generalize kernelRun0_B.sl.r_6 c arg2 harg2 x1 = H
    generalize kernelRun0_B.sl.r_2 c arg2 harg2 x1 = L
    simp only [kernelRun0_B.sl.r]
    open_payloads
    simp only [View.readAt_eq_ld, Memref.IsWhole.read_unread]
    have hr : r = x 0 := Fin.ext h0
    have hq : q = x 1 := Fin.ext (by have e : 1536 + q.val = 1536 + (x 1).val := h1; omega)
    subst hr hq
    pointwise [mean]
  all_goals
    exfalso
    first
    | (have e : 1536 + q.val = (x 1).val := h1; omega)
    | (have e : 1536 + q.val = _ + (x 1).val := h1; omega)

theorem out8_B (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : ¬cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (xo8 : Vec Ideal S12x128x128 .f32) (xo9 : Vec Ideal S128x128 .f32) (xo10 : Vec Ideal S1x1536 .f32) (xo11 : Vec Ideal S1x1536 .f32) (g : Fin 12) (r l : Fin 128) :
    out0_B_8 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix3 g r l) = xo8 (ix3 g r l) + if l.val ≤ r.val then ∑ j : Fin 128, x2 (ix2 r ⟨g.val * 128 + j.val, by omega⟩) * act (x0 (ix2 r ⟨g.val * 128 + j.val, by omega⟩)) * kernelRun0_B.sl.r_7 c arg2 harg2 arg4 harg4 arg5 harg5 x1 x3 x4 (ix2 l ⟨g.val * 128 + j.val, by omega⟩) else 0 := by
  unfold out0_B_8
  rw [View.read_writes_eq_canon _ _ _ (cover0_B_8 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11)]
  have hc := cover0_B_8 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix3 g r l)
  unfold kernelRun0_B at hc ⊢
  dsimp only at hc ⊢

  have e : k0_pay16 (kernelRun0_B.sl.r c arg4 harg4 x3) (kernelRun0_B.sl.r_1 c arg2 harg2 x1) (kernelRun0_B.sl.r_3 c arg5 harg5 x4) (kernelRun0_B.sl.r_4 c arg2 harg2 x1) = kernelRun0_B.sl.r_7 c arg2 harg2 arg4 harg4 arg5 harg5 x1 x3 x4 := rfl
  canon_tiles x h using hc
  all_goals
    clear hc
    obtain ⟨a, b, hx⟩ : ∃ a b : Fin 128, x = ix3 (0 : Fin 1) a b := ⟨x 1, x 2, by funext k; fin_cases k; exact Fin.ext (by have : (x 0).val < 1 := (x 0).isLt; show (x 0).val = 0; omega); rfl; rfl⟩
    subst hx
    try simp only [kernelRun0_B.sl.r_102, kernelRun0_B.sl.r_101, kernelRun0_B.sl.r_100, kernelRun0_B.sl.r_99, kernelRun0_B.sl.r_98, kernelRun0_B.sl.r_97, kernelRun0_B.sl.r_96, kernelRun0_B.sl.r_95, kernelRun0_B.sl.r_94, kernelRun0_B.sl.r_93, kernelRun0_B.sl.r_92, kernelRun0_B.sl.r_91, kernelRun0_B.sl.r_90, kernelRun0_B.sl.r_89, kernelRun0_B.sl.r_88, kernelRun0_B.sl.r_87, kernelRun0_B.sl.r_86, kernelRun0_B.sl.r_85, kernelRun0_B.sl.r_84, kernelRun0_B.sl.r_83, kernelRun0_B.sl.r_82, kernelRun0_B.sl.r_81, kernelRun0_B.sl.r_80, kernelRun0_B.sl.r_79, kernelRun0_B.sl.r_78, kernelRun0_B.sl.r_77, kernelRun0_B.sl.r_76, kernelRun0_B.sl.r_75, kernelRun0_B.sl.r_74, kernelRun0_B.sl.r_73, kernelRun0_B.sl.r_72, kernelRun0_B.sl.r_71, kernelRun0_B.sl.r_70, kernelRun0_B.sl.r_69, kernelRun0_B.sl.r_68, kernelRun0_B.sl.r_67, kernelRun0_B.sl.r_66, kernelRun0_B.sl.r_65, kernelRun0_B.sl.r_64, kernelRun0_B.sl.r_63, kernelRun0_B.sl.r_62, kernelRun0_B.sl.r_61, kernelRun0_B.sl.r_60, kernelRun0_B.sl.r_59, kernelRun0_B.sl.r_58, kernelRun0_B.sl.r_57, kernelRun0_B.sl.r_56, kernelRun0_B.sl.r_55, kernelRun0_B.sl.r_54, kernelRun0_B.sl.r_53, kernelRun0_B.sl.r_52, kernelRun0_B.sl.r_51, kernelRun0_B.sl.r_50, kernelRun0_B.sl.r_49, kernelRun0_B.sl.r_48, kernelRun0_B.sl.r_47, kernelRun0_B.sl.r_46, kernelRun0_B.sl.r_45, kernelRun0_B.sl.r_44, kernelRun0_B.sl.r_43, kernelRun0_B.sl.r_42, kernelRun0_B.sl.r_41, kernelRun0_B.sl.r_40, kernelRun0_B.sl.r_39, kernelRun0_B.sl.r_38, kernelRun0_B.sl.r_37, kernelRun0_B.sl.r_36, kernelRun0_B.sl.r_35, kernelRun0_B.sl.r_34, kernelRun0_B.sl.r_33, kernelRun0_B.sl.r_32, kernelRun0_B.sl.r_31, kernelRun0_B.sl.r_30, kernelRun0_B.sl.r_29, kernelRun0_B.sl.r_28, kernelRun0_B.sl.r_27, kernelRun0_B.sl.r_26, kernelRun0_B.sl.r_25, kernelRun0_B.sl.r_24, kernelRun0_B.sl.r_23, kernelRun0_B.sl.r_22, kernelRun0_B.sl.r_21, kernelRun0_B.sl.r_20, kernelRun0_B.sl.r_19, kernelRun0_B.sl.r_18, kernelRun0_B.sl.r_17, kernelRun0_B.sl.r_16, kernelRun0_B.sl.r_15, kernelRun0_B.sl.r_14, kernelRun0_B.sl.r_13, kernelRun0_B.sl.r_12, kernelRun0_B.sl.r_11, kernelRun0_B.sl.r_10, kernelRun0_B.sl.r_9, kernelRun0_B.sl.r_8]
    try simp only [k0_pay20, e]
    generalize kernelRun0_B.sl.r_7 c arg2 harg2 arg4 harg4 arg5 harg5 x1 x3 x4 = V
    clear e
    open_payloads
    simp only [kernelRun0_B.sl.v181, kernelRun0_B.sl.v250, kernelRun0_B.sl.v319, kernelRun0_B.sl.v388, kernelRun0_B.sl.v457, kernelRun0_B.sl.v526, kernelRun0_B.sl.v595, kernelRun0_B.sl.v664, kernelRun0_B.sl.v733, kernelRun0_B.sl.v802, kernelRun0_B.sl.v871, View.readAt_eq_ld, Memref.IsWhole.read_unread, kernelRun0_B.sl.cst_69, kernelRun0_B.sl.cst_32, kernelRun0_B.sl.cst_125, kernelRun0_B.sl.cst_162]
    have hr : r = a := Fin.ext h1
    have hl : l = b := Fin.ext h2
    subst hr hl
    pointwise [act, th, cube, cube3]
    simp only [keep _ _ r.val l.val r.isLt l.isLt]
  case piece0 =>
    have e : g = 11 := Fin.ext (by have := h0; show g.val = 11; change g.val = 11 + 0 at this; omega)
    subst e
    first | rfl | trace_state
  case piece1 =>
    have e : g = 10 := Fin.ext (by have := h0; show g.val = 10; change g.val = 10 + 0 at this; omega)
    subst e
    first | rfl | trace_state
  case piece2 =>
    have e : g = 9 := Fin.ext (by have := h0; show g.val = 9; change g.val = 9 + 0 at this; omega)
    subst e
    first | rfl | trace_state
  case piece3 =>
    have e : g = 8 := Fin.ext (by have := h0; show g.val = 8; change g.val = 8 + 0 at this; omega)
    subst e
    first | rfl | trace_state
  case piece4 =>
    have e : g = 7 := Fin.ext (by have := h0; show g.val = 7; change g.val = 7 + 0 at this; omega)
    subst e
    first | rfl | trace_state
  case piece5 =>
    have e : g = 6 := Fin.ext (by have := h0; show g.val = 6; change g.val = 6 + 0 at this; omega)
    subst e
    first | rfl | trace_state
  case piece6 =>
    have e : g = 5 := Fin.ext (by have := h0; show g.val = 5; change g.val = 5 + 0 at this; omega)
    subst e
    first | rfl | trace_state
  case piece7 =>
    have e : g = 4 := Fin.ext (by have := h0; show g.val = 4; change g.val = 4 + 0 at this; omega)
    subst e
    first | rfl | trace_state
  case piece8 =>
    have e : g = 3 := Fin.ext (by have := h0; show g.val = 3; change g.val = 3 + 0 at this; omega)
    subst e
    first | rfl | trace_state
  case piece9 =>
    have e : g = 2 := Fin.ext (by have := h0; show g.val = 2; change g.val = 2 + 0 at this; omega)
    subst e
    first | rfl | trace_state
  case piece10 =>
    have e : g = 1 := Fin.ext (by have := h0; show g.val = 1; change g.val = 1 + 0 at this; omega)
    subst e
    first | rfl | trace_state
  case piece11 =>
    have e : g = 0 := Fin.ext (by have := h0; show g.val = 0; change g.val = 0 at this; omega)
    subst e
    first | rfl | trace_state

theorem out9_B (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : ¬cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (xo8 : Vec Ideal S12x128x128 .f32) (xo9 : Vec Ideal S128x128 .f32) (xo10 : Vec Ideal S1x1536 .f32) (xo11 : Vec Ideal S1x1536 .f32) (r l : Fin 128) :
    out0_B_9 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 r l) = xo9 (ix2 r l) + spread (fun g => ∑ j : Fin 128, x2 (ix2 r ⟨g.val * 128 + j.val, by omega⟩) * act (x0 (ix2 r ⟨g.val * 128 + j.val, by omega⟩))) l := by
  unfold out0_B_9
  rw [View.read_writes_eq_canon _ _ _ (cover0_B_9 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11)]
  have hc := cover0_B_9 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 r l)
  unfold kernelRun0_B at hc ⊢
  dsimp only at hc ⊢

  canon_tiles x h using hc
  case piece0 =>
    clear hc
    obtain ⟨a, b, hx⟩ : ∃ a b : Fin 128, x = ix2 a b := ⟨x 0, x 1, by funext k; fin_cases k <;> rfl⟩
    subst hx
    try simp only [kernelRun0_B.sl.r_102, kernelRun0_B.sl.r_101, kernelRun0_B.sl.r_100, kernelRun0_B.sl.r_99, kernelRun0_B.sl.r_98, kernelRun0_B.sl.r_97, kernelRun0_B.sl.r_96, kernelRun0_B.sl.r_95, kernelRun0_B.sl.r_94, kernelRun0_B.sl.r_93, kernelRun0_B.sl.r_92, kernelRun0_B.sl.r_91, kernelRun0_B.sl.r_90, kernelRun0_B.sl.r_89, kernelRun0_B.sl.r_88, kernelRun0_B.sl.r_87, kernelRun0_B.sl.r_86, kernelRun0_B.sl.r_85, kernelRun0_B.sl.r_84, kernelRun0_B.sl.r_83, kernelRun0_B.sl.r_82, kernelRun0_B.sl.r_81, kernelRun0_B.sl.r_80, kernelRun0_B.sl.r_79, kernelRun0_B.sl.r_78, kernelRun0_B.sl.r_77, kernelRun0_B.sl.r_76, kernelRun0_B.sl.r_75, kernelRun0_B.sl.r_74, kernelRun0_B.sl.r_73, kernelRun0_B.sl.r_72, kernelRun0_B.sl.r_71, kernelRun0_B.sl.r_70, kernelRun0_B.sl.r_69, kernelRun0_B.sl.r_68, kernelRun0_B.sl.r_67, kernelRun0_B.sl.r_66, kernelRun0_B.sl.r_65, kernelRun0_B.sl.r_64, kernelRun0_B.sl.r_63, kernelRun0_B.sl.r_62, kernelRun0_B.sl.r_61, kernelRun0_B.sl.r_60, kernelRun0_B.sl.r_59, kernelRun0_B.sl.r_58, kernelRun0_B.sl.r_57, kernelRun0_B.sl.r_56, kernelRun0_B.sl.r_55, kernelRun0_B.sl.r_54, kernelRun0_B.sl.r_53, kernelRun0_B.sl.r_52, kernelRun0_B.sl.r_51, kernelRun0_B.sl.r_50, kernelRun0_B.sl.r_49, kernelRun0_B.sl.r_48, kernelRun0_B.sl.r_47, kernelRun0_B.sl.r_46, kernelRun0_B.sl.r_45, kernelRun0_B.sl.r_44, kernelRun0_B.sl.r_43, kernelRun0_B.sl.r_42, kernelRun0_B.sl.r_41, kernelRun0_B.sl.r_40, kernelRun0_B.sl.r_39, kernelRun0_B.sl.r_38, kernelRun0_B.sl.r_37, kernelRun0_B.sl.r_36, kernelRun0_B.sl.r_35, kernelRun0_B.sl.r_34, kernelRun0_B.sl.r_33, kernelRun0_B.sl.r_32, kernelRun0_B.sl.r_31, kernelRun0_B.sl.r_30, kernelRun0_B.sl.r_29, kernelRun0_B.sl.r_28, kernelRun0_B.sl.r_27, kernelRun0_B.sl.r_26, kernelRun0_B.sl.r_25, kernelRun0_B.sl.r_24, kernelRun0_B.sl.r_23, kernelRun0_B.sl.r_22, kernelRun0_B.sl.r_21, kernelRun0_B.sl.r_20, kernelRun0_B.sl.r_19, kernelRun0_B.sl.r_18, kernelRun0_B.sl.r_17, kernelRun0_B.sl.r_16, kernelRun0_B.sl.r_15, kernelRun0_B.sl.r_14, kernelRun0_B.sl.r_13, kernelRun0_B.sl.r_12, kernelRun0_B.sl.r_11, kernelRun0_B.sl.r_10, kernelRun0_B.sl.r_9, kernelRun0_B.sl.r_8]
    open_payloads
    simp only [View.readAt_eq_ld, Memref.IsWhole.read_unread, kernelRun0_B.sl.cst_69, kernelRun0_B.sl.cst_32, kernelRun0_B.sl.cst_125, kernelRun0_B.sl.cst_162, kernelRun0_B.sl.v58]
    have hr : r = a := Fin.ext h0
    have hq : l = b := Fin.ext h1
    subst hr hq
    pointwise [act, th, cube, cube3]
    have hs := spread_eq (fun g : Fin 12 => ∑ j : Fin 128, x2 (ix2 r ⟨g.val * 128 + j.val, by omega⟩) * (x0 (ix2 r ⟨g.val * 128 + j.val, by omega⟩) * (Ideal.ofBits FTy.f32 1056964608#32 * (1 + th (x0 (ix2 r ⟨g.val * 128 + j.val, by omega⟩)))))) l
    unfold th cube at hs
    simp only [pick _ l.val 0 l.isLt (by decide), pick _ l.val 1 l.isLt (by decide), pick _ l.val 2 l.isLt (by decide), pick _ l.val 3 l.isLt (by decide), pick _ l.val 4 l.isLt (by decide), pick _ l.val 5 l.isLt (by decide), pick _ l.val 6 l.isLt (by decide), pick _ l.val 7 l.isLt (by decide), pick _ l.val 8 l.isLt (by decide), pick _ l.val 9 l.isLt (by decide), pick _ l.val 10 l.isLt (by decide), pick _ l.val 11 l.isLt (by decide)]
    rw [← hs]
    clear hs
    refine congrArg (xo9 (ix2 r l) + ·) ?_
    generalize Named.named (F := Ideal) κ "slope" (φ := .f32) 1027024659#32 = sl
    iterate 11
      refine congr (congrArg HAdd.hAdd ?_) ?_
      swap
      · rfl
    rw [zero_add]
    have e0 : ∀ j : Fin 128, (⟨(0 : Fin 12).val * 128 + j.val, by omega⟩ : Fin 1536) = ⟨j.val, by omega⟩ := fun j => Fin.ext (by show 0 * 128 + j.val = j.val; omega)
    simp only [e0]

theorem out10_B (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : ¬cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (xo8 : Vec Ideal S12x128x128 .f32) (xo9 : Vec Ideal S128x128 .f32) (xo10 : Vec Ideal S1x1536 .f32) (xo11 : Vec Ideal S1x1536 .f32) (q : Fin 1536) :
    out0_B_10 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 0 q) = xo10 (ix2 0 q) + ∑ r : Fin 128, kernelRun0_B.sl.v892 c arg1 harg1 arg3 harg3 arg6 harg6 arg14 x0 x2 x5 (ix2 r q) * hat (fun k => act (x1 (ix2 r k))) q := by
  unfold out0_B_10
  rw [View.read_writes_eq_canon _ _ _ (cover0_B_10 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11)]
  have hc := cover0_B_10 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 0 q)
  unfold kernelRun0_B at hc ⊢
  dsimp only at hc ⊢

  canon_tiles x h using hc
  case piece0 =>
    clear hc
    obtain ⟨b, hx⟩ : ∃ b : Fin 1536, x = ix2 (0 : Fin 1) b := ⟨x 1, by funext k; fin_cases k; exact Fin.ext h0.symm; rfl⟩
    subst hx
    try simp only [kernelRun0_B.sl.r_102, kernelRun0_B.sl.r_101, kernelRun0_B.sl.r_100, kernelRun0_B.sl.r_99, kernelRun0_B.sl.r_98, kernelRun0_B.sl.r_97, kernelRun0_B.sl.r_96, kernelRun0_B.sl.r_95, kernelRun0_B.sl.r_94, kernelRun0_B.sl.r_93, kernelRun0_B.sl.r_92, kernelRun0_B.sl.r_91, kernelRun0_B.sl.r_90, kernelRun0_B.sl.r_89, kernelRun0_B.sl.r_88, kernelRun0_B.sl.r_87, kernelRun0_B.sl.r_86, kernelRun0_B.sl.r_85, kernelRun0_B.sl.r_84, kernelRun0_B.sl.r_83, kernelRun0_B.sl.r_82, kernelRun0_B.sl.r_81, kernelRun0_B.sl.r_80, kernelRun0_B.sl.r_79, kernelRun0_B.sl.r_78, kernelRun0_B.sl.r_77, kernelRun0_B.sl.r_76, kernelRun0_B.sl.r_75, kernelRun0_B.sl.r_74, kernelRun0_B.sl.r_73, kernelRun0_B.sl.r_72, kernelRun0_B.sl.r_71, kernelRun0_B.sl.r_70, kernelRun0_B.sl.r_69, kernelRun0_B.sl.r_68, kernelRun0_B.sl.r_67, kernelRun0_B.sl.r_66, kernelRun0_B.sl.r_65, kernelRun0_B.sl.r_64, kernelRun0_B.sl.r_63, kernelRun0_B.sl.r_62, kernelRun0_B.sl.r_61, kernelRun0_B.sl.r_60, kernelRun0_B.sl.r_59, kernelRun0_B.sl.r_58, kernelRun0_B.sl.r_57, kernelRun0_B.sl.r_56, kernelRun0_B.sl.r_55, kernelRun0_B.sl.r_54, kernelRun0_B.sl.r_53, kernelRun0_B.sl.r_52, kernelRun0_B.sl.r_51, kernelRun0_B.sl.r_50, kernelRun0_B.sl.r_49, kernelRun0_B.sl.r_48, kernelRun0_B.sl.r_47, kernelRun0_B.sl.r_46, kernelRun0_B.sl.r_45, kernelRun0_B.sl.r_44, kernelRun0_B.sl.r_43, kernelRun0_B.sl.r_42, kernelRun0_B.sl.r_41, kernelRun0_B.sl.r_40, kernelRun0_B.sl.r_39, kernelRun0_B.sl.r_38, kernelRun0_B.sl.r_37, kernelRun0_B.sl.r_36, kernelRun0_B.sl.r_35, kernelRun0_B.sl.r_34, kernelRun0_B.sl.r_33, kernelRun0_B.sl.r_32, kernelRun0_B.sl.r_31, kernelRun0_B.sl.r_30, kernelRun0_B.sl.r_29, kernelRun0_B.sl.r_28, kernelRun0_B.sl.r_27, kernelRun0_B.sl.r_26, kernelRun0_B.sl.r_25, kernelRun0_B.sl.r_24, kernelRun0_B.sl.r_23, kernelRun0_B.sl.r_22, kernelRun0_B.sl.r_21, kernelRun0_B.sl.r_20, kernelRun0_B.sl.r_19, kernelRun0_B.sl.r_18, kernelRun0_B.sl.r_17, kernelRun0_B.sl.r_16, kernelRun0_B.sl.r_15, kernelRun0_B.sl.r_14, kernelRun0_B.sl.r_13, kernelRun0_B.sl.r_12, kernelRun0_B.sl.r_11, kernelRun0_B.sl.r_10, kernelRun0_B.sl.r_9, kernelRun0_B.sl.r_8]
    generalize kernelRun0_B.sl.v892 c arg1 harg1 arg3 harg3 arg6 harg6 arg14 x0 x2 x5 = Q
    simp only [← hat_B c arg2 harg2]
    generalize kernelRun0_B.sl.r_6 c arg2 harg2 x1 = H
    open_payloads
    try simp only [View.readAt_eq_ld, Memref.IsWhole.read_unread]
    have hq : q = b := Fin.ext h1
    subst hq
    pointwise

theorem out11_B (c : Dev nD) (i : grid0.Coords) (arg1 : Memref sig .tc .vmem S128x1536 .bf16) (harg1 : arg1.IsWhole) (arg2 : Memref sig .tc .vmem S128x1536 .bf16) (harg2 : arg2.IsWhole) (arg3 : Memref sig .tc .vmem S128x1536 .bf16) (harg3 : arg3.IsWhole) (arg4 : Memref sig .tc .vmem S1x1536 .f32) (harg4 : arg4.IsWhole) (arg5 : Memref sig .tc .vmem S1x1536 .f32) (harg5 : arg5.IsWhole) (arg6 : Memref sig .tc .vmem S12x128x128 .f32) (harg6 : arg6.IsWhole) (arg7 : Memref sig .tc .vmem S128x12 .f32) (harg7 : arg7.IsWhole) (arg9 : Memref sig .tc .vmem S128x3072 .bf16) (harg9 : arg9.IsWhole) (arg10 : Memref sig .tc .vmem S12x128x128 .f32) (harg10 : arg10.IsWhole) (arg11 : Memref sig .tc .vmem S128x128 .f32) (harg11 : arg11.IsWhole) (arg12 : Memref sig .tc .vmem S1x1536 .f32) (harg12 : arg12.IsWhole) (arg13 : Memref sig .tc .vmem S1x1536 .f32) (harg13 : arg13.IsWhole) (arg14 : Memref sig .tc .vmem S128x1536 .f32) (harg14 : arg14.IsWhole) (hc0 : ¬cond0_0 i) (x0 : Vec Ideal S128x1536 .bf16) (x1 : Vec Ideal S128x1536 .bf16) (x2 : Vec Ideal S128x1536 .bf16) (x3 : Vec Ideal S1x1536 .f32) (x4 : Vec Ideal S1x1536 .f32) (x5 : Vec Ideal S12x128x128 .f32) (x6 : Vec Ideal S128x12 .f32) (xo8 : Vec Ideal S12x128x128 .f32) (xo9 : Vec Ideal S128x128 .f32) (xo10 : Vec Ideal S1x1536 .f32) (xo11 : Vec Ideal S1x1536 .f32) (q : Fin 1536) :
    out0_B_11 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 0 q) = xo11 (ix2 0 q) + ∑ r : Fin 128, kernelRun0_B.sl.v892 c arg1 harg1 arg3 harg3 arg6 harg6 arg14 x0 x2 x5 (ix2 r q) := by
  unfold out0_B_11
  rw [View.read_writes_eq_canon _ _ _ (cover0_B_11 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11)]
  have hc := cover0_B_11 c i arg1 harg1 arg2 harg2 arg3 harg3 arg4 harg4 arg5 harg5 arg6 harg6 arg7 harg7 arg9 harg9 arg10 harg10 arg11 harg11 arg12 harg12 arg13 harg13 arg14 harg14 hc0 x0 x1 x2 x3 x4 x5 x6 xo8 xo9 xo10 xo11 (ix2 0 q)
  unfold kernelRun0_B at hc ⊢
  dsimp only at hc ⊢

  canon_tiles x h using hc
  case piece0 =>
    clear hc
    obtain ⟨b, hx⟩ : ∃ b : Fin 1536, x = ix2 (0 : Fin 1) b := ⟨x 1, by funext k; fin_cases k; exact Fin.ext h0.symm; rfl⟩
    subst hx
    generalize kernelRun0_B.sl.v892 c arg1 harg1 arg3 harg3 arg6 harg6 arg14 x0 x2 x5 = Q
    open_payloads
    try simp only [View.readAt_eq_ld, Memref.IsWhole.read_unread]
    have hq : q = b := Fin.ext h1
    subst hq
    pointwise

end Cert.SguBwdKernelIdeal.Block
-- ==== Proof.SguBwdArray.lean ====
/- The gradient of the spatial-gating unit: the arrays after the run. -/
module

public import proofs.«01_k».proof.Proof.SguBwd
public import Idealize.ShloMosaic.Lib.Pipeline.ValueKit.Point
public import Idealize.ShloMosaic.Lib.Pipeline.ValueKit
public import Idealize.ShloMosaic.Lib.Pointwise

@[expose] public section

set_option maxRecDepth 16384

noncomputable section

namespace Cert.SguBwdKernelIdeal.Block

open Cert.SguBwdKernelIdeal Cert.SguBwdKernelIdeal.Gen Idealize.ShloMosaic Idealize.ShloMosaic.TcCoe
open Cert.SguFwdKernelIdeal.Block (keep mean)

theorem idx0 : ∀ t : Fin grid0.N, win0_0.index t = ![t.val, 0] := by decide +kernel
theorem idx1 : ∀ t : Fin grid0.N, win0_1.index t = ![t.val, 1] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0, 0] := by decide +kernel
theorem idx6 : ∀ t : Fin grid0.N, win0_6.index t = ![0, 0] := by decide +kernel
theorem idx7 : ∀ t : Fin grid0.N, win0_7.index t = ![t.val, 0] := by decide +kernel

/-- Row `r` of the blocks of point `t`, -/
def row (t : Fin 64) (r : Fin 128) : Fin 8192 := ⟨t.val * 128 + r.val, by omega⟩

/-- and the point as a chunk's number. -/
def chunk (t : Fin cfg0.N) : Fin 64 := ⟨t.val, by have := t.isLt; have : cfg0.N = 64 := N_0; omega⟩

section
variable (P : Vec Ideal S8192x3584 .bf16) (D : Vec Ideal S8192x2048 .bf16) (g b : Vec Ideal S1x1536 .f32) (w : Vec Ideal S12x128x128 .f32) (a : Vec Ideal S128x12 .f32)

/-- Row `p` of the gate, -/
def gate (p : Fin 8192) (q : Fin 1536) : EReal := P (ix2 p ⟨q.val, by omega⟩)

/-- of what is mixed, -/
def value (p : Fin 8192) (q : Fin 1536) : EReal := P (ix2 p ⟨1536 + q.val, by omega⟩)

/-- of the gradient coming in, -/
def grad (p : Fin 8192) (q : Fin 1536) : EReal := D (ix2 p ⟨q.val, by omega⟩)

/-- of the activated values normalised, -/
def unit (p : Fin 8192) : Fin 1536 → EReal := hat (fun k => act (value P p k))

/-- the same scaled and shifted, -/
def vrow (p : Fin 8192) (q : Fin 1536) : EReal := unit P p q * g (ix2 0 q) + b (ix2 0 q)

/-- and what the transposed mixing gives back to row `r` of chunk `t`. -/
def dv (t : Fin 64) (r : Fin 128) (q : Fin 1536) : EReal :=
  back (fun k => gate P (row t k) q) (fun k => grad D (row t k) q) (fun k => w (ix3 ⟨q.val / 128, by omega⟩ k r)) r

/-- The gradient of the gate -/
def outU (t : Fin 64) (r : Fin 128) (q : Fin 1536) : EReal :=
  grad D (row t r) q * mixed (fun k => vrow P g b (row t k) q) (fun k => w (ix3 ⟨q.val / 128, by omega⟩ r k)) (a (ix2 r ⟨q.val / 128, by omega⟩)) r * slp (gate P (row t r) q)

/-- and of the values. -/
def outV (t : Fin 64) (r : Fin 128) (q : Fin 1536) : EReal :=
  through (fun k => act (value P (row t r) k)) (fun k => dv P D w t r k) (fun k => g (ix2 0 k)) q * slp (value P (row t r) q)

/-- What chunk `t` adds to the mixing matrices' gradient, -/
def partW (t : Fin 64) (h : Fin 12) (r l : Fin 128) : EReal :=
  if l.val ≤ r.val then ∑ j : Fin 128, grad D (row t r) ⟨h.val * 128 + j.val, by omega⟩ * act (gate P (row t r) ⟨h.val * 128 + j.val, by omega⟩) * vrow P g b (row t l) ⟨h.val * 128 + j.val, by omega⟩ else 0

/-- to the shift's of the mixed rows, -/
def partA (t : Fin 64) (r l : Fin 128) : EReal :=
  spread (fun h => ∑ j : Fin 128, grad D (row t r) ⟨h.val * 128 + j.val, by omega⟩ * act (gate P (row t r) ⟨h.val * 128 + j.val, by omega⟩)) l

/-- to the scale's -/
def partG (t : Fin 64) (q : Fin 1536) : EReal := ∑ r : Fin 128, dv P D w t r q * unit P (row t r) q

/-- and to the normalised rows' shift's. -/
def partB (t : Fin 64) (q : Fin 1536) : EReal := ∑ r : Fin 128, dv P D w t r q
end

variable (m : (ℓ : Loc nD τ sig) → Buf (Elt Ideal) ℓ) (c : Dev nD)

def ublk (t : Fin cfg0.N) : Vec Ideal S128x1536 .bf16 := X0_0 m c t
def vblk (t : Fin cfg0.N) : Vec Ideal S128x1536 .bf16 := X0_1 m c t
def dblk (t : Fin cfg0.N) : Vec Ideal S128x1536 .bf16 := X0_2 m c t
def gblk (t : Fin cfg0.N) : Vec Ideal S1x1536 .f32 := iblk m c 3 t
def bblk (t : Fin cfg0.N) : Vec Ideal S1x1536 .f32 := iblk m c 4 t
def wblk (t : Fin cfg0.N) : Vec Ideal S12x128x128 .f32 := iblk m c 5 t
def ablk (t : Fin cfg0.N) : Vec Ideal S128x12 .f32 := iblk m c 6 t

theorem ublk_at (t : Fin cfg0.N) (r : Fin 128) (q : Fin 1536) : ublk m c t (ix2 r q) = gate (m ((c : Thread nD τ).loc main_arg0)) (row (chunk t) r) q := by
  unfold ublk gate row chunk X0_0 Pipeline.Window.fill
  rw [dif_pos (moved0_0 t _)]
  blk_ext! [iblk, V, idx0 t]

theorem vblk_at (t : Fin cfg0.N) (r : Fin 128) (q : Fin 1536) : vblk m c t (ix2 r q) = value (m ((c : Thread nD τ).loc main_arg0)) (row (chunk t) r) q := by
  unfold vblk value row chunk X0_1 Pipeline.Window.fill
  rw [dif_pos (moved0_1 t _)]
  blk_ext! [iblk, V, idx1 t]

theorem dblk_at (t : Fin cfg0.N) (r : Fin 128) (q : Fin 1536) : dblk m c t (ix2 r q) = grad (m ((c : Thread nD τ).loc main_arg1)) (row (chunk t) r) q := by
  unfold dblk grad row chunk X0_2 Pipeline.Window.fill
  rw [dif_pos (moved0_2 t _)]
  blk_ext! [iblk, V, idx2 t]

theorem gblk_at (t : Fin cfg0.N) (q : Fin 1536) : gblk m c t (ix2 0 q) = (m ((c : Thread nD τ).loc main_arg2)) (ix2 0 q) := by
  unfold gblk
  blk_ext! [iblk, V, idx3 t]

theorem bblk_at (t : Fin cfg0.N) (q : Fin 1536) : bblk m c t (ix2 0 q) = (m ((c : Thread nD τ).loc main_arg3)) (ix2 0 q) := by
  unfold bblk
  blk_ext! [iblk, V, idx4 t]

theorem wblk_at (t : Fin cfg0.N) (h : Fin 12) (r k : Fin 128) : wblk m c t (ix3 h r k) = (m ((c : Thread nD τ).loc main_arg4)) (ix3 h r k) := by
  unfold wblk
  blk_ext! [iblk, V, idx5 t]

theorem ablk_at (t : Fin cfg0.N) (r : Fin 128) (h : Fin 12) : ablk m c t (ix2 r h) = (m ((c : Thread nD τ).loc main_arg5)) (ix2 r h) := by
  unfold ablk
  blk_ext! [iblk, V, idx6 t]

theorem outs_u (t : Fin cfg0.N) (r : Fin 128) (q : Fin 1536) :
    (outsAt0 m c t.val t.isLt).1 (ix2 r ⟨q.val, by omega⟩) = outU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (chunk t) r q := by
  by_cases h0 : t.val % 64 = 0
  · have ho := out7u_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (ublk m c t) (vblk m c t) (dblk m c t) (gblk m c t) (bblk m c t) (wblk m c t) (ablk m c t) r q
    simp only [vn_A, dvn_A, ublk_at, vblk_at, dblk_at, gblk_at, bblk_at, wblk_at, ablk_at] at ho
    rw [outsAt0_A m c t h0]
    dsimp only
    unfold ublk vblk dblk gblk bblk wblk ablk at ho
    unfold outU vrow unit
    exact ho
  · have ho := out7u_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (ublk m c t) (vblk m c t) (dblk m c t) (gblk m c t) (bblk m c t) (wblk m c t) (ablk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r q
    simp only [vn_B, dvn_B, ublk_at, vblk_at, dblk_at, gblk_at, bblk_at, wblk_at, ablk_at] at ho
    rw [outsAt0_B m c t h0]
    dsimp only
    unfold ublk vblk dblk gblk bblk wblk ablk at ho
    unfold outU vrow unit
    exact ho

theorem outs_v (t : Fin cfg0.N) (r : Fin 128) (q : Fin 1536) :
    (outsAt0 m c t.val t.isLt).1 (ix2 r ⟨1536 + q.val, by omega⟩) = outV (m ((c : Thread nD τ).loc main_arg0)) (m ((c : Thread nD τ).loc main_arg1)) (m ((c : Thread nD τ).loc main_arg2)) (m ((c : Thread nD τ).loc main_arg4)) (chunk t) r q := by
  by_cases h0 : t.val % 64 = 0
  · have ho := out7v_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (ublk m c t) (vblk m c t) (dblk m c t) (gblk m c t) (bblk m c t) (wblk m c t) (ablk m c t) r q
    simp only [vn_A, dvn_A, ublk_at, vblk_at, dblk_at, gblk_at, bblk_at, wblk_at, ablk_at] at ho
    rw [outsAt0_A m c t h0]
    dsimp only
    unfold ublk vblk dblk gblk bblk wblk ablk at ho
    unfold outV dv
    exact ho
  · have ho := out7v_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (ublk m c t) (vblk m c t) (dblk m c t) (gblk m c t) (bblk m c t) (wblk m c t) (ablk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r q
    simp only [vn_B, dvn_B, ublk_at, vblk_at, dblk_at, gblk_at, bblk_at, wblk_at, ablk_at] at ho
    rw [outsAt0_B m c t h0]
    dsimp only
    unfold ublk vblk dblk gblk bblk wblk ablk at ho
    unfold outV dv
    exact ho

/-- What the first `n` chunks add up to. -/
def upTo (f : Fin 64 → EReal) (n : Nat) : EReal := ∑ s ∈ Finset.range n, if hs : s < 64 then f ⟨s, hs⟩ else 0

theorem upTo_step (f : Fin 64 → EReal) (n : Nat) (hn : n < 64) : upTo f (n + 1) = upTo f n + f ⟨n, hn⟩ := by
  unfold upTo
  rw [Finset.sum_range_succ, dif_pos hn]

theorem upTo_all (f : Fin 64 → EReal) : upTo f 64 = ∑ s, f s := by
  unfold upTo
  rw [Finset.sum_range]
  exact Finset.sum_congr rfl fun s _ => dif_pos s.isLt

/-- The last point. -/
def last : Fin cfg0.N := ⟨63, by show 63 < grid0.N; rw [N_0]; decide⟩

/-- A window that starts at zero and adds its chunk's part at each point. -/
theorem acc (f : Fin 64 → EReal) (o : (n : Nat) → n < cfg0.N → EReal)
    (hA : ∀ (t : Fin cfg0.N) (h0 : t.val % 64 = 0), o t.val t.isLt = 0 + f (chunk t))
    (hB : ∀ (t : Fin cfg0.N) (h0 : ¬ t.val % 64 = 0), o t.val t.isLt = o (t.val - 1) (Nat.lt_of_le_of_lt (Nat.sub_le _ _) t.isLt) + f (chunk t)) :
    ∀ (n : Nat) (hn : n < cfg0.N), o n hn = upTo f (n + 1) := by
  intro n
  induction n with
  | zero =>
    intro hn
    rw [hA ⟨0, hn⟩ rfl, upTo_step f 0 (by decide)]
    rfl
  | succ n ih =>
    intro hn
    have hN : n + 1 < 64 := Nat.lt_of_lt_of_eq hn N_0
    rw [hB ⟨n + 1, hn⟩ (by show ¬ (n + 1) % 64 = 0; omega), upTo_step f (n + 1) hN]
    exact congrArg (· + _) (ih (Nat.lt_of_succ_lt hn))

theorem arr_w (h : Fin 12) (r l : Fin 128) :
    (dats m 0 c).arrAt 8 cfg0.N (ix3 h r l : S12x128x128.Idx) = ∑ t : Fin 64, partW (m ((c : Thread nD τ).loc main_arg0)) (m ((c : Thread nD τ).loc main_arg1)) (m ((c : Thread nD τ).loc main_arg2)) (m ((c : Thread nD τ).loc main_arg3)) t h r l := by
  have hw : (cfg0.win 8).WholeAt last := (by decide +kernel : win0_8.WholeAt last)
  refine Eq.trans ((dats m 0 c).arrAt_emb_eq_after_last 8 last hw (ix3 h r l : S12x128x128.Idx)) ?_
  refine Eq.trans (congrFun (after0_8 m c last) (ix3 h r l : S12x128x128.Idx)) ?_
  refine Eq.trans (acc (fun t => partW (m ((c : Thread nD τ).loc main_arg0)) (m ((c : Thread nD τ).loc main_arg1)) (m ((c : Thread nD τ).loc main_arg2)) (m ((c : Thread nD τ).loc main_arg3)) t h r l) (fun n hn => (outsAt0 m c n hn).2.1 (ix3 h r l)) ?_ ?_ 63 (by show 63 < grid0.N; rw [N_0]; decide)) (upTo_all _)
  · intro t h0
    have ho := out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (ublk m c t) (vblk m c t) (dblk m c t) (gblk m c t) (bblk m c t) (wblk m c t) (ablk m c t) h r l
    simp only [vn_A, dvn_A, ublk_at, vblk_at, dblk_at, gblk_at, bblk_at, wblk_at, ablk_at] at ho
    rw [outsAt0_A m c t h0]
    dsimp only
    unfold ublk vblk dblk gblk bblk wblk ablk at ho
    unfold partW vrow unit
    exact ho
  · intro t h0
    have ho := out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (ublk m c t) (vblk m c t) (dblk m c t) (gblk m c t) (bblk m c t) (wblk m c t) (ablk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 h r l
    simp only [vn_B, dvn_B, ublk_at, vblk_at, dblk_at, gblk_at, bblk_at, wblk_at, ablk_at] at ho
    rw [outsAt0_B m c t h0]
    dsimp only
    unfold ublk vblk dblk gblk bblk wblk ablk at ho
    unfold partW vrow unit
    exact ho

theorem arr_a (r l : Fin 128) :
    (dats m 0 c).arrAt 9 cfg0.N (ix2 r l : S128x128.Idx) = ∑ t : Fin 64, partA (m ((c : Thread nD τ).loc main_arg0)) (m ((c : Thread nD τ).loc main_arg1)) t r l := by
  have hw : (cfg0.win 9).WholeAt last := (by decide +kernel : win0_9.WholeAt last)
  refine Eq.trans ((dats m 0 c).arrAt_emb_eq_after_last 9 last hw (ix2 r l : S128x128.Idx)) ?_
  refine Eq.trans (congrFun (after0_9 m c last) (ix2 r l : S128x128.Idx)) ?_
  refine Eq.trans (acc (fun t => partA (m ((c : Thread nD τ).loc main_arg0)) (m ((c : Thread nD τ).loc main_arg1)) t r l) (fun n hn => (outsAt0 m c n hn).2.2.1 (ix2 r l)) ?_ ?_ 63 (by show 63 < grid0.N; rw [N_0]; decide)) (upTo_all _)
  · intro t h0
    have ho := out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (ublk m c t) (vblk m c t) (dblk m c t) (gblk m c t) (bblk m c t) (wblk m c t) (ablk m c t) r l
    simp only [vn_A, dvn_A, ublk_at, vblk_at, dblk_at, gblk_at, bblk_at, wblk_at, ablk_at] at ho
    rw [outsAt0_A m c t h0]
    dsimp only
    unfold ublk vblk dblk gblk bblk wblk ablk at ho
    unfold partA
    exact ho
  · intro t h0
    have ho := out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (ublk m c t) (vblk m c t) (dblk m c t) (gblk m c t) (bblk m c t) (wblk m c t) (ablk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 r l
    simp only [vn_B, dvn_B, ublk_at, vblk_at, dblk_at, gblk_at, bblk_at, wblk_at, ablk_at] at ho
    rw [outsAt0_B m c t h0]
    dsimp only
    unfold ublk vblk dblk gblk bblk wblk ablk at ho
    unfold partA
    exact ho

theorem arr_g (q : Fin 1536) :
    (dats m 0 c).arrAt 10 cfg0.N (ix2 0 q : S1x1536.Idx) = ∑ t : Fin 64, partG (m ((c : Thread nD τ).loc main_arg0)) (m ((c : Thread nD τ).loc main_arg1)) (m ((c : Thread nD τ).loc main_arg4)) t q := by
  have hw : (cfg0.win 10).WholeAt last := (by decide +kernel : win0_10.WholeAt last)
  refine Eq.trans ((dats m 0 c).arrAt_emb_eq_after_last 10 last hw (ix2 0 q : S1x1536.Idx)) ?_
  refine Eq.trans (congrFun (after0_10 m c last) (ix2 0 q : S1x1536.Idx)) ?_
  refine Eq.trans (acc (fun t => partG (m ((c : Thread nD τ).loc main_arg0)) (m ((c : Thread nD τ).loc main_arg1)) (m ((c : Thread nD τ).loc main_arg4)) t q) (fun n hn => (outsAt0 m c n hn).2.2.2.1 (ix2 0 q)) ?_ ?_ 63 (by show 63 < grid0.N; rw [N_0]; decide)) (upTo_all _)
  · intro t h0
    have ho := out10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (ublk m c t) (vblk m c t) (dblk m c t) (gblk m c t) (bblk m c t) (wblk m c t) (ablk m c t) q
    simp only [vn_A, dvn_A, ublk_at, vblk_at, dblk_at, gblk_at, bblk_at, wblk_at, ablk_at] at ho
    rw [outsAt0_A m c t h0]
    dsimp only
    unfold ublk vblk dblk gblk bblk wblk ablk at ho
    unfold partG dv unit
    exact ho
  · intro t h0
    have ho := out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (ublk m c t) (vblk m c t) (dblk m c t) (gblk m c t) (bblk m c t) (wblk m c t) (ablk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 q
    simp only [vn_B, dvn_B, ublk_at, vblk_at, dblk_at, gblk_at, bblk_at, wblk_at, ablk_at] at ho
    rw [outsAt0_B m c t h0]
    dsimp only
    unfold ublk vblk dblk gblk bblk wblk ablk at ho
    unfold partG dv unit
    exact ho

theorem arr_b (q : Fin 1536) :
    (dats m 0 c).arrAt 11 cfg0.N (ix2 0 q : S1x1536.Idx) = ∑ t : Fin 64, partB (m ((c : Thread nD τ).loc main_arg0)) (m ((c : Thread nD τ).loc main_arg1)) (m ((c : Thread nD τ).loc main_arg4)) t q := by
  have hw : (cfg0.win 11).WholeAt last := (by decide +kernel : win0_11.WholeAt last)
  refine Eq.trans ((dats m 0 c).arrAt_emb_eq_after_last 11 last hw (ix2 0 q : S1x1536.Idx)) ?_
  refine Eq.trans (congrFun (after0_11 m c last) (ix2 0 q : S1x1536.Idx)) ?_
  refine Eq.trans (acc (fun t => partB (m ((c : Thread nD τ).loc main_arg0)) (m ((c : Thread nD τ).loc main_arg1)) (m ((c : Thread nD τ).loc main_arg4)) t q) (fun n hn => (outsAt0 m c n hn).2.2.2.2 (ix2 0 q)) ?_ ?_ 63 (by show 63 < grid0.N; rw [N_0]; decide)) (upTo_all _)
  · intro t h0
    have ho := out11_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (ublk m c t) (vblk m c t) (dblk m c t) (gblk m c t) (bblk m c t) (wblk m c t) (ablk m c t) q
    simp only [vn_A, dvn_A, ublk_at, vblk_at, dblk_at, gblk_at, bblk_at, wblk_at, ablk_at] at ho
    rw [outsAt0_A m c t h0]
    dsimp only
    unfold ublk vblk dblk gblk bblk wblk ablk at ho
    unfold partB dv
    exact ho
  · intro t h0
    have ho := out11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (ublk m c t) (vblk m c t) (dblk m c t) (gblk m c t) (bblk m c t) (wblk m c t) (ablk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 q
    simp only [vn_B, dvn_B, ublk_at, vblk_at, dblk_at, gblk_at, bblk_at, wblk_at, ablk_at] at ho
    rw [outsAt0_B m c t h0]
    dsimp only
    unfold ublk vblk dblk gblk bblk wblk ablk at ho
    unfold partB dv
    exact ho

theorem whole : ∀ t : Fin cfg0.N, ∀ a, (cfg0.win 7).xsize (cfg0.grid.coords t) a = (cfg0.win 7).size a := by decide +kernel

/-- A place in the part of the first result's block that is written back, which is all of it. -/
def place (t : Fin cfg0.N) (r : Fin 128) (q : Fin 3072) : ((cfg0.win 7).xblock (cfg0.grid.coords t)).Idx :=
  fun a => ⟨((ix2 r q : S128x3072.Idx) a).val, by
    show ((ix2 r q : S128x3072.Idx) a).val < (cfg0.win 7).xsize (cfg0.grid.coords t) a
    rw [whole t a]; exact ((ix2 r q : S128x3072.Idx) a).isLt⟩

theorem arr_p (t : Fin cfg0.N) (r : Fin 128) (q : Fin 3072) :
    (dats m 0 c).arrAt 7 cfg0.N (ix2 (row (chunk t) r) ⟨q.val, by omega⟩ : S8192x3584.Idx) = (outsAt0 m c t.val t.isLt).1 (ix2 r q) := by
  have he : (((cfg0.win 7).blk t).view.emb (place t r q) : S8192x3584.Idx) = ix2 (row (chunk t) r) ⟨q.val, by omega⟩ := by
    funext a; apply Fin.ext
    refine (Pipeline.Window.rect_emb_val win0_7 t (place t r q) a rfl).trans ?_
    rw [idx7 t]
    fin_cases a
    · rfl
    · show 0 * 3072 + q.val = q.val
      omega
  have hf := (dats m 0 c).arrAt_emb_eq_flushed 7 Value.disjoint7 t (flush0_7 t) (place t r q)
  rw [he] at hf
  refine hf.trans ?_
  rw [Value.flushed7]
  generalize (outsAt0 m c t.val t.isLt).1 = w
  unfold Pipeline.Window.cut
  refine congrArg w ?_
  funext a; apply Fin.ext
  rfl

theorem arr_u (t : Fin 64) (r : Fin 128) (q : Fin 1536) :
    (dats m 0 c).arrAt 7 cfg0.N (ix2 (row t r) ⟨q.val, by omega⟩ : S8192x3584.Idx) = outU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t r q :=
  (arr_p m c ⟨t.val, by rw [show cfg0.N = 64 from N_0]; exact t.isLt⟩ r ⟨q.val, by omega⟩).trans (outs_u m c ⟨t.val, by rw [show cfg0.N = 64 from N_0]; exact t.isLt⟩ r q)

theorem arr_v (t : Fin 64) (r : Fin 128) (q : Fin 1536) :
    (dats m 0 c).arrAt 7 cfg0.N (ix2 (row t r) ⟨1536 + q.val, by omega⟩ : S8192x3584.Idx) = outV (m ((c : Thread nD τ).loc main_arg0)) (m ((c : Thread nD τ).loc main_arg1)) (m ((c : Thread nD τ).loc main_arg2)) (m ((c : Thread nD τ).loc main_arg4)) t r q :=
  (arr_p m c ⟨t.val, by rw [show cfg0.N = 64 from N_0]; exact t.isLt⟩ r ⟨1536 + q.val, by omega⟩).trans (outs_v m c ⟨t.val, by rw [show cfg0.N = 64 from N_0]; exact t.isLt⟩ r q)

/-- The other columns keep what they held. -/
theorem arr_rest (p : Fin 8192) (q : Fin 3584) (hq : 3072 ≤ q.val) :
    (dats m 0 c).arrAt 7 cfg0.N (ix2 p q : S8192x3584.Idx) = (m ((c : Thread nD τ).loc main_arg6)) (ix2 p q) := by
  rw [Value.entry7]
  · rfl
  · intro t _ hi
    obtain ⟨j, _, hj⟩ := Finset.mem_map.mp hi
    have h1 := (Pipeline.Window.rect_emb_val win0_7 t j 1 rfl).symm.trans (congrArg (fun y : S8192x3584.Idx => (y 1).val) hj)
    rw [idx7 t] at h1
    have h2 : (j 1).val < (cfg0.win 7).xsize (cfg0.grid.coords t) 1 := (j 1).isLt
    rw [whole t 1] at h2
    have h3 : (j 1).val < 3072 := h2
    have h4 : 0 * 3072 + (j 1).val = q.val := h1
    omega

end Cert.SguBwdKernelIdeal.Block

end
-- ==== Proof.SguBwdRef.lean ====
/- The reference of the spatial-gating unit's gradient, read entry by entry. -/
module

public import proofs.«01_k».proof.Proof.SguBwdArray
public import proofs.«01_k».proof.Proof.Gen.SguBwdReferenceIdeal.Read
public import Idealize.ShloMosaic.Lib.Pointwise

@[expose] public section

set_option maxRecDepth 16384

noncomputable section

namespace Cert.SguBwdReferenceIdeal.Rows

open Cert.SguBwdReferenceIdeal Idealize.ShloMosaic
open Cert.SguBwdKernelIdeal.Block (gate value grad unit vrow row act slp rstd hat mixed back th cube cube3 spread)
open Cert.SguFwdKernelIdeal.Block (keep mean)

variable (P : Vec Ideal S8192x3584 .bf16) (D : Vec Ideal S8192x2048 .bf16) (g b : Vec Ideal S1x1536 .f32) (w : Vec Ideal S12x128x128 .f32) (a : Vec Ideal S128x12 .f32) (o : Vec Ideal S8192x3584 .bf16)

/-- The hyperbolic tangent of the tanh form with the coefficient as a quotient, -/
def rth (x : EReal) : EReal := Ideal.tanh (Ideal.ofBits .f32 0x3F4C422A#32 * (x + Ideal.div (Ideal.ofBits .f32 0x472EAB00#32 * (x * x * x)) (Ideal.ofBits .f32 0x49742400#32)))

/-- and the value it gives. -/
def ract (x : EReal) : EReal := x * (Ideal.ofBits .f32 0x3F000000#32 * (Ideal.ofBits .f32 0x3F800000#32 + rth x))

theorem gate_at (p : Fin 8192) (q : Fin 1536) :
    (Read.val_main_v28 (F := Ideal) P) (ix2 p q) = ract (gate P p q) := by
  pointwise [Read.val_main_v28, Read.val_main_v27, Read.val_main_v25, Read.val_main_v18, Read.val_main_v17, Read.val_main_v15, Read.val_main_v14, Read.val_main_v12, Read.val_main_v11, Read.val_main_cst_0, Read.val_main_v7, Read.val_main_v4, Read.val_main_v3, Read.val_main_v2, Read.val_main_v6, Read.val_main_v13, Read.val_main_cst_1, Read.val_main_v16, Read.val_main_cst_2, Read.val_main_v24, Read.val_main_cst_5, Read.val_main_v26, Read.val_main_cst_6, gate, ract, rth]

theorem value_at (p : Fin 8192) (q : Fin 1536) :
    (Read.val_main_v51 (F := Ideal) P) (ix2 p q) = ract (value P p q) := by
  pointwise [Read.val_main_v51, Read.val_main_v5, Read.val_main_v3, Read.val_main_v2, Read.val_main_v50, Read.val_main_v48, Read.val_main_v41, Read.val_main_v40, Read.val_main_v38, Read.val_main_v37, Read.val_main_v35, Read.val_main_v30, Read.val_main_v29, Read.val_main_v34, Read.val_main_cst_8, Read.val_main_v36, Read.val_main_cst_9, Read.val_main_v39, Read.val_main_cst_10, Read.val_main_v47, Read.val_main_cst_13, Read.val_main_v49, Read.val_main_cst_14, value, ract, rth]

theorem mean_at (p : Fin 8192) :
    (Read.val_main_v55 (F := Ideal) P) (ix2 p 0) = mean (fun k => (Read.val_main_v51 (F := Ideal) P) (ix2 p k)) := by
  pointwise [Read.val_main_v55, Read.val_main_v53, Read.val_main_v52, Read.val_main_cst_15, Read.val_main_v54, Read.val_main_cst_16, mean]

theorem cent_at (p : Fin 8192) (q : Fin 1536) :
    (Read.val_main_v66 (F := Ideal) P) (ix2 p q) = (Read.val_main_v51 (F := Ideal) P) (ix2 p q) - mean (fun k => (Read.val_main_v51 (F := Ideal) P) (ix2 p k)) := by
  pointwise [Read.val_main_v66, Read.val_main_v65, Read.val_main_v55, Read.val_main_v53, Read.val_main_v52, Read.val_main_cst_15, Read.val_main_v54, Read.val_main_cst_16, mean]

theorem cent_at2 (p : Fin 8192) (q : Fin 1536) :
    (Read.val_main_v57 (F := Ideal) P) (ix2 p q) = (Read.val_main_v51 (F := Ideal) P) (ix2 p q) - mean (fun k => (Read.val_main_v51 (F := Ideal) P) (ix2 p k)) := by
  pointwise [Read.val_main_v57, Read.val_main_v56, Read.val_main_v55, Read.val_main_v53, Read.val_main_v52, Read.val_main_cst_15, Read.val_main_v54, Read.val_main_cst_16, mean]

theorem var_at (p : Fin 8192) :
    (Read.val_main_v68 (F := Ideal) P) (ix2 p 0) = mean (fun k => ((Read.val_main_v51 (F := Ideal) P) (ix2 p k) - mean (fun k => (Read.val_main_v51 (F := Ideal) P) (ix2 p k))) * ((Read.val_main_v51 (F := Ideal) P) (ix2 p k) - mean (fun k => (Read.val_main_v51 (F := Ideal) P) (ix2 p k)))) + Ideal.ofBits .f32 0x3727C5AC#32 := by
  pointwise [Read.val_main_v68, Read.val_main_v64, Read.val_main_v62, Read.val_main_v61, Read.val_main_cst_18, Read.val_main_v58, Read.val_main_v57, Read.val_main_v56, Read.val_main_v55, Read.val_main_v53, Read.val_main_v52, Read.val_main_cst_15, Read.val_main_v54, Read.val_main_cst_16, Read.val_main_v63, Read.val_main_cst_19, Read.val_main_v67, Read.val_main_cst_20, mean]

theorem rstd_at (p : Fin 8192) :
    (Read.val_main_v69 (F := Ideal) P) (ix2 p 0) = rstd (fun k => (Read.val_main_v51 (F := Ideal) P) (ix2 p k)) := by
  pointwise [Read.val_main_v69, Read.val_main_v68, Read.val_main_v64, Read.val_main_v62, Read.val_main_v61, Read.val_main_cst_18, Read.val_main_v58, Read.val_main_v57, Read.val_main_v56, Read.val_main_v55, Read.val_main_v53, Read.val_main_v52, Read.val_main_cst_15, Read.val_main_v54, Read.val_main_cst_16, Read.val_main_v63, Read.val_main_cst_19, Read.val_main_v67, Read.val_main_cst_20, mean, rstd]

theorem half_at (p : Fin 8192) :
    (Read.val_main_v72 (F := Ideal) P) (ix2 p 0) = Ideal.ofBits .f32 0xBF000000#32 * Ideal.div (rstd (fun k => (Read.val_main_v51 (F := Ideal) P) (ix2 p k))) (mean (fun k => ((Read.val_main_v51 (F := Ideal) P) (ix2 p k) - mean (fun k => (Read.val_main_v51 (F := Ideal) P) (ix2 p k))) * ((Read.val_main_v51 (F := Ideal) P) (ix2 p k) - mean (fun k => (Read.val_main_v51 (F := Ideal) P) (ix2 p k)))) + Ideal.ofBits .f32 0x3727C5AC#32) := by
  pointwise [Read.val_main_v72, Read.val_main_v70, Read.val_main_v68, Read.val_main_v64, Read.val_main_v62, Read.val_main_v61, Read.val_main_cst_18, Read.val_main_v58, Read.val_main_v57, Read.val_main_v56, Read.val_main_v55, Read.val_main_v53, Read.val_main_v52, Read.val_main_cst_15, Read.val_main_v54, Read.val_main_cst_16, Read.val_main_v63, Read.val_main_cst_19, Read.val_main_v67, Read.val_main_cst_20, Read.val_main_v69, Read.val_main_v71, Read.val_main_cst_21, mean, rstd]

theorem unit_at (p : Fin 8192) (q : Fin 1536) :
    (Read.val_main_v74 (F := Ideal) P) (ix2 p q) = hat (fun k => (Read.val_main_v51 (F := Ideal) P) (ix2 p k)) q := by
  pointwise [Read.val_main_v74, Read.val_main_v66, Read.val_main_v65, Read.val_main_v55, Read.val_main_v53, Read.val_main_v52, Read.val_main_cst_15, Read.val_main_v54, Read.val_main_cst_16, Read.val_main_v73, Read.val_main_v69, Read.val_main_v68, Read.val_main_v64, Read.val_main_v62, Read.val_main_v61, Read.val_main_cst_18, Read.val_main_v58, Read.val_main_v57, Read.val_main_v56, Read.val_main_v63, Read.val_main_cst_19, Read.val_main_v67, Read.val_main_cst_20, mean, rstd, hat]

theorem vrow_at (p : Fin 8192) (q : Fin 1536) :
    (Read.val_main_v78 (F := Ideal) P g b) (ix2 p q) = (Read.val_main_v74 (F := Ideal) P) (ix2 p q) * g (ix2 0 q) + b (ix2 0 q) := by
  pointwise [Read.val_main_v78, Read.val_main_v76, Read.val_main_v75, Read.val_main_v77]

theorem twice_at (p : Fin 8192) (q : Fin 1536) :
    (Read.val_main_v60 (F := Ideal) P) (ix2 p q) = Ideal.ofBits .f32 0x40000000#32 * (Read.val_main_v57 (F := Ideal) P) (ix2 p q) := by
  pointwise [Read.val_main_v60, Read.val_main_v59, Read.val_main_cst_17]

theorem masked (x : EReal) (r l : Fin 128) :
    Scalar.select (Scalar.select (IntOp.cmpi .sge (IntOp.addi (BitVec.ofNat 32 r.val) 0#32) (BitVec.ofNat 32 l.val)) 1#1 0#1) x (id (constant (F := Ideal) S_ .f32 0#32) ix0 : EReal)
      = if l.val ≤ r.val then x else 0 := by
  have hz : (id (constant (F := Ideal) S_ .f32 0#32) ix0 : EReal) = 0 := Ideal.ofBits_zero_f32
  have hs : IntOp.addi (BitVec.ofNat 32 r.val) 0#32 = BitVec.ofNat 32 r.val := BitVec.add_zero _
  have e : Scalar.select (IntOp.cmpi .sge (BitVec.ofNat 32 r.val) (BitVec.ofNat 32 l.val)) 1#1 0#1 = IntOp.cmpi .sge (BitVec.ofNat 32 r.val) (BitVec.ofNat 32 l.val) := by
    generalize IntOp.cmpi .sge (BitVec.ofNat 32 r.val) (BitVec.ofNat 32 l.val) = z
    revert z; decide
  rw [hz, hs, e, keep _ _ _ _ r.isLt l.isLt]

/-- The sum over the first and the last of four axes. -/
theorem sum_ends {n0 n1 n2 n3 : Nat} (h : (⟨4, ![n0, n1, n2, n3]⟩ : Shape).ReducesTo [0, 3] ⟨2, ![n1, n2]⟩)
    (x : (⟨4, ![n0, n1, n2, n3]⟩ : Shape).Idx → EReal) (r : Fin n1) (l : Fin n2) :
    Ideal.hostReduceAdd h x 0 (ix2 r l) = ∑ t : Fin n0, ∑ j : Fin n3, x (ix4 t r l j) := by
  unfold Ideal.hostReduceAdd
  rw [zero_add, Finset.sum_filter, sum_idx4]
  have hd : ∀ (t : Fin n0) (r' : Fin n1) (l' : Fin n2) (j : Fin n3), h.drop (ix4 t r' l' j) = ix2 r' l' := by
    intro t r' l' j
    funext i
    fin_cases i <;> rfl
  simp only [hd]
  refine Finset.sum_congr rfl fun t _ => ?_
  rw [Finset.sum_eq_single r]
  · rw [Finset.sum_eq_single l]
    · simp
    · intro l' _ hl
      refine Finset.sum_eq_zero fun j _ => if_neg fun e => hl ?_
      exact congrFun e 1
    · intro hl; exact absurd (Finset.mem_univ l) hl
  · intro r' _ hr
    refine Finset.sum_eq_zero fun l' _ => Finset.sum_eq_zero fun j _ => if_neg fun e => hr ?_
    exact congrFun e 0
  · intro hr; exact absurd (Finset.mem_univ r) hr

theorem mask_at (h : Fin 12) (r l : Fin 128) :
    (Read.val_main_v83_0 (F := Ideal) w) (ix3 h r l) = if l.val ≤ r.val then w (ix3 h r l) else 0 := by
  pointwise [Read.val_main_v83_0, Read.val_main_call1_v2, Read.val_main_call1_v0, Read.val_main_cst_22, Read.val_main_v83_1, Read.val_main_v82, Read.val_main_v81, Read.val_main_call0_v4, Read.val_main_call0_v2, Read.val_main_call0_v0, Read.val_main_call0_v1, Read.val_main_call0_c, Read.val_main_call0_v3, Read.val_main_call0_v5, Read.val_main_call0_c_0, Read.val_main_v80, Read.val_main_c]
  exact masked _ r l

theorem mixed_at (p : Fin 8192) (q : Fin 1536) :
    (Read.val_main_v89 (F := Ideal) P g b w a) (ix2 p q) = (∑ k : Fin 128, (Read.val_main_v83_0 (F := Ideal) w) (ix3 ⟨q.val / 128, by omega⟩ ⟨p.val % 128, by omega⟩ k) * (Read.val_main_v78 (F := Ideal) P g b) (ix2 ⟨p.val / 128 * 128 + k.val, by omega⟩ q)) + a (ix2 ⟨p.val % 128, by omega⟩ ⟨q.val / 128, by omega⟩) := by
  pointwise [Read.val_main_v89, Read.val_main_v88, Read.val_main_v85, Read.val_main_v84, Read.val_main_v79, Read.val_main_v87, Read.val_main_v86]
  exact congrArg (· + _) (Finset.sum_congr rfl fun k _ => mul_comm _ _)

theorem back_at (p : Fin 8192) (q : Fin 1536) :
    (Read.val_main_v102 (F := Ideal) P D w) (ix2 p q) = ∑ k : Fin 128, (Read.val_main_v91 (F := Ideal) P D) (ix2 ⟨p.val / 128 * 128 + k.val, by omega⟩ q) * (Read.val_main_v83_0 (F := Ideal) w) (ix3 ⟨q.val / 128, by omega⟩ k ⟨p.val % 128, by omega⟩) := by
  pointwise [Read.val_main_v102, Read.val_main_v100, Read.val_main_v99, Read.val_main_v97, Read.val_main_v93]

theorem dots_at (h : Fin 12) (r l : Fin 128) :
    (Read.val_main_v98 (F := Ideal) P D g b) (ix3 h r l) = ∑ t : Fin 64, ∑ j : Fin 128, (Read.val_main_v91 (F := Ideal) P D) (ix2 (row t r) ⟨h.val * 128 + j.val, by omega⟩) * (Read.val_main_v78 (F := Ideal) P g b) (ix2 (row t l) ⟨h.val * 128 + j.val, by omega⟩) := by
  pointwise [Read.val_main_v98, Read.val_main_v79, Read.val_main_v97, Read.val_main_v93, row]

theorem dw_at (h : Fin 12) (r l : Fin 128) :
    (Read.val_main_v101 (F := Ideal) P D g b) (ix3 h r l) = if l.val ≤ r.val then (Read.val_main_v98 (F := Ideal) P D g b) (ix3 h r l) else 0 := by
  pointwise [Read.val_main_v101, Read.val_main_call2_v0, Read.val_main_call2_cst, Read.val_main_v83_1, Read.val_main_v82, Read.val_main_v81, Read.val_main_call0_v4, Read.val_main_call0_v2, Read.val_main_call0_v0, Read.val_main_call0_v1, Read.val_main_call0_c, Read.val_main_call0_v3, Read.val_main_call0_v5, Read.val_main_call0_c_0, Read.val_main_v80, Read.val_main_c]
  refine Eq.trans (congrArg _ ?_) (masked _ r l)
  exact Ideal.ofBits_zero_f32.symm

theorem split_at (t : Fin 64) (r : Fin 128) (h : Fin 12) (j : Fin 128) :
    (Read.val_main_v93 (F := Ideal) P D) (ix4 t r h j) = (Read.val_main_v91 (F := Ideal) P D) (ix2 (row t r) ⟨h.val * 128 + j.val, by omega⟩) := by
  pointwise [Read.val_main_v93, row]

theorem sums_at (r : Fin 128) (h : Fin 12) :
    (Read.val_main_v94 (F := Ideal) P D) (ix2 r h) = ∑ t : Fin 64, ∑ j : Fin 128, (Read.val_main_v91 (F := Ideal) P D) (ix2 (row t r) ⟨h.val * 128 + j.val, by omega⟩) := by
  unfold Read.val_main_v94
  refine Eq.trans (b := Ideal.hostReduceAdd Gen.reducesTo_S64x128x12x128_S128x12_d0_3 (Read.val_main_v93 (F := Ideal) P D) 0 (ix2 r h)) ?_ ?_
  · rw [← Ideal.ofBits_zero_f32]; rfl
  · rw [sum_ends]
    simp only [split_at]

theorem keep_at (r : Fin 128) (h : Fin 12) : (Read.val_main_v95 (F := Ideal) P D) (ix4 0 r h 0) = (Read.val_main_v94 (F := Ideal) P D) (ix2 r h) := by
  pointwise [Read.val_main_v95]

theorem db_at (r : Fin 128) (h : Fin 12) : (Read.val_main_v96 (F := Ideal) P D) (ix2 r h) = (Read.val_main_v94 (F := Ideal) P D) (ix2 r h) := by
  unfold Read.val_main_v96
  refine Eq.trans (b := Ideal.hostReduceAdd Gen.reducesTo_S1x128x12x1_S128x12_d0_3 (Read.val_main_v95 (F := Ideal) P D) 0 (ix2 r h)) ?_ ?_
  · rw [← Ideal.ofBits_zero_f32]; rfl
  · rw [sum_ends, Fin.sum_univ_one, Fin.sum_univ_one, keep_at]

theorem pad_at (r l : Fin 128) :
    (Read.val_main_v166 (F := Ideal) P D) (ix2 r l) = spread (fun h => (Read.val_main_v96 (F := Ideal) P D) (ix2 r h)) l := by
  pointwise [Read.val_main_v166, Read.val_main_call3_v0, Read.val_main_c_42, spread]
  split
  · rfl
  · show (((BitVec.toInt 0#32 : ℤ) : ℝ) : EReal) = 0
    simp

theorem shift_at (q : Fin 1536) :
    (Read.val_main_v104 (F := Ideal) P D w) (ix2 0 q) = ∑ p, (Read.val_main_v102 (F := Ideal) P D w) (ix2 p q) := by
  pointwise [Read.val_main_v104, Read.val_main_v103, Read.val_main_cst_25]

theorem scale_at (q : Fin 1536) :
    (Read.val_main_v107 (F := Ideal) P D w) (ix2 0 q) = ∑ p, (Read.val_main_v74 (F := Ideal) P) (ix2 p q) * (Read.val_main_v102 (F := Ideal) P D w) (ix2 p q) := by
  pointwise [Read.val_main_v107, Read.val_main_v106, Read.val_main_cst_26, Read.val_main_v105]

/-- Row `d` taken back through the normalisation: the centred row twice (`c`, and twice itself `e`), the reciprocal deviation `s` and its slope `k`. -/
def normBack (d c e : Fin 1536 → EReal) (s k : EReal) (q : Fin 1536) : EReal :=
  d q * s + Ideal.div ((∑ l, c l * d l) * k) (Ideal.ofBits .f32 0x44C00000#32) * e q
    + Ideal.div ((∑ l, -(d l * s)) + ∑ l, -(Ideal.div ((∑ l, c l * d l) * k) (Ideal.ofBits .f32 0x44C00000#32) * e l)) (Ideal.ofBits .f32 0x44C00000#32)

/-- A gradient `y` taken back through the activation at `x`. -/
def actBack (y x : EReal) : EReal :=
  y * (Ideal.ofBits .f32 0x3F000000#32 * (Ideal.ofBits .f32 0x3F800000#32 + rth x)) + Ideal.ofBits .f32 0x3F4C422A#32 * (Ideal.ofBits .f32 0x3F000000#32 * (x * y) * ((Ideal.ofBits .f32 0x3F800000#32 + rth x) * (Ideal.ofBits .f32 0x3F800000#32 - rth x)))
    + Ideal.ofBits .f32 0x472EAB00#32 * Ideal.div (Ideal.ofBits .f32 0x3F4C422A#32 * (Ideal.ofBits .f32 0x3F000000#32 * (x * y) * ((Ideal.ofBits .f32 0x3F800000#32 + rth x) * (Ideal.ofBits .f32 0x3F800000#32 - rth x)))) (Ideal.ofBits .f32 0x49742400#32) * (Ideal.ofBits .f32 0x40400000#32 * (x * x))

theorem norm_back (p : Fin 8192) (q : Fin 1536) :
    (Read.val_main_v133 (F := Ideal) P D g w) (ix2 p q) = normBack (fun k => (Read.val_main_v102 (F := Ideal) P D w) (ix2 p k) * g (ix2 0 k)) (fun k => (Read.val_main_v66 (F := Ideal) P) (ix2 p k)) (fun k => (Read.val_main_v60 (F := Ideal) P) (ix2 p k)) ((Read.val_main_v69 (F := Ideal) P) (ix2 p 0)) ((Read.val_main_v72 (F := Ideal) P) (ix2 p 0)) q := by
  pointwise [Read.val_main_v133, Read.val_main_v127, Read.val_main_v114, Read.val_main_v109, Read.val_main_v108, Read.val_main_v113, Read.val_main_v123, Read.val_main_v122, Read.val_main_v121, Read.val_main_cst_30, Read.val_main_v120, Read.val_main_v115, Read.val_main_v112, Read.val_main_v111, Read.val_main_cst_27, Read.val_main_v110, Read.val_main_v119, Read.val_main_cst_29, Read.val_main_v132, Read.val_main_v131, Read.val_main_cst_33, Read.val_main_v130, Read.val_main_v128, Read.val_main_v118, Read.val_main_v117, Read.val_main_cst_28, Read.val_main_v116, Read.val_main_v126, Read.val_main_v125, Read.val_main_cst_31, Read.val_main_v124, Read.val_main_v129, Read.val_main_cst_32, normBack]
  simp only [Fin.sum_univ_one]

theorem value_back (p : Fin 8192) (q : Fin 1536) :
    (Read.val_main_v147 (F := Ideal) P D g w) (ix2 p q) = actBack ((Read.val_main_v133 (F := Ideal) P D g w) (ix2 p q)) (value P p q) := by
  pointwise [Read.val_main_v147, Read.val_main_v141, Read.val_main_v135, Read.val_main_v50, Read.val_main_v48, Read.val_main_v41, Read.val_main_v40, Read.val_main_v38, Read.val_main_v37, Read.val_main_v35, Read.val_main_v30, Read.val_main_v29, Read.val_main_v5, Read.val_main_v3, Read.val_main_v2, Read.val_main_v34, Read.val_main_cst_8, Read.val_main_v36, Read.val_main_cst_9, Read.val_main_v39, Read.val_main_cst_10, Read.val_main_v47, Read.val_main_cst_13, Read.val_main_v49, Read.val_main_cst_14, Read.val_main_v140, Read.val_main_v138, Read.val_main_v137, Read.val_main_v134, Read.val_main_v136, Read.val_main_cst_34, Read.val_main_v46, Read.val_main_v43, Read.val_main_v42, Read.val_main_cst_11, Read.val_main_v45, Read.val_main_v44, Read.val_main_cst_12, Read.val_main_v139, Read.val_main_cst_35, Read.val_main_v146, Read.val_main_v145, Read.val_main_v143, Read.val_main_v142, Read.val_main_cst_36, Read.val_main_v144, Read.val_main_cst_37, Read.val_main_v33, Read.val_main_v31, Read.val_main_v32, Read.val_main_cst_7, actBack, rth, value]

theorem gate_back (p : Fin 8192) (q : Fin 1536) :
    (Read.val_main_v161 (F := Ideal) P D g b w a) (ix2 p q) = actBack ((Read.val_main_v92 (F := Ideal) P D g b w a) (ix2 p q)) (gate P p q) := by
  pointwise [Read.val_main_v161, Read.val_main_v155, Read.val_main_v149, Read.val_main_v27, Read.val_main_v25, Read.val_main_v18, Read.val_main_v17, Read.val_main_v15, Read.val_main_v14, Read.val_main_v12, Read.val_main_v11, Read.val_main_cst_0, Read.val_main_v7, Read.val_main_v4, Read.val_main_v3, Read.val_main_v2, Read.val_main_v6, Read.val_main_v13, Read.val_main_cst_1, Read.val_main_v16, Read.val_main_cst_2, Read.val_main_v24, Read.val_main_cst_5, Read.val_main_v26, Read.val_main_cst_6, Read.val_main_v154, Read.val_main_v152, Read.val_main_v151, Read.val_main_v148, Read.val_main_v150, Read.val_main_cst_38, Read.val_main_v23, Read.val_main_v20, Read.val_main_v19, Read.val_main_cst_3, Read.val_main_v22, Read.val_main_v21, Read.val_main_cst_4, Read.val_main_v153, Read.val_main_cst_39, Read.val_main_v160, Read.val_main_v10, Read.val_main_v8, Read.val_main_v9, Read.val_main_cst, Read.val_main_v159, Read.val_main_v157, Read.val_main_v156, Read.val_main_cst_40, Read.val_main_v158, Read.val_main_cst_41, actBack, rth, gate]

theorem mul_at (p : Fin 8192) (q : Fin 1536) :
    (Read.val_main_v92 (F := Ideal) P D g b w a) (ix2 p q) = grad D p q * (Read.val_main_v89 (F := Ideal) P g b w a) (ix2 p q) := by
  pointwise [Read.val_main_v92, Read.val_main_v1, Read.val_main_v0, grad]

theorem mul_at2 (p : Fin 8192) (q : Fin 1536) :
    (Read.val_main_v91 (F := Ideal) P D) (ix2 p q) = (Read.val_main_v28 (F := Ideal) P) (ix2 p q) * grad D p q := by
  pointwise [Read.val_main_v91, Read.val_main_v1, Read.val_main_v0, grad]

theorem left_at (p : Fin 8192) (q : Fin 1536) :
    (Read.val_main_v165 (F := Ideal) P D g b w a o) (ix2 p ⟨q.val, by omega⟩) = (Read.val_main_v161 (F := Ideal) P D g b w a) (ix2 p q) := by
  pointwise [Read.val_main_v165, Read.val_main_v163, Read.val_main_v162, Read.val_main_v164]
  exact dif_pos (show q.val < 3072 by omega)

theorem mid_at (p : Fin 8192) (q : Fin 1536) :
    (Read.val_main_v165 (F := Ideal) P D g b w a o) (ix2 p ⟨1536 + q.val, by omega⟩) = (Read.val_main_v147 (F := Ideal) P D g w) (ix2 p q) := by
  pointwise [Read.val_main_v165, Read.val_main_v163, Read.val_main_v162, Read.val_main_v164]
  exact dif_pos (show 1536 + q.val < 3072 by omega)

theorem right_at (p : Fin 8192) (q : Fin 512) :
    (Read.val_main_v165 (F := Ideal) P D g b w a o) (ix2 p ⟨3072 + q.val, by omega⟩) = o (ix2 p ⟨3072 + q.val, by omega⟩) := by
  pointwise [Read.val_main_v165, Read.val_main_v163, Read.val_main_v162, Read.val_main_v164]

end Cert.SguBwdReferenceIdeal.Rows

end
-- ==== Proof.SguBwdReal.lean ====
/- The gradient of the spatial-gating unit over the reals: the activation's slope and the normalisation's gradient, in the call's form and in the reference's. -/
module

public import proofs.«01_k».proof.Proof.SguBwdRef
public import proofs.«01_k».proof.Proof.Softmax
public import proofs.«01_k».proof.Proof.Silu

@[expose] public section

set_option maxRecDepth 16384

noncomputable section

namespace Cert.SguBwdReferenceIdeal.Rows

open Idealize.ShloMosaic
open Cert.SguBwdKernelIdeal.Block (act slp rstd hat th cube cube3 through)
open Cert.SguFwdKernelIdeal.Block (mean)

/-- A number that is neither infinity. -/
def Fin' (x : EReal) : Prop := ∃ r : ℝ, x = (r : EReal)

theorem Fin'.add {x y : EReal} (hx : Fin' x) (hy : Fin' y) : Fin' (x + y) := by
  obtain ⟨r, rfl⟩ := hx; obtain ⟨s, rfl⟩ := hy; exact ⟨r + s, (EReal.coe_add r s).symm⟩

theorem Fin'.sub {x y : EReal} (hx : Fin' x) (hy : Fin' y) : Fin' (x - y) := by
  obtain ⟨r, rfl⟩ := hx; obtain ⟨s, rfl⟩ := hy; exact ⟨r - s, (EReal.coe_sub r s).symm⟩

theorem Fin'.mul {x y : EReal} (hx : Fin' x) (hy : Fin' y) : Fin' (x * y) := by
  obtain ⟨r, rfl⟩ := hx; obtain ⟨s, rfl⟩ := hy; exact ⟨r * s, (EReal.coe_mul r s).symm⟩

theorem Fin'.zero : Fin' 0 := ⟨0, rfl⟩

theorem Fin'.sum {ι : Type} (s : Finset ι) (f : ι → EReal) (h : ∀ i, Fin' (f i)) : Fin' (∑ i ∈ s, f i) := by
  choose r hr using h
  exact ⟨∑ i ∈ s, r i, by rw [Cert.Softmax.coe_sum]; exact Finset.sum_congr rfl fun i _ => hr i⟩

theorem c_half : Ideal.ofBits .f32 0x3F000000#32 = ((1 / 2 : ℝ) : EReal) := by simp [Ideal.ofBits, Ideal.ieee]; norm_num [← EReal.coe_mul]
theorem c_one : Ideal.ofBits .f32 0x3F800000#32 = ((1 : ℝ) : EReal) := by simp [Ideal.ofBits, Ideal.ieee]; norm_num [← EReal.coe_mul]
theorem c_two : Ideal.ofBits .f32 0x40000000#32 = ((2 : ℝ) : EReal) := by simp [Ideal.ofBits, Ideal.ieee]; norm_num [← EReal.coe_mul]
theorem c_three : Ideal.ofBits .f32 0x40400000#32 = ((3 : ℝ) : EReal) := by simp [Ideal.ofBits, Ideal.ieee]; norm_num [← EReal.coe_mul]
theorem c_nhalf : Ideal.ofBits .f32 0xBF000000#32 = ((-(1 / 2) : ℝ) : EReal) := by simp [Ideal.ofBits, Ideal.ieee]; norm_num [← EReal.coe_mul]
theorem c_width : Ideal.ofBits .f32 0x44C00000#32 = ((1536 : ℝ) : EReal) := by simp [Ideal.ofBits, Ideal.ieee]; norm_num [← EReal.coe_mul]
theorem c_parts : Ideal.ofBits .f32 0x472EAB00#32 = ((44715 : ℝ) : EReal) := by simp [Ideal.ofBits, Ideal.ieee]; norm_num [← EReal.coe_mul]
theorem c_million : Ideal.ofBits .f32 0x49742400#32 = ((1000000 : ℝ) : EReal) := by simp [Ideal.ofBits, Ideal.ieee]; norm_num [← EReal.coe_mul]
theorem c_root : Fin' (Ideal.ofBits .f32 0x3F4C422A#32) := by
  simp [Ideal.ofBits, Ideal.ieee]; exact ⟨_, (EReal.coe_mul _ _).symm⟩
theorem c_eps : ∃ e : ℝ, 0 < e ∧ Ideal.ofBits .f32 0x3727C5AC#32 = (e : EReal) := by
  simp [Ideal.ofBits, Ideal.ieee]
  exact ⟨_, by positivity, (EReal.coe_mul _ _).symm⟩
theorem c_cube : cube = ((8943 / 200000 : ℝ) : EReal) := IdealRules.named_const.ideal_named_scalar _ _ _ _ rfl
theorem c_cube3 : cube3 = ((26829 / 200000 : ℝ) : EReal) := IdealRules.named_const.ideal_named_scalar _ _ _ _ rfl

theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

theorem rth_eq (r : ℝ) : rth (r : EReal) = th (r : EReal) := by
  obtain ⟨C, hC⟩ := c_root
  unfold rth th
  rw [hC, c_cube, c_parts, c_million]
  simp only [← EReal.coe_mul]
  rw [div_coe _ _ (by norm_num)]
  simp only [← EReal.coe_mul, ← EReal.coe_add]
  exact congrArg Ideal.tanh (congrArg _ (by ring))

theorem th_fin (r : ℝ) : Fin' (th (r : EReal)) := by
  obtain ⟨C, hC⟩ := c_root
  unfold th
  rw [hC, c_cube]
  simp only [← EReal.coe_mul, ← EReal.coe_add]
  exact ⟨_, rfl⟩

theorem ract_eq {x : EReal} (hx : Fin' x) : ract x = act x := by
  obtain ⟨r, rfl⟩ := hx
  unfold ract act
  rw [rth_eq]

theorem act_fin {x : EReal} (hx : Fin' x) : Fin' (act x) := by
  obtain ⟨r, rfl⟩ := hx
  obtain ⟨t, ht⟩ := th_fin r
  unfold act
  rw [ht, c_half, c_one]
  simp only [← EReal.coe_mul, ← EReal.coe_add]
  exact ⟨_, rfl⟩

/-- The activation's gradient is the product with its slope. -/
theorem actBack_eq {y x : EReal} (hy : Fin' y) (hx : Fin' x) : actBack y x = y * slp x := by
  obtain ⟨r, rfl⟩ := hx
  obtain ⟨s, rfl⟩ := hy
  obtain ⟨t, ht⟩ := th_fin r
  obtain ⟨C, hC⟩ := c_root
  unfold actBack slp
  rw [rth_eq, ht, hC, c_half, c_one, c_cube3, c_parts, c_million, c_three]
  simp only [← EReal.coe_mul, ← EReal.coe_add, ← EReal.coe_sub]
  rw [div_coe _ _ (by norm_num)]
  simp only [← EReal.coe_mul, ← EReal.coe_add, ← EReal.coe_sub]
  exact congrArg _ (by ring)

theorem mean_coe (f : Fin 1536 → ℝ) : mean (fun k => (f k : EReal)) = (((∑ k, f k) / 1536 : ℝ) : EReal) := by
  unfold mean
  rw [c_width, ← Cert.Softmax.coe_sum, div_coe _ _ (by norm_num)]

/-- The reciprocal deviation is a real number whose square times the shifted variance is one. -/
theorem rstd_coe (f : Fin 1536 → ℝ) (μ : ℝ) (hμ : mean (fun k => (f k : EReal)) = (μ : EReal)) :
    ∃ s v : ℝ, rstd (fun k => (f k : EReal)) = (s : EReal) ∧ v ≠ 0 ∧ s * s * v = 1
      ∧ mean (fun k => ((f k : EReal) - mean (fun k => (f k : EReal))) * ((f k : EReal) - mean (fun k => (f k : EReal)))) + Ideal.ofBits .f32 0x3727C5AC#32 = (v : EReal) := by
  obtain ⟨e, he, hE⟩ := c_eps
  unfold rstd
  rw [hμ, hE]
  simp only [← EReal.coe_sub, ← EReal.coe_mul]
  rw [mean_coe, ← EReal.coe_add]
  have hv : 0 < (∑ k, (f k - μ) * (f k - μ)) / 1536 + e :=
    add_pos_of_nonneg_of_pos (div_nonneg (Finset.sum_nonneg fun k _ => mul_self_nonneg _) (by norm_num)) he
  generalize (∑ k, (f k - μ) * (f k - μ)) / 1536 + e = v at hv
  refine ⟨(Real.sqrt v)⁻¹, v, ?_, hv.ne', ?_, rfl⟩
  · show (if v < 0 then ⊥ else if v = 0 then ⊤ else (((Real.sqrt v)⁻¹ : ℝ) : EReal)) = _
    rw [if_neg hv.le.not_gt, if_neg hv.ne']
  · have h := Real.mul_self_sqrt hv.le
    have hs : Real.sqrt v ≠ 0 := (Real.sqrt_pos.mpr hv).ne'
    rw [← mul_inv, h, inv_mul_cancel₀ hv.ne']

/-- The normalisation's gradient in the two forms. -/
theorem normBack_eq (x d g : Fin 1536 → EReal) (hx : ∀ k, Fin' (x k)) (hd : ∀ k, Fin' (d k)) (hg : ∀ k, Fin' (g k)) (q : Fin 1536) :
    normBack (fun k => d k * g k) (fun k => x k - mean x) (fun k => Ideal.ofBits .f32 0x40000000#32 * (x k - mean x)) (rstd x)
        (Ideal.ofBits .f32 0xBF000000#32 * Ideal.div (rstd x) (mean (fun k => (x k - mean x) * (x k - mean x)) + Ideal.ofBits .f32 0x3727C5AC#32)) q
      = through x d g q ∧ Fin' (through x d g q) := by
  choose f hf using hx
  choose u hu using hd
  choose w hw using hg
  obtain rfl : x = fun k => (f k : EReal) := funext hf
  obtain rfl : d = fun k => (u k : EReal) := funext hu
  obtain rfl : g = fun k => (w k : EReal) := funext hw
  have hμ := mean_coe f
  obtain ⟨s, v, hs, hv, hsv, hV⟩ := rstd_coe f _ hμ
  have h0 : ∑ k, (f k - (∑ k, f k) / 1536) = 0 := by
    rw [Finset.sum_sub_distrib, Finset.sum_const, Finset.card_univ, Fintype.card_fin, nsmul_eq_mul]
    push_cast
    ring
  unfold normBack through hat
  rw [hV, hs, hμ, c_two, c_nhalf, c_width]
  generalize (∑ k, f k) / 1536 = μ at h0
  rw [div_coe _ _ hv]
  simp only [← EReal.coe_mul, ← EReal.coe_sub]
  rw [← Cert.Softmax.coe_sum, ← EReal.coe_mul, div_coe _ _ (by norm_num)]
  simp only [← EReal.coe_mul, ← EReal.coe_neg]
  rw [← Cert.Softmax.coe_sum, ← Cert.Softmax.coe_sum]
  simp only [← EReal.coe_add]
  rw [div_coe _ _ (by norm_num), mean_coe, mean_coe]
  simp only [← EReal.coe_mul, ← EReal.coe_sub, ← EReal.coe_add]
  refine ⟨congrArg _ ?_, ⟨_, rfl⟩⟩
  have e1 : ∑ l, (f l - μ) * (u l * w l) = ∑ l, u l * w l * (f l - μ) := Finset.sum_congr rfl fun l _ => mul_comm _ _
  have e2 : ∑ l, u l * w l * ((f l - μ) * s) = (∑ l, u l * w l * (f l - μ)) * s := by
    rw [Finset.sum_mul]; exact Finset.sum_congr rfl fun l _ => by ring
  have e3 : ∑ l, -(u l * w l * s) = -((∑ l, u l * w l) * s) := by rw [Finset.sum_neg_distrib, Finset.sum_mul]
  have e4 : ∀ z : ℝ, ∑ l, -(z * (2 * (f l - μ))) = 0 := by
    intro z
    rw [show (fun l => -(z * (2 * (f l - μ)))) = fun l => (-(z * 2)) * (f l - μ) from funext fun l => by ring, ← Finset.mul_sum, h0, mul_zero]
  have e5 : s / v = s * s * s := by
    rw [div_eq_iff hv, mul_assoc, mul_comm s v, ← mul_assoc, mul_comm (s * s * v), hsv, mul_one] <;> ring
  rw [e4, e1, e2, e3, e5]
  ring

end Cert.SguBwdReferenceIdeal.Rows

end
-- ==== Proof.SguBwdValue.lean ====
/- The gradient of the spatial-gating unit: the call's arrays are the reference's. -/
module

public import proofs.«01_k».proof.Proof.SguBwdReal

@[expose] public section

set_option maxRecDepth 16384

noncomputable section

namespace Cert.SguBwdReferenceIdeal.Rows

open Idealize.ShloMosaic
open Cert.SguBwdKernelIdeal.Block (gate value grad unit vrow dv row act slp rstd hat mixed back through outU outV partW partA partG partB spread)
open Cert.SguFwdKernelIdeal.Block (mean)

section
variable (P : Vec Ideal S8192x3584 .bf16) (D : Vec Ideal S8192x2048 .bf16) (g b : Vec Ideal S1x1536 .f32) (w : Vec Ideal S12x128x128 .f32) (a : Vec Ideal S128x12 .f32) (o : Vec Ideal S8192x3584 .bf16)

/-- The arguments are real numbers, the matrices on and below their diagonals. -/
structure Reals : Prop where
  u : ∀ p q, Fin' (gate P p q)
  v : ∀ p q, Fin' (value P p q)
  d : ∀ p q, Fin' (grad D p q)
  g : ∀ q : Fin 1536, Fin' (g (ix2 0 q))
  b : ∀ q : Fin 1536, Fin' (b (ix2 0 q))
  w : ∀ (h : Fin 12) (r l : Fin 128), l.val ≤ r.val → Fin' (w (ix3 h r l))
  a : ∀ (r : Fin 128) (h : Fin 12), Fin' (a (ix2 r h))

theorem sum_rows (f : Fin 8192 → EReal) : ∑ p, f p = ∑ t : Fin 64, ∑ r : Fin 128, f (row t r) := by
  rw [← Fintype.sum_prod_type' (f := fun t r => f (row t r))]
  refine (Fintype.sum_equiv (finProdFinEquiv (m := 64) (n := 128)) _ f fun x => congrArg f (Fin.ext ?_)).symm
  show x.1.val * 128 + x.2.val = x.2.val + 128 * x.1.val
  omega

theorem sum_spread (f : Fin 64 → Fin 12 → EReal) (l : Fin 128) : ∑ t, spread (f t) l = spread (fun h => ∑ t, f t h) l := by
  unfold spread
  by_cases h : l.val < 12
  · simp only [dif_pos h]
  · simp only [dif_neg h, Finset.sum_const_zero]

variable {P D g b w a}
variable (H : Reals P D g b w a)
include H

theorem gate_act (p : Fin 8192) (q : Fin 1536) : (Read.val_main_v28 (F := Ideal) P) (ix2 p q) = act (gate P p q) := by
  rw [gate_at, ract_eq (H.u p q)]

theorem value_act (p : Fin 8192) (q : Fin 1536) : (Read.val_main_v51 (F := Ideal) P) (ix2 p q) = act (value P p q) := by
  rw [value_at, ract_eq (H.v p q)]

theorem unit_eq (p : Fin 8192) (q : Fin 1536) : (Read.val_main_v74 (F := Ideal) P) (ix2 p q) = unit P p q := by
  rw [unit_at]
  simp only [value_act H]
  rfl

theorem vrow_eq (p : Fin 8192) (q : Fin 1536) : (Read.val_main_v78 (F := Ideal) P g b) (ix2 p q) = vrow P g b p q := by
  rw [vrow_at, unit_eq H]
  rfl

theorem unit_fin (p : Fin 8192) (q : Fin 1536) : Fin' (unit P p q) := by
  choose f hf using fun k => act_fin (H.v p k)
  unfold unit hat
  simp only [hf]
  obtain ⟨s, v, hs, -⟩ := rstd_coe f _ (mean_coe f)
  rw [mean_coe, hs]
  exact Fin'.mul (Fin'.sub ⟨_, rfl⟩ ⟨_, rfl⟩) ⟨_, rfl⟩

theorem vrow_fin (p : Fin 8192) (q : Fin 1536) : Fin' (vrow P g b p q) := ((unit_fin H p q).mul (H.g q)).add (H.b q)

theorem row_div (t : Fin 64) (r : Fin 128) : (row t r).val / 128 = t.val := by show (t.val * 128 + r.val) / 128 = t.val; omega

theorem row_mod (t : Fin 64) (r : Fin 128) : (row t r).val % 128 = r.val := by show (t.val * 128 + r.val) % 128 = r.val; omega

theorem mixed_eq (t : Fin 64) (r : Fin 128) (q : Fin 1536) : (Read.val_main_v89 (F := Ideal) P g b w a) (ix2 (row t r) q)
    = mixed (fun k => vrow P g b (row t k) q) (fun k => w (ix3 ⟨q.val / 128, by omega⟩ r k)) (a (ix2 r ⟨q.val / 128, by omega⟩)) r := by
  have hm : (⟨(row t r).val % 128, by omega⟩ : Fin 128) = r := Fin.ext (row_mod H t r)
  have hk : ∀ k : Fin 128, (⟨(row t r).val / 128 * 128 + k.val, by omega⟩ : Fin 8192) = row t k := fun k => Fin.ext (by show (row t r).val / 128 * 128 + k.val = t.val * 128 + k.val; rw [row_div H])
  rw [mixed_at]
  simp only [hm, hk, mask_at, vrow_eq H]
  unfold mixed
  refine congrArg (· + _) (Finset.sum_congr rfl fun k _ => ?_)
  rw [ite_mul, zero_mul]

theorem mixed_fin (t : Fin 64) (r : Fin 128) (q : Fin 1536) :
    Fin' (mixed (fun k => vrow P g b (row t k) q) (fun k => w (ix3 ⟨q.val / 128, by omega⟩ r k)) (a (ix2 r ⟨q.val / 128, by omega⟩)) r) := by
  refine Fin'.add (Fin'.sum _ _ fun k => ?_) (H.a _ _)
  split
  · exact (H.w _ _ _ (by assumption)).mul (vrow_fin H _ _)
  · exact Fin'.zero

theorem dv_eq (t : Fin 64) (r : Fin 128) (q : Fin 1536) : (Read.val_main_v102 (F := Ideal) P D w) (ix2 (row t r) q) = dv P D w t r q := by
  have hm : (⟨(row t r).val % 128, by omega⟩ : Fin 128) = r := Fin.ext (row_mod H t r)
  have hk : ∀ k : Fin 128, (⟨(row t r).val / 128 * 128 + k.val, by omega⟩ : Fin 8192) = row t k := fun k => Fin.ext (by show (row t r).val / 128 * 128 + k.val = t.val * 128 + k.val; rw [row_div H])
  rw [back_at]
  simp only [hm, hk, mask_at, mul_at2, gate_act H]
  unfold dv back
  refine Finset.sum_congr rfl fun k _ => ?_
  rw [mul_ite, mul_zero, mul_comm (act _), mul_comm (grad _ _ _ * _)]

theorem dv_fin (t : Fin 64) (r : Fin 128) (q : Fin 1536) : Fin' (dv P D w t r q) := by
  unfold dv back
  refine Fin'.sum _ _ fun k => ?_
  split
  · exact (H.w _ _ _ (by assumption)).mul ((H.d _ _).mul (act_fin (H.u _ _)))
  · exact Fin'.zero

theorem u_eq (t : Fin 64) (r : Fin 128) (q : Fin 1536) : (Read.val_main_v161 (F := Ideal) P D g b w a) (ix2 (row t r) q) = outU P D g b w a t r q := by
  rw [gate_back, mul_at, mixed_eq H, actBack_eq ((H.d _ _).mul (mixed_fin H t r q)) (H.u _ _)]
  rfl

theorem v_eq (t : Fin 64) (r : Fin 128) (q : Fin 1536) : (Read.val_main_v147 (F := Ideal) P D g w) (ix2 (row t r) q) = outV P D g w t r q := by
  have h := normBack_eq (fun k => act (value P (row t r) k)) (fun k => dv P D w t r k) (fun k => g (ix2 0 k))
    (fun k => act_fin (H.v _ _)) (fun k => dv_fin H t r k) (fun k => H.g k) q
  rw [value_back, norm_back]
  simp only [cent_at, twice_at, cent_at2, rstd_at, half_at, value_act H, dv_eq H]
  rw [h.1, actBack_eq h.2 (H.v _ _)]
  rfl

theorem w_eq (h : Fin 12) (r l : Fin 128) : (Read.val_main_v101 (F := Ideal) P D g b) (ix3 h r l) = ∑ t, partW P D g b t h r l := by
  rw [dw_at, dots_at]
  simp only [mul_at2, gate_act H, vrow_eq H]
  unfold partW
  by_cases hl : l.val ≤ r.val
  · simp only [if_pos hl]
    refine Finset.sum_congr rfl fun t _ => Finset.sum_congr rfl fun j _ => ?_
    rw [mul_comm (act _)]
  · simp only [if_neg hl, Finset.sum_const_zero]

theorem a_eq (r l : Fin 128) : (Read.val_main_v166 (F := Ideal) P D) (ix2 r l) = ∑ t, partA P D t r l := by
  unfold partA
  rw [pad_at, sum_spread]
  refine congrArg (fun f => spread f l) (funext fun h => ?_)
  rw [db_at, sums_at]
  refine Finset.sum_congr rfl fun t _ => Finset.sum_congr rfl fun j _ => ?_
  rw [mul_at2, gate_act H, mul_comm]

theorem g_eq (q : Fin 1536) : (Read.val_main_v107 (F := Ideal) P D w) (ix2 0 q) = ∑ t, partG P D w t q := by
  rw [scale_at, sum_rows]
  unfold partG
  refine Finset.sum_congr rfl fun t _ => Finset.sum_congr rfl fun r _ => ?_
  rw [unit_eq H, dv_eq H, mul_comm]

theorem b_eq (q : Fin 1536) : (Read.val_main_v104 (F := Ideal) P D w) (ix2 0 q) = ∑ t, partB P D w t q := by
  rw [shift_at, sum_rows]
  unfold partB
  simp only [dv_eq H]
end

end Cert.SguBwdReferenceIdeal.Rows

namespace Cert.SguBwdKernelIdeal.Block

open Cert.SguBwdKernelIdeal Cert.SguBwdKernelIdeal.Gen Idealize.ShloMosaic Idealize.ShloMosaic.TcCoe
open Cert.SguBwdReferenceIdeal.Rows

variable (m : (ℓ : Loc nD τ sig) → Buf (Elt Ideal) ℓ) (c : Dev nD)
  (H : Reals (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

include H in
theorem value_proj : (Cert.SguBwdReferenceIdeal.Read.val_main_v165 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) = (dats m 0 c).arrAt 7 cfg0.N := by
  funext i
  obtain ⟨p, q, rfl⟩ : ∃ (p : Fin 8192) (q : Fin 3584), i = ix2 p q := ⟨i 0, i 1, eq_ix2 i⟩
  obtain ⟨t, r, rfl⟩ : ∃ t r, p = row t r := ⟨⟨p.val / 128, by omega⟩, ⟨p.val % 128, by omega⟩, Fin.ext (by show p.val = p.val / 128 * 128 + p.val % 128; omega)⟩
  by_cases h1 : q.val < 1536
  · exact ((left_at _ _ _ _ _ _ _ (row t r) ⟨q.val, h1⟩).trans (u_eq H t r ⟨q.val, h1⟩)).trans (arr_u m c t r ⟨q.val, h1⟩).symm
  · by_cases h2 : q.val < 3072
    · obtain ⟨k, hk⟩ : ∃ k : Fin 1536, q = ⟨1536 + k.val, by omega⟩ := ⟨⟨q.val - 1536, by omega⟩, Fin.ext (by show q.val = 1536 + (q.val - 1536); omega)⟩
      rw [hk]
      exact ((mid_at _ _ _ _ _ _ _ (row t r) k).trans (v_eq H t r k)).trans (arr_v m c t r k).symm
    · obtain ⟨k, hk⟩ : ∃ k : Fin 512, q = ⟨3072 + k.val, by omega⟩ := ⟨⟨q.val - 3072, by omega⟩, Fin.ext (by show q.val = 3072 + (q.val - 3072); omega)⟩
      rw [hk]
      exact (right_at _ _ _ _ _ _ _ (row t r) k).trans (arr_rest m c (row t r) _ (by show 3072 ≤ 3072 + k.val; omega)).symm

include H in
theorem value_mix : (Cert.SguBwdReferenceIdeal.Read.val_main_v101 (F := Ideal) (m ((c : Thread nD τ).loc main_arg0)) (m ((c : Thread nD τ).loc main_arg1)) (m ((c : Thread nD τ).loc main_arg2)) (m ((c : Thread nD τ).loc main_arg3))) = (dats m 0 c).arrAt 8 cfg0.N := by
  funext i
  obtain ⟨h, r, l, rfl⟩ : ∃ (h : Fin 12) (r l : Fin 128), i = ix3 h r l := ⟨i 0, i 1, i 2, eq_ix3 i⟩
  exact (w_eq H h r l).trans (arr_w m c h r l).symm

include H in
theorem value_shift : (Cert.SguBwdReferenceIdeal.Read.val_main_v166 (F := Ideal) (m ((c : Thread nD τ).loc main_arg0)) (m ((c : Thread nD τ).loc main_arg1))) = (dats m 0 c).arrAt 9 cfg0.N := by
  funext i
  obtain ⟨r, l, rfl⟩ : ∃ (r l : Fin 128), i = ix2 r l := ⟨i 0, i 1, eq_ix2 i⟩
  exact (a_eq H r l).trans (arr_a m c r l).symm

include H in
theorem value_gain : (Cert.SguBwdReferenceIdeal.Read.val_main_v107 (F := Ideal) (m ((c : Thread nD τ).loc main_arg0)) (m ((c : Thread nD τ).loc main_arg1)) (m ((c : Thread nD τ).loc main_arg4))) = (dats m 0 c).arrAt 10 cfg0.N := by
  funext i
  obtain ⟨z, q, rfl⟩ : ∃ (z : Fin 1) (q : Fin 1536), i = ix2 z q := ⟨i 0, i 1, eq_ix2 i⟩
  obtain rfl : z = 0 := Subsingleton.elim _ _
  exact (g_eq H q).trans (arr_g m c q).symm

include H in
theorem value_bias : (Cert.SguBwdReferenceIdeal.Read.val_main_v104 (F := Ideal) (m ((c : Thread nD τ).loc main_arg0)) (m ((c : Thread nD τ).loc main_arg1)) (m ((c : Thread nD τ).loc main_arg4))) = (dats m 0 c).arrAt 11 cfg0.N := by
  funext i
  obtain ⟨z, q, rfl⟩ : ∃ (z : Fin 1) (q : Fin 1536), i = ix2 z q := ⟨i 0, i 1, eq_ix2 i⟩
  obtain rfl : z = 0 := Subsingleton.elim _ _
  exact (b_eq H q).trans (arr_b m c q).symm

end Cert.SguBwdKernelIdeal.Block

end
-- ==== Proof.SguBwdFinite.lean ====
/- The precondition of the spatial-gating unit's gradient in words: its arguments are real numbers, the matrices on and below their diagonals. -/
module

public import proofs.«01_k».proof.Proof.SguBwdValue
public import proofs.«01_k».proof.Proof.Finite
public import proofs.«01_k».proof.Proof.Gen.Pre_finite_gating

@[expose] public section

set_option maxRecDepth 16384

noncomputable section

namespace Cert.Pre_finite_gating.Read

open Idealize.ShloMosaic
open Cert.Pre_finite_gating Cert.Pre_finite_gating.Gen
open Cert.SguBwdReferenceIdeal.Rows (Reals)
open Cert.Pre_finite_logits.Read (real_of_lt)

variable (P : Vec Ideal S8192x3584 .bf16) (D : Vec Ideal S8192x2048 .bf16) (g b : Vec Ideal S1x1536 .f32) (w : Vec Ideal S12x128x128 .f32) (a : Vec Ideal S128x12 .f32) (o : Vec Ideal S8192x3584 .bf16)

theorem tril_at (h : Fin 12) (r l : Fin 128) (hl : l.val ≤ r.val) : fn_tril (F := Ideal) w (ix3 h r l) = w (ix3 h r l) := by
  unfold fn_tril
  dsimp only
  pointwise
  have e : IntOp.addi (BitVec.ofNat 32 r.val) 0#32 = BitVec.ofNat 32 r.val := BitVec.add_zero _
  rw [e, Cert.SguFwdKernelIdeal.Block.keep _ _ _ _ r.isLt l.isLt, if_pos hl]

theorem reals (h1 : (fn (F := Ideal) P D g b w a o).1 = fun _ => 1#1) (h2 : (fn (F := Ideal) P D g b w a o).2.1 = fun _ => 1#1)
    (h3 : (fn (F := Ideal) P D g b w a o).2.2.1 = fun _ => 1#1) (h4 : (fn (F := Ideal) P D g b w a o).2.2.2.1 = fun _ => 1#1)
    (h5 : (fn (F := Ideal) P D g b w a o).2.2.2.2.1 = fun _ => 1#1) (h6 : (fn (F := Ideal) P D g b w a o).2.2.2.2.2 = fun _ => 1#1) :
    Reals P D g b w a where
  u p q := by
    refine real_of_lt _ (Eq.trans ?_ (congrFun h1 (ix2 p ⟨q.val, by omega⟩)))
    unfold fn fn_part1 Cert.SguBwdKernelIdeal.Block.gate
    dsimp only
    pointwise
    rfl
  v p q := by
    refine real_of_lt _ (Eq.trans ?_ (congrFun h1 (ix2 p ⟨1536 + q.val, by omega⟩)))
    unfold fn fn_part1 Cert.SguBwdKernelIdeal.Block.value
    dsimp only
    pointwise
    rfl
  d p q := by
    refine real_of_lt _ (Eq.trans ?_ (congrFun h2 (ix2 p q)))
    unfold fn fn_part1 Cert.SguBwdKernelIdeal.Block.grad
    dsimp only
    pointwise
    rfl
  g q := by
    refine real_of_lt _ (Eq.trans ?_ (congrFun h3 (ix2 0 q)))
    unfold fn fn_part1
    dsimp only
    pointwise
    rfl
  b q := by
    refine real_of_lt _ (Eq.trans ?_ (congrFun h4 (ix2 0 q)))
    unfold fn fn_part1
    dsimp only
    pointwise
    rfl
  w h r l hl := by
    refine real_of_lt _ (Eq.trans ?_ (congrFun h5 (ix3 h r l)))
    rw [← tril_at w h r l hl]
    unfold fn fn_part1
    dsimp only
    generalize fn_tril (F := Ideal) w = W
    pointwise
    rfl
  a r h := by
    refine real_of_lt _ (Eq.trans ?_ (congrFun h6 (ix2 r h)))
    unfold fn fn_part1
    dsimp only
    pointwise
    rfl

end Cert.Pre_finite_gating.Read

end
-- ==== Proof.NormReal.lean ====
/- The gradient of the root-mean-square normalisation of one row, in the call's form and in the reference's: equal whatever the row holds, the infinities included. -/
module

public import proofs.«01_k».proof.Proof.SguBwdReal

@[expose] public section

set_option maxRecDepth 16384

noncomputable section

namespace Cert.RowNorm

open Idealize.ShloMosaic

/-- The mean square of a row, plus the shift, -/
def ms (x : Fin 2048 → EReal) : EReal :=
  Ideal.div (∑ k, x k * x k) (Ideal.ofBits .f32 0x45000000#32) + Ideal.ofBits .f32 0x358637BD#32

/-- and one over its root. -/
def rms (x : Fin 2048 → EReal) : EReal := Ideal.rsqrt (ms x)

/-- The row normalised and scaled. -/
def unit (x g : Fin 2048 → EReal) (q : Fin 2048) : EReal := x q * rms x * g q

/-- The call's gradient of the row: `d` comes in, `g` is the gain, -/
def down (x g d : Fin 2048 → EReal) (q : Fin 2048) : EReal :=
  rms x * (d q * g q - x q * rms x * Ideal.div (∑ k, d k * g k * (x k * rms x)) (Ideal.ofBits .f32 0x45000000#32))

/-- what the reference sends back through the mean square, -/
def half (x g d : Fin 2048 → EReal) : EReal :=
  Ideal.div ((∑ k, x k * (d k * g k)) * (Ideal.ofBits .f32 0xBF000000#32 * Ideal.div (rms x) (ms x))) (Ideal.ofBits .f32 0x45000000#32)

theorem c_width : Ideal.ofBits .f32 0x45000000#32 = ((2048 : ℝ) : EReal) := by simp [Ideal.ofBits, Ideal.ieee]; norm_num [← EReal.coe_mul]
theorem c_eps : ∃ e : ℝ, 0 < e ∧ Ideal.ofBits .f32 0x358637BD#32 = (e : EReal) := by
  simp [Ideal.ofBits, Ideal.ieee]
  exact ⟨_, by positivity, (EReal.coe_mul _ _).symm⟩

/-- Division by the width is multiplication by its inverse. -/
theorem div_width (x : EReal) : Ideal.div x ((2048 : ℝ) : EReal) = x * ((1 / 2048 : ℝ) : EReal) := by
  unfold Ideal.div
  rw [if_neg (by simp), ← EReal.coe_inv, one_div]

theorem sum_mul_pos {ι : Type} (s : Finset ι) (f : ι → EReal) (r : ℝ) (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, EReal.right_distrib_of_nonneg_of_ne_top (EReal.coe_nonneg.mpr hr) (EReal.coe_ne_top r)]

theorem sq_nonneg' (x : EReal) : 0 ≤ x * x := by
  induction x with
  | bot => simp
  | top => simp
  | coe r => rw [← EReal.coe_mul]; exact EReal.coe_nonneg.mpr (mul_self_nonneg r)

/-- Twice the product with a real number. -/
theorem twice (x : EReal) (r : ℝ) : x * ((r + r : ℝ) : EReal) = x * (r : EReal) + x * (r : EReal) := by
  have h : ((r + r : ℝ) : EReal) = (1 + 1) * (r : EReal) := by
    rw [EReal.right_distrib_of_nonneg zero_le_one zero_le_one, one_mul, EReal.coe_add]
  rw [h, mul_left_comm, EReal.right_distrib_of_nonneg zero_le_one zero_le_one, one_mul]

/-- A row with an infinity in it has an infinite mean square. -/
theorem ms_top (x : Fin 2048 → EReal) (k : Fin 2048) (hk : x k = ⊤ ∨ x k = ⊥) : ms x = ⊤ := by
  obtain ⟨e, he, hE⟩ := c_eps
  have h1 : x k * x k = ⊤ := by rcases hk with h | h <;> rw [h] <;> rfl
  have h2 : ∑ k, x k * x k = ⊤ := by
    refine top_le_iff.mp ?_
    rw [← h1]
    exact Finset.single_le_sum (f := fun k => x k * x k) (fun i _ => sq_nonneg' (x i)) (Finset.mem_univ k)
  unfold ms
  rw [h2, c_width, div_width, hE, EReal.top_mul_coe_of_pos (by norm_num), EReal.top_add_coe]

theorem down_top (x g d : Fin 2048 → EReal) (q : Fin 2048) (h : ms x = ⊤) : down x g d q = 0 ∧ half x g d = 0 ∧ rms x = 0 := by
  have hr : rms x = 0 := by unfold rms; rw [h]; rfl
  refine ⟨?_, ?_, hr⟩
  · unfold down; rw [hr, zero_mul]
  · unfold half
    rw [hr, h]
    have : Ideal.div 0 ⊤ = 0 := by unfold Ideal.div; rw [if_neg (by simp), zero_mul]
    rw [this, mul_zero, mul_zero, c_width, div_width, zero_mul]

/-- A row of real numbers has a positive mean square. -/
theorem ms_coe (f : Fin 2048 → ℝ) : ∃ s v : ℝ, 0 < s ∧ v ≠ 0 ∧ s * s * v = 1 ∧ rms (fun k => (f k : EReal)) = (s : EReal) ∧ ms (fun k => (f k : EReal)) = (v : EReal) := by
  obtain ⟨e, he, hE⟩ := c_eps
  have hv : 0 < (∑ k, f k * f k) * (1 / 2048) + e :=
    add_pos_of_nonneg_of_pos (mul_nonneg (Finset.sum_nonneg fun k _ => mul_self_nonneg _) (by norm_num)) he
  have hm : ms (fun k => (f k : EReal)) = (((∑ k, f k * f k) * (1 / 2048) + e : ℝ) : EReal) := by
    unfold ms
    simp only [← EReal.coe_mul]
    rw [c_width, div_width, hE, ← Cert.Softmax.coe_sum, ← EReal.coe_mul, ← EReal.coe_add]
  generalize (∑ k, f k * f k) * (1 / 2048) + e = v at hv hm
  refine ⟨(Real.sqrt v)⁻¹, v, inv_pos.mpr (Real.sqrt_pos.mpr hv), hv.ne', ?_, ?_, hm⟩
  · rw [← mul_inv, Real.mul_self_sqrt hv.le, inv_mul_cancel₀ hv.ne']
  · unfold rms
    rw [hm]
    show (if v < 0 then ⊥ else if v = 0 then ⊤ else (((Real.sqrt v)⁻¹ : ℝ) : EReal)) = _
    rw [if_neg hv.le.not_gt, if_neg hv.ne']

/-- The two forms agree. -/
theorem back_eq (x g d : Fin 2048 → EReal) (q : Fin 2048) :
    d q * g q * rms x + (x q * half x g d + half x g d * x q) = down x g d q := by
  by_cases hx : ∃ k, x k = ⊤ ∨ x k = ⊥
  · obtain ⟨k, hk⟩ := hx
    obtain ⟨h1, h2, h3⟩ := down_top x g d q (ms_top x k hk)
    rw [h1, h2, h3, mul_zero, mul_zero, zero_mul, add_zero, add_zero]
  · have hf : ∀ k, ∃ r : ℝ, x k = (r : EReal) := fun k => by
      have h : ¬ (x k = ⊤ ∨ x k = ⊥) := fun h => hx ⟨k, h⟩
      exact ⟨(x k).toReal, (EReal.coe_toReal (fun e => h (Or.inl e)) (fun e => h (Or.inr e))).symm⟩
    choose f hf using hf
    obtain rfl : x = fun k => (f k : EReal) := funext hf
    obtain ⟨s, v, hs, hv, hsv, hr, hm⟩ := ms_coe f
    have hsum : ∑ k, d k * g k * ((f k : EReal) * (s : EReal)) = (∑ k, (f k : EReal) * (d k * g k)) * (s : EReal) := by
      rw [← sum_mul_pos _ _ _ hs.le]
      exact Finset.sum_congr rfl fun k _ => by rw [← mul_assoc, mul_comm (d k * g k)]
    unfold down half
    rw [hr, hm, hsum, Cert.SguBwdReferenceIdeal.Rows.c_nhalf, c_width, Cert.SguBwdReferenceIdeal.Rows.div_coe _ _ hv]
    simp only [div_width]
    generalize (∑ k, (f k : EReal) * (d k * g k)) = T
    generalize d q * g q = a
    have e5 : s / v = s * s * s := by
      rw [div_eq_iff hv, mul_assoc, mul_comm s v, ← mul_assoc, mul_comm (s * s * v), hsv, mul_one] <;> ring
    rw [e5, sub_eq_add_neg, EReal.left_distrib_of_nonneg_of_ne_top (EReal.coe_nonneg.mpr hs.le) (EReal.coe_ne_top s), mul_comm a]
    refine congrArg (fun y : EReal => (s : EReal) * a + y) ?_
    have e1 : (f q : EReal) * (T * (((-(1 / 2) : ℝ) : EReal) * ((s * s * s : ℝ) : EReal)) * ((1 / 2048 : ℝ) : EReal))
        = T * ((f q * (-(1 / 2) * (s * s * s)) * (1 / 2048) : ℝ) : EReal) := by
      push_cast
      ac_rfl
    have e2 : (T * (((-(1 / 2) : ℝ) : EReal) * ((s * s * s : ℝ) : EReal)) * ((1 / 2048 : ℝ) : EReal)) * (f q : EReal)
        = T * ((f q * (-(1 / 2) * (s * s * s)) * (1 / 2048) : ℝ) : EReal) := by
      rw [mul_comm, e1]
    have e3 : (s : EReal) * -((f q : EReal) * (s : EReal) * (T * (s : EReal) * ((1 / 2048 : ℝ) : EReal)))
        = T * ((-(s * (f q * s * (s * (1 / 2048)))) : ℝ) : EReal) := by
      rw [EReal.coe_neg, mul_neg, mul_neg]
      refine congrArg _ ?_
      push_cast
      ac_rfl
    rw [e1, e2, e3, ← twice]
    refine congrArg (fun r : ℝ => T * (r : EReal)) ?_
    ring

end Cert.RowNorm

end
-- ==== Proof.Norm.lean ====
/- The normalisation's gradient with the residual's added: each block of the three results, and the results are the reference's. -/
module

public import proofs.«01_k».proof.Proof.NormReal
public import proofs.«01_k».proof.Proof.Gen.NormKernelIdeal.Value
public import proofs.«01_k».proof.Proof.Gen.NormReferenceIdeal.Read
public import Idealize.ShloMosaic.Lib.Pipeline.ValueKit.Point
public import Idealize.ShloMosaic.Lib.Pipeline.ValueKit
public import Idealize.ShloMosaic.Lib.Pointwise

@[expose] public section

set_option maxRecDepth 16384

noncomputable section

namespace Cert.NormKernelIdeal.Block

open Cert.NormKernelIdeal Cert.NormKernelIdeal.Gen Idealize.ShloMosaic Idealize.ShloMosaic.TcCoe
open Cert.RowNorm (ms rms down half back_eq)
open Cert.SguBwdKernelIdeal.Block (canon_take)

/-- The gain's gradient starts at zero. -/
theorem fill (c : Dev nD) (a : Memref sig .tc .vmem S1x2048 .f32) : kernelRun0_A.sl.v34 (F := Ideal) c a = fun _ => (0 : EReal) := by
  unfold kernelRun0_A.sl.v34
  rw [View.readCov_eq_canon']
  funext j
  refine View.canon_eq_of_allAt _ _ _ (View.cover_of_tiledL _ S1x2048.size (by sl_kernel_rfl) _) ?_
  refine View.allAt_cons_unit _ _ _ _ _ (fun x _ => ?_) (View.allAt_nil _ _)
  show Ideal.ofBits .f32 0#32 = 0
  exact Ideal.ofBits_zero_f32

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : cond0_0 i)
  (x0 : Vec Ideal S256x2048 .f32) (x1 : Vec Ideal S1x2048 .f32) (x2 : Vec Ideal S256x2048 .bf16) (x3 : Vec Ideal S256x2048 .f32)

theorem out4_A (r : Fin 256) (q : Fin 2048) :
    out0_A_4 c i arg1 harg1 arg2 harg2 arg3 harg3 arg4 harg4 arg5 harg5 arg6 harg6 arg7 harg7 hc0 x0 x1 x2 x3 (ix2 r q) = down (fun k => x0 (ix2 r k)) (fun k => x1 (ix2 0 k)) (fun k => x2 (ix2 r k)) q + x3 (ix2 r q) := by
  have hk := cover0_A_4 c i _ harg1 _ harg2 _ harg3 _ harg4 _ harg5 _ harg6 _ harg7 hc0 x0 x1 x2 x3
  have hc := hk (ix2 r q)
  unfold out0_A_4
  rw [View.read_writes_eq_canon _ _ _ hk]
  unfold kernelRun0_A at hc ⊢
  dsimp only at hc ⊢
  canon_tiles x h using hc
  open_payloads
  simp only [View.readAt_eq_ld, Memref.IsWhole.read_unread]
  have hr : r = x 0 := Fin.ext h0
  have hq : q = x 1 := Fin.ext h1
  subst hr hq
  pointwise [down, rms, ms]

theorem out5_A (r : Fin 256) (q : Fin 2048) :
    out0_A_5 c i arg1 harg1 arg2 harg2 arg3 harg3 arg4 harg4 arg5 harg5 arg6 harg6 arg7 harg7 hc0 x0 x1 x2 x3 (ix2 r q) = down (fun k => x0 (ix2 r k)) (fun k => x1 (ix2 0 k)) (fun k => x2 (ix2 r k)) q + x3 (ix2 r q) := by
  have hk := cover0_A_5 c i _ harg1 _ harg2 _ harg3 _ harg4 _ harg5 _ harg6 _ harg7 hc0 x0 x1 x2 x3
  have hc := hk (ix2 r q)
  unfold out0_A_5
  rw [View.read_writes_eq_canon _ _ _ hk]
  unfold kernelRun0_A at hc ⊢
  dsimp only at hc ⊢
  canon_tiles x h using hc
  open_payloads
  simp only [View.readAt_eq_ld, Memref.IsWhole.read_unread]
  have hr : r = x 0 := Fin.ext h0
  have hq : q = x 1 := Fin.ext h1
  subst hr hq
  pointwise [down, rms, ms]

theorem out6_A (q : Fin 2048) :
    out0_A_6 c i arg1 harg1 arg2 harg2 arg3 harg3 arg4 harg4 arg5 harg5 arg6 harg6 arg7 harg7 hc0 x0 x1 x2 x3 (ix2 0 q) = 0 + ∑ r : Fin 256, x2 (ix2 r q) * (x0 (ix2 r q) * rms (fun k => x0 (ix2 r k))) := by
  unfold out0_A_6
  rw [View.read_writes_eq_canon _ _ _ (cover0_A_6 c i arg1 harg1 arg2 harg2 arg3 harg3 arg4 harg4 arg5 harg5 arg6 harg6 arg7 harg7 hc0 x0 x1 x2 x3)]
  have hc := View.cover_of_tiledL ((kernelRun0_A c i arg1 harg1 arg2 harg2 arg3 harg3 arg4 harg4 arg5 harg5 arg6 harg6 arg7 harg7 hc0 x0 x1 x2 x3).2.2.1.take 1) S1x2048.size (by sl_kernel_rfl) (ix2 0 q)
  rw [canon_take _ 1 _ hc]
  unfold kernelRun0_A at hc ⊢
  dsimp only at hc ⊢
  simp only [List.take_succ_cons, List.take_zero] at hc ⊢
  canon_tiles x h using hc
  unfold kernelRun0_A.sl.r kernelRun0_A.sl.r_1
  rw [fill c arg7]
  open_payloads
  simp only [View.readAt_eq_ld, Memref.IsWhole.read_unread]
  have hq : q = x 1 := Fin.ext h1
  obtain ⟨b, rfl⟩ : ∃ b : Fin 2048, x = ix2 (0 : Fin 1) b := ⟨x 1, by funext k; fin_cases k; exact Fin.ext h0.symm; rfl⟩
  subst hq
  pointwise [rms, ms]

end

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S1x2048 .f32) (harg7 : arg7.IsWhole) (hc0 : ¬cond0_0 i)
  (x0 : Vec Ideal S256x2048 .f32) (x1 : Vec Ideal S1x2048 .f32) (x2 : Vec Ideal S256x2048 .bf16) (x3 : Vec Ideal S256x2048 .f32)

theorem out4_B (xo6 : Vec Ideal S1x2048 .f32) (r : Fin 256) (q : Fin 2048) :
    out0_B_4 c i arg1 harg1 arg2 harg2 arg3 harg3 arg4 harg4 arg5 harg5 arg6 harg6 arg7 harg7 hc0 x0 x1 x2 x3 xo6 (ix2 r q) = down (fun k => x0 (ix2 r k)) (fun k => x1 (ix2 0 k)) (fun k => x2 (ix2 r k)) q + x3 (ix2 r q) := by
  have hk := cover0_B_4 c i _ harg1 _ harg2 _ harg3 _ harg4 _ harg5 _ harg6 _ harg7 hc0 x0 x1 x2 x3 xo6
  have hc := hk (ix2 r q)
  unfold out0_B_4
  rw [View.read_writes_eq_canon _ _ _ hk]
  unfold kernelRun0_B at hc ⊢
  dsimp only at hc ⊢
  canon_tiles x h using hc
  open_payloads
  simp only [View.readAt_eq_ld, Memref.IsWhole.read_unread]
  have hr : r = x 0 := Fin.ext h0
  have hq : q = x 1 := Fin.ext h1
  subst hr hq
  pointwise [down, rms, ms]

theorem out5_B (xo6 : Vec Ideal S1x2048 .f32) (r : Fin 256) (q : Fin 2048) :
    out0_B_5 c i arg1 harg1 arg2 harg2 arg3 harg3 arg4 harg4 arg5 harg5 arg6 harg6 arg7 harg7 hc0 x0 x1 x2 x3 xo6 (ix2 r q) = down (fun k => x0 (ix2 r k)) (fun k => x1 (ix2 0 k)) (fun k => x2 (ix2 r k)) q + x3 (ix2 r q) := by
  have hk := cover0_B_5 c i _ harg1 _ harg2 _ harg3 _ harg4 _ harg5 _ harg6 _ harg7 hc0 x0 x1 x2 x3 xo6
  have hc := hk (ix2 r q)
  unfold out0_B_5
  rw [View.read_writes_eq_canon _ _ _ hk]
  unfold kernelRun0_B at hc ⊢
  dsimp only at hc ⊢
  canon_tiles x h using hc
  open_payloads
  simp only [View.readAt_eq_ld, Memref.IsWhole.read_unread]
  have hr : r = x 0 := Fin.ext h0
  have hq : q = x 1 := Fin.ext h1
  subst hr hq
  pointwise [down, rms, ms]

theorem out6_B (xo6 : Vec Ideal S1x2048 .f32) (q : Fin 2048) :
    out0_B_6 c i arg1 harg1 arg2 harg2 arg3 harg3 arg4 harg4 arg5 harg5 arg6 harg6 arg7 harg7 hc0 x0 x1 x2 x3 xo6 (ix2 0 q) = xo6 (ix2 0 q) + ∑ r : Fin 256, x2 (ix2 r q) * (x0 (ix2 r q) * rms (fun k => x0 (ix2 r k))) := by
  have hk := cover0_B_6 c i _ harg1 _ harg2 _ harg3 _ harg4 _ harg5 _ harg6 _ harg7 hc0 x0 x1 x2 x3 xo6
  have hc := hk (ix2 0 q)
  unfold out0_B_6
  rw [View.read_writes_eq_canon _ _ _ hk]
  unfold kernelRun0_B at hc ⊢
  dsimp only at hc ⊢
  canon_tiles x h using hc
  unfold kernelRun0_B.sl.r kernelRun0_B.sl.r_1 kernelRun0_B.sl.r_2
  open_payloads
  simp only [View.readAt_eq_ld, Memref.IsWhole.read_unread]
  have hq : q = x 1 := Fin.ext h1
  obtain ⟨b, rfl⟩ : ∃ b : Fin 2048, x = ix2 (0 : Fin 1) b := ⟨x 1, by funext k; fin_cases k; exact Fin.ext h0.symm; rfl⟩
  subst hq
  pointwise [rms, ms]

end

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel

/-- Row `r` of the blocks of point `t`, -/
def row (t : Fin 32) (r : Fin 256) : Fin 8192 := ⟨t.val * 256 + r.val, by omega⟩

/-- and the point as a block's number. -/
def num (t : Fin cfg0.N) : Fin 32 := ⟨t.val, by have := t.isLt; have : cfg0.N = 32 := N_0; omega⟩

/-- The gradient of row `p`, the residual's added, -/
def dx (x : Vec Ideal S8192x2048 .f32) (g : Vec Ideal S1x2048 .f32) (d : Vec Ideal S8192x2048 .bf16) (s : Vec Ideal S8192x2048 .f32) (p : Fin 8192) (q : Fin 2048) : EReal :=
  down (fun k => x (ix2 p k)) (fun k => g (ix2 0 k)) (fun k => d (ix2 p k)) q + s (ix2 p q)

/-- and what row `p` adds to the gain's. -/
def dg (x : Vec Ideal S8192x2048 .f32) (d : Vec Ideal S8192x2048 .bf16) (p : Fin 8192) (q : Fin 2048) : EReal :=
  d (ix2 p q) * (x (ix2 p q) * rms (fun k => x (ix2 p k)))

variable (m : (ℓ : Loc nD τ sig) → Buf (Elt Ideal) ℓ) (c : Dev nD)

def xblk (t : Fin cfg0.N) : Vec Ideal S256x2048 .f32 := iblk m c 0 t
def gblk (t : Fin cfg0.N) : Vec Ideal S1x2048 .f32 := iblk m c 1 t
def dblk (t : Fin cfg0.N) : Vec Ideal S256x2048 .bf16 := iblk m c 2 t
def sblk (t : Fin cfg0.N) : Vec Ideal S256x2048 .f32 := iblk m c 3 t

theorem xblk_at (t : Fin cfg0.N) (r : Fin 256) (q : Fin 2048) : xblk m c t (ix2 r q) = (m ((c : Thread nD τ).loc main_arg0)) (ix2 (row (num t) r) q) := by
  unfold xblk row num
  blk_ext! [iblk, V, idx0 t]

theorem dblk_at (t : Fin cfg0.N) (r : Fin 256) (q : Fin 2048) : dblk m c t (ix2 r q) = (m ((c : Thread nD τ).loc main_arg2)) (ix2 (row (num t) r) q) := by
  unfold dblk row num
  blk_ext! [iblk, V, idx2 t]

theorem sblk_at (t : Fin cfg0.N) (r : Fin 256) (q : Fin 2048) : sblk m c t (ix2 r q) = (m ((c : Thread nD τ).loc main_arg3)) (ix2 (row (num t) r) q) := by
  unfold sblk row num
  blk_ext! [iblk, V, idx3 t]

theorem gblk_at (t : Fin cfg0.N) (q : Fin 2048) : gblk m c t (ix2 0 q) = (m ((c : Thread nD τ).loc main_arg1)) (ix2 0 q) := by
  unfold gblk
  blk_ext! [iblk, V, idx1 t]

theorem outs4 (t : Fin cfg0.N) (r : Fin 256) (q : Fin 2048) :
    (outsAt0 m c t.val t.isLt).1 (ix2 r q) = dx (m ((c : Thread nD τ).loc main_arg0)) (m ((c : Thread nD τ).loc main_arg1)) (m ((c : Thread nD τ).loc main_arg2)) (m ((c : Thread nD τ).loc main_arg3)) (row (num t) r) q := by
  by_cases h0 : t.val % 32 = 0
  · have ho := out4_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (gblk m c t) (dblk m c t) (sblk m c t) r q
    simp only [xblk_at, gblk_at, dblk_at, sblk_at] at ho
    rw [outsAt0_A m c t h0]
    dsimp only
    unfold xblk gblk dblk sblk at ho
    unfold dx
    exact ho
  · have ho := out4_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (gblk m c t) (dblk m c t) (sblk m c t) (outsAt0 m c (t.val - 1) (Nat.lt_of_le_of_lt (Nat.sub_le _ _) t.isLt)).2.2 r q
    simp only [xblk_at, gblk_at, dblk_at, sblk_at] at ho
    rw [outsAt0_B m c t h0]
    dsimp only
    unfold xblk gblk dblk sblk at ho
    unfold dx
    exact ho

theorem arr4 (t : Fin cfg0.N) (r : Fin 256) (q : Fin 2048) :
    (dats m 0 c).arrAt 4 cfg0.N (ix2 (row (num t) r) q : S8192x2048.Idx) = dx (m ((c : Thread nD τ).loc main_arg0)) (m ((c : Thread nD τ).loc main_arg1)) (m ((c : Thread nD τ).loc main_arg2)) (m ((c : Thread nD τ).loc main_arg3)) (row (num t) r) q := by
  have he : (((cfg0.win 4).blk t).view.emb (ix2 r q : S256x2048.Idx) : S8192x2048.Idx) = ix2 (row (num t) r) q := by
    funext a; apply Fin.ext
    refine (Pipeline.Window.rect_emb_val win0_4 t (ix2 r q) a rfl).trans ?_
    rw [idx4 t]
    fin_cases a
    · rfl
    · show 0 * 2048 + q.val = q.val
      omega
  have hf := (dats m 0 c).arrAt_emb_eq_flushed 4 Value.disjoint4 t (flush0_4 t) (ix2 r q : S256x2048.Idx)
  rw [he] at hf
  refine hf.trans ?_
  rw [Value.flushed4]
  exact outs4 m c t r q

theorem outs5 (t : Fin cfg0.N) (r : Fin 256) (q : Fin 2048) :
    (outsAt0 m c t.val t.isLt).2.1 (ix2 r q) = dx (m ((c : Thread nD τ).loc main_arg0)) (m ((c : Thread nD τ).loc main_arg1)) (m ((c : Thread nD τ).loc main_arg2)) (m ((c : Thread nD τ).loc main_arg3)) (row (num t) r) q := by
  by_cases h0 : t.val % 32 = 0
  · have ho := out5_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (gblk m c t) (dblk m c t) (sblk m c t) r q
    simp only [xblk_at, gblk_at, dblk_at, sblk_at] at ho
    rw [outsAt0_A m c t h0]
    dsimp only
    unfold xblk gblk dblk sblk at ho
    unfold dx
    exact ho
  · have ho := out5_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (gblk m c t) (dblk m c t) (sblk m c t) (outsAt0 m c (t.val - 1) (Nat.lt_of_le_of_lt (Nat.sub_le _ _) t.isLt)).2.2 r q
    simp only [xblk_at, gblk_at, dblk_at, sblk_at] at ho
    rw [outsAt0_B m c t h0]
    dsimp only
    unfold xblk gblk dblk sblk at ho
    unfold dx
    exact ho

theorem arr5 (t : Fin cfg0.N) (r : Fin 256) (q : Fin 2048) :
    (dats m 0 c).arrAt 5 cfg0.N (ix2 (row (num t) r) q : S8192x2048.Idx) = dx (m ((c : Thread nD τ).loc main_arg0)) (m ((c : Thread nD τ).loc main_arg1)) (m ((c : Thread nD τ).loc main_arg2)) (m ((c : Thread nD τ).loc main_arg3)) (row (num t) r) q := by
  have he : (((cfg0.win 5).blk t).view.emb (ix2 r q : S256x2048.Idx) : S8192x2048.Idx) = ix2 (row (num t) r) q := by
    funext a; apply Fin.ext
    refine (Pipeline.Window.rect_emb_val win0_5 t (ix2 r q) a rfl).trans ?_
    rw [idx5 t]
    fin_cases a
    · rfl
    · show 0 * 2048 + q.val = q.val
      omega
  have hf := (dats m 0 c).arrAt_emb_eq_flushed 5 Value.disjoint5 t (flush0_5 t) (ix2 r q : S256x2048.Idx)
  rw [he] at hf
  refine hf.trans ?_
  rw [Value.flushed5]
  exact outs5 m c t r q

/-- What the first `n` blocks add up to. -/
def upTo (f : Fin 32 → EReal) (n : Nat) : EReal := ∑ s ∈ Finset.range n, if hs : s < 32 then f ⟨s, hs⟩ else 0

theorem upTo_step (f : Fin 32 → EReal) (n : Nat) (hn : n < 32) : upTo f (n + 1) = upTo f n + f ⟨n, hn⟩ := by
  unfold upTo
  rw [Finset.sum_range_succ, dif_pos hn]

theorem upTo_all (f : Fin 32 → EReal) : upTo f 32 = ∑ s, f s := by
  unfold upTo
  rw [Finset.sum_range]
  exact Finset.sum_congr rfl fun s _ => dif_pos s.isLt

/-- The last point. -/
def last : Fin cfg0.N := ⟨31, by show 31 < grid0.N; rw [N_0]; decide⟩

/-- A window that starts at zero and adds its block's part at each point. -/
theorem acc (f : Fin 32 → EReal) (o : (n : Nat) → n < cfg0.N → EReal)
    (hA : ∀ (t : Fin cfg0.N) (h0 : t.val % 32 = 0), o t.val t.isLt = 0 + f (num t))
    (hB : ∀ (t : Fin cfg0.N) (h0 : ¬ t.val % 32 = 0), o t.val t.isLt = o (t.val - 1) (Nat.lt_of_le_of_lt (Nat.sub_le _ _) t.isLt) + f (num t)) :
    ∀ (n : Nat) (hn : n < cfg0.N), o n hn = upTo f (n + 1) := by
  intro n
  induction n with
  | zero =>
    intro hn
    rw [hA ⟨0, hn⟩ rfl, upTo_step f 0 (by decide)]
    rfl
  | succ n ih =>
    intro hn
    have hN : n + 1 < 32 := Nat.lt_of_lt_of_eq hn N_0
    rw [hB ⟨n + 1, hn⟩ (by show ¬ (n + 1) % 32 = 0; omega), upTo_step f (n + 1) hN]
    exact congrArg (· + _) (ih (Nat.lt_of_succ_lt hn))

theorem arr6 (q : Fin 2048) :
    (dats m 0 c).arrAt 6 cfg0.N (ix2 0 q : S1x2048.Idx) = ∑ t : Fin 32, ∑ r : Fin 256, dg (m ((c : Thread nD τ).loc main_arg0)) (m ((c : Thread nD τ).loc main_arg2)) (row t r) q := by
  have hw : (cfg0.win 6).WholeAt last := (by decide +kernel : win0_6.WholeAt last)
  refine Eq.trans ((dats m 0 c).arrAt_emb_eq_after_last 6 last hw (ix2 0 q : S1x2048.Idx)) ?_
  refine Eq.trans (congrFun (after0_6 m c last) (ix2 0 q : S1x2048.Idx)) ?_
  refine Eq.trans (acc (fun t => ∑ r : Fin 256, dg (m ((c : Thread nD τ).loc main_arg0)) (m ((c : Thread nD τ).loc main_arg2)) (row t r) q) (fun n hn => (outsAt0 m c n hn).2.2 (ix2 0 q)) ?_ ?_ 31 (by show 31 < grid0.N; rw [N_0]; decide)) (upTo_all _)
  · intro t h0
    have ho := out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk m c t) (gblk m c t) (dblk m c t) (sblk m c t) q
    simp only [xblk_at, gblk_at, dblk_at, sblk_at] at ho
    rw [outsAt0_A m c t h0]
    dsimp only
    unfold xblk gblk dblk sblk at ho
    unfold dg
    exact ho
  · intro t h0
    have ho := out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk m c t) (gblk m c t) (dblk m c t) (sblk m c t) (outsAt0 m c (t.val - 1) (Nat.lt_of_le_of_lt (Nat.sub_le _ _) t.isLt)).2.2 q
    simp only [xblk_at, gblk_at, dblk_at, sblk_at] at ho
    rw [outsAt0_B m c t h0]
    dsimp only
    unfold xblk gblk dblk sblk at ho
    unfold dg
    exact ho

theorem sum_rows (f : Fin 8192 → EReal) : ∑ p, f p = ∑ t : Fin 32, ∑ r : Fin 256, f (row t r) := by
  rw [← Fintype.sum_prod_type' (f := fun t r => f (row t r))]
  refine (Fintype.sum_equiv (finProdFinEquiv (m := 32) (n := 256)) _ f fun x => congrArg f (Fin.ext ?_)).symm
  show x.1.val * 256 + x.2.val = x.2.val + 256 * x.1.val
  omega

theorem ref35 (x0 : Vec Ideal S8192x2048 .f32) (x1 : Vec Ideal S1x2048 .f32) (x2 : Vec Ideal S8192x2048 .bf16) (x3 : Vec Ideal S8192x2048 .f32) (p : Fin 8192) (q : Fin 2048) :
    Cert.NormReferenceIdeal.Read.val_main_v35 (F := Ideal) x0 x1 x2 x3 (ix2 p q) = dx x0 x1 x2 x3 p q := by
  unfold dx
  rw [← back_eq, add_comm, ← add_assoc, ← add_assoc]
  pointwise [half, rms, ms, Cert.NormReferenceIdeal.Read.val_main_v35, Cert.NormReferenceIdeal.Read.val_main_v34, Cert.NormReferenceIdeal.Read.val_main_v33, Cert.NormReferenceIdeal.Read.val_main_v32, Cert.NormReferenceIdeal.Read.val_main_v31, Cert.NormReferenceIdeal.Read.val_main_v30, Cert.NormReferenceIdeal.Read.val_main_v29, Cert.NormReferenceIdeal.Read.val_main_v28, Cert.NormReferenceIdeal.Read.val_main_v27, Cert.NormReferenceIdeal.Read.val_main_v26, Cert.NormReferenceIdeal.Read.val_main_v25, Cert.NormReferenceIdeal.Read.val_main_v24, Cert.NormReferenceIdeal.Read.val_main_v23, Cert.NormReferenceIdeal.Read.val_main_v22, Cert.NormReferenceIdeal.Read.val_main_v21, Cert.NormReferenceIdeal.Read.val_main_v20, Cert.NormReferenceIdeal.Read.val_main_v19, Cert.NormReferenceIdeal.Read.val_main_v18, Cert.NormReferenceIdeal.Read.val_main_v17, Cert.NormReferenceIdeal.Read.val_main_v16, Cert.NormReferenceIdeal.Read.val_main_v15, Cert.NormReferenceIdeal.Read.val_main_v14, Cert.NormReferenceIdeal.Read.val_main_v13, Cert.NormReferenceIdeal.Read.val_main_v12, Cert.NormReferenceIdeal.Read.val_main_v11, Cert.NormReferenceIdeal.Read.val_main_v10, Cert.NormReferenceIdeal.Read.val_main_v9, Cert.NormReferenceIdeal.Read.val_main_v8, Cert.NormReferenceIdeal.Read.val_main_v7, Cert.NormReferenceIdeal.Read.val_main_v6, Cert.NormReferenceIdeal.Read.val_main_v5, Cert.NormReferenceIdeal.Read.val_main_v4, Cert.NormReferenceIdeal.Read.val_main_v3, Cert.NormReferenceIdeal.Read.val_main_v2, Cert.NormReferenceIdeal.Read.val_main_v1, Cert.NormReferenceIdeal.Read.val_main_v0, Cert.NormReferenceIdeal.Read.val_main_cst, Cert.NormReferenceIdeal.Read.val_main_cst_0, Cert.NormReferenceIdeal.Read.val_main_cst_1, Cert.NormReferenceIdeal.Read.val_main_cst_2, Cert.NormReferenceIdeal.Read.val_main_cst_3, Cert.NormReferenceIdeal.Read.val_main_cst_4, Cert.NormReferenceIdeal.Read.val_main_cst_5, Cert.NormReferenceIdeal.Read.val_main_cst_6]
  simp only [Finset.univ_unique, Finset.sum_singleton]

theorem ref36 (x0 : Vec Ideal S8192x2048 .f32) (x1 : Vec Ideal S1x2048 .f32) (x2 : Vec Ideal S8192x2048 .bf16) (x3 : Vec Ideal S8192x2048 .f32) (p : Fin 8192) (q : Fin 2048) :
    Cert.NormReferenceIdeal.Read.val_main_v36 (F := Ideal) x0 x1 x2 x3 (ix2 p q) = dx x0 x1 x2 x3 p q := by
  unfold dx
  rw [← back_eq, add_comm, ← add_assoc, ← add_assoc]
  pointwise [half, rms, ms, Cert.NormReferenceIdeal.Read.val_main_v36, Cert.NormReferenceIdeal.Read.val_main_v35, Cert.NormReferenceIdeal.Read.val_main_v34, Cert.NormReferenceIdeal.Read.val_main_v33, Cert.NormReferenceIdeal.Read.val_main_v32, Cert.NormReferenceIdeal.Read.val_main_v31, Cert.NormReferenceIdeal.Read.val_main_v30, Cert.NormReferenceIdeal.Read.val_main_v29, Cert.NormReferenceIdeal.Read.val_main_v28, Cert.NormReferenceIdeal.Read.val_main_v27, Cert.NormReferenceIdeal.Read.val_main_v26, Cert.NormReferenceIdeal.Read.val_main_v25, Cert.NormReferenceIdeal.Read.val_main_v24, Cert.NormReferenceIdeal.Read.val_main_v23, Cert.NormReferenceIdeal.Read.val_main_v22, Cert.NormReferenceIdeal.Read.val_main_v21, Cert.NormReferenceIdeal.Read.val_main_v20, Cert.NormReferenceIdeal.Read.val_main_v19, Cert.NormReferenceIdeal.Read.val_main_v18, Cert.NormReferenceIdeal.Read.val_main_v17, Cert.NormReferenceIdeal.Read.val_main_v16, Cert.NormReferenceIdeal.Read.val_main_v15, Cert.NormReferenceIdeal.Read.val_main_v14, Cert.NormReferenceIdeal.Read.val_main_v13, Cert.NormReferenceIdeal.Read.val_main_v12, Cert.NormReferenceIdeal.Read.val_main_v11, Cert.NormReferenceIdeal.Read.val_main_v10, Cert.NormReferenceIdeal.Read.val_main_v9, Cert.NormReferenceIdeal.Read.val_main_v8, Cert.NormReferenceIdeal.Read.val_main_v7, Cert.NormReferenceIdeal.Read.val_main_v6, Cert.NormReferenceIdeal.Read.val_main_v5, Cert.NormReferenceIdeal.Read.val_main_v4, Cert.NormReferenceIdeal.Read.val_main_v3, Cert.NormReferenceIdeal.Read.val_main_v2, Cert.NormReferenceIdeal.Read.val_main_v1, Cert.NormReferenceIdeal.Read.val_main_v0, Cert.NormReferenceIdeal.Read.val_main_cst, Cert.NormReferenceIdeal.Read.val_main_cst_0, Cert.NormReferenceIdeal.Read.val_main_cst_1, Cert.NormReferenceIdeal.Read.val_main_cst_2, Cert.NormReferenceIdeal.Read.val_main_cst_3, Cert.NormReferenceIdeal.Read.val_main_cst_4, Cert.NormReferenceIdeal.Read.val_main_cst_5, Cert.NormReferenceIdeal.Read.val_main_cst_6]
  simp only [Finset.univ_unique, Finset.sum_singleton]

theorem ref18 (x0 : Vec Ideal S8192x2048 .f32) (x2 : Vec Ideal S8192x2048 .bf16) (q : Fin 2048) :
    Cert.NormReferenceIdeal.Read.val_main_v18 (F := Ideal) x0 x2 (ix2 0 q) = ∑ p, dg x0 x2 p q := by
  have h : Cert.NormReferenceIdeal.Read.val_main_v18 (F := Ideal) x0 x2 (ix2 0 q) = ∑ p : Fin 8192, x0 (ix2 p q) * rms (fun k => x0 (ix2 p k)) * x2 (ix2 p q) := by
    pointwise [rms, ms, Cert.NormReferenceIdeal.Read.val_main_v18, Cert.NormReferenceIdeal.Read.val_main_v17, Cert.NormReferenceIdeal.Read.val_main_v16, Cert.NormReferenceIdeal.Read.val_main_v15, Cert.NormReferenceIdeal.Read.val_main_v14, Cert.NormReferenceIdeal.Read.val_main_v13, Cert.NormReferenceIdeal.Read.val_main_v12, Cert.NormReferenceIdeal.Read.val_main_v11, Cert.NormReferenceIdeal.Read.val_main_v10, Cert.NormReferenceIdeal.Read.val_main_v9, Cert.NormReferenceIdeal.Read.val_main_v8, Cert.NormReferenceIdeal.Read.val_main_v7, Cert.NormReferenceIdeal.Read.val_main_v6, Cert.NormReferenceIdeal.Read.val_main_v5, Cert.NormReferenceIdeal.Read.val_main_v4, Cert.NormReferenceIdeal.Read.val_main_v3, Cert.NormReferenceIdeal.Read.val_main_v2, Cert.NormReferenceIdeal.Read.val_main_v1, Cert.NormReferenceIdeal.Read.val_main_v0, Cert.NormReferenceIdeal.Read.val_main_cst, Cert.NormReferenceIdeal.Read.val_main_cst_0, Cert.NormReferenceIdeal.Read.val_main_cst_1, Cert.NormReferenceIdeal.Read.val_main_cst_2, Cert.NormReferenceIdeal.Read.val_main_cst_3, Cert.NormReferenceIdeal.Read.val_main_cst_4, Cert.NormReferenceIdeal.Read.val_main_cst_5, Cert.NormReferenceIdeal.Read.val_main_cst_6]
  rw [h]
  exact Finset.sum_congr rfl fun p _ => mul_comm _ _

/-- The point whose blocks hold an index, and its place in them. -/
theorem point (i : S8192x2048.Idx) : ∃ (t : Fin cfg0.N) (r : Fin 256) (q : Fin 2048), i = ix2 (row (num t) r) q := by
  have l0 : (i 0 : Nat) < 8192 := (i 0).isLt
  have hN : cfg0.N = 32 := N_0
  refine ⟨⟨(i 0 : Nat) / 256, by omega⟩, ⟨(i 0 : Nat) % 256, by omega⟩, ⟨(i 1 : Nat), (i 1).isLt⟩, ?_⟩
  funext a; apply Fin.ext
  fin_cases a
  · show (i 0 : Nat) = (i 0 : Nat) / 256 * 256 + (i 0 : Nat) % 256
    omega
  · rfl

theorem value4 : Cert.NormReferenceIdeal.Read.val_main_v35 (F := Ideal) (m ((c : Thread nD τ).loc main_arg0)) (m ((c : Thread nD τ).loc main_arg1)) (m ((c : Thread nD τ).loc main_arg2)) (m ((c : Thread nD τ).loc main_arg3)) = (dats m 0 c).arrAt 4 cfg0.N := by
  funext i
  obtain ⟨t, r, q, rfl⟩ := point i
  rw [arr4]
  exact ref35 _ _ _ _ _ _

theorem value5 : Cert.NormReferenceIdeal.Read.val_main_v36 (F := Ideal) (m ((c : Thread nD τ).loc main_arg0)) (m ((c : Thread nD τ).loc main_arg1)) (m ((c : Thread nD τ).loc main_arg2)) (m ((c : Thread nD τ).loc main_arg3)) = (dats m 0 c).arrAt 5 cfg0.N := by
  funext i
  obtain ⟨t, r, q, rfl⟩ := point i
  rw [arr5]
  exact ref36 _ _ _ _ _ _

theorem value6 : Cert.NormReferenceIdeal.Read.val_main_v18 (F := Ideal) (m ((c : Thread nD τ).loc main_arg0)) (m ((c : Thread nD τ).loc main_arg2)) = (dats m 0 c).arrAt 6 cfg0.N := by
  funext i
  obtain ⟨q, rfl⟩ : ∃ q : Fin 2048, i = ix2 0 q := ⟨i 1, by funext a; fin_cases a; exact Subsingleton.elim (α := Fin 1) _ _; rfl⟩
  rw [arr6]
  exact (ref18 _ _ _).trans (sum_rows _)

end Cert.NormKernelIdeal.Block

end
-- ==== Proof.MemNorm.lean ====
/- The gradient of the memory's normalisation: the one block of each of the three results, and the results are the reference's. -/
module

public import proofs.«01_k».proof.Proof.NormReal
public import proofs.«01_k».proof.Proof.Gen.MemNormKernelIdeal.Value
public import proofs.«01_k».proof.Proof.Gen.MemNormReferenceIdeal.Read
public import Idealize.ShloMosaic.Lib.Pipeline.ValueKit.Point
public import Idealize.ShloMosaic.Lib.Pipeline.ValueKit
public import Idealize.ShloMosaic.Lib.Pointwise

@[expose] public section

set_option maxRecDepth 16384

noncomputable section

namespace Cert.MemNormKernelIdeal.Block

open Cert.MemNormKernelIdeal Cert.MemNormKernelIdeal.Gen Idealize.ShloMosaic Idealize.ShloMosaic.TcCoe
open Cert.RowNorm (ms rms down half back_eq)
open Cert.SguBwdKernelIdeal.Block (canon_take)

/-- The gain's gradient starts at zero. -/
theorem fill (c : Dev nD) (a : Memref sig .tc .vmem S1x2048 .f32) : kernelRun0_A.sl.v31 (F := Ideal) c a = fun _ => (0 : EReal) := by
  unfold kernelRun0_A.sl.v31
  rw [View.readCov_eq_canon']
  funext j
  refine View.canon_eq_of_allAt _ _ _ (View.cover_of_tiledL _ S1x2048.size (by sl_kernel_rfl) _) ?_
  refine View.allAt_cons_unit _ _ _ _ _ (fun x _ => ?_) (View.allAt_nil _ _)
  show Ideal.ofBits .f32 0#32 = 0
  exact Ideal.ofBits_zero_f32

section
variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256x2048 .bf16) (harg5 : arg5.IsWhole) (arg6 : Memref sig .tc .vmem S1x2048 .f32) (harg6 : arg6.IsWhole) (hc0 : cond0_0 i)
  (x0 : Vec Ideal S256x2048 .f32) (x1 : Vec Ideal S1x2048 .f32) (x2 : Vec Ideal S256x2048 .f32)

theorem out3 (r : Fin 256) (q : Fin 2048) :
    out0_A_3 c i arg1 harg1 arg2 harg2 arg3 harg3 arg4 harg4 arg5 harg5 arg6 harg6 hc0 x0 x1 x2 (ix2 r q) = down (fun k => x0 (ix2 r k)) (fun k => x1 (ix2 0 k)) (fun k => x2 (ix2 r k)) q := by
  have hk := cover0_A_3 c i _ harg1 _ harg2 _ harg3 _ harg4 _ harg5 _ harg6 hc0 x0 x1 x2
  have hc := hk (ix2 r q)
  unfold out0_A_3
  rw [View.read_writes_eq_canon _ _ _ hk]
  unfold kernelRun0_A at hc ⊢
  dsimp only at hc ⊢
  canon_tiles x h using hc
  open_payloads
  simp only [View.readAt_eq_ld, Memref.IsWhole.read_unread]
  have hr : r = x 0 := Fin.ext h0
  have hq : q = x 1 := Fin.ext h1
  subst hr hq
  pointwise [down, rms, ms]

theorem out4 (r : Fin 256) (q : Fin 2048) :
    out0_A_4 c i arg1 harg1 arg2 harg2 arg3 harg3 arg4 harg4 arg5 harg5 arg6 harg6 hc0 x0 x1 x2 (ix2 r q) = down (fun k => x0 (ix2 r k)) (fun k => x1 (ix2 0 k)) (fun k => x2 (ix2 r k)) q := by
  have hk := cover0_A_4 c i _ harg1 _ harg2 _ harg3 _ harg4 _ harg5 _ harg6 hc0 x0 x1 x2
  have hc := hk (ix2 r q)
  unfold out0_A_4
  rw [View.read_writes_eq_canon _ _ _ hk]
  unfold kernelRun0_A at hc ⊢
  dsimp only at hc ⊢
  canon_tiles x h using hc
  open_payloads
  simp only [View.readAt_eq_ld, Memref.IsWhole.read_unread]
  have hr : r = x 0 := Fin.ext h0
  have hq : q = x 1 := Fin.ext h1
  subst hr hq
  pointwise [down, rms, ms]

theorem out5 (q : Fin 2048) :
    out0_A_5 c i arg1 harg1 arg2 harg2 arg3 harg3 arg4 harg4 arg5 harg5 arg6 harg6 hc0 x0 x1 x2 (ix2 0 q) = 0 + ∑ r : Fin 256, x2 (ix2 r q) * (x0 (ix2 r q) * rms (fun k => x0 (ix2 r k))) := by
  unfold out0_A_5
  rw [View.read_writes_eq_canon _ _ _ (cover0_A_5 c i arg1 harg1 arg2 harg2 arg3 harg3 arg4 harg4 arg5 harg5 arg6 harg6 hc0 x0 x1 x2)]
  have hc := View.cover_of_tiledL ((kernelRun0_A c i arg1 harg1 arg2 harg2 arg3 harg3 arg4 harg4 arg5 harg5 arg6 harg6 hc0 x0 x1 x2).2.2.1.take 1) S1x2048.size (by sl_kernel_rfl) (ix2 0 q)
  rw [canon_take _ 1 _ hc]
  unfold kernelRun0_A at hc ⊢
  dsimp only at hc ⊢
  simp only [List.take_succ_cons, List.take_zero] at hc ⊢
  canon_tiles x h using hc
  unfold kernelRun0_A.sl.r kernelRun0_A.sl.r_1
  rw [fill c arg6]
  open_payloads
  simp only [View.readAt_eq_ld, Memref.IsWhole.read_unread]
  have hq : q = x 1 := Fin.ext h1
  obtain ⟨b, rfl⟩ : ∃ b : Fin 2048, x = ix2 (0 : Fin 1) b := ⟨x 1, by funext k; fin_cases k; exact Fin.ext h0.symm; rfl⟩
  subst hq
  pointwise [rms, ms]

end

/-- The only point. -/
def pt : Fin cfg0.N := ⟨0, by show 0 < grid0.N; rw [N_0]; decide⟩

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel

/-- The gradient of row `p`, -/
def dx (x : Vec Ideal S256x2048 .f32) (g : Vec Ideal S1x2048 .f32) (d : Vec Ideal S256x2048 .f32) (p : Fin 256) (q : Fin 2048) : EReal :=
  down (fun k => x (ix2 p k)) (fun k => g (ix2 0 k)) (fun k => d (ix2 p k)) q

/-- and the gain's. -/
def dg (x : Vec Ideal S256x2048 .f32) (d : Vec Ideal S256x2048 .f32) (q : Fin 2048) : EReal :=
  ∑ p : Fin 256, d (ix2 p q) * (x (ix2 p q) * rms (fun k => x (ix2 p k)))

variable (m : (ℓ : Loc nD τ sig) → Buf (Elt Ideal) ℓ) (c : Dev nD)

def xblk (t : Fin cfg0.N) : Vec Ideal S256x2048 .f32 := iblk m c 0 t
def gblk (t : Fin cfg0.N) : Vec Ideal S1x2048 .f32 := iblk m c 1 t
def dblk (t : Fin cfg0.N) : Vec Ideal S256x2048 .f32 := iblk m c 2 t

theorem xblk_at (t : Fin cfg0.N) (r : Fin 256) (q : Fin 2048) : xblk m c t (ix2 r q) = (m ((c : Thread nD τ).loc main_arg0)) (ix2 r q) := by
  unfold xblk
  blk_ext! [iblk, V, idx0 t]

theorem gblk_at (t : Fin cfg0.N) (r : Fin 1) (q : Fin 2048) : gblk m c t (ix2 r q) = (m ((c : Thread nD τ).loc main_arg1)) (ix2 r q) := by
  unfold gblk
  blk_ext! [iblk, V, idx1 t]

theorem dblk_at (t : Fin cfg0.N) (r : Fin 256) (q : Fin 2048) : dblk m c t (ix2 r q) = (m ((c : Thread nD τ).loc main_arg2)) (ix2 r q) := by
  unfold dblk
  blk_ext! [iblk, V, idx2 t]

theorem outs3 (t : Fin cfg0.N) (r : Fin 256) (q : Fin 2048) :
    (outsAt0 m c t).1 (ix2 r q) = dx (m ((c : Thread nD τ).loc main_arg0)) (m ((c : Thread nD τ).loc main_arg1)) (m ((c : Thread nD τ).loc main_arg2)) r q := by
  have ho := out3 c (grid0.coords t) (ms0_0 t) (hs0_0 t) (ms0_1 t) (hs0_1 t) (ms0_2 t) (hs0_2 t) (ms0_3 t) (hs0_3 t) (ms0_4 t) (hs0_4 t) (ms0_5 t) (hs0_5 t) (hcond0_0 t) (xblk m c t) (gblk m c t) (dblk m c t) r q
  simp only [xblk_at, gblk_at, dblk_at] at ho
  unfold outsAt0
  dsimp only
  unfold xblk gblk dblk at ho
  unfold dx
  exact ho

theorem arr3 (r : Fin 256) (q : Fin 2048) :
    (dats m 0 c).arrAt 3 cfg0.N (ix2 r q : S256x2048.Idx) = dx (m ((c : Thread nD τ).loc main_arg0)) (m ((c : Thread nD τ).loc main_arg1)) (m ((c : Thread nD τ).loc main_arg2)) r q := by
  have he : (((cfg0.win 3).blk pt).view.emb (ix2 r q : S256x2048.Idx) : S256x2048.Idx) = ix2 r q := by
    funext a; apply Fin.ext
    refine (Pipeline.Window.rect_emb_val win0_3 pt (ix2 r q) a rfl).trans ?_
    rw [idx3 pt]
    fin_cases a
    · show 0 * 256 + r.val = r.val
      omega
    · show 0 * 2048 + q.val = q.val
      omega
  have hf := (dats m 0 c).arrAt_emb_eq_flushed 3 Value.disjoint3 pt (flush0_3 pt) (ix2 r q : S256x2048.Idx)
  rw [he] at hf
  refine hf.trans ?_
  rw [Value.flushed3]
  exact outs3 m c pt r q

theorem outs4 (t : Fin cfg0.N) (r : Fin 256) (q : Fin 2048) :
    (outsAt0 m c t).2.1 (ix2 r q) = dx (m ((c : Thread nD τ).loc main_arg0)) (m ((c : Thread nD τ).loc main_arg1)) (m ((c : Thread nD τ).loc main_arg2)) r q := by
  have ho := out4 c (grid0.coords t) (ms0_0 t) (hs0_0 t) (ms0_1 t) (hs0_1 t) (ms0_2 t) (hs0_2 t) (ms0_3 t) (hs0_3 t) (ms0_4 t) (hs0_4 t) (ms0_5 t) (hs0_5 t) (hcond0_0 t) (xblk m c t) (gblk m c t) (dblk m c t) r q
  simp only [xblk_at, gblk_at, dblk_at] at ho
  unfold outsAt0
  dsimp only
  unfold xblk gblk dblk at ho
  unfold dx
  exact ho

theorem arr4 (r : Fin 256) (q : Fin 2048) :
    (dats m 0 c).arrAt 4 cfg0.N (ix2 r q : S256x2048.Idx) = dx (m ((c : Thread nD τ).loc main_arg0)) (m ((c : Thread nD τ).loc main_arg1)) (m ((c : Thread nD τ).loc main_arg2)) r q := by
  have he : (((cfg0.win 4).blk pt).view.emb (ix2 r q : S256x2048.Idx) : S256x2048.Idx) = ix2 r q := by
    funext a; apply Fin.ext
    refine (Pipeline.Window.rect_emb_val win0_4 pt (ix2 r q) a rfl).trans ?_
    rw [idx4 pt]
    fin_cases a
    · show 0 * 256 + r.val = r.val
      omega
    · show 0 * 2048 + q.val = q.val
      omega
  have hf := (dats m 0 c).arrAt_emb_eq_flushed 4 Value.disjoint4 pt (flush0_4 pt) (ix2 r q : S256x2048.Idx)
  rw [he] at hf
  refine hf.trans ?_
  rw [Value.flushed4]
  exact outs4 m c pt r q

theorem outs5 (t : Fin cfg0.N) (q : Fin 2048) :
    (outsAt0 m c t).2.2 (ix2 0 q) = 0 + dg (m ((c : Thread nD τ).loc main_arg0)) (m ((c : Thread nD τ).loc main_arg2)) q := by
  have ho := out5 c (grid0.coords t) (ms0_0 t) (hs0_0 t) (ms0_1 t) (hs0_1 t) (ms0_2 t) (hs0_2 t) (ms0_3 t) (hs0_3 t) (ms0_4 t) (hs0_4 t) (ms0_5 t) (hs0_5 t) (hcond0_0 t) (xblk m c t) (gblk m c t) (dblk m c t) q
  simp only [xblk_at, gblk_at, dblk_at] at ho
  unfold outsAt0
  dsimp only
  unfold xblk gblk dblk at ho
  unfold dg
  exact ho

theorem arr5 (q : Fin 2048) :
    (dats m 0 c).arrAt 5 cfg0.N (ix2 0 q : S1x2048.Idx) = 0 + dg (m ((c : Thread nD τ).loc main_arg0)) (m ((c : Thread nD τ).loc main_arg2)) q := by
  have he : (((cfg0.win 5).blk pt).view.emb (ix2 0 q : S1x2048.Idx) : S1x2048.Idx) = ix2 0 q := by
    funext a; apply Fin.ext
    refine (Pipeline.Window.rect_emb_val win0_5 pt (ix2 0 q) a rfl).trans ?_
    rw [idx5 pt]
    fin_cases a
    · show 0 * 1 + 0 = 0
      omega
    · show 0 * 2048 + q.val = q.val
      omega
  have hf := (dats m 0 c).arrAt_emb_eq_flushed 5 Value.disjoint5 pt (flush0_5 pt) (ix2 0 q : S1x2048.Idx)
  rw [he] at hf
  refine hf.trans ?_
  rw [Value.flushed5]
  exact outs5 m c pt q

theorem ref33 (x0 : Vec Ideal S256x2048 .f32) (x1 : Vec Ideal S1x2048 .f32) (x2 : Vec Ideal S256x2048 .f32) (p : Fin 256) (q : Fin 2048) :
    Cert.MemNormReferenceIdeal.Read.val_main_v33 (F := Ideal) x0 x1 x2 (ix2 p q) = dx x0 x1 x2 p q := by
  unfold dx
  rw [← back_eq, ← add_assoc]
  pointwise [half, rms, ms, Cert.MemNormReferenceIdeal.Read.val_main_v33, Cert.MemNormReferenceIdeal.Read.val_main_v32, Cert.MemNormReferenceIdeal.Read.val_main_v31, Cert.MemNormReferenceIdeal.Read.val_main_v30, Cert.MemNormReferenceIdeal.Read.val_main_v29, Cert.MemNormReferenceIdeal.Read.val_main_v28, Cert.MemNormReferenceIdeal.Read.val_main_v27, Cert.MemNormReferenceIdeal.Read.val_main_v26, Cert.MemNormReferenceIdeal.Read.val_main_v25, Cert.MemNormReferenceIdeal.Read.val_main_v24, Cert.MemNormReferenceIdeal.Read.val_main_v23, Cert.MemNormReferenceIdeal.Read.val_main_v22, Cert.MemNormReferenceIdeal.Read.val_main_v21, Cert.MemNormReferenceIdeal.Read.val_main_v20, Cert.MemNormReferenceIdeal.Read.val_main_v19, Cert.MemNormReferenceIdeal.Read.val_main_v18, Cert.MemNormReferenceIdeal.Read.val_main_v17, Cert.MemNormReferenceIdeal.Read.val_main_v16, Cert.MemNormReferenceIdeal.Read.val_main_v15, Cert.MemNormReferenceIdeal.Read.val_main_v14, Cert.MemNormReferenceIdeal.Read.val_main_v13, Cert.MemNormReferenceIdeal.Read.val_main_v12, Cert.MemNormReferenceIdeal.Read.val_main_v11, Cert.MemNormReferenceIdeal.Read.val_main_v10, Cert.MemNormReferenceIdeal.Read.val_main_v9, Cert.MemNormReferenceIdeal.Read.val_main_v8, Cert.MemNormReferenceIdeal.Read.val_main_v7, Cert.MemNormReferenceIdeal.Read.val_main_v6, Cert.MemNormReferenceIdeal.Read.val_main_v5, Cert.MemNormReferenceIdeal.Read.val_main_v4, Cert.MemNormReferenceIdeal.Read.val_main_v3, Cert.MemNormReferenceIdeal.Read.val_main_v2, Cert.MemNormReferenceIdeal.Read.val_main_v1, Cert.MemNormReferenceIdeal.Read.val_main_v0, Cert.MemNormReferenceIdeal.Read.val_main_cst, Cert.MemNormReferenceIdeal.Read.val_main_cst_0, Cert.MemNormReferenceIdeal.Read.val_main_cst_1, Cert.MemNormReferenceIdeal.Read.val_main_cst_2, Cert.MemNormReferenceIdeal.Read.val_main_cst_3, Cert.MemNormReferenceIdeal.Read.val_main_cst_4, Cert.MemNormReferenceIdeal.Read.val_main_cst_5, Cert.MemNormReferenceIdeal.Read.val_main_cst_6]
  simp only [Finset.univ_unique, Finset.sum_singleton]

theorem ref34 (x0 : Vec Ideal S256x2048 .f32) (x1 : Vec Ideal S1x2048 .f32) (x2 : Vec Ideal S256x2048 .f32) (p : Fin 256) (q : Fin 2048) :
    Cert.MemNormReferenceIdeal.Read.val_main_v34 (F := Ideal) x0 x1 x2 (ix2 p q) = dx x0 x1 x2 p q := by
  unfold dx
  rw [← back_eq, ← add_assoc]
  pointwise [half, rms, ms, Cert.MemNormReferenceIdeal.Read.val_main_v34, Cert.MemNormReferenceIdeal.Read.val_main_v33, Cert.MemNormReferenceIdeal.Read.val_main_v32, Cert.MemNormReferenceIdeal.Read.val_main_v31, Cert.MemNormReferenceIdeal.Read.val_main_v30, Cert.MemNormReferenceIdeal.Read.val_main_v29, Cert.MemNormReferenceIdeal.Read.val_main_v28, Cert.MemNormReferenceIdeal.Read.val_main_v27, Cert.MemNormReferenceIdeal.Read.val_main_v26, Cert.MemNormReferenceIdeal.Read.val_main_v25, Cert.MemNormReferenceIdeal.Read.val_main_v24, Cert.MemNormReferenceIdeal.Read.val_main_v23, Cert.MemNormReferenceIdeal.Read.val_main_v22, Cert.MemNormReferenceIdeal.Read.val_main_v21, Cert.MemNormReferenceIdeal.Read.val_main_v20, Cert.MemNormReferenceIdeal.Read.val_main_v19, Cert.MemNormReferenceIdeal.Read.val_main_v18, Cert.MemNormReferenceIdeal.Read.val_main_v17, Cert.MemNormReferenceIdeal.Read.val_main_v16, Cert.MemNormReferenceIdeal.Read.val_main_v15, Cert.MemNormReferenceIdeal.Read.val_main_v14, Cert.MemNormReferenceIdeal.Read.val_main_v13, Cert.MemNormReferenceIdeal.Read.val_main_v12, Cert.MemNormReferenceIdeal.Read.val_main_v11, Cert.MemNormReferenceIdeal.Read.val_main_v10, Cert.MemNormReferenceIdeal.Read.val_main_v9, Cert.MemNormReferenceIdeal.Read.val_main_v8, Cert.MemNormReferenceIdeal.Read.val_main_v7, Cert.MemNormReferenceIdeal.Read.val_main_v6, Cert.MemNormReferenceIdeal.Read.val_main_v5, Cert.MemNormReferenceIdeal.Read.val_main_v4, Cert.MemNormReferenceIdeal.Read.val_main_v3, Cert.MemNormReferenceIdeal.Read.val_main_v2, Cert.MemNormReferenceIdeal.Read.val_main_v1, Cert.MemNormReferenceIdeal.Read.val_main_v0, Cert.MemNormReferenceIdeal.Read.val_main_cst, Cert.MemNormReferenceIdeal.Read.val_main_cst_0, Cert.MemNormReferenceIdeal.Read.val_main_cst_1, Cert.MemNormReferenceIdeal.Read.val_main_cst_2, Cert.MemNormReferenceIdeal.Read.val_main_cst_3, Cert.MemNormReferenceIdeal.Read.val_main_cst_4, Cert.MemNormReferenceIdeal.Read.val_main_cst_5, Cert.MemNormReferenceIdeal.Read.val_main_cst_6]
  simp only [Finset.univ_unique, Finset.sum_singleton]

theorem ref17 (x0 : Vec Ideal S256x2048 .f32) (x2 : Vec Ideal S256x2048 .f32) (q : Fin 2048) :
    Cert.MemNormReferenceIdeal.Read.val_main_v17 (F := Ideal) x0 x2 (ix2 0 q) = dg x0 x2 q := by
  have h : Cert.MemNormReferenceIdeal.Read.val_main_v17 (F := Ideal) x0 x2 (ix2 0 q) = ∑ p : Fin 256, x0 (ix2 p q) * rms (fun k => x0 (ix2 p k)) * x2 (ix2 p q) := by
    pointwise [rms, ms, Cert.MemNormReferenceIdeal.Read.val_main_v17, Cert.MemNormReferenceIdeal.Read.val_main_v16, Cert.MemNormReferenceIdeal.Read.val_main_v15, Cert.MemNormReferenceIdeal.Read.val_main_v14, Cert.MemNormReferenceIdeal.Read.val_main_v13, Cert.MemNormReferenceIdeal.Read.val_main_v12, Cert.MemNormReferenceIdeal.Read.val_main_v11, Cert.MemNormReferenceIdeal.Read.val_main_v10, Cert.MemNormReferenceIdeal.Read.val_main_v9, Cert.MemNormReferenceIdeal.Read.val_main_v8, Cert.MemNormReferenceIdeal.Read.val_main_v7, Cert.MemNormReferenceIdeal.Read.val_main_v6, Cert.MemNormReferenceIdeal.Read.val_main_v5, Cert.MemNormReferenceIdeal.Read.val_main_v4, Cert.MemNormReferenceIdeal.Read.val_main_v3, Cert.MemNormReferenceIdeal.Read.val_main_v2, Cert.MemNormReferenceIdeal.Read.val_main_v1, Cert.MemNormReferenceIdeal.Read.val_main_v0, Cert.MemNormReferenceIdeal.Read.val_main_cst, Cert.MemNormReferenceIdeal.Read.val_main_cst_0, Cert.MemNormReferenceIdeal.Read.val_main_cst_1, Cert.MemNormReferenceIdeal.Read.val_main_cst_2, Cert.MemNormReferenceIdeal.Read.val_main_cst_3, Cert.MemNormReferenceIdeal.Read.val_main_cst_4, Cert.MemNormReferenceIdeal.Read.val_main_cst_5, Cert.MemNormReferenceIdeal.Read.val_main_cst_6]
  rw [h]
  exact Finset.sum_congr rfl fun p _ => mul_comm _ _

theorem value3 : Cert.MemNormReferenceIdeal.Read.val_main_v33 (F := Ideal) (m ((c : Thread nD τ).loc main_arg0)) (m ((c : Thread nD τ).loc main_arg1)) (m ((c : Thread nD τ).loc main_arg2)) = (dats m 0 c).arrAt 3 cfg0.N := by
  funext i
  obtain ⟨r, q, rfl⟩ : ∃ (r : Fin 256) (q : Fin 2048), i = ix2 r q := ⟨i 0, i 1, eq_ix2 i⟩
  rw [arr3]
  exact ref33 _ _ _ _ _

theorem value4 : Cert.MemNormReferenceIdeal.Read.val_main_v34 (F := Ideal) (m ((c : Thread nD τ).loc main_arg0)) (m ((c : Thread nD τ).loc main_arg1)) (m ((c : Thread nD τ).loc main_arg2)) = (dats m 0 c).arrAt 4 cfg0.N := by
  funext i
  obtain ⟨r, q, rfl⟩ : ∃ (r : Fin 256) (q : Fin 2048), i = ix2 r q := ⟨i 0, i 1, eq_ix2 i⟩
  rw [arr4]
  exact ref34 _ _ _ _ _

theorem value5 : Cert.MemNormReferenceIdeal.Read.val_main_v17 (F := Ideal) (m ((c : Thread nD τ).loc main_arg0)) (m ((c : Thread nD τ).loc main_arg2)) = (dats m 0 c).arrAt 5 cfg0.N := by
  funext i
  obtain ⟨q, rfl⟩ : ∃ q : Fin 2048, i = ix2 0 q := ⟨i 1, by funext a; fin_cases a; exact Subsingleton.elim (α := Fin 1) _ _; rfl⟩
  rw [arr5, zero_add]
  exact ref17 _ _ _

end Cert.MemNormKernelIdeal.Block

end
-- ==== Proof.MemKvW.lean ====
/- The gradient of the memory's weight: the product of the rows' transpose with the gradient, laid out by halves of each quarter of the rows. -/
module

public import proofs.«01_k».proof.Proof.Gen.MemKvWKernelIdeal.Value
public import proofs.«01_k».proof.Proof.Gen.MemKvWReferenceIdeal.Read
public import Idealize.ShloMosaic.Lib.Pipeline.ValueKit.Point
public import Idealize.ShloMosaic.Lib.Pointwise

@[expose] public section

set_option maxRecDepth 16384

noncomputable section

namespace Cert.MemKvWKernelIdeal.Block

open Cert.MemKvWKernelIdeal Cert.MemKvWKernelIdeal.Gen Idealize.ShloMosaic Idealize.ShloMosaic.TcCoe

variable (m : (ℓ : Loc nD τ sig) → Buf (Elt Ideal) ℓ) (c : Dev nD)

/-- Row `p` of half `a` of quarter `b`. -/
def rowOf (a : Fin 2) (b : Fin 4) (p : Fin 256) : Fin 2048 := ⟨(b.val * 2 + a.val) * 256 + p.val, by omega⟩

/-- An entry of the product. -/
def prod (x0 : Vec Ideal S256x2048 .bf16) (x1 : Vec Ideal S256x1024 .bf16) (r : Fin 2048) (q : Fin 1024) : EReal :=
  ∑ k : Fin 256, x0 (ix2 k r) * x1 (ix2 k q)

theorem out_at (x0 : Vec Ideal S256x2048 .bf16) (x1 : Vec Ideal S256x1024 .bf16) (a : Fin 2) (b : Fin 4) (p : Fin 256) (q : Fin 1024) :
    Value.G2 x0 x1 (ix4 a b p q) = prod x0 x1 (rowOf a b p) q := by
  have hc := cover0_2 (F := Ideal) (k0_pay3 (k0_pay10 x0 x1)) (k0_pay2 (k0_pay10 x0 x1)) (k0_pay1 (k0_pay10 x0 x1)) (k0_pay9 x1 x0) (k0_pay8 x1 x0) (k0_pay7 x1 x0) (k0_pay6 x1 x0) (k0_pay5 x1 x0) (ix4 a b p q)
  unfold Value.G2
  canon_tiles x h using hc
  · open_payloads
    unfold prod
    pointwise
    have e0 : a.val = 1 + (x 0).val := h0
    have e1 : b.val = 3 + (x 1).val := h1
    have e2 : p.val = (x 2).val := h2
    have hr : rowOf a b p = ⟨1792 + (x 2).val, by omega⟩ := Fin.ext (by show (b.val * 2 + a.val) * 256 + p.val = 1792 + (x 2).val; omega)
    have hq : q = x 3 := Fin.ext h3
    rw [hr, hq]
  · open_payloads
    unfold prod
    pointwise
    have e0 : a.val = (x 0).val := h0
    have e1 : b.val = 3 + (x 1).val := h1
    have e2 : p.val = (x 2).val := h2
    have hr : rowOf a b p = ⟨1536 + (x 2).val, by omega⟩ := Fin.ext (by show (b.val * 2 + a.val) * 256 + p.val = 1536 + (x 2).val; omega)
    have hq : q = x 3 := Fin.ext h3
    rw [hr, hq]
  · open_payloads
    unfold prod
    pointwise
    have e0 : a.val = 1 + (x 0).val := h0
    have e1 : b.val = 2 + (x 1).val := h1
    have e2 : p.val = (x 2).val := h2
    have hr : rowOf a b p = ⟨1280 + (x 2).val, by omega⟩ := Fin.ext (by show (b.val * 2 + a.val) * 256 + p.val = 1280 + (x 2).val; omega)
    have hq : q = x 3 := Fin.ext h3
    rw [hr, hq]
  · open_payloads
    unfold prod
    pointwise
    have e0 : a.val = (x 0).val := h0
    have e1 : b.val = 2 + (x 1).val := h1
    have e2 : p.val = (x 2).val := h2
    have hr : rowOf a b p = ⟨1024 + (x 2).val, by omega⟩ := Fin.ext (by show (b.val * 2 + a.val) * 256 + p.val = 1024 + (x 2).val; omega)
    have hq : q = x 3 := Fin.ext h3
    rw [hr, hq]
  · open_payloads
    unfold prod
    pointwise
    have e0 : a.val = 1 + (x 0).val := h0
    have e1 : b.val = 1 + (x 1).val := h1
    have e2 : p.val = (x 2).val := h2
    have hr : rowOf a b p = ⟨768 + (x 2).val, by omega⟩ := Fin.ext (by show (b.val * 2 + a.val) * 256 + p.val = 768 + (x 2).val; omega)
    have hq : q = x 3 := Fin.ext h3
    rw [hr, hq]
  · open_payloads
    unfold prod
    pointwise
    have e0 : a.val = (x 0).val := h0
    have e1 : b.val = 1 + (x 1).val := h1
    have e2 : p.val = (x 2).val := h2
    have hr : rowOf a b p = ⟨512 + (x 2).val, by omega⟩ := Fin.ext (by show (b.val * 2 + a.val) * 256 + p.val = 512 + (x 2).val; omega)
    have hq : q = x 3 := Fin.ext h3
    rw [hr, hq]
  · open_payloads
    unfold prod
    pointwise
    have e0 : a.val = 1 + (x 0).val := h0
    have e1 : b.val = (x 1).val := h1
    have e2 : p.val = (x 2).val := h2
    have hr : rowOf a b p = ⟨256 + (x 2).val, by omega⟩ := Fin.ext (by show (b.val * 2 + a.val) * 256 + p.val = 256 + (x 2).val; omega)
    have hq : q = x 3 := Fin.ext h3
    rw [hr, hq]
  · open_payloads
    unfold prod
    pointwise
    have e0 : a.val = (x 0).val := h0
    have e1 : b.val = (x 1).val := h1
    have e2 : p.val = (x 2).val := h2
    have hr : rowOf a b p = ⟨(x 2).val, by omega⟩ := Fin.ext (by show (b.val * 2 + a.val) * 256 + p.val = (x 2).val; omega)
    have hq : q = x 3 := Fin.ext h3
    rw [hr, hq]

theorem ref_at (x0 : Vec Ideal S256x2048 .bf16) (x1 : Vec Ideal S256x1024 .bf16) (a : Fin 2) (b : Fin 4) (p : Fin 256) (q : Fin 1024) :
    Cert.MemKvWReferenceIdeal.Read.val_main_v9 (F := Ideal) x0 x1 (ix4 a b p q) = prod x0 x1 (rowOf a b p) q := by
  have h : Cert.MemKvWReferenceIdeal.Read.val_main_v9 (F := Ideal) x0 x1 (ix4 a b p q) = ∑ k : Fin 256, x1 (ix2 k q) * x0 (ix2 k (rowOf a b p)) := by
    have e : rowOf a b p = ⟨b.val * 512 + a.val * 256 + p.val, by omega⟩ := Fin.ext (by show (b.val * 2 + a.val) * 256 + p.val = b.val * 512 + a.val * 256 + p.val; omega)
    rw [e]
    pointwise [Cert.MemKvWReferenceIdeal.Read.val_main_v9, Cert.MemKvWReferenceIdeal.Read.val_main_v8, Cert.MemKvWReferenceIdeal.Read.val_main_v7, Cert.MemKvWReferenceIdeal.Read.val_main_v6, Cert.MemKvWReferenceIdeal.Read.val_main_v5, Cert.MemKvWReferenceIdeal.Read.val_main_v4, Cert.MemKvWReferenceIdeal.Read.val_main_v2]
  rw [h]
  exact Finset.sum_congr rfl fun k _ => mul_comm _ _

theorem value : Cert.MemKvWReferenceIdeal.Read.val_main_v9 (F := Ideal) (m ((c : Thread nD τ).loc main_arg0)) (m ((c : Thread nD τ).loc main_arg1)) = (dats m 0 c).arrAt 2 cfg0.N := by
  rw [Value.final2]
  funext i
  obtain ⟨a, b, p, q, rfl⟩ : ∃ a b p q, i = ix4 a b p q := ⟨_, _, _, _, eq_ix4 i⟩
  exact (ref_at _ _ a b p q).trans (out_at _ _ a b p q).symm

end Cert.MemKvWKernelIdeal.Block

end
-- ==== Proof.MemN.lean ====
/- The gradient of the memory's normalised rows: each block of the result is the product's gradient times a shard of the weight, transposed. -/
module

public import proofs.«01_k».proof.Proof.Gen.MemNKernelIdeal.Value
public import proofs.«01_k».proof.Proof.Gen.MemNReferenceIdeal.Read
public import Idealize.ShloMosaic.Lib.Pipeline.ValueKit.Point
public import Idealize.ShloMosaic.Lib.Pointwise

@[expose] public section

set_option maxRecDepth 16384

noncomputable section

namespace Cert.MemNKernelIdeal.Block

open Cert.MemNKernelIdeal Cert.MemNKernelIdeal.Gen Idealize.ShloMosaic Idealize.ShloMosaic.TcCoe

variable (m : (ℓ : Loc nD τ sig) → Buf (Elt Ideal) ℓ) (c : Dev nD)

/-- The blocks a point reads: the gradient's rows, -/
def hblk (t : Fin cfg0.N) : Vec Ideal S256x1024 .bf16 := iblk m c 0 t

/-- and the weight's shard. -/
def wblk (t : Fin cfg0.N) : Vec Ideal S1x512x1024 .bf16 := iblk m c 1 t

/-- The block a point writes back. -/
theorem out_at (x0 : Vec Ideal S256x1024 .bf16) (x1 : Vec Ideal S1x512x1024 .bf16) (r : Fin 256) (q : Fin 512) :
    out0_2 x0 x1 (ix2 r q) = ∑ k, x0 (ix2 r k) * x1 (ix3 0 q k) := by
  have hc := cover0_2 (k0_pay1 (View.ld x1 r0_0) (View.ld x0 r0_1)) (ix2 r q)
  unfold out0_2
  canon_tiles x h using hc
  open_payloads
  pointwise [k0_pay1]
  have hr : r = x 0 := Fin.ext h0
  have hq : q = x 1 := Fin.ext h1
  rw [hr, hq]

theorem idx0 : ∀ t : Fin grid0.N, win0_0.index t = ![0, 0] := by decide +kernel
theorem idx1 : ∀ t : Fin grid0.N, win0_1.index t = ![t.val, 0, 0] := by decide +kernel
theorem idx2 : ∀ t : Fin grid0.N, win0_2.index t = ![0, t.val] := by decide +kernel

/-- The shard of point `t`, -/
def shard (t : Fin cfg0.N) : Fin 4 := ⟨t.val, by have := t.isLt; have : cfg0.N = 4 := N_0; omega⟩

/-- and column `q` of the shard. -/
def col (t : Fin cfg0.N) (q : Fin 512) : Fin 2048 := ⟨t.val * 512 + q.val, by have := t.isLt; have : cfg0.N = 4 := N_0; omega⟩

theorem hblk_at (t : Fin cfg0.N) (r : Fin 256) (k : Fin 1024) :
    hblk m c t (ix2 r k) = (m ((c : Thread nD τ).loc main_arg0)) (ix2 r k) := by
  unfold hblk
  blk_ext! [iblk, V, idx0 t]

theorem wblk_at (t : Fin cfg0.N) (q : Fin 512) (k : Fin 1024) :
    wblk m c t (ix3 0 q k) = (m ((c : Thread nD τ).loc main_arg1)) (ix3 (shard t) q k) := by
  unfold wblk shard
  blk_ext! [iblk, V, idx1 t]

/-- The point whose block holds an index, and its place in it. -/
theorem point (i : S256x2048.Idx) : ∃ (t : Fin cfg0.N) (r : Fin 256) (q : Fin 512), i = ix2 r (col t q) := by
  have l1 : (i 1 : Nat) < 2048 := (i 1).isLt
  have hN : cfg0.N = 4 := N_0
  refine ⟨⟨(i 1 : Nat) / 512, by omega⟩, ⟨(i 0 : Nat), (i 0).isLt⟩, ⟨(i 1 : Nat) % 512, by omega⟩, ?_⟩
  funext a; apply Fin.ext
  fin_cases a
  · rfl
  · show (i 1 : Nat) = (i 1 : Nat) / 512 * 512 + (i 1 : Nat) % 512
    omega

/-- An entry of the product. -/
def prod (x0 : Vec Ideal S256x1024 .bf16) (x1 : Vec Ideal S4x512x1024 .bf16) (p : Fin 256) (a : Fin 4) (q : Fin 512) : EReal :=
  ∑ k : Fin 1024, x0 (ix2 p k) * x1 (ix3 a q k)

theorem arr_at (t : Fin cfg0.N) (r : Fin 256) (q : Fin 512) :
    (dats m 0 c).arrAt 2 cfg0.N (ix2 r (col t q) : S256x2048.Idx)
      = prod (m ((c : Thread nD τ).loc main_arg0)) (m ((c : Thread nD τ).loc main_arg1)) r (shard t) q := by
  have he : (((cfg0.win 2).blk t).view.emb (ix2 r q : S256x512.Idx) : S256x2048.Idx) = ix2 r (col t q) := by
    funext a; apply Fin.ext
    refine (Pipeline.Window.rect_emb_val win0_2 t (ix2 r q) a rfl).trans ?_
    rw [idx2 t]
    fin_cases a
    · show 0 * 256 + r.val = r.val
      omega
    · rfl
  have hf := (dats m 0 c).arrAt_emb_eq_flushed 2 Value.disjoint2 t (flush0_2 t) (ix2 r q : S256x512.Idx)
  rw [he] at hf
  refine hf.trans ?_
  have ho := out_at (hblk m c t) (wblk m c t) r q
  simp only [hblk_at, wblk_at] at ho
  unfold hblk wblk at ho
  unfold prod
  rw [Value.flushed2]
  generalize out0_2 (iblk m c 0 t) (iblk m c 1 t) = w at ho ⊢
  exact ho

theorem value : Cert.MemNReferenceIdeal.Read.val_main_v5 (F := Ideal) (m ((c : Thread nD τ).loc main_arg0)) (m ((c : Thread nD τ).loc main_arg1)) = (dats m 0 c).arrAt 2 cfg0.N := by
  funext i
  obtain ⟨t, r, q, rfl⟩ := point i
  rw [arr_at]
  have ha : (⟨(col t q).val / 512, by omega⟩ : Fin 4) = shard t := Fin.ext (by show (t.val * 512 + q.val) / 512 = t.val; omega)
  have hb : (⟨(col t q).val % 512, by omega⟩ : Fin 512) = q := Fin.ext (by show (t.val * 512 + q.val) % 512 = q.val; omega)
  pointwise [Cert.MemNReferenceIdeal.Read.val_main_v5, Cert.MemNReferenceIdeal.Read.val_main_v4, Cert.MemNReferenceIdeal.Read.val_main_v2, Cert.MemNReferenceIdeal.Read.val_main_v1]
  refine Eq.trans (b := prod (m ((c : Thread nD τ).loc main_arg0)) (m ((c : Thread nD τ).loc main_arg1)) r
    ⟨(col t q).val / 512, by omega⟩ ⟨(col t q).val % 512, by omega⟩) rfl ?_
  rw [ha, hb]

end Cert.MemNKernelIdeal.Block

end
-- ==== Proof.MemKv.lean ====
/- The keys and values of the memory: the result is the rows times the whole weight. -/
module

public import proofs.«01_k».proof.Proof.Gen.MemKvKernelIdeal.Value
public import proofs.«01_k».proof.Proof.Gen.MemKvReferenceIdeal.Read
public import Idealize.ShloMosaic.Lib.Pipeline.ValueKit.Point
public import Idealize.ShloMosaic.Lib.Pointwise

@[expose] public section

set_option maxRecDepth 16384

noncomputable section

namespace Cert.MemKvKernelIdeal.Block

open Cert.MemKvKernelIdeal Cert.MemKvKernelIdeal.Gen Idealize.ShloMosaic Idealize.ShloMosaic.TcCoe

variable (m : (ℓ : Loc nD τ sig) → Buf (Elt Ideal) ℓ) (c : Dev nD)

/-- An entry of the product. -/
def prod (x0 : Vec Ideal S256x2048 .bf16) (x1 : Vec Ideal S4x512x1024 .bf16) (r : Fin 256) (q : Fin 1024) : EReal :=
  ∑ k : Fin 2048, x0 (ix2 r k) * x1 (ix3 ⟨k.val / 512, by omega⟩ ⟨k.val % 512, by omega⟩ q)

theorem out_at (x0 : Vec Ideal S256x2048 .bf16) (x1 : Vec Ideal S4x512x1024 .bf16) (r : Fin 256) (q : Fin 1024) :
    Value.G2 x0 x1 (ix2 r q) = prod x0 x1 r q := by
  unfold prod
  pointwise [Value.G2, k0_pay1]

theorem ref_at (x0 : Vec Ideal S256x2048 .bf16) (x1 : Vec Ideal S4x512x1024 .bf16) (r : Fin 256) (q : Fin 1024) :
    Cert.MemKvReferenceIdeal.Read.val_main_v3 (F := Ideal) x0 x1 (ix2 r q) = prod x0 x1 r q := by
  unfold prod
  pointwise [Cert.MemKvReferenceIdeal.Read.val_main_v3, Cert.MemKvReferenceIdeal.Read.val_main_v2, Cert.MemKvReferenceIdeal.Read.val_main_v1, Cert.MemKvReferenceIdeal.Read.val_main_v0]

theorem value : Cert.MemKvReferenceIdeal.Read.val_main_v3 (F := Ideal) (m ((c : Thread nD τ).loc main_arg0)) (m ((c : Thread nD τ).loc main_arg1)) = (dats m 0 c).arrAt 2 cfg0.N := by
  rw [Value.final2]
  funext i
  obtain ⟨r, q, rfl⟩ : ∃ (r : Fin 256) (q : Fin 1024), i = ix2 r q := ⟨i 0, i 1, eq_ix2 i⟩
  exact (ref_at _ _ r q).trans (out_at _ _ r q).symm

end Cert.MemKvKernelIdeal.Block

end
-- ==== Proof.FirstNorm.lean ====
/- The normalised rows of a layer's input: each block of the result, and the result is the reference's. -/
module

public import proofs.«01_k».proof.Proof.NormReal
public import proofs.«01_k».proof.Proof.Gen.FirstNormKernelIdeal.Value
public import proofs.«01_k».proof.Proof.Gen.FirstNormReferenceIdeal.Read
public import Idealize.ShloMosaic.Lib.Pipeline.ValueKit.Point
public import Idealize.ShloMosaic.Lib.Pointwise

@[expose] public section

set_option maxRecDepth 16384

noncomputable section

namespace Cert.FirstNormKernelIdeal.Block

open Cert.FirstNormKernelIdeal Cert.FirstNormKernelIdeal.Gen Idealize.ShloMosaic Idealize.ShloMosaic.TcCoe
open Cert.RowNorm (ms rms unit)

variable (m : (ℓ : Loc nD τ sig) → Buf (Elt Ideal) ℓ) (c : Dev nD)

/-- The blocks a point reads: the rows -/
def xblk (t : Fin cfg0.N) : Vec Ideal S512x2048 .f32 := iblk m c 0 t

/-- and the gain. -/
def gblk (t : Fin cfg0.N) : Vec Ideal S1x2048 .f32 := iblk m c 1 t

theorem out_at (x0 : Vec Ideal S512x2048 .f32) (x1 : Vec Ideal S1x2048 .f32) (r : Fin 512) (q : Fin 2048) :
    out0_2 x0 x1 (ix2 r q) = unit (fun k => x0 (ix2 r k)) (fun k => x1 (ix2 0 k)) q := by
  have hc := cover0_2 (k0_pay1 (View.ld x0 r0_0) (View.ld x1 r0_1)) (ix2 r q)
  unfold out0_2
  canon_tiles x h using hc
  open_payloads
  have hr : r = x 0 := Fin.ext h0
  have hq : q = x 1 := Fin.ext h1
  subst hr hq
  pointwise [unit, rms, ms, k0_pay1]

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- Row `r` of the blocks of point `t`. -/
def row (t : Fin cfg0.N) (r : Fin 512) : Fin 8192 := ⟨t.val * 512 + r.val, by have := t.isLt; have : cfg0.N = 16 := N_0; omega⟩

theorem xblk_at (t : Fin cfg0.N) (r : Fin 512) (q : Fin 2048) : xblk m c t (ix2 r q) = (m ((c : Thread nD τ).loc main_arg0)) (ix2 (row t r) q) := by
  unfold xblk row
  blk_ext! [iblk, V, idx0 t]

theorem gblk_at (t : Fin cfg0.N) (q : Fin 2048) : gblk m c t (ix2 0 q) = (m ((c : Thread nD τ).loc main_arg1)) (ix2 0 q) := by
  unfold gblk
  blk_ext! [iblk, V, idx1 t]

/-- An entry of the result. -/
def entry (x0 : Vec Ideal S8192x2048 .f32) (x1 : Vec Ideal S1x2048 .f32) (r : Fin 8192) (q : Fin 2048) : EReal := unit (fun k => x0 (ix2 r k)) (fun k => x1 (ix2 0 k)) q

theorem arr_at (t : Fin cfg0.N) (r : Fin 512) (q : Fin 2048) :
    (dats m 0 c).arrAt 2 cfg0.N (ix2 (row t r) q : S8192x2048.Idx) = entry (m ((c : Thread nD τ).loc main_arg0)) (m ((c : Thread nD τ).loc main_arg1)) (row t r) q := by
  have he : (((cfg0.win 2).blk t).view.emb (ix2 r q : S512x2048.Idx) : S8192x2048.Idx) = ix2 (row t r) q := by
    funext a; apply Fin.ext
    refine (Pipeline.Window.rect_emb_val win0_2 t (ix2 r q) a rfl).trans ?_
    rw [idx2 t]
    fin_cases a
    · rfl
    · show 0 * 2048 + q.val = q.val
      omega
  have hf := (dats m 0 c).arrAt_emb_eq_flushed 2 Value.disjoint2 t (flush0_2 t) (ix2 r q : S512x2048.Idx)
  rw [he] at hf
  refine hf.trans ?_
  have ho := out_at (xblk m c t) (gblk m c t) r q
  simp only [xblk_at, gblk_at] at ho
  unfold xblk gblk at ho
  unfold entry
  rw [Value.flushed2]
  generalize out0_2 (iblk m c 0 t) (iblk m c 1 t) = w at ho ⊢
  exact ho

/-- The point whose block holds an index, and its place in it. -/
theorem point (i : S8192x2048.Idx) : ∃ (t : Fin cfg0.N) (r : Fin 512) (q : Fin 2048), i = ix2 (row t r) q := by
  have l0 : (i 0 : Nat) < 8192 := (i 0).isLt
  have hN : cfg0.N = 16 := N_0
  refine ⟨⟨(i 0 : Nat) / 512, by omega⟩, ⟨(i 0 : Nat) % 512, by omega⟩, ⟨(i 1 : Nat), (i 1).isLt⟩, ?_⟩
  funext a; apply Fin.ext
  fin_cases a
  · show (i 0 : Nat) = (i 0 : Nat) / 512 * 512 + (i 0 : Nat) % 512
    omega
  · rfl

theorem ref_at (x0 : Vec Ideal S8192x2048 .f32) (x1 : Vec Ideal S1x2048 .f32) (r : Fin 8192) (q : Fin 2048) :
    Cert.FirstNormReferenceIdeal.Read.val_main_v12 (F := Ideal) x0 x1 (ix2 r q) = entry x0 x1 r q := by
  unfold entry
  pointwise [unit, rms, ms, Cert.FirstNormReferenceIdeal.Read.val_main_v12, Cert.FirstNormReferenceIdeal.Read.val_main_v11, Cert.FirstNormReferenceIdeal.Read.val_main_v10, Cert.FirstNormReferenceIdeal.Read.val_main_v9, Cert.FirstNormReferenceIdeal.Read.val_main_v8, Cert.FirstNormReferenceIdeal.Read.val_main_v7, Cert.FirstNormReferenceIdeal.Read.val_main_v6, Cert.FirstNormReferenceIdeal.Read.val_main_v5, Cert.FirstNormReferenceIdeal.Read.val_main_cst_1, Cert.FirstNormReferenceIdeal.Read.val_main_v4, Cert.FirstNormReferenceIdeal.Read.val_main_v3, Cert.FirstNormReferenceIdeal.Read.val_main_cst_0, Cert.FirstNormReferenceIdeal.Read.val_main_v2, Cert.FirstNormReferenceIdeal.Read.val_main_v1, Cert.FirstNormReferenceIdeal.Read.val_main_cst, Cert.FirstNormReferenceIdeal.Read.val_main_v0]

theorem value : Cert.FirstNormReferenceIdeal.Read.val_main_v12 (F := Ideal) (m ((c : Thread nD τ).loc main_arg0)) (m ((c : Thread nD τ).loc main_arg1)) = (dats m 0 c).arrAt 2 cfg0.N := by
  funext i
  obtain ⟨t, r, q, rfl⟩ := point i
  rw [arr_at]
  exact ref_at _ _ _ _

end Cert.FirstNormKernelIdeal.Block

end
-- ==== Proof.MemFirstNorm.lean ====
/- The normalised rows of the memory: the result is the reference's. -/
module

public import proofs.«01_k».proof.Proof.NormReal
public import proofs.«01_k».proof.Proof.Gen.MemFirstNormKernelIdeal.Value
public import proofs.«01_k».proof.Proof.Gen.MemFirstNormReferenceIdeal.Read
public import Idealize.ShloMosaic.Lib.Pipeline.ValueKit.Point
public import Idealize.ShloMosaic.Lib.Pointwise

@[expose] public section

set_option maxRecDepth 16384

noncomputable section

namespace Cert.MemFirstNormKernelIdeal.Block

open Cert.MemFirstNormKernelIdeal Cert.MemFirstNormKernelIdeal.Gen Idealize.ShloMosaic Idealize.ShloMosaic.TcCoe
open Cert.RowNorm (ms rms unit)

variable (m : (ℓ : Loc nD τ sig) → Buf (Elt Ideal) ℓ) (c : Dev nD)

theorem out_at (x0 : Vec Ideal S256x2048 .f32) (x1 : Vec Ideal S1x2048 .f32) (r : Fin 256) (q : Fin 2048) :
    Value.G2 x0 x1 (ix2 r q) = unit (fun k => x0 (ix2 r k)) (fun k => x1 (ix2 0 k)) q := by
  pointwise [unit, rms, ms, Value.G2, k0_pay1]

theorem ref_at (x0 : Vec Ideal S256x2048 .f32) (x1 : Vec Ideal S1x2048 .f32) (r : Fin 256) (q : Fin 2048) :
    Cert.MemFirstNormReferenceIdeal.Read.val_main_v12 (F := Ideal) x0 x1 (ix2 r q) = unit (fun k => x0 (ix2 r k)) (fun k => x1 (ix2 0 k)) q := by
  pointwise [unit, rms, ms, Cert.MemFirstNormReferenceIdeal.Read.val_main_v12, Cert.MemFirstNormReferenceIdeal.Read.val_main_v11, Cert.MemFirstNormReferenceIdeal.Read.val_main_v10, Cert.MemFirstNormReferenceIdeal.Read.val_main_v9, Cert.MemFirstNormReferenceIdeal.Read.val_main_v8, Cert.MemFirstNormReferenceIdeal.Read.val_main_v7, Cert.MemFirstNormReferenceIdeal.Read.val_main_v6, Cert.MemFirstNormReferenceIdeal.Read.val_main_v5, Cert.MemFirstNormReferenceIdeal.Read.val_main_cst_1, Cert.MemFirstNormReferenceIdeal.Read.val_main_v4, Cert.MemFirstNormReferenceIdeal.Read.val_main_v3, Cert.MemFirstNormReferenceIdeal.Read.val_main_cst_0, Cert.MemFirstNormReferenceIdeal.Read.val_main_v2, Cert.MemFirstNormReferenceIdeal.Read.val_main_v1, Cert.MemFirstNormReferenceIdeal.Read.val_main_cst, Cert.MemFirstNormReferenceIdeal.Read.val_main_v0]

theorem value : Cert.MemFirstNormReferenceIdeal.Read.val_main_v12 (F := Ideal) (m ((c : Thread nD τ).loc main_arg0)) (m ((c : Thread nD τ).loc main_arg1)) = (dats m 0 c).arrAt 2 cfg0.N := by
  rw [Value.final2]
  funext i
  obtain ⟨r, q, rfl⟩ : ∃ (r : Fin 256) (q : Fin 2048), i = ix2 r q := ⟨i 0, i 1, eq_ix2 i⟩
  exact (ref_at _ _ r q).trans (out_at _ _ r q).symm

end Cert.MemFirstNormKernelIdeal.Block

end
-- ==== Proof.Mem0Ref.lean ====
/- The attention layer's memory gradient reads the last 512 columns of wider or narrower arrays; on these its reference is the
   spatial gating layer's, result by result. -/
module

public import proofs.«01_k».proof.Proof.Ref
public import proofs.«01_k».proof.Proof.Gen.Mem0ReferenceIdeal.Read

@[expose] public section

set_option maxRecDepth 16384

noncomputable section

namespace Cert.Mem0ReferenceIdeal.Rows

open Cert.Mem0ReferenceIdeal Cert.Mem0ReferenceIdeal.Gen Idealize.ShloMosaic Idealize.ShloMosaic.TcCoe
open Cert.Softmax Cert.KernelIdeal.Block Cert.Mem0ReferenceIdeal.Read

/-- The first argument with its columns moved to where the other layer has them, -/
def moved (x : Vec Ideal S8192x5120 .f32) : Vec Ideal Cert.KernelIdeal.S8192x3584 .bf16 :=
  fun i => x (ix2 (i 0) ⟨1536 + (i 1).val, by have : (i 1).val < 3584 := (i 1).isLt; omega⟩)

/-- and the third argument. -/
def movedG (x : Vec Ideal S8192x1024 .f32) : Vec Ideal Cert.KernelIdeal.S8192x2048 .bf16 :=
  fun i => x (ix2 (i 0) ⟨(i 1).val % 1024, Nat.mod_lt _ (by decide)⟩)

variable (x0 : Vec Ideal S8192x5120 .f32) (x1 : Vec Ideal S256x1024 .f32) (x2 : Vec Ideal S8192x1024 .f32)

theorem q_eq : val_main_v3 (F := Ideal) x0 = ReferenceIdeal.Read.val_main_v4 (F := Ideal) (moved x0) := by
  have e : val_main_v0 (F := Ideal) x0 = ReferenceIdeal.Read.val_main_v1 (F := Ideal) (moved x0) := by
    funext i
    rw [val_main_v0_apply, ReferenceIdeal.Read.val_main_v1_apply, ReferenceIdeal.Read.val_main_v0_apply]
    show x0 _ = x0 _
    congr 1
    funext a; apply Fin.ext
    fin_cases a
    · rfl
    · show 4608 + (i 1).val = 1536 + (3072 + (i 1).val); omega
  unfold val_main_v3 ReferenceIdeal.Read.val_main_v4
  rw [e]

theorem g_eq : val_main_v42 (F := Ideal) x2 = ReferenceIdeal.Read.val_main_v44 (F := Ideal) (movedG x2) := by
  have e : val_main_v40 (F := Ideal) x2 = ReferenceIdeal.Read.val_main_v42 (F := Ideal) (movedG x2) := by
    funext i
    rw [val_main_v40_apply, ReferenceIdeal.Read.val_main_v42_apply, ReferenceIdeal.Read.val_main_v41_apply]
    show x2 _ = x2 _
    congr 1
    funext a; apply Fin.ext
    have : (i 1).val < 512 := (i 1).isLt
    fin_cases a
    · rfl
    · show 512 + (i 1).val = (1536 + (i 1).val) % 1024; omega
  unfold val_main_v42 val_main_v41 ReferenceIdeal.Read.val_main_v44 ReferenceIdeal.Read.val_main_v43
  rw [e]

theorem logit_eq : val_main_v8 (F := Ideal) x0 x1 = ReferenceIdeal.Read.val_main_v9 (F := Ideal) (moved x0) x1 := by
  unfold val_main_v8 val_main_v6 ReferenceIdeal.Read.val_main_v9 ReferenceIdeal.Read.val_main_v7
  rw [q_eq]
  rfl

theorem exp_eq : val_main_v29 (F := Ideal) x0 x1 = ReferenceIdeal.Read.val_main_v30 (F := Ideal) (moved x0) x1 := by
  unfold val_main_v29 val_main_v28 val_main_v27 val_main_v26 val_main_v16 val_main_v9 ReferenceIdeal.Read.val_main_v30
    ReferenceIdeal.Read.val_main_v29 ReferenceIdeal.Read.val_main_v28 ReferenceIdeal.Read.val_main_v27 ReferenceIdeal.Read.val_main_v17
    ReferenceIdeal.Read.val_main_v10
  rw [logit_eq]
  rfl

theorem den_eq : val_main_v31 (F := Ideal) x0 x1 = ReferenceIdeal.Read.val_main_v32 (F := Ideal) (moved x0) x1 := by
  unfold val_main_v31 val_main_v30 ReferenceIdeal.Read.val_main_v32 ReferenceIdeal.Read.val_main_v31
  rw [exp_eq]
  rfl

theorem prob_eq : val_main_v33 (F := Ideal) x0 x1 = ReferenceIdeal.Read.val_main_v34 (F := Ideal) (moved x0) x1 := by
  unfold val_main_v33 val_main_v32 ReferenceIdeal.Read.val_main_v34 ReferenceIdeal.Read.val_main_v33
  rw [exp_eq, den_eq]

theorem dprob_eq : val_main_v43 (F := Ideal) x1 x2 = ReferenceIdeal.Read.val_main_v45 (F := Ideal) x1 (movedG x2) := by
  unfold val_main_v43 ReferenceIdeal.Read.val_main_v45
  rw [g_eq]
  rfl

theorem slope_eq : val_main_v59 (F := Ideal) x0 x1 x2 = ReferenceIdeal.Read.val_main_v61 (F := Ideal) (moved x0) x1 (movedG x2) := by
  unfold val_main_v59 val_main_v57 val_main_v56 val_main_v55 val_main_v54 val_main_v53 val_main_v52 val_main_v51 val_main_v50 val_main_v49
    val_main_v48 val_main_v47 val_main_v46 val_main_v36 val_main_v34
  rw [exp_eq, den_eq, dprob_eq]
  rfl

theorem v66_eq : val_main_v66 (F := Ideal) x0 x1 x2 = ReferenceIdeal.Read.val_main_v68 (F := Ideal) (moved x0) x1 (movedG x2) := by
  unfold val_main_v66 val_main_v63 val_main_v62
  rw [slope_eq]
  rfl

/-- The keys' and values' gradients are the other layer's. -/
theorem v67_eq : val_main_v67 (F := Ideal) x0 x1 x2 = ReferenceIdeal.Read.val_main_v69 (F := Ideal) (moved x0) x1 (movedG x2) := by
  unfold val_main_v67 val_main_v65 val_main_v64 val_main_v61 val_main_v60 val_main_v45 val_main_v44
  rw [slope_eq, prob_eq, g_eq, q_eq]
  rfl

/-- So are the queries' in the columns that are written. -/
theorem v69_at (s : Fin 8192) (h : Fin 4) (d : Fin 128) :
    val_main_v69 (F := Ideal) x0 x1 x2 (ix2 s ⟨4608 + (col h d).val, by omega⟩)
      = ReferenceIdeal.Read.val_main_v71 (F := Ideal) (moved x0) x1 (movedG x2) (ix2 s ⟨3072 + (col h d).val, by omega⟩) := by
  have e : ReferenceIdeal.Read.val_main_v71 (F := Ideal) (moved x0) x1 (movedG x2) (ix2 s ⟨3072 + (col h d).val, by omega⟩)
      = ReferenceIdeal.Read.val_main_v68 (F := Ideal) (moved x0) x1 (movedG x2) (ix2 s (col h d)) := by
    rw [ReferenceIdeal.Read.val_main_v71_apply]
    show ReferenceIdeal.Read.val_main_v70 (F := Ideal) (moved x0) x1 (movedG x2) _ = _
    unfold ReferenceIdeal.Read.val_main_v70
    pointwise
  rw [e, ← v66_eq, val_main_v69_apply]
  show val_main_v68 (F := Ideal) x0 x1 x2 _ = _
  unfold val_main_v68
  pointwise

end Cert.Mem0ReferenceIdeal.Rows

end
-- ==== Proof.Mem0Block.lean ====
/- The attention layer's memory gradient: what one grid point leaves in the two output blocks. The tiles are the other
   memory gradient's; only the loads and the stores' lists are this call's. -/
module

public import proofs.«01_k».proof.Proof.Mem0Ref
public import proofs.«01_k».proof.Proof.Gen.Mem0KernelIdeal.Value

@[expose] public section

set_option maxRecDepth 16384

noncomputable section

namespace Cert.Mem0KernelIdeal.Block

open Cert.Mem0KernelIdeal Cert.Mem0KernelIdeal.Gen Idealize.ShloMosaic Idealize.ShloMosaic.TcCoe
open Cert.Softmax Idealize.ShloMosaic.Tactic
open Cert.KernelIdeal.Block (col kcol vcol logits dprob dqRow dkRow dvRow row cols keys vals canon_first Zero tile_off tile_q tile_k tile_v)

/-! ## The loads -/

theorem inC (h : Fin 4) : ∀ a, (![0, 128 * h.val] : Fin 2 → Nat) a + S512x128.size a ≤ S512x512.size a := by
  intro a; fin_cases a
  · show 0 + 512 ≤ 512; omega
  · show 128 * h.val + 128 ≤ 512; omega
theorem inK (h : Fin 4) : ∀ a, (![0, 128 * h.val] : Fin 2 → Nat) a + S256x128.size a ≤ S256x1024.size a := by
  intro a; fin_cases a
  · show 0 + 256 ≤ 256; omega
  · show 128 * h.val + 128 ≤ 1024; omega
theorem inV (h : Fin 4) : ∀ a, (![0, 512 + 128 * h.val] : Fin 2 → Nat) a + S256x128.size a ≤ S256x1024.size a := by
  intro a; fin_cases a
  · show 0 + 256 ≤ 256; omega
  · show 512 + 128 * h.val + 128 ≤ 1024; omega

/-- Head `h`'s columns of a block of rows as loaded, -/
abbrev lc (a : Memref sig .tc .vmem S512x512 .f32) (ha : a.IsWhole) (x : Vec Ideal S512x512 .f32) (h : Fin 4) :=
  View.readAt (Elt Ideal) a.view (Rect.unit ![0, 128 * h.val] ![512, 128] (inC h)).toLoadRect (ha.unread x)
/-- its keys -/
abbrev lk (a : Memref sig .tc .vmem S256x1024 .f32) (ha : a.IsWhole) (x : Vec Ideal S256x1024 .f32) (h : Fin 4) :=
  View.readAt (Elt Ideal) a.view (Rect.unit ![0, 128 * h.val] ![256, 128] (inK h)).toLoadRect (ha.unread x)
/-- and its values. -/
abbrev lv (a : Memref sig .tc .vmem S256x1024 .f32) (ha : a.IsWhole) (x : Vec Ideal S256x1024 .f32) (h : Fin 4) :=
  View.readAt (Elt Ideal) a.view (Rect.unit ![0, 512 + 128 * h.val] ![256, 128] (inV h)).toLoadRect (ha.unread x)

theorem lc_eq (a : Memref sig .tc .vmem S512x512 .f32) (ha : a.IsWhole) (x : Vec Ideal S512x512 .f32) (h : Fin 4) : lc a ha x h = cols x h := by
  unfold lc
  rw [View.readAt_eq_ld, ha.read_unread]
  funext j
  show x _ = x _
  congr 1
  funext b; apply Fin.ext
  fin_cases b
  · show 0 + 1 * (j 0 : Nat) = j 0; omega
  · show 128 * h.val + 1 * (j 1 : Nat) = 128 * h.val + j 1; omega

theorem lk_eq (a : Memref sig .tc .vmem S256x1024 .f32) (ha : a.IsWhole) (x : Vec Ideal S256x1024 .f32) (h : Fin 4) : lk a ha x h = keys x h := by
  unfold lk
  rw [View.readAt_eq_ld, ha.read_unread]
  funext j
  show x _ = x _
  congr 1
  funext b; apply Fin.ext
  fin_cases b
  · show 0 + 1 * (j 0 : Nat) = j 0; omega
  · show 128 * h.val + 1 * (j 1 : Nat) = 128 * h.val + j 1; omega

theorem lv_eq (a : Memref sig .tc .vmem S256x1024 .f32) (ha : a.IsWhole) (x : Vec Ideal S256x1024 .f32) (h : Fin 4) : lv a ha x h = vals x h := by
  unfold lv
  rw [View.readAt_eq_ld, ha.read_unread]
  funext j
  show x _ = x _
  congr 1
  funext b; apply Fin.ext
  fin_cases b
  · show 0 + 1 * (j 0 : Nat) = j 0; omega
  · show 512 + 128 * h.val + 1 * (j 1 : Nat) = 512 + 128 * h.val + j 1; omega

/-- Head `h`'s keys' columns of the block while it still holds zero, -/
theorem zk {L : List (View.Piece (Elt Ideal) S256x1024 .f32)} (h : Fin 4) (a : Memref sig .tc .vmem S256x1024 .f32) (hz : Zero L (128 * h.val)) :
    a.view.readCov L (Rect.unit ![0, 128 * h.val] ![256, 128] (inK h)).toLoadRect = keys (fun _ => 0) h := by
  rw [View.readCov_eq_canon']
  funext j
  have l1 : (j 1 : Nat) < 128 := (j 1).isLt
  exact hz _ (by show 128 * h.val ≤ 128 * h.val + 1 * (j 1 : Nat); omega) (by show 128 * h.val + 1 * (j 1 : Nat) < 128 * h.val + 128; omega)

/-- and its values'. -/
theorem zv {L : List (View.Piece (Elt Ideal) S256x1024 .f32)} (h : Fin 4) (a : Memref sig .tc .vmem S256x1024 .f32) (hz : Zero L (512 + 128 * h.val)) :
    a.view.readCov L (Rect.unit ![0, 512 + 128 * h.val] ![256, 128] (inV h)).toLoadRect = vals (fun _ => 0) h := by
  rw [View.readCov_eq_canon']
  funext j
  have l1 : (j 1 : Nat) < 128 := (j 1).isLt
  exact hz _ (by show 512 + 128 * h.val ≤ 512 + 128 * h.val + 1 * (j 1 : Nat); omega)
    (by show 512 + 128 * h.val + 1 * (j 1 : Nat) < 512 + 128 * h.val + 128; omega)

/-! ## The stores -/

variable (x0 : Vec Ideal S512x512 .f32) (x1 : Vec Ideal S256x1024 .f32) (x2 : Vec Ideal S512x512 .f32)
variable (c : Dev nD) (i : grid0.Coords) (arg1 : Memref sig .tc .vmem S512x512 .f32) (harg1 : arg1.IsWhole) (arg2 : Memref sig .tc .vmem S256x1024 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S256x1024 .f32) (harg5 : arg5.IsWhole)

theorem tq (h h' : Fin 4) (r : Fin 512) (d : Fin 128) (w : Vec Ideal S512x128 .bf16)
    (hw : w = k0_pay8 (lc arg1 harg1 x0 h') (lk arg2 harg2 x1 h') (lv arg2 harg2 x1 h') (lc arg3 harg3 x2 h'))
    (off) (h0 : off = ![0, 128 * h'.val]) :
    View.TileAt (Val := Elt Ideal) (e := .bf16) (S := S512x512) (ix2 r (col h d)) off ![512, 128] w (dqRow (row x0 r) (row x2 r) x1 h d) :=
  tile_q x0 x1 x2 h h' r d w (lc_eq arg1 harg1 x0 h') (lk_eq arg2 harg2 x1 h') (lv_eq arg2 harg2 x1 h') (lc_eq arg3 harg3 x2 h') hw off h0

theorem tk (h h' : Fin 4) (m : Fin 256) (d : Fin 128) (o : Vec Ideal S256x128 .f32) (xo : Vec Ideal S256x1024 .f32) (ho : o = keys xo h')
    (w : Vec Ideal S256x128 .f32) (hw : w = k0_pay9 (k0_pay3 (lc arg1 harg1 x0 h'))
      (k0_pay7 (lc arg1 harg1 x0 h') (lk arg2 harg2 x1 h') (lv arg2 harg2 x1 h') (lc arg3 harg3 x2 h')) o) (off) (h0 : off = ![0, 128 * h'.val]) :
    View.TileAt (Val := Elt Ideal) (e := .f32) (S := S256x1024) (ix2 m (kcol h d)) off ![256, 128] w
      (xo (ix2 m (kcol h d)) + ∑ r, dkRow (row x0 r) (row x2 r) x1 h m d) :=
  tile_k x0 x1 x2 h h' m d w o (lc_eq arg1 harg1 x0 h') (lk_eq arg2 harg2 x1 h') (lv_eq arg2 harg2 x1 h') (lc_eq arg3 harg3 x2 h') xo ho hw off h0

theorem tv (h h' : Fin 4) (m : Fin 256) (d : Fin 128) (o : Vec Ideal S256x128 .f32) (xo : Vec Ideal S256x1024 .f32) (ho : o = vals xo h')
    (w : Vec Ideal S256x128 .f32) (hw : w = k0_pay10 (k0_pay5 (lc arg3 harg3 x2 h')) (k0_pay6 (lc arg1 harg1 x0 h') (lk arg2 harg2 x1 h')) o)
    (off) (h0 : off = ![0, 512 + 128 * h'.val]) :
    View.TileAt (Val := Elt Ideal) (e := .f32) (S := S256x1024) (ix2 m (vcol h d)) off ![256, 128] w
      (xo (ix2 m (vcol h d)) + ∑ r, dvRow (row x0 r) (row x2 r) x1 h m d) :=
  tile_v x0 x1 x2 h h' m d w o (lc_eq arg1 harg1 x0 h') (lk_eq arg2 harg2 x1 h') (lc_eq arg3 harg3 x2 h') xo ho hw off h0

theorem out_B_3 (hc0) (xo : Vec Ideal S256x1024 .f32) (r : Fin 512) (h : Fin 4) (d : Fin 128) :
    out0_B_3 c i arg1 harg1 arg2 harg2 arg3 harg3 arg4 harg4 arg5 harg5 hc0 x0 x1 x2 xo (ix2 r (col h d)) = dqRow (row x0 r) (row x2 r) x1 h d := by
  unfold out0_B_3
  rw [View.read_writes_eq_canon _ _ _ (cover0_B_3 c i arg1 harg1 arg2 harg2 arg3 harg3 arg4 harg4 arg5 harg5 hc0 x0 x1 x2 xo)]
  refine View.canon_eq_of_allAt _ _ _ (cover0_B_3 c i arg1 harg1 arg2 harg2 arg3 harg3 arg4 harg4 arg5 harg5 hc0 x0 x1 x2 xo _) ?_
  unfold kernelRun0_B; dsimp only
  have t := fun h' => tq x0 x1 x2 arg1 harg1 arg2 harg2 arg3 harg3 h h' r d
  refine View.allAt_cons_unit _ _ _ _ _ (t 3 _ (by rfl) _ rfl) ?_
  refine View.allAt_cons_unit _ _ _ _ _ (t 2 _ (by rfl) _ rfl) ?_
  refine View.allAt_cons_unit _ _ _ _ _ (t 1 _ (by rfl) _ rfl) ?_
  exact View.allAt_cons_unit _ _ _ _ _ (t 0 _ (by rfl) _ rfl) (View.allAt_nil _ _)

theorem out_B_4k (hc0) (xo : Vec Ideal S256x1024 .f32) (m : Fin 256) (h : Fin 4) (d : Fin 128) :
    out0_B_4 c i arg1 harg1 arg2 harg2 arg3 harg3 arg4 harg4 arg5 harg5 hc0 x0 x1 x2 xo (ix2 m (kcol h d)) = xo (ix2 m (kcol h d)) + ∑ r, dkRow (row x0 r) (row x2 r) x1 h m d := by
  unfold out0_B_4
  rw [View.read_writes_eq_canon _ _ _ (cover0_B_4 c i arg1 harg1 arg2 harg2 arg3 harg3 arg4 harg4 arg5 harg5 hc0 x0 x1 x2 xo)]
  refine View.canon_eq_of_allAt _ _ _ (cover0_B_4 c i arg1 harg1 arg2 harg2 arg3 harg3 arg4 harg4 arg5 harg5 hc0 x0 x1 x2 xo _) ?_
  unfold kernelRun0_B; dsimp only
  have t := fun h' => tk x0 x1 x2 arg1 harg1 arg2 harg2 arg3 harg3 h h' m d _ xo (lk_eq arg5 harg5 xo h')
  refine View.allAt_cons_unit _ _ _ _ _ (tile_off _ 896 _ _ _ rfl (Or.inl (by show 128 * h.val + d.val < _; omega))) ?_
  refine View.allAt_cons_unit _ _ _ _ _ (t 3 _ (by rfl) _ rfl) ?_
  refine View.allAt_cons_unit _ _ _ _ _ (tile_off _ 768 _ _ _ rfl (Or.inl (by show 128 * h.val + d.val < _; omega))) ?_
  refine View.allAt_cons_unit _ _ _ _ _ (t 2 _ (by rfl) _ rfl) ?_
  refine View.allAt_cons_unit _ _ _ _ _ (tile_off _ 640 _ _ _ rfl (Or.inl (by show 128 * h.val + d.val < _; omega))) ?_
  refine View.allAt_cons_unit _ _ _ _ _ (t 1 _ (by rfl) _ rfl) ?_
  refine View.allAt_cons_unit _ _ _ _ _ (tile_off _ 512 _ _ _ rfl (Or.inl (by show 128 * h.val + d.val < _; omega))) ?_
  refine View.allAt_cons_unit _ _ _ _ _ (t 0 _ (by rfl) _ rfl) ?_
  exact View.allAt_nil _ _

theorem out_B_4v (hc0) (xo : Vec Ideal S256x1024 .f32) (m : Fin 256) (h : Fin 4) (d : Fin 128) :
    out0_B_4 c i arg1 harg1 arg2 harg2 arg3 harg3 arg4 harg4 arg5 harg5 hc0 x0 x1 x2 xo (ix2 m (vcol h d)) = xo (ix2 m (vcol h d)) + ∑ r, dvRow (row x0 r) (row x2 r) x1 h m d := by
  unfold out0_B_4
  rw [View.read_writes_eq_canon _ _ _ (cover0_B_4 c i arg1 harg1 arg2 harg2 arg3 harg3 arg4 harg4 arg5 harg5 hc0 x0 x1 x2 xo)]
  refine View.canon_eq_of_allAt _ _ _ (cover0_B_4 c i arg1 harg1 arg2 harg2 arg3 harg3 arg4 harg4 arg5 harg5 hc0 x0 x1 x2 xo _) ?_
  unfold kernelRun0_B; dsimp only
  have t := fun h' => tv x0 x1 x2 arg1 harg1 arg2 harg2 arg3 harg3 h h' m d _ xo (lv_eq arg5 harg5 xo h')
  refine View.allAt_cons_unit _ _ _ _ _ (t 3 _ (by rfl) _ rfl) ?_
  refine View.allAt_cons_unit _ _ _ _ _ (tile_off _ 384 _ _ _ rfl (Or.inr (by show 512 ≤ 512 + 128 * h.val + d.val; omega))) ?_
  refine View.allAt_cons_unit _ _ _ _ _ (t 2 _ (by rfl) _ rfl) ?_
  refine View.allAt_cons_unit _ _ _ _ _ (tile_off _ 256 _ _ _ rfl (Or.inr (by show 384 ≤ 512 + 128 * h.val + d.val; omega))) ?_
  refine View.allAt_cons_unit _ _ _ _ _ (t 1 _ (by rfl) _ rfl) ?_
  refine View.allAt_cons_unit _ _ _ _ _ (tile_off _ 128 _ _ _ rfl (Or.inr (by show 256 ≤ 512 + 128 * h.val + d.val; omega))) ?_
  refine View.allAt_cons_unit _ _ _ _ _ (t 0 _ (by rfl) _ rfl) ?_
  refine View.allAt_cons_unit _ _ _ _ _ (tile_off _ 0 _ _ _ rfl (Or.inr (by show 128 ≤ 512 + 128 * h.val + d.val; omega))) ?_
  exact View.allAt_nil _ _

theorem out_A_3 (hc0) (r : Fin 512) (h : Fin 4) (d : Fin 128) :
    out0_A_3 c i arg1 harg1 arg2 harg2 arg3 harg3 arg4 harg4 arg5 harg5 hc0 x0 x1 x2 (ix2 r (col h d)) = dqRow (row x0 r) (row x2 r) x1 h d := by
  unfold out0_A_3
  rw [View.read_writes_eq_canon _ _ _ (cover0_A_3 c i arg1 harg1 arg2 harg2 arg3 harg3 arg4 harg4 arg5 harg5 hc0 x0 x1 x2)]
  refine View.canon_eq_of_allAt _ _ _ (cover0_A_3 c i arg1 harg1 arg2 harg2 arg3 harg3 arg4 harg4 arg5 harg5 hc0 x0 x1 x2 _) ?_
  unfold kernelRun0_A; dsimp only
  have t := fun h' => tq x0 x1 x2 arg1 harg1 arg2 harg2 arg3 harg3 h h' r d
  refine View.allAt_cons_unit _ _ _ _ _ (t 3 _ (by rfl) _ rfl) ?_
  refine View.allAt_cons_unit _ _ _ _ _ (t 2 _ (by rfl) _ rfl) ?_
  refine View.allAt_cons_unit _ _ _ _ _ (t 1 _ (by rfl) _ rfl) ?_
  exact View.allAt_cons_unit _ _ _ _ _ (t 0 _ (by rfl) _ rfl) (View.allAt_nil _ _)

theorem out_A_4k (hc0) (m : Fin 256) (h : Fin 4) (d : Fin 128) :
    out0_A_4 c i arg1 harg1 arg2 harg2 arg3 harg3 arg4 harg4 arg5 harg5 hc0 x0 x1 x2 (ix2 m (kcol h d)) = 0 + ∑ r, dkRow (row x0 r) (row x2 r) x1 h m d := by
  unfold out0_A_4
  rw [View.read_writes_eq_canon _ _ _ (cover0_A_4 c i arg1 harg1 arg2 harg2 arg3 harg3 arg4 harg4 arg5 harg5 hc0 x0 x1 x2)]
  refine canon_first _ 8 _ _ (View.cover_of_tiledL ((kernelRun0_A c i arg1 harg1 arg2 harg2 arg3 harg3 arg4 harg4 arg5 harg5 hc0 x0 x1 x2).2.1.take 8) S256x128.size (by sl_kernel_rfl) _) ?_
  unfold kernelRun0_A; dsimp only
  have t := fun h' L hz => tk x0 x1 x2 arg1 harg1 arg2 harg2 arg3 harg3 h h' m d (arg5.view.readCov L (Rect.unit ![0, 128 * h'.val] ![256, 128] (inK h')).toLoadRect) (fun _ => 0) (zk h' arg5 hz)
  refine View.allAt_cons_unit _ _ _ _ _ (tile_off _ 896 _ _ _ rfl (Or.inl (by show 128 * h.val + d.val < _; omega))) ?_
  refine View.allAt_cons_unit _ _ _ _ _ (t 3 _ ?_ _ (by rfl) _ rfl) ?_
  · repeat refine Zero.cons ?_ _ _ _ _ rfl (by omega)
    exact Zero.fill _ _
  refine View.allAt_cons_unit _ _ _ _ _ (tile_off _ 768 _ _ _ rfl (Or.inl (by show 128 * h.val + d.val < _; omega))) ?_
  refine View.allAt_cons_unit _ _ _ _ _ (t 2 _ ?_ _ (by rfl) _ rfl) ?_
  · repeat refine Zero.cons ?_ _ _ _ _ rfl (by omega)
    exact Zero.fill _ _
  refine View.allAt_cons_unit _ _ _ _ _ (tile_off _ 640 _ _ _ rfl (Or.inl (by show 128 * h.val + d.val < _; omega))) ?_
  refine View.allAt_cons_unit _ _ _ _ _ (t 1 _ ?_ _ (by rfl) _ rfl) ?_
  · repeat refine Zero.cons ?_ _ _ _ _ rfl (by omega)
    exact Zero.fill _ _
  refine View.allAt_cons_unit _ _ _ _ _ (tile_off _ 512 _ _ _ rfl (Or.inl (by show 128 * h.val + d.val < _; omega))) ?_
  refine View.allAt_cons_unit _ _ _ _ _ (t 0 _ ?_ _ (by rfl) _ rfl) ?_
  · repeat refine Zero.cons ?_ _ _ _ _ rfl (by omega)
    exact Zero.fill _ _
  exact View.allAt_nil _ _

theorem out_A_4v (hc0) (m : Fin 256) (h : Fin 4) (d : Fin 128) :
    out0_A_4 c i arg1 harg1 arg2 harg2 arg3 harg3 arg4 harg4 arg5 harg5 hc0 x0 x1 x2 (ix2 m (vcol h d)) = 0 + ∑ r, dvRow (row x0 r) (row x2 r) x1 h m d := by
  unfold out0_A_4
  rw [View.read_writes_eq_canon _ _ _ (cover0_A_4 c i arg1 harg1 arg2 harg2 arg3 harg3 arg4 harg4 arg5 harg5 hc0 x0 x1 x2)]
  refine canon_first _ 8 _ _ (View.cover_of_tiledL ((kernelRun0_A c i arg1 harg1 arg2 harg2 arg3 harg3 arg4 harg4 arg5 harg5 hc0 x0 x1 x2).2.1.take 8) S256x128.size (by sl_kernel_rfl) _) ?_
  unfold kernelRun0_A; dsimp only
  have t := fun h' L hz => tv x0 x1 x2 arg1 harg1 arg2 harg2 arg3 harg3 h h' m d (arg5.view.readCov L (Rect.unit ![0, 512 + 128 * h'.val] ![256, 128] (inV h')).toLoadRect) (fun _ => 0) (zv h' arg5 hz)
  refine View.allAt_cons_unit _ _ _ _ _ (t 3 _ ?_ _ (by rfl) _ rfl) ?_
  · repeat refine Zero.cons ?_ _ _ _ _ rfl (by omega)
    exact Zero.fill _ _
  refine View.allAt_cons_unit _ _ _ _ _ (tile_off _ 384 _ _ _ rfl (Or.inr (by show 512 ≤ 512 + 128 * h.val + d.val; omega))) ?_
  refine View.allAt_cons_unit _ _ _ _ _ (t 2 _ ?_ _ (by rfl) _ rfl) ?_
  · repeat refine Zero.cons ?_ _ _ _ _ rfl (by omega)
    exact Zero.fill _ _
  refine View.allAt_cons_unit _ _ _ _ _ (tile_off _ 256 _ _ _ rfl (Or.inr (by show 384 ≤ 512 + 128 * h.val + d.val; omega))) ?_
  refine View.allAt_cons_unit _ _ _ _ _ (t 1 _ ?_ _ (by rfl) _ rfl) ?_
  · repeat refine Zero.cons ?_ _ _ _ _ rfl (by omega)
    exact Zero.fill _ _
  refine View.allAt_cons_unit _ _ _ _ _ (tile_off _ 128 _ _ _ rfl (Or.inr (by show 256 ≤ 512 + 128 * h.val + d.val; omega))) ?_
  refine View.allAt_cons_unit _ _ _ _ _ (t 0 _ ?_ _ (by rfl) _ rfl) ?_
  · repeat refine Zero.cons ?_ _ _ _ _ rfl (by omega)
    exact Zero.fill _ _
  refine View.allAt_cons_unit _ _ _ _ _ (tile_off _ 0 _ _ _ rfl (Or.inr (by show 128 ≤ 512 + 128 * h.val + d.val; omega))) ?_
  exact View.allAt_nil _ _

end Cert.Mem0KernelIdeal.Block

end
-- ==== Proof.Mem0Array.lean ====
/- The attention layer's memory gradient: the two arrays after the kernel's run, and the precondition and the mask in words. -/
module

public import proofs.«01_k».proof.Proof.Mem0Block
public import proofs.«01_k».proof.Proof.Finite
public import proofs.«01_k».proof.Proof.Gen.Pre_finite_logits0
public import proofs.«01_k».proof.Proof.Gen.On_written0

@[expose] public section

set_option maxRecDepth 16384

noncomputable section

namespace Cert.Mem0KernelIdeal.Block

open Cert.Mem0KernelIdeal Cert.Mem0KernelIdeal.Gen Idealize.ShloMosaic Idealize.ShloMosaic.TcCoe
open Cert.Softmax Idealize.ShloMosaic.Tactic Cert.Mem0ReferenceIdeal.Rows
open Cert.KernelIdeal.Block (col kcol vcol logits dprob dqRow dkRow dvRow row qrow grow upTo upTo_all)

variable (m : (ℓ : Loc nD τ sig) → Buf (Elt Ideal) ℓ) (c : Dev nD)

/-- The first argument, -/
abbrev proj : Vec Ideal S8192x5120 .f32 := m ((c : Thread nD τ).loc main_arg0)
/-- the second -/
abbrev mem : Vec Ideal S256x1024 .f32 := m ((c : Thread nD τ).loc main_arg1)
/-- and the third. -/
abbrev dcat : Vec Ideal S8192x1024 .f32 := m ((c : Thread nD τ).loc main_arg2)
/-- The queries' rows, -/
abbrev qr (s : Fin 8192) := qrow (moved (proj m c)) s
/-- and the gradient's. -/
abbrev gr (s : Fin 8192) := grow (movedG (dcat m c)) s

theorem idx0 : ∀ t : Fin cfg0.N, win0_0.index t 0 = t.val ∧ win0_0.index t 1 = 9 :=
  (by decide +kernel : ∀ t : Fin grid0.N, win0_0.index t 0 = t.val ∧ win0_0.index t 1 = 9)
theorem idx2 : ∀ t : Fin cfg0.N, win0_2.index t 0 = t.val ∧ win0_2.index t 1 = 1 :=
  (by decide +kernel : ∀ t : Fin grid0.N, win0_2.index t 0 = t.val ∧ win0_2.index t 1 = 1)
theorem idx3 : ∀ t : Fin cfg0.N, win0_3.index t 0 = t.val ∧ win0_3.index t 1 = 9 :=
  (by decide +kernel : ∀ t : Fin grid0.N, win0_3.index t 0 = t.val ∧ win0_3.index t 1 = 9)
theorem idx1 : ∀ t : Fin cfg0.N, win0_1.index t 0 = 0 ∧ win0_1.index t 1 = 0 :=
  (by decide +kernel : ∀ t : Fin grid0.N, win0_1.index t 0 = 0 ∧ win0_1.index t 1 = 0)
theorem flush3 : ∀ t : Fin cfg0.N, (cfg0.win 3).flush t = true :=
  (by decide +kernel : ∀ t : Fin grid0.N, win0_3.flush t = true)

/-- The array's row that row `r` of block `t` is. -/
def rowOf (t : Fin cfg0.N) (r : Fin 512) : Fin 8192 := ⟨512 * t.val + r.val, by
  have := Nat.lt_of_lt_of_eq t.isLt N_0; omega⟩

theorem row_q (t : Fin cfg0.N) (r : Fin 512) : row (iblk m c 0 t) r = qr m c (rowOf t r) := by
  funext j
  show proj m c _ = proj m c _
  congr 1
  funext a; apply Fin.ext
  refine (Pipeline.Window.rect_emb_val win0_0 t (ix2 r j) a rfl).trans ?_
  fin_cases a
  · show win0_0.index t 0 * 512 + r.val = 512 * t.val + r.val
    rw [(idx0 t).1]; omega
  · show win0_0.index t 1 * 512 + j.val = 1536 + (3072 + j.val)
    rw [(idx0 t).2]; omega

theorem row_g (t : Fin cfg0.N) (r : Fin 512) : row (iblk m c 2 t) r = gr m c (rowOf t r) := by
  funext j
  show dcat m c _ = dcat m c _
  congr 1
  funext a; apply Fin.ext
  refine (Pipeline.Window.rect_emb_val win0_2 t (ix2 r j) a rfl).trans ?_
  fin_cases a
  · show win0_2.index t 0 * 512 + r.val = 512 * t.val + r.val
    rw [(idx2 t).1]; omega
  · show win0_2.index t 1 * 512 + j.val = (1536 + j.val) % 1024
    rw [(idx2 t).2]; omega

theorem blk_mem (t : Fin cfg0.N) : (iblk m c 1 t : Vec Ideal S256x1024 .f32) = mem m c := by
  funext j
  show mem m c _ = mem m c _
  congr 1
  funext a; apply Fin.ext
  refine (Pipeline.Window.rect_emb_val win0_1 t j a rfl).trans ?_
  fin_cases a
  · show win0_1.index t 0 * 256 + (j 0).val = (j 0).val
    rw [(idx1 t).1]; omega
  · show win0_1.index t 1 * 1024 + (j 1).val = (j 1).val
    rw [(idx1 t).2]; omega

/-! ## The queries' gradient -/

theorem outs_3 (t : Fin cfg0.N) (r : Fin 512) (h : Fin 4) (d : Fin 128) :
    (outsAt0 m c t.val t.isLt).1 (ix2 r (col h d)) = dqRow (qr m c (rowOf t r)) (gr m c (rowOf t r)) (mem m c) h d := by
  rw [← row_q, ← row_g, ← blk_mem m c t]
  by_cases h0 : t.val % 16 = 0
  · rw [outsAt0_A m c t h0]
    dsimp only
    rw [out_A_3]
  · rw [outsAt0_B m c t h0]
    dsimp only
    rw [out_B_3]

theorem arr_3 (s : Fin 8192) (h : Fin 4) (d : Fin 128) :
    (dats m 0 c).arrAt 3 cfg0.N (ix2 s ⟨4608 + (col h d).val, by omega⟩ : S8192x5120.Idx) = dqRow (qr m c s) (gr m c s) (mem m c) h d := by
  have hN : cfg0.N = 16 := N_0
  let t : Fin cfg0.N := ⟨s.val / 512, by rw [hN]; omega⟩
  let r : Fin 512 := ⟨s.val % 512, by omega⟩
  have hs : rowOf t r = s := Fin.ext (by show 512 * (s.val / 512) + s.val % 512 = s.val; omega)
  have he : (((cfg0.win 3).blk t).view.emb (ix2 r (col h d) : S512x512.Idx) : S8192x5120.Idx)
      = ix2 s ⟨4608 + (col h d).val, by omega⟩ := by
    funext a; apply Fin.ext
    refine (Pipeline.Window.rect_emb_val win0_3 t (ix2 r (col h d)) a rfl).trans ?_
    fin_cases a
    · show win0_3.index t 0 * 512 + s.val % 512 = s.val
      rw [(idx3 t).1]; show s.val / 512 * 512 + s.val % 512 = s.val; omega
    · show win0_3.index t 1 * 512 + (col h d).val = 4608 + (col h d).val
      rw [(idx3 t).2]
  have hf := (dats m 0 c).arrAt_emb_eq_flushed 3 Value.disjoint3 t (flush3 t) (ix2 r (col h d) : S512x512.Idx)
  rw [he] at hf
  refine hf.trans ?_
  have ho := outs_3 m c t r h d
  rw [hs] at ho
  rw [← ho, Value.flushed3]
  rfl

/-! ## The keys' and values' gradients -/

theorem upTo_block (f : Fin 8192 → EReal) (t : Fin cfg0.N) :
    upTo f (512 * t.val) + ∑ r, f (rowOf t r) = upTo f (512 * (t.val + 1)) :=
  Cert.KernelIdeal.Block.upTo_block f ⟨t.val, t.isLt⟩

theorem outs_4 (y : S256x1024.Idx) (f : Fin 8192 → EReal)
    (hA : ∀ (t : Fin cfg0.N) (h0 : t.val % 16 = 0), (outsAt0 m c t.val t.isLt).2 y = 0 + ∑ r, f (rowOf t r))
    (hB : ∀ (t : Fin cfg0.N) (h0 : ¬ t.val % 16 = 0), (outsAt0 m c t.val t.isLt).2 y
      = (outsAt0 m c (t.val - 1) (Nat.lt_of_le_of_lt (Nat.sub_le _ _) t.isLt)).2 y + ∑ r, f (rowOf t r)) :
    ∀ (n : Nat) (hn : n < cfg0.N), (outsAt0 m c n hn).2 y = upTo f (512 * (n + 1)) := by
  intro n
  induction n with
  | zero =>
    intro hn
    rw [hA ⟨0, hn⟩ rfl, ← upTo_block f ⟨0, hn⟩]
    rfl
  | succ n ih =>
    intro hn
    have hN : n + 1 < 16 := Nat.lt_of_lt_of_eq hn N_0
    rw [hB ⟨n + 1, hn⟩ (by show ¬ (n + 1) % 16 = 0; omega), ← upTo_block f ⟨n + 1, hn⟩]
    congr 1
    exact ih (Nat.lt_of_succ_lt hn)

theorem arr_4 (y : S256x1024.Idx) (f : Fin 8192 → EReal) (h : (outsAt0 m c 15 (by show 15 < grid0.N; rw [N_0]; decide)).2 y = upTo f 8192) :
    (dats m 0 c).arrAt 4 cfg0.N y = ∑ s, f s := by
  have hw : (cfg0.win 4).WholeAt t0_15 := (by decide +kernel : win0_4.WholeAt t0_15)
  have e : (dats m 0 c).arrAt 4 cfg0.N y = (outsAt0 m c 15 (by show 15 < grid0.N; rw [N_0]; decide)).2 y :=
    (dats m 0 c).arrAt_emb_eq_after_last 4 t0_15 hw y
  rw [e, h, upTo_all]

theorem arr_4k (n : Fin 256) (h : Fin 4) (d : Fin 128) :
    (dats m 0 c).arrAt 4 cfg0.N (ix2 n (kcol h d) : S256x1024.Idx) = ∑ s, dkRow (qr m c s) (gr m c s) (mem m c) h n d := by
  refine arr_4 m c _ (fun s => dkRow (qr m c s) (gr m c s) (mem m c) h n d) (outs_4 m c _ _ (fun t h0 => ?_) (fun t h0 => ?_) 15 _)
  · simp only [← row_q, ← row_g]
    rw [← blk_mem m c t, outsAt0_A m c t h0]
    dsimp only
    rw [out_A_4k]
  · simp only [← row_q, ← row_g]
    rw [← blk_mem m c t, outsAt0_B m c t h0]
    dsimp only
    rw [out_B_4k]

theorem arr_4v (n : Fin 256) (h : Fin 4) (d : Fin 128) :
    (dats m 0 c).arrAt 4 cfg0.N (ix2 n (vcol h d) : S256x1024.Idx) = ∑ s, dvRow (qr m c s) (gr m c s) (mem m c) h n d := by
  refine arr_4 m c _ (fun s => dvRow (qr m c s) (gr m c s) (mem m c) h n d) (outs_4 m c _ _ (fun t h0 => ?_) (fun t h0 => ?_) 15 _)
  · simp only [← row_q, ← row_g]
    rw [← blk_mem m c t, outsAt0_A m c t h0]
    dsimp only
    rw [out_A_4v]
  · simp only [← row_q, ← row_g]
    rw [← blk_mem m c t, outsAt0_B m c t h0]
    dsimp only
    rw [out_B_4v]

/-! ## The precondition and the mask -/

variable (x0 : Vec Ideal S8192x5120 .f32) (x1 : Vec Ideal S256x1024 .f32) (x2 : Vec Ideal S8192x1024 .f32)

/-- Finite queries and keys here are finite ones of the moved arguments, so the logits are real. -/
theorem logits_real (h1 : (Cert.Pre_finite_logits0.fn (F := Ideal) x0 x1 x2).1 = fun _ => 1#1)
    (h2 : (Cert.Pre_finite_logits0.fn (F := Ideal) x0 x1 x2).2 = fun _ => 1#1)
    (s : Fin 8192) (hd : Fin 4) : ∃ L : Fin 256 → ℝ, ∀ n, logits (qrow (moved x0) s) x1 hd n = (L n : EReal) := by
  refine Cert.Pre_finite_logits.Read.logits_real (moved x0) x1 (movedG x2) ?_ h2 s hd
  funext i
  refine Eq.trans ?_ (congrFun h1 i)
  unfold Cert.Pre_finite_logits.fn Cert.Pre_finite_logits0.fn
  dsimp only
  have e : i = ix2 (i 0) (i 1) := by funext a; fin_cases a <;> rfl
  rw [e]
  pointwise
  have l1 : (i 1).val < 512 := (i 1).isLt
  have e2 : moved x0 (ix2 (i 0) ⟨3072 + (i 1).val, by omega⟩) = x0 (ix2 (i 0) ⟨4608 + (i 1).val, by omega⟩) := by
    show x0 _ = x0 _
    congr 1
    funext a; apply Fin.ext
    fin_cases a
    · rfl
    · show 1536 + (3072 + (i 1).val) = 4608 + (i 1).val; omega
  exact congrArg (fun z : EReal => BitVec.ofBool (decide (max z (-z) < Ideal.ofBits .f32 0x7F800000#32))) e2

/-- The mask marks the last 512 columns of the first result. -/
theorem col_of_written (i : Cert.On_written0.S8192x5120.Idx) (h : (Cert.On_written0.fn (F := Ideal) x0 x1 x2).1 i = 1#1) :
    4608 ≤ (i 1 : Nat) := by
  unfold Cert.On_written0.fn at h
  dsimp only at h
  have l1 : (i 1 : Nat) < 5120 := (i 1).isLt
  have h' : BitVec.ofBool (BitVec.sle 4608#32 (BitVec.ofNat 32 (i 1 : Nat))) = 1#1 := h
  by_contra hc
  have hn : (BitVec.ofNat 32 (i 1 : Nat)).toNat = (i 1 : Nat) := by rw [BitVec.toNat_ofNat]; omega
  have e : (BitVec.sle 4608#32 (BitVec.ofNat 32 (i 1 : Nat))) = false := by
    rw [BitVec.sle, decide_eq_false_iff_not, BitVec.toInt_eq_toNat_cond, BitVec.toInt_eq_toNat_cond, hn]
    simp only [BitVec.reduceToNat, Nat.reducePow, Nat.reduceMul]
    split <;> split <;> omega
  rw [e] at h'
  exact absurd h' (by decide)

end Cert.Mem0KernelIdeal.Block

end
-- ==== Proof.lean ====
/- The proof of the certificate's claim: the frames, and the kernel's and the reference's results equal where the kernel
   writes them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.On_written
public import proofs.«01_k».proof.Proof.Gen.Pre_finite_logits
public import proofs.«01_k».proof.Proof.Gen.Pre_finite_factors
public import proofs.«01_k».proof.Proof.Gen.HiddenKernel
public import proofs.«01_k».proof.Proof.Gen.HiddenKernel.Skeleton
public import proofs.«01_k».proof.Proof.Gen.HiddenKernel.Launch
public import proofs.«01_k».proof.Proof.Gen.HiddenKernel.Points
public import proofs.«01_k».proof.Proof.Gen.HiddenKernel.Frame
public import proofs.«01_k».proof.Proof.Gen.HiddenKernelIdeal
public import proofs.«01_k».proof.Proof.Gen.HiddenKernelIdeal.Skeleton
public import proofs.«01_k».proof.Proof.Gen.HiddenKernelIdeal.Launch
public import proofs.«01_k».proof.Proof.Gen.HiddenKernelIdeal.Points
public import proofs.«01_k».proof.Proof.Gen.HiddenKernelIdeal.Frame
public import proofs.«01_k».proof.Proof.Gen.HiddenKernelIdeal.Value
public import proofs.«01_k».proof.Proof.Gen.HiddenReferenceIdeal
public import proofs.«01_k».proof.Proof.Gen.HiddenReferenceIdeal.Run
public import proofs.«01_k».proof.Proof.Gen.HiddenReferenceIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateKernelIdeal.Value
public import proofs.«01_k».proof.Proof.Gen.GateReferenceIdeal
public import proofs.«01_k».proof.Proof.Gen.GateReferenceIdeal.Run
public import proofs.«01_k».proof.Proof.Gen.GateReferenceIdeal.Read
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActKernelIdeal.Value
public import proofs.«01_k».proof.Proof.Gen.ActReferenceIdeal
public import proofs.«01_k».proof.Proof.Gen.ActReferenceIdeal.Run
public import proofs.«01_k».proof.Proof.Gen.ActReferenceIdeal.Read
public import proofs.«01_k».proof.Proof.Gen.GateUpKernel
public import proofs.«01_k».proof.Proof.Gen.GateUpKernel.Skeleton
public import proofs.«01_k».proof.Proof.Gen.GateUpKernel.Launch
public import proofs.«01_k».proof.Proof.Gen.GateUpKernel.Points
public import proofs.«01_k».proof.Proof.Gen.GateUpKernel.Frame
public import proofs.«01_k».proof.Proof.Gen.GateUpKernelIdeal
public import proofs.«01_k».proof.Proof.Gen.GateUpKernelIdeal.Skeleton
public import proofs.«01_k».proof.Proof.Gen.GateUpKernelIdeal.Launch
public import proofs.«01_k».proof.Proof.Gen.GateUpKernelIdeal.Points
public import proofs.«01_k».proof.Proof.Gen.GateUpKernelIdeal.Frame
public import proofs.«01_k».proof.Proof.Gen.GateUpKernelIdeal.Value
public import proofs.«01_k».proof.Proof.Gen.GateUpReferenceIdeal
public import proofs.«01_k».proof.Proof.Gen.GateUpReferenceIdeal.Run
public import proofs.«01_k».proof.Proof.Gen.GateUpReferenceIdeal.Read
public import proofs.«01_k».proof.Proof.Gen.DownFwdKernel
public import proofs.«01_k».proof.Proof.Gen.DownFwdKernel.Skeleton
public import proofs.«01_k».proof.Proof.Gen.DownFwdKernel.Launch
public import proofs.«01_k».proof.Proof.Gen.DownFwdKernel.Points
public import proofs.«01_k».proof.Proof.Gen.DownFwdKernel.Frame
public import proofs.«01_k».proof.Proof.Gen.DownFwdKernelIdeal
public import proofs.«01_k».proof.Proof.Gen.DownFwdKernelIdeal.Skeleton
public import proofs.«01_k».proof.Proof.Gen.DownFwdKernelIdeal.Launch
public import proofs.«01_k».proof.Proof.Gen.DownFwdKernelIdeal.Points
public import proofs.«01_k».proof.Proof.Gen.DownFwdKernelIdeal.Frame
public import proofs.«01_k».proof.Proof.Gen.DownFwdKernelIdeal.Value
public import proofs.«01_k».proof.Proof.Gen.DownFwdReferenceIdeal
public import proofs.«01_k».proof.Proof.Gen.DownFwdReferenceIdeal.Run
public import proofs.«01_k».proof.Proof.Gen.DownFwdReferenceIdeal.Read
public import proofs.«01_k».proof.Proof.Gen.SguInKernel
public import proofs.«01_k».proof.Proof.Gen.SguInKernel.Skeleton
public import proofs.«01_k».proof.Proof.Gen.SguInKernel.Launch
public import proofs.«01_k».proof.Proof.Gen.SguInKernel.Points
public import proofs.«01_k».proof.Proof.Gen.SguInKernel.Frame
public import proofs.«01_k».proof.Proof.Gen.SguInKernelIdeal
public import proofs.«01_k».proof.Proof.Gen.SguInKernelIdeal.Skeleton
public import proofs.«01_k».proof.Proof.Gen.SguInKernelIdeal.Launch
public import proofs.«01_k».proof.Proof.Gen.SguInKernelIdeal.Points
public import proofs.«01_k».proof.Proof.Gen.SguInKernelIdeal.Frame
public import proofs.«01_k».proof.Proof.Gen.SguInKernelIdeal.Value
public import proofs.«01_k».proof.Proof.Gen.SguInReferenceIdeal
public import proofs.«01_k».proof.Proof.Gen.SguInReferenceIdeal.Run
public import proofs.«01_k».proof.Proof.Gen.SguInReferenceIdeal.Read
public import proofs.«01_k».proof.Proof.Gen.AttnInKernel
public import proofs.«01_k».proof.Proof.Gen.AttnInKernel.Skeleton
public import proofs.«01_k».proof.Proof.Gen.AttnInKernel.Launch
public import proofs.«01_k».proof.Proof.Gen.AttnInKernel.Points
public import proofs.«01_k».proof.Proof.Gen.AttnInKernel.Frame
public import proofs.«01_k».proof.Proof.Gen.AttnInKernelIdeal
public import proofs.«01_k».proof.Proof.Gen.AttnInKernelIdeal.Skeleton
public import proofs.«01_k».proof.Proof.Gen.AttnInKernelIdeal.Launch
public import proofs.«01_k».proof.Proof.Gen.AttnInKernelIdeal.Points
public import proofs.«01_k».proof.Proof.Gen.AttnInKernelIdeal.Frame
public import proofs.«01_k».proof.Proof.Gen.AttnInKernelIdeal.Value
public import proofs.«01_k».proof.Proof.Gen.AttnInReferenceIdeal
public import proofs.«01_k».proof.Proof.Gen.AttnInReferenceIdeal.Run
public import proofs.«01_k».proof.Proof.Gen.AttnInReferenceIdeal.Read
public import proofs.«01_k».proof.Proof.Gen.SguInWKernel
public import proofs.«01_k».proof.Proof.Gen.SguInWKernel.Skeleton
public import proofs.«01_k».proof.Proof.Gen.SguInWKernel.Launch
public import proofs.«01_k».proof.Proof.Gen.SguInWKernel.Points
public import proofs.«01_k».proof.Proof.Gen.SguInWKernel.Frame
public import proofs.«01_k».proof.Proof.Gen.SguInWKernelIdeal
public import proofs.«01_k».proof.Proof.Gen.SguInWKernelIdeal.Skeleton
public import proofs.«01_k».proof.Proof.Gen.SguInWKernelIdeal.Launch
public import proofs.«01_k».proof.Proof.Gen.SguInWKernelIdeal.Points
public import proofs.«01_k».proof.Proof.Gen.SguInWKernelIdeal.Frame
public import proofs.«01_k».proof.Proof.Gen.SguInWKernelIdeal.Value
public import proofs.«01_k».proof.Proof.Gen.SguInWReferenceIdeal
public import proofs.«01_k».proof.Proof.Gen.SguInWReferenceIdeal.Run
public import proofs.«01_k».proof.Proof.Gen.SguInWReferenceIdeal.Read
public import proofs.«01_k».proof.Proof.Gen.AttnInWKernel
public import proofs.«01_k».proof.Proof.Gen.AttnInWKernel.Skeleton
public import proofs.«01_k».proof.Proof.Gen.AttnInWKernel.Launch
public import proofs.«01_k».proof.Proof.Gen.AttnInWKernel.Points
public import proofs.«01_k».proof.Proof.Gen.AttnInWKernel.Frame
public import proofs.«01_k».proof.Proof.Gen.AttnInWKernelIdeal
public import proofs.«01_k».proof.Proof.Gen.AttnInWKernelIdeal.Skeleton
public import proofs.«01_k».proof.Proof.Gen.AttnInWKernelIdeal.Launch
public import proofs.«01_k».proof.Proof.Gen.AttnInWKernelIdeal.Points
public import proofs.«01_k».proof.Proof.Gen.AttnInWKernelIdeal.Frame
public import proofs.«01_k».proof.Proof.Gen.AttnInWKernelIdeal.Value
public import proofs.«01_k».proof.Proof.Gen.AttnInWReferenceIdeal
public import proofs.«01_k».proof.Proof.Gen.AttnInWReferenceIdeal.Run
public import proofs.«01_k».proof.Proof.Gen.AttnInWReferenceIdeal.Read
public import proofs.«01_k».proof.Proof.Gen.SguInHKernel
public import proofs.«01_k».proof.Proof.Gen.SguInHKernel.Skeleton
public import proofs.«01_k».proof.Proof.Gen.SguInHKernel.Launch
public import proofs.«01_k».proof.Proof.Gen.SguInHKernel.Points
public import proofs.«01_k».proof.Proof.Gen.SguInHKernel.Frame
public import proofs.«01_k».proof.Proof.Gen.SguInHKernelIdeal
public import proofs.«01_k».proof.Proof.Gen.SguInHKernelIdeal.Skeleton
public import proofs.«01_k».proof.Proof.Gen.SguInHKernelIdeal.Launch
public import proofs.«01_k».proof.Proof.Gen.SguInHKernelIdeal.Points
public import proofs.«01_k».proof.Proof.Gen.SguInHKernelIdeal.Frame
public import proofs.«01_k».proof.Proof.Gen.SguInHKernelIdeal.Value
public import proofs.«01_k».proof.Proof.Gen.SguInHReferenceIdeal
public import proofs.«01_k».proof.Proof.Gen.SguInHReferenceIdeal.Run
public import proofs.«01_k».proof.Proof.Gen.SguInHReferenceIdeal.Read
public import proofs.«01_k».proof.Proof.Gen.AttnInHKernel
public import proofs.«01_k».proof.Proof.Gen.AttnInHKernel.Skeleton
public import proofs.«01_k».proof.Proof.Gen.AttnInHKernel.Launch
public import proofs.«01_k».proof.Proof.Gen.AttnInHKernel.Points
public import proofs.«01_k».proof.Proof.Gen.AttnInHKernel.Frame
public import proofs.«01_k».proof.Proof.Gen.AttnInHKernelIdeal
public import proofs.«01_k».proof.Proof.Gen.AttnInHKernelIdeal.Skeleton
public import proofs.«01_k».proof.Proof.Gen.AttnInHKernelIdeal.Launch
public import proofs.«01_k».proof.Proof.Gen.AttnInHKernelIdeal.Points
public import proofs.«01_k».proof.Proof.Gen.AttnInHKernelIdeal.Frame
public import proofs.«01_k».proof.Proof.Gen.AttnInHKernelIdeal.Value
public import proofs.«01_k».proof.Proof.Gen.AttnInHReferenceIdeal
public import proofs.«01_k».proof.Proof.Gen.AttnInHReferenceIdeal.Run
public import proofs.«01_k».proof.Proof.Gen.AttnInHReferenceIdeal.Read
public import proofs.«01_k».proof.Proof.Gen.SguCatKernel
public import proofs.«01_k».proof.Proof.Gen.SguCatKernel.Skeleton
public import proofs.«01_k».proof.Proof.Gen.SguCatKernel.Launch
public import proofs.«01_k».proof.Proof.Gen.SguCatKernel.Points
public import proofs.«01_k».proof.Proof.Gen.SguCatKernel.Frame
public import proofs.«01_k».proof.Proof.Gen.SguCatKernelIdeal
public import proofs.«01_k».proof.Proof.Gen.SguCatKernelIdeal.Skeleton
public import proofs.«01_k».proof.Proof.Gen.SguCatKernelIdeal.Launch
public import proofs.«01_k».proof.Proof.Gen.SguCatKernelIdeal.Points
public import proofs.«01_k».proof.Proof.Gen.SguCatKernelIdeal.Frame
public import proofs.«01_k».proof.Proof.Gen.SguCatKernelIdeal.Value
public import proofs.«01_k».proof.Proof.Gen.SguCatReferenceIdeal
public import proofs.«01_k».proof.Proof.Gen.SguCatReferenceIdeal.Run
public import proofs.«01_k».proof.Proof.Gen.SguCatReferenceIdeal.Read
public import proofs.«01_k».proof.Proof.Gen.AttnCatKernel
public import proofs.«01_k».proof.Proof.Gen.AttnCatKernel.Skeleton
public import proofs.«01_k».proof.Proof.Gen.AttnCatKernel.Launch
public import proofs.«01_k».proof.Proof.Gen.AttnCatKernel.Points
public import proofs.«01_k».proof.Proof.Gen.AttnCatKernel.Frame
public import proofs.«01_k».proof.Proof.Gen.AttnCatKernelIdeal
public import proofs.«01_k».proof.Proof.Gen.AttnCatKernelIdeal.Skeleton
public import proofs.«01_k».proof.Proof.Gen.AttnCatKernelIdeal.Launch
public import proofs.«01_k».proof.Proof.Gen.AttnCatKernelIdeal.Points
public import proofs.«01_k».proof.Proof.Gen.AttnCatKernelIdeal.Frame
public import proofs.«01_k».proof.Proof.Gen.AttnCatKernelIdeal.Value
public import proofs.«01_k».proof.Proof.Gen.AttnCatReferenceIdeal
public import proofs.«01_k».proof.Proof.Gen.AttnCatReferenceIdeal.Run
public import proofs.«01_k».proof.Proof.Gen.AttnCatReferenceIdeal.Read
public import proofs.«01_k».proof.Proof.Gen.SguOutWKernel
public import proofs.«01_k».proof.Proof.Gen.SguOutWKernel.Skeleton
public import proofs.«01_k».proof.Proof.Gen.SguOutWKernel.Launch
public import proofs.«01_k».proof.Proof.Gen.SguOutWKernel.Points
public import proofs.«01_k».proof.Proof.Gen.SguOutWKernel.Frame
public import proofs.«01_k».proof.Proof.Gen.SguOutWKernelIdeal
public import proofs.«01_k».proof.Proof.Gen.SguOutWKernelIdeal.Skeleton
public import proofs.«01_k».proof.Proof.Gen.SguOutWKernelIdeal.Launch
public import proofs.«01_k».proof.Proof.Gen.SguOutWKernelIdeal.Points
public import proofs.«01_k».proof.Proof.Gen.SguOutWKernelIdeal.Frame
public import proofs.«01_k».proof.Proof.Gen.SguOutWKernelIdeal.Value
public import proofs.«01_k».proof.Proof.Gen.SguOutWReferenceIdeal
public import proofs.«01_k».proof.Proof.Gen.SguOutWReferenceIdeal.Run
public import proofs.«01_k».proof.Proof.Gen.SguOutWReferenceIdeal.Read
public import proofs.«01_k».proof.Proof.Gen.AttnOutWKernel
public import proofs.«01_k».proof.Proof.Gen.AttnOutWKernel.Skeleton
public import proofs.«01_k».proof.Proof.Gen.AttnOutWKernel.Launch
public import proofs.«01_k».proof.Proof.Gen.AttnOutWKernel.Points
public import proofs.«01_k».proof.Proof.Gen.AttnOutWKernel.Frame
public import proofs.«01_k».proof.Proof.Gen.AttnOutWKernelIdeal
public import proofs.«01_k».proof.Proof.Gen.AttnOutWKernelIdeal.Skeleton
public import proofs.«01_k».proof.Proof.Gen.AttnOutWKernelIdeal.Launch
public import proofs.«01_k».proof.Proof.Gen.AttnOutWKernelIdeal.Points
public import proofs.«01_k».proof.Proof.Gen.AttnOutWKernelIdeal.Frame
public import proofs.«01_k».proof.Proof.Gen.AttnOutWKernelIdeal.Value
public import proofs.«01_k».proof.Proof.Gen.AttnOutWReferenceIdeal
public import proofs.«01_k».proof.Proof.Gen.AttnOutWReferenceIdeal.Run
public import proofs.«01_k».proof.Proof.Gen.AttnOutWReferenceIdeal.Read
public import proofs.«01_k».proof.Proof.Gen.SguOutKernel
public import proofs.«01_k».proof.Proof.Gen.SguOutKernel.Skeleton
public import proofs.«01_k».proof.Proof.Gen.SguOutKernel.Launch
public import proofs.«01_k».proof.Proof.Gen.SguOutKernel.Points
public import proofs.«01_k».proof.Proof.Gen.SguOutKernel.Frame
public import proofs.«01_k».proof.Proof.Gen.SguOutKernelIdeal
public import proofs.«01_k».proof.Proof.Gen.SguOutKernelIdeal.Skeleton
public import proofs.«01_k».proof.Proof.Gen.SguOutKernelIdeal.Launch
public import proofs.«01_k».proof.Proof.Gen.SguOutKernelIdeal.Points
public import proofs.«01_k».proof.Proof.Gen.SguOutKernelIdeal.Frame
public import proofs.«01_k».proof.Proof.Gen.SguOutKernelIdeal.Value
public import proofs.«01_k».proof.Proof.Gen.SguOutReferenceIdeal
public import proofs.«01_k».proof.Proof.Gen.SguOutReferenceIdeal.Run
public import proofs.«01_k».proof.Proof.Gen.SguOutReferenceIdeal.Read
public import proofs.«01_k».proof.Proof.Gen.SguFwdKernel
public import proofs.«01_k».proof.Proof.Gen.SguFwdKernel.Skeleton
public import proofs.«01_k».proof.Proof.Gen.SguFwdKernel.Launch
public import proofs.«01_k».proof.Proof.Gen.SguFwdKernel.Points
public import proofs.«01_k».proof.Proof.Gen.SguFwdKernel.Frame
public import proofs.«01_k».proof.Proof.Gen.SguFwdKernelIdeal
public import proofs.«01_k».proof.Proof.Gen.SguFwdKernelIdeal.Skeleton
public import proofs.«01_k».proof.Proof.Gen.SguFwdKernelIdeal.Launch
public import proofs.«01_k».proof.Proof.Gen.SguFwdKernelIdeal.Points
public import proofs.«01_k».proof.Proof.Gen.SguFwdKernelIdeal.Frame
public import proofs.«01_k».proof.Proof.Gen.SguFwdKernelIdeal.Value
public import proofs.«01_k».proof.Proof.Gen.SguFwdReferenceIdeal
public import proofs.«01_k».proof.Proof.Gen.SguFwdReferenceIdeal.Run
public import proofs.«01_k».proof.Proof.Gen.SguFwdReferenceIdeal.Read
public import proofs.«01_k».proof.Proof.Gen.On_mixer_columns
public import proofs.«01_k».proof.Proof.Gen.AttnOutKernel
public import proofs.«01_k».proof.Proof.Gen.AttnOutKernel.Skeleton
public import proofs.«01_k».proof.Proof.Gen.AttnOutKernel.Launch
public import proofs.«01_k».proof.Proof.Gen.AttnOutKernel.Points
public import proofs.«01_k».proof.Proof.Gen.AttnOutKernel.Frame
public import proofs.«01_k».proof.Proof.Gen.AttnOutKernelIdeal
public import proofs.«01_k».proof.Proof.Gen.AttnOutKernelIdeal.Skeleton
public import proofs.«01_k».proof.Proof.Gen.AttnOutKernelIdeal.Launch
public import proofs.«01_k».proof.Proof.Gen.AttnOutKernelIdeal.Points
public import proofs.«01_k».proof.Proof.Gen.AttnOutKernelIdeal.Frame
public import proofs.«01_k».proof.Proof.Gen.AttnOutKernelIdeal.Value
public import proofs.«01_k».proof.Proof.Gen.AttnOutReferenceIdeal
public import proofs.«01_k».proof.Proof.Gen.AttnOutReferenceIdeal.Run
public import proofs.«01_k».proof.Proof.Gen.AttnOutReferenceIdeal.Read
public import proofs.«01_k».proof.Proof.Ref
public import proofs.«01_k».proof.Proof.Finite
public import proofs.«01_k».proof.Proof.Hidden
public import proofs.«01_k».proof.Proof.Gate
public import proofs.«01_k».proof.Proof.Down
public import proofs.«01_k».proof.Proof.ActValue
public import Idealize.ShloMosaic.Adequacy
public import Idealize.ShloMosaic.Init
public import proofs.«01_k».proof.Proof.SguIn
public import proofs.«01_k».proof.Proof.AttnIn
public import proofs.«01_k».proof.Proof.SguInW
public import proofs.«01_k».proof.Proof.AttnInW
public import proofs.«01_k».proof.Proof.SguInH
public import proofs.«01_k».proof.Proof.AttnInH
public import proofs.«01_k».proof.Proof.DownFwd
public import proofs.«01_k».proof.Proof.GateUp
public import proofs.«01_k».proof.Proof.SguCat
public import proofs.«01_k».proof.Proof.AttnCat
public import proofs.«01_k».proof.Proof.SguOutW
public import proofs.«01_k».proof.Proof.AttnOutW
public import proofs.«01_k».proof.Proof.SguOut
public import proofs.«01_k».proof.Proof.AttnOut
public import proofs.«01_k».proof.Proof.SguFwd
public import proofs.«01_k».proof.Proof.SguBwdFinite
public import proofs.«01_k».proof.Proof.Gen.SguBwdKernel
public import proofs.«01_k».proof.Proof.Gen.SguBwdKernel.Skeleton
public import proofs.«01_k».proof.Proof.Gen.SguBwdKernel.Launch
public import proofs.«01_k».proof.Proof.Gen.SguBwdKernel.Points
public import proofs.«01_k».proof.Proof.Gen.SguBwdKernel.Frame
public import proofs.«01_k».proof.Proof.Gen.SguBwdKernelIdeal
public import proofs.«01_k».proof.Proof.Gen.SguBwdKernelIdeal.Skeleton
public import proofs.«01_k».proof.Proof.Gen.SguBwdKernelIdeal.Launch
public import proofs.«01_k».proof.Proof.Gen.SguBwdKernelIdeal.Points
public import proofs.«01_k».proof.Proof.Gen.SguBwdKernelIdeal.Frame
public import proofs.«01_k».proof.Proof.Gen.SguBwdKernelIdeal.Value
public import proofs.«01_k».proof.Proof.Gen.SguBwdReferenceIdeal
public import proofs.«01_k».proof.Proof.Gen.SguBwdReferenceIdeal.Run
public import proofs.«01_k».proof.Proof.Gen.SguBwdReferenceIdeal.Read
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormKernelIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.MemNormKernel
public import proofs.«01_k».proof.Proof.Gen.MemNormKernel.Skeleton
public import proofs.«01_k».proof.Proof.Gen.MemNormKernel.Launch
public import proofs.«01_k».proof.Proof.Gen.MemNormKernel.Points
public import proofs.«01_k».proof.Proof.Gen.MemNormKernel.Frame
public import proofs.«01_k».proof.Proof.Gen.MemNormKernelIdeal
public import proofs.«01_k».proof.Proof.Gen.MemNormKernelIdeal.Skeleton
public import proofs.«01_k».proof.Proof.Gen.MemNormKernelIdeal.Launch
public import proofs.«01_k».proof.Proof.Gen.MemNormKernelIdeal.Points
public import proofs.«01_k».proof.Proof.Gen.MemNormKernelIdeal.Frame
public import proofs.«01_k».proof.Proof.Gen.MemNormKernelIdeal.Value
public import proofs.«01_k».proof.Proof.Gen.MemNormReferenceIdeal
public import proofs.«01_k».proof.Proof.Gen.MemNormReferenceIdeal.Run
public import proofs.«01_k».proof.Proof.Gen.MemNormReferenceIdeal.Read
public import proofs.«01_k».proof.Proof.Gen.MemKvWKernel
public import proofs.«01_k».proof.Proof.Gen.MemKvWKernel.Skeleton
public import proofs.«01_k».proof.Proof.Gen.MemKvWKernel.Launch
public import proofs.«01_k».proof.Proof.Gen.MemKvWKernel.Points
public import proofs.«01_k».proof.Proof.Gen.MemKvWKernel.Frame
public import proofs.«01_k».proof.Proof.Gen.MemKvWKernelIdeal
public import proofs.«01_k».proof.Proof.Gen.MemKvWKernelIdeal.Skeleton
public import proofs.«01_k».proof.Proof.Gen.MemKvWKernelIdeal.Launch
public import proofs.«01_k».proof.Proof.Gen.MemKvWKernelIdeal.Points
public import proofs.«01_k».proof.Proof.Gen.MemKvWKernelIdeal.Frame
public import proofs.«01_k».proof.Proof.Gen.MemKvWKernelIdeal.Value
public import proofs.«01_k».proof.Proof.Gen.MemKvWReferenceIdeal
public import proofs.«01_k».proof.Proof.Gen.MemKvWReferenceIdeal.Run
public import proofs.«01_k».proof.Proof.Gen.MemKvWReferenceIdeal.Read
public import proofs.«01_k».proof.Proof.Gen.MemNKernel
public import proofs.«01_k».proof.Proof.Gen.MemNKernel.Skeleton
public import proofs.«01_k».proof.Proof.Gen.MemNKernel.Launch
public import proofs.«01_k».proof.Proof.Gen.MemNKernel.Points
public import proofs.«01_k».proof.Proof.Gen.MemNKernel.Frame
public import proofs.«01_k».proof.Proof.Gen.MemNKernelIdeal
public import proofs.«01_k».proof.Proof.Gen.MemNKernelIdeal.Skeleton
public import proofs.«01_k».proof.Proof.Gen.MemNKernelIdeal.Launch
public import proofs.«01_k».proof.Proof.Gen.MemNKernelIdeal.Points
public import proofs.«01_k».proof.Proof.Gen.MemNKernelIdeal.Frame
public import proofs.«01_k».proof.Proof.Gen.MemNKernelIdeal.Value
public import proofs.«01_k».proof.Proof.Gen.MemNReferenceIdeal
public import proofs.«01_k».proof.Proof.Gen.MemNReferenceIdeal.Run
public import proofs.«01_k».proof.Proof.Gen.MemNReferenceIdeal.Read
public import proofs.«01_k».proof.Proof.Gen.MemKvKernel
public import proofs.«01_k».proof.Proof.Gen.MemKvKernel.Skeleton
public import proofs.«01_k».proof.Proof.Gen.MemKvKernel.Launch
public import proofs.«01_k».proof.Proof.Gen.MemKvKernel.Points
public import proofs.«01_k».proof.Proof.Gen.MemKvKernel.Frame
public import proofs.«01_k».proof.Proof.Gen.MemKvKernelIdeal
public import proofs.«01_k».proof.Proof.Gen.MemKvKernelIdeal.Skeleton
public import proofs.«01_k».proof.Proof.Gen.MemKvKernelIdeal.Launch
public import proofs.«01_k».proof.Proof.Gen.MemKvKernelIdeal.Points
public import proofs.«01_k».proof.Proof.Gen.MemKvKernelIdeal.Frame
public import proofs.«01_k».proof.Proof.Gen.MemKvKernelIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.FirstNormKernel
public import proofs.«01_k».proof.Proof.Gen.FirstNormKernel.Skeleton
public import proofs.«01_k».proof.Proof.Gen.FirstNormKernel.Launch
public import proofs.«01_k».proof.Proof.Gen.FirstNormKernel.Points
public import proofs.«01_k».proof.Proof.Gen.FirstNormKernel.Frame
public import proofs.«01_k».proof.Proof.Gen.FirstNormKernelIdeal
public import proofs.«01_k».proof.Proof.Gen.FirstNormKernelIdeal.Skeleton
public import proofs.«01_k».proof.Proof.Gen.FirstNormKernelIdeal.Launch
public import proofs.«01_k».proof.Proof.Gen.FirstNormKernelIdeal.Points
public import proofs.«01_k».proof.Proof.Gen.FirstNormKernelIdeal.Frame
public import proofs.«01_k».proof.Proof.Gen.FirstNormKernelIdeal.Value
public import proofs.«01_k».proof.Proof.Gen.FirstNormReferenceIdeal
public import proofs.«01_k».proof.Proof.Gen.FirstNormReferenceIdeal.Run
public import proofs.«01_k».proof.Proof.Gen.FirstNormReferenceIdeal.Read
public import proofs.«01_k».proof.Proof.Gen.MemFirstNormKernel
public import proofs.«01_k».proof.Proof.Gen.MemFirstNormKernel.Skeleton
public import proofs.«01_k».proof.Proof.Gen.MemFirstNormKernel.Launch
public import proofs.«01_k».proof.Proof.Gen.MemFirstNormKernel.Points
public import proofs.«01_k».proof.Proof.Gen.MemFirstNormKernel.Frame
public import proofs.«01_k».proof.Proof.Gen.MemFirstNormKernelIdeal
public import proofs.«01_k».proof.Proof.Gen.MemFirstNormKernelIdeal.Skeleton
public import proofs.«01_k».proof.Proof.Gen.MemFirstNormKernelIdeal.Launch
public import proofs.«01_k».proof.Proof.Gen.MemFirstNormKernelIdeal.Points
public import proofs.«01_k».proof.Proof.Gen.MemFirstNormKernelIdeal.Frame
public import proofs.«01_k».proof.Proof.Gen.MemFirstNormKernelIdeal.Value
public import proofs.«01_k».proof.Proof.Gen.MemFirstNormReferenceIdeal
public import proofs.«01_k».proof.Proof.Gen.MemFirstNormReferenceIdeal.Run
public import proofs.«01_k».proof.Proof.Gen.MemFirstNormReferenceIdeal.Read
public import proofs.«01_k».proof.Proof.Gen.Mem0Kernel
public import proofs.«01_k».proof.Proof.Gen.Mem0Kernel.Skeleton
public import proofs.«01_k».proof.Proof.Gen.Mem0Kernel.Launch
public import proofs.«01_k».proof.Proof.Gen.Mem0Kernel.Points
public import proofs.«01_k».proof.Proof.Gen.Mem0Kernel.Frame
public import proofs.«01_k».proof.Proof.Gen.Mem0KernelIdeal
public import proofs.«01_k».proof.Proof.Gen.Mem0KernelIdeal.Skeleton
public import proofs.«01_k».proof.Proof.Gen.Mem0KernelIdeal.Launch
public import proofs.«01_k».proof.Proof.Gen.Mem0KernelIdeal.Points
public import proofs.«01_k».proof.Proof.Gen.Mem0KernelIdeal.Frame
public import proofs.«01_k».proof.Proof.Gen.Mem0KernelIdeal.Value
public import proofs.«01_k».proof.Proof.Gen.Mem0ReferenceIdeal
public import proofs.«01_k».proof.Proof.Gen.Mem0ReferenceIdeal.Run
public import proofs.«01_k».proof.Proof.Gen.Mem0ReferenceIdeal.Read
public import proofs.«01_k».proof.Proof.Gen.Pre_finite_gating
public import proofs.«01_k».proof.Proof.Norm
public import proofs.«01_k».proof.Proof.MemNorm
public import proofs.«01_k».proof.Proof.MemKvW
public import proofs.«01_k».proof.Proof.MemN
public import proofs.«01_k».proof.Proof.MemKv
public import proofs.«01_k».proof.Proof.FirstNorm
public import proofs.«01_k».proof.Proof.MemFirstNorm
public import proofs.«01_k».proof.Proof.Gen.Pre_finite_logits0
public import proofs.«01_k».proof.Proof.Gen.On_written0
public import proofs.«01_k».proof.Proof.Mem0Array

@[expose] public section

noncomputable section

namespace Cert.Proof

open Idealize.ShloMosaic Idealize.SL.Sem Idealize.ShloMosaic.TcCoe
open Cert.KernelIdeal.Block

/-- The reference's frame. -/
theorem frame_r : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run m ρ)

/-- A column of the keys' and values' block is a key column or a value column of some head. -/
theorem col_cases (j : Fin 1024) : (∃ h d, j = kcol h d) ∨ ∃ h d, j = vcol h d := by
  by_cases hj : j.val < 512
  · exact Or.inl ⟨⟨j.val / 128, by omega⟩, ⟨j.val % 128, by omega⟩, Fin.ext (by show j.val = 128 * (j.val / 128) + j.val % 128; omega)⟩
  · exact Or.inr ⟨⟨(j.val - 512) / 128, by omega⟩, ⟨(j.val - 512) % 128, by omega⟩,
      Fin.ext (by show j.val = 512 + 128 * ((j.val - 512) / 128) + (j.val - 512) % 128; omega)⟩

/-- The value claim. -/
theorem value : Cert.algebraic_KernelIdeal_ReferenceIdeal_on_written_pre_finite_logits := by
  intro m g m' g' hpre hagree
  refine ⟨fun c => (Cert.KernelIdeal.Gen.dats m 0 c).arrAt 3 Cert.KernelIdeal.cfg0.N,
    fun c => (Cert.KernelIdeal.Gen.dats m 0 c).arrAt 4 Cert.KernelIdeal.cfg0.N,
    (θ_run Cert.KernelIdeal.defs _ _).mono (fun r h c => ⟨fun i _ => congrFun (h c).1 i, fun i _ => congrFun (h c).2.1 i, (h c).2.2⟩)
      (Cert.KernelIdeal.Value.run_blocks m g),
    (θ_run Cert.ReferenceIdeal.defs _ _).mono (fun r h c => ⟨fun i hi => (congrFun (h c).1 i).trans ?_,
        fun i _ => (congrFun (h c).2.1 i).trans ?_, (h c).2.2⟩)
      (Cert.ReferenceIdeal.Value.run m' g')⟩
  · have hl := fun s hd => Cert.Pre_finite_logits.Read.logits_real (proj m c) (mem m c) (dcat m c) (hpre c).1 (hpre c).2 s hd
    have hcol := Cert.Pre_finite_logits.Read.col_of_written (proj m c) (mem m c) (dcat m c) i hi
    rw [Cert.ReferenceIdeal.Read.val_main_v71_eq, (hagree c).1, (hagree c).2.1, (hagree c).2.2]
    have l1 : (i 1 : Nat) < 3584 := (i 1).isLt
    obtain ⟨hd, d, hj⟩ : ∃ (hd : Fin 4) (d : Fin 128), (i 1 : Nat) = 3072 + (col hd d).val :=
      ⟨⟨((i 1 : Nat) - 3072) / 128, by omega⟩, ⟨((i 1 : Nat) - 3072) % 128, by omega⟩, by
        show (i 1 : Nat) = 3072 + (128 * (((i 1 : Nat) - 3072) / 128) + ((i 1 : Nat) - 3072) % 128); omega⟩
    have hi' : i = ix2 (i 0) ⟨3072 + (col hd d).val, by omega⟩ := by
      funext a; apply Fin.ext
      fin_cases a
      · rfl
      · exact hj
    rw [hi']
    exact (Cert.ReferenceIdeal.Rows.dq_at (proj m c) (mem m c) (dcat m c) (i 0) hd d (hl _ _)).trans (arr_3 m c (i 0) hd d).symm
  · have hl := fun s hd => Cert.Pre_finite_logits.Read.logits_real (proj m c) (mem m c) (dcat m c) (hpre c).1 (hpre c).2 s hd
    rw [Cert.ReferenceIdeal.Read.val_main_v69_eq, (hagree c).1, (hagree c).2.1, (hagree c).2.2]
    have hi' : i = ix2 (i 0) (i 1) := by
      funext a; apply Fin.ext
      fin_cases a <;> rfl
    rcases col_cases (i 1) with ⟨hd, d, hj⟩ | ⟨hd, d, hj⟩
    · rw [hi', hj]
      exact (Cert.ReferenceIdeal.Rows.dk_at (proj m c) (mem m c) (dcat m c) (i 0) hd d (fun s => hl s hd)).trans (arr_4k m c (i 0) hd d).symm
    · rw [hi', hj]
      exact (Cert.ReferenceIdeal.Rows.dv_at (proj m c) (mem m c) (dcat m c) (i 0) hd d).trans (arr_4v m c (i 0) hd d).symm

/-- The feed-forward input's gradient: the reference's frame, -/
theorem frame_r_hidden : Cert.quiescent_HiddenReferenceIdeal := by
  intro m ρ _
  exact (θ_run Cert.HiddenReferenceIdeal.defs _ _).mono (fun r h => ⟨fun c => (h c).2, sem_eq_zero_of_no_sems (by decide) r.2⟩)
    (Cert.HiddenReferenceIdeal.Value.run m ρ)

/-- and the value claim. -/
theorem value_hidden : Cert.algebraic_HiddenKernelIdeal_HiddenReferenceIdeal := by
  intro m g m' g' _ hagree
  refine ⟨fun c => Cert.HiddenKernelIdeal.Value.G4 m c, Cert.HiddenKernelIdeal.Value.run m g,
    (θ_run Cert.HiddenReferenceIdeal.defs _ _).mono (fun r h c => ⟨(h c).1.trans ?_, (h c).2⟩) (Cert.HiddenReferenceIdeal.Value.run m' g')⟩
  rw [Cert.HiddenReferenceIdeal.Read.val_main_v14_eq, (hagree c).1, (hagree c).2.1, (hagree c).2.2.1, (hagree c).2.2.2]
  funext i
  exact (Cert.HiddenKernelIdeal.Sum.value m c i).symm

/-- A gate's or an up's weights' gradient: the reference's frame, -/
theorem frame_r_gate : Cert.quiescent_GateReferenceIdeal := by
  intro m ρ _
  exact (θ_run Cert.GateReferenceIdeal.defs _ _).mono (fun r h => ⟨fun c => (h c).2, sem_eq_zero_of_no_sems (by decide) r.2⟩)
    (Cert.GateReferenceIdeal.Value.run m ρ)

/-- and the value claim. -/
theorem value_gate : Cert.algebraic_GateKernelIdeal_GateReferenceIdeal := by
  intro m g m' g' _ hagree
  refine ⟨fun c => Cert.GateKernelIdeal.Value.G2 m c, Cert.GateKernelIdeal.Value.run m g,
    (θ_run Cert.GateReferenceIdeal.defs _ _).mono (fun r h c => ⟨(h c).1.trans ?_, (h c).2⟩) (Cert.GateReferenceIdeal.Value.run m' g')⟩
  rw [Cert.GateReferenceIdeal.Read.val_main_v10_eq, (hagree c).1, (hagree c).2.1]
  funext i
  exact (Cert.GateKernelIdeal.Sum.value m c i).symm

/-- The down projection's weights' gradient: the reference's frame, -/
theorem frame_r_down : Cert.quiescent_DownReferenceIdeal := by
  intro m ρ _
  exact (θ_run Cert.DownReferenceIdeal.defs _ _).mono (fun r h => ⟨fun c => (h c).2, sem_eq_zero_of_no_sems (by decide) r.2⟩)
    (Cert.DownReferenceIdeal.Value.run m ρ)

/-- and the value claim. -/
theorem value_down : Cert.algebraic_DownKernelIdeal_DownReferenceIdeal := by
  intro m g m' g' _ hagree
  refine ⟨fun c => Cert.DownKernelIdeal.Value.G2 m c, Cert.DownKernelIdeal.Value.run m g,
    (θ_run Cert.DownReferenceIdeal.defs _ _).mono (fun r h c => ⟨(h c).1.trans ?_, (h c).2⟩) (Cert.DownReferenceIdeal.Value.run m' g')⟩
  rw [Cert.DownReferenceIdeal.Read.val_main_v9_eq, (hagree c).1, (hagree c).2.1]
  funext i
  exact (Cert.DownKernelIdeal.Sum.value m c i).symm

/-- The gate's and the up's gradients: the reference's frame, -/
theorem frame_r_act : Cert.quiescent_ActReferenceIdeal := by
  intro m ρ _
  exact (θ_run Cert.ActReferenceIdeal.defs _ _).mono (fun r h => ⟨fun c => (h c).2.2, sem_eq_zero_of_no_sems (by decide) r.2⟩)
    (Cert.ActReferenceIdeal.Value.run m ρ)

/-- and the value claim. -/
theorem value_act : Cert.algebraic_ActKernelIdeal_ActReferenceIdeal_pre_finite_factors := by
  intro m g m' g' hpre hagree
  refine ⟨fun c => (Cert.ActKernelIdeal.Gen.dats m 0 c).arrAt 4 Cert.ActKernelIdeal.cfg0.N,
    fun c => (Cert.ActKernelIdeal.Gen.dats m 0 c).arrAt 5 Cert.ActKernelIdeal.cfg0.N, Cert.ActKernelIdeal.Value.run_blocks m g,
    (θ_run Cert.ActReferenceIdeal.defs _ _).mono (fun r h c => ⟨(h c).1.trans ?_, (h c).2.1.trans ?_, (h c).2.2⟩)
      (Cert.ActReferenceIdeal.Value.run m' g')⟩
  · rw [Cert.ActReferenceIdeal.Read.val_main_v13_eq, (hagree c).1, (hagree c).2.1, (hagree c).2.2.1, (hagree c).2.2.2]
    funext i
    exact Cert.ActKernelIdeal.Block.value_gate m c (hpre c).1 (hpre c).2.1 (hpre c).2.2 i
  · rw [Cert.ActReferenceIdeal.Read.val_main_v11_eq, (hagree c).1, (hagree c).2.1, (hagree c).2.2.1]
    funext i
    exact Cert.ActKernelIdeal.Block.value_up m c i

theorem frame_r_gate_up : Cert.quiescent_GateUpReferenceIdeal := by
  intro m ρ _
  exact (θ_run Cert.GateUpReferenceIdeal.defs _ _).mono (fun r h => ⟨fun c => (h c).2.2.2, sem_eq_zero_of_no_sems (by decide) r.2⟩) (Cert.GateUpReferenceIdeal.Value.run m ρ)

theorem frame_r_down_fwd : Cert.quiescent_DownFwdReferenceIdeal := by
  intro m ρ _
  exact (θ_run Cert.DownFwdReferenceIdeal.defs _ _).mono (fun r h => ⟨fun c => (h c).2, sem_eq_zero_of_no_sems (by decide) r.2⟩) (Cert.DownFwdReferenceIdeal.Value.run m ρ)

theorem frame_r_sgu_in : Cert.quiescent_SguInReferenceIdeal := by
  intro m ρ _
  exact (θ_run Cert.SguInReferenceIdeal.defs _ _).mono (fun r h => ⟨fun c => (h c).2, sem_eq_zero_of_no_sems (by decide) r.2⟩) (Cert.SguInReferenceIdeal.Value.run m ρ)

theorem frame_r_attn_in : Cert.quiescent_AttnInReferenceIdeal := by
  intro m ρ _
  exact (θ_run Cert.AttnInReferenceIdeal.defs _ _).mono (fun r h => ⟨fun c => (h c).2, sem_eq_zero_of_no_sems (by decide) r.2⟩) (Cert.AttnInReferenceIdeal.Value.run m ρ)

theorem frame_r_sgu_in_w : Cert.quiescent_SguInWReferenceIdeal := by
  intro m ρ _
  exact (θ_run Cert.SguInWReferenceIdeal.defs _ _).mono (fun r h => ⟨fun c => (h c).2, sem_eq_zero_of_no_sems (by decide) r.2⟩) (Cert.SguInWReferenceIdeal.Value.run m ρ)

theorem frame_r_attn_in_w : Cert.quiescent_AttnInWReferenceIdeal := by
  intro m ρ _
  exact (θ_run Cert.AttnInWReferenceIdeal.defs _ _).mono (fun r h => ⟨fun c => (h c).2, sem_eq_zero_of_no_sems (by decide) r.2⟩) (Cert.AttnInWReferenceIdeal.Value.run m ρ)

theorem frame_r_sgu_in_h : Cert.quiescent_SguInHReferenceIdeal := by
  intro m ρ _
  exact (θ_run Cert.SguInHReferenceIdeal.defs _ _).mono (fun r h => ⟨fun c => (h c).2, sem_eq_zero_of_no_sems (by decide) r.2⟩) (Cert.SguInHReferenceIdeal.Value.run m ρ)

theorem frame_r_attn_in_h : Cert.quiescent_AttnInHReferenceIdeal := by
  intro m ρ _
  exact (θ_run Cert.AttnInHReferenceIdeal.defs _ _).mono (fun r h => ⟨fun c => (h c).2, sem_eq_zero_of_no_sems (by decide) r.2⟩) (Cert.AttnInHReferenceIdeal.Value.run m ρ)

theorem frame_r_sgu_cat : Cert.quiescent_SguCatReferenceIdeal := by
  intro m ρ _
  exact (θ_run Cert.SguCatReferenceIdeal.defs _ _).mono (fun r h => ⟨fun c => (h c).2, sem_eq_zero_of_no_sems (by decide) r.2⟩) (Cert.SguCatReferenceIdeal.Value.run m ρ)

theorem frame_r_attn_cat : Cert.quiescent_AttnCatReferenceIdeal := by
  intro m ρ _
  exact (θ_run Cert.AttnCatReferenceIdeal.defs _ _).mono (fun r h => ⟨fun c => (h c).2, sem_eq_zero_of_no_sems (by decide) r.2⟩) (Cert.AttnCatReferenceIdeal.Value.run m ρ)

theorem frame_r_sgu_out_w : Cert.quiescent_SguOutWReferenceIdeal := by
  intro m ρ _
  exact (θ_run Cert.SguOutWReferenceIdeal.defs _ _).mono (fun r h => ⟨fun c => (h c).2, sem_eq_zero_of_no_sems (by decide) r.2⟩) (Cert.SguOutWReferenceIdeal.Value.run m ρ)

theorem frame_r_attn_out_w : Cert.quiescent_AttnOutWReferenceIdeal := by
  intro m ρ _
  exact (θ_run Cert.AttnOutWReferenceIdeal.defs _ _).mono (fun r h => ⟨fun c => (h c).2, sem_eq_zero_of_no_sems (by decide) r.2⟩) (Cert.AttnOutWReferenceIdeal.Value.run m ρ)

theorem frame_r_sgu_out : Cert.quiescent_SguOutReferenceIdeal := by
  intro m ρ _
  exact (θ_run Cert.SguOutReferenceIdeal.defs _ _).mono (fun r h => ⟨fun c => (h c).2.2, sem_eq_zero_of_no_sems (by decide) r.2⟩) (Cert.SguOutReferenceIdeal.Value.run m ρ)

theorem frame_r_attn_out : Cert.quiescent_AttnOutReferenceIdeal := by
  intro m ρ _
  exact (θ_run Cert.AttnOutReferenceIdeal.defs _ _).mono (fun r h => ⟨fun c => (h c).2.2, sem_eq_zero_of_no_sems (by decide) r.2⟩) (Cert.AttnOutReferenceIdeal.Value.run m ρ)

theorem value_gate_up : Cert.algebraic_GateUpKernelIdeal_GateUpReferenceIdeal := by
  intro m g m' g' _ hagree
  refine ⟨fun c => (Cert.GateUpKernelIdeal.Gen.dats m 0 c).arrAt 3 Cert.GateUpKernelIdeal.cfg0.N,
    fun c => (Cert.GateUpKernelIdeal.Gen.dats m 0 c).arrAt 4 Cert.GateUpKernelIdeal.cfg0.N,
    fun c => (Cert.GateUpKernelIdeal.Gen.dats m 0 c).arrAt 5 Cert.GateUpKernelIdeal.cfg0.N, Cert.GateUpKernelIdeal.Value.run_blocks m g,
    (θ_run Cert.GateUpReferenceIdeal.defs _ _).mono (fun r h c => ⟨(h c).1.trans ?_, (h c).2.1.trans ?_, (h c).2.2.1.trans ?_, (h c).2.2.2⟩)
      (Cert.GateUpReferenceIdeal.Value.run m' g')⟩
  · rw [Cert.GateUpReferenceIdeal.Read.val_main_v10_eq, (hagree c).1, (hagree c).2.1]
    funext i
    exact Cert.GateUpKernelIdeal.Block.value_gate m c i
  · rw [Cert.GateUpReferenceIdeal.Read.val_main_v11_eq, (hagree c).1, (hagree c).2.2]
    funext i
    exact Cert.GateUpKernelIdeal.Block.value_up m c i
  · rw [Cert.GateUpReferenceIdeal.Read.val_main_v14_eq, (hagree c).1, (hagree c).2.1, (hagree c).2.2]
    funext i
    exact Cert.GateUpKernelIdeal.Block.value_act m c i

theorem value_down_fwd : Cert.algebraic_DownFwdKernelIdeal_DownFwdReferenceIdeal := by
  intro m g m' g' _ hagree
  refine ⟨fun c => Cert.DownFwdKernelIdeal.Value.G3 m c, Cert.DownFwdKernelIdeal.Value.run m g,
    (θ_run Cert.DownFwdReferenceIdeal.defs _ _).mono (fun r h c => ⟨(h c).1.trans ?_, (h c).2⟩)
      (Cert.DownFwdReferenceIdeal.Value.run m' g')⟩
  rw [Cert.DownFwdReferenceIdeal.Read.val_main_v4_eq, (hagree c).1, (hagree c).2.1, (hagree c).2.2]
  funext i
  exact (Cert.DownFwdKernelIdeal.Sum.value m c i).symm

theorem value_sgu_in : Cert.algebraic_SguInKernelIdeal_SguInReferenceIdeal := by
  intro m g m' g' _ hagree
  refine ⟨fun c => (Cert.SguInKernelIdeal.Gen.dats m 0 c).arrAt 2 Cert.SguInKernelIdeal.cfg0.N, Cert.SguInKernelIdeal.Value.run_blocks m g,
    (θ_run Cert.SguInReferenceIdeal.defs _ _).mono (fun r h c => ⟨(h c).1.trans ?_, (h c).2⟩)
      (Cert.SguInReferenceIdeal.Value.run m' g')⟩
  rw [Cert.SguInReferenceIdeal.Read.val_main_v5_eq, (hagree c).1, (hagree c).2]
  funext i
  exact Cert.SguInKernelIdeal.Block.value m c i

theorem value_attn_in : Cert.algebraic_AttnInKernelIdeal_AttnInReferenceIdeal := by
  intro m g m' g' _ hagree
  refine ⟨fun c => (Cert.AttnInKernelIdeal.Gen.dats m 0 c).arrAt 2 Cert.AttnInKernelIdeal.cfg0.N, Cert.AttnInKernelIdeal.Value.run_blocks m g,
    (θ_run Cert.AttnInReferenceIdeal.defs _ _).mono (fun r h c => ⟨(h c).1.trans ?_, (h c).2⟩)
      (Cert.AttnInReferenceIdeal.Value.run m' g')⟩
  rw [Cert.AttnInReferenceIdeal.Read.val_main_v4_eq, (hagree c).1, (hagree c).2]
  funext i
  exact Cert.AttnInKernelIdeal.Block.value m c i

theorem value_sgu_in_w : Cert.algebraic_SguInWKernelIdeal_SguInWReferenceIdeal := by
  intro m g m' g' _ hagree
  refine ⟨fun c => Cert.SguInWKernelIdeal.Value.G2 m c, Cert.SguInWKernelIdeal.Value.run m g,
    (θ_run Cert.SguInWReferenceIdeal.defs _ _).mono (fun r h c => ⟨(h c).1.trans ?_, (h c).2⟩)
      (Cert.SguInWReferenceIdeal.Value.run m' g')⟩
  rw [Cert.SguInWReferenceIdeal.Read.val_main_v10_eq, (hagree c).1, (hagree c).2.1]
  funext i
  exact (Cert.SguInWKernelIdeal.Sum.value m c i).symm

theorem value_attn_in_w : Cert.algebraic_AttnInWKernelIdeal_AttnInWReferenceIdeal := by
  intro m g m' g' _ hagree
  refine ⟨fun c => Cert.AttnInWKernelIdeal.Value.G2 m c, Cert.AttnInWKernelIdeal.Value.run m g,
    (θ_run Cert.AttnInWReferenceIdeal.defs _ _).mono (fun r h c => ⟨(h c).1.trans ?_, (h c).2⟩)
      (Cert.AttnInWReferenceIdeal.Value.run m' g')⟩
  rw [Cert.AttnInWReferenceIdeal.Read.val_main_v10_eq, (hagree c).1, (hagree c).2.1]
  funext i
  exact (Cert.AttnInWKernelIdeal.Sum.value m c i).symm

theorem value_sgu_in_h : Cert.algebraic_SguInHKernelIdeal_SguInHReferenceIdeal := by
  intro m g m' g' _ hagree
  refine ⟨fun c => Cert.SguInHKernelIdeal.Value.G2 m c, Cert.SguInHKernelIdeal.Value.run m g,
    (θ_run Cert.SguInHReferenceIdeal.defs _ _).mono (fun r h c => ⟨(h c).1.trans ?_, (h c).2⟩)
      (Cert.SguInHReferenceIdeal.Value.run m' g')⟩
  rw [Cert.SguInHReferenceIdeal.Read.val_main_v7_eq, (hagree c).1, (hagree c).2]
  funext i
  exact (Cert.SguInHKernelIdeal.Sum.value m c i).symm

theorem value_attn_in_h : Cert.algebraic_AttnInHKernelIdeal_AttnInHReferenceIdeal := by
  intro m g m' g' _ hagree
  refine ⟨fun c => Cert.AttnInHKernelIdeal.Value.G2 m c, Cert.AttnInHKernelIdeal.Value.run m g,
    (θ_run Cert.AttnInHReferenceIdeal.defs _ _).mono (fun r h c => ⟨(h c).1.trans ?_, (h c).2⟩)
      (Cert.AttnInHReferenceIdeal.Value.run m' g')⟩
  rw [Cert.AttnInHReferenceIdeal.Read.val_main_v7_eq, (hagree c).1, (hagree c).2]
  funext i
  exact (Cert.AttnInHKernelIdeal.Sum.value m c i).symm

theorem value_sgu_cat : Cert.algebraic_SguCatKernelIdeal_SguCatReferenceIdeal := by
  intro m g m' g' _ hagree
  refine ⟨fun c => (Cert.SguCatKernelIdeal.Gen.dats m 0 c).arrAt 2 Cert.SguCatKernelIdeal.cfg0.N, Cert.SguCatKernelIdeal.Value.run_blocks m g,
    (θ_run Cert.SguCatReferenceIdeal.defs _ _).mono (fun r h c => ⟨(h c).1.trans ?_, (h c).2⟩)
      (Cert.SguCatReferenceIdeal.Value.run m' g')⟩
  rw [Cert.SguCatReferenceIdeal.Read.val_main_v6_eq, (hagree c).1, (hagree c).2]
  funext i
  exact Cert.SguCatKernelIdeal.Block.value m c i

theorem value_attn_cat : Cert.algebraic_AttnCatKernelIdeal_AttnCatReferenceIdeal := by
  intro m g m' g' _ hagree
  refine ⟨fun c => (Cert.AttnCatKernelIdeal.Gen.dats m 0 c).arrAt 2 Cert.AttnCatKernelIdeal.cfg0.N, Cert.AttnCatKernelIdeal.Value.run_blocks m g,
    (θ_run Cert.AttnCatReferenceIdeal.defs _ _).mono (fun r h c => ⟨(h c).1.trans ?_, (h c).2⟩)
      (Cert.AttnCatReferenceIdeal.Value.run m' g')⟩
  rw [Cert.AttnCatReferenceIdeal.Read.val_main_v6_eq, (hagree c).1, (hagree c).2]
  funext i
  exact Cert.AttnCatKernelIdeal.Block.value m c i

theorem value_sgu_out_w : Cert.algebraic_SguOutWKernelIdeal_SguOutWReferenceIdeal := by
  intro m g m' g' _ hagree
  refine ⟨fun c => Cert.SguOutWKernelIdeal.Value.G2 m c, Cert.SguOutWKernelIdeal.Value.run m g,
    (θ_run Cert.SguOutWReferenceIdeal.defs _ _).mono (fun r h c => ⟨(h c).1.trans ?_, (h c).2⟩)
      (Cert.SguOutWReferenceIdeal.Value.run m' g')⟩
  rw [Cert.SguOutWReferenceIdeal.Read.val_main_v9_eq, (hagree c).1, (hagree c).2.1]
  funext i
  exact (Cert.SguOutWKernelIdeal.Sum.value m c i).symm

theorem value_attn_out_w : Cert.algebraic_AttnOutWKernelIdeal_AttnOutWReferenceIdeal := by
  intro m g m' g' _ hagree
  refine ⟨fun c => Cert.AttnOutWKernelIdeal.Value.G2 m c, Cert.AttnOutWKernelIdeal.Value.run m g,
    (θ_run Cert.AttnOutWReferenceIdeal.defs _ _).mono (fun r h c => ⟨(h c).1.trans ?_, (h c).2⟩)
      (Cert.AttnOutWReferenceIdeal.Value.run m' g')⟩
  rw [Cert.AttnOutWReferenceIdeal.Read.val_main_v10_eq, (hagree c).1, (hagree c).2.1]
  funext i
  exact (Cert.AttnOutWKernelIdeal.Sum.value m c i).symm

theorem value_sgu_out : Cert.algebraic_SguOutKernelIdeal_SguOutReferenceIdeal := by
  intro m g m' g' _ hagree
  refine ⟨fun c => (Cert.SguOutKernelIdeal.Gen.dats m 0 c).arrAt 4 Cert.SguOutKernelIdeal.cfg0.N,
    fun c => (Cert.SguOutKernelIdeal.Gen.dats m 0 c).arrAt 5 Cert.SguOutKernelIdeal.cfg0.N, Cert.SguOutKernelIdeal.Value.run_blocks m g,
    (θ_run Cert.SguOutReferenceIdeal.defs _ _).mono (fun r h c => ⟨(h c).1.trans ?_, (h c).2.1.trans ?_, (h c).2.2⟩)
      (Cert.SguOutReferenceIdeal.Value.run m' g')⟩
  · rw [Cert.SguOutReferenceIdeal.Read.val_main_v4_eq, (hagree c).1, (hagree c).2.1, (hagree c).2.2.2]
    funext i
    exact Cert.SguOutKernelIdeal.Block.value_res m c i
  · rw [Cert.SguOutReferenceIdeal.Read.val_main_v17_eq, (hagree c).1, (hagree c).2.1, (hagree c).2.2.1, (hagree c).2.2.2]
    funext i
    exact Cert.SguOutKernelIdeal.Block.value_nrm m c i

theorem value_attn_out : Cert.algebraic_AttnOutKernelIdeal_AttnOutReferenceIdeal := by
  intro m g m' g' _ hagree
  refine ⟨fun c => (Cert.AttnOutKernelIdeal.Gen.dats m 0 c).arrAt 4 Cert.AttnOutKernelIdeal.cfg0.N,
    fun c => (Cert.AttnOutKernelIdeal.Gen.dats m 0 c).arrAt 5 Cert.AttnOutKernelIdeal.cfg0.N, Cert.AttnOutKernelIdeal.Value.run_blocks m g,
    (θ_run Cert.AttnOutReferenceIdeal.defs _ _).mono (fun r h c => ⟨(h c).1.trans ?_, (h c).2.1.trans ?_, (h c).2.2⟩)
      (Cert.AttnOutReferenceIdeal.Value.run m' g')⟩
  · rw [Cert.AttnOutReferenceIdeal.Read.val_main_v5_eq, (hagree c).1, (hagree c).2.1, (hagree c).2.2.2]
    funext i
    exact Cert.AttnOutKernelIdeal.Block.value_res m c i
  · rw [Cert.AttnOutReferenceIdeal.Read.val_main_v18_eq, (hagree c).1, (hagree c).2.1, (hagree c).2.2.1, (hagree c).2.2.2]
    funext i
    exact Cert.AttnOutKernelIdeal.Block.value_nrm m c i

theorem frame_r_sgu_fwd : Cert.quiescent_SguFwdReferenceIdeal := by
  intro m ρ _
  exact (θ_run Cert.SguFwdReferenceIdeal.defs _ _).mono (fun r h => ⟨fun c => (h c).2, sem_eq_zero_of_no_sems (by decide) r.2⟩) (Cert.SguFwdReferenceIdeal.Value.run m ρ)

theorem value_sgu_fwd : Cert.algebraic_SguFwdKernelIdeal_SguFwdReferenceIdeal_on_mixer_columns := by
  intro m g m' g' _ hagree
  refine ⟨fun c => (Cert.SguFwdKernelIdeal.Gen.dats m 0 c).arrAt 6 Cert.SguFwdKernelIdeal.cfg0.N,
    (θ_run Cert.SguFwdKernelIdeal.defs _ _).mono (fun r h c => ⟨fun i _ => congrFun (h c).1 i, (h c).2⟩) (Cert.SguFwdKernelIdeal.Value.run_blocks m g),
    (θ_run Cert.SguFwdReferenceIdeal.defs _ _).mono (fun r h c => ⟨fun i hi => (congrFun (h c).1 i).trans ?_, (h c).2⟩) (Cert.SguFwdReferenceIdeal.Value.run m' g')⟩
  rw [Cert.SguFwdReferenceIdeal.Read.val_main_v65_eq, (hagree c).1, (hagree c).2.1, (hagree c).2.2.1, (hagree c).2.2.2.1, (hagree c).2.2.2.2]
  exact Cert.SguFwdKernelIdeal.Block.value m c i (Cert.SguFwdKernelIdeal.Block.col_of_mask _ _ _ _ _ i hi)

/-- The spatial-gating unit's gradient: the reference's frame, -/
theorem frame_r_sgu_bwd : Cert.quiescent_SguBwdReferenceIdeal := by
  intro m ρ _
  exact (θ_run Cert.SguBwdReferenceIdeal.defs _ _).mono (fun r h => ⟨fun c => (h c).2.2.2.2.2, sem_eq_zero_of_no_sems (by decide) r.2⟩)
    (Cert.SguBwdReferenceIdeal.Value.run m ρ)

/-- the two named constants -/
theorem named_sgu_bwd : Cert.preserves_SguBwdKernel_SguBwdKernelIdeal :=
  ⟨IdealRules.named_const.statement Cert.SguBwdKernelIdeal.κ "slope" .f32 0x3D372713#32 ((8943 / 200000 : ℝ) : EReal) rfl,
    IdealRules.named_const.statement Cert.SguBwdKernelIdeal.κ "thrice" .f32 0x3E095D4F#32 ((26829 / 200000 : ℝ) : EReal) rfl⟩

/-- and the value claim. -/
theorem value_sgu_bwd : Cert.algebraic_SguBwdKernelIdeal_SguBwdReferenceIdeal_pre_finite_gating := by
  intro m g m' g' hpre hagree
  have hr := fun c => Cert.Pre_finite_gating.Read.reals _ _ _ _ _ _ _ (hpre c).1 (hpre c).2.1 (hpre c).2.2.1 (hpre c).2.2.2.1 (hpre c).2.2.2.2.1 (hpre c).2.2.2.2.2
  have e0 := fun c => (show StableHlo.launchContents m' c (Proc.tc.devRef Cert.SguBwdReferenceIdeal.main_arg0) = _ from (hagree c).1)
  have e1 := fun c => (show StableHlo.launchContents m' c (Proc.tc.devRef Cert.SguBwdReferenceIdeal.main_arg1) = _ from (hagree c).2.1)
  have e2 := fun c => (show StableHlo.launchContents m' c (Proc.tc.devRef Cert.SguBwdReferenceIdeal.main_arg2) = _ from (hagree c).2.2.1)
  have e3 := fun c => (show StableHlo.launchContents m' c (Proc.tc.devRef Cert.SguBwdReferenceIdeal.main_arg3) = _ from (hagree c).2.2.2.1)
  have e4 := fun c => (show StableHlo.launchContents m' c (Proc.tc.devRef Cert.SguBwdReferenceIdeal.main_arg4) = _ from (hagree c).2.2.2.2.1)
  have e5 := fun c => (show StableHlo.launchContents m' c (Proc.tc.devRef Cert.SguBwdReferenceIdeal.main_arg5) = _ from (hagree c).2.2.2.2.2.1)
  have e6 := fun c => (show StableHlo.launchContents m' c (Proc.tc.devRef Cert.SguBwdReferenceIdeal.main_arg6) = _ from (hagree c).2.2.2.2.2.2)
  refine ⟨fun c => (Cert.SguBwdKernelIdeal.Gen.dats m 0 c).arrAt 7 Cert.SguBwdKernelIdeal.cfg0.N,
    fun c => (Cert.SguBwdKernelIdeal.Gen.dats m 0 c).arrAt 8 Cert.SguBwdKernelIdeal.cfg0.N,
    fun c => (Cert.SguBwdKernelIdeal.Gen.dats m 0 c).arrAt 9 Cert.SguBwdKernelIdeal.cfg0.N,
    fun c => (Cert.SguBwdKernelIdeal.Gen.dats m 0 c).arrAt 10 Cert.SguBwdKernelIdeal.cfg0.N,
    fun c => (Cert.SguBwdKernelIdeal.Gen.dats m 0 c).arrAt 11 Cert.SguBwdKernelIdeal.cfg0.N, Cert.SguBwdKernelIdeal.Value.run_blocks m g,
    (θ_run Cert.SguBwdReferenceIdeal.defs _ _).mono (fun r h c => ⟨(h c).1.trans ?_, (h c).2.1.trans ?_, (h c).2.2.1.trans ?_, (h c).2.2.2.1.trans ?_, (h c).2.2.2.2.1.trans ?_, (h c).2.2.2.2.2⟩)
      (Cert.SguBwdReferenceIdeal.Value.run m' g')⟩
  · rw [Cert.SguBwdReferenceIdeal.Read.val_main_v165_eq, e0 c, e1 c, e2 c, e3 c, e4 c, e5 c, e6 c]
    exact Cert.SguBwdKernelIdeal.Block.value_proj m c (hr c)
  · rw [Cert.SguBwdReferenceIdeal.Read.val_main_v101_eq, e0 c, e1 c, e2 c, e3 c]
    exact Cert.SguBwdKernelIdeal.Block.value_mix m c (hr c)
  · rw [Cert.SguBwdReferenceIdeal.Read.val_main_v166_eq, e0 c, e1 c]
    exact Cert.SguBwdKernelIdeal.Block.value_shift m c (hr c)
  · rw [Cert.SguBwdReferenceIdeal.Read.val_main_v107_eq, e0 c, e1 c, e4 c]
    exact Cert.SguBwdKernelIdeal.Block.value_gain m c (hr c)
  · rw [Cert.SguBwdReferenceIdeal.Read.val_main_v104_eq, e0 c, e1 c, e4 c]
    exact Cert.SguBwdKernelIdeal.Block.value_bias m c (hr c)

theorem frame_r_norm : Cert.quiescent_NormReferenceIdeal := by
  intro m ρ _
  exact (θ_run Cert.NormReferenceIdeal.defs _ _).mono (fun r h => ⟨fun c => (h c).2.2.2, sem_eq_zero_of_no_sems (by decide) r.2⟩) (Cert.NormReferenceIdeal.Value.run m ρ)

theorem value_norm : Cert.algebraic_NormKernelIdeal_NormReferenceIdeal := by
  intro m g m' g' _ hagree
  refine ⟨fun c => (Cert.NormKernelIdeal.Gen.dats m 0 c).arrAt 4 Cert.NormKernelIdeal.cfg0.N, fun c => (Cert.NormKernelIdeal.Gen.dats m 0 c).arrAt 5 Cert.NormKernelIdeal.cfg0.N,
    fun c => (Cert.NormKernelIdeal.Gen.dats m 0 c).arrAt 6 Cert.NormKernelIdeal.cfg0.N, Cert.NormKernelIdeal.Value.run_blocks m g,
    (θ_run Cert.NormReferenceIdeal.defs _ _).mono (fun r h c => ⟨(h c).1.trans ?_, (h c).2.1.trans ?_, (h c).2.2.1.trans ?_, (h c).2.2.2⟩) (Cert.NormReferenceIdeal.Value.run m' g')⟩
  · rw [Cert.NormReferenceIdeal.Read.val_main_v35_eq, (hagree c).1, (hagree c).2.1, (hagree c).2.2.1, (hagree c).2.2.2]
    exact Cert.NormKernelIdeal.Block.value4 m c
  · rw [Cert.NormReferenceIdeal.Read.val_main_v36_eq, (hagree c).1, (hagree c).2.1, (hagree c).2.2.1, (hagree c).2.2.2]
    exact Cert.NormKernelIdeal.Block.value5 m c
  · rw [Cert.NormReferenceIdeal.Read.val_main_v18_eq, (hagree c).1, (hagree c).2.2.1]
    exact Cert.NormKernelIdeal.Block.value6 m c

theorem frame_r_mem_norm : Cert.quiescent_MemNormReferenceIdeal := by
  intro m ρ _
  exact (θ_run Cert.MemNormReferenceIdeal.defs _ _).mono (fun r h => ⟨fun c => (h c).2.2.2, sem_eq_zero_of_no_sems (by decide) r.2⟩) (Cert.MemNormReferenceIdeal.Value.run m ρ)

theorem value_mem_norm : Cert.algebraic_MemNormKernelIdeal_MemNormReferenceIdeal := by
  intro m g m' g' _ hagree
  refine ⟨fun c => (Cert.MemNormKernelIdeal.Gen.dats m 0 c).arrAt 3 Cert.MemNormKernelIdeal.cfg0.N, fun c => (Cert.MemNormKernelIdeal.Gen.dats m 0 c).arrAt 4 Cert.MemNormKernelIdeal.cfg0.N,
    fun c => (Cert.MemNormKernelIdeal.Gen.dats m 0 c).arrAt 5 Cert.MemNormKernelIdeal.cfg0.N, Cert.MemNormKernelIdeal.Value.run_blocks m g,
    (θ_run Cert.MemNormReferenceIdeal.defs _ _).mono (fun r h c => ⟨(h c).1.trans ?_, (h c).2.1.trans ?_, (h c).2.2.1.trans ?_, (h c).2.2.2⟩) (Cert.MemNormReferenceIdeal.Value.run m' g')⟩
  · rw [Cert.MemNormReferenceIdeal.Read.val_main_v33_eq, (hagree c).1, (hagree c).2.1, (hagree c).2.2]
    exact Cert.MemNormKernelIdeal.Block.value3 m c
  · rw [Cert.MemNormReferenceIdeal.Read.val_main_v34_eq, (hagree c).1, (hagree c).2.1, (hagree c).2.2]
    exact Cert.MemNormKernelIdeal.Block.value4 m c
  · rw [Cert.MemNormReferenceIdeal.Read.val_main_v17_eq, (hagree c).1, (hagree c).2.2]
    exact Cert.MemNormKernelIdeal.Block.value5 m c

theorem frame_r_mem_kv_w : Cert.quiescent_MemKvWReferenceIdeal := by
  intro m ρ _
  exact (θ_run Cert.MemKvWReferenceIdeal.defs _ _).mono (fun r h => ⟨fun c => (h c).2, sem_eq_zero_of_no_sems (by decide) r.2⟩) (Cert.MemKvWReferenceIdeal.Value.run m ρ)

theorem value_mem_kv_w : Cert.algebraic_MemKvWKernelIdeal_MemKvWReferenceIdeal := by
  intro m g m' g' _ hagree
  refine ⟨fun c => (Cert.MemKvWKernelIdeal.Gen.dats m 0 c).arrAt 2 Cert.MemKvWKernelIdeal.cfg0.N, Cert.MemKvWKernelIdeal.Value.run_blocks m g,
    (θ_run Cert.MemKvWReferenceIdeal.defs _ _).mono (fun r h c => ⟨(h c).1.trans ?_, (h c).2⟩) (Cert.MemKvWReferenceIdeal.Value.run m' g')⟩
  rw [Cert.MemKvWReferenceIdeal.Read.val_main_v9_eq, (hagree c).1, (hagree c).2.1]
  exact Cert.MemKvWKernelIdeal.Block.value m c

theorem frame_r_mem_n : Cert.quiescent_MemNReferenceIdeal := by
  intro m ρ _
  exact (θ_run Cert.MemNReferenceIdeal.defs _ _).mono (fun r h => ⟨fun c => (h c).2, sem_eq_zero_of_no_sems (by decide) r.2⟩) (Cert.MemNReferenceIdeal.Value.run m ρ)

theorem value_mem_n : Cert.algebraic_MemNKernelIdeal_MemNReferenceIdeal := by
  intro m g m' g' _ hagree
  refine ⟨fun c => (Cert.MemNKernelIdeal.Gen.dats m 0 c).arrAt 2 Cert.MemNKernelIdeal.cfg0.N, Cert.MemNKernelIdeal.Value.run_blocks m g,
    (θ_run Cert.MemNReferenceIdeal.defs _ _).mono (fun r h c => ⟨(h c).1.trans ?_, (h c).2⟩) (Cert.MemNReferenceIdeal.Value.run m' g')⟩
  rw [Cert.MemNReferenceIdeal.Read.val_main_v5_eq, (hagree c).1, (hagree c).2]
  exact Cert.MemNKernelIdeal.Block.value m c

theorem frame_r_mem_kv : Cert.quiescent_MemKvReferenceIdeal := by
  intro m ρ _
  exact (θ_run Cert.MemKvReferenceIdeal.defs _ _).mono (fun r h => ⟨fun c => (h c).2, sem_eq_zero_of_no_sems (by decide) r.2⟩) (Cert.MemKvReferenceIdeal.Value.run m ρ)

theorem value_mem_kv : Cert.algebraic_MemKvKernelIdeal_MemKvReferenceIdeal := by
  intro m g m' g' _ hagree
  refine ⟨fun c => (Cert.MemKvKernelIdeal.Gen.dats m 0 c).arrAt 2 Cert.MemKvKernelIdeal.cfg0.N, Cert.MemKvKernelIdeal.Value.run_blocks m g,
    (θ_run Cert.MemKvReferenceIdeal.defs _ _).mono (fun r h c => ⟨(h c).1.trans ?_, (h c).2⟩) (Cert.MemKvReferenceIdeal.Value.run m' g')⟩
  rw [Cert.MemKvReferenceIdeal.Read.val_main_v3_eq, (hagree c).1, (hagree c).2]
  exact Cert.MemKvKernelIdeal.Block.value m c

theorem frame_r_first_norm : Cert.quiescent_FirstNormReferenceIdeal := by
  intro m ρ _
  exact (θ_run Cert.FirstNormReferenceIdeal.defs _ _).mono (fun r h => ⟨fun c => (h c).2, sem_eq_zero_of_no_sems (by decide) r.2⟩) (Cert.FirstNormReferenceIdeal.Value.run m ρ)

theorem value_first_norm : Cert.algebraic_FirstNormKernelIdeal_FirstNormReferenceIdeal := by
  intro m g m' g' _ hagree
  refine ⟨fun c => (Cert.FirstNormKernelIdeal.Gen.dats m 0 c).arrAt 2 Cert.FirstNormKernelIdeal.cfg0.N, Cert.FirstNormKernelIdeal.Value.run_blocks m g,
    (θ_run Cert.FirstNormReferenceIdeal.defs _ _).mono (fun r h c => ⟨(h c).1.trans ?_, (h c).2⟩) (Cert.FirstNormReferenceIdeal.Value.run m' g')⟩
  rw [Cert.FirstNormReferenceIdeal.Read.val_main_v12_eq, (hagree c).1, (hagree c).2]
  exact Cert.FirstNormKernelIdeal.Block.value m c

theorem frame_r_mem_first_norm : Cert.quiescent_MemFirstNormReferenceIdeal := by
  intro m ρ _
  exact (θ_run Cert.MemFirstNormReferenceIdeal.defs _ _).mono (fun r h => ⟨fun c => (h c).2, sem_eq_zero_of_no_sems (by decide) r.2⟩) (Cert.MemFirstNormReferenceIdeal.Value.run m ρ)

theorem value_mem_first_norm : Cert.algebraic_MemFirstNormKernelIdeal_MemFirstNormReferenceIdeal := by
  intro m g m' g' _ hagree
  refine ⟨fun c => (Cert.MemFirstNormKernelIdeal.Gen.dats m 0 c).arrAt 2 Cert.MemFirstNormKernelIdeal.cfg0.N, Cert.MemFirstNormKernelIdeal.Value.run_blocks m g,
    (θ_run Cert.MemFirstNormReferenceIdeal.defs _ _).mono (fun r h c => ⟨(h c).1.trans ?_, (h c).2⟩) (Cert.MemFirstNormReferenceIdeal.Value.run m' g')⟩
  rw [Cert.MemFirstNormReferenceIdeal.Read.val_main_v12_eq, (hagree c).1, (hagree c).2]
  exact Cert.MemFirstNormKernelIdeal.Block.value m c

theorem frame_r_mem0 : Cert.quiescent_Mem0ReferenceIdeal := by
  intro m ρ _
  exact (θ_run Cert.Mem0ReferenceIdeal.defs _ _).mono (fun r h => ⟨fun c => (h c).2.2, sem_eq_zero_of_no_sems (by decide) r.2⟩) (Cert.Mem0ReferenceIdeal.Value.run m ρ)

open Cert.Mem0KernelIdeal.Block in
open Cert.Mem0ReferenceIdeal.Rows in
theorem value_mem0 : Cert.algebraic_Mem0KernelIdeal_Mem0ReferenceIdeal_on_written0_pre_finite_logits0 := by
  intro m g m' g' hpre hagree
  have hl := fun (c : Dev Cert.Mem0KernelIdeal.nD) => Cert.Mem0KernelIdeal.Block.logits_real (Cert.Mem0KernelIdeal.Block.proj m c)
    (Cert.Mem0KernelIdeal.Block.mem m c) (Cert.Mem0KernelIdeal.Block.dcat m c) (hpre c).1 (hpre c).2
  refine ⟨fun c => (Cert.Mem0KernelIdeal.Gen.dats m 0 c).arrAt 3 Cert.Mem0KernelIdeal.cfg0.N,
    fun c => (Cert.Mem0KernelIdeal.Gen.dats m 0 c).arrAt 4 Cert.Mem0KernelIdeal.cfg0.N,
    (θ_run Cert.Mem0KernelIdeal.defs _ _).mono (fun r h c => ⟨fun i _ => congrFun (h c).1 i, fun i _ => congrFun (h c).2.1 i, (h c).2.2⟩)
      (Cert.Mem0KernelIdeal.Value.run_blocks m g),
    (θ_run Cert.Mem0ReferenceIdeal.defs _ _).mono (fun r h c => ⟨fun i hi => (congrFun (h c).1 i).trans ?_,
        fun i _ => (congrFun (h c).2.1 i).trans ?_, (h c).2.2⟩)
      (Cert.Mem0ReferenceIdeal.Value.run m' g')⟩
  · have hcol := Cert.Mem0KernelIdeal.Block.col_of_written (Cert.Mem0KernelIdeal.Block.proj m c) (Cert.Mem0KernelIdeal.Block.mem m c)
      (Cert.Mem0KernelIdeal.Block.dcat m c) i hi
    rw [Cert.Mem0ReferenceIdeal.Read.val_main_v69_eq, (hagree c).1, (hagree c).2.1, (hagree c).2.2]
    have l1 : (i 1 : Nat) < 5120 := (i 1).isLt
    obtain ⟨hd, d, hj⟩ : ∃ (hd : Fin 4) (d : Fin 128), (i 1 : Nat) = 4608 + (col hd d).val :=
      ⟨⟨((i 1 : Nat) - 4608) / 128, by omega⟩, ⟨((i 1 : Nat) - 4608) % 128, by omega⟩, by
        show (i 1 : Nat) = 4608 + (128 * (((i 1 : Nat) - 4608) / 128) + ((i 1 : Nat) - 4608) % 128); omega⟩
    have hi' : i = ix2 (i 0) ⟨4608 + (col hd d).val, by omega⟩ := by
      funext a; apply Fin.ext
      fin_cases a
      · rfl
      · exact hj
    rw [hi']
    exact ((v69_at _ _ _ (i 0) hd d).trans (Cert.ReferenceIdeal.Rows.dq_at _ _ _ (i 0) hd d (hl c _ _))).trans
      (Cert.Mem0KernelIdeal.Block.arr_3 m c (i 0) hd d).symm
  · rw [Cert.Mem0ReferenceIdeal.Read.val_main_v67_eq, (hagree c).1, (hagree c).2.1, (hagree c).2.2]
    have hi' : i = ix2 (i 0) (i 1) := by
      funext a; apply Fin.ext
      fin_cases a <;> rfl
    refine (congrFun (v67_eq _ _ _) i).trans ?_
    rcases col_cases (i 1) with ⟨hd, d, hj⟩ | ⟨hd, d, hj⟩
    · rw [hi', hj]
      exact (Cert.ReferenceIdeal.Rows.dk_at _ _ _ (i 0) hd d (fun s => hl c s hd)).trans (Cert.Mem0KernelIdeal.Block.arr_4k m c (i 0) hd d).symm
    · rw [hi', hj]
      exact (Cert.ReferenceIdeal.Rows.dv_at _ _ _ (i 0) hd d).trans (Cert.Mem0KernelIdeal.Block.arr_4v m c (i 0) hd d).symm

theorem claim : Cert.Claim := ⟨Cert.Kernel.Gen.facts, Cert.KernelIdeal.Gen.facts, Cert.ReferenceIdeal.Gen.facts,
  Cert.HiddenKernel.Gen.facts, Cert.HiddenKernelIdeal.Gen.facts, Cert.HiddenReferenceIdeal.Gen.facts,
  Cert.GateKernel.Gen.facts, Cert.GateKernelIdeal.Gen.facts, Cert.GateReferenceIdeal.Gen.facts,
  Cert.DownKernel.Gen.facts, Cert.DownKernelIdeal.Gen.facts, Cert.DownReferenceIdeal.Gen.facts,
  Cert.ActKernel.Gen.facts, Cert.ActKernelIdeal.Gen.facts, Cert.ActReferenceIdeal.Gen.facts,
  Cert.GateUpKernel.Gen.facts, Cert.GateUpKernelIdeal.Gen.facts, Cert.GateUpReferenceIdeal.Gen.facts,
  Cert.DownFwdKernel.Gen.facts, Cert.DownFwdKernelIdeal.Gen.facts, Cert.DownFwdReferenceIdeal.Gen.facts,
  Cert.SguInKernel.Gen.facts, Cert.SguInKernelIdeal.Gen.facts, Cert.SguInReferenceIdeal.Gen.facts,
  Cert.AttnInKernel.Gen.facts, Cert.AttnInKernelIdeal.Gen.facts, Cert.AttnInReferenceIdeal.Gen.facts,
  Cert.SguInWKernel.Gen.facts, Cert.SguInWKernelIdeal.Gen.facts, Cert.SguInWReferenceIdeal.Gen.facts,
  Cert.AttnInWKernel.Gen.facts, Cert.AttnInWKernelIdeal.Gen.facts, Cert.AttnInWReferenceIdeal.Gen.facts,
  Cert.SguInHKernel.Gen.facts, Cert.SguInHKernelIdeal.Gen.facts, Cert.SguInHReferenceIdeal.Gen.facts,
  Cert.AttnInHKernel.Gen.facts, Cert.AttnInHKernelIdeal.Gen.facts, Cert.AttnInHReferenceIdeal.Gen.facts,
  Cert.SguCatKernel.Gen.facts, Cert.SguCatKernelIdeal.Gen.facts, Cert.SguCatReferenceIdeal.Gen.facts,
  Cert.AttnCatKernel.Gen.facts, Cert.AttnCatKernelIdeal.Gen.facts, Cert.AttnCatReferenceIdeal.Gen.facts,
  Cert.SguOutWKernel.Gen.facts, Cert.SguOutWKernelIdeal.Gen.facts, Cert.SguOutWReferenceIdeal.Gen.facts,
  Cert.AttnOutWKernel.Gen.facts, Cert.AttnOutWKernelIdeal.Gen.facts, Cert.AttnOutWReferenceIdeal.Gen.facts,
  Cert.SguOutKernel.Gen.facts, Cert.SguOutKernelIdeal.Gen.facts, Cert.SguOutReferenceIdeal.Gen.facts,
  Cert.AttnOutKernel.Gen.facts, Cert.AttnOutKernelIdeal.Gen.facts, Cert.AttnOutReferenceIdeal.Gen.facts,
  Cert.SguFwdKernel.Gen.facts, Cert.SguFwdKernelIdeal.Gen.facts, Cert.SguFwdReferenceIdeal.Gen.facts,
  Cert.SguBwdKernel.Gen.facts, Cert.SguBwdKernelIdeal.Gen.facts, Cert.SguBwdReferenceIdeal.Gen.facts,
  Cert.NormKernel.Gen.facts, Cert.NormKernelIdeal.Gen.facts, Cert.NormReferenceIdeal.Gen.facts,
  Cert.MemNormKernel.Gen.facts, Cert.MemNormKernelIdeal.Gen.facts, Cert.MemNormReferenceIdeal.Gen.facts,
  Cert.MemKvWKernel.Gen.facts, Cert.MemKvWKernelIdeal.Gen.facts, Cert.MemKvWReferenceIdeal.Gen.facts,
  Cert.MemNKernel.Gen.facts, Cert.MemNKernelIdeal.Gen.facts, Cert.MemNReferenceIdeal.Gen.facts,
  Cert.MemKvKernel.Gen.facts, Cert.MemKvKernelIdeal.Gen.facts, Cert.MemKvReferenceIdeal.Gen.facts,
  Cert.FirstNormKernel.Gen.facts, Cert.FirstNormKernelIdeal.Gen.facts, Cert.FirstNormReferenceIdeal.Gen.facts,
  Cert.MemFirstNormKernel.Gen.facts, Cert.MemFirstNormKernelIdeal.Gen.facts, Cert.MemFirstNormReferenceIdeal.Gen.facts,
  Cert.Mem0Kernel.Gen.facts, Cert.Mem0KernelIdeal.Gen.facts, Cert.Mem0ReferenceIdeal.Gen.facts,
  Cert.Pre_finite_logits.Gen.facts, Cert.Pre_finite_factors.Gen.facts, Cert.Pre_finite_gating.Gen.facts, Cert.Pre_finite_logits0.Gen.facts, Cert.On_written.Gen.facts, Cert.On_mixer_columns.Gen.facts, Cert.On_written0.Gen.facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, fun m ρ _ => Cert.HiddenKernel.Gen.frame m ρ,
  fun m ρ _ => Cert.HiddenKernelIdeal.Gen.frame m ρ, frame_r_hidden, fun m ρ _ => Cert.GateKernel.Gen.frame m ρ,
  fun m ρ _ => Cert.GateKernelIdeal.Gen.frame m ρ, frame_r_gate, fun m ρ _ => Cert.DownKernel.Gen.frame m ρ,
  fun m ρ _ => Cert.DownKernelIdeal.Gen.frame m ρ, frame_r_down, fun m ρ _ => Cert.ActKernel.Gen.frame m ρ,
  fun m ρ _ => Cert.ActKernelIdeal.Gen.frame m ρ, fun m ρ _ => Cert.ActKernelIdeal.Gen.frame m ρ, frame_r_act,
  fun m ρ _ => frame_r_act m ρ trivial,
  fun m ρ _ => Cert.GateUpKernel.Gen.frame m ρ, fun m ρ _ => Cert.GateUpKernelIdeal.Gen.frame m ρ, frame_r_gate_up,
  fun m ρ _ => Cert.DownFwdKernel.Gen.frame m ρ, fun m ρ _ => Cert.DownFwdKernelIdeal.Gen.frame m ρ, frame_r_down_fwd,
  fun m ρ _ => Cert.SguInKernel.Gen.frame m ρ, fun m ρ _ => Cert.SguInKernelIdeal.Gen.frame m ρ, frame_r_sgu_in,
  fun m ρ _ => Cert.AttnInKernel.Gen.frame m ρ, fun m ρ _ => Cert.AttnInKernelIdeal.Gen.frame m ρ, frame_r_attn_in,
  fun m ρ _ => Cert.SguInWKernel.Gen.frame m ρ, fun m ρ _ => Cert.SguInWKernelIdeal.Gen.frame m ρ, frame_r_sgu_in_w,
  fun m ρ _ => Cert.AttnInWKernel.Gen.frame m ρ, fun m ρ _ => Cert.AttnInWKernelIdeal.Gen.frame m ρ, frame_r_attn_in_w,
  fun m ρ _ => Cert.SguInHKernel.Gen.frame m ρ, fun m ρ _ => Cert.SguInHKernelIdeal.Gen.frame m ρ, frame_r_sgu_in_h,
  fun m ρ _ => Cert.AttnInHKernel.Gen.frame m ρ, fun m ρ _ => Cert.AttnInHKernelIdeal.Gen.frame m ρ, frame_r_attn_in_h,
  fun m ρ _ => Cert.SguCatKernel.Gen.frame m ρ, fun m ρ _ => Cert.SguCatKernelIdeal.Gen.frame m ρ, frame_r_sgu_cat,
  fun m ρ _ => Cert.AttnCatKernel.Gen.frame m ρ, fun m ρ _ => Cert.AttnCatKernelIdeal.Gen.frame m ρ, frame_r_attn_cat,
  fun m ρ _ => Cert.SguOutWKernel.Gen.frame m ρ, fun m ρ _ => Cert.SguOutWKernelIdeal.Gen.frame m ρ, frame_r_sgu_out_w,
  fun m ρ _ => Cert.AttnOutWKernel.Gen.frame m ρ, fun m ρ _ => Cert.AttnOutWKernelIdeal.Gen.frame m ρ, frame_r_attn_out_w,
  fun m ρ _ => Cert.SguOutKernel.Gen.frame m ρ, fun m ρ _ => Cert.SguOutKernelIdeal.Gen.frame m ρ, frame_r_sgu_out,
  fun m ρ _ => Cert.AttnOutKernel.Gen.frame m ρ, fun m ρ _ => Cert.AttnOutKernelIdeal.Gen.frame m ρ, frame_r_attn_out,
  fun m ρ _ => Cert.SguFwdKernel.Gen.frame m ρ, fun m ρ _ => Cert.SguFwdKernelIdeal.Gen.frame m ρ, frame_r_sgu_fwd,
  fun m ρ _ => Cert.SguBwdKernel.Gen.frame m ρ, fun m ρ _ => Cert.SguBwdKernelIdeal.Gen.frame m ρ, fun m ρ _ => Cert.SguBwdKernelIdeal.Gen.frame m ρ,
  frame_r_sgu_bwd, fun m ρ _ => frame_r_sgu_bwd m ρ trivial,
  fun m ρ _ => Cert.NormKernel.Gen.frame m ρ, fun m ρ _ => Cert.NormKernelIdeal.Gen.frame m ρ, frame_r_norm,
  fun m ρ _ => Cert.MemNormKernel.Gen.frame m ρ, fun m ρ _ => Cert.MemNormKernelIdeal.Gen.frame m ρ, frame_r_mem_norm,
  fun m ρ _ => Cert.MemKvWKernel.Gen.frame m ρ, fun m ρ _ => Cert.MemKvWKernelIdeal.Gen.frame m ρ, frame_r_mem_kv_w,
  fun m ρ _ => Cert.MemNKernel.Gen.frame m ρ, fun m ρ _ => Cert.MemNKernelIdeal.Gen.frame m ρ, frame_r_mem_n,
  fun m ρ _ => Cert.MemKvKernel.Gen.frame m ρ, fun m ρ _ => Cert.MemKvKernelIdeal.Gen.frame m ρ, frame_r_mem_kv,
  fun m ρ _ => Cert.FirstNormKernel.Gen.frame m ρ, fun m ρ _ => Cert.FirstNormKernelIdeal.Gen.frame m ρ, frame_r_first_norm,
  fun m ρ _ => Cert.MemFirstNormKernel.Gen.frame m ρ, fun m ρ _ => Cert.MemFirstNormKernelIdeal.Gen.frame m ρ, frame_r_mem_first_norm,
  fun m ρ _ => Cert.Mem0Kernel.Gen.frame m ρ, fun m ρ _ => Cert.Mem0KernelIdeal.Gen.frame m ρ, fun m ρ _ => Cert.Mem0KernelIdeal.Gen.frame m ρ,
  frame_r_mem0, fun m ρ _ => frame_r_mem0 m ρ trivial,
  trivial, value, trivial, value_hidden, trivial, value_gate, trivial, value_down, trivial, value_act,
  trivial, value_gate_up, trivial, value_down_fwd, trivial, value_sgu_in, trivial, value_attn_in, trivial, value_sgu_in_w, trivial, value_attn_in_w,
  trivial, value_sgu_in_h, trivial, value_attn_in_h, trivial, value_sgu_cat, trivial, value_attn_cat, trivial, value_sgu_out_w, trivial, value_attn_out_w,
  trivial, value_sgu_out, trivial, value_attn_out, trivial, value_sgu_fwd, named_sgu_bwd, value_sgu_bwd,
  trivial, value_norm, trivial, value_mem_norm, trivial, value_mem_kv_w, trivial, value_mem_n, trivial, value_mem_kv, trivial, value_first_norm, trivial, value_mem_first_norm, trivial, value_mem0⟩

end Cert.Proof

end
